-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_finite [hPre_steps_finite : Cert.Pre_steps_finite.Facts] (m : (ℓ : Loc Cert.KernelIdeal.nD Cert.KernelIdeal.τ Cert.KernelIdeal.sig) → Buf (Elt Ideal) ℓ) : Prop :=
  ∀ c : Dev Cert.KernelIdeal.nD,
    (Cert.Pre_steps_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_finite [hPre_steps_finite : Cert.Pre_steps_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_gates_finite [hPre_gates_finite : Cert.Pre_gates_finite.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_gates_finite.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_gates_finite [hPre_gates_finite : Cert.Pre_gates_finite.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_gates_finite.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_steps_finite [hKernelIdeal : Cert.KernelIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_steps_finite [hReferenceIdeal : Cert.ReferenceIdeal.Facts] [hPre_steps_finite : Cert.Pre_steps_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Kernel30Ideal_pre_gates_finite [hKernel30Ideal : Cert.Kernel30Ideal.Facts] [hPre_gates_finite : Cert.Pre_gates_finite.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_gates_finite m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Reference30Ideal_pre_gates_finite [hReference30Ideal : Cert.Reference30Ideal.Facts] [hPre_gates_finite : Cert.Pre_gates_finite.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_gates_finite m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def preserves_Kernel_KernelIdeal : Prop :=
  True

def algebraic_KernelIdeal_ReferenceIdeal_pre_steps_finite [hKernelIdeal : Cert.KernelIdeal.Facts] [hReferenceIdeal : Cert.ReferenceIdeal.Facts] [hPre_steps_finite : Cert.Pre_steps_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_6) = v0 c
          ∧ r.2.mem ((c.tc : Thread Cert.ReferenceIdeal.nD Cert.ReferenceIdeal.τ).loc Cert.ReferenceIdeal.main_v9_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v14) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_v12) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_v24) = v1 c
          ∧ r.2.mem ((c.tc : Thread Cert.Reference25Ideal.nD Cert.Reference25Ideal.τ).loc Cert.Reference25Ideal.main_v5) = v2 c
          ∧ r.2.mem ((c.tc : Thread Cert.Reference25Ideal.nD Cert.Reference25Ideal.τ).loc Cert.Reference25Ideal.main_v11) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg3) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_v30) = v1 c
          ∧ r.2.mem ((c.tc : Thread Cert.Reference29Ideal.nD Cert.Reference29Ideal.τ).loc Cert.Reference29Ideal.main_v11) = v2 c
          ∧ r.2.mem ((c.tc : Thread Cert.Reference29Ideal.nD Cert.Reference29Ideal.τ).loc Cert.Reference29Ideal.main_v17) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal_pre_gates_finite [hKernel30Ideal : Cert.Kernel30Ideal.Facts] [hReference30Ideal : Cert.Reference30Ideal.Facts] [hPre_gates_finite : Cert.Pre_gates_finite.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_gates_finite m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v4)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v14) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v3) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v1_0)) (v1 : (c : Dev Cert.Kernel32Ideal.nD) → Buf (Elt Ideal) ((c.tc : Thread Cert.Kernel32Ideal.nD Cert.Kernel32Ideal.τ).loc Cert.Kernel32Ideal.main_v1_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v1_0) = v0 c
          ∧ r.2.mem ((c.tc : Thread Cert.Kernel32Ideal.nD Cert.Kernel32Ideal.τ).loc Cert.Kernel32Ideal.main_v1_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v17) = v0 c
          ∧ r.2.mem ((c.tc : Thread Cert.Reference32Ideal.nD Cert.Reference32Ideal.τ).loc Cert.Reference32Ideal.main_v21) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v34) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)) →
    ∃ (v0 : (c : Dev Cert.Kernel35Ideal.nD) → Buf (Elt Ideal) ((c.tc : Thread Cert.Kernel35Ideal.nD Cert.Kernel35Ideal.τ).loc Cert.Kernel35Ideal.main_v4)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v3) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v4) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_steps_finite : Cert.Pre_steps_finite.Facts) (hPre_gates_finite : Cert.Pre_gates_finite.Facts),
    quiescent_Kernel (hKernel := hKernel)
    ∧ quiescent_KernelIdeal (hKernelIdeal := hKernelIdeal)
    ∧ quiescent_KernelIdeal_pre_steps_finite (hKernelIdeal := hKernelIdeal) (hPre_steps_finite := hPre_steps_finite)
    ∧ quiescent_ReferenceIdeal (hReferenceIdeal := hReferenceIdeal)
    ∧ quiescent_ReferenceIdeal_pre_steps_finite (hReferenceIdeal := hReferenceIdeal) (hPre_steps_finite := hPre_steps_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Kernel30Ideal_pre_gates_finite (hKernel30Ideal := hKernel30Ideal) (hPre_gates_finite := hPre_gates_finite)
    ∧ quiescent_Reference30Ideal (hReference30Ideal := hReference30Ideal)
    ∧ quiescent_Reference30Ideal_pre_gates_finite (hReference30Ideal := hReference30Ideal) (hPre_gates_finite := hPre_gates_finite)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_steps_finite (hKernelIdeal := hKernelIdeal) (hReferenceIdeal := hReferenceIdeal) (hPre_steps_finite := hPre_steps_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal_pre_gates_finite (hKernel30Ideal := hKernel30Ideal) (hReference30Ideal := hReference30Ideal) (hPre_gates_finite := hPre_gates_finite)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_gates_finite.lean ====
abbrev S2x8448x2752 : Shape := ⟨3, ![2, 8448, 2752]⟩
abbrev S2x2x8448x2752 : Shape := ⟨4, ![2, 2, 8448, 2752]⟩
abbrev S_ : Shape := ⟨0, ![]⟩
abbrev S1x2x8448x2752 : Shape := ⟨4, ![1, 2, 8448, 2752]⟩

class Facts : Prop where
  bcast_S_S2x8448x2752 : S_.BroadcastsInDim S2x8448x2752 (![] : Fin 0 → Fin S2x8448x2752.rank)
  slices_S2x2x8448x2752_S1x2x8448x2752_1_0_0_0 : S2x2x8448x2752.Slices ![1, 0, 0, 0] S1x2x8448x2752
  shapeCasts_S1x2x8448x2752_S2x8448x2752 : S1x2x8448x2752.ShapeCasts S2x8448x2752

variable [Facts]

def fn {F : FTy → Type} [FloatOps F] (main_arg0 : FVec F S2x8448x2752 .f32) (main_arg1 : FVec F S2x2x8448x2752 .f32) : IVec S2x8448x2752 1 :=
  let main_v0 : FVec F S2x8448x2752 .f32 := Host.absf main_arg0
  let main_cst : FVec F S_ .f32 := constant S_ .f32 0x7F800000#32
  let main_v1 : FVec F S2x8448x2752 .f32 := broadcastInDim S2x8448x2752 ![] bcast_S_S2x8448x2752 main_cst
  let main_v2 : IVec S2x8448x2752 1 := cmpf .olt main_v0 main_v1
  let main_v3 : FVec F S1x2x8448x2752 .f32 := (extractStridedSlice S1x2x8448x2752 ![1, 0, 0, 0] · slices_S2x2x8448x2752_S1x2x8448x2752_1_0_0_0) main_arg1
  let main_v4 : FVec F S2x8448x2752 .f32 := shapeCast S2x8448x2752 main_v3 shapeCasts_S1x2x8448x2752_S2x8448x2752
  let main_v5 : FVec F S2x8448x2752 .f32 := Host.absf main_v4
  let main_cst_0 : FVec F S_ .f32 := constant S_ .f32 0x7F800000#32
  let main_v6 : FVec F S2x8448x2752 .f32 := broadcastInDim S2x8448x2752 ![] bcast_S_S2x8448x2752 main_cst_0
  let main_v7 : IVec S2x8448x2752 1 := cmpf .olt main_v5 main_v6
  let main_v8 : IVec S2x8448x2752 1 := andi main_v2 main_v7
  main_v8
-- ==== Pre_steps_finite.lean ====
abbrev S8448x1024 : Shape := ⟨2, ![8448, 1024]⟩
abbrev S_ : Shape := ⟨0, ![]⟩

class Facts : Prop where
  bcast_S_S8448x1024 : S_.BroadcastsInDim S8448x1024 (![] : Fin 0 → Fin S8448x1024.rank)

variable [Facts]

def fn {F : FTy → Type} [FloatOps F] (main_arg0 : FVec F S8448x1024 .f32) (main_arg1 : FVec F S8448x1024 .f32) (main_arg2 : FVec F S8448x1024 .f32) : IVec S8448x1024 1 :=
  let main_cst : FVec F S_ .f32 := constant S_ .f32 0x7F800000#32
  let main_v0 : FVec F S8448x1024 .f32 := broadcastInDim S8448x1024 ![] bcast_S_S8448x1024 main_cst
  let main_v1 : IVec S8448x1024 1 := cmpf .olt main_arg0 main_v0
  let main_v2 : FVec F S8448x1024 .f32 := Host.absf main_arg1
  let main_cst_0 : FVec F S_ .f32 := constant S_ .f32 0x7F800000#32
  let main_v3 : FVec F S8448x1024 .f32 := broadcastInDim S8448x1024 ![] bcast_S_S8448x1024 main_cst_0
  let main_v4 : IVec S8448x1024 1 := cmpf .olt main_v2 main_v3
  let main_v5 : IVec S8448x1024 1 := andi main_v1 main_v4
  main_v5
-- ==== Kernel.lean ====
abbrev S8448x1024 : Shape := ⟨2, ![8448, 1024]⟩
abbrev S256x1024 : Shape := ⟨2, ![256, 1024]⟩
abbrev S1x1024 : Shape := ⟨2, ![1, 1024]⟩
abbrev S8x1024 : Shape := ⟨2, ![8, 1024]⟩
abbrev S1024 : Shape := ⟨1, ![1024]⟩

abbrev nBuf : Space → Nat
  | .hbm => 7
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_2 : BitVec 32 := 0#32
  let c32_i32 : BitVec 32 := 32#32
  let v4 : BitVec 32 := Scalar.addi c0_i32_2 c32_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg5 : BitVec 32 := Scf.iv c0_i32_2 c1_i32 k0_t1
  let c8_i32 : BitVec 32 := 8#32
  let v9 : BitVec 32 := Scalar.muli arg5 c8_i32
  v9
def k0_off1 (k0_t1 : Fin k0_t1_loop.trips) : Fin 2 → Nat :=
  let c0_i32_2 : BitVec 32 := 0#32
  let c1_i32 : BitVec 32 := 1#32
  let arg5 : BitVec 32 := Scf.iv c0_i32_2 c1_i32 k0_t1
  let c8_i32 : BitVec 32 := 8#32
  let v9 : BitVec 32 := Scalar.muli arg5 c8_i32
  let v10 : BitVec 32 := v9
  let v11 : Index := Scalar.indexCast v10
  let c0_6 : Index := 0#32
  ![v11.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![33], ![false]⟩

@[reducible] def k1_t1_loop : Scf.Loop 32 :=
  let c0_i32_2 : BitVec 32 := 0#32
  let c32_i32 : BitVec 32 := 32#32
  let v4 : BitVec 32 := Scalar.addi c0_i32_2 c32_i32
  let c1_i32 : BitVec 32 := 1#32
  ⟨c0_i32_2, v4, c1_i32⟩
def k1_mult1 (k1_t1 : Fin k1_t1_loop.trips) : BitVec 32 :=
  let c31_i32 : BitVec 32 := 31#32
  let c0_i32_2 : BitVec 32 := 0#32
  let c1_i32 : BitVec 32 := 1#32
  let arg8 : BitVec 32 := Scf.iv c0_i32_2 c1_i32 k1_t1
  let v9 : BitVec 32 := Scalar.subi c31_i32 arg8
  let c8_i32 : BitVec 32 := 8#32
  let v10 : BitVec 32 := Scalar.muli v9 c8_i32
  v10
def k1_off1 (k1_t1 : Fin k1_t1_loop.trips) : Fin 2 → Nat :=
  let c31_i32 : BitVec 32 := 31#32
  let c0_i32_2 : BitVec 32 := 0#32
  let c1_i32 : BitVec 32 := 1#32
  let arg8 : BitVec 32 := Scf.iv c0_i32_2 c1_i32 k1_t1
  let v9 : BitVec 32 := Scalar.subi c31_i32 arg8
  let c8_i32 : BitVec 32 := 8#32
  let v10 : BitVec 32 := Scalar.muli v9 c8_i32
  let v11 : BitVec 32 := v10
  let v12 : Index := Scalar.indexCast v11
  let c0_6 : Index := 0#32
  ![v12.toNat, 0]
def cc1_transform_0 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8448x1024 : Shape := ⟨2, ![8448, 1024]⟩
abbrev S_ : Shape := ⟨0, ![]⟩
abbrev S1024 : Shape := ⟨1, ![1024]⟩
abbrev S1x1024 : Shape := ⟨2, ![1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S_, .i32⟩
  | .hbm, ⟨12, _⟩ => ⟨S8448x1024, .f32⟩
  | .hbm, ⟨13, _⟩ => ⟨S8448x1024, .f32⟩
  | .hbm, ⟨14, _⟩ => ⟨S_, .i32⟩
  | .hbm, ⟨15, _⟩ => ⟨S1024, .f32⟩
  | .hbm, ⟨16, _⟩ => ⟨S8448x1024, .f32⟩
  | .hbm, ⟨17, _⟩ => ⟨S8448x1024, .f32⟩
  | .hbm, ⟨18, _⟩ => ⟨S8448x1024, .f32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S1x1024, .f32⟩
  | .hbm, ⟨23, _⟩ => ⟨S1024, .f32⟩
  | .hbm, ⟨24, _⟩ => ⟨S_, .i32⟩
  | .hbm, ⟨25, _⟩ => ⟨S1x1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S_, .i32⟩
  | .hbm, ⟨32, _⟩ => ⟨S8448x1024, .f32⟩
  | .hbm, ⟨33, _⟩ => ⟨S1x1024, .f32⟩
  | .hbm, ⟨34, _⟩ => ⟨S_, .i32⟩
  | .hbm, ⟨35, _⟩ => ⟨S8448x1024, .f32⟩
  | .hbm, ⟨36, _⟩ => ⟨S1x1024, .f32⟩
  | .hbm, ⟨37, _⟩ => ⟨S_, .i32⟩
  | .hbm, ⟨38, _⟩ => ⟨S8448x1024, .f32⟩
  | .hbm, ⟨39, _⟩ => ⟨S_, .i32⟩
  | .hbm, ⟨40, _⟩ => ⟨S_, .i32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S_, .f32⟩
  | .hbm, ⟨46, _⟩ => ⟨S8448x1024, .f32⟩
  | .hbm, ⟨47, _⟩ => ⟨S_, .f32⟩
  | .hbm, ⟨48, _⟩ => ⟨S8448x1024, .f32⟩
  | .hbm, ⟨49, _⟩ => ⟨S_, .i32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S_, .i32⟩
  | .hbm, ⟨54, _⟩ => ⟨S1024, .f32⟩
  | .hbm, ⟨55, _⟩ => ⟨S8448x1024, .f32⟩
  | .hbm, ⟨56, _⟩ => ⟨S8448x1024, .f32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x1024, .f32⟩
  | .hbm, ⟨65, _⟩ => ⟨S1024, .f32⟩
  | .hbm, ⟨66, _⟩ => ⟨S_, .i32⟩
  | .hbm, ⟨67, _⟩ => ⟨S1x1024, .f32⟩
  | .hbm, ⟨68, _⟩ => ⟨S1024, .f32⟩
  | .hbm, ⟨69, _⟩ => ⟨S_, .i32⟩
  | .hbm, ⟨70, _⟩ => ⟨S1x1024, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1x1024, .f32⟩
  | .hbm, ⟨77, _⟩ => ⟨S_, .i32⟩
  | .hbm, ⟨78, _⟩ => ⟨S8448x1024, .f32⟩
  | .hbm, ⟨79, _⟩ => ⟨S1x1024, .f32⟩
  | .hbm, ⟨80, _⟩ => ⟨S_, .i32⟩
  | .hbm, ⟨81, _⟩ => ⟨S8448x1024, .f32⟩
  | .hbm, ⟨82, _⟩ => ⟨S_, .i32⟩
  | .hbm, ⟨83, _⟩ => ⟨S_, .i32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_c : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_while0c_c_14 : Ref sig .tc := ⟨.hbm, 19, rfl⟩
abbrev main_while0c_v10 : Ref sig .tc := ⟨.hbm, 20, rfl⟩
abbrev main_while0b_call0_c : Ref sig .tc := ⟨.hbm, 21, rfl⟩
abbrev main_while0b_call0_v0 : Ref sig .tc := ⟨.hbm, 22, rfl⟩
abbrev main_while0b_v10 : Ref sig .tc := ⟨.hbm, 23, rfl⟩
abbrev main_while0b_call1_c : Ref sig .tc := ⟨.hbm, 24, rfl⟩
abbrev main_while0b_call1_v0 : Ref sig .tc := ⟨.hbm, 25, rfl⟩
abbrev main_while0b_v11 : Ref sig .tc := ⟨.hbm, 26, rfl⟩
abbrev main_while0b_v12 : Ref sig .tc := ⟨.hbm, 27, rfl⟩
abbrev main_while0b_v13 : Ref sig .tc := ⟨.hbm, 28, rfl⟩
abbrev main_while0b_v14 : Ref sig .tc := ⟨.hbm, 29, rfl⟩
abbrev main_while0b_call2_v0 : Ref sig .tc := ⟨.hbm, 30, rfl⟩
abbrev main_while0b_call2_c : Ref sig .tc := ⟨.hbm, 31, rfl⟩
abbrev main_while0b_v15 : Ref sig .tc := ⟨.hbm, 32, rfl⟩
abbrev main_while0b_call3_v0 : Ref sig .tc := ⟨.hbm, 33, rfl⟩
abbrev main_while0b_call3_c : Ref sig .tc := ⟨.hbm, 34, rfl⟩
abbrev main_while0b_v16 : Ref sig .tc := ⟨.hbm, 35, rfl⟩
abbrev main_while0b_call4_v0 : Ref sig .tc := ⟨.hbm, 36, rfl⟩
abbrev main_while0b_call4_c : Ref sig .tc := ⟨.hbm, 37, rfl⟩
abbrev main_while0b_v17 : Ref sig .tc := ⟨.hbm, 38, rfl⟩
abbrev main_while0b_c_14 : Ref sig .tc := ⟨.hbm, 39, rfl⟩
abbrev main_while0b_v18 : Ref sig .tc := ⟨.hbm, 40, rfl⟩
abbrev main_cst_3 : Ref sig .tc := ⟨.hbm, 41, rfl⟩
abbrev main_v5 : Ref sig .tc := ⟨.hbm, 42, rfl⟩
abbrev main_cst_4 : Ref sig .tc := ⟨.hbm, 43, rfl⟩
abbrev main_v6 : Ref sig .tc := ⟨.hbm, 44, rfl⟩
abbrev main_cst_5 : Ref sig .tc := ⟨.hbm, 45, rfl⟩
abbrev main_v7 : Ref sig .tc := ⟨.hbm, 46, rfl⟩
abbrev main_cst_6 : Ref sig .tc := ⟨.hbm, 47, rfl⟩
abbrev main_v8 : Ref sig .tc := ⟨.hbm, 48, rfl⟩
abbrev main_c_7 : Ref sig .tc := ⟨.hbm, 49, rfl⟩
abbrev main_v9_0 : Ref sig .tc := ⟨.hbm, 50, rfl⟩
abbrev main_v9_1 : Ref sig .tc := ⟨.hbm, 51, rfl⟩
abbrev main_v9_2 : Ref sig .tc := ⟨.hbm, 52, rfl⟩
abbrev main_v9_3 : Ref sig .tc := ⟨.hbm, 53, rfl⟩
abbrev main_v9_4 : Ref sig .tc := ⟨.hbm, 54, rfl⟩
abbrev main_v9_5 : Ref sig .tc := ⟨.hbm, 55, rfl⟩
abbrev main_v9_6 : Ref sig .tc := ⟨.hbm, 56, rfl⟩
abbrev main_while1c_c_14 : Ref sig .tc := ⟨.hbm, 57, rfl⟩
abbrev main_while1c_v10 : Ref sig .tc := ⟨.hbm, 58, rfl⟩
abbrev main_while1b_c_14 : Ref sig .tc := ⟨.hbm, 59, rfl⟩
abbrev main_while1b_v10 : Ref sig .tc := ⟨.hbm, 60, rfl⟩
abbrev main_while1b_c_15 : Ref sig .tc := ⟨.hbm, 61, rfl⟩
abbrev main_while1b_v11 : Ref sig .tc := ⟨.hbm, 62, rfl⟩
abbrev main_while1b_call5_c : Ref sig .tc := ⟨.hbm, 63, rfl⟩
abbrev main_while1b_call5_v0 : Ref sig .tc := ⟨.hbm, 64, rfl⟩
abbrev main_while1b_v12 : Ref sig .tc := ⟨.hbm, 65, rfl⟩
abbrev main_while1b_call6_c : Ref sig .tc := ⟨.hbm, 66, rfl⟩
abbrev main_while1b_call6_v0 : Ref sig .tc := ⟨.hbm, 67, rfl⟩
abbrev main_while1b_v13 : Ref sig .tc := ⟨.hbm, 68, rfl⟩
abbrev main_while1b_call7_c : Ref sig .tc := ⟨.hbm, 69, rfl⟩
abbrev main_while1b_call7_v0 : Ref sig .tc := ⟨.hbm, 70, rfl⟩
abbrev main_while1b_v14 : Ref sig .tc := ⟨.hbm, 71, rfl⟩
abbrev main_while1b_v15 : Ref sig .tc := ⟨.hbm, 72, rfl⟩
abbrev main_while1b_v16 : Ref sig .tc := ⟨.hbm, 73, rfl⟩
abbrev main_while1b_v17 : Ref sig .tc := ⟨.hbm, 74, rfl⟩
abbrev main_while1b_v18 : Ref sig .tc := ⟨.hbm, 75, rfl⟩
abbrev main_while1b_call8_v0 : Ref sig .tc := ⟨.hbm, 76, rfl⟩
abbrev main_while1b_call8_c : Ref sig .tc := ⟨.hbm, 77, rfl⟩
abbrev main_while1b_v19 : Ref sig .tc := ⟨.hbm, 78, rfl⟩
abbrev main_while1b_call9_v0 : Ref sig .tc := ⟨.hbm, 79, rfl⟩
abbrev main_while1b_call9_c : Ref sig .tc := ⟨.hbm, 80, rfl⟩
abbrev main_while1b_v20 : Ref sig .tc := ⟨.hbm, 81, rfl⟩
abbrev main_while1b_c_16 : Ref sig .tc := ⟨.hbm, 82, rfl⟩
abbrev main_while1b_v21 : Ref sig .tc := ⟨.hbm, 83, rfl⟩

abbrev nD : Nat := 1
abbrev τ : Topo := Topo.v7x

variable {F : FTy → Type} [FloatOps F]

abbrev main_while0_count : Scf.Loop 32 := ⟨0#32, 8448#32, 1#32⟩

abbrev main_while1_count : Scf.Loop 32 := ⟨0#32, 8448#32, 1#32⟩
-- ==== Kernel2.lean ====
abbrev S8448x2048 : Shape := ⟨2, ![8448, 2048]⟩
abbrev S8448x11008 : Shape := ⟨2, ![8448, 11008]⟩
abbrev S8448x4x2752 : Shape := ⟨3, ![8448, 4, 2752]⟩
abbrev S4x8448x2752 : Shape := ⟨3, ![4, 8448, 2752]⟩
abbrev S4x2048x2752 : Shape := ⟨3, ![4, 2048, 2752]⟩
abbrev S1408x512 : Shape := ⟨2, ![1408, 512]⟩
abbrev S1x1408x2752 : Shape := ⟨3, ![1, 1408, 2752]⟩
abbrev S1x512x2752 : Shape := ⟨3, ![1, 512, 2752]⟩
abbrev S512x2752 : Shape := ⟨2, ![512, 2752]⟩
abbrev S1408x2752 : Shape := ⟨2, ![1408, 2752]⟩

abbrev nBuf : Space → Nat
  | .hbm => 7
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x11008, .f32⟩
  | .hbm, ⟨2, _⟩ => ⟨S8448x2048, .bf16⟩
  | .hbm, ⟨3, _⟩ => ⟨S8448x4x2752, .f32⟩
  | .hbm, ⟨4, _⟩ => ⟨S4x8448x2752, .f32⟩
  | .hbm, ⟨5, _⟩ => ⟨S4x8448x2752, .bf16⟩
  | .hbm, ⟨6, _⟩ => ⟨S4x2048x2752, .bf16⟩
  | .local _ .vmem, ⟨0, _⟩ => ⟨S1408x512, .bf16⟩
  | .local _ .vmem, ⟨1, _⟩ => ⟨S1408x512, .bf16⟩
  | .local _ .vmem, ⟨2, _⟩ => ⟨S1x1408x2752, .bf16⟩
  | .local _ .vmem, ⟨3, _⟩ => ⟨S1x1408x2752, .bf16⟩
  | .local _ .vmem, ⟨4, _⟩ => ⟨S1x512x2752, .bf16⟩
  | .local _ .vmem, ⟨5, _⟩ => ⟨S1x512x2752, .bf16⟩
  | .local _ .vmem, ⟨6, _⟩ => ⟨S512x2752, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x2048 : Shape := ⟨2, ![8448, 2048]⟩
abbrev S8448x11008 : Shape := ⟨2, ![8448, 11008]⟩
abbrev S_ : Shape := ⟨0, ![]⟩
abbrev S2048x11008 : Shape := ⟨2, ![2048, 11008]⟩
abbrev S11008x2048 : Shape := ⟨2, ![11008, 2048]⟩
abbrev S2048x4x2752 : Shape := ⟨3, ![2048, 4, 2752]⟩
abbrev S4x2048x2752 : Shape := ⟨3, ![4, 2048, 2752]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x11008, .f32⟩
  | .hbm, ⟨2, _⟩ => ⟨S_, .f32⟩
  | .hbm, ⟨3, _⟩ => ⟨S2048x11008, .f32⟩
  | .hbm, ⟨4, _⟩ => ⟨S8448x11008, .f32⟩
  | .hbm, ⟨5, _⟩ => ⟨S11008x2048, .f32⟩
  | .hbm, ⟨6, _⟩ => ⟨S2048x11008, .f32⟩
  | .hbm, ⟨7, _⟩ => ⟨S2048x4x2752, .f32⟩
  | .hbm, ⟨8, _⟩ => ⟨S4x2048x2752, .f32⟩
  | .hbm, ⟨9, _⟩ => ⟨S4x2048x2752, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8448x11008 : Shape := ⟨2, ![8448, 11008]⟩
abbrev S2048x11008 : Shape := ⟨2, ![2048, 11008]⟩
abbrev S8448x4x2752 : Shape := ⟨3, ![8448, 4, 2752]⟩
abbrev S4x8448x2752 : Shape := ⟨3, ![4, 8448, 2752]⟩
abbrev S2048x4x2752 : Shape := ⟨3, ![2048, 4, 2752]⟩
abbrev S4x2048x2752 : Shape := ⟨3, ![4, 2048, 2752]⟩
abbrev S8448x2048 : Shape := ⟨2, ![8448, 2048]⟩
abbrev S1x1408x2752 : Shape := ⟨3, ![1, 1408, 2752]⟩
abbrev S1x512x2752 : Shape := ⟨3, ![1, 512, 2752]⟩
abbrev S1408x512 : Shape := ⟨2, ![1408, 512]⟩
abbrev S1408x2752 : Shape := ⟨2, ![1408, 2752]⟩
abbrev S512x2752 : Shape := ⟨2, ![512, 2752]⟩

abbrev nBuf : Space → Nat
  | .hbm => 9
  | .vmem => 7
  | .smem => 0
  | _ => 0

abbrev bufTy : (tb : Table) → Fin (tcTables nBuf tb) → BufTy
  | .hbm, ⟨0, _⟩ => ⟨S8448x11008, .f32⟩
  | .hbm, ⟨1, _⟩ => ⟨S2048x11008, .f32⟩
  | .hbm, ⟨2, _⟩ => ⟨S8448x4x2752, .f32⟩
  | .hbm, ⟨3, _⟩ => ⟨S4x8448x2752, .f32⟩
  | .hbm, ⟨4, _⟩ => ⟨S4x8448x2752, .bf16⟩
  | .hbm, ⟨5, _⟩ => ⟨S2048x4x2752, .f32⟩
  | .hbm, ⟨6, _⟩ => ⟨S4x2048x2752, .f32⟩
  | .hbm, ⟨7, _⟩ => ⟨S4x2048x2752, .bf16⟩
  | .hbm, ⟨8, _⟩ => ⟨S8448x2048, .f32⟩
  | .local _ .vmem, ⟨0, _⟩ => ⟨S1x1408x2752, .bf16⟩
  | .local _ .vmem, ⟨1, _⟩ => ⟨S1x1408x2752, .bf16⟩
  | .local _ .vmem, ⟨2, _⟩ => ⟨S1x512x2752, .bf16⟩
  | .local _ .vmem, ⟨3, _⟩ => ⟨S1x512x2752, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8448x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1408x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x11008 : Shape := ⟨2, ![8448, 11008]⟩
abbrev S2048x11008 : Shape := ⟨2, ![2048, 11008]⟩
abbrev S_ : Shape := ⟨0, ![]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x11008, .f32⟩
  | .hbm, ⟨1, _⟩ => ⟨S2048x11008, .f32⟩
  | .hbm, ⟨2, _⟩ => ⟨S_, .f32⟩
  | .hbm, ⟨3, _⟩ => ⟨S8448x2048, .f32⟩
  | .hbm, ⟨4, _⟩ => ⟨S8448x11008, .f32⟩
  | .hbm, ⟨5, _⟩ => ⟨S8448x2048, .f32⟩
  | _, _ => ⟨S8448x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8448x5504 : Shape := ⟨2, ![8448, 5504]⟩
abbrev S8448x2048 : Shape := ⟨2, ![8448, 2048]⟩
abbrev S8448x2x2752 : Shape := ⟨3, ![8448, 2, 2752]⟩
abbrev S2x8448x2752 : Shape := ⟨3, ![2, 8448, 2752]⟩
abbrev S2x2752x2048 : Shape := ⟨3, ![2, 2752, 2048]⟩
abbrev S1x1408x2752 : Shape := ⟨3, ![1, 1408, 2752]⟩
abbrev S1408x512 : Shape := ⟨2, ![1408, 512]⟩
abbrev S1x2752x512 : Shape := ⟨3, ![1, 2752, 512]⟩
abbrev S2752x512 : Shape := ⟨2, ![2752, 512]⟩
abbrev S1408x2752 : Shape := ⟨2, ![1408, 2752]⟩

abbrev nBuf : Space → Nat
  | .hbm => 7
  | .vmem => 7
  | .smem => 0
  | _ => 0

abbrev bufTy : (tb : Table) → Fin (tcTables nBuf tb) → BufTy
  | .hbm, ⟨0, _⟩ => ⟨S8448x5504, .f32⟩
  | .hbm, ⟨1, _⟩ => ⟨S8448x2048, .f32⟩
  | .hbm, ⟨2, _⟩ => ⟨S8448x2x2752, .f32⟩
  | .hbm, ⟨3, _⟩ => ⟨S2x8448x2752, .f32⟩
  | .hbm, ⟨4, _⟩ => ⟨S2x8448x2752, .bf16⟩
  | .hbm, ⟨5, _⟩ => ⟨S8448x2048, .bf16⟩
  | .hbm, ⟨6, _⟩ => ⟨S2x2752x2048, .bf16⟩
  | .local _ .vmem, ⟨0, _⟩ => ⟨S1x1408x2752, .bf16⟩
  | .local _ .vmem, ⟨1, _⟩ => ⟨S1x1408x2752, .bf16⟩
  | .local _ .vmem, ⟨2, _⟩ => ⟨S1408x512, .bf16⟩
  | .local _ .vmem, ⟨3, _⟩ => ⟨S1408x512, .bf16⟩
  | .local _ .vmem, ⟨4, _⟩ => ⟨S1x2752x512, .bf16⟩
  | .local _ .vmem, ⟨5, _⟩ => ⟨S1x2752x512, .bf16⟩
  | .local _ .vmem, ⟨6, _⟩ => ⟨S2752x512, .f32⟩
  | _, _ => ⟨S8448x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1408x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x5504 : Shape := ⟨2, ![8448, 5504]⟩
abbrev S8448x2048 : Shape := ⟨2, ![8448, 2048]⟩
abbrev S_ : Shape := ⟨0, ![]⟩
abbrev S5504x2048 : Shape := ⟨2, ![5504, 2048]⟩
abbrev S2048x5504 : Shape := ⟨2, ![2048, 5504]⟩
abbrev S2x2752x2048 : Shape := ⟨3, ![2, 2752, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x5504, .f32⟩
  | .hbm, ⟨1, _⟩ => ⟨S8448x2048, .f32⟩
  | .hbm, ⟨2, _⟩ => ⟨S_, .f32⟩
  | .hbm, ⟨3, _⟩ => ⟨S5504x2048, .f32⟩
  | .hbm, ⟨4, _⟩ => ⟨S8448x2048, .f32⟩
  | .hbm, ⟨5, _⟩ => ⟨S2048x5504, .f32⟩
  | .hbm, ⟨6, _⟩ => ⟨S5504x2048, .f32⟩
  | .hbm, ⟨7, _⟩ => ⟨S2x2752x2048, .f32⟩
  | .hbm, ⟨8, _⟩ => ⟨S2x2752x2048, .bf16⟩
  | _, _ => ⟨S8448x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8448x2048 : Shape := ⟨2, ![8448, 2048]⟩
abbrev S5504x2048 : Shape := ⟨2, ![5504, 2048]⟩
abbrev S2x2752x2048 : Shape := ⟨3, ![2, 2752, 2048]⟩
abbrev S2x8448x2752 : Shape := ⟨3, ![2, 8448, 2752]⟩
abbrev S768x2048 : Shape := ⟨2, ![768, 2048]⟩
abbrev S1x2752x2048 : Shape := ⟨3, ![1, 2752, 2048]⟩
abbrev S1x768x2752 : Shape := ⟨3, ![1, 768, 2752]⟩
abbrev S2752x2048 : Shape := ⟨2, ![2752, 2048]⟩
abbrev S768x2752 : Shape := ⟨2, ![768, 2752]⟩

abbrev nBuf : Space → Nat
  | .hbm => 6
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S5504x2048, .f32⟩
  | .hbm, ⟨2, _⟩ => ⟨S8448x2048, .bf16⟩
  | .hbm, ⟨3, _⟩ => ⟨S2x2752x2048, .f32⟩
  | .hbm, ⟨4, _⟩ => ⟨S2x2752x2048, .bf16⟩
  | .hbm, ⟨5, _⟩ => ⟨S2x8448x2752, .bf16⟩
  | .local _ .vmem, ⟨0, _⟩ => ⟨S768x2048, .bf16⟩
  | .local _ .vmem, ⟨1, _⟩ => ⟨S768x2048, .bf16⟩
  | .local _ .vmem, ⟨2, _⟩ => ⟨S1x2752x2048, .bf16⟩
  | .local _ .vmem, ⟨3, _⟩ => ⟨S1x768x2752, .bf16⟩
  | .local _ .vmem, ⟨4, _⟩ => ⟨S1x768x2752, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2752x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x768x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x2048 : Shape := ⟨2, ![8448, 2048]⟩
abbrev S5504x2048 : Shape := ⟨2, ![5504, 2048]⟩
abbrev S_ : Shape := ⟨0, ![]⟩
abbrev S8448x5504 : Shape := ⟨2, ![8448, 5504]⟩
abbrev S8448x2x2752 : Shape := ⟨3, ![8448, 2, 2752]⟩
abbrev S2x8448x2752 : Shape := ⟨3, ![2, 8448, 2752]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S5504x2048, .f32⟩
  | .hbm, ⟨2, _⟩ => ⟨S_, .f32⟩
  | .hbm, ⟨3, _⟩ => ⟨S8448x5504, .f32⟩
  | .hbm, ⟨4, _⟩ => ⟨S8448x2048, .f32⟩
  | .hbm, ⟨5, _⟩ => ⟨S8448x5504, .f32⟩
  | .hbm, ⟨6, _⟩ => ⟨S8448x2x2752, .f32⟩
  | .hbm, ⟨7, _⟩ => ⟨S2x8448x2752, .f32⟩
  | .hbm, ⟨8, _⟩ => ⟨S2x8448x2752, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8448x2048 : Shape := ⟨2, ![8448, 2048]⟩
abbrev S8448x12800 : Shape := ⟨2, ![8448, 12800]⟩
abbrev S4x2048x3200 : Shape := ⟨3, ![4, 2048, 3200]⟩
abbrev S1408x512 : Shape := ⟨2, ![1408, 512]⟩
abbrev S1408x3200 : Shape := ⟨2, ![1408, 3200]⟩
abbrev S1x512x3200 : Shape := ⟨3, ![1, 512, 3200]⟩
abbrev S512x3200 : Shape := ⟨2, ![512, 3200]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x12800, .f32⟩
  | .hbm, ⟨2, _⟩ => ⟨S8448x2048, .bf16⟩
  | .hbm, ⟨3, _⟩ => ⟨S8448x12800, .bf16⟩
  | .hbm, ⟨4, _⟩ => ⟨S4x2048x3200, .bf16⟩
  | .local _ .vmem, ⟨0, _⟩ => ⟨S1408x512, .bf16⟩
  | .local _ .vmem, ⟨1, _⟩ => ⟨S1408x512, .bf16⟩
  | .local _ .vmem, ⟨2, _⟩ => ⟨S1408x3200, .bf16⟩
  | .local _ .vmem, ⟨3, _⟩ => ⟨S1408x3200, .bf16⟩
  | .local _ .vmem, ⟨4, _⟩ => ⟨S1x512x3200, .bf16⟩
  | .local _ .vmem, ⟨5, _⟩ => ⟨S1x512x3200, .bf16⟩
  | .local _ .vmem, ⟨6, _⟩ => ⟨S512x3200, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8448x2048 : Shape := ⟨2, ![8448, 2048]⟩
abbrev S8448x12800 : Shape := ⟨2, ![8448, 12800]⟩
abbrev S_ : Shape := ⟨0, ![]⟩
abbrev S2048x12800 : Shape := ⟨2, ![2048, 12800]⟩
abbrev S12800x2048 : Shape := ⟨2, ![12800, 2048]⟩
abbrev S2048x4x3200 : Shape := ⟨3, ![2048, 4, 3200]⟩
abbrev S4x2048x3200 : Shape := ⟨3, ![4, 2048, 3200]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x12800, .f32⟩
  | .hbm, ⟨2, _⟩ => ⟨S_, .f32⟩
  | .hbm, ⟨3, _⟩ => ⟨S2048x12800, .f32⟩
  | .hbm, ⟨4, _⟩ => ⟨S8448x12800, .f32⟩
  | .hbm, ⟨5, _⟩ => ⟨S12800x2048, .f32⟩
  | .hbm, ⟨6, _⟩ => ⟨S2048x12800, .f32⟩
  | .hbm, ⟨7, _⟩ => ⟨S2048x4x3200, .f32⟩
  | .hbm, ⟨8, _⟩ => ⟨S4x2048x3200, .f32⟩
  | .hbm, ⟨9, _⟩ => ⟨S4x2048x3200, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8448x12800 : Shape := ⟨2, ![8448, 12800]⟩
abbrev S2048x12800 : Shape := ⟨2, ![2048, 12800]⟩
abbrev S2048x4x3200 : Shape := ⟨3, ![2048, 4, 3200]⟩
abbrev S4x2048x3200 : Shape := ⟨3, ![4, 2048, 3200]⟩
abbrev S8448x2048 : Shape := ⟨2, ![8448, 2048]⟩
abbrev S1408x3200 : Shape := ⟨2, ![1408, 3200]⟩
abbrev S1x512x3200 : Shape := ⟨3, ![1, 512, 3200]⟩
abbrev S1408x512 : Shape := ⟨2, ![1408, 512]⟩
abbrev S512x3200 : Shape := ⟨2, ![512, 3200]⟩

abbrev nBuf : Space → Nat
  | .hbm => 7
  | .vmem => 7
  | .smem => 0
  | _ => 0

abbrev bufTy : (tb : Table) → Fin (tcTables nBuf tb) → BufTy
  | .hbm, ⟨0, _⟩ => ⟨S8448x12800, .f32⟩
  | .hbm, ⟨1, _⟩ => ⟨S2048x12800, .f32⟩
  | .hbm, ⟨2, _⟩ => ⟨S8448x12800, .bf16⟩
  | .hbm, ⟨3, _⟩ => ⟨S2048x4x3200, .f32⟩
  | .hbm, ⟨4, _⟩ => ⟨S4x2048x3200, .f32⟩
  | .hbm, ⟨5, _⟩ => ⟨S4x2048x3200, .bf16⟩
  | .hbm, ⟨6, _⟩ => ⟨S8448x2048, .f32⟩
  | .local _ .vmem, ⟨0, _⟩ => ⟨S1408x3200, .bf16⟩
  | .local _ .vmem, ⟨1, _⟩ => ⟨S1408x3200, .bf16⟩
  | .local _ .vmem, ⟨2, _⟩ => ⟨S1x512x3200, .bf16⟩
  | .local _ .vmem, ⟨3, _⟩ => ⟨S1x512x3200, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8448x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8448x12800 : Shape := ⟨2, ![8448, 12800]⟩
abbrev S2048x12800 : Shape := ⟨2, ![2048, 12800]⟩
abbrev S_ : Shape := ⟨0, ![]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x12800, .f32⟩
  | .hbm, ⟨1, _⟩ => ⟨S2048x12800, .f32⟩
  | .hbm, ⟨2, _⟩ => ⟨S_, .f32⟩
  | .hbm, ⟨3, _⟩ => ⟨S8448x2048, .f32⟩
  | .hbm, ⟨4, _⟩ => ⟨S8448x12800, .f32⟩
  | .hbm, ⟨5, _⟩ => ⟨S8448x2048, .f32⟩
  | _, _ => ⟨S8448x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8448x2048 : Shape := ⟨2, ![8448, 2048]⟩
abbrev S2048x2048 : Shape := ⟨2, ![2048, 2048]⟩
abbrev S1408x512 : Shape := ⟨2, ![1408, 512]⟩
abbrev S1408x2048 : Shape := ⟨2, ![1408, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .bf16⟩
  | .hbm, ⟨3, _⟩ => ⟨S8448x2048, .bf16⟩
  | .hbm, ⟨4, _⟩ => ⟨S2048x2048, .bf16⟩
  | .local _ .vmem, ⟨0, _⟩ => ⟨S1408x512, .bf16⟩
  | .local _ .vmem, ⟨1, _⟩ => ⟨S1408x512, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x2048 : Shape := ⟨2, ![8448, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S_, .f32⟩
  | .hbm, ⟨3, _⟩ => ⟨S2048x2048, .f32⟩
  | .hbm, ⟨4, _⟩ => ⟨S8448x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8448x2048 : Shape := ⟨2, ![8448, 2048]⟩
abbrev S2048x2048 : Shape := ⟨2, ![2048, 2048]⟩
abbrev S768x2048 : Shape := ⟨2, ![768, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .bf16⟩
  | .hbm, ⟨3, _⟩ => ⟨S2048x2048, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x2048, .bf16⟩
  | .local _ .vmem, ⟨3, _⟩ => ⟨S768x2048, .f32⟩
  | .local _ .vmem, ⟨4, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x2048 : Shape := ⟨2, ![8448, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S_, .f32⟩
  | .hbm, ⟨3, _⟩ => ⟨S8448x2048, .f32⟩
  | .hbm, ⟨4, _⟩ => ⟨S8448x2048, .f32⟩
  | .hbm, ⟨5, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8448x2048 : Shape := ⟨2, ![8448, 2048]⟩
abbrev S3x1024x2048 : Shape := ⟨3, ![3, 1024, 2048]⟩
abbrev S3x1024x4x512 : Shape := ⟨4, ![3, 1024, 4, 512]⟩
abbrev S4x3x1024x512 : Shape := ⟨4, ![4, 3, 1024, 512]⟩
abbrev S8448x1024 : Shape := ⟨2, ![8448, 1024]⟩
abbrev S1408x2048 : Shape := ⟨2, ![1408, 2048]⟩
abbrev S4x1x1024x512 : Shape := ⟨4, ![4, 1, 1024, 512]⟩
abbrev S1408x1024 : Shape := ⟨2, ![1408, 1024]⟩
abbrev S1408x512 : Shape := ⟨2, ![1408, 512]⟩
abbrev S1x1x1024x512 : Shape := ⟨4, ![1, 1, 1024, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S3x1024x2048, .f32⟩
  | .hbm, ⟨2, _⟩ => ⟨S8448x2048, .bf16⟩
  | .hbm, ⟨3, _⟩ => ⟨S3x1024x4x512, .f32⟩
  | .hbm, ⟨4, _⟩ => ⟨S4x3x1024x512, .f32⟩
  | .hbm, ⟨5, _⟩ => ⟨S4x3x1024x512, .bf16⟩
  | .hbm, ⟨6, _⟩ => ⟨S8448x1024, .f32⟩
  | .local _ .vmem, ⟨0, _⟩ => ⟨S1408x2048, .bf16⟩
  | .local _ .vmem, ⟨1, _⟩ => ⟨S1408x2048, .bf16⟩
  | .local _ .vmem, ⟨2, _⟩ => ⟨S4x1x1024x512, .bf16⟩
  | .local _ .vmem, ⟨3, _⟩ => ⟨S1408x1024, .f32⟩
  | .local _ .vmem, ⟨4, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8448x2048 : Shape := ⟨2, ![8448, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S3x1024x2048, .f32⟩
  | .hbm, ⟨2, _⟩ => ⟨S1x1024x2048, .f32⟩
  | .hbm, ⟨3, _⟩ => ⟨S1024x2048, .f32⟩
  | .hbm, ⟨4, _⟩ => ⟨S_, .f32⟩
  | .hbm, ⟨5, _⟩ => ⟨S8448x1024, .f32⟩
  | .hbm, ⟨6, _⟩ => ⟨S8448x2048, .f32⟩
  | .hbm, ⟨7, _⟩ => ⟨S8448x1024, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8448x1024 : Shape := ⟨2, ![8448, 1024]⟩
abbrev S8448x2048 : Shape := ⟨2, ![8448, 2048]⟩
abbrev S4x1024x512 : Shape := ⟨3, ![4, 1024, 512]⟩
abbrev S1408x1024 : Shape := ⟨2, ![1408, 1024]⟩
abbrev S1408x2048 : Shape := ⟨2, ![1408, 2048]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S8448x1024, .bf16⟩
  | .hbm, ⟨3, _⟩ => ⟨S8448x2048, .bf16⟩
  | .hbm, ⟨4, _⟩ => ⟨S4x1024x512, .bf16⟩
  | .local _ .vmem, ⟨0, _⟩ => ⟨S1408x1024, .bf16⟩
  | .local _ .vmem, ⟨1, _⟩ => ⟨S1408x1024, .bf16⟩
  | .local _ .vmem, ⟨2, _⟩ => ⟨S1408x2048, .bf16⟩
  | .local _ .vmem, ⟨3, _⟩ => ⟨S1408x2048, .bf16⟩
  | .local _ .vmem, ⟨4, _⟩ => ⟨S4x1024x512, .bf16⟩
  | .local _ .vmem, ⟨5, _⟩ => ⟨S1024x2048, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v13 : BitVec 1 := Scalar.cmpi .eq arg0 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference11Ideal.lean ====
abbrev S8448x1024 : Shape := ⟨2, ![8448, 1024]⟩
abbrev S8448x2048 : Shape := ⟨2, ![8448, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2048, .f32⟩
  | .hbm, ⟨2, _⟩ => ⟨S_, .f32⟩
  | .hbm, ⟨3, _⟩ => ⟨S1024x2048, .f32⟩
  | .hbm, ⟨4, _⟩ => ⟨S8448x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8448x2048 : Shape := ⟨2, ![8448, 2048]⟩
abbrev S2048x11008 : Shape := ⟨2, ![2048, 11008]⟩
abbrev S2048x4x2752 : Shape := ⟨3, ![2048, 4, 2752]⟩
abbrev S4x2048x2752 : Shape := ⟨3, ![4, 2048, 2752]⟩
abbrev S4x8448x2752 : Shape := ⟨3, ![4, 8448, 2752]⟩
abbrev S768x2048 : Shape := ⟨2, ![768, 2048]⟩
abbrev S1x2048x2752 : Shape := ⟨3, ![1, 2048, 2752]⟩
abbrev S1x768x2752 : Shape := ⟨3, ![1, 768, 2752]⟩
abbrev S2048x2752 : Shape := ⟨2, ![2048, 2752]⟩
abbrev S768x2752 : Shape := ⟨2, ![768, 2752]⟩

abbrev nBuf : Space → Nat
  | .hbm => 7
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x11008, .f32⟩
  | .hbm, ⟨2, _⟩ => ⟨S8448x2048, .bf16⟩
  | .hbm, ⟨3, _⟩ => ⟨S2048x4x2752, .f32⟩
  | .hbm, ⟨4, _⟩ => ⟨S4x2048x2752, .f32⟩
  | .hbm, ⟨5, _⟩ => ⟨S4x2048x2752, .bf16⟩
  | .hbm, ⟨6, _⟩ => ⟨S4x8448x2752, .bf16⟩
  | .local _ .vmem, ⟨0, _⟩ => ⟨S768x2048, .bf16⟩
  | .local _ .vmem, ⟨1, _⟩ => ⟨S768x2048, .bf16⟩
  | .local _ .vmem, ⟨2, _⟩ => ⟨S1x2048x2752, .bf16⟩
  | .local _ .vmem, ⟨3, _⟩ => ⟨S1x768x2752, .bf16⟩
  | .local _ .vmem, ⟨4, _⟩ => ⟨S1x768x2752, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2048x2752 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x768x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x2048 : Shape := ⟨2, ![8448, 2048]⟩
abbrev S2048x11008 : Shape := ⟨2, ![2048, 11008]⟩
abbrev S8448x11008 : Shape := ⟨2, ![8448, 11008]⟩
abbrev S8448x4x2752 : Shape := ⟨3, ![8448, 4, 2752]⟩
abbrev S4x8448x2752 : Shape := ⟨3, ![4, 8448, 2752]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11008, .f32⟩
  | .hbm, ⟨2, _⟩ => ⟨S8448x11008, .f32⟩
  | .hbm, ⟨3, _⟩ => ⟨S8448x4x2752, .f32⟩
  | .hbm, ⟨4, _⟩ => ⟨S4x8448x2752, .f32⟩
  | .hbm, ⟨5, _⟩ => ⟨S4x8448x2752, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8448x2048 : Shape := ⟨2, ![8448, 2048]⟩
abbrev S2048x12800 : Shape := ⟨2, ![2048, 12800]⟩
abbrev S2048x4x3200 : Shape := ⟨3, ![2048, 4, 3200]⟩
abbrev S4x2048x3200 : Shape := ⟨3, ![4, 2048, 3200]⟩
abbrev S8448x12800 : Shape := ⟨2, ![8448, 12800]⟩
abbrev S768x2048 : Shape := ⟨2, ![768, 2048]⟩
abbrev S1x2048x3200 : Shape := ⟨3, ![1, 2048, 3200]⟩
abbrev S768x3200 : Shape := ⟨2, ![768, 3200]⟩
abbrev S2048x3200 : Shape := ⟨2, ![2048, 3200]⟩

abbrev nBuf : Space → Nat
  | .hbm => 7
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S2048x12800, .f32⟩
  | .hbm, ⟨2, _⟩ => ⟨S8448x2048, .bf16⟩
  | .hbm, ⟨3, _⟩ => ⟨S2048x4x3200, .f32⟩
  | .hbm, ⟨4, _⟩ => ⟨S4x2048x3200, .f32⟩
  | .hbm, ⟨5, _⟩ => ⟨S4x2048x3200, .bf16⟩
  | .hbm, ⟨6, _⟩ => ⟨S8448x12800, .bf16⟩
  | .local _ .vmem, ⟨0, _⟩ => ⟨S768x2048, .bf16⟩
  | .local _ .vmem, ⟨1, _⟩ => ⟨S768x2048, .bf16⟩
  | .local _ .vmem, ⟨2, _⟩ => ⟨S1x2048x3200, .bf16⟩
  | .local _ .vmem, ⟨3, _⟩ => ⟨S768x3200, .bf16⟩
  | .local _ .vmem, ⟨4, _⟩ => ⟨S768x3200, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2048x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S768x3200 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x2048 : Shape := ⟨2, ![8448, 2048]⟩
abbrev S2048x12800 : Shape := ⟨2, ![2048, 12800]⟩
abbrev S8448x12800 : Shape := ⟨2, ![8448, 12800]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x12800, .f32⟩
  | .hbm, ⟨2, _⟩ => ⟨S8448x12800, .f32⟩
  | .hbm, ⟨3, _⟩ => ⟨S8448x12800, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel14.lean ====
abbrev S8448x5504 : Shape := ⟨2, ![8448, 5504]⟩
abbrev S5504x2048 : Shape := ⟨2, ![5504, 2048]⟩
abbrev S8448x2048 : Shape := ⟨2, ![8448, 2048]⟩
abbrev S2x9x1x2048 : Shape := ⟨4, ![2, 9, 1, 2048]⟩
abbrev S8448x2x2752 : Shape := ⟨3, ![8448, 2, 2752]⟩
abbrev S2x8448x2752 : Shape := ⟨3, ![2, 8448, 2752]⟩
abbrev S2x2752x2048 : Shape := ⟨3, ![2, 2752, 2048]⟩
abbrev S1x768x2752 : Shape := ⟨3, ![1, 768, 2752]⟩
abbrev S1x2752x1024 : Shape := ⟨3, ![1, 2752, 1024]⟩
abbrev S768x1024 : Shape := ⟨2, ![768, 1024]⟩
abbrev S2x9x1x1024 : Shape := ⟨4, ![2, 9, 1, 1024]⟩
abbrev S768x2752 : Shape := ⟨2, ![768, 2752]⟩
abbrev S2752x1024 : Shape := ⟨2, ![2752, 1024]⟩
abbrev S1x1x1x1024 : Shape := ⟨4, ![1, 1, 1, 1024]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S8448x5504, .f32⟩
  | .hbm, ⟨1, _⟩ => ⟨S5504x2048, .f32⟩
  | .hbm, ⟨2, _⟩ => ⟨S8448x2048, .f32⟩
  | .hbm, ⟨3, _⟩ => ⟨S2x9x1x2048, .f32⟩
  | .hbm, ⟨4, _⟩ => ⟨S8448x2x2752, .f32⟩
  | .hbm, ⟨5, _⟩ => ⟨S2x8448x2752, .f32⟩
  | .hbm, ⟨6, _⟩ => ⟨S2x8448x2752, .bf16⟩
  | .hbm, ⟨7, _⟩ => ⟨S2x2752x2048, .f32⟩
  | .hbm, ⟨8, _⟩ => ⟨S2x2752x2048, .bf16⟩
  | .hbm, ⟨9, _⟩ => ⟨S8448x2048, .f32⟩
  | .hbm, ⟨10, _⟩ => ⟨S8448x2048, .bf16⟩
  | .local _ .vmem, ⟨0, _⟩ => ⟨S1x768x2752, .bf16⟩
  | .local _ .vmem, ⟨1, _⟩ => ⟨S1x768x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S768x1024, .f32⟩
  | .local _ .vmem, ⟨5, _⟩ => ⟨S768x1024, .f32⟩
  | .local _ .vmem, ⟨6, _⟩ => ⟨S2x9x1x1024, .f32⟩
  | .local _ .vmem, ⟨7, _⟩ => ⟨S2x9x1x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .bf16⟩
  | .local _ .vmem, ⟨11, _⟩ => ⟨S768x1024, .bf16⟩
  | .local _ .vmem, ⟨12, _⟩ => ⟨S768x1024, .f32⟩
  | _, _ => ⟨S8448x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x768x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x9x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S8448x5504 : Shape := ⟨2, ![8448, 5504]⟩
abbrev S5504x2048 : Shape := ⟨2, ![5504, 2048]⟩
abbrev S8448x2048 : Shape := ⟨2, ![8448, 2048]⟩
abbrev S2x9x1x2048 : Shape := ⟨4, ![2, 9, 1, 2048]⟩
abbrev S1x1x1x2048 : Shape := ⟨4, ![1, 1, 1, 2048]⟩
abbrev S1x2048 : Shape := ⟨2, ![1, 2048]⟩
abbrev S8448 : Shape := ⟨1, ![8448]⟩
abbrev S8448x1 : Shape := ⟨2, ![8448, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8448x5504, .f32⟩
  | .hbm, ⟨1, _⟩ => ⟨S5504x2048, .f32⟩
  | .hbm, ⟨2, _⟩ => ⟨S8448x2048, .f32⟩
  | .hbm, ⟨3, _⟩ => ⟨S2x9x1x2048, .f32⟩
  | .hbm, ⟨4, _⟩ => ⟨S1x1x1x2048, .f32⟩
  | .hbm, ⟨5, _⟩ => ⟨S1x2048, .f32⟩
  | .hbm, ⟨6, _⟩ => ⟨S1x1x1x2048, .f32⟩
  | .hbm, ⟨7, _⟩ => ⟨S1x2048, .f32⟩
  | .hbm, ⟨8, _⟩ => ⟨S8448, .i32⟩
  | .hbm, ⟨9, _⟩ => ⟨S8448x1, .i32⟩
  | .hbm, ⟨10, _⟩ => ⟨S_, .i32⟩
  | .hbm, ⟨11, _⟩ => ⟨S8448x1, .i32⟩
  | .hbm, ⟨12, _⟩ => ⟨S8448x1, .i1⟩
  | .hbm, ⟨13, _⟩ => ⟨S8448x2048, .i1⟩
  | .hbm, ⟨14, _⟩ => ⟨S8448x2048, .f32⟩
  | .hbm, ⟨15, _⟩ => ⟨S8448x2048, .f32⟩
  | .hbm, ⟨16, _⟩ => ⟨S8448x2048, .f32⟩
  | .hbm, ⟨17, _⟩ => ⟨S_, .f32⟩
  | .hbm, ⟨18, _⟩ => ⟨S8448x2048, .f32⟩
  | .hbm, ⟨19, _⟩ => ⟨S8448x2048, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S8448x2048, .bf16⟩
  | _, _ => ⟨S8448x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel15.lean ====
abbrev S8448x2048 : Shape := ⟨2, ![8448, 2048]⟩
abbrev S2048x2048 : Shape := ⟨2, ![2048, 2048]⟩
abbrev S2x9x1x2048 : Shape := ⟨4, ![2, 9, 1, 2048]⟩
abbrev S768x2048 : Shape := ⟨2, ![768, 2048]⟩
abbrev S2048x1024 : Shape := ⟨2, ![2048, 1024]⟩
abbrev S768x1024 : Shape := ⟨2, ![768, 1024]⟩
abbrev S2x9x1x1024 : Shape := ⟨4, ![2, 9, 1, 1024]⟩
abbrev S1x1x1x1024 : Shape := ⟨4, ![1, 1, 1, 1024]⟩
abbrev S1x1024 : Shape := ⟨2, ![1, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2x9x1x2048, .f32⟩
  | .hbm, ⟨4, _⟩ => ⟨S8448x2048, .bf16⟩
  | .hbm, ⟨5, _⟩ => ⟨S2048x2048, .bf16⟩
  | .hbm, ⟨6, _⟩ => ⟨S8448x2048, .f32⟩
  | .hbm, ⟨7, _⟩ => ⟨S8448x2048, .bf16⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S2x9x1x1024, .f32⟩
  | .local _ .vmem, ⟨7, _⟩ => ⟨S2x9x1x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .bf16⟩
  | .local _ .vmem, ⟨11, _⟩ => ⟨S768x1024, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x9x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S8448x2048 : Shape := ⟨2, ![8448, 2048]⟩
abbrev S2048x2048 : Shape := ⟨2, ![2048, 2048]⟩
abbrev S2x9x1x2048 : Shape := ⟨4, ![2, 9, 1, 2048]⟩
abbrev S1x1x1x2048 : Shape := ⟨4, ![1, 1, 1, 2048]⟩
abbrev S1x2048 : Shape := ⟨2, ![1, 2048]⟩
abbrev S8448 : Shape := ⟨1, ![8448]⟩
abbrev S8448x1 : Shape := ⟨2, ![8448, 1]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2x9x1x2048, .f32⟩
  | .hbm, ⟨4, _⟩ => ⟨S1x1x1x2048, .f32⟩
  | .hbm, ⟨5, _⟩ => ⟨S1x2048, .f32⟩
  | .hbm, ⟨6, _⟩ => ⟨S1x1x1x2048, .f32⟩
  | .hbm, ⟨7, _⟩ => ⟨S1x2048, .f32⟩
  | .hbm, ⟨8, _⟩ => ⟨S8448, .i32⟩
  | .hbm, ⟨9, _⟩ => ⟨S8448x1, .i32⟩
  | .hbm, ⟨10, _⟩ => ⟨S_, .i32⟩
  | .hbm, ⟨11, _⟩ => ⟨S8448x1, .i32⟩
  | .hbm, ⟨12, _⟩ => ⟨S8448x1, .i1⟩
  | .hbm, ⟨13, _⟩ => ⟨S8448x2048, .i1⟩
  | .hbm, ⟨14, _⟩ => ⟨S8448x2048, .f32⟩
  | .hbm, ⟨15, _⟩ => ⟨S8448x2048, .f32⟩
  | .hbm, ⟨16, _⟩ => ⟨S8448x2048, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel16.lean ====
abbrev S8448x1024 : Shape := ⟨2, ![8448, 1024]⟩
abbrev S3x1024x2048 : Shape := ⟨3, ![3, 1024, 2048]⟩
abbrev S3x1024x4x512 : Shape := ⟨4, ![3, 1024, 4, 512]⟩
abbrev S4x3x1024x512 : Shape := ⟨4, ![4, 3, 1024, 512]⟩
abbrev S8448x2048 : Shape := ⟨2, ![8448, 2048]⟩
abbrev S1408x1024 : Shape := ⟨2, ![1408, 1024]⟩
abbrev S4x1x1024x512 : Shape := ⟨4, ![4, 1, 1024, 512]⟩
abbrev S1408x2048 : Shape := ⟨2, ![1408, 2048]⟩
abbrev S1x1x1024x512 : Shape := ⟨4, ![1, 1, 1024, 512]⟩
abbrev S1024x512 : Shape := ⟨2, ![1024, 512]⟩
abbrev S1408x512 : Shape := ⟨2, ![1408, 512]⟩

abbrev nBuf : Space → Nat
  | .hbm => 7
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S3x1024x2048, .f32⟩
  | .hbm, ⟨2, _⟩ => ⟨S8448x1024, .bf16⟩
  | .hbm, ⟨3, _⟩ => ⟨S3x1024x4x512, .f32⟩
  | .hbm, ⟨4, _⟩ => ⟨S4x3x1024x512, .f32⟩
  | .hbm, ⟨5, _⟩ => ⟨S4x3x1024x512, .bf16⟩
  | .hbm, ⟨6, _⟩ => ⟨S8448x2048, .bf16⟩
  | .local _ .vmem, ⟨0, _⟩ => ⟨S1408x1024, .bf16⟩
  | .local _ .vmem, ⟨1, _⟩ => ⟨S1408x1024, .bf16⟩
  | .local _ .vmem, ⟨2, _⟩ => ⟨S4x1x1024x512, .bf16⟩
  | .local _ .vmem, ⟨3, _⟩ => ⟨S1408x2048, .bf16⟩
  | .local _ .vmem, ⟨4, _⟩ => ⟨S1408x2048, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S8448x1024 : Shape := ⟨2, ![8448, 1024]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S3x1024x2048, .f32⟩
  | .hbm, ⟨2, _⟩ => ⟨S1x1024x2048, .f32⟩
  | .hbm, ⟨3, _⟩ => ⟨S1024x2048, .f32⟩
  | .hbm, ⟨4, _⟩ => ⟨S8448x2048, .f32⟩
  | .hbm, ⟨5, _⟩ => ⟨S8448x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8448x2048 : Shape := ⟨2, ![8448, 2048]⟩
abbrev S3x1024x2048 : Shape := ⟨3, ![3, 1024, 2048]⟩
abbrev S3x1024x4x512 : Shape := ⟨4, ![3, 1024, 4, 512]⟩
abbrev S4x3x1024x512 : Shape := ⟨4, ![4, 3, 1024, 512]⟩
abbrev S8448x1024 : Shape := ⟨2, ![8448, 1024]⟩
abbrev S1408x2048 : Shape := ⟨2, ![1408, 2048]⟩
abbrev S4x1x1024x512 : Shape := ⟨4, ![4, 1, 1024, 512]⟩
abbrev S1408x1024 : Shape := ⟨2, ![1408, 1024]⟩
abbrev S1408x512 : Shape := ⟨2, ![1408, 512]⟩
abbrev S1x1x1024x512 : Shape := ⟨4, ![1, 1, 1024, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S3x1024x2048, .f32⟩
  | .hbm, ⟨2, _⟩ => ⟨S8448x2048, .bf16⟩
  | .hbm, ⟨3, _⟩ => ⟨S3x1024x4x512, .f32⟩
  | .hbm, ⟨4, _⟩ => ⟨S4x3x1024x512, .f32⟩
  | .hbm, ⟨5, _⟩ => ⟨S4x3x1024x512, .bf16⟩
  | .hbm, ⟨6, _⟩ => ⟨S8448x1024, .f32⟩
  | .local _ .vmem, ⟨0, _⟩ => ⟨S1408x2048, .bf16⟩
  | .local _ .vmem, ⟨1, _⟩ => ⟨S1408x2048, .bf16⟩
  | .local _ .vmem, ⟨2, _⟩ => ⟨S4x1x1024x512, .bf16⟩
  | .local _ .vmem, ⟨3, _⟩ => ⟨S1408x1024, .f32⟩
  | .local _ .vmem, ⟨4, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference17Ideal.lean ====
abbrev S8448x2048 : Shape := ⟨2, ![8448, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S3x1024x2048, .f32⟩
  | .hbm, ⟨2, _⟩ => ⟨S1x1024x2048, .f32⟩
  | .hbm, ⟨3, _⟩ => ⟨S1024x2048, .f32⟩
  | .hbm, ⟨4, _⟩ => ⟨S_, .f32⟩
  | .hbm, ⟨5, _⟩ => ⟨S8448x1024, .f32⟩
  | .hbm, ⟨6, _⟩ => ⟨S8448x2048, .f32⟩
  | .hbm, ⟨7, _⟩ => ⟨S8448x1024, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S8448x2048 : Shape := ⟨2, ![8448, 2048]⟩
abbrev S3x1024x2048 : Shape := ⟨3, ![3, 1024, 2048]⟩
abbrev S3x1024x4x512 : Shape := ⟨4, ![3, 1024, 4, 512]⟩
abbrev S4x3x1024x512 : Shape := ⟨4, ![4, 3, 1024, 512]⟩
abbrev S8448x1024 : Shape := ⟨2, ![8448, 1024]⟩
abbrev S1408x2048 : Shape := ⟨2, ![1408, 2048]⟩
abbrev S4x1x1024x512 : Shape := ⟨4, ![4, 1, 1024, 512]⟩
abbrev S1408x1024 : Shape := ⟨2, ![1408, 1024]⟩
abbrev S1408x512 : Shape := ⟨2, ![1408, 512]⟩
abbrev S1x1x1024x512 : Shape := ⟨4, ![1, 1, 1024, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S8448x2048, .f32⟩
  | .hbm, ⟨1, _⟩ => ⟨S3x1024x2048, .f32⟩
  | .hbm, ⟨2, _⟩ => ⟨S8448x2048, .bf16⟩
  | .hbm, ⟨3, _⟩ => ⟨S3x1024x4x512, .f32⟩
  | .hbm, ⟨4, _⟩ => ⟨S4x3x1024x512, .f32⟩
  | .hbm, ⟨5, _⟩ => ⟨S4x3x1024x512, .bf16⟩
  | .hbm, ⟨6, _⟩ => ⟨S8448x1024, .f32⟩
  | .local _ .vmem, ⟨0, _⟩ => ⟨S1408x2048, .bf16⟩
  | .local _ .vmem, ⟨1, _⟩ => ⟨S1408x2048, .bf16⟩
  | .local _ .vmem, ⟨2, _⟩ => ⟨S4x1x1024x512, .bf16⟩
  | .local _ .vmem, ⟨3, _⟩ => ⟨S1408x1024, .f32⟩
  | .local _ .vmem, ⟨4, _⟩ => ⟨S1408x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S8448x2048 : Shape := ⟨2, ![8448, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S3x1024x2048, .f32⟩
  | .hbm, ⟨2, _⟩ => ⟨S1x1024x2048, .f32⟩
  | .hbm, ⟨3, _⟩ => ⟨S1024x2048, .f32⟩
  | .hbm, ⟨4, _⟩ => ⟨S_, .f32⟩
  | .hbm, ⟨5, _⟩ => ⟨S8448x1024, .f32⟩
  | .hbm, ⟨6, _⟩ => ⟨S8448x2048, .f32⟩
  | .hbm, ⟨7, _⟩ => ⟨S8448x1024, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8448x1024 : Shape := ⟨2, ![8448, 1024]⟩
abbrev S3x1024x2048 : Shape := ⟨3, ![3, 1024, 2048]⟩
abbrev S3x1024x4x512 : Shape := ⟨4, ![3, 1024, 4, 512]⟩
abbrev S4x3x1024x512 : Shape := ⟨4, ![4, 3, 1024, 512]⟩
abbrev S8448x2048 : Shape := ⟨2, ![8448, 2048]⟩
abbrev S1408x1024 : Shape := ⟨2, ![1408, 1024]⟩
abbrev S4x1x1024x512 : Shape := ⟨4, ![4, 1, 1024, 512]⟩
abbrev S1408x2048 : Shape := ⟨2, ![1408, 2048]⟩
abbrev S1x1x1024x512 : Shape := ⟨4, ![1, 1, 1024, 512]⟩
abbrev S1024x512 : Shape := ⟨2, ![1024, 512]⟩
abbrev S1408x512 : Shape := ⟨2, ![1408, 512]⟩

abbrev nBuf : Space → Nat
  | .hbm => 7
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S3x1024x2048, .f32⟩
  | .hbm, ⟨2, _⟩ => ⟨S8448x1024, .bf16⟩
  | .hbm, ⟨3, _⟩ => ⟨S3x1024x4x512, .f32⟩
  | .hbm, ⟨4, _⟩ => ⟨S4x3x1024x512, .f32⟩
  | .hbm, ⟨5, _⟩ => ⟨S4x3x1024x512, .bf16⟩
  | .hbm, ⟨6, _⟩ => ⟨S8448x2048, .bf16⟩
  | .local _ .vmem, ⟨0, _⟩ => ⟨S1408x1024, .bf16⟩
  | .local _ .vmem, ⟨1, _⟩ => ⟨S1408x1024, .bf16⟩
  | .local _ .vmem, ⟨2, _⟩ => ⟨S4x1x1024x512, .bf16⟩
  | .local _ .vmem, ⟨3, _⟩ => ⟨S1408x2048, .bf16⟩
  | .local _ .vmem, ⟨4, _⟩ => ⟨S1408x2048, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S8448x1024 : Shape := ⟨2, ![8448, 1024]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S3x1024x2048, .f32⟩
  | .hbm, ⟨2, _⟩ => ⟨S1x1024x2048, .f32⟩
  | .hbm, ⟨3, _⟩ => ⟨S1024x2048, .f32⟩
  | .hbm, ⟨4, _⟩ => ⟨S8448x2048, .f32⟩
  | .hbm, ⟨5, _⟩ => ⟨S8448x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8448x1024 : Shape := ⟨2, ![8448, 1024]⟩
abbrev S3x1024x2048 : Shape := ⟨3, ![3, 1024, 2048]⟩
abbrev S3x1024x4x512 : Shape := ⟨4, ![3, 1024, 4, 512]⟩
abbrev S4x3x1024x512 : Shape := ⟨4, ![4, 3, 1024, 512]⟩
abbrev S8448x2048 : Shape := ⟨2, ![8448, 2048]⟩
abbrev S1408x1024 : Shape := ⟨2, ![1408, 1024]⟩
abbrev S4x1x1024x512 : Shape := ⟨4, ![4, 1, 1024, 512]⟩
abbrev S1408x2048 : Shape := ⟨2, ![1408, 2048]⟩
abbrev S1x1x1024x512 : Shape := ⟨4, ![1, 1, 1024, 512]⟩
abbrev S1024x512 : Shape := ⟨2, ![1024, 512]⟩
abbrev S1408x512 : Shape := ⟨2, ![1408, 512]⟩

abbrev nBuf : Space → Nat
  | .hbm => 7
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S3x1024x2048, .f32⟩
  | .hbm, ⟨2, _⟩ => ⟨S8448x1024, .bf16⟩
  | .hbm, ⟨3, _⟩ => ⟨S3x1024x4x512, .f32⟩
  | .hbm, ⟨4, _⟩ => ⟨S4x3x1024x512, .f32⟩
  | .hbm, ⟨5, _⟩ => ⟨S4x3x1024x512, .bf16⟩
  | .hbm, ⟨6, _⟩ => ⟨S8448x2048, .bf16⟩
  | .local _ .vmem, ⟨0, _⟩ => ⟨S1408x1024, .bf16⟩
  | .local _ .vmem, ⟨1, _⟩ => ⟨S1408x1024, .bf16⟩
  | .local _ .vmem, ⟨2, _⟩ => ⟨S4x1x1024x512, .bf16⟩
  | .local _ .vmem, ⟨3, _⟩ => ⟨S1408x2048, .bf16⟩
  | .local _ .vmem, ⟨4, _⟩ => ⟨S1408x2048, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8448x1024 : Shape := ⟨2, ![8448, 1024]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S8448x2048 : Shape := ⟨2, ![8448, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S3x1024x2048, .f32⟩
  | .hbm, ⟨2, _⟩ => ⟨S1x1024x2048, .f32⟩
  | .hbm, ⟨3, _⟩ => ⟨S1024x2048, .f32⟩
  | .hbm, ⟨4, _⟩ => ⟨S8448x2048, .f32⟩
  | .hbm, ⟨5, _⟩ => ⟨S8448x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S4096x2752 : Shape := ⟨2, ![4096, 2752]⟩
abbrev S32x2752 : Shape := ⟨2, ![32, 2752]⟩

abbrev nBuf : Space → Nat
  | .hbm => 9
  | .vmem => 18
  | .smem => 0
  | _ => 0

abbrev bufTy : (tb : Table) → Fin (tcTables nBuf tb) → BufTy
  | .hbm, ⟨0, _⟩ => ⟨S4096x2752, .f32⟩
  | .hbm, ⟨1, _⟩ => ⟨S4096x2752, .f32⟩
  | .hbm, ⟨2, _⟩ => ⟨S4096x2752, .f32⟩
  | .hbm, ⟨3, _⟩ => ⟨S4096x2752, .f32⟩
  | .hbm, ⟨4, _⟩ => ⟨S4096x2752, .f32⟩
  | .hbm, ⟨5, _⟩ => ⟨S4096x2752, .f32⟩
  | .hbm, ⟨6, _⟩ => ⟨S4096x2752, .f32⟩
  | .hbm, ⟨7, _⟩ => ⟨S4096x2752, .f32⟩
  | .hbm, ⟨8, _⟩ => ⟨S4096x2752, .f32⟩
  | .local _ .vmem, ⟨0, _⟩ => ⟨S32x2752, .f32⟩
  | .local _ .vmem, ⟨1, _⟩ => ⟨S32x2752, .f32⟩
  | .local _ .vmem, ⟨2, _⟩ => ⟨S32x2752, .f32⟩
  | .local _ .vmem, ⟨3, _⟩ => ⟨S32x2752, .f32⟩
  | .local _ .vmem, ⟨4, _⟩ => ⟨S32x2752, .f32⟩
  | .local _ .vmem, ⟨5, _⟩ => ⟨S32x2752, .f32⟩
  | .local _ .vmem, ⟨6, _⟩ => ⟨S32x2752, .f32⟩
  | .local _ .vmem, ⟨7, _⟩ => ⟨S32x2752, .f32⟩
  | .local _ .vmem, ⟨8, _⟩ => ⟨S32x2752, .f32⟩
  | .local _ .vmem, ⟨9, _⟩ => ⟨S32x2752, .f32⟩
  | .local _ .vmem, ⟨10, _⟩ => ⟨S32x2752, .f32⟩
  | .local _ .vmem, ⟨11, _⟩ => ⟨S32x2752, .f32⟩
  | .local _ .vmem, ⟨12, _⟩ => ⟨S32x2752, .f32⟩
  | .local _ .vmem, ⟨13, _⟩ => ⟨S32x2752, .f32⟩
  | .local _ .vmem, ⟨14, _⟩ => ⟨S32x2752, .f32⟩
  | .local _ .vmem, ⟨15, _⟩ => ⟨S32x2752, .f32⟩
  | .local _ .vmem, ⟨16, _⟩ => ⟨S32x2752, .f32⟩
  | .local _ .vmem, ⟨17, _⟩ => ⟨S32x2752, .f32⟩
  | _, _ => ⟨S4096x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2752 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2752 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2752 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S4096x2752 : Shape := ⟨2, ![4096, 2752]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2752, .f32⟩
  | .hbm, ⟨1, _⟩ => ⟨S4096x2752, .f32⟩
  | .hbm, ⟨2, _⟩ => ⟨S4096x2752, .f32⟩
  | .hbm, ⟨3, _⟩ => ⟨S4096x2752, .f32⟩
  | .hbm, ⟨4, _⟩ => ⟨S4096x2752, .f32⟩
  | .hbm, ⟨5, _⟩ => ⟨S4096x2752, .f32⟩
  | .hbm, ⟨6, _⟩ => ⟨S_, .f32⟩
  | .hbm, ⟨7, _⟩ => ⟨S4096x2752, .f32⟩
  | .hbm, ⟨8, _⟩ => ⟨S4096x2752, .f32⟩
  | .hbm, ⟨9, _⟩ => ⟨S_, .f32⟩
  | .hbm, ⟨10, _⟩ => ⟨S4096x2752, .f32⟩
  | .hbm, ⟨11, _⟩ => ⟨S4096x2752, .f32⟩
  | .hbm, ⟨12, _⟩ => ⟨S4096x2752, .f32⟩
  | .hbm, ⟨13, _⟩ => ⟨S_, .f32⟩
  | .hbm, ⟨14, _⟩ => ⟨S4096x2752, .f32⟩
  | .hbm, ⟨15, _⟩ => ⟨S4096x2752, .f32⟩
  | .hbm, ⟨16, _⟩ => ⟨S4096x2752, .f32⟩
  | .hbm, ⟨17, _⟩ => ⟨S_, .f32⟩
  | .hbm, ⟨18, _⟩ => ⟨S4096x2752, .f32⟩
  | .hbm, ⟨19, _⟩ => ⟨S4096x2752, .f32⟩
  | .hbm, ⟨20, _⟩ => ⟨S4096x2752, .f32⟩
  | .hbm, ⟨21, _⟩ => ⟨S_, .f32⟩
  | .hbm, ⟨22, _⟩ => ⟨S4096x2752, .f32⟩
  | .hbm, ⟨23, _⟩ => ⟨S4096x2752, .f32⟩
  | .hbm, ⟨24, _⟩ => ⟨S_, .f32⟩
  | .hbm, ⟨25, _⟩ => ⟨S4096x2752, .f32⟩
  | .hbm, ⟨26, _⟩ => ⟨S4096x2752, .f32⟩
  | .hbm, ⟨27, _⟩ => ⟨S4096x2752, .f32⟩
  | .hbm, ⟨28, _⟩ => ⟨S_, .f32⟩
  | .hbm, ⟨29, _⟩ => ⟨S4096x2752, .f32⟩
  | .hbm, ⟨30, _⟩ => ⟨S4096x2752, .f32⟩
  | .hbm, ⟨31, _⟩ => ⟨S4096x2752, .f32⟩
  | .hbm, ⟨32, _⟩ => ⟨S_, .f32⟩
  | .hbm, ⟨33, _⟩ => ⟨S4096x2752, .f32⟩
  | .hbm, ⟨34, _⟩ => ⟨S4096x2752, .f32⟩
  | .hbm, ⟨35, _⟩ => ⟨S4096x2752, .f32⟩
  | .hbm, ⟨36, _⟩ => ⟨S_, .f32⟩
  | .hbm, ⟨37, _⟩ => ⟨S4096x2752, .f32⟩
  | .hbm, ⟨38, _⟩ => ⟨S4096x2752, .f32⟩
  | _, _ => ⟨S4096x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S2752x2048 : Shape := ⟨2, ![2752, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2752x2048, .f32⟩
  | .hbm, ⟨1, _⟩ => ⟨S2752x2048, .f32⟩
  | .hbm, ⟨2, _⟩ => ⟨S2752x2048, .f32⟩
  | .hbm, ⟨3, _⟩ => ⟨S2752x2048, .f32⟩
  | .hbm, ⟨4, _⟩ => ⟨S2752x2048, .f32⟩
  | .hbm, ⟨5, _⟩ => ⟨S2752x2048, .f32⟩
  | .hbm, ⟨6, _⟩ => ⟨S2752x2048, .f32⟩
  | .hbm, ⟨7, _⟩ => ⟨S2752x2048, .f32⟩
  | .hbm, ⟨8, _⟩ => ⟨S2752x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S2752x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S2752x2048 : Shape := ⟨2, ![2752, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2752x2048, .f32⟩
  | .hbm, ⟨1, _⟩ => ⟨S2752x2048, .f32⟩
  | .hbm, ⟨2, _⟩ => ⟨S2752x2048, .f32⟩
  | .hbm, ⟨3, _⟩ => ⟨S2752x2048, .f32⟩
  | .hbm, ⟨4, _⟩ => ⟨S2752x2048, .f32⟩
  | .hbm, ⟨5, _⟩ => ⟨S2752x2048, .f32⟩
  | .hbm, ⟨6, _⟩ => ⟨S_, .f32⟩
  | .hbm, ⟨7, _⟩ => ⟨S2752x2048, .f32⟩
  | .hbm, ⟨8, _⟩ => ⟨S2752x2048, .f32⟩
  | .hbm, ⟨9, _⟩ => ⟨S_, .f32⟩
  | .hbm, ⟨10, _⟩ => ⟨S2752x2048, .f32⟩
  | .hbm, ⟨11, _⟩ => ⟨S2752x2048, .f32⟩
  | .hbm, ⟨12, _⟩ => ⟨S2752x2048, .f32⟩
  | .hbm, ⟨13, _⟩ => ⟨S_, .f32⟩
  | .hbm, ⟨14, _⟩ => ⟨S2752x2048, .f32⟩
  | .hbm, ⟨15, _⟩ => ⟨S2752x2048, .f32⟩
  | .hbm, ⟨16, _⟩ => ⟨S2752x2048, .f32⟩
  | .hbm, ⟨17, _⟩ => ⟨S_, .f32⟩
  | .hbm, ⟨18, _⟩ => ⟨S2752x2048, .f32⟩
  | .hbm, ⟨19, _⟩ => ⟨S2752x2048, .f32⟩
  | .hbm, ⟨20, _⟩ => ⟨S2752x2048, .f32⟩
  | .hbm, ⟨21, _⟩ => ⟨S_, .f32⟩
  | .hbm, ⟨22, _⟩ => ⟨S2752x2048, .f32⟩
  | .hbm, ⟨23, _⟩ => ⟨S2752x2048, .f32⟩
  | .hbm, ⟨24, _⟩ => ⟨S_, .f32⟩
  | .hbm, ⟨25, _⟩ => ⟨S2752x2048, .f32⟩
  | .hbm, ⟨26, _⟩ => ⟨S2752x2048, .f32⟩
  | .hbm, ⟨27, _⟩ => ⟨S2752x2048, .f32⟩
  | .hbm, ⟨28, _⟩ => ⟨S_, .f32⟩
  | .hbm, ⟨29, _⟩ => ⟨S2752x2048, .f32⟩
  | .hbm, ⟨30, _⟩ => ⟨S2752x2048, .f32⟩
  | .hbm, ⟨31, _⟩ => ⟨S2752x2048, .f32⟩
  | .hbm, ⟨32, _⟩ => ⟨S_, .f32⟩
  | .hbm, ⟨33, _⟩ => ⟨S2752x2048, .f32⟩
  | .hbm, ⟨34, _⟩ => ⟨S2752x2048, .f32⟩
  | .hbm, ⟨35, _⟩ => ⟨S2752x2048, .f32⟩
  | .hbm, ⟨36, _⟩ => ⟨S_, .f32⟩
  | .hbm, ⟨37, _⟩ => ⟨S2752x2048, .f32⟩
  | .hbm, ⟨38, _⟩ => ⟨S2752x2048, .f32⟩
  | _, _ => ⟨S2752x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S1024x2048 : Shape := ⟨2, ![1024, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S1024x2048 : Shape := ⟨2, ![1024, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S_, .f32⟩
  | .hbm, ⟨7, _⟩ => ⟨S1024x2048, .f32⟩
  | .hbm, ⟨8, _⟩ => ⟨S1024x2048, .f32⟩
  | .hbm, ⟨9, _⟩ => ⟨S_, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S_, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S_, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S_, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S_, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S6144x512 : Shape := ⟨2, ![6144, 512]⟩
abbrev S256x512 : Shape := ⟨2, ![256, 512]⟩

abbrev nBuf : Space → Nat
  | .hbm => 9
  | .vmem => 18
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S6144x512, .f32⟩
  | .hbm, ⟨3, _⟩ => ⟨S6144x512, .f32⟩
  | .hbm, ⟨4, _⟩ => ⟨S6144x512, .f32⟩
  | .hbm, ⟨5, _⟩ => ⟨S6144x512, .f32⟩
  | .hbm, ⟨6, _⟩ => ⟨S6144x512, .f32⟩
  | .hbm, ⟨7, _⟩ => ⟨S6144x512, .f32⟩
  | .hbm, ⟨8, _⟩ => ⟨S6144x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S6144x512 : Shape := ⟨2, ![6144, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S6144x512, .f32⟩
  | .hbm, ⟨1, _⟩ => ⟨S6144x512, .f32⟩
  | .hbm, ⟨2, _⟩ => ⟨S6144x512, .f32⟩
  | .hbm, ⟨3, _⟩ => ⟨S6144x512, .f32⟩
  | .hbm, ⟨4, _⟩ => ⟨S6144x512, .f32⟩
  | .hbm, ⟨5, _⟩ => ⟨S6144x512, .f32⟩
  | .hbm, ⟨6, _⟩ => ⟨S_, .f32⟩
  | .hbm, ⟨7, _⟩ => ⟨S6144x512, .f32⟩
  | .hbm, ⟨8, _⟩ => ⟨S6144x512, .f32⟩
  | .hbm, ⟨9, _⟩ => ⟨S_, .f32⟩
  | .hbm, ⟨10, _⟩ => ⟨S6144x512, .f32⟩
  | .hbm, ⟨11, _⟩ => ⟨S6144x512, .f32⟩
  | .hbm, ⟨12, _⟩ => ⟨S6144x512, .f32⟩
  | .hbm, ⟨13, _⟩ => ⟨S_, .f32⟩
  | .hbm, ⟨14, _⟩ => ⟨S6144x512, .f32⟩
  | .hbm, ⟨15, _⟩ => ⟨S6144x512, .f32⟩
  | .hbm, ⟨16, _⟩ => ⟨S6144x512, .f32⟩
  | .hbm, ⟨17, _⟩ => ⟨S_, .f32⟩
  | .hbm, ⟨18, _⟩ => ⟨S6144x512, .f32⟩
  | .hbm, ⟨19, _⟩ => ⟨S6144x512, .f32⟩
  | .hbm, ⟨20, _⟩ => ⟨S6144x512, .f32⟩
  | .hbm, ⟨21, _⟩ => ⟨S_, .f32⟩
  | .hbm, ⟨22, _⟩ => ⟨S6144x512, .f32⟩
  | .hbm, ⟨23, _⟩ => ⟨S6144x512, .f32⟩
  | .hbm, ⟨24, _⟩ => ⟨S_, .f32⟩
  | .hbm, ⟨25, _⟩ => ⟨S6144x512, .f32⟩
  | .hbm, ⟨26, _⟩ => ⟨S6144x512, .f32⟩
  | .hbm, ⟨27, _⟩ => ⟨S6144x512, .f32⟩
  | .hbm, ⟨28, _⟩ => ⟨S_, .f32⟩
  | .hbm, ⟨29, _⟩ => ⟨S6144x512, .f32⟩
  | .hbm, ⟨30, _⟩ => ⟨S6144x512, .f32⟩
  | .hbm, ⟨31, _⟩ => ⟨S6144x512, .f32⟩
  | .hbm, ⟨32, _⟩ => ⟨S_, .f32⟩
  | .hbm, ⟨33, _⟩ => ⟨S6144x512, .f32⟩
  | .hbm, ⟨34, _⟩ => ⟨S6144x512, .f32⟩
  | .hbm, ⟨35, _⟩ => ⟨S6144x512, .f32⟩
  | .hbm, ⟨36, _⟩ => ⟨S_, .f32⟩
  | .hbm, ⟨37, _⟩ => ⟨S6144x512, .f32⟩
  | .hbm, ⟨38, _⟩ => ⟨S6144x512, .f32⟩
  | _, _ => ⟨S6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S4096x3200 : Shape := ⟨2, ![4096, 3200]⟩
abbrev S32x3200 : Shape := ⟨2, ![32, 3200]⟩

abbrev nBuf : Space → Nat
  | .hbm => 9
  | .vmem => 18
  | .smem => 0
  | _ => 0

abbrev bufTy : (tb : Table) → Fin (tcTables nBuf tb) → BufTy
  | .hbm, ⟨0, _⟩ => ⟨S4096x3200, .f32⟩
  | .hbm, ⟨1, _⟩ => ⟨S4096x3200, .f32⟩
  | .hbm, ⟨2, _⟩ => ⟨S4096x3200, .f32⟩
  | .hbm, ⟨3, _⟩ => ⟨S4096x3200, .f32⟩
  | .hbm, ⟨4, _⟩ => ⟨S4096x3200, .f32⟩
  | .hbm, ⟨5, _⟩ => ⟨S4096x3200, .f32⟩
  | .hbm, ⟨6, _⟩ => ⟨S4096x3200, .f32⟩
  | .hbm, ⟨7, _⟩ => ⟨S4096x3200, .f32⟩
  | .hbm, ⟨8, _⟩ => ⟨S4096x3200, .f32⟩
  | .local _ .vmem, ⟨0, _⟩ => ⟨S32x3200, .f32⟩
  | .local _ .vmem, ⟨1, _⟩ => ⟨S32x3200, .f32⟩
  | .local _ .vmem, ⟨2, _⟩ => ⟨S32x3200, .f32⟩
  | .local _ .vmem, ⟨3, _⟩ => ⟨S32x3200, .f32⟩
  | .local _ .vmem, ⟨4, _⟩ => ⟨S32x3200, .f32⟩
  | .local _ .vmem, ⟨5, _⟩ => ⟨S32x3200, .f32⟩
  | .local _ .vmem, ⟨6, _⟩ => ⟨S32x3200, .f32⟩
  | .local _ .vmem, ⟨7, _⟩ => ⟨S32x3200, .f32⟩
  | .local _ .vmem, ⟨8, _⟩ => ⟨S32x3200, .f32⟩
  | .local _ .vmem, ⟨9, _⟩ => ⟨S32x3200, .f32⟩
  | .local _ .vmem, ⟨10, _⟩ => ⟨S32x3200, .f32⟩
  | .local _ .vmem, ⟨11, _⟩ => ⟨S32x3200, .f32⟩
  | .local _ .vmem, ⟨12, _⟩ => ⟨S32x3200, .f32⟩
  | .local _ .vmem, ⟨13, _⟩ => ⟨S32x3200, .f32⟩
  | .local _ .vmem, ⟨14, _⟩ => ⟨S32x3200, .f32⟩
  | .local _ .vmem, ⟨15, _⟩ => ⟨S32x3200, .f32⟩
  | .local _ .vmem, ⟨16, _⟩ => ⟨S32x3200, .f32⟩
  | .local _ .vmem, ⟨17, _⟩ => ⟨S32x3200, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x3200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x3200 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x3200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference25Ideal.lean ====
abbrev S4096x3200 : Shape := ⟨2, ![4096, 3200]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S4096x3200, .f32⟩
  | .hbm, ⟨2, _⟩ => ⟨S4096x3200, .f32⟩
  | .hbm, ⟨3, _⟩ => ⟨S4096x3200, .f32⟩
  | .hbm, ⟨4, _⟩ => ⟨S4096x3200, .f32⟩
  | .hbm, ⟨5, _⟩ => ⟨S4096x3200, .f32⟩
  | .hbm, ⟨6, _⟩ => ⟨S_, .f32⟩
  | .hbm, ⟨7, _⟩ => ⟨S4096x3200, .f32⟩
  | .hbm, ⟨8, _⟩ => ⟨S4096x3200, .f32⟩
  | .hbm, ⟨9, _⟩ => ⟨S_, .f32⟩
  | .hbm, ⟨10, _⟩ => ⟨S4096x3200, .f32⟩
  | .hbm, ⟨11, _⟩ => ⟨S4096x3200, .f32⟩
  | .hbm, ⟨12, _⟩ => ⟨S4096x3200, .f32⟩
  | .hbm, ⟨13, _⟩ => ⟨S_, .f32⟩
  | .hbm, ⟨14, _⟩ => ⟨S4096x3200, .f32⟩
  | .hbm, ⟨15, _⟩ => ⟨S4096x3200, .f32⟩
  | .hbm, ⟨16, _⟩ => ⟨S4096x3200, .f32⟩
  | .hbm, ⟨17, _⟩ => ⟨S_, .f32⟩
  | .hbm, ⟨18, _⟩ => ⟨S4096x3200, .f32⟩
  | .hbm, ⟨19, _⟩ => ⟨S4096x3200, .f32⟩
  | .hbm, ⟨20, _⟩ => ⟨S4096x3200, .f32⟩
  | .hbm, ⟨21, _⟩ => ⟨S_, .f32⟩
  | .hbm, ⟨22, _⟩ => ⟨S4096x3200, .f32⟩
  | .hbm, ⟨23, _⟩ => ⟨S4096x3200, .f32⟩
  | .hbm, ⟨24, _⟩ => ⟨S_, .f32⟩
  | .hbm, ⟨25, _⟩ => ⟨S4096x3200, .f32⟩
  | .hbm, ⟨26, _⟩ => ⟨S4096x3200, .f32⟩
  | .hbm, ⟨27, _⟩ => ⟨S4096x3200, .f32⟩
  | .hbm, ⟨28, _⟩ => ⟨S_, .f32⟩
  | .hbm, ⟨29, _⟩ => ⟨S4096x3200, .f32⟩
  | .hbm, ⟨30, _⟩ => ⟨S4096x3200, .f32⟩
  | .hbm, ⟨31, _⟩ => ⟨S4096x3200, .f32⟩
  | .hbm, ⟨32, _⟩ => ⟨S_, .f32⟩
  | .hbm, ⟨33, _⟩ => ⟨S4096x3200, .f32⟩
  | .hbm, ⟨34, _⟩ => ⟨S4096x3200, .f32⟩
  | .hbm, ⟨35, _⟩ => ⟨S4096x3200, .f32⟩
  | .hbm, ⟨36, _⟩ => ⟨S_, .f32⟩
  | .hbm, ⟨37, _⟩ => ⟨S4096x3200, .f32⟩
  | .hbm, ⟨38, _⟩ => ⟨S4096x3200, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel26.lean ====
abbrev S2752x2048 : Shape := ⟨2, ![2752, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2752x2048, .f32⟩
  | .hbm, ⟨1, _⟩ => ⟨S2752x2048, .f32⟩
  | .hbm, ⟨2, _⟩ => ⟨S2752x2048, .f32⟩
  | .hbm, ⟨3, _⟩ => ⟨S2752x2048, .f32⟩
  | .hbm, ⟨4, _⟩ => ⟨S2752x2048, .f32⟩
  | .hbm, ⟨5, _⟩ => ⟨S2752x2048, .f32⟩
  | .hbm, ⟨6, _⟩ => ⟨S2752x2048, .f32⟩
  | .hbm, ⟨7, _⟩ => ⟨S2752x2048, .f32⟩
  | .hbm, ⟨8, _⟩ => ⟨S2752x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | _, _ => ⟨S2752x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference26Ideal.lean ====
abbrev S2752x2048 : Shape := ⟨2, ![2752, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2752x2048, .f32⟩
  | .hbm, ⟨1, _⟩ => ⟨S2752x2048, .f32⟩
  | .hbm, ⟨2, _⟩ => ⟨S2752x2048, .f32⟩
  | .hbm, ⟨3, _⟩ => ⟨S2752x2048, .f32⟩
  | .hbm, ⟨4, _⟩ => ⟨S2752x2048, .f32⟩
  | .hbm, ⟨5, _⟩ => ⟨S2752x2048, .f32⟩
  | .hbm, ⟨6, _⟩ => ⟨S_, .f32⟩
  | .hbm, ⟨7, _⟩ => ⟨S2752x2048, .f32⟩
  | .hbm, ⟨8, _⟩ => ⟨S2752x2048, .f32⟩
  | .hbm, ⟨9, _⟩ => ⟨S_, .f32⟩
  | .hbm, ⟨10, _⟩ => ⟨S2752x2048, .f32⟩
  | .hbm, ⟨11, _⟩ => ⟨S2752x2048, .f32⟩
  | .hbm, ⟨12, _⟩ => ⟨S2752x2048, .f32⟩
  | .hbm, ⟨13, _⟩ => ⟨S_, .f32⟩
  | .hbm, ⟨14, _⟩ => ⟨S2752x2048, .f32⟩
  | .hbm, ⟨15, _⟩ => ⟨S2752x2048, .f32⟩
  | .hbm, ⟨16, _⟩ => ⟨S2752x2048, .f32⟩
  | .hbm, ⟨17, _⟩ => ⟨S_, .f32⟩
  | .hbm, ⟨18, _⟩ => ⟨S2752x2048, .f32⟩
  | .hbm, ⟨19, _⟩ => ⟨S2752x2048, .f32⟩
  | .hbm, ⟨20, _⟩ => ⟨S2752x2048, .f32⟩
  | .hbm, ⟨21, _⟩ => ⟨S_, .f32⟩
  | .hbm, ⟨22, _⟩ => ⟨S2752x2048, .f32⟩
  | .hbm, ⟨23, _⟩ => ⟨S2752x2048, .f32⟩
  | .hbm, ⟨24, _⟩ => ⟨S_, .f32⟩
  | .hbm, ⟨25, _⟩ => ⟨S2752x2048, .f32⟩
  | .hbm, ⟨26, _⟩ => ⟨S2752x2048, .f32⟩
  | .hbm, ⟨27, _⟩ => ⟨S2752x2048, .f32⟩
  | .hbm, ⟨28, _⟩ => ⟨S_, .f32⟩
  | .hbm, ⟨29, _⟩ => ⟨S2752x2048, .f32⟩
  | .hbm, ⟨30, _⟩ => ⟨S2752x2048, .f32⟩
  | .hbm, ⟨31, _⟩ => ⟨S2752x2048, .f32⟩
  | .hbm, ⟨32, _⟩ => ⟨S_, .f32⟩
  | .hbm, ⟨33, _⟩ => ⟨S2752x2048, .f32⟩
  | .hbm, ⟨34, _⟩ => ⟨S2752x2048, .f32⟩
  | .hbm, ⟨35, _⟩ => ⟨S2752x2048, .f32⟩
  | .hbm, ⟨36, _⟩ => ⟨S_, .f32⟩
  | .hbm, ⟨37, _⟩ => ⟨S2752x2048, .f32⟩
  | .hbm, ⟨38, _⟩ => ⟨S2752x2048, .f32⟩
  | _, _ => ⟨S2752x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S4096x2752 : Shape := ⟨2, ![4096, 2752]⟩
abbrev S32x2752 : Shape := ⟨2, ![32, 2752]⟩

abbrev nBuf : Space → Nat
  | .hbm => 9
  | .vmem => 18
  | .smem => 0
  | _ => 0

abbrev bufTy : (tb : Table) → Fin (tcTables nBuf tb) → BufTy
  | .hbm, ⟨0, _⟩ => ⟨S4096x2752, .f32⟩
  | .hbm, ⟨1, _⟩ => ⟨S4096x2752, .f32⟩
  | .hbm, ⟨2, _⟩ => ⟨S4096x2752, .f32⟩
  | .hbm, ⟨3, _⟩ => ⟨S4096x2752, .f32⟩
  | .hbm, ⟨4, _⟩ => ⟨S4096x2752, .f32⟩
  | .hbm, ⟨5, _⟩ => ⟨S4096x2752, .f32⟩
  | .hbm, ⟨6, _⟩ => ⟨S4096x2752, .f32⟩
  | .hbm, ⟨7, _⟩ => ⟨S4096x2752, .f32⟩
  | .hbm, ⟨8, _⟩ => ⟨S4096x2752, .f32⟩
  | .local _ .vmem, ⟨0, _⟩ => ⟨S32x2752, .f32⟩
  | .local _ .vmem, ⟨1, _⟩ => ⟨S32x2752, .f32⟩
  | .local _ .vmem, ⟨2, _⟩ => ⟨S32x2752, .f32⟩
  | .local _ .vmem, ⟨3, _⟩ => ⟨S32x2752, .f32⟩
  | .local _ .vmem, ⟨4, _⟩ => ⟨S32x2752, .f32⟩
  | .local _ .vmem, ⟨5, _⟩ => ⟨S32x2752, .f32⟩
  | .local _ .vmem, ⟨6, _⟩ => ⟨S32x2752, .f32⟩
  | .local _ .vmem, ⟨7, _⟩ => ⟨S32x2752, .f32⟩
  | .local _ .vmem, ⟨8, _⟩ => ⟨S32x2752, .f32⟩
  | .local _ .vmem, ⟨9, _⟩ => ⟨S32x2752, .f32⟩
  | .local _ .vmem, ⟨10, _⟩ => ⟨S32x2752, .f32⟩
  | .local _ .vmem, ⟨11, _⟩ => ⟨S32x2752, .f32⟩
  | .local _ .vmem, ⟨12, _⟩ => ⟨S32x2752, .f32⟩
  | .local _ .vmem, ⟨13, _⟩ => ⟨S32x2752, .f32⟩
  | .local _ .vmem, ⟨14, _⟩ => ⟨S32x2752, .f32⟩
  | .local _ .vmem, ⟨15, _⟩ => ⟨S32x2752, .f32⟩
  | .local _ .vmem, ⟨16, _⟩ => ⟨S32x2752, .f32⟩
  | .local _ .vmem, ⟨17, _⟩ => ⟨S32x2752, .f32⟩
  | _, _ => ⟨S4096x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2752 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2752 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2752 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2752 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference27Ideal.lean ====
abbrev S4096x2752 : Shape := ⟨2, ![4096, 2752]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2752, .f32⟩
  | .hbm, ⟨1, _⟩ => ⟨S4096x2752, .f32⟩
  | .hbm, ⟨2, _⟩ => ⟨S4096x2752, .f32⟩
  | .hbm, ⟨3, _⟩ => ⟨S4096x2752, .f32⟩
  | .hbm, ⟨4, _⟩ => ⟨S4096x2752, .f32⟩
  | .hbm, ⟨5, _⟩ => ⟨S4096x2752, .f32⟩
  | .hbm, ⟨6, _⟩ => ⟨S_, .f32⟩
  | .hbm, ⟨7, _⟩ => ⟨S4096x2752, .f32⟩
  | .hbm, ⟨8, _⟩ => ⟨S4096x2752, .f32⟩
  | .hbm, ⟨9, _⟩ => ⟨S_, .f32⟩
  | .hbm, ⟨10, _⟩ => ⟨S4096x2752, .f32⟩
  | .hbm, ⟨11, _⟩ => ⟨S4096x2752, .f32⟩
  | .hbm, ⟨12, _⟩ => ⟨S4096x2752, .f32⟩
  | .hbm, ⟨13, _⟩ => ⟨S_, .f32⟩
  | .hbm, ⟨14, _⟩ => ⟨S4096x2752, .f32⟩
  | .hbm, ⟨15, _⟩ => ⟨S4096x2752, .f32⟩
  | .hbm, ⟨16, _⟩ => ⟨S4096x2752, .f32⟩
  | .hbm, ⟨17, _⟩ => ⟨S_, .f32⟩
  | .hbm, ⟨18, _⟩ => ⟨S4096x2752, .f32⟩
  | .hbm, ⟨19, _⟩ => ⟨S4096x2752, .f32⟩
  | .hbm, ⟨20, _⟩ => ⟨S4096x2752, .f32⟩
  | .hbm, ⟨21, _⟩ => ⟨S_, .f32⟩
  | .hbm, ⟨22, _⟩ => ⟨S4096x2752, .f32⟩
  | .hbm, ⟨23, _⟩ => ⟨S4096x2752, .f32⟩
  | .hbm, ⟨24, _⟩ => ⟨S_, .f32⟩
  | .hbm, ⟨25, _⟩ => ⟨S4096x2752, .f32⟩
  | .hbm, ⟨26, _⟩ => ⟨S4096x2752, .f32⟩
  | .hbm, ⟨27, _⟩ => ⟨S4096x2752, .f32⟩
  | .hbm, ⟨28, _⟩ => ⟨S_, .f32⟩
  | .hbm, ⟨29, _⟩ => ⟨S4096x2752, .f32⟩
  | .hbm, ⟨30, _⟩ => ⟨S4096x2752, .f32⟩
  | .hbm, ⟨31, _⟩ => ⟨S4096x2752, .f32⟩
  | .hbm, ⟨32, _⟩ => ⟨S_, .f32⟩
  | .hbm, ⟨33, _⟩ => ⟨S4096x2752, .f32⟩
  | .hbm, ⟨34, _⟩ => ⟨S4096x2752, .f32⟩
  | .hbm, ⟨35, _⟩ => ⟨S4096x2752, .f32⟩
  | .hbm, ⟨36, _⟩ => ⟨S_, .f32⟩
  | .hbm, ⟨37, _⟩ => ⟨S4096x2752, .f32⟩
  | .hbm, ⟨38, _⟩ => ⟨S4096x2752, .f32⟩
  | _, _ => ⟨S4096x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S9216x128 : Shape := ⟨2, ![9216, 128]⟩
abbrev S1024x128 : Shape := ⟨2, ![1024, 128]⟩

abbrev nBuf : Space → Nat
  | .hbm => 8
  | .vmem => 16
  | .smem => 0
  | _ => 0

abbrev bufTy : (tb : Table) → Fin (tcTables nBuf tb) → BufTy
  | .hbm, ⟨0, _⟩ => ⟨S9216x128, .f32⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S9216x128, .f32⟩
  | .hbm, ⟨5, _⟩ => ⟨S9216x128, .f32⟩
  | .hbm, ⟨6, _⟩ => ⟨S9216x128, .f32⟩
  | .hbm, ⟨7, _⟩ => ⟨S9216x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S9216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S9216x128 : Shape := ⟨2, ![9216, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S9216x128, .f32⟩
  | .hbm, ⟨1, _⟩ => ⟨S9216x128, .f32⟩
  | .hbm, ⟨2, _⟩ => ⟨S9216x128, .f32⟩
  | .hbm, ⟨3, _⟩ => ⟨S9216x128, .f32⟩
  | .hbm, ⟨4, _⟩ => ⟨S_, .f32⟩
  | .hbm, ⟨5, _⟩ => ⟨S9216x128, .f32⟩
  | .hbm, ⟨6, _⟩ => ⟨S9216x128, .f32⟩
  | .hbm, ⟨7, _⟩ => ⟨S_, .f32⟩
  | .hbm, ⟨8, _⟩ => ⟨S9216x128, .f32⟩
  | .hbm, ⟨9, _⟩ => ⟨S9216x128, .f32⟩
  | .hbm, ⟨10, _⟩ => ⟨S9216x128, .f32⟩
  | .hbm, ⟨11, _⟩ => ⟨S_, .f32⟩
  | .hbm, ⟨12, _⟩ => ⟨S9216x128, .f32⟩
  | .hbm, ⟨13, _⟩ => ⟨S9216x128, .f32⟩
  | .hbm, ⟨14, _⟩ => ⟨S9216x128, .f32⟩
  | .hbm, ⟨15, _⟩ => ⟨S_, .f32⟩
  | .hbm, ⟨16, _⟩ => ⟨S9216x128, .f32⟩
  | .hbm, ⟨17, _⟩ => ⟨S9216x128, .f32⟩
  | .hbm, ⟨18, _⟩ => ⟨S9216x128, .f32⟩
  | .hbm, ⟨19, _⟩ => ⟨S_, .f32⟩
  | .hbm, ⟨20, _⟩ => ⟨S9216x128, .f32⟩
  | .hbm, ⟨21, _⟩ => ⟨S9216x128, .f32⟩
  | .hbm, ⟨22, _⟩ => ⟨S_, .f32⟩
  | .hbm, ⟨23, _⟩ => ⟨S9216x128, .f32⟩
  | .hbm, ⟨24, _⟩ => ⟨S9216x128, .f32⟩
  | .hbm, ⟨25, _⟩ => ⟨S9216x128, .f32⟩
  | .hbm, ⟨26, _⟩ => ⟨S_, .f32⟩
  | .hbm, ⟨27, _⟩ => ⟨S9216x128, .f32⟩
  | .hbm, ⟨28, _⟩ => ⟨S9216x128, .f32⟩
  | .hbm, ⟨29, _⟩ => ⟨S9216x128, .f32⟩
  | .hbm, ⟨30, _⟩ => ⟨S_, .f32⟩
  | .hbm, ⟨31, _⟩ => ⟨S9216x128, .f32⟩
  | .hbm, ⟨32, _⟩ => ⟨S9216x128, .f32⟩
  | .hbm, ⟨33, _⟩ => ⟨S9216x128, .f32⟩
  | .hbm, ⟨34, _⟩ => ⟨S_, .f32⟩
  | .hbm, ⟨35, _⟩ => ⟨S9216x128, .f32⟩
  | .hbm, ⟨36, _⟩ => ⟨S9216x128, .f32⟩
  | _, _ => ⟨S9216x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S16x2048 : Shape := ⟨2, ![16, 2048]⟩
abbrev S2x16x4608 : Shape := ⟨3, ![2, 16, 4608]⟩
abbrev S2x2048x4608 : Shape := ⟨3, ![2, 2048, 4608]⟩
abbrev S16x128 : Shape := ⟨2, ![16, 128]⟩
abbrev S1x16x1536 : Shape := ⟨3, ![1, 16, 1536]⟩
abbrev S1x128x1536 : Shape := ⟨3, ![1, 128, 1536]⟩
abbrev S16x1536 : Shape := ⟨2, ![16, 1536]⟩
abbrev S128x1536 : Shape := ⟨2, ![128, 1536]⟩

abbrev nBuf : Space → Nat
  | .hbm => 9
  | .vmem => 18
  | .smem => 0
  | _ => 0

abbrev bufTy : (tb : Table) → Fin (tcTables nBuf tb) → BufTy
  | .hbm, ⟨0, _⟩ => ⟨S16x2048, .f32⟩
  | .hbm, ⟨1, _⟩ => ⟨S2x16x4608, .f32⟩
  | .hbm, ⟨2, _⟩ => ⟨S2x2048x4608, .f32⟩
  | .hbm, ⟨3, _⟩ => ⟨S2x2048x4608, .f32⟩
  | .hbm, ⟨4, _⟩ => ⟨S2x2048x4608, .f32⟩
  | .hbm, ⟨5, _⟩ => ⟨S2x2048x4608, .f32⟩
  | .hbm, ⟨6, _⟩ => ⟨S2x2048x4608, .f32⟩
  | .hbm, ⟨7, _⟩ => ⟨S2x2048x4608, .f32⟩
  | .hbm, ⟨8, _⟩ => ⟨S2x2048x4608, .f32⟩
  | .local _ .vmem, ⟨0, _⟩ => ⟨S16x128, .f32⟩
  | .local _ .vmem, ⟨1, _⟩ => ⟨S16x128, .f32⟩
  | .local _ .vmem, ⟨2, _⟩ => ⟨S1x16x1536, .f32⟩
  | .local _ .vmem, ⟨3, _⟩ => ⟨S1x16x1536, .f32⟩
  | .local _ .vmem, ⟨4, _⟩ => ⟨S1x128x1536, .f32⟩
  | .local _ .vmem, ⟨5, _⟩ => ⟨S1x128x1536, .f32⟩
  | .local _ .vmem, ⟨6, _⟩ => ⟨S1x128x1536, .f32⟩
  | .local _ .vmem, ⟨7, _⟩ => ⟨S1x128x1536, .f32⟩
  | .local _ .vmem, ⟨8, _⟩ => ⟨S1x128x1536, .f32⟩
  | .local _ .vmem, ⟨9, _⟩ => ⟨S1x128x1536, .f32⟩
  | .local _ .vmem, ⟨10, _⟩ => ⟨S1x128x1536, .f32⟩
  | .local _ .vmem, ⟨11, _⟩ => ⟨S1x128x1536, .f32⟩
  | .local _ .vmem, ⟨12, _⟩ => ⟨S1x128x1536, .f32⟩
  | .local _ .vmem, ⟨13, _⟩ => ⟨S1x128x1536, .f32⟩
  | .local _ .vmem, ⟨14, _⟩ => ⟨S1x128x1536, .f32⟩
  | .local _ .vmem, ⟨15, _⟩ => ⟨S1x128x1536, .f32⟩
  | .local _ .vmem, ⟨16, _⟩ => ⟨S1x128x1536, .f32⟩
  | .local _ .vmem, ⟨17, _⟩ => ⟨S1x128x1536, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 16, 3], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference29Ideal.lean ====
abbrev S16x2048 : Shape := ⟨2, ![16, 2048]⟩
abbrev S2x16x4608 : Shape := ⟨3, ![2, 16, 4608]⟩
abbrev S2x2048x4608 : Shape := ⟨3, ![2, 2048, 4608]⟩
abbrev S_ : Shape := ⟨0, ![]⟩
abbrev S16x2x4608 : Shape := ⟨3, ![16, 2, 4608]⟩
abbrev S2x4608x2048 : Shape := ⟨3, ![2, 4608, 2048]⟩

abbrev nBuf : Space → Nat
  | .hbm => 54
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x16x4608, .f32⟩
  | .hbm, ⟨2, _⟩ => ⟨S2x2048x4608, .f32⟩
  | .hbm, ⟨3, _⟩ => ⟨S2x2048x4608, .f32⟩
  | .hbm, ⟨4, _⟩ => ⟨S2x2048x4608, .f32⟩
  | .hbm, ⟨5, _⟩ => ⟨S_, .f32⟩
  | .hbm, ⟨6, _⟩ => ⟨S2x2048x4608, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x2x4608, .f32⟩
  | .hbm, ⟨17, _⟩ => ⟨S2x16x4608, .f32⟩
  | .hbm, ⟨18, _⟩ => ⟨S16x2x4608, .f32⟩
  | .hbm, ⟨19, _⟩ => ⟨S2x4608x2048, .f32⟩
  | .hbm, ⟨20, _⟩ => ⟨S2x2048x4608, .f32⟩
  | .hbm, ⟨21, _⟩ => ⟨S_, .f32⟩
  | .hbm, ⟨22, _⟩ => ⟨S2x2048x4608, .f32⟩
  | .hbm, ⟨23, _⟩ => ⟨S2x2048x4608, .f32⟩
  | .hbm, ⟨24, _⟩ => ⟨S_, .f32⟩
  | .hbm, ⟨25, _⟩ => ⟨S2x2048x4608, .f32⟩
  | .hbm, ⟨26, _⟩ => ⟨S2x2048x4608, .f32⟩
  | .hbm, ⟨27, _⟩ => ⟨S2x2048x4608, .f32⟩
  | .hbm, ⟨28, _⟩ => ⟨S_, .f32⟩
  | .hbm, ⟨29, _⟩ => ⟨S2x2048x4608, .f32⟩
  | .hbm, ⟨30, _⟩ => ⟨S2x2048x4608, .f32⟩
  | .hbm, ⟨31, _⟩ => ⟨S2x2048x4608, .f32⟩
  | .hbm, ⟨32, _⟩ => ⟨S_, .f32⟩
  | .hbm, ⟨33, _⟩ => ⟨S2x2048x4608, .f32⟩
  | .hbm, ⟨34, _⟩ => ⟨S2x2048x4608, .f32⟩
  | .hbm, ⟨35, _⟩ => ⟨S2x2048x4608, .f32⟩
  | .hbm, ⟨36, _⟩ => ⟨S_, .f32⟩
  | .hbm, ⟨37, _⟩ => ⟨S2x2048x4608, .f32⟩
  | .hbm, ⟨38, _⟩ => ⟨S2x2048x4608, .f32⟩
  | .hbm, ⟨39, _⟩ => ⟨S_, .f32⟩
  | .hbm, ⟨40, _⟩ => ⟨S2x2048x4608, .f32⟩
  | .hbm, ⟨41, _⟩ => ⟨S2x2048x4608, .f32⟩
  | .hbm, ⟨42, _⟩ => ⟨S2x2048x4608, .f32⟩
  | .hbm, ⟨43, _⟩ => ⟨S_, .f32⟩
  | .hbm, ⟨44, _⟩ => ⟨S2x2048x4608, .f32⟩
  | .hbm, ⟨45, _⟩ => ⟨S2x2048x4608, .f32⟩
  | .hbm, ⟨46, _⟩ => ⟨S2x2048x4608, .f32⟩
  | .hbm, ⟨47, _⟩ => ⟨S_, .f32⟩
  | .hbm, ⟨48, _⟩ => ⟨S2x2048x4608, .f32⟩
  | .hbm, ⟨49, _⟩ => ⟨S2x2048x4608, .f32⟩
  | .hbm, ⟨50, _⟩ => ⟨S2x2048x4608, .f32⟩
  | .hbm, ⟨51, _⟩ => ⟨S_, .f32⟩
  | .hbm, ⟨52, _⟩ => ⟨S2x2048x4608, .f32⟩
  | .hbm, ⟨53, _⟩ => ⟨S2x2048x4608, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== Kernel30.lean ====
abbrev S2x8448x2752 : Shape := ⟨3, ![2, 8448, 2752]⟩
abbrev S2x2x8448x2752 : Shape := ⟨4, ![2, 2, 8448, 2752]⟩
abbrev S4x8448x2752 : Shape := ⟨3, ![4, 8448, 2752]⟩
abbrev S1x256x2752 : Shape := ⟨3, ![1, 256, 2752]⟩
abbrev S2x1x256x2752 : Shape := ⟨4, ![2, 1, 256, 2752]⟩
abbrev S1x1x256x2752 : Shape := ⟨4, ![1, 1, 256, 2752]⟩
abbrev S256x2752 : Shape := ⟨2, ![256, 2752]⟩

abbrev nBuf : Space → Nat
  | .hbm => 7
  | .vmem => 6
  | .smem => 0
  | _ => 0

abbrev bufTy : (tb : Table) → Fin (tcTables nBuf tb) → BufTy
  | .hbm, ⟨0, _⟩ => ⟨S2x8448x2752, .f32⟩
  | .hbm, ⟨1, _⟩ => ⟨S2x2x8448x2752, .f32⟩
  | .hbm, ⟨2, _⟩ => ⟨S2x8448x2752, .bf16⟩
  | .hbm, ⟨3, _⟩ => ⟨S4x8448x2752, .f32⟩
  | .hbm, ⟨4, _⟩ => ⟨S4x8448x2752, .bf16⟩
  | .hbm, ⟨5, _⟩ => ⟨S2x2x8448x2752, .bf16⟩
  | .hbm, ⟨6, _⟩ => ⟨S2x2x8448x2752, .bf16⟩
  | .local _ .vmem, ⟨0, _⟩ => ⟨S1x256x2752, .bf16⟩
  | .local _ .vmem, ⟨1, _⟩ => ⟨S1x256x2752, .bf16⟩
  | .local _ .vmem, ⟨2, _⟩ => ⟨S2x1x256x2752, .bf16⟩
  | .local _ .vmem, ⟨3, _⟩ => ⟨S2x1x256x2752, .bf16⟩
  | .local _ .vmem, ⟨4, _⟩ => ⟨S2x1x256x2752, .bf16⟩
  | .local _ .vmem, ⟨5, _⟩ => ⟨S2x1x256x2752, .bf16⟩
  | _, _ => ⟨S2x8448x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x256x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference30Ideal.lean ====
abbrev S2x8448x2752 : Shape := ⟨3, ![2, 8448, 2752]⟩
abbrev S2x2x8448x2752 : Shape := ⟨4, ![2, 2, 8448, 2752]⟩
abbrev S1x2x8448x2752 : Shape := ⟨4, ![1, 2, 8448, 2752]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2x8448x2752, .f32⟩
  | .hbm, ⟨1, _⟩ => ⟨S2x2x8448x2752, .f32⟩
  | .hbm, ⟨2, _⟩ => ⟨S1x2x8448x2752, .f32⟩
  | .hbm, ⟨3, _⟩ => ⟨S2x8448x2752, .f32⟩
  | .hbm, ⟨4, _⟩ => ⟨S2x8448x2752, .f32⟩
  | .hbm, ⟨5, _⟩ => ⟨S2x8448x2752, .f32⟩
  | .hbm, ⟨6, _⟩ => ⟨S_, .f32⟩
  | .hbm, ⟨7, _⟩ => ⟨S2x8448x2752, .f32⟩
  | .hbm, ⟨8, _⟩ => ⟨S2x8448x2752, .f32⟩
  | .hbm, ⟨9, _⟩ => ⟨S_, .f32⟩
  | .hbm, ⟨10, _⟩ => ⟨S2x8448x2752, .f32⟩
  | .hbm, ⟨11, _⟩ => ⟨S2x8448x2752, .f32⟩
  | .hbm, ⟨12, _⟩ => ⟨S_, .f32⟩
  | .hbm, ⟨13, _⟩ => ⟨S2x8448x2752, .f32⟩
  | .hbm, ⟨14, _⟩ => ⟨S2x8448x2752, .f32⟩
  | .hbm, ⟨15, _⟩ => ⟨S2x8448x2752, .f32⟩
  | .hbm, ⟨16, _⟩ => ⟨S2x8448x2752, .f32⟩
  | .hbm, ⟨17, _⟩ => ⟨S1x2x8448x2752, .f32⟩
  | .hbm, ⟨18, _⟩ => ⟨S2x8448x2752, .f32⟩
  | .hbm, ⟨19, _⟩ => ⟨S2x8448x2752, .f32⟩
  | .hbm, ⟨20, _⟩ => ⟨S2x8448x2752, .f32⟩
  | .hbm, ⟨21, _⟩ => ⟨S2x8448x2752, .f32⟩
  | .hbm, ⟨22, _⟩ => ⟨S1x2x8448x2752, .f32⟩
  | .hbm, ⟨23, _⟩ => ⟨S_, .f32⟩
  | .hbm, ⟨24, _⟩ => ⟨S2x2x8448x2752, .f32⟩
  | .hbm, ⟨25, _⟩ => ⟨S2x8448x2752, .f32⟩
  | .hbm, ⟨26, _⟩ => ⟨S2x8448x2752, .f32⟩
  | .hbm, ⟨27, _⟩ => ⟨S2x8448x2752, .f32⟩
  | .hbm, ⟨28, _⟩ => ⟨S2x8448x2752, .f32⟩
  | .hbm, ⟨29, _⟩ => ⟨S1x2x8448x2752, .f32⟩
  | .hbm, ⟨30, _⟩ => ⟨S_, .f32⟩
  | .hbm, ⟨31, _⟩ => ⟨S2x2x8448x2752, .f32⟩
  | .hbm, ⟨32, _⟩ => ⟨S2x2x8448x2752, .f32⟩
  | .hbm, ⟨33, _⟩ => ⟨S2x2x8448x2752, .bf16⟩
  | _, _ => ⟨S2x8448x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_cst_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel31.lean ====
abbrev S2x2x8448x2752 : Shape := ⟨4, ![2, 2, 8448, 2752]⟩
abbrev S4x8448x2752 : Shape := ⟨3, ![4, 8448, 2752]⟩
abbrev S2x8448x2752 : Shape := ⟨3, ![2, 8448, 2752]⟩
abbrev S2x1x256x2752 : Shape := ⟨4, ![2, 1, 256, 2752]⟩
abbrev S1x256x2752 : Shape := ⟨3, ![1, 256, 2752]⟩
abbrev S1x1x256x2752 : Shape := ⟨4, ![1, 1, 256, 2752]⟩
abbrev S256x2752 : Shape := ⟨2, ![256, 2752]⟩

abbrev nBuf : Space → Nat
  | .hbm => 5
  | .vmem => 4
  | .smem => 0
  | _ => 0

abbrev bufTy : (tb : Table) → Fin (tcTables nBuf tb) → BufTy
  | .hbm, ⟨0, _⟩ => ⟨S2x2x8448x2752, .f32⟩
  | .hbm, ⟨1, _⟩ => ⟨S4x8448x2752, .f32⟩
  | .hbm, ⟨2, _⟩ => ⟨S4x8448x2752, .bf16⟩
  | .hbm, ⟨3, _⟩ => ⟨S2x2x8448x2752, .bf16⟩
  | .hbm, ⟨4, _⟩ => ⟨S2x8448x2752, .bf16⟩
  | .local _ .vmem, ⟨0, _⟩ => ⟨S2x1x256x2752, .bf16⟩
  | .local _ .vmem, ⟨1, _⟩ => ⟨S2x1x256x2752, .bf16⟩
  | .local _ .vmem, ⟨2, _⟩ => ⟨S1x256x2752, .bf16⟩
  | .local _ .vmem, ⟨3, _⟩ => ⟨S1x256x2752, .bf16⟩
  | _, _ => ⟨S2x2x8448x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 33], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x256x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference31Ideal.lean ====
abbrev S2x2x8448x2752 : Shape := ⟨4, ![2, 2, 8448, 2752]⟩
abbrev S1x2x8448x2752 : Shape := ⟨4, ![1, 2, 8448, 2752]⟩
abbrev S2x8448x2752 : Shape := ⟨3, ![2, 8448, 2752]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2x2x8448x2752, .f32⟩
  | .hbm, ⟨1, _⟩ => ⟨S1x2x8448x2752, .f32⟩
  | .hbm, ⟨2, _⟩ => ⟨S2x8448x2752, .f32⟩
  | .hbm, ⟨3, _⟩ => ⟨S2x8448x2752, .f32⟩
  | .hbm, ⟨4, _⟩ => ⟨S2x8448x2752, .f32⟩
  | .hbm, ⟨5, _⟩ => ⟨S_, .f32⟩
  | .hbm, ⟨6, _⟩ => ⟨S2x8448x2752, .f32⟩
  | .hbm, ⟨7, _⟩ => ⟨S2x8448x2752, .f32⟩
  | .hbm, ⟨8, _⟩ => ⟨S_, .f32⟩
  | .hbm, ⟨9, _⟩ => ⟨S2x8448x2752, .f32⟩
  | .hbm, ⟨10, _⟩ => ⟨S2x8448x2752, .f32⟩
  | .hbm, ⟨11, _⟩ => ⟨S2x8448x2752, .f32⟩
  | .hbm, ⟨12, _⟩ => ⟨S1x2x8448x2752, .f32⟩
  | .hbm, ⟨13, _⟩ => ⟨S2x8448x2752, .f32⟩
  | .hbm, ⟨14, _⟩ => ⟨S2x8448x2752, .f32⟩
  | .hbm, ⟨15, _⟩ => ⟨S2x8448x2752, .bf16⟩
  | _, _ => ⟨S2x2x8448x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Kernel32.lean ====
abbrev S8448x2048 : Shape := ⟨2, ![8448, 2048]⟩
abbrev S2x9x1x2048 : Shape := ⟨4, ![2, 9, 1, 2048]⟩
abbrev S2x1x1x2048 : Shape := ⟨4, ![2, 1, 1, 2048]⟩
abbrev S256x2048 : Shape := ⟨2, ![256, 2048]⟩
abbrev S1x1x1x2048 : Shape := ⟨4, ![1, 1, 1, 2048]⟩
abbrev S1x2048 : Shape := ⟨2, ![1, 2048]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x9x1x2048, .f32⟩
  | .hbm, ⟨3, _⟩ => ⟨S8448x2048, .bf16⟩
  | .hbm, ⟨4, _⟩ => ⟨S8448x2048, .bf16⟩
  | .hbm, ⟨5, _⟩ => ⟨S2x1x1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2x9x1x2048, .f32⟩
  | .local _ .vmem, ⟨5, _⟩ => ⟨S256x2048, .bf16⟩
  | .local _ .vmem, ⟨6, _⟩ => ⟨S256x2048, .bf16⟩
  | .local _ .vmem, ⟨7, _⟩ => ⟨S2x1x1x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![33], ![false]⟩

def k0_off1 (i : grid0.Coords) : Fin 4 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let v8 : Index := Scalar.indexCast v1
  let c2 : Index := 2#32
  let c0_2 : Index := 0#32
  let c0_3 : Index := 0#32
  ![v8.toNat, 2, 0, 0]
def k0_off2 (i : grid0.Coords) : Fin 4 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let v15 : Index := Scalar.indexCast v1
  let c0_6 : Index := 0#32
  let c0_7 : Index := 0#32
  let c0_8 : Index := 0#32
  ![v15.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x9x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference32Ideal.lean ====
abbrev S8448x2048 : Shape := ⟨2, ![8448, 2048]⟩
abbrev S2x9x1x2048 : Shape := ⟨4, ![2, 9, 1, 2048]⟩
abbrev S1x1x1x2048 : Shape := ⟨4, ![1, 1, 1, 2048]⟩
abbrev S1x2048 : Shape := ⟨2, ![1, 2048]⟩
abbrev S8448 : Shape := ⟨1, ![8448]⟩
abbrev S8448x1 : Shape := ⟨2, ![8448, 1]⟩
abbrev S_ : Shape := ⟨0, ![]⟩
abbrev S2048 : Shape := ⟨1, ![2048]⟩
abbrev S1x1x2048 : Shape := ⟨3, ![1, 1, 2048]⟩
abbrev S2x1x2048 : Shape := ⟨3, ![2, 1, 2048]⟩
abbrev S2x1x1x2048 : Shape := ⟨4, ![2, 1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x9x1x2048, .f32⟩
  | .hbm, ⟨3, _⟩ => ⟨S1x1x1x2048, .f32⟩
  | .hbm, ⟨4, _⟩ => ⟨S1x2048, .f32⟩
  | .hbm, ⟨5, _⟩ => ⟨S1x1x1x2048, .f32⟩
  | .hbm, ⟨6, _⟩ => ⟨S1x2048, .f32⟩
  | .hbm, ⟨7, _⟩ => ⟨S8448, .i32⟩
  | .hbm, ⟨8, _⟩ => ⟨S8448x1, .i32⟩
  | .hbm, ⟨9, _⟩ => ⟨S_, .i32⟩
  | .hbm, ⟨10, _⟩ => ⟨S8448x1, .i32⟩
  | .hbm, ⟨11, _⟩ => ⟨S8448x1, .i1⟩
  | .hbm, ⟨12, _⟩ => ⟨S8448x2048, .i1⟩
  | .hbm, ⟨13, _⟩ => ⟨S8448x2048, .f32⟩
  | .hbm, ⟨14, _⟩ => ⟨S8448x2048, .f32⟩
  | .hbm, ⟨15, _⟩ => ⟨S8448x2048, .f32⟩
  | .hbm, ⟨16, _⟩ => ⟨S_, .f32⟩
  | .hbm, ⟨17, _⟩ => ⟨S8448x2048, .f32⟩
  | .hbm, ⟨18, _⟩ => ⟨S8448x2048, .f32⟩
  | .hbm, ⟨19, _⟩ => ⟨S8448x2048, .f32⟩
  | .hbm, ⟨20, _⟩ => ⟨S8448x2048, .f32⟩
  | .hbm, ⟨21, _⟩ => ⟨S8448x2048, .f32⟩
  | .hbm, ⟨22, _⟩ => ⟨S_, .f32⟩
  | .hbm, ⟨23, _⟩ => ⟨S8448x2048, .f32⟩
  | .hbm, ⟨24, _⟩ => ⟨S8448x2048, .f32⟩
  | .hbm, ⟨25, _⟩ => ⟨S_, .f32⟩
  | .hbm, ⟨26, _⟩ => ⟨S8448x2048, .f32⟩
  | .hbm, ⟨27, _⟩ => ⟨S8448x2048, .f32⟩
  | .hbm, ⟨28, _⟩ => ⟨S8448x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8448x2048, .bf16⟩
  | .hbm, ⟨36, _⟩ => ⟨S1x1x2048, .f32⟩
  | .hbm, ⟨37, _⟩ => ⟨S1x1x2048, .f32⟩
  | .hbm, ⟨38, _⟩ => ⟨S2x1x2048, .f32⟩
  | .hbm, ⟨39, _⟩ => ⟨S2x1x1x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8_1 : Ref sig .tc := ⟨.hbm, 12, rfl⟩
abbrev main_call0_v1 : Ref sig .tc := ⟨.hbm, 13, rfl⟩
abbrev main_call0_v2 : Ref sig .tc := ⟨.hbm, 14, rfl⟩
abbrev main_v8_0 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_cst_0 : Ref sig .tc := ⟨.hbm, 29, rfl⟩
abbrev main_call1_v3 : Ref sig .tc := ⟨.hbm, 30, rfl⟩
abbrev main_v16_1 : Ref sig .tc := ⟨.hbm, 31, rfl⟩
abbrev main_call1_cst_1 : Ref sig .tc := ⟨.hbm, 32, rfl⟩
abbrev main_call1_v5 : Ref sig .tc := ⟨.hbm, 33, rfl⟩
abbrev main_v16_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel34.lean ====
abbrev S8448x2048 : Shape := ⟨2, ![8448, 2048]⟩
abbrev S1x2048 : Shape := ⟨2, ![1, 2048]⟩
abbrev S2x9x1x2048 : Shape := ⟨4, ![2, 9, 1, 2048]⟩
abbrev S256x2048 : Shape := ⟨2, ![256, 2048]⟩
abbrev S256 : Shape := ⟨1, ![256]⟩
abbrev S256x1 : Shape := ⟨2, ![256, 1]⟩
abbrev S1x1x1x2048 : Shape := ⟨4, ![1, 1, 1, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x9x1x2048, .f32⟩
  | .hbm, ⟨3, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2x9x1x2048, .f32⟩
  | .local _ .vmem, ⟨4, _⟩ => ⟨S256x2048, .bf16⟩
  | .local _ .vmem, ⟨5, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![33], ![false]⟩

def k0_off1 (i : grid0.Coords) : Fin 4 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let v16 : Index := Scalar.indexCast v1
  let c1 : Index := 1#32
  let c0_5 : Index := 0#32
  let c0_6 : Index := 0#32
  ![v16.toNat, 1, 0, 0]
def k0_off2 (i : grid0.Coords) : Fin 4 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let v23 : Index := Scalar.indexCast v1
  let c0_8 : Index := 0#32
  let c0_9 : Index := 0#32
  let c0_10 : Index := 0#32
  ![v23.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x9x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference34Ideal.lean ====
abbrev S8448x2048 : Shape := ⟨2, ![8448, 2048]⟩
abbrev S1x2048 : Shape := ⟨2, ![1, 2048]⟩
abbrev S2x9x1x2048 : Shape := ⟨4, ![2, 9, 1, 2048]⟩
abbrev S1x1x1x2048 : Shape := ⟨4, ![1, 1, 1, 2048]⟩
abbrev S_ : Shape := ⟨0, ![]⟩
abbrev S8448 : Shape := ⟨1, ![8448]⟩
abbrev S8448x1 : Shape := ⟨2, ![8448, 1]⟩

abbrev nBuf : Space → Nat
  | .hbm => 50
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x9x1x2048, .f32⟩
  | .hbm, ⟨3, _⟩ => ⟨S1x1x1x2048, .f32⟩
  | .hbm, ⟨4, _⟩ => ⟨S1x2048, .f32⟩
  | .hbm, ⟨5, _⟩ => ⟨S1x1x1x2048, .f32⟩
  | .hbm, ⟨6, _⟩ => ⟨S1x2048, .f32⟩
  | .hbm, ⟨7, _⟩ => ⟨S1x1x1x2048, .f32⟩
  | .hbm, ⟨8, _⟩ => ⟨S1x2048, .f32⟩
  | .hbm, ⟨9, _⟩ => ⟨S1x1x1x2048, .f32⟩
  | .hbm, ⟨10, _⟩ => ⟨S1x2048, .f32⟩
  | .hbm, ⟨11, _⟩ => ⟨S8448x2048, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S8448x2048, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S8448, .i32⟩
  | .hbm, ⟨27, _⟩ => ⟨S8448x1, .i32⟩
  | .hbm, ⟨28, _⟩ => ⟨S_, .i32⟩
  | .hbm, ⟨29, _⟩ => ⟨S8448x1, .i32⟩
  | .hbm, ⟨30, _⟩ => ⟨S8448x1, .i1⟩
  | .hbm, ⟨31, _⟩ => ⟨S8448x2048, .i1⟩
  | .hbm, ⟨32, _⟩ => ⟨S8448x2048, .f32⟩
  | .hbm, ⟨33, _⟩ => ⟨S8448x2048, .f32⟩
  | .hbm, ⟨34, _⟩ => ⟨S8448x2048, .f32⟩
  | .hbm, ⟨35, _⟩ => ⟨S_, .f32⟩
  | .hbm, ⟨36, _⟩ => ⟨S8448x2048, .f32⟩
  | .hbm, ⟨37, _⟩ => ⟨S8448x2048, .f32⟩
  | .hbm, ⟨38, _⟩ => ⟨S8448x2048, .f32⟩
  | .hbm, ⟨39, _⟩ => ⟨S8448, .i32⟩
  | .hbm, ⟨40, _⟩ => ⟨S8448x1, .i32⟩
  | .hbm, ⟨41, _⟩ => ⟨S_, .i32⟩
  | .hbm, ⟨42, _⟩ => ⟨S8448x1, .i32⟩
  | .hbm, ⟨43, _⟩ => ⟨S8448x1, .i1⟩
  | .hbm, ⟨44, _⟩ => ⟨S8448x2048, .i1⟩
  | .hbm, ⟨45, _⟩ => ⟨S8448x2048, .f32⟩
  | .hbm, ⟨46, _⟩ => ⟨S8448x2048, .f32⟩
  | .hbm, ⟨47, _⟩ => ⟨S8448x2048, .f32⟩
  | .hbm, ⟨48, _⟩ => ⟨S8448x2048, .f32⟩
  | .hbm, ⟨49, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel35.lean ====
abbrev S8448x12800 : Shape := ⟨2, ![8448, 12800]⟩
abbrev S8448x2048 : Shape := ⟨2, ![8448, 2048]⟩
abbrev S3x1x2048 : Shape := ⟨3, ![3, 1, 2048]⟩
abbrev S768x512 : Shape := ⟨2, ![768, 512]⟩
abbrev S3x1x512 : Shape := ⟨3, ![3, 1, 512]⟩
abbrev S1x1x512 : Shape := ⟨3, ![1, 1, 512]⟩
abbrev S1x512 : Shape := ⟨2, ![1, 512]⟩

abbrev nBuf : Space → Nat
  | .hbm => 10
  | .vmem => 16
  | .smem => 0
  | _ => 0

abbrev bufTy : (tb : Table) → Fin (tcTables nBuf tb) → BufTy
  | .hbm, ⟨0, _⟩ => ⟨S8448x12800, .f32⟩
  | .hbm, ⟨1, _⟩ => ⟨S8448x2048, .f32⟩
  | .hbm, ⟨2, _⟩ => ⟨S8448x2048, .f32⟩
  | .hbm, ⟨3, _⟩ => ⟨S8448x2048, .f32⟩
  | .hbm, ⟨4, _⟩ => ⟨S3x1x2048, .f32⟩
  | .hbm, ⟨5, _⟩ => ⟨S8448x12800, .bf16⟩
  | .hbm, ⟨6, _⟩ => ⟨S8448x2048, .bf16⟩
  | .hbm, ⟨7, _⟩ => ⟨S8448x2048, .bf16⟩
  | .hbm, ⟨8, _⟩ => ⟨S8448x2048, .bf16⟩
  | .hbm, ⟨9, _⟩ => ⟨S8448x2048, .bf16⟩
  | .local _ .vmem, ⟨0, _⟩ => ⟨S768x512, .bf16⟩
  | .local _ .vmem, ⟨1, _⟩ => ⟨S768x512, .bf16⟩
  | .local _ .vmem, ⟨2, _⟩ => ⟨S768x512, .bf16⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S3x1x512, .f32⟩
  | .local _ .vmem, ⟨13, _⟩ => ⟨S3x1x512, .f32⟩
  | .local _ .vmem, ⟨14, _⟩ => ⟨S768x512, .bf16⟩
  | .local _ .vmem, ⟨15, _⟩ => ⟨S768x512, .bf16⟩
  | _, _ => ⟨S8448x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.addi c13_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference35Ideal.lean ====
abbrev S8448x12800 : Shape := ⟨2, ![8448, 12800]⟩
abbrev S8448x2048 : Shape := ⟨2, ![8448, 2048]⟩
abbrev S3x1x2048 : Shape := ⟨3, ![3, 1, 2048]⟩
abbrev S8448x6144 : Shape := ⟨2, ![8448, 6144]⟩
abbrev S8448x3x2048 : Shape := ⟨3, ![8448, 3, 2048]⟩
abbrev S3x2048 : Shape := ⟨2, ![3, 2048]⟩
abbrev S1x3x2048 : Shape := ⟨3, ![1, 3, 2048]⟩
abbrev S_ : Shape := ⟨0, ![]⟩
abbrev S8448x1x2048 : Shape := ⟨3, ![8448, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8448x12800, .f32⟩
  | .hbm, ⟨1, _⟩ => ⟨S8448x2048, .f32⟩
  | .hbm, ⟨2, _⟩ => ⟨S8448x2048, .f32⟩
  | .hbm, ⟨3, _⟩ => ⟨S8448x2048, .f32⟩
  | .hbm, ⟨4, _⟩ => ⟨S3x1x2048, .f32⟩
  | .hbm, ⟨5, _⟩ => ⟨S8448x6144, .f32⟩
  | .hbm, ⟨6, _⟩ => ⟨S8448x3x2048, .f32⟩
  | .hbm, ⟨7, _⟩ => ⟨S3x2048, .f32⟩
  | .hbm, ⟨8, _⟩ => ⟨S1x3x2048, .f32⟩
  | .hbm, ⟨9, _⟩ => ⟨S8448x3x2048, .f32⟩
  | .hbm, ⟨10, _⟩ => ⟨S8448x3x2048, .f32⟩
  | .hbm, ⟨11, _⟩ => ⟨S8448x3x2048, .f32⟩
  | .hbm, ⟨12, _⟩ => ⟨S8448x3x2048, .f32⟩
  | .hbm, ⟨13, _⟩ => ⟨S_, .f32⟩
  | .hbm, ⟨14, _⟩ => ⟨S8448x3x2048, .f32⟩
  | .hbm, ⟨15, _⟩ => ⟨S8448x3x2048, .f32⟩
  | .hbm, ⟨16, _⟩ => ⟨S_, .f32⟩
  | .hbm, ⟨17, _⟩ => ⟨S8448x3x2048, .f32⟩
  | .hbm, ⟨18, _⟩ => ⟨S8448x3x2048, .f32⟩
  | .hbm, ⟨19, _⟩ => ⟨S8448x1x2048, .f32⟩
  | .hbm, ⟨20, _⟩ => ⟨S8448x2048, .f32⟩
  | .hbm, ⟨21, _⟩ => ⟨S8448x2048, .f32⟩
  | .hbm, ⟨22, _⟩ => ⟨S8448x1x2048, .f32⟩
  | .hbm, ⟨23, _⟩ => ⟨S8448x2048, .f32⟩
  | .hbm, ⟨24, _⟩ => ⟨S8448x2048, .f32⟩
  | .hbm, ⟨25, _⟩ => ⟨S8448x2048, .f32⟩
  | .hbm, ⟨26, _⟩ => ⟨S8448x1x2048, .f32⟩
  | .hbm, ⟨27, _⟩ => ⟨S8448x2048, .f32⟩
  | .hbm, ⟨28, _⟩ => ⟨S8448x2048, .f32⟩
  | .hbm, ⟨29, _⟩ => ⟨S8448x2048, .f32⟩
  | .hbm, ⟨30, _⟩ => ⟨S8448x2048, .bf16⟩
  | _, _ => ⟨S8448x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel37.lean ====
abbrev S2x16x4608 : Shape := ⟨3, ![2, 16, 4608]⟩
abbrev S2x2048x4608 : Shape := ⟨3, ![2, 2048, 4608]⟩
abbrev S16x2048 : Shape := ⟨2, ![16, 2048]⟩
abbrev S1x16x1536 : Shape := ⟨3, ![1, 16, 1536]⟩
abbrev S1x512x1536 : Shape := ⟨3, ![1, 512, 1536]⟩
abbrev S16x512 : Shape := ⟨2, ![16, 512]⟩
abbrev S16x1536 : Shape := ⟨2, ![16, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2x16x4608, .f32⟩
  | .hbm, ⟨1, _⟩ => ⟨S2x2048x4608, .f32⟩
  | .hbm, ⟨2, _⟩ => ⟨S16x2048, .f32⟩
  | .local _ .vmem, ⟨0, _⟩ => ⟨S1x16x1536, .f32⟩
  | .local _ .vmem, ⟨1, _⟩ => ⟨S1x16x1536, .f32⟩
  | .local _ .vmem, ⟨2, _⟩ => ⟨S1x512x1536, .f32⟩
  | .local _ .vmem, ⟨3, _⟩ => ⟨S1x512x1536, .f32⟩
  | .local _ .vmem, ⟨4, _⟩ => ⟨S16x512, .f32⟩
  | .local _ .vmem, ⟨5, _⟩ => ⟨S16x512, .f32⟩
  | _, _ => ⟨S2x16x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x16x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference37Ideal.lean ====
abbrev S2x16x4608 : Shape := ⟨3, ![2, 16, 4608]⟩
abbrev S2x2048x4608 : Shape := ⟨3, ![2, 2048, 4608]⟩
abbrev S_ : Shape := ⟨0, ![]⟩
abbrev S2x16x2048 : Shape := ⟨3, ![2, 16, 2048]⟩
abbrev S16x2048 : Shape := ⟨2, ![16, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x16x4608, .f32⟩
  | .hbm, ⟨1, _⟩ => ⟨S2x2048x4608, .f32⟩
  | .hbm, ⟨2, _⟩ => ⟨S_, .f32⟩
  | .hbm, ⟨3, _⟩ => ⟨S2x16x2048, .f32⟩
  | .hbm, ⟨4, _⟩ => ⟨S2x16x4608, .f32⟩
  | .hbm, ⟨5, _⟩ => ⟨S2x16x2048, .f32⟩
  | .hbm, ⟨6, _⟩ => ⟨S_, .f32⟩
  | .hbm, ⟨7, _⟩ => ⟨S16x2048, .f32⟩
  | _, _ => ⟨S2x16x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel38.lean ====
abbrev S16x2048 : Shape := ⟨2, ![16, 2048]⟩
abbrev S2x2048x4608 : Shape := ⟨3, ![2, 2048, 4608]⟩
abbrev S2x1x4608 : Shape := ⟨3, ![2, 1, 4608]⟩
abbrev S2x16x4608 : Shape := ⟨3, ![2, 16, 4608]⟩
abbrev S16x512 : Shape := ⟨2, ![16, 512]⟩
abbrev S1x512x1536 : Shape := ⟨3, ![1, 512, 1536]⟩
abbrev S1x1x1536 : Shape := ⟨3, ![1, 1, 1536]⟩
abbrev S1x16x1536 : Shape := ⟨3, ![1, 16, 1536]⟩
abbrev S16x1536 : Shape := ⟨2, ![16, 1536]⟩
abbrev S1x1536 : Shape := ⟨2, ![1, 1536]⟩
abbrev S512x1536 : Shape := ⟨2, ![512, 1536]⟩

abbrev nBuf : Space → Nat
  | .hbm => 4
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2x2048x4608, .f32⟩
  | .hbm, ⟨2, _⟩ => ⟨S2x1x4608, .f32⟩
  | .hbm, ⟨3, _⟩ => ⟨S2x16x4608, .f32⟩
  | .local _ .vmem, ⟨0, _⟩ => ⟨S16x512, .f32⟩
  | .local _ .vmem, ⟨1, _⟩ => ⟨S16x512, .f32⟩
  | .local _ .vmem, ⟨2, _⟩ => ⟨S1x512x1536, .f32⟩
  | .local _ .vmem, ⟨3, _⟩ => ⟨S1x512x1536, .f32⟩
  | .local _ .vmem, ⟨4, _⟩ => ⟨S1x1x1536, .f32⟩
  | .local _ .vmem, ⟨5, _⟩ => ⟨S1x1x1536, .f32⟩
  | .local _ .vmem, ⟨6, _⟩ => ⟨S1x16x1536, .f32⟩
  | .local _ .vmem, ⟨7, _⟩ => ⟨S1x16x1536, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 3, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference38Ideal.lean ====
abbrev S16x2048 : Shape := ⟨2, ![16, 2048]⟩
abbrev S2x2048x4608 : Shape := ⟨3, ![2, 2048, 4608]⟩
abbrev S2x1x4608 : Shape := ⟨3, ![2, 1, 4608]⟩
abbrev S_ : Shape := ⟨0, ![]⟩
abbrev S16x2x4608 : Shape := ⟨3, ![16, 2, 4608]⟩
abbrev S2x16x4608 : Shape := ⟨3, ![2, 16, 4608]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x4608, .f32⟩
  | .hbm, ⟨2, _⟩ => ⟨S2x1x4608, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2x4608, .f32⟩
  | .hbm, ⟨13, _⟩ => ⟨S2x16x4608, .f32⟩
  | .hbm, ⟨14, _⟩ => ⟨S2x16x4608, .f32⟩
  | .hbm, ⟨15, _⟩ => ⟨S2x16x4608, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Scan.Fwd.lean ====
/-
  The forward scan's kernel body (`cc0_scan`), run once at a symbolic grid point, for any values `F`.

  A chunk holds 256 rows of the decay `a` and the input `u`. The body walks it in 32 tiles of 8 rows, carrying one row of
  state: tile `k` of the result is the tile function `k0_pay3` of the carried row and the chunk's rows `8k … 8k+7`, the next
  carried row is `k0_pay4` of the same. `carry0` is that recursion, `out0` the chunk it writes. `body0_first` and
  `body0_later` are the body's triples: at the first point the carried row starts at zero, at a later one at what the
  scratch holds.
-/
module

public import proofs.«01_k».proof.Proof.Gen.KernelIdeal.Loops
public import proofs.«01_k».proof.Proof.Gen.KernelIdeal.Points
public import proofs.«01_k».proof.Proof.Gen.KernelIdeal.Regions
public import Idealize.ShloMosaic.Lib.Pipeline.FrameBody
public import Idealize.ShloMosaic.Lib.VecWindow
public import Idealize.ShloMosaic.Lib.Ring
public import Idealize.ShloMosaic.Lib.Pipeline.Value
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## A chunk and its tiles -/

theorem rows_inb (r : Fin 32) : ∀ a, (![8 * r.val, 0] : Fin 2 → ℕ) a + S8x1024.size a ≤ S256x1024.size a
  | ⟨0, _⟩ => by show 8 * r.val + 8 ≤ 256; omega
  | ⟨1, _⟩ => by show 0 + 1024 ≤ 1024; omega

/-- Rows `8r … 8r+7` of a chunk. -/
def rows (x : Vec F S256x1024 .f32) (r : Fin 32) : Vec F S8x1024 .f32 :=
  VecWindow.window x ![8 * r.val, 0] S8x1024.size (rows_inb r)

/-- The tile a row of a chunk lies in, and the row's place in it. -/
def tileOf (y : S256x1024.Idx) : Fin 32 := ⟨(y 0).val / 8, by have h : (y 0).val < 256 := (y 0).isLt; omega⟩
def inTile (y : S256x1024.Idx) : S8x1024.Idx := fun a => match a with
  | ⟨0, _⟩ => (⟨(y 0).val % 8, Nat.mod_lt _ (by decide)⟩ : Fin 8)
  | ⟨1, _⟩ => (⟨(y 1).val, (y 1).isLt⟩ : Fin 1024)

/-- A chunk put together from its 32 tiles. -/
def glue (tl : Fin 32 → Vec F S8x1024 .f32) : Vec F S256x1024 .f32 := fun y => tl (tileOf y) (inTile y)

/-- A tile of the glued chunk, read through the rectangle of tile `r`, is that tile. -/
theorem glue_emb (tl : Fin 32 → Vec F S8x1024 .f32) (r : Fin 32) (off : Fin 2 → ℕ) (hoff : off = ![8 * r.val, 0])
    (inb : ∀ a, off a + S8x1024.size a ≤ S256x1024.size a) (x : S8x1024.Idx) :
    glue tl ((Rect.unit (s := S256x1024) off S8x1024.size inb).emb x) = tl r x := by
  subst hoff
  have h0 : (((Rect.unit (s := S256x1024) ![8 * r.val, 0] S8x1024.size inb).emb x) 0).val = 8 * r.val + 1 * (x 0).val := rfl
  have h1 : (((Rect.unit (s := S256x1024) ![8 * r.val, 0] S8x1024.size inb).emb x) 1).val = 0 + 1 * (x 1).val := rfl
  have hx : (x 0).val < 8 := (x 0).isLt
  have e1 : tileOf ((Rect.unit (s := S256x1024) ![8 * r.val, 0] S8x1024.size inb).emb x) = r :=
    Fin.ext (by show _ / 8 = r.val; rw [h0]; omega)
  have e2 : inTile ((Rect.unit (s := S256x1024) ![8 * r.val, 0] S8x1024.size inb).emb x) = x := by
    funext a
    match a with
    | ⟨0, _⟩ => exact Fin.ext (by show _ % 8 = (x 0).val; rw [h0]; omega)
    | ⟨1, _⟩ => exact Fin.ext (by show (((Rect.unit (s := S256x1024) ![8 * r.val, 0] S8x1024.size inb).emb x) 1).val = (x 1).val; rw [h1]; omega)
  unfold glue; rw [e1, e2]

/-- Every row of tile `r` lies in that tile's rectangle. -/
theorem mem_tile (y : S256x1024.Idx) (off : Fin 2 → ℕ) (hoff : off = ![8 * (tileOf y).val, 0])
    (inb : ∀ a, off a + S8x1024.size a ≤ S256x1024.size a) : y ∈ (Rect.unit (s := S256x1024) off S8x1024.size inb).set := by
  subst hoff
  refine Rect.mem_set_unit.mpr fun a => ?_
  match a with
  | ⟨0, _⟩ => exact ⟨by show 8 * ((y 0).val / 8) ≤ (y 0).val; omega, by show (y 0).val < 8 * ((y 0).val / 8) + 8; omega⟩
  | ⟨1, _⟩ => exact ⟨Nat.zero_le _, by show (y 1).val < 0 + 1024; have := (y 1).isLt; have h : (y 1).val < 1024 := this; omega⟩

/-! ## What the body computes -/

/-- The carried row before tile `k`, from `c0`. -/
def carry0 (a u : Vec F S256x1024 .f32) (c0 : Vec F S1x1024 .f32) : ℕ → Vec F S1x1024 .f32
  | 0 => c0
  | k + 1 => if h : k < 32 then k0_pay4 (carry0 a u c0 k) (rows a ⟨k, h⟩) (rows u ⟨k, h⟩) else carry0 a u c0 k

/-- Tile `k` of the chunk the body writes. -/
def tile0 (a u : Vec F S256x1024 .f32) (c0 : Vec F S1x1024 .f32) (k : Fin 32) : Vec F S8x1024 .f32 :=
  k0_pay3 (carry0 a u c0 k.val) (rows a k) (rows u k)

/-- The chunk the body writes. -/
def out0 (a u : Vec F S256x1024 .f32) (c0 : Vec F S1x1024 .f32) : Vec F S256x1024 .f32 := glue (tile0 a u c0)

/-! ## The loop -/

section Loop

variable (𝒱 : Variants) (c : Dev nD) (bd : Option 𝒱.V) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole)

/-- Tile `k`'s number as one of the 32. -/
abbrev tn0 (k : Fin k0_t1_loop.trips) : Fin 32 := ⟨k.val, Nat.lt_of_lt_of_le k.isLt k0_t1_abs.2.1⟩

theorem load0 (M : Memref sig .tc .vmem S256x1024 .f32) (hM : M.IsWhole) (x : Vec F S256x1024 .f32) (k : Fin k0_t1_loop.trips) (inb) :
    View.readAt (Elt F) M.view (Rect.unit (s := S256x1024) (k0_off1 k) S8x1024.size inb).toLoadRect (hM.unread x) = rows x (tn0 k) := by
  rw [View.readAt_unit M.view _ _ (k0_off1_eq k) (rows_inb (tn0 k)), hM.read_unread]; rfl

theorem tripR0 (a u : Vec F S256x1024 .f32) (k : Fin k0_t1_loop.trips) (acc : Vec F S1x1024 .f32) :
    tripR_k0_t1 (F := F) 𝒱 c bd i arg1 harg1 arg2 harg2 arg3 harg3 arg4 harg4 (harg1.unread a) (harg2.unread u) k acc
      = k0_pay4 acc (rows a (tn0 k)) (rows u (tn0 k)) := by
  rw [← load0 arg1 harg1 a k (k0_off1_inb k), ← load0 arg2 harg2 u k (k0_off1_inb k)]
  unfold tripR_k0_t1 trip_k0_t1
  rfl

theorem tripL0 (a u : Vec F S256x1024 .f32) (k : Fin k0_t1_loop.trips) (acc : Vec F S1x1024 .f32) :
    tripL_k0_t1 (F := F) 𝒱 c bd i arg1 harg1 arg2 harg2 arg3 harg3 arg4 harg4 (harg1.unread a) (harg2.unread u) k acc
      = [⟨Rect.unit (s := S256x1024) (k0_off1 k) S8x1024.size (k0_off1_inb k), k0_pay3 acc (rows a (tn0 k)) (rows u (tn0 k))⟩] := by
  rw [← load0 arg1 harg1 a k (k0_off1_inb k), ← load0 arg2 harg2 u k (k0_off1_inb k)]
  unfold tripL_k0_t1 trip_k0_t1
  rfl

theorem trips0 : k0_t1_loop.trips = 32 := by decide

/-- Before tile `n` the loop carries `carry0 n`, and the pieces written so far are the tiles before `n` of `out0`. -/
theorem st0 (a u : Vec F S256x1024 .f32) (c0 : Vec F S1x1024 .f32) : ∀ n, n ≤ 32 →
    (st_k0_t1 (F := F) 𝒱 c bd i arg1 harg1 arg2 harg2 arg3 harg3 arg4 harg4 (harg1.unread a) (harg2.unread u) c0 n).1 = carry0 a u c0 n
    ∧ (∀ p ∈ (st_k0_t1 (F := F) 𝒱 c bd i arg1 harg1 arg2 harg2 arg3 harg3 arg4 harg4 (harg1.unread a) (harg2.unread u) c0 n).2,
        ∀ x, p.2 x = out0 a u c0 (p.1.emb x))
    ∧ (∀ y : S256x1024.Idx, (tileOf y).val < n →
        ∃ p ∈ (st_k0_t1 (F := F) 𝒱 c bd i arg1 harg1 arg2 harg2 arg3 harg3 arg4 harg4 (harg1.unread a) (harg2.unread u) c0 n).2, y ∈ p.1.set)
  | 0, _ => ⟨rfl, fun p hp => absurd hp List.not_mem_nil, fun y hy => absurd hy (Nat.not_lt_zero _)⟩
  | n + 1, hn => by
    obtain ⟨h1, h2, h3⟩ := st0 a u c0 n (by omega)
    have hk : n < 32 := by omega
    have hkt : n < k0_t1_loop.trips := by rw [trips0]; exact hk
    have hs := st_k0_t1_succ (F := F) 𝒱 c bd i arg1 harg1 arg2 harg2 arg3 harg3 arg4 harg4 (harg1.unread a) (harg2.unread u) c0 ⟨n, hkt⟩
    rw [h1, tripR0, tripL0] at hs
    rw [show (⟨n, hkt⟩ : Fin k0_t1_loop.trips).val = n from rfl] at hs
    rw [hs]
    refine ⟨?_, ?_, ?_⟩
    · show _ = carry0 a u c0 (n + 1)
      rw [carry0, dif_pos hk]
    · intro p hp
      rcases List.mem_append.mp hp with hp | hp
      · obtain rfl := List.mem_singleton.mp hp
        intro x
        exact (glue_emb (tile0 a u c0) ⟨n, hk⟩ _ (k0_off1_eq ⟨n, hkt⟩) (k0_off1_inb ⟨n, hkt⟩) x).symm
      · exact h2 p hp
    · intro y hy
      by_cases hy' : (tileOf y).val < n
      · obtain ⟨p, hp, hm⟩ := h3 y hy'
        exact ⟨p, List.mem_append_right _ hp, hm⟩
      · have e : (tileOf y).val = n := by omega
        exact ⟨_, List.mem_append_left _ (List.mem_singleton.mpr rfl), mem_tile y _ ((k0_off1_eq ⟨n, hkt⟩).trans (by rw [e])) (k0_off1_inb ⟨n, hkt⟩)⟩

/-- After the loop the output's buffer reads `out0`, whatever it held. -/
theorem read_out0 (a u : Vec F S256x1024 .f32) (c0 : Vec F S1x1024 .f32) (f : BufTy.Contents (Elt F) arg3.view.ty) :
    arg3.view.read (Elt F) (arg3.view.writes (Elt F) f
      (st_k0_t1 (F := F) 𝒱 c bd i arg1 harg1 arg2 harg2 arg3 harg3 arg4 harg4 (harg1.unread a) (harg2.unread u) c0 k0_t1_loop.trips).2) = out0 a u c0 := by
  rw [trips0]
  obtain ⟨-, h2, h3⟩ := st0 (F := F) 𝒱 c bd i arg1 harg1 arg2 harg2 arg3 harg3 arg4 harg4 a u c0 32 (Nat.le_refl _)
  funext y
  exact View.read_writes_apply_of_pieces _ _ _ _ h2 y (h3 y (tileOf y).isLt)

theorem carry_out0 (a u : Vec F S256x1024 .f32) (c0 : Vec F S1x1024 .f32) :
    (st_k0_t1 (F := F) 𝒱 c bd i arg1 harg1 arg2 harg2 arg3 harg3 arg4 harg4 (harg1.unread a) (harg2.unread u) c0 k0_t1_loop.trips).1 = carry0 a u c0 32 := by
  rw [trips0]
  exact (st0 (F := F) 𝒱 c bd i arg1 harg1 arg2 harg2 arg3 harg3 arg4 harg4 a u c0 32 (Nat.le_refl _)).1

end Loop

/-! ## The body's triples -/

/-- The body's condition: the grid's first point. -/
abbrev cond0 (i : grid0.Coords) : Prop := (Scalar.cmpi .ne (Scalar.extui (Scalar.cmpi .eq (BitVec.ofNat 32 (i 0).val) 0#32)) 0#32) = 1#1

theorem hcond0 : ∀ t : Fin cfg0.N, cond0 (grid0.coords t) ↔ t.val = 0 :=
  (by decide +kernel : ∀ t : Fin grid0.N, cond0 (grid0.coords t) ↔ t.val = 0)

/-- Storing the carried row restates it. -/
theorem pay2_0 (v : Vec F S1x1024 .f32) : k0_pay2 v = v := by
  unfold k0_pay2; exact shapeCast_self _ _

section Body

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole)

/-- What the body leaves, from the carried row `c0`. -/
abbrev Left0 (a u : Vec F S256x1024 .f32) (c0 : Vec F S1x1024 .f32) : sProp 𝕄 :=
  iprop(owns (c : Thread nD τ) arg1 fullShare a ∗ owns (c : Thread nD τ) arg2 fullShare u
    ∗ owns (c : Thread nD τ) arg3 fullShare (out0 a u c0) ∗ owns (c : Thread nD τ) arg4 fullShare (carry0 a u c0 32))

set_option maxHeartbeats 1000000 in
/-- The body at the first point: the carried row starts at zero. -/
theorem body0_first (hc : cond0 i) (a u : Vec F S256x1024 .f32) (E : Set ℕ) (K : PUnit → sProp 𝕄) :
    iprop(owns (c : Thread nD τ) arg1 fullShare a ∗ owns (c : Thread nD τ) arg2 fullShare u ∗ (∃ d, owns (c : Thread nD τ) arg3 fullShare d)
        ∗ (∃ d, owns (c : Thread nD τ) arg4 fullShare d) ∗ (Left0 c arg1 arg2 arg3 arg4 a u k0_pay1 -∗ K ⟨⟩))
      ⊢ wp frame (wpE (defs₀ (F := F)) Variants.none c none) E (cc0_scan i arg1 harg1 arg2 harg2 arg3 harg3 arg4 harg4) K := by
  simp only [cc0_scan_eq_skeleton]; unfold cc0_scan_skel Left0
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.readCov_full]
    exact read_out0 (F := F) Variants.none c none i arg1 harg1 arg2 harg2 arg3 harg3 arg4 harg4 a u _ _
  · iexists _; isplitr
    swap; · iexact HS0
    ipureintro
    sl_unfold_words
    rw [View.readCov_full]
    exact (View.read_writes_full _ _ _ _ _).trans ((pay2_0 _).trans (carry_out0 (F := F) Variants.none c none i arg1 harg1 arg2 harg2 arg3 harg3 arg4 harg4 a u _))

set_option maxHeartbeats 1000000 in
/-- The body at a later point: the carried row starts at what the scratch holds. -/
theorem body0_later (hc : ¬ cond0 i) (a u : Vec F S256x1024 .f32) (s : Vec F S1x1024 .f32) (E : Set ℕ) (K : PUnit → sProp 𝕄) :
    iprop(owns (c : Thread nD τ) arg1 fullShare a ∗ owns (c : Thread nD τ) arg2 fullShare u ∗ (∃ d, owns (c : Thread nD τ) arg3 fullShare d)
        ∗ owns (c : Thread nD τ) arg4 fullShare s ∗ (Left0 c arg1 arg2 arg3 arg4 a u s -∗ K ⟨⟩))
      ⊢ wp frame (wpE (defs₀ (F := F)) Variants.none c none) E (cc0_scan i arg1 harg1 arg2 harg2 arg3 harg3 arg4 harg4) K := by
  simp only [cc0_scan_eq_skeleton]; unfold cc0_scan_skel Left0
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg4.eq_unread hfs0
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.readAt_full, harg4.read_unread]
    exact read_out0 (F := F) Variants.none c none i arg1 harg1 arg2 harg2 arg3 harg3 arg4 harg4 a u _ _
  · iexists _; isplitr
    swap; · iexact HS0
    ipureintro
    sl_unfold_words
    rw [View.readAt_full, harg4.read_unread]
    exact (View.read_writes_full _ _ _ _ _).trans ((pay2_0 _).trans (carry_out0 (F := F) Variants.none c none i arg1 harg1 arg2 harg2 arg3 harg3 arg4 harg4 a u _))

end Body

end Cert.KernelIdeal.Scan

end
-- ==== Proof.Scan.Bwd.lean ====
/-
  The backward scan's kernel body (`cc1_scan_bwd`), run once at a symbolic grid point, for any values `F`.

  A chunk holds 256 rows of the decay `a`, the input `u`, the state before each row `h` and the cotangent `dh`. The body walks it
  in 32 tiles of 8 rows from the LAST tile to the first, carrying one row. `carry1` is that recursion, `lam1` and `dla1` the two
  chunks it writes. `body1_first` and `body1_later` are the body's triples: at the first point the carried row starts at zero, at
  a later one at what the scratch holds.
-/
module

public import proofs.«01_k».proof.Proof.Scan.Fwd
public import proofs.«01_k».proof.Proof.Gen.KernelIdeal.Points
public import proofs.«01_k».proof.Proof.Gen.KernelIdeal.Regions
public import Idealize.ShloMosaic.Lib.Pipeline.FrameBody
public import Idealize.ShloMosaic.Lib.VecWindow
public import Idealize.ShloMosaic.Lib.Ring
public import Idealize.ShloMosaic.Lib.Pipeline.Value
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes -/

/-- The tile of trip `k`: the tiles are met from the last to the first. -/
def rev (k : Fin 32) : Fin 32 := ⟨31 - k.val, by omega⟩

theorem rev_rev (k : Fin 32) : rev (rev k) = k := Fin.ext (by show 31 - (31 - k.val) = k.val; omega)

/-- The carried row before trip `k`, from `c0`. -/
def carry1 (a dh : Vec F S256x1024 .f32) (c0 : Vec F S1x1024 .f32) : ℕ → Vec F S1x1024 .f32
  | 0 => c0
  | k + 1 => if h : k < 32 then k1_pay2 (k1_pay7 (carry1 a dh c0 k) (rows a (rev ⟨k, h⟩)) (rows dh (rev ⟨k, h⟩))) else carry1 a dh c0 k

/-- The carried row as tile `r` meets it. -/
abbrev carryAt1 (a dh : Vec F S256x1024 .f32) (c0 : Vec F S1x1024 .f32) (r : Fin 32) : Vec F S1x1024 .f32 := carry1 a dh c0 (rev r).val

/-- Tile `r` of the two chunks the body writes. -/
def lamTile1 (a dh : Vec F S256x1024 .f32) (c0 : Vec F S1x1024 .f32) (r : Fin 32) : Vec F S8x1024 .f32 :=
  k1_pay3 (carryAt1 a dh c0 r) (rows dh r) (k1_pay6 (carryAt1 a dh c0 r) (rows a r) (rows dh r))
def dlaTile1 (a u h dh : Vec F S256x1024 .f32) (c0 : Vec F S1x1024 .f32) (r : Fin 32) : Vec F S8x1024 .f32 :=
  k1_pay4 (carryAt1 a dh c0 r) (rows dh r) (k1_pay6 (carryAt1 a dh c0 r) (rows a r) (rows dh r)) (rows h r) (rows u r)

/-- The two chunks the body writes. -/
def lam1 (a dh : Vec F S256x1024 .f32) (c0 : Vec F S1x1024 .f32) : Vec F S256x1024 .f32 := glue (lamTile1 a dh c0)
def dla1 (a u h dh : Vec F S256x1024 .f32) (c0 : Vec F S1x1024 .f32) : Vec F S256x1024 .f32 := glue (dlaTile1 a u h dh c0)

/-! ## The loop -/

section Loop

variable (𝒱 : Variants) (c : Dev nD) (bd : Option 𝒱.V) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)

theorem trips1 : k1_t1_loop.trips = 32 := by decide

/-- Trip `k`'s tile. -/
abbrev tn1 (k : Fin k1_t1_loop.trips) : Fin 32 := rev ⟨k.val, Nat.lt_of_lt_of_le k.isLt k1_t1_abs.2.1⟩

theorem off1 (k : Fin k1_t1_loop.trips) : k1_off1 k = ![8 * (tn1 k).val, 0] := by
  have hk : k.val < 32 := Nat.lt_of_lt_of_le k.isLt k1_t1_abs.2.1
  rw [k1_off1_eq, show 248 - 8 * k.val = 8 * (tn1 k).val from by show _ = 8 * (31 - k.val); omega]

theorem load1 (M : Memref sig .tc .vmem S256x1024 .f32) (hM : M.IsWhole) (x : Vec F S256x1024 .f32) (k : Fin k1_t1_loop.trips) (inb) :
    View.readAt (Elt F) M.view (Rect.unit (s := S256x1024) (k1_off1 k) S8x1024.size inb).toLoadRect (hM.unread x) = rows x (tn1 k) := by
  rw [View.readAt_unit M.view _ _ (off1 k) (rows_inb (tn1 k)), hM.read_unread]; rfl

theorem tripR1 (a u h dh : Vec F S256x1024 .f32) (k : Fin k1_t1_loop.trips) (acc : Vec F S1x1024 .f32) :
    tripR_k1_t1 (F := F) 𝒱 c bd i arg1 harg1 arg2 harg2 arg3 harg3 arg4 harg4 arg5 harg5 arg6 harg6 arg7 harg7 (harg1.unread a) (harg2.unread u) (harg3.unread h) (harg4.unread dh) k acc = k1_pay2 (k1_pay7 acc (rows a (tn1 k)) (rows dh (tn1 k))) := by
  rw [← load1 arg1 harg1 a k (k1_off1_inb k), ← load1 arg4 harg4 dh k (k1_off1_inb k)]
  unfold tripR_k1_t1 trip_k1_t1
  rfl

theorem tripL1 (a u h dh : Vec F S256x1024 .f32) (k : Fin k1_t1_loop.trips) (acc : Vec F S1x1024 .f32) :
    tripL_k1_t1 (F := F) 𝒱 c bd i arg1 harg1 arg2 harg2 arg3 harg3 arg4 harg4 arg5 harg5 arg6 harg6 arg7 harg7 (harg1.unread a) (harg2.unread u) (harg3.unread h) (harg4.unread dh) k acc
      = ([⟨Rect.unit (s := S256x1024) (k1_off1 k) S8x1024.size (k1_off1_inb k), k1_pay3 acc (rows dh (tn1 k)) (k1_pay6 acc (rows a (tn1 k)) (rows dh (tn1 k)))⟩],
         [⟨Rect.unit (s := S256x1024) (k1_off1 k) S8x1024.size (k1_off1_inb k),
            k1_pay4 acc (rows dh (tn1 k)) (k1_pay6 acc (rows a (tn1 k)) (rows dh (tn1 k))) (rows h (tn1 k)) (rows u (tn1 k))⟩]) := by
  rw [← load1 arg1 harg1 a k (k1_off1_inb k), ← load1 arg4 harg4 dh k (k1_off1_inb k), ← load1 arg2 harg2 u k (k1_off1_inb k),
    ← load1 arg3 harg3 h k (k1_off1_inb k)]
  unfold tripL_k1_t1 trip_k1_t1
  rfl

/-- A list of pieces that are the tiles from `32 - n` on of the chunk `G`. -/
structure TilesOf (G : Vec F S256x1024 .f32) (n : ℕ) (L : List (View.Piece (Elt F) S256x1024 .f32)) : Prop where
  piece : ∀ p ∈ L, ∀ x, p.2 x = G (p.1.emb x)
  cover : ∀ y : S256x1024.Idx, (rev (tileOf y)).val < n → ∃ p ∈ L, y ∈ p.1.set

theorem TilesOf.nil (G : Vec F S256x1024 .f32) : TilesOf G 0 [] :=
  ⟨fun p hp => absurd hp List.not_mem_nil, fun y hy => absurd hy (Nat.not_lt_zero _)⟩

theorem TilesOf.step (tl : Fin 32 → Vec F S8x1024 .f32) {n : ℕ} (hn : n < k1_t1_loop.trips) {L : List (View.Piece (Elt F) S256x1024 .f32)}
    (hL : TilesOf (glue tl) n L) (w : Vec F S8x1024 .f32) (hw : w = tl (tn1 ⟨n, hn⟩)) :
    TilesOf (glue tl) (n + 1) ([⟨Rect.unit (s := S256x1024) (k1_off1 ⟨n, hn⟩) S8x1024.size (k1_off1_inb ⟨n, hn⟩), w⟩] ++ L) where
  piece p hp := by
    rcases List.mem_append.mp hp with hp | hp
    · obtain rfl := List.mem_singleton.mp hp
      intro x
      subst hw
      exact (glue_emb tl (tn1 ⟨n, hn⟩) _ (off1 ⟨n, hn⟩) (k1_off1_inb ⟨n, hn⟩) x).symm
    · exact hL.piece p hp
  cover y hy := by
    by_cases hy' : (rev (tileOf y)).val < n
    · obtain ⟨p, hp, hm⟩ := hL.cover y hy'
      exact ⟨p, List.mem_append_right _ hp, hm⟩
    · have e : rev (tileOf y) = ⟨n, by omega⟩ := Fin.ext (by show (rev (tileOf y)).val = n; omega)
      have e' : tn1 ⟨n, hn⟩ = tileOf y := by rw [← rev_rev (tileOf y), e]
      exact ⟨_, List.mem_append_left _ (List.mem_singleton.mpr rfl), mem_tile y _ ((off1 ⟨n, hn⟩).trans (by rw [e'])) (k1_off1_inb ⟨n, hn⟩)⟩

/-- Before trip `n` the loop carries `carry1 n`, and the pieces written so far are the last `n` tiles of `lam1` and `dla1`. -/
theorem st1 (a u h dh : Vec F S256x1024 .f32) (c0 : Vec F S1x1024 .f32) : ∀ n, n ≤ 32 →
    (st_k1_t1 (F := F) 𝒱 c bd i arg1 harg1 arg2 harg2 arg3 harg3 arg4 harg4 arg5 harg5 arg6 harg6 arg7 harg7 (harg1.unread a) (harg2.unread u) (harg3.unread h) (harg4.unread dh) c0 n).1 = carry1 a dh c0 n
    ∧ TilesOf (lam1 a dh c0) n (st_k1_t1 (F := F) 𝒱 c bd i arg1 harg1 arg2 harg2 arg3 harg3 arg4 harg4 arg5 harg5 arg6 harg6 arg7 harg7 (harg1.unread a) (harg2.unread u) (harg3.unread h) (harg4.unread dh) c0 n).2.1
    ∧ TilesOf (dla1 a u h dh c0) n (st_k1_t1 (F := F) 𝒱 c bd i arg1 harg1 arg2 harg2 arg3 harg3 arg4 harg4 arg5 harg5 arg6 harg6 arg7 harg7 (harg1.unread a) (harg2.unread u) (harg3.unread h) (harg4.unread dh) c0 n).2.2
  | 0, _ => ⟨rfl, TilesOf.nil _, TilesOf.nil _⟩
  | n + 1, hn => by
    obtain ⟨h1, h2, h3⟩ := st1 a u h dh c0 n (by omega)
    have hk : n < 32 := by omega
    have hkt : n < k1_t1_loop.trips := by rw [trips1]; exact hk
    have hs := st_k1_t1_succ (F := F) 𝒱 c bd i arg1 harg1 arg2 harg2 arg3 harg3 arg4 harg4 arg5 harg5 arg6 harg6 arg7 harg7 (harg1.unread a) (harg2.unread u) (harg3.unread h) (harg4.unread dh) c0 ⟨n, hkt⟩
    rw [h1, tripR1, tripL1] at hs
    rw [show (⟨n, hkt⟩ : Fin k1_t1_loop.trips).val = n from rfl] at hs
    rw [hs]
    have hc : carry1 a dh c0 n = carryAt1 a dh c0 (tn1 ⟨n, hkt⟩) := by
      show _ = carry1 a dh c0 (31 - (31 - n))
      rw [show 31 - (31 - n) = n from by omega]
    refine ⟨?_, ?_, ?_⟩
    · show _ = carry1 a dh c0 (n + 1)
      rw [carry1, dif_pos hk]
    · exact TilesOf.step (lamTile1 a dh c0) hkt h2 _ (by rw [hc]; rfl)
    · exact TilesOf.step (dlaTile1 a u h dh c0) hkt h3 _ (by rw [hc]; rfl)

/-- After the loop a buffer written with all tiles reads the chunk, whatever it held. -/
theorem TilesOf.read {G : Vec F S256x1024 .f32} {L : List (View.Piece (Elt F) S256x1024 .f32)} (hL : TilesOf G 32 L)
    (M : Memref sig .tc .vmem S256x1024 .f32) (f : BufTy.Contents (Elt F) M.view.ty) :
    M.view.read (Elt F) (M.view.writes (Elt F) f L) = G := by
  funext y
  exact View.read_writes_apply_of_pieces _ _ _ _ hL.piece y (hL.cover y (rev (tileOf y)).isLt)

theorem st1_last (a u h dh : Vec F S256x1024 .f32) (c0 : Vec F S1x1024 .f32) :
    (st_k1_t1 (F := F) 𝒱 c bd i arg1 harg1 arg2 harg2 arg3 harg3 arg4 harg4 arg5 harg5 arg6 harg6 arg7 harg7 (harg1.unread a) (harg2.unread u) (harg3.unread h) (harg4.unread dh) c0 k1_t1_loop.trips).1 = carry1 a dh c0 32
    ∧ TilesOf (lam1 a dh c0) 32 (st_k1_t1 (F := F) 𝒱 c bd i arg1 harg1 arg2 harg2 arg3 harg3 arg4 harg4 arg5 harg5 arg6 harg6 arg7 harg7 (harg1.unread a) (harg2.unread u) (harg3.unread h) (harg4.unread dh) c0 k1_t1_loop.trips).2.1
    ∧ TilesOf (dla1 a u h dh c0) 32 (st_k1_t1 (F := F) 𝒱 c bd i arg1 harg1 arg2 harg2 arg3 harg3 arg4 harg4 arg5 harg5 arg6 harg6 arg7 harg7 (harg1.unread a) (harg2.unread u) (harg3.unread h) (harg4.unread dh) c0 k1_t1_loop.trips).2.2 := by
  rw [trips1]; exact st1 (F := F) 𝒱 c bd i arg1 harg1 arg2 harg2 arg3 harg3 arg4 harg4 arg5 harg5 arg6 harg6 arg7 harg7 a u h dh c0 32 (Nat.le_refl _)

end Loop

/-! ## The body's triples -/

/-- The body's condition: the grid's first point. -/
abbrev cond1 (i : grid1.Coords) : Prop := (Scalar.cmpi .ne (Scalar.extui (Scalar.cmpi .eq (BitVec.ofNat 32 (i 0).val) 0#32)) 0#32) = 1#1

theorem hcond1 : ∀ t : Fin cfg1.N, cond1 (grid1.coords t) ↔ t.val = 0 :=
  (by decide +kernel : ∀ t : Fin grid1.N, cond1 (grid1.coords t) ↔ t.val = 0)

/-- Storing the carried row restates it. -/
theorem pay5_1 (v : Vec F S1x1024 .f32) : k1_pay5 v = v := by
  unfold k1_pay5; exact shapeCast_self _ _

section Body

variable (c : Dev nD) (i : grid1.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)

/-- What the body leaves, from the carried row `c0`. -/
abbrev Left1 (a u h dh : Vec F S256x1024 .f32) (c0 : Vec F S1x1024 .f32) : sProp 𝕄 :=
  iprop(owns (c : Thread nD τ) arg1 fullShare a ∗ owns (c : Thread nD τ) arg2 fullShare u ∗ owns (c : Thread nD τ) arg3 fullShare h
    ∗ owns (c : Thread nD τ) arg4 fullShare dh ∗ owns (c : Thread nD τ) arg5 fullShare (lam1 a dh c0)
    ∗ owns (c : Thread nD τ) arg6 fullShare (dla1 a u h dh c0) ∗ owns (c : Thread nD τ) arg7 fullShare (carry1 a dh c0 32))

set_option maxHeartbeats 1000000 in
/-- The body at the first point: the carried row starts at zero. -/
theorem body1_first (hc : cond1 i) (a u h dh : Vec F S256x1024 .f32) (E : Set ℕ) (K : PUnit → sProp 𝕄) :
    iprop(owns (c : Thread nD τ) arg1 fullShare a ∗ owns (c : Thread nD τ) arg2 fullShare u ∗ owns (c : Thread nD τ) arg3 fullShare h
        ∗ owns (c : Thread nD τ) arg4 fullShare dh ∗ (∃ d, owns (c : Thread nD τ) arg5 fullShare d) ∗ (∃ d, owns (c : Thread nD τ) arg6 fullShare d)
        ∗ (∃ d, owns (c : Thread nD τ) arg7 fullShare d) ∗ (Left1 c arg1 arg2 arg3 arg4 arg5 arg6 arg7 a u h dh k1_pay1 -∗ K ⟨⟩))
      ⊢ wp frame (wpE (defs₀ (F := F)) Variants.none c none) E (cc1_scan_bwd i arg1 harg1 arg2 harg2 arg3 harg3 arg4 harg4 arg5 harg5 arg6 harg6 arg7 harg7) K := by
  simp only [cc1_scan_bwd_eq_skeleton]; unfold cc1_scan_bwd_skel Left1
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg1.eq_unread hf0; obtain rfl := harg2.eq_unread hf1; obtain rfl := harg3.eq_unread hf2
  obtain rfl := harg4.eq_unread hf3
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.readCov_full]
    exact (st1_last (F := F) Variants.none c none i arg1 harg1 arg2 harg2 arg3 harg3 arg4 harg4 arg5 harg5 arg6 harg6 arg7 harg7 a u h dh k1_pay1).2.1.read _ _
  isplitl [H5]
  · iexists _; isplitr
    swap; · iexact H5
    ipureintro
    sl_unfold_words
    rw [View.readCov_full]
    exact (st1_last (F := F) Variants.none c none i arg1 harg1 arg2 harg2 arg3 harg3 arg4 harg4 arg5 harg5 arg6 harg6 arg7 harg7 a u h dh k1_pay1).2.2.read _ _
  · iexists _; isplitr
    swap; · iexact HS0
    ipureintro
    sl_unfold_words
    rw [View.readCov_full]
    exact (View.read_writes_full _ _ _ _ _).trans ((pay5_1 _).trans (st1_last (F := F) Variants.none c none i arg1 harg1 arg2 harg2 arg3 harg3 arg4 harg4 arg5 harg5 arg6 harg6 arg7 harg7 a u h dh k1_pay1).1)

set_option maxHeartbeats 1000000 in
/-- The body at a later point: the carried row starts at what the scratch holds. -/
theorem body1_later (hc : ¬ cond1 i) (a u h dh : Vec F S256x1024 .f32) (s : Vec F S1x1024 .f32) (E : Set ℕ) (K : PUnit → sProp 𝕄) :
    iprop(owns (c : Thread nD τ) arg1 fullShare a ∗ owns (c : Thread nD τ) arg2 fullShare u ∗ owns (c : Thread nD τ) arg3 fullShare h
        ∗ owns (c : Thread nD τ) arg4 fullShare dh ∗ (∃ d, owns (c : Thread nD τ) arg5 fullShare d) ∗ (∃ d, owns (c : Thread nD τ) arg6 fullShare d)
        ∗ owns (c : Thread nD τ) arg7 fullShare s ∗ (Left1 c arg1 arg2 arg3 arg4 arg5 arg6 arg7 a u h dh s -∗ K ⟨⟩))
      ⊢ wp frame (wpE (defs₀ (F := F)) Variants.none c none) E (cc1_scan_bwd i arg1 harg1 arg2 harg2 arg3 harg3 arg4 harg4 arg5 harg5 arg6 harg6 arg7 harg7) K := by
  simp only [cc1_scan_bwd_eq_skeleton]; unfold cc1_scan_bwd_skel Left1
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  obtain rfl := harg1.eq_unread hf0; obtain rfl := harg2.eq_unread hf1; obtain rfl := harg3.eq_unread hf2
  obtain rfl := harg4.eq_unread hf3; obtain rfl := harg7.eq_unread hfs0
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    rw [View.readAt_full, harg7.read_unread]
    exact (st1_last (F := F) Variants.none c none i arg1 harg1 arg2 harg2 arg3 harg3 arg4 harg4 arg5 harg5 arg6 harg6 arg7 harg7 a u h dh s).2.1.read _ _
  isplitl [H5]
  · iexists _; isplitr
    swap; · iexact H5
    ipureintro
    sl_unfold_words
    rw [View.readAt_full, harg7.read_unread]
    exact (st1_last (F := F) Variants.none c none i arg1 harg1 arg2 harg2 arg3 harg3 arg4 harg4 arg5 harg5 arg6 harg6 arg7 harg7 a u h dh s).2.2.read _ _
  · iexists _; isplitr
    swap; · iexact HS0
    ipureintro
    sl_unfold_words
    rw [View.readAt_full, harg7.read_unread]
    exact (View.read_writes_full _ _ _ _ _).trans ((pay5_1 _).trans (st1_last (F := F) Variants.none c none i arg1 harg1 arg2 harg2 arg3 harg3 arg4 harg4 arg5 harg5 arg6 harg6 arg7 harg7 a u h dh s).1)

end Body

end Cert.KernelIdeal.Scan

end
-- ==== Proof.Scan.Dats.lean ====
/-
  The two scans' proof data and body obligations, at any contents `V` of the buffers each region is entered with.

  Between two grid points a scan keeps its carried row in its scratch: `chunkCarry0 V c n` and `chunkCarry1 V c n` are that row before point
  `n`, by recursion over the chunks. The invariant before point `n` is the scratch at that row (at anything before the first point,
  which zeroes it) beside whatever else the region's scoped buffers hold.
-/
module

public import proofs.«01_k».proof.Proof.Scan.Bwd
public import Idealize.ShloMosaic.Lib.Pipeline.RegionArraysS
public import Idealize.ShloMosaic.Lib.Pipeline.FrameTail

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-! ## Region 0 -/

/-- What window `w` stages at point `t`: its block of the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's buffer holds its block at every point, for proof data that enter at `V` and leave the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input 1's buffer holds its block at every point, for proof data that enter at `V` and leave the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The carried row before point `n`: zero, then what each chunk leaves. -/
def chunkCarry0 (c : Dev nD) : ℕ → Vec F S1x1024 .f32
  | 0 => k0_pay1
  | n + 1 => if h : n < cfg0.N then carry0 (iblk0 V c 0 ⟨n, h⟩) (iblk0 V c 1 ⟨n, h⟩) (chunkCarry0 c n) 32 else chunkCarry0 c n

/-- The scratch that carries the row. -/
abbrev scM0 : Memref sig .tc .vmem S1x1024 .f32 := Memref.whole cc0_scratch0

/-- The invariant before point `n`. -/
def Phi0 (c : Dev nD) (n : ℕ) : sProp 𝕄 :=
  iprop(∃ s : Vec F S1x1024 .f32, ⌜n ≠ 0 → s = chunkCarry0 V c n⌝ ∗ owns (c : Thread nD τ) scM0 fullShare s
    ∗ (iprop(∃ f : Buf (Elt F) ((c : Thread nD τ).loc cc0_scratch0), ((c : Thread nD τ).loc cc0_scratch0) ↦{fullShare} f)
        -∗ Pipeline.scopedRest (Ix := Unit) (Name := ℕ) (U := UR sig nD τ) (Lvl := ℕ) (Val := Elt F) spec0 c))

/-- The proof data of region 0, entered at `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t) (chunkCarry0 V c t.val)
  Φ t := Phi0 V c t.val
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) (chunkCarry0 V c t.val) := by dsimp only [dat0]
theorem before0_0 (c : Dev nD) (t : Fin cfg0.N) (d) : (dat0 V c).before 0 t d = iblk0 V c 0 t :=
  before0_0_of V (dat0 V c) (A0_eq V c 0) (after0_0 V c) t d
theorem before0_1 (c : Dev nD) (t : Fin cfg0.N) (d) : (dat0 V c).before 1 t d = iblk0 V c 1 t :=
  before0_1_of V (dat0 V c) (A0_eq V c 1) (after0_1 V c) t d
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
abbrev ms0_0 (t : Fin cfg0.N) : Memref sig .tc .vmem S256x1024 .f32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S256x1024 .f32 := win0_2.stage (cfg0.slots t 2)

/-- The next point's carried row. -/
theorem chunkCarry0_succ (c : Dev nD) (t : Fin cfg0.N) :
    chunkCarry0 V c (t.val + 1) = carry0 (iblk0 V c 0 t) (iblk0 V c 1 t) (chunkCarry0 V c t.val) 32 := by
  rw [chunkCarry0, dif_pos t.isLt]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 2000000 in
/-- The body at any point: the first zeroes the carried row, a later one finds it in the scratch. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = Phi0 V c (t.val + 1) from rfl, show (dat0 V c).Φ t.castSucc = Phi0 V c t.val from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  unfold Phi0
  by_cases hz : t.val = 0
  · rw [chunkCarry0_succ, show chunkCarry0 V c t.val = k0_pay1 from by rw [hz]; rfl]
    iintro ⟨⟨%s, -, HS, Hw⟩, Ho, ⟨%d0, H0⟩, ⟨%d1, H1⟩, ⟨%d2, H2⟩⟩
    iapply (body0_first c (grid0.coords t) _ _ _ _ _ _ _ _ ((hcond0 t).mpr hz) (iblk0 V c 0 t) (iblk0 V c 1 t) Set.univ _)
    isplitl [H0]; · iexact H0
    isplitl [H1]; · iexact H1
    isplitl [H2]; · iexists _; iexact H2
    isplitl [HS]; · iexists _; iexact HS
    iintro ⟨H0, H1, H2, HS⟩
    isplitl [HS Hw]
    · iexists _; isplitr; swap
      · isplitl [HS]; · iexact HS
        iexact Hw
      · ipureintro; exact fun _ => rfl
    isplitl [Ho]; · iexact Ho
    isplitl [H0]; · iexact H0
    isplitl [H1]; · iexact H1
    iexact H2
  · rw [chunkCarry0_succ]
    iintro ⟨⟨%s, %hs, HS, Hw⟩, Ho, ⟨%d0, H0⟩, ⟨%d1, H1⟩, ⟨%d2, H2⟩⟩
    obtain rfl := hs hz
    iapply (body0_later c (grid0.coords t) _ _ _ _ _ _ _ _ (fun h => hz ((hcond0 t).mp h)) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hw]
    · iexists _; isplitr; swap
      · isplitl [HS]; · iexact HS
        iexact Hw
      · ipureintro; exact fun _ => rfl
    isplitl [Ho]; · iexact Ho
    isplitl [H0]; · iexact H0
    isplitl [H1]; · iexact H1
    iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

/-! ## Region 1 -/

/-- What window `w` stages at point `t`: its block of the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's buffer holds its block at every point, for proof data that enter at `V` and leave the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input 1's buffer holds its block at every point, for proof data that enter at `V` and leave the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input 2's buffer holds its block at every point, for proof data that enter at `V` and leave the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input 3's buffer holds its block at every point, for proof data that enter at `V` and leave the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The carried row before point `n`: zero, then what each chunk leaves. -/
def chunkCarry1 (c : Dev nD) : ℕ → Vec F S1x1024 .f32
  | 0 => k1_pay1
  | n + 1 => if h : n < cfg1.N then carry1 (iblk1 V c 0 ⟨n, h⟩) (iblk1 V c 3 ⟨n, h⟩) (chunkCarry1 c n) 32 else chunkCarry1 c n

/-- The scratch that carries the row. -/
abbrev scM1 : Memref sig .tc .vmem S1x1024 .f32 := Memref.whole cc1_scratch0

/-- The invariant before point `n`. -/
def Phi1 (c : Dev nD) (n : ℕ) : sProp 𝕄 :=
  iprop(∃ s : Vec F S1x1024 .f32, ⌜n ≠ 0 → s = chunkCarry1 V c n⌝ ∗ owns (c : Thread nD τ) scM1 fullShare s
    ∗ (iprop(∃ f : Buf (Elt F) ((c : Thread nD τ).loc cc1_scratch0), ((c : Thread nD τ).loc cc1_scratch0) ↦{fullShare} f)
        -∗ Pipeline.scopedRest (Ix := Unit) (Name := ℕ) (U := UR sig nD τ) (Lvl := ℕ) (Val := Elt F) spec1 c))

/-- The proof data of region 1, entered at `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => lam1 (iblk1 V c 0 t) (iblk1 V c 3 t) (chunkCarry1 V c t.val)
    | ⟨5, _⟩ => dla1 (iblk1 V c 0 t) (iblk1 V c 1 t) (iblk1 V c 2 t) (iblk1 V c 3 t) (chunkCarry1 V c t.val)
  Φ t := Phi1 V c t.val
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = lam1 (iblk1 V c 0 t) (iblk1 V c 3 t) (chunkCarry1 V c t.val) := by dsimp only [dat1]
theorem after1_5 (c : Dev nD) (t : Fin cfg1.N) : (dat1 V c).after 5 t = dla1 (iblk1 V c 0 t) (iblk1 V c 1 t) (iblk1 V c 2 t) (iblk1 V c 3 t) (chunkCarry1 V c t.val) := by dsimp only [dat1]
theorem before1_0 (c : Dev nD) (t : Fin cfg1.N) (d) : (dat1 V c).before 0 t d = iblk1 V c 0 t :=
  before1_0_of V (dat1 V c) (A1_eq V c 0) (after1_0 V c) t d
theorem before1_1 (c : Dev nD) (t : Fin cfg1.N) (d) : (dat1 V c).before 1 t d = iblk1 V c 1 t :=
  before1_1_of V (dat1 V c) (A1_eq V c 1) (after1_1 V c) t d
theorem before1_2 (c : Dev nD) (t : Fin cfg1.N) (d) : (dat1 V c).before 2 t d = iblk1 V c 2 t :=
  before1_2_of V (dat1 V c) (A1_eq V c 2) (after1_2 V c) t d
theorem before1_3 (c : Dev nD) (t : Fin cfg1.N) (d) : (dat1 V c).before 3 t d = iblk1 V c 3 t :=
  before1_3_of V (dat1 V c) (A1_eq V c 3) (after1_3 V c) t d
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
abbrev ms1_0 (t : Fin cfg1.N) : Memref sig .tc .vmem S256x1024 .f32 := win1_0.stage (cfg1.slots t 0)
abbrev ms1_1 (t : Fin cfg1.N) : Memref sig .tc .vmem S256x1024 .f32 := win1_1.stage (cfg1.slots t 1)
abbrev ms1_2 (t : Fin cfg1.N) : Memref sig .tc .vmem S256x1024 .f32 := win1_2.stage (cfg1.slots t 2)
abbrev ms1_3 (t : Fin cfg1.N) : Memref sig .tc .vmem S256x1024 .f32 := win1_3.stage (cfg1.slots t 3)
abbrev ms1_4 (t : Fin cfg1.N) : Memref sig .tc .vmem S256x1024 .f32 := win1_4.stage (cfg1.slots t 4)
abbrev ms1_5 (t : Fin cfg1.N) : Memref sig .tc .vmem S256x1024 .f32 := win1_5.stage (cfg1.slots t 5)

/-- The next point's carried row. -/
theorem chunkCarry1_succ (c : Dev nD) (t : Fin cfg1.N) :
    chunkCarry1 V c (t.val + 1) = carry1 (iblk1 V c 0 t) (iblk1 V c 3 t) (chunkCarry1 V c t.val) 32 := by
  rw [chunkCarry1, dif_pos t.isLt]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 2000000 in
/-- The body at any point: the first zeroes the carried row, a later one finds it in the scratch. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = Phi1 V c (t.val + 1) from rfl, show (dat1 V c).Φ t.castSucc = Phi1 V c t.val from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  unfold Phi1
  by_cases hz : t.val = 0
  · rw [chunkCarry1_succ, show chunkCarry1 V c t.val = k1_pay1 from by rw [hz]; rfl]
    iintro ⟨⟨%s, -, HS, Hw⟩, Ho, ⟨%d0, H0⟩, ⟨%d1, H1⟩, ⟨%d2, H2⟩, ⟨%d3, H3⟩, ⟨%d4, H4⟩, ⟨%d5, H5⟩⟩
    iapply (body1_first c (grid1.coords t) _ _ _ _ _ _ _ _ _ _ _ _ _ _ ((hcond1 t).mpr hz) (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    isplitl [HS Hw]
    · iexists _; isplitr; swap
      · isplitl [HS]; · iexact HS
        iexact Hw
      · ipureintro; exact fun _ => rfl
    isplitl [Ho]; · iexact Ho
    isplitl [H0]; · iexact H0
    isplitl [H1]; · iexact H1
    isplitl [H2]; · iexact H2
    isplitl [H3]; · iexact H3
    isplitl [H4]; · iexact H4
    iexact H5
  · rw [chunkCarry1_succ]
    iintro ⟨⟨%s, %hs, HS, Hw⟩, Ho, ⟨%d0, H0⟩, ⟨%d1, H1⟩, ⟨%d2, H2⟩, ⟨%d3, H3⟩, ⟨%d4, H4⟩, ⟨%d5, H5⟩⟩
    obtain rfl := hs hz
    iapply (body1_later c (grid1.coords t) _ _ _ _ _ _ _ _ _ _ _ _ _ _ (fun h => hz ((hcond1 t).mp h)) (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hw]
    · iexists _; isplitr; swap
      · isplitl [HS]; · iexact HS
        iexact Hw
      · ipureintro; exact fun _ => rfl
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

end Cert.KernelIdeal.Scan

end
-- ==== Proof.Scan.Run.lean ====
/-
  The whole program's run, for any values `F`: the host's exponential, then the forward scan's region, then the backward scan's.

  `VA` is what the buffers hold when the first region is entered, `VB` when the second is, `VC` at the end. Every weakly fair
  execution ends with the arguments as launched, the two results at what the backward scan's write-backs leave (`dat1 … arrAt`), and
  every semaphore counter at zero.
-/
module

public import proofs.«01_k».proof.Proof.Scan.Dats

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- When the forward scan is entered. -/
abbrev VA (c : Dev nD) : Valuation τ sig (Elt F) := V1 m c
/-- When the backward scan is entered. -/
def VB (c : Dev nD) : Valuation τ sig (Elt F) := Pipeline.afterRegion (dat0 (VA m) c) (VA m c)
/-- At the end. -/
def VC (c : Dev nD) : Valuation τ sig (Elt F) := Pipeline.afterRegion (dat1 (VB m) c) (VB m c)

/-- The two pipelines' proof data. -/
def pdats : (p : Fin 2) → (c : Dev nD) → Dat τ (Elt F) Unit ℕ (UR sig nD τ) ℕ (cfgs p) c
  | ⟨0, _⟩ => fun c => dat0 (VA m) c
  | ⟨1, _⟩ => fun c => dat1 (VB m) c

/-- A buffer the forward scan does not write is as it was. -/
theorem VB_of (c : Dev nD) (r : Ref sig .tc) (h : ∀ w, Pipeline.arrRef spec0 w = r → (cfg0.win w).isOut = false) : VB m c r = VA m c r :=
  Pipeline.afterRegion_keeps (dat0 (VA m) c) (VA m c) winFacts0.arr_inj (A0_eq (VA m) c) r h
/-- A buffer the backward scan does not write is as it was. -/
theorem VC_of (c : Dev nD) (r : Ref sig .tc) (h : ∀ w, Pipeline.arrRef spec1 w = r → (cfg1.win w).isOut = false) : VC m c r = VB m c r :=
  Pipeline.afterRegion_keeps (dat1 (VB m) c) (VB m c) winFacts1.arr_inj (A1_eq (VB m) c) r h

theorem VB_arr (c : Dev nD) (w : Fin cfg0.W) : VB m c (Pipeline.arrRef spec0 w) = (dat0 (VA m) c).arrAt w cfg0.N :=
  Pipeline.afterRegion_arr (dat0 (VA m) c) (VA m c) winFacts0.arr_inj w
theorem VC_arr (c : Dev nD) (w : Fin cfg1.W) : VC m c (Pipeline.arrRef spec1 w) = (dat1 (VB m) c).arrAt w cfg1.N :=
  Pipeline.afterRegion_arr (dat1 (VB m) c) (VB m c) winFacts1.arr_inj w

theorem VC_main_arg0 (c : Dev nD) : VC m c main_arg0 = m ((c : Thread nD τ).loc main_arg0) :=
  (VC_of m c main_arg0 (by decide)).trans <| (VB_of m c main_arg0 (by decide)).trans <| (V1_of m c main_arg0 (by decide)).trans rfl
theorem VC_main_arg1 (c : Dev nD) : VC m c main_arg1 = m ((c : Thread nD τ).loc main_arg1) :=
  (VC_of m c main_arg1 (by decide)).trans <| (VB_of m c main_arg1 (by decide)).trans <| (V1_of m c main_arg1 (by decide)).trans rfl
theorem VC_main_arg2 (c : Dev nD) : VC m c main_arg2 = m ((c : Thread nD τ).loc main_arg2) :=
  (VC_of m c main_arg2 (by decide)).trans <| (VB_of m c main_arg2 (by decide)).trans <| (V1_of m c main_arg2 (by decide)).trans rfl

/-! ## The regions' records -/

/-- The pipelines' own semaphores carry the one index there is, all at one level; no core owes another anything. -/
abbrev L : GSem nD τ sig → Finset Unit := fun g => if g.1.2 = .tc then Finset.univ else ∅
abbrev lv : GSem nD τ sig → Unit → ℕ := fun _ _ => 0

theorem cut (p : Fin 2) : Pipeline.LevelCut (pcfgs (F := F)) adm () L lv p (fun _ => 0) (fun _ => 0) where
  hι c w s := by show () ∈ (if _ then _ else _); rw [if_pos rfl]; exact Finset.mem_univ _
  hιb c w s := Nat.le_refl _
  hD c g i h := absurd h (lt_irrefl _)

/-- The scratch is among the region's scoped buffers, and comes back to them. -/
theorem hin0 (V : Dev nD → Valuation τ sig (Elt F)) (c : Dev nD) :
    iprop(Pipeline.scopedRest spec0 c ∗ emp) ⊢ (dat0 V c).Φ 0 := by
  rw [show (dat0 V c).Φ 0 = Phi0 V c 0 from rfl]
  unfold Phi0
  simp only [scM0, owns_whole]
  rw [scopedRest0_eq]
  iintro ⟨⟨⟨%f, HS⟩, HR⟩, -⟩
  iexists f
  isplitr; · ipureintro; exact fun h => absurd rfl h
  isplitl [HS]; · iexact HS
  iintro HS
  isplitl [HS]; · iexact HS
  iexact HR

theorem hout0 (V : Dev nD → Valuation τ sig (Elt F)) (c : Dev nD) :
    (dat0 V c).Φ (Fin.last cfg0.N) ⊢ iprop(Pipeline.scopedRest spec0 c ∗ emp) := by
  rw [show (dat0 V c).Φ (Fin.last cfg0.N) = Phi0 V c cfg0.N from rfl]
  unfold Phi0
  simp only [scM0, owns_whole]
  iintro ⟨%s, -, HS, Hw⟩
  isplitl [HS Hw]
  · iapply Hw
    iexists s; iexact HS
  iempintro

theorem hin1 (V : Dev nD → Valuation τ sig (Elt F)) (c : Dev nD) :
    iprop(Pipeline.scopedRest spec1 c ∗ emp) ⊢ (dat1 V c).Φ 0 := by
  rw [show (dat1 V c).Φ 0 = Phi1 V c 0 from rfl]
  unfold Phi1
  simp only [scM1, owns_whole]
  rw [scopedRest1_eq]
  iintro ⟨⟨H0, H1, H2, H3, H4, H5, H6, ⟨%f, HS⟩⟩, -⟩
  iexists f
  isplitr; · ipureintro; exact fun h => absurd rfl h
  isplitl [HS]; · iexact HS
  iintro HS
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HS

theorem hout1 (V : Dev nD → Valuation τ sig (Elt F)) (c : Dev nD) :
    (dat1 V c).Φ (Fin.last cfg1.N) ⊢ iprop(Pipeline.scopedRest spec1 c ∗ emp) := by
  rw [show (dat1 V c).Φ (Fin.last cfg1.N) = Phi1 V c cfg1.N from rfl]
  unfold Phi1
  simp only [scM1, owns_whole]
  iintro ⟨%s, -, HS, Hw⟩
  isplitl [HS Hw]
  · iapply Hw
    iexists s; iexact HS
  iempintro

/-- What rides along between the items: what the core owes. -/
abbrev E (_ : Fin 3) (c : Dev nD) : sProp 𝕄 := iprop((∃ W, owes (c : Thread nD τ) (0 : CellTallies nD τ sig Unit) W) ∗ emp ∗ emp)

set_option backward.isDefEq.respectTransparency.types false in
/-- The forward scan's region, entered at `VA`. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => iprop(emp)) (fun _ => iprop(emp))
    launch0.toP rfl (fun c => (body_obligation0 (VA m) c).loose) (fun _ _ => rfl) (fun _ => rfl)
    (fun c => (dat0 (VA m) c).share_full fun _ => rfl) (hin0 (VA m)) (hout0 (VA m)) (fun _ => 0) (cut 0) (fun _ => iprop(emp)) (VA m)
    (fun c w => A0_eq (VA m) c w)

set_option backward.isDefEq.respectTransparency.types false in
/-- The backward scan's region, entered at `VB`. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) (fun _ => iprop(emp)) (fun _ => iprop(emp))
    launch1.toP rfl (fun c => (body_obligation1 (VB m) c).loose) (fun _ _ => rfl) (fun _ => rfl)
    (fun c => (dat1 (VB m) c).share_full fun _ => rfl) (hin1 (VB m)) (hout1 (VB m)) (fun _ => 0) (cut 1) (fun _ => iprop(emp)) (VB m)
    (fun c w => A1_eq (VB m) c w)

theorem arr_sub0 : Pipeline.arrRefs (pcfgs (F := F) 0).spec ⊆ Pipeline.ucRefs τ sig :=
  Pipeline.arrRefs_sub_ucRefs _ (by decide : ∀ w, (Pipeline.arrRef spec0 w).isScoped = false)

set_option backward.isDefEq.respectTransparency.types false in
theorem hpre0 (c : Dev nD) : iprop(StableHlo.held (c : Thread nD τ) (Pipeline.ucRefs τ sig) (VA m c) ∗ E (F := F) 0 c) ⊢ (R0 m).pre c := by
  unfold R0
  exact RegionSeg.ofHeldIn_pre (pcs := pcfgs (F := F)) (a := adm) (pdats := pdats m) (ι := ()) (defs₀ := defs₀) (𝒱₀ := Variants.none) (L := L) (lv := lv) (p := 0)
    (D := fun _ => 0) (b := fun _ => 0) (Y := fun _ => iprop(emp)) (S := Pipeline.ucRefs τ sig) (W := VA m) (R := fun _ => iprop(emp)) (X := fun _ => iprop(emp)) arr_sub0 c

theorem VB_eq (c : Dev nD) : VB m c = Pipeline.afterRegion (pdats m 0 c) (VA m c) := rfl

set_option backward.isDefEq.respectTransparency.types false in
theorem hpost0 (c : Dev nD) : (R0 m).post c ⊢ iprop(StableHlo.held (c : Thread nD τ) (Pipeline.ucRefs τ sig) (VB m c) ∗ E (F := F) 1 c) := by
  rw [VB_eq]
  unfold R0
  exact RegionSeg.ofHeldIn_post (S := Pipeline.ucRefs τ sig) (W := VA m) (R := fun _ => iprop(emp)) (Y := fun _ => iprop(emp)) arr_sub0 c

theorem arr_sub1 : Pipeline.arrRefs (pcfgs (F := F) 1).spec ⊆ Pipeline.ucRefs τ sig :=
  Pipeline.arrRefs_sub_ucRefs _ (by decide : ∀ w, (Pipeline.arrRef spec1 w).isScoped = false)

set_option backward.isDefEq.respectTransparency.types false in
theorem hpre1 (c : Dev nD) : iprop(StableHlo.held (c : Thread nD τ) (Pipeline.ucRefs τ sig) (VB m c) ∗ E (F := F) 1 c) ⊢ (R1 m).pre c := by
  unfold R1
  exact RegionSeg.ofHeldIn_pre (pcs := pcfgs (F := F)) (a := adm) (pdats := pdats m) (ι := ()) (defs₀ := defs₀) (𝒱₀ := Variants.none) (L := L) (lv := lv) (p := 1)
    (D := fun _ => 0) (b := fun _ => 0) (Y := fun _ => iprop(emp)) (S := Pipeline.ucRefs τ sig) (W := VB m) (R := fun _ => iprop(emp)) (X := fun _ => iprop(emp)) arr_sub1 c

theorem VC_eq (c : Dev nD) : VC m c = Pipeline.afterRegion (pdats m 1 c) (VB m c) := rfl

set_option backward.isDefEq.respectTransparency.types false in
theorem hpost1 (c : Dev nD) : (R1 m).post c ⊢ iprop(StableHlo.held (c : Thread nD τ) (Pipeline.ucRefs τ sig) (VC m c) ∗ E (F := F) 2 c) := by
  rw [VC_eq]
  unfold R1
  exact RegionSeg.ofHeldIn_post (S := Pipeline.ucRefs τ sig) (W := VB m) (R := fun _ => iprop(emp)) (Y := fun _ => iprop(emp)) arr_sub1 c

/-! ## The run -/

/-- What every final state satisfies on core `c`. -/
abbrev Post (c : Dev nD) (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_v2_0) = VC m c main_v2_0
  ∧ s.mem ((c.tc : Thread nD τ).loc main_v2_1) = VC m c main_v2_1

set_option backward.isDefEq.respectTransparency.types false in
theorem run_main : θ_run defs (onTc (τ := τ) (main (F := F))) ⟨m, fun _ => 0, ρ⟩ (fun r => (∀ c : Dev nD, Post m c r.2) ∧ r.2.sem = fun _ => 0) := by
  refine Pipeline.θ_run_regions_kit_dev_sems (pcfgs (F := F)) adm (pdats m) () cellOf_inj (emb₁ : Emb (UR sig nD τ) 𝕄) defs₀ Variants.none L lv m ρ main
    (segs m Variants.none L lv (E (F := F)) () (pdats m) (R0 m) (R1 m))
    (fun c Q => by
      rewrite [main_chain c, Seg.run_eq_chain,
        show (segs m Variants.none L lv (E (F := F)) () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E (F := F) 0 c))
    (Tₙ := fun c => StableHlo.held (c : Thread nD τ) (Pipeline.ucRefs τ sig) (VC m c))
    (hch := fun c => ⟨.rfl, hpre0 m c, (hpost0 m c).trans (hpre1 m c), (hpost1 m c).trans (sep_mono .rfl (by iintro ⟨H, -, -⟩; iexact H))⟩)
    (hinit := ?_) (QY := Post m) (hfin := fun c s' => ?_) (hQ := fun _ h hz => ⟨h, funext fun g => hz g (.inr (regions_no_unscoped g.2))⟩)
  · rw [ownU_emb₁]
    iintro Hu
    imodintro
    isplitl [Hu]; · iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [← Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    isplitl [HO]; · iexists ∅; iexact HO
    isplitr <;> iempintro
  · unfold StableHlo.held
    iintro ⟨Hh, HSI⟩
    ihave Hr := (pointsTo_read_all (Pipeline.ucRefs τ sig) (fun b => ((c : Thread nD τ).1, b)) (VC m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (VC_main_arg0 m c),
        (h (Proc.devRef .tc main_arg1) (Finset.mem_filter.mpr ⟨StableHlo.devRef_mem_tcRefs main_arg1, by decide⟩)).trans (VC_main_arg1 m c),
        (h (Proc.devRef .tc main_arg2) (Finset.mem_filter.mpr ⟨StableHlo.devRef_mem_tcRefs main_arg2, by decide⟩)).trans (VC_main_arg2 m c),
        h (Proc.devRef .tc main_v2_0) (Finset.mem_filter.mpr ⟨StableHlo.devRef_mem_tcRefs main_v2_0, by decide⟩),
        h (Proc.devRef .tc main_v2_1) (Finset.mem_filter.mpr ⟨StableHlo.devRef_mem_tcRefs main_v2_1, by decide⟩)⟩
    · iexact HSI

end Cert.KernelIdeal.Scan

end
-- ==== Proof.Scan.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference's operations: what prepares each of its two loops, each loop's condition and its body cut into stretches. -/

@[expose] public section

noncomputable section

namespace Cert.ReferenceIdeal.Loops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

/-- The operations that prepare loop 0. -/
abbrev pre0 : List (HloOp τ sig (Elt F)) :=
  [ nullary main_cst (constant S_ .f32 0x00000000#32),
    unary main_cst main_v0 (broadcastInDim S1024 ![] bcast_S_S1024 : (⟨S_, .f32⟩ : BufTy).Contents (Elt F) → (⟨S1024, .f32⟩ : BufTy).Contents (Elt F)),
    nullary main_cst_0 (constant S_ .f32 0x00000000#32),
    unary main_cst_0 main_v1 (broadcastInDim S8448x1024 ![] bcast_S_S8448x1024 : (⟨S_, .f32⟩ : BufTy).Contents (Elt F) → (⟨S8448x1024, .f32⟩ : BufTy).Contents (Elt F)),
    nullary main_cst_1 (constant S_ .f32 0x00000000#32),
    unary main_cst_1 main_v2 (broadcastInDim S8448x1024 ![] bcast_S_S8448x1024 : (⟨S_, .f32⟩ : BufTy).Contents (Elt F) → (⟨S8448x1024, .f32⟩ : BufTy).Contents (Elt F)),
    nullary main_cst_2 (constant S_ .f32 0x00000000#32),
    unary main_cst_2 main_v3 (broadcastInDim S8448x1024 ![] bcast_S_S8448x1024 : (⟨S_, .f32⟩ : BufTy).Contents (Elt F) → (⟨S8448x1024, .f32⟩ : BufTy).Contents (Elt F)),
    nullary main_c (constantI S_ 32 0#32),
    unary main_arg0 main_v4_0 id,
    unary main_arg1 main_v4_1 id,
    unary main_c main_v4_2 id,
    unary main_v0 main_v4_3 id,
    unary main_v1 main_v4_4 id,
    unary main_v2 main_v4_5 id,
    unary main_v3 main_v4_6 id ]

theorem pre0_sub : (pre0 : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩

theorem pre0_fresh : (pre0 : List (HloOp τ sig (Elt F))).Forall fun op => op.fresh = ∅ :=
  forall_fresh_of_map rfl

abbrev pre0_W : List (Ref sig .tc) := [main_cst, main_v0, main_cst_0, main_v1, main_cst_1, main_v2, main_cst_2, main_v3, main_c, main_v4_0, main_v4_1, main_v4_2, main_v4_3, main_v4_4, main_v4_5, main_v4_6]

theorem pre0_writes : (pre0 : List (HloOp τ sig (Elt F))).Forall fun op => op.writes ⊆ (pre0_W.map (Proc.devRef (τ := τ) .tc)).toFinset :=
  forall_writes_sub_of_map rfl

/-- Stretch 0 of loop 0's body. -/
abbrev body0_0 : List (HloOp τ sig (Elt F)) :=
  [ TRef.nullary (.of main_while0b_call0_c : TRef sig ⟨S_, .i32⟩) (constantI S_ 32 0#32),
    TRef.unaryIndexed (.of main_v4_0 : TRef sig ⟨S8448x1024, .f32⟩) ![(.of main_v4_2 : TRef sig ⟨S_, .i32⟩), (.of main_while0b_call0_c : TRef sig ⟨S_, .i32⟩)] (.of main_while0b_call0_v0 : TRef sig ⟨S1x1024, .f32⟩) (fun x i => Host.dynamicSlice S1x1024 x (fun k => (i k (Shape.Idx.first h_S_)).toInt) sliceFits_S8448x1024_S1x1024),
    TRef.reshape (.of main_while0b_call0_v0 : TRef sig ⟨S1x1024, .f32⟩) (.of main_while0b_v10 : TRef sig ⟨S1024, .f32⟩) (rfl : (.f32 : EltTy) = .f32) shapeCasts_S1x1024_S1024 ]

theorem body0_0_sub : (body0_0 : List (HloOp τ sig (Elt F))).Forall fun op => op.bufs ⊆ tcRefs τ sig :=
  ⟨nullary_bufs_sub .., unaryIndexed_bufs_sub .., reshape_bufs_sub ..⟩

theorem body0_0_fresh : (body0_0 : List (HloOp τ sig (Elt F))).Forall fun op => op.fresh = ∅ :=
  forall_fresh_of_map rfl

abbrev body0_0_W : List (Ref sig .tc) := [main_while0b_call0_c, main_while0b_call0_v0, main_while0b_v10]

theorem body0_0_writes : (body0_0 : List (HloOp τ sig (Elt F))).Forall fun op => op.writes ⊆ (body0_0_W.map (Proc.devRef (τ := τ) .tc)).toFinset :=
  forall_writes_sub_of_map rfl

/-- Stretch 1 of loop 0's body. -/
abbrev body0_1 : List (HloOp τ sig (Elt F)) :=
  [ TRef.nullary (.of main_while0b_call1_c : TRef sig ⟨S_, .i32⟩) (constantI S_ 32 0#32),
    TRef.unaryIndexed (.of main_v4_1 : TRef sig ⟨S8448x1024, .f32⟩) ![(.of main_v4_2 : TRef sig ⟨S_, .i32⟩), (.of main_while0b_call1_c : TRef sig ⟨S_, .i32⟩)] (.of main_while0b_call1_v0 : TRef sig ⟨S1x1024, .f32⟩) (fun x i => Host.dynamicSlice S1x1024 x (fun k => (i k (Shape.Idx.first h_S_)).toInt) sliceFits_S8448x1024_S1x1024),
    TRef.reshape (.of main_while0b_call1_v0 : TRef sig ⟨S1x1024, .f32⟩) (.of main_while0b_v11 : TRef sig ⟨S1024, .f32⟩) (rfl : (.f32 : EltTy) = .f32) shapeCasts_S1x1024_S1024 ]

theorem body0_1_sub : (body0_1 : List (HloOp τ sig (Elt F))).Forall fun op => op.bufs ⊆ tcRefs τ sig :=
  ⟨nullary_bufs_sub .., unaryIndexed_bufs_sub .., reshape_bufs_sub ..⟩

theorem body0_1_fresh : (body0_1 : List (HloOp τ sig (Elt F))).Forall fun op => op.fresh = ∅ :=
  forall_fresh_of_map rfl

abbrev body0_1_W : List (Ref sig .tc) := [main_while0b_call1_c, main_while0b_call1_v0, main_while0b_v11]

theorem body0_1_writes : (body0_1 : List (HloOp τ sig (Elt F))).Forall fun op => op.writes ⊆ (body0_1_W.map (Proc.devRef (τ := τ) .tc)).toFinset :=
  forall_writes_sub_of_map rfl

/-- Stretch 2 of loop 0's body. -/
abbrev body0_2 : List (HloOp τ sig (Elt F)) :=
  [ unary main_while0b_v10 main_while0b_v12 (Host.exp : (⟨S1024, .f32⟩ : BufTy).Contents (Elt F) → (⟨S1024, .f32⟩ : BufTy).Contents (Elt F)),
    binary main_while0b_v12 main_v4_3 main_while0b_v13 (mulf : (⟨S1024, .f32⟩ : BufTy).Contents (Elt F) → (⟨S1024, .f32⟩ : BufTy).Contents (Elt F) → (⟨S1024, .f32⟩ : BufTy).Contents (Elt F)),
    binary main_while0b_v13 main_while0b_v11 main_while0b_v14 (addf : (⟨S1024, .f32⟩ : BufTy).Contents (Elt F) → (⟨S1024, .f32⟩ : BufTy).Contents (Elt F) → (⟨S1024, .f32⟩ : BufTy).Contents (Elt F)) ]

theorem body0_2_sub : (body0_2 : List (HloOp τ sig (Elt F))).Forall fun op => op.bufs ⊆ tcRefs τ sig :=
  ⟨unary_bufs_sub .., binary_bufs_sub .., binary_bufs_sub ..⟩

theorem body0_2_fresh : (body0_2 : List (HloOp τ sig (Elt F))).Forall fun op => op.fresh = ∅ :=
  forall_fresh_of_map rfl

abbrev body0_2_W : List (Ref sig .tc) := [main_while0b_v12, main_while0b_v13, main_while0b_v14]

theorem body0_2_writes : (body0_2 : List (HloOp τ sig (Elt F))).Forall fun op => op.writes ⊆ (body0_2_W.map (Proc.devRef (τ := τ) .tc)).toFinset :=
  forall_writes_sub_of_map rfl

/-- Stretch 3 of loop 0's body. -/
abbrev body0_3 : List (HloOp τ sig (Elt F)) :=
  [ TRef.unary (.of main_while0b_v14 : TRef sig ⟨S1024, .f32⟩) (.of main_while0b_call2_v0 : TRef sig ⟨S1x1024, .f32⟩) (broadcastInDim S1x1024 ![1] bcast_S1024_S1x1024_1),
    TRef.nullary (.of main_while0b_call2_c : TRef sig ⟨S_, .i32⟩) (constantI S_ 32 0#32),
    TRef.binaryIndexed (.of main_v4_4 : TRef sig ⟨S8448x1024, .f32⟩) (.of main_while0b_call2_v0 : TRef sig ⟨S1x1024, .f32⟩) ![(.of main_v4_2 : TRef sig ⟨S_, .i32⟩), (.of main_while0b_call2_c : TRef sig ⟨S_, .i32⟩)] (.of main_while0b_v15 : TRef sig ⟨S8448x1024, .f32⟩) (fun x u i => Host.dynamicUpdateSlice x u (fun k => (i k (Shape.Idx.first h_S_)).toInt) updateFits_S8448x1024_S1x1024) ]

theorem body0_3_sub : (body0_3 : List (HloOp τ sig (Elt F))).Forall fun op => op.bufs ⊆ tcRefs τ sig :=
  ⟨unary_bufs_sub .., nullary_bufs_sub .., binaryIndexed_bufs_sub ..⟩

theorem body0_3_fresh : (body0_3 : List (HloOp τ sig (Elt F))).Forall fun op => op.fresh = ∅ :=
  forall_fresh_of_map rfl

abbrev body0_3_W : List (Ref sig .tc) := [main_while0b_call2_v0, main_while0b_call2_c, main_while0b_v15]

theorem body0_3_writes : (body0_3 : List (HloOp τ sig (Elt F))).Forall fun op => op.writes ⊆ (body0_3_W.map (Proc.devRef (τ := τ) .tc)).toFinset :=
  forall_writes_sub_of_map rfl

/-- Stretch 4 of loop 0's body. -/
abbrev body0_4 : List (HloOp τ sig (Elt F)) :=
  [ TRef.unary (.of main_while0b_v12 : TRef sig ⟨S1024, .f32⟩) (.of main_while0b_call3_v0 : TRef sig ⟨S1x1024, .f32⟩) (broadcastInDim S1x1024 ![1] bcast_S1024_S1x1024_1),
    TRef.nullary (.of main_while0b_call3_c : TRef sig ⟨S_, .i32⟩) (constantI S_ 32 0#32),
    TRef.binaryIndexed (.of main_v4_5 : TRef sig ⟨S8448x1024, .f32⟩) (.of main_while0b_call3_v0 : TRef sig ⟨S1x1024, .f32⟩) ![(.of main_v4_2 : TRef sig ⟨S_, .i32⟩), (.of main_while0b_call3_c : TRef sig ⟨S_, .i32⟩)] (.of main_while0b_v16 : TRef sig ⟨S8448x1024, .f32⟩) (fun x u i => Host.dynamicUpdateSlice x u (fun k => (i k (Shape.Idx.first h_S_)).toInt) updateFits_S8448x1024_S1x1024) ]

theorem body0_4_sub : (body0_4 : List (HloOp τ sig (Elt F))).Forall fun op => op.bufs ⊆ tcRefs τ sig :=
  ⟨unary_bufs_sub .., nullary_bufs_sub .., binaryIndexed_bufs_sub ..⟩

theorem body0_4_fresh : (body0_4 : List (HloOp τ sig (Elt F))).Forall fun op => op.fresh = ∅ :=
  forall_fresh_of_map rfl

abbrev body0_4_W : List (Ref sig .tc) := [main_while0b_call3_v0, main_while0b_call3_c, main_while0b_v16]

theorem body0_4_writes : (body0_4 : List (HloOp τ sig (Elt F))).Forall fun op => op.writes ⊆ (body0_4_W.map (Proc.devRef (τ := τ) .tc)).toFinset :=
  forall_writes_sub_of_map rfl

/-- Stretch 5 of loop 0's body. -/
abbrev body0_5 : List (HloOp τ sig (Elt F)) :=
  [ TRef.unary (.of main_v4_3 : TRef sig ⟨S1024, .f32⟩) (.of main_while0b_call4_v0 : TRef sig ⟨S1x1024, .f32⟩) (broadcastInDim S1x1024 ![1] bcast_S1024_S1x1024_1),
    TRef.nullary (.of main_while0b_call4_c : TRef sig ⟨S_, .i32⟩) (constantI S_ 32 0#32),
    TRef.binaryIndexed (.of main_v4_6 : TRef sig ⟨S8448x1024, .f32⟩) (.of main_while0b_call4_v0 : TRef sig ⟨S1x1024, .f32⟩) ![(.of main_v4_2 : TRef sig ⟨S_, .i32⟩), (.of main_while0b_call4_c : TRef sig ⟨S_, .i32⟩)] (.of main_while0b_v17 : TRef sig ⟨S8448x1024, .f32⟩) (fun x u i => Host.dynamicUpdateSlice x u (fun k => (i k (Shape.Idx.first h_S_)).toInt) updateFits_S8448x1024_S1x1024) ]

theorem body0_5_sub : (body0_5 : List (HloOp τ sig (Elt F))).Forall fun op => op.bufs ⊆ tcRefs τ sig :=
  ⟨unary_bufs_sub .., nullary_bufs_sub .., binaryIndexed_bufs_sub ..⟩

theorem body0_5_fresh : (body0_5 : List (HloOp τ sig (Elt F))).Forall fun op => op.fresh = ∅ :=
  forall_fresh_of_map rfl

abbrev body0_5_W : List (Ref sig .tc) := [main_while0b_call4_v0, main_while0b_call4_c, main_while0b_v17]

theorem body0_5_writes : (body0_5 : List (HloOp τ sig (Elt F))).Forall fun op => op.writes ⊆ (body0_5_W.map (Proc.devRef (τ := τ) .tc)).toFinset :=
  forall_writes_sub_of_map rfl

/-- Stretch 6 of loop 0's body. -/
abbrev body0_6 : List (HloOp τ sig (Elt F)) :=
  [ nullary main_while0b_c_14 (constantI S_ 32 1#32),
    binary main_v4_2 main_while0b_c_14 main_while0b_v18 (addi : (⟨S_, .i32⟩ : BufTy).Contents (Elt F) → (⟨S_, .i32⟩ : BufTy).Contents (Elt F) → (⟨S_, .i32⟩ : BufTy).Contents (Elt F)),
    unary main_while0b_v18 main_v4_2 id,
    unary main_while0b_v14 main_v4_3 id,
    unary main_while0b_v15 main_v4_4 id,
    unary main_while0b_v16 main_v4_5 id,
    unary main_while0b_v17 main_v4_6 id ]

theorem body0_6_sub : (body0_6 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩

theorem body0_6_fresh : (body0_6 : List (HloOp τ sig (Elt F))).Forall fun op => op.fresh = ∅ :=
  forall_fresh_of_map rfl

abbrev body0_6_W : List (Ref sig .tc) := [main_while0b_c_14, main_while0b_v18, main_v4_2, main_v4_3, main_v4_4, main_v4_5, main_v4_6]

theorem body0_6_writes : (body0_6 : List (HloOp τ sig (Elt F))).Forall fun op => op.writes ⊆ (body0_6_W.map (Proc.devRef (τ := τ) .tc)).toFinset :=
  forall_writes_sub_of_map rfl

theorem body0_chain : main_while0_body (F := F) = (Pipeline.chain
  [ seq body0_0,
    seq body0_1,
    seq body0_2,
    seq body0_3,
    seq body0_4,
    seq body0_5,
    seq body0_6 ] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, Pipeline.chain_cons, Pipeline.chain_cons, chain_seq_cons]
  chain_rfl

/-- Loop 0's condition: the bound, and the counter compared with it. -/
abbrev cond0 : List (HloOp τ sig (Elt F)) :=
  [ nullary main_while0c_c_14 (constantI S_ 32 8448#32),
    binary main_v4_2 main_while0c_c_14 main_while0c_v10 (cmpi .slt) ]

abbrev cond0_W : List (Ref sig .tc) := [main_while0c_c_14, main_while0c_v10]

theorem cond0_writes : (cond0 : List (HloOp τ sig (Elt F))).Forall fun op => op.writes ⊆ (cond0_W.map (Proc.devRef (τ := τ) .tc)).toFinset :=
  forall_writes_sub_of_map rfl

/-- Loop 0's body, as its stretches. -/
abbrev bodyI0 : List (List (HloOp τ sig (Elt F))) := [body0_0, body0_1, body0_2, body0_3, body0_4, body0_5, body0_6]

theorem bodyI0_plain : Plain (bodyI0 (F := F)) := .cons body0_0_sub (hf := List.forall_iff_forall_mem.mp body0_0_fresh) (.cons body0_1_sub (hf := List.forall_iff_forall_mem.mp body0_1_fresh) (.cons body0_2_sub (hf := List.forall_iff_forall_mem.mp body0_2_fresh) (.cons body0_3_sub (hf := List.forall_iff_forall_mem.mp body0_3_fresh) (.cons body0_4_sub (hf := List.forall_iff_forall_mem.mp body0_4_fresh) (.cons body0_5_sub (hf := List.forall_iff_forall_mem.mp body0_5_fresh) (.cons body0_6_sub (hf := List.forall_iff_forall_mem.mp body0_6_fresh) .nil))))))

theorem pre0I_plain : Plain ([pre0] : List (List (HloOp τ sig (Elt F)))) := .cons pre0_sub (hf := List.forall_iff_forall_mem.mp pre0_fresh) .nil

/-- The operations that prepare loop 1. -/
abbrev pre1 : List (HloOp τ sig (Elt F)) :=
  [ nullary main_cst_3 (constant S_ .f32 0x00000000#32),
    unary main_cst_3 main_v5 (broadcastInDim S1024 ![] bcast_S_S1024 : (⟨S_, .f32⟩ : BufTy).Contents (Elt F) → (⟨S1024, .f32⟩ : BufTy).Contents (Elt F)),
    nullary main_cst_4 (constant S_ .f32 0x00000000#32),
    unary main_cst_4 main_v6 (broadcastInDim S1024 ![] bcast_S_S1024 : (⟨S_, .f32⟩ : BufTy).Contents (Elt F) → (⟨S1024, .f32⟩ : BufTy).Contents (Elt F)),
    nullary main_cst_5 (constant S_ .f32 0x00000000#32),
    unary main_cst_5 main_v7 (broadcastInDim S8448x1024 ![] bcast_S_S8448x1024 : (⟨S_, .f32⟩ : BufTy).Contents (Elt F) → (⟨S8448x1024, .f32⟩ : BufTy).Contents (Elt F)),
    nullary main_cst_6 (constant S_ .f32 0x00000000#32),
    unary main_cst_6 main_v8 (broadcastInDim S8448x1024 ![] bcast_S_S8448x1024 : (⟨S_, .f32⟩ : BufTy).Contents (Elt F) → (⟨S8448x1024, .f32⟩ : BufTy).Contents (Elt F)),
    nullary main_c_7 (constantI S_ 32 0#32),
    unary main_arg2 main_v9_0 id,
    unary main_v4_5 main_v9_1 id,
    unary main_v4_6 main_v9_2 id,
    unary main_c_7 main_v9_3 id,
    unary main_v6 main_v9_4 id,
    unary main_v7 main_v9_5 id,
    unary main_v8 main_v9_6 id ]

theorem pre1_sub : (pre1 : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩

theorem pre1_fresh : (pre1 : List (HloOp τ sig (Elt F))).Forall fun op => op.fresh = ∅ :=
  forall_fresh_of_map rfl

abbrev pre1_W : List (Ref sig .tc) := [main_cst_3, main_v5, main_cst_4, main_v6, main_cst_5, main_v7, main_cst_6, main_v8, main_c_7, main_v9_0, main_v9_1, main_v9_2, main_v9_3, main_v9_4, main_v9_5, main_v9_6]

theorem pre1_writes : (pre1 : List (HloOp τ sig (Elt F))).Forall fun op => op.writes ⊆ (pre1_W.map (Proc.devRef (τ := τ) .tc)).toFinset :=
  forall_writes_sub_of_map rfl

/-- Stretch 0 of loop 1's body. -/
abbrev body1_0 : List (HloOp τ sig (Elt F)) :=
  [ nullary main_while1b_c_14 (constantI S_ 32 8448#32),
    binary main_while1b_c_14 main_v9_3 main_while1b_v10 (subi : (⟨S_, .i32⟩ : BufTy).Contents (Elt F) → (⟨S_, .i32⟩ : BufTy).Contents (Elt F) → (⟨S_, .i32⟩ : BufTy).Contents (Elt F)),
    nullary main_while1b_c_15 (constantI S_ 32 1#32),
    binary main_while1b_v10 main_while1b_c_15 main_while1b_v11 (subi : (⟨S_, .i32⟩ : BufTy).Contents (Elt F) → (⟨S_, .i32⟩ : BufTy).Contents (Elt F) → (⟨S_, .i32⟩ : BufTy).Contents (Elt F)) ]

theorem body1_0_sub : (body1_0 : List (HloOp τ sig (Elt F))).Forall fun op => op.bufs ⊆ tcRefs τ sig :=
  ⟨nullary_bufs_sub .., binary_bufs_sub .., nullary_bufs_sub .., binary_bufs_sub ..⟩

theorem body1_0_fresh : (body1_0 : List (HloOp τ sig (Elt F))).Forall fun op => op.fresh = ∅ :=
  forall_fresh_of_map rfl

abbrev body1_0_W : List (Ref sig .tc) := [main_while1b_c_14, main_while1b_v10, main_while1b_c_15, main_while1b_v11]

theorem body1_0_writes : (body1_0 : List (HloOp τ sig (Elt F))).Forall fun op => op.writes ⊆ (body1_0_W.map (Proc.devRef (τ := τ) .tc)).toFinset :=
  forall_writes_sub_of_map rfl

/-- Stretch 1 of loop 1's body. -/
abbrev body1_1 : List (HloOp τ sig (Elt F)) :=
  [ TRef.nullary (.of main_while1b_call5_c : TRef sig ⟨S_, .i32⟩) (constantI S_ 32 0#32),
    TRef.unaryIndexed (.of main_v9_0 : TRef sig ⟨S8448x1024, .f32⟩) ![(.of main_while1b_v11 : TRef sig ⟨S_, .i32⟩), (.of main_while1b_call5_c : TRef sig ⟨S_, .i32⟩)] (.of main_while1b_call5_v0 : TRef sig ⟨S1x1024, .f32⟩) (fun x i => Host.dynamicSlice S1x1024 x (fun k => (i k (Shape.Idx.first h_S_)).toInt) sliceFits_S8448x1024_S1x1024),
    TRef.reshape (.of main_while1b_call5_v0 : TRef sig ⟨S1x1024, .f32⟩) (.of main_while1b_v12 : TRef sig ⟨S1024, .f32⟩) (rfl : (.f32 : EltTy) = .f32) shapeCasts_S1x1024_S1024 ]

theorem body1_1_sub : (body1_1 : List (HloOp τ sig (Elt F))).Forall fun op => op.bufs ⊆ tcRefs τ sig :=
  ⟨nullary_bufs_sub .., unaryIndexed_bufs_sub .., reshape_bufs_sub ..⟩

theorem body1_1_fresh : (body1_1 : List (HloOp τ sig (Elt F))).Forall fun op => op.fresh = ∅ :=
  forall_fresh_of_map rfl

abbrev body1_1_W : List (Ref sig .tc) := [main_while1b_call5_c, main_while1b_call5_v0, main_while1b_v12]

theorem body1_1_writes : (body1_1 : List (HloOp τ sig (Elt F))).Forall fun op => op.writes ⊆ (body1_1_W.map (Proc.devRef (τ := τ) .tc)).toFinset :=
  forall_writes_sub_of_map rfl

/-- Stretch 2 of loop 1's body. -/
abbrev body1_2 : List (HloOp τ sig (Elt F)) :=
  [ TRef.nullary (.of main_while1b_call6_c : TRef sig ⟨S_, .i32⟩) (constantI S_ 32 0#32),
    TRef.unaryIndexed (.of main_v9_1 : TRef sig ⟨S8448x1024, .f32⟩) ![(.of main_while1b_v11 : TRef sig ⟨S_, .i32⟩), (.of main_while1b_call6_c : TRef sig ⟨S_, .i32⟩)] (.of main_while1b_call6_v0 : TRef sig ⟨S1x1024, .f32⟩) (fun x i => Host.dynamicSlice S1x1024 x (fun k => (i k (Shape.Idx.first h_S_)).toInt) sliceFits_S8448x1024_S1x1024),
    TRef.reshape (.of main_while1b_call6_v0 : TRef sig ⟨S1x1024, .f32⟩) (.of main_while1b_v13 : TRef sig ⟨S1024, .f32⟩) (rfl : (.f32 : EltTy) = .f32) shapeCasts_S1x1024_S1024 ]

theorem body1_2_sub : (body1_2 : List (HloOp τ sig (Elt F))).Forall fun op => op.bufs ⊆ tcRefs τ sig :=
  ⟨nullary_bufs_sub .., unaryIndexed_bufs_sub .., reshape_bufs_sub ..⟩

theorem body1_2_fresh : (body1_2 : List (HloOp τ sig (Elt F))).Forall fun op => op.fresh = ∅ :=
  forall_fresh_of_map rfl

abbrev body1_2_W : List (Ref sig .tc) := [main_while1b_call6_c, main_while1b_call6_v0, main_while1b_v13]

theorem body1_2_writes : (body1_2 : List (HloOp τ sig (Elt F))).Forall fun op => op.writes ⊆ (body1_2_W.map (Proc.devRef (τ := τ) .tc)).toFinset :=
  forall_writes_sub_of_map rfl

/-- Stretch 3 of loop 1's body. -/
abbrev body1_3 : List (HloOp τ sig (Elt F)) :=
  [ TRef.nullary (.of main_while1b_call7_c : TRef sig ⟨S_, .i32⟩) (constantI S_ 32 0#32),
    TRef.unaryIndexed (.of main_v9_2 : TRef sig ⟨S8448x1024, .f32⟩) ![(.of main_while1b_v11 : TRef sig ⟨S_, .i32⟩), (.of main_while1b_call7_c : TRef sig ⟨S_, .i32⟩)] (.of main_while1b_call7_v0 : TRef sig ⟨S1x1024, .f32⟩) (fun x i => Host.dynamicSlice S1x1024 x (fun k => (i k (Shape.Idx.first h_S_)).toInt) sliceFits_S8448x1024_S1x1024),
    TRef.reshape (.of main_while1b_call7_v0 : TRef sig ⟨S1x1024, .f32⟩) (.of main_while1b_v14 : TRef sig ⟨S1024, .f32⟩) (rfl : (.f32 : EltTy) = .f32) shapeCasts_S1x1024_S1024 ]

theorem body1_3_sub : (body1_3 : List (HloOp τ sig (Elt F))).Forall fun op => op.bufs ⊆ tcRefs τ sig :=
  ⟨nullary_bufs_sub .., unaryIndexed_bufs_sub .., reshape_bufs_sub ..⟩

theorem body1_3_fresh : (body1_3 : List (HloOp τ sig (Elt F))).Forall fun op => op.fresh = ∅ :=
  forall_fresh_of_map rfl

abbrev body1_3_W : List (Ref sig .tc) := [main_while1b_call7_c, main_while1b_call7_v0, main_while1b_v14]

theorem body1_3_writes : (body1_3 : List (HloOp τ sig (Elt F))).Forall fun op => op.writes ⊆ (body1_3_W.map (Proc.devRef (τ := τ) .tc)).toFinset :=
  forall_writes_sub_of_map rfl

/-- Stretch 4 of loop 1's body. -/
abbrev body1_4 : List (HloOp τ sig (Elt F)) :=
  [ binary main_v9_4 main_while1b_v12 main_while1b_v15 (addf : (⟨S1024, .f32⟩ : BufTy).Contents (Elt F) → (⟨S1024, .f32⟩ : BufTy).Contents (Elt F) → (⟨S1024, .f32⟩ : BufTy).Contents (Elt F)),
    binary main_while1b_v13 main_while1b_v15 main_while1b_v16 (mulf : (⟨S1024, .f32⟩ : BufTy).Contents (Elt F) → (⟨S1024, .f32⟩ : BufTy).Contents (Elt F) → (⟨S1024, .f32⟩ : BufTy).Contents (Elt F)),
    binary main_while1b_v15 main_while1b_v14 main_while1b_v17 (mulf : (⟨S1024, .f32⟩ : BufTy).Contents (Elt F) → (⟨S1024, .f32⟩ : BufTy).Contents (Elt F) → (⟨S1024, .f32⟩ : BufTy).Contents (Elt F)),
    binary main_while1b_v17 main_while1b_v13 main_while1b_v18 (mulf : (⟨S1024, .f32⟩ : BufTy).Contents (Elt F) → (⟨S1024, .f32⟩ : BufTy).Contents (Elt F) → (⟨S1024, .f32⟩ : BufTy).Contents (Elt F)) ]

theorem body1_4_sub : (body1_4 : List (HloOp τ sig (Elt F))).Forall fun op => op.bufs ⊆ tcRefs τ sig :=
  ⟨binary_bufs_sub .., binary_bufs_sub .., binary_bufs_sub .., binary_bufs_sub ..⟩

theorem body1_4_fresh : (body1_4 : List (HloOp τ sig (Elt F))).Forall fun op => op.fresh = ∅ :=
  forall_fresh_of_map rfl

abbrev body1_4_W : List (Ref sig .tc) := [main_while1b_v15, main_while1b_v16, main_while1b_v17, main_while1b_v18]

theorem body1_4_writes : (body1_4 : List (HloOp τ sig (Elt F))).Forall fun op => op.writes ⊆ (body1_4_W.map (Proc.devRef (τ := τ) .tc)).toFinset :=
  forall_writes_sub_of_map rfl

/-- Stretch 5 of loop 1's body. -/
abbrev body1_5 : List (HloOp τ sig (Elt F)) :=
  [ TRef.unary (.of main_while1b_v18 : TRef sig ⟨S1024, .f32⟩) (.of main_while1b_call8_v0 : TRef sig ⟨S1x1024, .f32⟩) (broadcastInDim S1x1024 ![1] bcast_S1024_S1x1024_1),
    TRef.nullary (.of main_while1b_call8_c : TRef sig ⟨S_, .i32⟩) (constantI S_ 32 0#32),
    TRef.binaryIndexed (.of main_v9_5 : TRef sig ⟨S8448x1024, .f32⟩) (.of main_while1b_call8_v0 : TRef sig ⟨S1x1024, .f32⟩) ![(.of main_while1b_v11 : TRef sig ⟨S_, .i32⟩), (.of main_while1b_call8_c : TRef sig ⟨S_, .i32⟩)] (.of main_while1b_v19 : TRef sig ⟨S8448x1024, .f32⟩) (fun x u i => Host.dynamicUpdateSlice x u (fun k => (i k (Shape.Idx.first h_S_)).toInt) updateFits_S8448x1024_S1x1024) ]

theorem body1_5_sub : (body1_5 : List (HloOp τ sig (Elt F))).Forall fun op => op.bufs ⊆ tcRefs τ sig :=
  ⟨unary_bufs_sub .., nullary_bufs_sub .., binaryIndexed_bufs_sub ..⟩

theorem body1_5_fresh : (body1_5 : List (HloOp τ sig (Elt F))).Forall fun op => op.fresh = ∅ :=
  forall_fresh_of_map rfl

abbrev body1_5_W : List (Ref sig .tc) := [main_while1b_call8_v0, main_while1b_call8_c, main_while1b_v19]

theorem body1_5_writes : (body1_5 : List (HloOp τ sig (Elt F))).Forall fun op => op.writes ⊆ (body1_5_W.map (Proc.devRef (τ := τ) .tc)).toFinset :=
  forall_writes_sub_of_map rfl

/-- Stretch 6 of loop 1's body. -/
abbrev body1_6 : List (HloOp τ sig (Elt F)) :=
  [ TRef.unary (.of main_while1b_v15 : TRef sig ⟨S1024, .f32⟩) (.of main_while1b_call9_v0 : TRef sig ⟨S1x1024, .f32⟩) (broadcastInDim S1x1024 ![1] bcast_S1024_S1x1024_1),
    TRef.nullary (.of main_while1b_call9_c : TRef sig ⟨S_, .i32⟩) (constantI S_ 32 0#32),
    TRef.binaryIndexed (.of main_v9_6 : TRef sig ⟨S8448x1024, .f32⟩) (.of main_while1b_call9_v0 : TRef sig ⟨S1x1024, .f32⟩) ![(.of main_while1b_v11 : TRef sig ⟨S_, .i32⟩), (.of main_while1b_call9_c : TRef sig ⟨S_, .i32⟩)] (.of main_while1b_v20 : TRef sig ⟨S8448x1024, .f32⟩) (fun x u i => Host.dynamicUpdateSlice x u (fun k => (i k (Shape.Idx.first h_S_)).toInt) updateFits_S8448x1024_S1x1024) ]

theorem body1_6_sub : (body1_6 : List (HloOp τ sig (Elt F))).Forall fun op => op.bufs ⊆ tcRefs τ sig :=
  ⟨unary_bufs_sub .., nullary_bufs_sub .., binaryIndexed_bufs_sub ..⟩

theorem body1_6_fresh : (body1_6 : List (HloOp τ sig (Elt F))).Forall fun op => op.fresh = ∅ :=
  forall_fresh_of_map rfl

abbrev body1_6_W : List (Ref sig .tc) := [main_while1b_call9_v0, main_while1b_call9_c, main_while1b_v20]

theorem body1_6_writes : (body1_6 : List (HloOp τ sig (Elt F))).Forall fun op => op.writes ⊆ (body1_6_W.map (Proc.devRef (τ := τ) .tc)).toFinset :=
  forall_writes_sub_of_map rfl

/-- Stretch 7 of loop 1's body. -/
abbrev body1_7 : List (HloOp τ sig (Elt F)) :=
  [ nullary main_while1b_c_16 (constantI S_ 32 1#32),
    binary main_v9_3 main_while1b_c_16 main_while1b_v21 (addi : (⟨S_, .i32⟩ : BufTy).Contents (Elt F) → (⟨S_, .i32⟩ : BufTy).Contents (Elt F) → (⟨S_, .i32⟩ : BufTy).Contents (Elt F)),
    unary main_while1b_v21 main_v9_3 id,
    unary main_while1b_v16 main_v9_4 id,
    unary main_while1b_v19 main_v9_5 id,
    unary main_while1b_v20 main_v9_6 id ]

theorem body1_7_sub : (body1_7 : List (HloOp τ sig (Elt F))).Forall fun op => op.bufs ⊆ tcRefs τ sig :=
  ⟨nullary_bufs_sub .., binary_bufs_sub .., unary_bufs_sub .., unary_bufs_sub .., unary_bufs_sub .., unary_bufs_sub ..⟩

theorem body1_7_fresh : (body1_7 : List (HloOp τ sig (Elt F))).Forall fun op => op.fresh = ∅ :=
  forall_fresh_of_map rfl

abbrev body1_7_W : List (Ref sig .tc) := [main_while1b_c_16, main_while1b_v21, main_v9_3, main_v9_4, main_v9_5, main_v9_6]

theorem body1_7_writes : (body1_7 : List (HloOp τ sig (Elt F))).Forall fun op => op.writes ⊆ (body1_7_W.map (Proc.devRef (τ := τ) .tc)).toFinset :=
  forall_writes_sub_of_map rfl

theorem body1_chain : main_while1_body (F := F) = (Pipeline.chain
  [ seq body1_0,
    seq body1_1,
    seq body1_2,
    seq body1_3,
    seq body1_4,
    seq body1_5,
    seq body1_6,
    seq body1_7 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, chain_seq_cons, Pipeline.chain_cons, Pipeline.chain_cons, chain_seq_cons]
  chain_rfl

/-- Loop 1's condition: the bound, and the counter compared with it. -/
abbrev cond1 : List (HloOp τ sig (Elt F)) :=
  [ nullary main_while1c_c_14 (constantI S_ 32 8448#32),
    binary main_v9_3 main_while1c_c_14 main_while1c_v10 (cmpi .slt) ]

abbrev cond1_W : List (Ref sig .tc) := [main_while1c_c_14, main_while1c_v10]

theorem cond1_writes : (cond1 : List (HloOp τ sig (Elt F))).Forall fun op => op.writes ⊆ (cond1_W.map (Proc.devRef (τ := τ) .tc)).toFinset :=
  forall_writes_sub_of_map rfl

/-- Loop 1's body, as its stretches. -/
abbrev bodyI1 : List (List (HloOp τ sig (Elt F))) := [body1_0, body1_1, body1_2, body1_3, body1_4, body1_5, body1_6, body1_7]

theorem bodyI1_plain : Plain (bodyI1 (F := F)) := .cons body1_0_sub (hf := List.forall_iff_forall_mem.mp body1_0_fresh) (.cons body1_1_sub (hf := List.forall_iff_forall_mem.mp body1_1_fresh) (.cons body1_2_sub (hf := List.forall_iff_forall_mem.mp body1_2_fresh) (.cons body1_3_sub (hf := List.forall_iff_forall_mem.mp body1_3_fresh) (.cons body1_4_sub (hf := List.forall_iff_forall_mem.mp body1_4_fresh) (.cons body1_5_sub (hf := List.forall_iff_forall_mem.mp body1_5_fresh) (.cons body1_6_sub (hf := List.forall_iff_forall_mem.mp body1_6_fresh) (.cons body1_7_sub (hf := List.forall_iff_forall_mem.mp body1_7_fresh) .nil)))))))

theorem pre1I_plain : Plain ([pre1] : List (List (HloOp τ sig (Elt F)))) := .cons pre1_sub (hf := List.forall_iff_forall_mem.mp pre1_fresh) .nil

theorem main_chain (c : Dev nD) : main (F := F) c = (Pipeline.chain
  [ seq pre0,
    HostLoop.enter 0,
    seq pre1,
    HostLoop.enter 1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons]
  chain_rfl

end Cert.ReferenceIdeal.Loops

end
-- ==== Proof.Scan.RefTrip.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.Scan.RefOps
/-! What one trip of each of the reference's loops does to the values it carries. -/

@[expose] public section

set_option maxRecDepth 100000

noncomputable section

namespace Cert.ReferenceIdeal.Loops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

/-- Row `i` of an array of 8448 rows. -/
def getRow (x : (⟨S8448x1024, .f32⟩ : BufTy).Contents (Elt F)) (i : (⟨S_, .i32⟩ : BufTy).Contents (Elt F)) : (⟨S1024, .f32⟩ : BufTy).Contents (Elt F) :=
  shapeCast S1024 (Host.dynamicSlice S1x1024 x (fun k => (((![i, constantI S_ 32 0#32] : Fin 2 → (⟨S_, .i32⟩ : BufTy).Contents (Elt F))) k (Shape.Idx.first h_S_)).toInt) sliceFits_S8448x1024_S1x1024) shapeCasts_S1x1024_S1024

/-- The array with row `i` replaced by `u`. -/
def putRow (x : (⟨S8448x1024, .f32⟩ : BufTy).Contents (Elt F)) (u : (⟨S1024, .f32⟩ : BufTy).Contents (Elt F)) (i : (⟨S_, .i32⟩ : BufTy).Contents (Elt F)) : (⟨S8448x1024, .f32⟩ : BufTy).Contents (Elt F) :=
  Host.dynamicUpdateSlice x (broadcastInDim S1x1024 ![1] bcast_S1024_S1x1024_1 u) (fun k => (((![i, constantI S_ 32 0#32] : Fin 2 → (⟨S_, .i32⟩ : BufTy).Contents (Elt F))) k (Shape.Idx.first h_S_)).toInt) updateFits_S8448x1024_S1x1024

theorem body0_0_keeps (V : Valuation τ sig (Elt F)) (r : Ref sig .tc) (h : r ∉ body0_0_W) :
    after body0_0 V (no_index (Proc.devRef .tc r)) = V (Proc.devRef .tc r) :=
  after_of_writes_sub body0_0 V body0_0_writes h

abbrev body0_0_a : List (HloOp τ sig (Elt F)) :=
  [ TRef.nullary (.of main_while0b_call0_c : TRef sig ⟨S_, .i32⟩) (constantI S_ 32 0#32),
    TRef.unaryIndexed (.of main_v4_0 : TRef sig ⟨S8448x1024, .f32⟩) ![(.of main_v4_2 : TRef sig ⟨S_, .i32⟩), (.of main_while0b_call0_c : TRef sig ⟨S_, .i32⟩)] (.of main_while0b_call0_v0 : TRef sig ⟨S1x1024, .f32⟩) (fun x i => Host.dynamicSlice S1x1024 x (fun k => (i k (Shape.Idx.first h_S_)).toInt) sliceFits_S8448x1024_S1x1024) ]
abbrev body0_0_b : List (HloOp τ sig (Elt F)) :=
  [ TRef.reshape (.of main_while0b_call0_v0 : TRef sig ⟨S1x1024, .f32⟩) (.of main_while0b_v10 : TRef sig ⟨S1024, .f32⟩) (rfl : (.f32 : EltTy) = .f32) shapeCasts_S1x1024_S1024 ]

theorem body0_0_slice (V : Valuation τ sig (Elt F)) : after body0_0_a V (no_index (Proc.devRef .tc main_while0b_call0_v0)) = Host.dynamicSlice S1x1024 (V (Proc.devRef .tc main_v4_0)) (fun k => (((![V (Proc.devRef .tc main_v4_2), constantI S_ 32 0#32] : Fin 2 → (⟨S_, .i32⟩ : BufTy).Contents (Elt F))) k (Shape.Idx.first h_S_)).toInt) sliceFits_S8448x1024_S1x1024 := by
  simp only [body0_0_a]
  after_results_entrywise [cast_eq]

theorem body0_0_main_while0b_v10 (V : Valuation τ sig (Elt F)) : after body0_0 V (no_index (Proc.devRef .tc main_while0b_v10)) = getRow (V (Proc.devRef .tc main_v4_0)) (V (Proc.devRef .tc main_v4_2)) := by
  unfold getRow
  rw [show (body0_0 : List (HloOp τ sig (Elt F))) = body0_0_a ++ body0_0_b from rfl, after_append]
  simp only [body0_0_b]
  after_results_entrywise [body0_0_slice, cast_eq]

theorem body0_1_keeps (V : Valuation τ sig (Elt F)) (r : Ref sig .tc) (h : r ∉ body0_1_W) :
    after body0_1 V (no_index (Proc.devRef .tc r)) = V (Proc.devRef .tc r) :=
  after_of_writes_sub body0_1 V body0_1_writes h

abbrev body0_1_a : List (HloOp τ sig (Elt F)) :=
  [ TRef.nullary (.of main_while0b_call1_c : TRef sig ⟨S_, .i32⟩) (constantI S_ 32 0#32),
    TRef.unaryIndexed (.of main_v4_1 : TRef sig ⟨S8448x1024, .f32⟩) ![(.of main_v4_2 : TRef sig ⟨S_, .i32⟩), (.of main_while0b_call1_c : TRef sig ⟨S_, .i32⟩)] (.of main_while0b_call1_v0 : TRef sig ⟨S1x1024, .f32⟩) (fun x i => Host.dynamicSlice S1x1024 x (fun k => (i k (Shape.Idx.first h_S_)).toInt) sliceFits_S8448x1024_S1x1024) ]
abbrev body0_1_b : List (HloOp τ sig (Elt F)) :=
  [ TRef.reshape (.of main_while0b_call1_v0 : TRef sig ⟨S1x1024, .f32⟩) (.of main_while0b_v11 : TRef sig ⟨S1024, .f32⟩) (rfl : (.f32 : EltTy) = .f32) shapeCasts_S1x1024_S1024 ]

theorem body0_1_slice (V : Valuation τ sig (Elt F)) : after body0_1_a V (no_index (Proc.devRef .tc main_while0b_call1_v0)) = Host.dynamicSlice S1x1024 (V (Proc.devRef .tc main_v4_1)) (fun k => (((![V (Proc.devRef .tc main_v4_2), constantI S_ 32 0#32] : Fin 2 → (⟨S_, .i32⟩ : BufTy).Contents (Elt F))) k (Shape.Idx.first h_S_)).toInt) sliceFits_S8448x1024_S1x1024 := by
  simp only [body0_1_a]
  after_results_entrywise [cast_eq]

theorem body0_1_main_while0b_v11 (V : Valuation τ sig (Elt F)) : after body0_1 V (no_index (Proc.devRef .tc main_while0b_v11)) = getRow (V (Proc.devRef .tc main_v4_1)) (V (Proc.devRef .tc main_v4_2)) := by
  unfold getRow
  rw [show (body0_1 : List (HloOp τ sig (Elt F))) = body0_1_a ++ body0_1_b from rfl, after_append]
  simp only [body0_1_b]
  after_results_entrywise [body0_1_slice, cast_eq]

theorem body0_2_keeps (V : Valuation τ sig (Elt F)) (r : Ref sig .tc) (h : r ∉ body0_2_W) :
    after body0_2 V (no_index (Proc.devRef .tc r)) = V (Proc.devRef .tc r) :=
  after_of_writes_sub body0_2 V body0_2_writes h

theorem body0_2_main_while0b_v12 (V : Valuation τ sig (Elt F)) : after body0_2 V (no_index (Proc.devRef .tc main_while0b_v12)) = (Host.exp (V (Proc.devRef .tc main_while0b_v10))) := by
  after_results
  try rfl

theorem body0_2_main_while0b_v14 (V : Valuation τ sig (Elt F)) : after body0_2 V (no_index (Proc.devRef .tc main_while0b_v14)) = (addf (mulf (Host.exp (V (Proc.devRef .tc main_while0b_v10))) (V (Proc.devRef .tc main_v4_3))) (V (Proc.devRef .tc main_while0b_v11))) := by
  after_results
  try rfl

theorem body0_3_keeps (V : Valuation τ sig (Elt F)) (r : Ref sig .tc) (h : r ∉ body0_3_W) :
    after body0_3 V (no_index (Proc.devRef .tc r)) = V (Proc.devRef .tc r) :=
  after_of_writes_sub body0_3 V body0_3_writes h

theorem body0_3_main_while0b_v15 (V : Valuation τ sig (Elt F)) : after body0_3 V (no_index (Proc.devRef .tc main_while0b_v15)) = putRow (V (Proc.devRef .tc main_v4_4)) (V (Proc.devRef .tc main_while0b_v14)) (V (Proc.devRef .tc main_v4_2)) := by
  unfold putRow
  simp only [body0_3]
  after_results_entrywise [cast_eq]

theorem body0_4_keeps (V : Valuation τ sig (Elt F)) (r : Ref sig .tc) (h : r ∉ body0_4_W) :
    after body0_4 V (no_index (Proc.devRef .tc r)) = V (Proc.devRef .tc r) :=
  after_of_writes_sub body0_4 V body0_4_writes h

theorem body0_4_main_while0b_v16 (V : Valuation τ sig (Elt F)) : after body0_4 V (no_index (Proc.devRef .tc main_while0b_v16)) = putRow (V (Proc.devRef .tc main_v4_5)) (V (Proc.devRef .tc main_while0b_v12)) (V (Proc.devRef .tc main_v4_2)) := by
  unfold putRow
  simp only [body0_4]
  after_results_entrywise [cast_eq]

theorem body0_5_keeps (V : Valuation τ sig (Elt F)) (r : Ref sig .tc) (h : r ∉ body0_5_W) :
    after body0_5 V (no_index (Proc.devRef .tc r)) = V (Proc.devRef .tc r) :=
  after_of_writes_sub body0_5 V body0_5_writes h

theorem body0_5_main_while0b_v17 (V : Valuation τ sig (Elt F)) : after body0_5 V (no_index (Proc.devRef .tc main_while0b_v17)) = putRow (V (Proc.devRef .tc main_v4_6)) (V (Proc.devRef .tc main_v4_3)) (V (Proc.devRef .tc main_v4_2)) := by
  unfold putRow
  simp only [body0_5]
  after_results_entrywise [cast_eq]

theorem body0_6_keeps (V : Valuation τ sig (Elt F)) (r : Ref sig .tc) (h : r ∉ body0_6_W) :
    after body0_6 V (no_index (Proc.devRef .tc r)) = V (Proc.devRef .tc r) :=
  after_of_writes_sub body0_6 V body0_6_writes h

theorem body0_6_main_v4_2 (V : Valuation τ sig (Elt F)) : after body0_6 V (no_index (Proc.devRef .tc main_v4_2)) = (addi (V (Proc.devRef .tc main_v4_2)) (constantI S_ 32 1#32)) := by
  after_results
  try rfl

theorem body0_6_main_v4_3 (V : Valuation τ sig (Elt F)) : after body0_6 V (no_index (Proc.devRef .tc main_v4_3)) = (V (Proc.devRef .tc main_while0b_v14)) := by
  after_results
  try rfl

theorem body0_6_main_v4_4 (V : Valuation τ sig (Elt F)) : after body0_6 V (no_index (Proc.devRef .tc main_v4_4)) = (V (Proc.devRef .tc main_while0b_v15)) := by
  after_results
  try rfl

theorem body0_6_main_v4_5 (V : Valuation τ sig (Elt F)) : after body0_6 V (no_index (Proc.devRef .tc main_v4_5)) = (V (Proc.devRef .tc main_while0b_v16)) := by
  after_results
  try rfl

theorem body0_6_main_v4_6 (V : Valuation τ sig (Elt F)) : after body0_6 V (no_index (Proc.devRef .tc main_v4_6)) = (V (Proc.devRef .tc main_while0b_v17)) := by
  after_results
  try rfl

theorem cond0_keeps (V : Valuation τ sig (Elt F)) (r : Ref sig .tc) (h : r ∉ cond0_W) :
    after cond0 V (no_index (Proc.devRef .tc r)) = V (Proc.devRef .tc r) :=
  after_of_writes_sub cond0 V cond0_writes h

/-- One trip of loop 0: its condition's operations, then its body's. -/
abbrev trip0 (V : Valuation τ sig (Elt F)) : Valuation τ sig (Elt F) := afterL bodyI0 (after cond0 V)

theorem trip0_main_v4_0 (V : Valuation τ sig (Elt F)) : trip0 V (Proc.devRef .tc main_v4_0) = (V (Proc.devRef .tc main_v4_0)) := by
  simp only [afterL_cons, afterL_nil]
  simp (disch := decide +kernel) only [body0_6_keeps, body0_5_keeps, body0_4_keeps, body0_3_keeps, body0_2_keeps, body0_1_keeps, body0_0_keeps, cond0_keeps]

theorem trip0_main_v4_1 (V : Valuation τ sig (Elt F)) : trip0 V (Proc.devRef .tc main_v4_1) = (V (Proc.devRef .tc main_v4_1)) := by
  simp only [afterL_cons, afterL_nil]
  simp (disch := decide +kernel) only [body0_6_keeps, body0_5_keeps, body0_4_keeps, body0_3_keeps, body0_2_keeps, body0_1_keeps, body0_0_keeps, cond0_keeps]

theorem trip0_main_v4_2 (V : Valuation τ sig (Elt F)) : trip0 V (Proc.devRef .tc main_v4_2) = addi (V (Proc.devRef .tc main_v4_2)) (constantI S_ 32 1#32) := by
  simp only [afterL_cons, afterL_nil]
  simp (disch := decide +kernel) only [body0_6_main_v4_2, body0_5_keeps, body0_4_keeps, body0_3_keeps, body0_2_keeps, body0_1_keeps, body0_0_keeps, cond0_keeps]

theorem trip0_main_v4_3 (V : Valuation τ sig (Elt F)) : trip0 V (Proc.devRef .tc main_v4_3) = addf (mulf (Host.exp (getRow (V (Proc.devRef .tc main_v4_0)) (V (Proc.devRef .tc main_v4_2)))) (V (Proc.devRef .tc main_v4_3))) (getRow (V (Proc.devRef .tc main_v4_1)) (V (Proc.devRef .tc main_v4_2))) := by
  simp only [afterL_cons, afterL_nil]
  simp (disch := decide +kernel) only [body0_6_main_v4_3, body0_5_keeps, body0_4_keeps, body0_3_keeps, body0_2_main_while0b_v14, body0_1_keeps, body0_1_main_while0b_v11, body0_0_main_while0b_v10, body0_0_keeps, cond0_keeps]

theorem trip0_main_v4_4 (V : Valuation τ sig (Elt F)) : trip0 V (Proc.devRef .tc main_v4_4) = putRow (V (Proc.devRef .tc main_v4_4)) (addf (mulf (Host.exp (getRow (V (Proc.devRef .tc main_v4_0)) (V (Proc.devRef .tc main_v4_2)))) (V (Proc.devRef .tc main_v4_3))) (getRow (V (Proc.devRef .tc main_v4_1)) (V (Proc.devRef .tc main_v4_2)))) (V (Proc.devRef .tc main_v4_2)) := by
  simp only [afterL_cons, afterL_nil]
  simp (disch := decide +kernel) only [body0_6_main_v4_4, body0_5_keeps, body0_4_keeps, body0_3_main_while0b_v15, body0_2_keeps, body0_2_main_while0b_v14, body0_1_keeps, body0_1_main_while0b_v11, body0_0_keeps, body0_0_main_while0b_v10, cond0_keeps]

theorem trip0_main_v4_5 (V : Valuation τ sig (Elt F)) : trip0 V (Proc.devRef .tc main_v4_5) = putRow (V (Proc.devRef .tc main_v4_5)) (Host.exp (getRow (V (Proc.devRef .tc main_v4_0)) (V (Proc.devRef .tc main_v4_2)))) (V (Proc.devRef .tc main_v4_2)) := by
  simp only [afterL_cons, afterL_nil]
  simp (disch := decide +kernel) only [body0_6_main_v4_5, body0_5_keeps, body0_4_main_while0b_v16, body0_3_keeps, body0_2_keeps, body0_2_main_while0b_v12, body0_1_keeps, body0_0_keeps, body0_0_main_while0b_v10, cond0_keeps]

theorem trip0_main_v4_6 (V : Valuation τ sig (Elt F)) : trip0 V (Proc.devRef .tc main_v4_6) = putRow (V (Proc.devRef .tc main_v4_6)) (V (Proc.devRef .tc main_v4_3)) (V (Proc.devRef .tc main_v4_2)) := by
  simp only [afterL_cons, afterL_nil]
  simp (disch := decide +kernel) only [body0_6_main_v4_6, body0_5_main_while0b_v17, body0_4_keeps, body0_3_keeps, body0_2_keeps, body0_1_keeps, body0_0_keeps, cond0_keeps]

theorem body1_0_keeps (V : Valuation τ sig (Elt F)) (r : Ref sig .tc) (h : r ∉ body1_0_W) :
    after body1_0 V (no_index (Proc.devRef .tc r)) = V (Proc.devRef .tc r) :=
  after_of_writes_sub body1_0 V body1_0_writes h

theorem body1_0_main_while1b_v11 (V : Valuation τ sig (Elt F)) : after body1_0 V (no_index (Proc.devRef .tc main_while1b_v11)) = (subi (subi (constantI S_ 32 8448#32) (V (Proc.devRef .tc main_v9_3))) (constantI S_ 32 1#32)) := by
  after_results
  try rfl

theorem body1_1_keeps (V : Valuation τ sig (Elt F)) (r : Ref sig .tc) (h : r ∉ body1_1_W) :
    after body1_1 V (no_index (Proc.devRef .tc r)) = V (Proc.devRef .tc r) :=
  after_of_writes_sub body1_1 V body1_1_writes h

abbrev body1_1_a : List (HloOp τ sig (Elt F)) :=
  [ TRef.nullary (.of main_while1b_call5_c : TRef sig ⟨S_, .i32⟩) (constantI S_ 32 0#32),
    TRef.unaryIndexed (.of main_v9_0 : TRef sig ⟨S8448x1024, .f32⟩) ![(.of main_while1b_v11 : TRef sig ⟨S_, .i32⟩), (.of main_while1b_call5_c : TRef sig ⟨S_, .i32⟩)] (.of main_while1b_call5_v0 : TRef sig ⟨S1x1024, .f32⟩) (fun x i => Host.dynamicSlice S1x1024 x (fun k => (i k (Shape.Idx.first h_S_)).toInt) sliceFits_S8448x1024_S1x1024) ]
abbrev body1_1_b : List (HloOp τ sig (Elt F)) :=
  [ TRef.reshape (.of main_while1b_call5_v0 : TRef sig ⟨S1x1024, .f32⟩) (.of main_while1b_v12 : TRef sig ⟨S1024, .f32⟩) (rfl : (.f32 : EltTy) = .f32) shapeCasts_S1x1024_S1024 ]

theorem body1_1_slice (V : Valuation τ sig (Elt F)) : after body1_1_a V (no_index (Proc.devRef .tc main_while1b_call5_v0)) = Host.dynamicSlice S1x1024 (V (Proc.devRef .tc main_v9_0)) (fun k => (((![V (Proc.devRef .tc main_while1b_v11), constantI S_ 32 0#32] : Fin 2 → (⟨S_, .i32⟩ : BufTy).Contents (Elt F))) k (Shape.Idx.first h_S_)).toInt) sliceFits_S8448x1024_S1x1024 := by
  simp only [body1_1_a]
  after_results_entrywise [cast_eq]

theorem body1_1_main_while1b_v12 (V : Valuation τ sig (Elt F)) : after body1_1 V (no_index (Proc.devRef .tc main_while1b_v12)) = getRow (V (Proc.devRef .tc main_v9_0)) (V (Proc.devRef .tc main_while1b_v11)) := by
  unfold getRow
  rw [show (body1_1 : List (HloOp τ sig (Elt F))) = body1_1_a ++ body1_1_b from rfl, after_append]
  simp only [body1_1_b]
  after_results_entrywise [body1_1_slice, cast_eq]

theorem body1_2_keeps (V : Valuation τ sig (Elt F)) (r : Ref sig .tc) (h : r ∉ body1_2_W) :
    after body1_2 V (no_index (Proc.devRef .tc r)) = V (Proc.devRef .tc r) :=
  after_of_writes_sub body1_2 V body1_2_writes h

abbrev body1_2_a : List (HloOp τ sig (Elt F)) :=
  [ TRef.nullary (.of main_while1b_call6_c : TRef sig ⟨S_, .i32⟩) (constantI S_ 32 0#32),
    TRef.unaryIndexed (.of main_v9_1 : TRef sig ⟨S8448x1024, .f32⟩) ![(.of main_while1b_v11 : TRef sig ⟨S_, .i32⟩), (.of main_while1b_call6_c : TRef sig ⟨S_, .i32⟩)] (.of main_while1b_call6_v0 : TRef sig ⟨S1x1024, .f32⟩) (fun x i => Host.dynamicSlice S1x1024 x (fun k => (i k (Shape.Idx.first h_S_)).toInt) sliceFits_S8448x1024_S1x1024) ]
abbrev body1_2_b : List (HloOp τ sig (Elt F)) :=
  [ TRef.reshape (.of main_while1b_call6_v0 : TRef sig ⟨S1x1024, .f32⟩) (.of main_while1b_v13 : TRef sig ⟨S1024, .f32⟩) (rfl : (.f32 : EltTy) = .f32) shapeCasts_S1x1024_S1024 ]

theorem body1_2_slice (V : Valuation τ sig (Elt F)) : after body1_2_a V (no_index (Proc.devRef .tc main_while1b_call6_v0)) = Host.dynamicSlice S1x1024 (V (Proc.devRef .tc main_v9_1)) (fun k => (((![V (Proc.devRef .tc main_while1b_v11), constantI S_ 32 0#32] : Fin 2 → (⟨S_, .i32⟩ : BufTy).Contents (Elt F))) k (Shape.Idx.first h_S_)).toInt) sliceFits_S8448x1024_S1x1024 := by
  simp only [body1_2_a]
  after_results_entrywise [cast_eq]

theorem body1_2_main_while1b_v13 (V : Valuation τ sig (Elt F)) : after body1_2 V (no_index (Proc.devRef .tc main_while1b_v13)) = getRow (V (Proc.devRef .tc main_v9_1)) (V (Proc.devRef .tc main_while1b_v11)) := by
  unfold getRow
  rw [show (body1_2 : List (HloOp τ sig (Elt F))) = body1_2_a ++ body1_2_b from rfl, after_append]
  simp only [body1_2_b]
  after_results_entrywise [body1_2_slice, cast_eq]

theorem body1_3_keeps (V : Valuation τ sig (Elt F)) (r : Ref sig .tc) (h : r ∉ body1_3_W) :
    after body1_3 V (no_index (Proc.devRef .tc r)) = V (Proc.devRef .tc r) :=
  after_of_writes_sub body1_3 V body1_3_writes h

abbrev body1_3_a : List (HloOp τ sig (Elt F)) :=
  [ TRef.nullary (.of main_while1b_call7_c : TRef sig ⟨S_, .i32⟩) (constantI S_ 32 0#32),
    TRef.unaryIndexed (.of main_v9_2 : TRef sig ⟨S8448x1024, .f32⟩) ![(.of main_while1b_v11 : TRef sig ⟨S_, .i32⟩), (.of main_while1b_call7_c : TRef sig ⟨S_, .i32⟩)] (.of main_while1b_call7_v0 : TRef sig ⟨S1x1024, .f32⟩) (fun x i => Host.dynamicSlice S1x1024 x (fun k => (i k (Shape.Idx.first h_S_)).toInt) sliceFits_S8448x1024_S1x1024) ]
abbrev body1_3_b : List (HloOp τ sig (Elt F)) :=
  [ TRef.reshape (.of main_while1b_call7_v0 : TRef sig ⟨S1x1024, .f32⟩) (.of main_while1b_v14 : TRef sig ⟨S1024, .f32⟩) (rfl : (.f32 : EltTy) = .f32) shapeCasts_S1x1024_S1024 ]

theorem body1_3_slice (V : Valuation τ sig (Elt F)) : after body1_3_a V (no_index (Proc.devRef .tc main_while1b_call7_v0)) = Host.dynamicSlice S1x1024 (V (Proc.devRef .tc main_v9_2)) (fun k => (((![V (Proc.devRef .tc main_while1b_v11), constantI S_ 32 0#32] : Fin 2 → (⟨S_, .i32⟩ : BufTy).Contents (Elt F))) k (Shape.Idx.first h_S_)).toInt) sliceFits_S8448x1024_S1x1024 := by
  simp only [body1_3_a]
  after_results_entrywise [cast_eq]

theorem body1_3_main_while1b_v14 (V : Valuation τ sig (Elt F)) : after body1_3 V (no_index (Proc.devRef .tc main_while1b_v14)) = getRow (V (Proc.devRef .tc main_v9_2)) (V (Proc.devRef .tc main_while1b_v11)) := by
  unfold getRow
  rw [show (body1_3 : List (HloOp τ sig (Elt F))) = body1_3_a ++ body1_3_b from rfl, after_append]
  simp only [body1_3_b]
  after_results_entrywise [body1_3_slice, cast_eq]

theorem body1_4_keeps (V : Valuation τ sig (Elt F)) (r : Ref sig .tc) (h : r ∉ body1_4_W) :
    after body1_4 V (no_index (Proc.devRef .tc r)) = V (Proc.devRef .tc r) :=
  after_of_writes_sub body1_4 V body1_4_writes h

theorem body1_4_main_while1b_v15 (V : Valuation τ sig (Elt F)) : after body1_4 V (no_index (Proc.devRef .tc main_while1b_v15)) = (addf (V (Proc.devRef .tc main_v9_4)) (V (Proc.devRef .tc main_while1b_v12))) := by
  after_results
  try rfl

theorem body1_4_main_while1b_v16 (V : Valuation τ sig (Elt F)) : after body1_4 V (no_index (Proc.devRef .tc main_while1b_v16)) = (mulf (V (Proc.devRef .tc main_while1b_v13)) (addf (V (Proc.devRef .tc main_v9_4)) (V (Proc.devRef .tc main_while1b_v12)))) := by
  after_results
  try rfl

theorem body1_4_main_while1b_v18 (V : Valuation τ sig (Elt F)) : after body1_4 V (no_index (Proc.devRef .tc main_while1b_v18)) = (mulf (mulf (addf (V (Proc.devRef .tc main_v9_4)) (V (Proc.devRef .tc main_while1b_v12))) (V (Proc.devRef .tc main_while1b_v14))) (V (Proc.devRef .tc main_while1b_v13))) := by
  after_results
  try rfl

theorem body1_5_keeps (V : Valuation τ sig (Elt F)) (r : Ref sig .tc) (h : r ∉ body1_5_W) :
    after body1_5 V (no_index (Proc.devRef .tc r)) = V (Proc.devRef .tc r) :=
  after_of_writes_sub body1_5 V body1_5_writes h

theorem body1_5_main_while1b_v19 (V : Valuation τ sig (Elt F)) : after body1_5 V (no_index (Proc.devRef .tc main_while1b_v19)) = putRow (V (Proc.devRef .tc main_v9_5)) (V (Proc.devRef .tc main_while1b_v18)) (V (Proc.devRef .tc main_while1b_v11)) := by
  unfold putRow
  simp only [body1_5]
  after_results_entrywise [cast_eq]

theorem body1_6_keeps (V : Valuation τ sig (Elt F)) (r : Ref sig .tc) (h : r ∉ body1_6_W) :
    after body1_6 V (no_index (Proc.devRef .tc r)) = V (Proc.devRef .tc r) :=
  after_of_writes_sub body1_6 V body1_6_writes h

theorem body1_6_main_while1b_v20 (V : Valuation τ sig (Elt F)) : after body1_6 V (no_index (Proc.devRef .tc main_while1b_v20)) = putRow (V (Proc.devRef .tc main_v9_6)) (V (Proc.devRef .tc main_while1b_v15)) (V (Proc.devRef .tc main_while1b_v11)) := by
  unfold putRow
  simp only [body1_6]
  after_results_entrywise [cast_eq]

theorem body1_7_keeps (V : Valuation τ sig (Elt F)) (r : Ref sig .tc) (h : r ∉ body1_7_W) :
    after body1_7 V (no_index (Proc.devRef .tc r)) = V (Proc.devRef .tc r) :=
  after_of_writes_sub body1_7 V body1_7_writes h

theorem body1_7_main_v9_3 (V : Valuation τ sig (Elt F)) : after body1_7 V (no_index (Proc.devRef .tc main_v9_3)) = (addi (V (Proc.devRef .tc main_v9_3)) (constantI S_ 32 1#32)) := by
  after_results
  try rfl

theorem body1_7_main_v9_4 (V : Valuation τ sig (Elt F)) : after body1_7 V (no_index (Proc.devRef .tc main_v9_4)) = (V (Proc.devRef .tc main_while1b_v16)) := by
  after_results
  try rfl

theorem body1_7_main_v9_5 (V : Valuation τ sig (Elt F)) : after body1_7 V (no_index (Proc.devRef .tc main_v9_5)) = (V (Proc.devRef .tc main_while1b_v19)) := by
  after_results
  try rfl

theorem body1_7_main_v9_6 (V : Valuation τ sig (Elt F)) : after body1_7 V (no_index (Proc.devRef .tc main_v9_6)) = (V (Proc.devRef .tc main_while1b_v20)) := by
  after_results
  try rfl

theorem cond1_keeps (V : Valuation τ sig (Elt F)) (r : Ref sig .tc) (h : r ∉ cond1_W) :
    after cond1 V (no_index (Proc.devRef .tc r)) = V (Proc.devRef .tc r) :=
  after_of_writes_sub cond1 V cond1_writes h

/-- One trip of loop 1: its condition's operations, then its body's. -/
abbrev trip1 (V : Valuation τ sig (Elt F)) : Valuation τ sig (Elt F) := afterL bodyI1 (after cond1 V)

theorem trip1_main_v9_0 (V : Valuation τ sig (Elt F)) : trip1 V (Proc.devRef .tc main_v9_0) = (V (Proc.devRef .tc main_v9_0)) := by
  simp only [afterL_cons, afterL_nil]
  simp (disch := decide +kernel) only [body1_7_keeps, body1_6_keeps, body1_5_keeps, body1_4_keeps, body1_3_keeps, body1_2_keeps, body1_1_keeps, body1_0_keeps, cond1_keeps]

theorem trip1_main_v9_1 (V : Valuation τ sig (Elt F)) : trip1 V (Proc.devRef .tc main_v9_1) = (V (Proc.devRef .tc main_v9_1)) := by
  simp only [afterL_cons, afterL_nil]
  simp (disch := decide +kernel) only [body1_7_keeps, body1_6_keeps, body1_5_keeps, body1_4_keeps, body1_3_keeps, body1_2_keeps, body1_1_keeps, body1_0_keeps, cond1_keeps]

theorem trip1_main_v9_2 (V : Valuation τ sig (Elt F)) : trip1 V (Proc.devRef .tc main_v9_2) = (V (Proc.devRef .tc main_v9_2)) := by
  simp only [afterL_cons, afterL_nil]
  simp (disch := decide +kernel) only [body1_7_keeps, body1_6_keeps, body1_5_keeps, body1_4_keeps, body1_3_keeps, body1_2_keeps, body1_1_keeps, body1_0_keeps, cond1_keeps]

theorem trip1_main_v9_3 (V : Valuation τ sig (Elt F)) : trip1 V (Proc.devRef .tc main_v9_3) = addi (V (Proc.devRef .tc main_v9_3)) (constantI S_ 32 1#32) := by
  simp only [afterL_cons, afterL_nil]
  simp (disch := decide +kernel) only [body1_7_main_v9_3, body1_6_keeps, body1_5_keeps, body1_4_keeps, body1_3_keeps, body1_2_keeps, body1_1_keeps, body1_0_keeps, cond1_keeps]

theorem trip1_main_v9_4 (V : Valuation τ sig (Elt F)) : trip1 V (Proc.devRef .tc main_v9_4) = mulf (getRow (V (Proc.devRef .tc main_v9_1)) (subi (subi (constantI S_ 32 8448#32) (V (Proc.devRef .tc main_v9_3))) (constantI S_ 32 1#32))) (addf (V (Proc.devRef .tc main_v9_4)) (getRow (V (Proc.devRef .tc main_v9_0)) (subi (subi (constantI S_ 32 8448#32) (V (Proc.devRef .tc main_v9_3))) (constantI S_ 32 1#32)))) := by
  simp only [afterL_cons, afterL_nil]
  simp (disch := decide +kernel) only [body1_7_main_v9_4, body1_6_keeps, body1_5_keeps, body1_4_main_while1b_v16, body1_3_keeps, body1_2_main_while1b_v13, body1_2_keeps, body1_1_keeps, body1_1_main_while1b_v12, body1_0_keeps, body1_0_main_while1b_v11, cond1_keeps]

theorem trip1_main_v9_5 (V : Valuation τ sig (Elt F)) : trip1 V (Proc.devRef .tc main_v9_5) = putRow (V (Proc.devRef .tc main_v9_5)) (mulf (mulf (addf (V (Proc.devRef .tc main_v9_4)) (getRow (V (Proc.devRef .tc main_v9_0)) (subi (subi (constantI S_ 32 8448#32) (V (Proc.devRef .tc main_v9_3))) (constantI S_ 32 1#32)))) (getRow (V (Proc.devRef .tc main_v9_2)) (subi (subi (constantI S_ 32 8448#32) (V (Proc.devRef .tc main_v9_3))) (constantI S_ 32 1#32)))) (getRow (V (Proc.devRef .tc main_v9_1)) (subi (subi (constantI S_ 32 8448#32) (V (Proc.devRef .tc main_v9_3))) (constantI S_ 32 1#32)))) (subi (subi (constantI S_ 32 8448#32) (V (Proc.devRef .tc main_v9_3))) (constantI S_ 32 1#32)) := by
  simp only [afterL_cons, afterL_nil]
  simp (disch := decide +kernel) only [body1_7_main_v9_5, body1_6_keeps, body1_5_main_while1b_v19, body1_4_keeps, body1_4_main_while1b_v18, body1_3_keeps, body1_3_main_while1b_v14, body1_2_keeps, body1_2_main_while1b_v13, body1_1_keeps, body1_1_main_while1b_v12, body1_0_keeps, body1_0_main_while1b_v11, cond1_keeps]

theorem trip1_main_v9_6 (V : Valuation τ sig (Elt F)) : trip1 V (Proc.devRef .tc main_v9_6) = putRow (V (Proc.devRef .tc main_v9_6)) (addf (V (Proc.devRef .tc main_v9_4)) (getRow (V (Proc.devRef .tc main_v9_0)) (subi (subi (constantI S_ 32 8448#32) (V (Proc.devRef .tc main_v9_3))) (constantI S_ 32 1#32)))) (subi (subi (constantI S_ 32 8448#32) (V (Proc.devRef .tc main_v9_3))) (constantI S_ 32 1#32)) := by
  simp only [afterL_cons, afterL_nil]
  simp (disch := decide +kernel) only [body1_7_main_v9_6, body1_6_main_while1b_v20, body1_5_keeps, body1_4_keeps, body1_4_main_while1b_v15, body1_3_keeps, body1_2_keeps, body1_1_keeps, body1_1_main_while1b_v12, body1_0_keeps, body1_0_main_while1b_v11, cond1_keeps]

end Cert.ReferenceIdeal.Loops

end
-- ==== Proof.Scan.RefRun.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import proofs.«01_k».proof.Proof.Scan.RefTrip
/-! The run of the reference: two counted loops one after the other. -/

@[expose] public section

noncomputable section

namespace Cert.ReferenceIdeal.Loops

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

theorem cellOf_injective : Function.Injective (Pipeline.cellOf (nD := nD) (τ := τ) (Pipeline.pin (pcfgs (F := F)) adm)) :=
  fun k => k.1.elim0

/-- What each core owes, carried beside its buffers. -/
abbrev Rw (c : Dev nD) : sProp 𝕄 := iprop(∃ W, owes (c : Thread nD τ) (0 : CellTallies nD τ sig Unit) W)

variable (m : (ℓ : Loc nD τ sig) → Buf (Elt F) ℓ) (ρ : Dev nD → PrngReg)

/-- Every buffer where loop 0 is entered. -/
abbrev entry0 (c : Dev nD) : Valuation τ sig (Elt F) := entryContents [pre0] m c

theorem entry0_ctr (c : Dev nD) : entry0 m c (Proc.devRef .tc main_v4_2) = fun _ => (0#32 : BitVec 32) := by
  simp only [entry0, entryContents, afterL_cons, afterL_nil]
  after_reads_simp
  rfl

/-- Every buffer before the `k`-th run of loop 0's condition. -/
abbrev at0 (k : ℕ) (c : Dev nD) : Valuation τ sig (Elt F) := atTrip cond0 bodyI0 (entry0 m) k c

theorem at0_succ (k : ℕ) (c : Dev nD) : at0 m (k + 1) c = trip0 (at0 m k c) := rfl

/-- Before the `k`-th condition of loop 0 the counter is `k`. -/
theorem at0_ctr (c : Dev nD) : ∀ k, at0 m k c (Proc.devRef .tc main_v4_2) = fun _ => Scf.iv 0#32 1#32 k
  | 0 => by rw [show at0 m 0 c = entry0 m c from rfl, entry0_ctr, Scf.iv_zero]
  | k + 1 => by
    rw [at0_succ, trip0_main_v4_2, at0_ctr c k, Scf.iv_succ]
    rfl

set_option backward.isDefEq.respectTransparency.types false in
/-- Loop 0's condition is true exactly before the first 8448 trips. -/
theorem cond0_spec : LoopCond (pcfgs (F := F)) defs₀ Variants.none loops Rw (main_while0_cond (F := F)) cond0 bodyI0 (entry0 m) 8448 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v4_2 HostLoop.idx0)
        (HloOp.result _ (at0 m k c) main_while0c_c_14 HostLoop.idx0) = 1#1) (k < 8448)
    rw [nullary_result_ne _ _ _ _ (by decide), nullary_result, hctr]
    exact Scf.cmpi_slt_iv_ub_iff (lb := 0#32) (ub := 8448#32) (st := 1#32) (by decide) (show k ≤ Scf.trips 0#32 8448#32 1#32 from hk)
  isplitl [Hb]; · iexact Hb
  isplitr [HR]
  · rw [after_cons, after_cons, after_nil]; iexact Hh
  iexact HR

/-- Every buffer where loop 0 is left. -/
abbrev exit0 (c : Dev nD) : Valuation τ sig (Elt F) := after cond0 (at0 m 8448 c)

/-- Every buffer where loop 1 is entered. -/
abbrev entry1 (c : Dev nD) : Valuation τ sig (Elt F) := afterL [pre1] (exit0 m c)

theorem entry1_ctr (c : Dev nD) : entry1 m c (Proc.devRef .tc main_v9_3) = fun _ => (0#32 : BitVec 32) := by
  simp only [entry1, afterL_cons, afterL_nil]
  generalize exit0 m c = V
  after_results
  rfl

/-- Every buffer before the `k`-th run of loop 1's condition. -/
abbrev at1 (k : ℕ) (c : Dev nD) : Valuation τ sig (Elt F) := atTrip cond1 bodyI1 (entry1 m) k c

theorem at1_succ (k : ℕ) (c : Dev nD) : at1 m (k + 1) c = trip1 (at1 m k c) := rfl

/-- Before the `k`-th condition of loop 1 the counter is `k`. -/
theorem at1_ctr (c : Dev nD) : ∀ k, at1 m k c (Proc.devRef .tc main_v9_3) = fun _ => Scf.iv 0#32 1#32 k
  | 0 => by rw [show at1 m 0 c = entry1 m c from rfl, entry1_ctr, Scf.iv_zero]
  | k + 1 => by
    rw [at1_succ, trip1_main_v9_3, at1_ctr c k, Scf.iv_succ]
    rfl

set_option backward.isDefEq.respectTransparency.types false in
/-- Loop 1's condition is true exactly before the first 8448 trips. -/
theorem cond1_spec : LoopCond (pcfgs (F := F)) defs₀ Variants.none loops Rw (main_while1_cond (F := F)) cond1 bodyI1 (entry1 m) 8448 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v9_3 HostLoop.idx0)
        (HloOp.result _ (at1 m k c) main_while1c_c_14 HostLoop.idx0) = 1#1) (k < 8448)
    rw [nullary_result_ne _ _ _ _ (by decide), nullary_result, hctr]
    exact Scf.cmpi_slt_iv_ub_iff (lb := 0#32) (ub := 8448#32) (st := 1#32) (by decide) (show k ≤ Scf.trips 0#32 8448#32 1#32 from hk)
  isplitl [Hb]; · iexact Hb
  isplitr [HR]
  · rw [after_cons, after_cons, after_nil]; iexact Hh
  iexact HR

/-- Every buffer at the end. -/
abbrev exit1 (c : Dev nD) : Valuation τ sig (Elt F) := after cond1 (at1 m 8448 c)

/-- The whole program as segments: what prepares a loop, and the loop, twice. -/
def segs : List (CSeg (pcfgs (F := F)) adm defs₀ Variants.none L lv loops tk) :=
  segsOf _ _ _ _ _ _ _ _ Rw [pre0] pre0I_plain (launchContents m)
    ++ loopSeg _ _ _ _ _ _ _ _ 0 main_while0_cond main_while0_body rfl cond0 bodyI0 bodyI0_plain (by rw [body0_chain]; rfl) 8448 (entry0 m) Rw (cond0_spec m)
      :: (segsOf _ _ _ _ _ _ _ _ Rw [pre1] pre1I_plain (exit0 m)
    ++ loopSeg _ _ _ _ _ _ _ _ 1 main_while1_cond main_while1_body rfl cond1 bodyI1 bodyI1_plain (by rw [body1_chain]; rfl) 8448 (entry1 m) Rw (cond1_spec m)
      :: [])

theorem segs_prog : (segs m).map CSeg.prog
    = ([StableHlo.seq pre0, HostLoop.enter 0, StableHlo.seq pre1, HostLoop.enter 1] : List (Prog (TpuEff nD τ sig (Elt F) (HostLoop.Sig (Pipeline.Sig Λ₀ (Fin 0) fun p => (pcfgs (F := F) p).Adm) 2) .tc) PUnit)) := by
  unfold segs
  rw [List.map_append, List.map_cons, segsOf_prog, List.map_append, List.map_cons, segsOf_prog]
  rfl

theorem segs_chains :
    CSeg.Chains (fun c => iprop(held (c : Thread nD τ) (ucRefs τ sig) (launchContents m c) ∗ Rw c)) (segs m)
      (fun c => iprop(iprop(held (c : Thread nD τ) (ucRefs τ sig) (exit1 m c)) ∗ ∃ W, owes (c : Thread nD τ) (0 : CellTallies nD τ sig Unit) W)) := by
  unfold segs
  exact CSeg.Chains.append (segsOf_chains _ _ _ _ _ _ _ _ Rw [pre0] pre0I_plain _)
    ⟨fun _ => .rfl, CSeg.Chains.append (segsOf_chains _ _ _ _ _ _ _ _ Rw [pre1] pre1I_plain _) ⟨fun _ => .rfl, fun _ => .rfl⟩⟩

/-- The reference runs to its end with every array at `exit1` and every counter at zero. -/
theorem run_exit : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = exit1 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_injective defs₀ Variants.none L lv loops tk m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (exit1 m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = exit1 m c b)
    (hfin := fun c s' => by
      unfold held
      iintro ⟨Hh, HSI⟩
      ihave Hr := (pointsTo_read_all (ucRefs τ sig) (fun b => ((c : Dev nD), b)) (fun b => exit1 m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), by
      funext g; exact hs g (.inr ((by decide : ∀ sm : SemLoc sig, sm.isScoped .tc = true) g.2))⟩)

/-- The three arguments. -/
abbrev args : List (Ref sig .tc) := [main_arg0, main_arg1, main_arg2]

theorem pre0_args (V : Valuation τ sig (Elt F)) (r : Ref sig .tc) (h : r ∈ args) : after pre0 V (Proc.devRef .tc r) = V (Proc.devRef .tc r) :=
  after_of_writes_sub pre0 V pre0_writes ((by decide +kernel : ∀ r ∈ args, r ∉ pre0_W) r h)
theorem cond0_args (V : Valuation τ sig (Elt F)) (r : Ref sig .tc) (h : r ∈ args) : after cond0 V (Proc.devRef .tc r) = V (Proc.devRef .tc r) :=
  after_of_writes_sub cond0 V cond0_writes ((by decide +kernel : ∀ r ∈ args, r ∉ cond0_W) r h)
theorem body0_0_args (V : Valuation τ sig (Elt F)) (r : Ref sig .tc) (h : r ∈ args) : after body0_0 V (Proc.devRef .tc r) = V (Proc.devRef .tc r) :=
  after_of_writes_sub body0_0 V body0_0_writes ((by decide +kernel : ∀ r ∈ args, r ∉ body0_0_W) r h)
theorem body0_1_args (V : Valuation τ sig (Elt F)) (r : Ref sig .tc) (h : r ∈ args) : after body0_1 V (Proc.devRef .tc r) = V (Proc.devRef .tc r) :=
  after_of_writes_sub body0_1 V body0_1_writes ((by decide +kernel : ∀ r ∈ args, r ∉ body0_1_W) r h)
theorem body0_2_args (V : Valuation τ sig (Elt F)) (r : Ref sig .tc) (h : r ∈ args) : after body0_2 V (Proc.devRef .tc r) = V (Proc.devRef .tc r) :=
  after_of_writes_sub body0_2 V body0_2_writes ((by decide +kernel : ∀ r ∈ args, r ∉ body0_2_W) r h)
theorem body0_3_args (V : Valuation τ sig (Elt F)) (r : Ref sig .tc) (h : r ∈ args) : after body0_3 V (Proc.devRef .tc r) = V (Proc.devRef .tc r) :=
  after_of_writes_sub body0_3 V body0_3_writes ((by decide +kernel : ∀ r ∈ args, r ∉ body0_3_W) r h)
theorem body0_4_args (V : Valuation τ sig (Elt F)) (r : Ref sig .tc) (h : r ∈ args) : after body0_4 V (Proc.devRef .tc r) = V (Proc.devRef .tc r) :=
  after_of_writes_sub body0_4 V body0_4_writes ((by decide +kernel : ∀ r ∈ args, r ∉ body0_4_W) r h)
theorem body0_5_args (V : Valuation τ sig (Elt F)) (r : Ref sig .tc) (h : r ∈ args) : after body0_5 V (Proc.devRef .tc r) = V (Proc.devRef .tc r) :=
  after_of_writes_sub body0_5 V body0_5_writes ((by decide +kernel : ∀ r ∈ args, r ∉ body0_5_W) r h)
theorem body0_6_args (V : Valuation τ sig (Elt F)) (r : Ref sig .tc) (h : r ∈ args) : after body0_6 V (Proc.devRef .tc r) = V (Proc.devRef .tc r) :=
  after_of_writes_sub body0_6 V body0_6_writes ((by decide +kernel : ∀ r ∈ args, r ∉ body0_6_W) r h)
theorem pre1_args (V : Valuation τ sig (Elt F)) (r : Ref sig .tc) (h : r ∈ args) : after pre1 V (Proc.devRef .tc r) = V (Proc.devRef .tc r) :=
  after_of_writes_sub pre1 V pre1_writes ((by decide +kernel : ∀ r ∈ args, r ∉ pre1_W) r h)
theorem cond1_args (V : Valuation τ sig (Elt F)) (r : Ref sig .tc) (h : r ∈ args) : after cond1 V (Proc.devRef .tc r) = V (Proc.devRef .tc r) :=
  after_of_writes_sub cond1 V cond1_writes ((by decide +kernel : ∀ r ∈ args, r ∉ cond1_W) r h)
theorem body1_0_args (V : Valuation τ sig (Elt F)) (r : Ref sig .tc) (h : r ∈ args) : after body1_0 V (Proc.devRef .tc r) = V (Proc.devRef .tc r) :=
  after_of_writes_sub body1_0 V body1_0_writes ((by decide +kernel : ∀ r ∈ args, r ∉ body1_0_W) r h)
theorem body1_1_args (V : Valuation τ sig (Elt F)) (r : Ref sig .tc) (h : r ∈ args) : after body1_1 V (Proc.devRef .tc r) = V (Proc.devRef .tc r) :=
  after_of_writes_sub body1_1 V body1_1_writes ((by decide +kernel : ∀ r ∈ args, r ∉ body1_1_W) r h)
theorem body1_2_args (V : Valuation τ sig (Elt F)) (r : Ref sig .tc) (h : r ∈ args) : after body1_2 V (Proc.devRef .tc r) = V (Proc.devRef .tc r) :=
  after_of_writes_sub body1_2 V body1_2_writes ((by decide +kernel : ∀ r ∈ args, r ∉ body1_2_W) r h)
theorem body1_3_args (V : Valuation τ sig (Elt F)) (r : Ref sig .tc) (h : r ∈ args) : after body1_3 V (Proc.devRef .tc r) = V (Proc.devRef .tc r) :=
  after_of_writes_sub body1_3 V body1_3_writes ((by decide +kernel : ∀ r ∈ args, r ∉ body1_3_W) r h)
theorem body1_4_args (V : Valuation τ sig (Elt F)) (r : Ref sig .tc) (h : r ∈ args) : after body1_4 V (Proc.devRef .tc r) = V (Proc.devRef .tc r) :=
  after_of_writes_sub body1_4 V body1_4_writes ((by decide +kernel : ∀ r ∈ args, r ∉ body1_4_W) r h)
theorem body1_5_args (V : Valuation τ sig (Elt F)) (r : Ref sig .tc) (h : r ∈ args) : after body1_5 V (Proc.devRef .tc r) = V (Proc.devRef .tc r) :=
  after_of_writes_sub body1_5 V body1_5_writes ((by decide +kernel : ∀ r ∈ args, r ∉ body1_5_W) r h)
theorem body1_6_args (V : Valuation τ sig (Elt F)) (r : Ref sig .tc) (h : r ∈ args) : after body1_6 V (Proc.devRef .tc r) = V (Proc.devRef .tc r) :=
  after_of_writes_sub body1_6 V body1_6_writes ((by decide +kernel : ∀ r ∈ args, r ∉ body1_6_W) r h)
theorem body1_7_args (V : Valuation τ sig (Elt F)) (r : Ref sig .tc) (h : r ∈ args) : after body1_7 V (Proc.devRef .tc r) = V (Proc.devRef .tc r) :=
  after_of_writes_sub body1_7 V body1_7_writes ((by decide +kernel : ∀ r ∈ args, r ∉ body1_7_W) r h)

theorem at0_args (c : Dev nD) (r : Ref sig .tc) (h : r ∈ args) : ∀ k, at0 m k c (Proc.devRef .tc r) = entry0 m c (Proc.devRef .tc r)
  | 0 => rfl
  | k + 1 => by
    rw [at0_succ]
    simp only [afterL_cons, afterL_nil]
    rw [body0_6_args _ _ h, body0_5_args _ _ h, body0_4_args _ _ h, body0_3_args _ _ h, body0_2_args _ _ h, body0_1_args _ _ h, body0_0_args _ _ h, cond0_args _ _ h, at0_args c r h k]
    rfl

theorem at1_args (c : Dev nD) (r : Ref sig .tc) (h : r ∈ args) : ∀ k, at1 m k c (Proc.devRef .tc r) = entry1 m c (Proc.devRef .tc r)
  | 0 => rfl
  | k + 1 => by
    rw [at1_succ]
    simp only [afterL_cons, afterL_nil]
    rw [body1_7_args _ _ h, body1_6_args _ _ h, body1_5_args _ _ h, body1_4_args _ _ h, body1_3_args _ _ h, body1_2_args _ _ h, body1_1_args _ _ h, body1_0_args _ _ h, cond1_args _ _ h, at1_args c r h k]
    rfl

theorem entry0_args (c : Dev nD) (r : Ref sig .tc) (h : r ∈ args) : entry0 m c (Proc.devRef .tc r) = m ((c.tc : Thread nD τ).loc r) := by
  simp only [entry0, entryContents, afterL_cons, afterL_nil]
  rw [pre0_args _ _ h]

theorem exit0_args (c : Dev nD) (r : Ref sig .tc) (h : r ∈ args) : exit0 m c (Proc.devRef .tc r) = m ((c.tc : Thread nD τ).loc r) := by
  rw [exit0, cond0_args _ _ h, at0_args m c r h, entry0_args m c r h]

theorem exit1_args (c : Dev nD) (r : Ref sig .tc) (h : r ∈ args) : exit1 m c (Proc.devRef .tc r) = m ((c.tc : Thread nD τ).loc r) := by
  rw [exit1, cond1_args _ _ h, at1_args m c r h]
  simp only [entry1, afterL_cons, afterL_nil]
  rw [pre1_args _ _ h, exit0_args m c r h]

end Cert.ReferenceIdeal.Loops

end
-- ==== Proof.Scan.RefVal.lean ====
module

public import proofs.«01_k».proof.Proof.Scan.RefRun
public import Idealize.ShloMosaic.Lib.ValueIdx
public import Idealize.ShloMosaic.Lib.DynamicIndex
public import Idealize.ShloMosaic.PureOps.Ideal
public import Idealize.ShloMosaic.PureOps.Ideal.Laws
public import Idealize.ShloMosaic.Lib.Pipeline.Value
public import Idealize.ShloMosaic.Lib.Pointwise.ShapeOpsCore

/-! The reference's two results, entry by entry. For one channel, `hs` is the state before each token and `mu` what
flows back into a token from the tokens after it. -/

@[expose] public section

set_option maxRecDepth 16384

noncomputable section

namespace Cert.ReferenceIdeal.Loops

open Cert.ReferenceIdeal Cert.ReferenceIdeal.Gen
open Idealize.ShloMosaic Idealize.ShloMosaic.TcCoe Idealize.ShloMosaic.Tactic
open Idealize.SL Idealize.SL.Sem
open Idealize.ShloMosaic.StableHlo

abbrev Arr : Type := (⟨S8448x1024, .f32⟩ : BufTy).Contents (Elt Ideal)
abbrev Row : Type := (⟨S1024, .f32⟩ : BufTy).Contents (Elt Ideal)

/-- Token `k`, channel `j` of an array. -/
def tk' (x : Arr) (j : Fin 1024) (k : ℕ) : EReal := x (ix2 (Fin.ofNat 8448 k) j)

theorem tk'_of (x : Arr) (j : Fin 1024) (r : Fin 8448) : tk' x j r.val = x (ix2 r j) := by
  unfold tk'; congr 2; exact Fin.ext (Nat.mod_eq_of_lt r.isLt)

theorem tk'_at (x : Arr) (j : Fin 1024) (k : ℕ) (hk : k < 8448) : tk' x j k = x (ix2 ⟨k, hk⟩ j) := tk'_of x j ⟨k, hk⟩

/-- A token's number as the counter holds it. -/
abbrev ctr (k : ℕ) : (⟨S_, .i32⟩ : BufTy).Contents (Elt Ideal) := fun _ => BitVec.ofNat 32 k

theorem iv_eq (k : ℕ) : Scf.iv 0#32 1#32 k = BitVec.ofNat 32 k := by
  induction k with
  | zero => rfl
  | succ n ih => rw [Scf.iv_succ, ih, ← BitVec.ofNat_add]

/-- Where a row's window starts. -/
abbrev startAt (i : (⟨S_, .i32⟩ : BufTy).Contents (Elt Ideal)) : Fin 2 → Int :=
  fun k => (((![i, constantI S_ 32 0#32] : Fin 2 → (⟨S_, .i32⟩ : BufTy).Contents (Elt Ideal))) k (Shape.Idx.first h_S_)).toInt

theorem startAt_zero (k : ℕ) (hk : k < 8448) : startAt (ctr k) 0 = (k : Int) := toInt_ofNat_of_lt (by omega)

theorem clamp0 (k : ℕ) (hk : k < 8448) : Host.clampedStart S8448x1024 S1x1024 rfl (startAt (ctr k)) 0 = k :=
  Host.clampedStart_of_le (s := S8448x1024) (t := S1x1024) rfl _ (0 : Fin 2) k (startAt_zero k hk) (show k + 1 ≤ 8448 by omega)
theorem clamp1 (k : ℕ) : Host.clampedStart S8448x1024 S1x1024 rfl (startAt (ctr k)) 1 = 0 :=
  Host.clampedStart_of_le (s := S8448x1024) (t := S1x1024) rfl _ (1 : Fin 2) 0 rfl (show 0 + 1024 ≤ 1024 by omega)

theorem getRow_apply (x : Arr) (k : ℕ) (hk : k < 8448) (j : Fin 1024) : getRow x (ctr k) (ix1 j) = x (ix2 ⟨k, hk⟩ j) := by
  unfold getRow
  rw [shapeCast_dropUnit_apply ![1024], Host.dynamicSlice_apply]
  congr 1
  funext d
  match d with
  | ⟨0, _⟩ => exact Fin.ext (show Host.clampedStart S8448x1024 S1x1024 rfl (startAt (ctr k)) 0 + 0 = k by rw [clamp0 k hk, Nat.add_zero])
  | ⟨1, _⟩ => exact Fin.ext (show Host.clampedStart S8448x1024 S1x1024 rfl (startAt (ctr k)) 1 + j.val = j.val by rw [clamp1, Nat.zero_add])

theorem putRow_apply (x : Arr) (u : Row) (k : ℕ) (hk : k < 8448) (r : Fin 8448) (j : Fin 1024) :
    putRow x u (ctr k) (ix2 r j) = if r.val = k then u (ix1 j) else x (ix2 r j) := by
  unfold putRow
  rw [Host.dynamicUpdateSlice_apply]
  have hc : (∀ a : Fin 2, Host.clampedStart S8448x1024 S1x1024 rfl (startAt (ctr k)) a ≤ ((ix2 r j : S8448x1024.Idx) a).val
      ∧ ((ix2 r j : S8448x1024.Idx) a).val < Host.clampedStart S8448x1024 S1x1024 rfl (startAt (ctr k)) a + S1x1024.size a) ↔ r.val = k := by
    constructor
    · intro h
      have h0 := h 0
      rw [clamp0 k hk] at h0
      have h1 : k ≤ r.val ∧ r.val < k + 1 := h0
      omega
    · intro h a
      match a with
      | ⟨0, _⟩ =>
        show Host.clampedStart S8448x1024 S1x1024 rfl (startAt (ctr k)) 0 ≤ r.val ∧ r.val < Host.clampedStart S8448x1024 S1x1024 rfl (startAt (ctr k)) 0 + 1
        rw [clamp0 k hk]; omega
      | ⟨1, _⟩ =>
        show Host.clampedStart S8448x1024 S1x1024 rfl (startAt (ctr k)) 1 ≤ j.val ∧ j.val < Host.clampedStart S8448x1024 S1x1024 rfl (startAt (ctr k)) 1 + 1024
        rw [clamp1]; have := j.isLt; omega
  by_cases e : r.val = k
  · rw [if_pos e]
    refine (dif_pos (hc.mpr e)).trans ?_
    refine broadcastInDim_apply _ _ _ _ (ix1 j) ?_
    intro a
    match a with
    | ⟨0, _⟩ => rfl
  · rw [if_neg e]
    exact dif_neg (fun h => e (hc.mp h))

theorem back_ctr (k : ℕ) (hk : k < 8448) : subi (subi (constantI S_ 32 8448#32) (ctr k)) (constantI S_ 32 1#32) = ctr (8447 - k) := by
  funext i
  show (8448#32 - BitVec.ofNat 32 k) - 1#32 = BitVec.ofNat 32 (8447 - k)
  apply BitVec.eq_of_toNat_eq
  simp only [BitVec.toNat_sub, BitVec.toNat_ofNat]
  omega

/-- The state before token `k`: `h ← a h + u`, from zero. -/
def hs (a u : Arr) (j : Fin 1024) : ℕ → EReal
  | 0 => 0
  | k + 1 => tk' a j k * hs a u j k + tk' u j k

/-- What flows back into token `8447 - n` from the `n` tokens after it. -/
def mu (a dh : Arr) (j : Fin 1024) : ℕ → EReal
  | 0 => 0
  | n + 1 => tk' a j (8447 - n) * (mu a dh j n + tk' dh j (8447 - n))

/-- `exp` of every entry. -/
def dec (x : Arr) : Arr := fun i => Ideal.exp (x i)

section
variable (m : (ℓ : Loc nD τ sig) → Buf (Elt Ideal) ℓ) (c : Dev nD)

abbrev la : Arr := m ((c.tc : Thread nD τ).loc main_arg0)
abbrev uu : Arr := m ((c.tc : Thread nD τ).loc main_arg1)
abbrev dd : Arr := m ((c.tc : Thread nD τ).loc main_arg2)
/-- The decays `exp(log_a)`. -/
abbrev aa : Arr := dec (la m c)

theorem entry0_la : entry0 m c (Proc.devRef .tc main_v4_0) = la m c := by
  simp only [entry0, entryContents, afterL_cons, afterL_nil]; after_reads_simp; rfl
theorem entry0_u : entry0 m c (Proc.devRef .tc main_v4_1) = uu m c := by
  simp only [entry0, entryContents, afterL_cons, afterL_nil]; after_reads_simp; rfl
theorem entry0_h (j : Fin 1024) : (entry0 m c (Proc.devRef .tc main_v4_3) : Row) (ix1 j) = (0 : EReal) := by
  simp only [entry0, entryContents, afterL_cons, afterL_nil]; after_reads_simp
  exact Idealize.ShloMosaic.Ideal.ofBits_zero_f32

theorem at0_la : ∀ k, at0 m k c (Proc.devRef .tc main_v4_0) = la m c
  | 0 => entry0_la m c
  | k + 1 => by rw [at0_succ, trip0_main_v4_0]; exact at0_la k
theorem at0_u : ∀ k, at0 m k c (Proc.devRef .tc main_v4_1) = uu m c
  | 0 => entry0_u m c
  | k + 1 => by rw [at0_succ, trip0_main_v4_1]; exact at0_u k
theorem at0_ct (k : ℕ) : at0 m k c (Proc.devRef .tc main_v4_2) = ctr k := by
  rw [at0_ctr]; funext _; exact iv_eq k

theorem at0_h (j : Fin 1024) : ∀ k, k ≤ 8448 → (at0 m k c (Proc.devRef .tc main_v4_3) : Row) (ix1 j) = hs (aa m c) (uu m c) j k
  | 0, _ => entry0_h m c j
  | k + 1, hk => by
    rw [at0_succ, trip0_main_v4_3, at0_la, at0_u, at0_ct]
    show FloatOps.addf (FloatOps.mulf (FloatOps.hostUnary .exp (getRow (la m c) (ctr k) (ix1 j))) _) (getRow (uu m c) (ctr k) (ix1 j)) = _
    rw [getRow_apply _ k hk, getRow_apply _ k hk, at0_h j k (by omega)]
    show _ = tk' (aa m c) j k * hs (aa m c) (uu m c) j k + tk' (uu m c) j k
    rw [tk'_at _ _ k hk, tk'_at _ _ k hk]
    rfl

theorem at0_a (j : Fin 1024) (r : Fin 8448) : ∀ k, k ≤ 8448 → r.val < k → (at0 m k c (Proc.devRef .tc main_v4_5) : Arr) (ix2 r j) = aa m c (ix2 r j)
  | 0, _, h => absurd h (Nat.not_lt_zero _)
  | k + 1, hk, h => by
    rw [at0_succ, trip0_main_v4_5, at0_la, at0_ct, putRow_apply _ _ k hk]
    split
    · next e =>
      show FloatOps.hostUnary .exp (getRow (la m c) (ctr k) (ix1 j)) = _
      rw [getRow_apply _ k hk]
      subst e; rfl
    · exact at0_a j r k (by omega) (by omega)

theorem at0_hp (j : Fin 1024) (r : Fin 8448) : ∀ k, k ≤ 8448 → r.val < k → (at0 m k c (Proc.devRef .tc main_v4_6) : Arr) (ix2 r j) = hs (aa m c) (uu m c) j r.val
  | 0, _, h => absurd h (Nat.not_lt_zero _)
  | k + 1, hk, h => by
    rw [at0_succ, trip0_main_v4_6, at0_ct, putRow_apply _ _ k hk]
    split
    · next e => rw [at0_h m c j k (by omega), e]
    · exact at0_hp j r k (by omega) (by omega)

theorem pre1_dh (V : Valuation τ sig (Elt Ideal)) : after pre1 V (Proc.devRef .tc main_v9_0) = V (Proc.devRef .tc main_arg2) := by
  after_results; rfl
theorem pre1_a (V : Valuation τ sig (Elt Ideal)) : after pre1 V (Proc.devRef .tc main_v9_1) = V (Proc.devRef .tc main_v4_5) := by
  after_results; rfl
theorem pre1_hp (V : Valuation τ sig (Elt Ideal)) : after pre1 V (Proc.devRef .tc main_v9_2) = V (Proc.devRef .tc main_v4_6) := by
  after_results; rfl

theorem entry1_dh : entry1 m c (Proc.devRef .tc main_v9_0) = dd m c :=
  (pre1_dh _).trans (exit0_args m c main_arg2 (by decide))
theorem entry1_a (j : Fin 1024) (r : Fin 8448) : (entry1 m c (Proc.devRef .tc main_v9_1) : Arr) (ix2 r j) = aa m c (ix2 r j) :=
  (congrFun ((pre1_a _).trans (cond0_keeps _ _ (by decide +kernel))) (ix2 r j)).trans (at0_a m c j r 8448 le_rfl r.isLt)
theorem entry1_hp (j : Fin 1024) (r : Fin 8448) : (entry1 m c (Proc.devRef .tc main_v9_2) : Arr) (ix2 r j) = hs (aa m c) (uu m c) j r.val :=
  (congrFun ((pre1_hp _).trans (cond0_keeps _ _ (by decide +kernel))) (ix2 r j)).trans (at0_hp m c j r 8448 le_rfl r.isLt)
theorem entry1_mu (j : Fin 1024) : (entry1 m c (Proc.devRef .tc main_v9_4) : Row) (ix1 j) = (0 : EReal) := by
  simp only [entry1, afterL_cons, afterL_nil]
  generalize exit0 m c = V
  after_results
  exact Idealize.ShloMosaic.Ideal.ofBits_zero_f32

theorem at1_dh : ∀ k, at1 m k c (Proc.devRef .tc main_v9_0) = dd m c
  | 0 => entry1_dh m c
  | k + 1 => by rw [at1_succ, trip1_main_v9_0]; exact at1_dh k
theorem at1_a (j : Fin 1024) (r : Fin 8448) : ∀ k, (at1 m k c (Proc.devRef .tc main_v9_1) : Arr) (ix2 r j) = aa m c (ix2 r j)
  | 0 => entry1_a m c j r
  | k + 1 => by rw [at1_succ, trip1_main_v9_1]; exact at1_a j r k
theorem at1_hp (j : Fin 1024) (r : Fin 8448) : ∀ k, (at1 m k c (Proc.devRef .tc main_v9_2) : Arr) (ix2 r j) = hs (aa m c) (uu m c) j r.val
  | 0 => entry1_hp m c j r
  | k + 1 => by rw [at1_succ, trip1_main_v9_2]; exact at1_hp j r k
theorem at1_ct (k : ℕ) : at1 m k c (Proc.devRef .tc main_v9_3) = ctr k := by
  rw [at1_ctr]; funext _; exact iv_eq k

theorem at1_mu (j : Fin 1024) : ∀ k, k ≤ 8448 → (at1 m k c (Proc.devRef .tc main_v9_4) : Row) (ix1 j) = mu (aa m c) (dd m c) j k
  | 0, _ => entry1_mu m c j
  | k + 1, hk => by
    have hb : 8447 - k < 8448 := by omega
    rw [at1_succ, trip1_main_v9_4, at1_dh, at1_ct, back_ctr k hk]
    show FloatOps.mulf (getRow _ (ctr (8447 - k)) (ix1 j)) (FloatOps.addf _ (getRow (dd m c) (ctr (8447 - k)) (ix1 j))) = _
    rw [getRow_apply _ _ hb, getRow_apply _ _ hb, at1_mu j k (by omega), at1_a]
    show _ = tk' (aa m c) j (8447 - k) * (mu (aa m c) (dd m c) j k + tk' (dd m c) j (8447 - k))
    rw [tk'_at _ _ _ hb, tk'_at _ _ _ hb]
    rfl

/-- The gradient of `u`: what flows back, and the token's own cotangent. -/
def duV (a dh : Arr) (r : Fin 8448) (j : Fin 1024) : EReal := mu a dh j (8447 - r.val) + dh (ix2 r j)

theorem at1_du (j : Fin 1024) (r : Fin 8448) : ∀ k, k ≤ 8448 → 8448 - k ≤ r.val →
    (at1 m k c (Proc.devRef .tc main_v9_6) : Arr) (ix2 r j) = duV (aa m c) (dd m c) r j
  | 0, _, h => absurd r.isLt (by omega)
  | k + 1, hk, h => by
    have hb : 8447 - k < 8448 := by omega
    rw [at1_succ, trip1_main_v9_6, at1_dh, at1_ct, back_ctr k hk, putRow_apply _ _ _ hb]
    split
    · next e =>
      show FloatOps.addf (_ : Ideal .f32) (getRow (dd m c) (ctr (8447 - k)) (ix1 j)) = _
      rw [getRow_apply _ _ hb, at1_mu m c j k (by omega)]
      obtain rfl : k = 8447 - r.val := by omega
      unfold duV
      rw [show (⟨8447 - (8447 - r.val), hb⟩ : Fin 8448) = r from Fin.ext e.symm]
      rfl
    · exact at1_du j r k (by omega) (by omega)

theorem at1_dla (j : Fin 1024) (r : Fin 8448) : ∀ k, k ≤ 8448 → 8448 - k ≤ r.val →
    (at1 m k c (Proc.devRef .tc main_v9_5) : Arr) (ix2 r j)
      = duV (aa m c) (dd m c) r j * hs (aa m c) (uu m c) j r.val * aa m c (ix2 r j)
  | 0, _, h => absurd r.isLt (by omega)
  | k + 1, hk, h => by
    have hb : 8447 - k < 8448 := by omega
    rw [at1_succ, trip1_main_v9_5, at1_dh, at1_ct, back_ctr k hk, putRow_apply _ _ _ hb]
    split
    · next e =>
      show FloatOps.mulf (FloatOps.mulf (FloatOps.addf (_ : Ideal .f32) (getRow (dd m c) (ctr (8447 - k)) (ix1 j)))
        (getRow _ (ctr (8447 - k)) (ix1 j))) (getRow _ (ctr (8447 - k)) (ix1 j)) = _
      rw [getRow_apply _ _ hb, getRow_apply _ _ hb, getRow_apply _ _ hb, at1_mu m c j k (by omega), at1_a, at1_hp]
      obtain rfl : k = 8447 - r.val := by omega
      unfold duV
      rw [show (⟨8447 - (8447 - r.val), hb⟩ : Fin 8448) = r from Fin.ext e.symm]
      rfl
    · exact at1_dla j r k (by omega) (by omega)

theorem exit1_du (r : Fin 8448) (j : Fin 1024) : (exit1 m c (Proc.devRef .tc main_v9_6) : Arr) (ix2 r j) = duV (aa m c) (dd m c) r j := by
  rw [exit1, cond1_keeps _ main_v9_6 (by decide +kernel)]; exact at1_du m c j r 8448 le_rfl (by omega)
theorem exit1_dla (r : Fin 8448) (j : Fin 1024) : (exit1 m c (Proc.devRef .tc main_v9_5) : Arr) (ix2 r j)
    = duV (aa m c) (dd m c) r j * hs (aa m c) (uu m c) j r.val * aa m c (ix2 r j) := by
  rw [exit1, cond1_keeps _ main_v9_5 (by decide +kernel)]; exact at1_dla m c j r 8448 le_rfl (by omega)

end

end Cert.ReferenceIdeal.Loops

end
-- ==== Proof.Scan.Tile.lean ====
/-
  The 8-row tile of the two scans at the extended reals, entry by entry.

  A tile's scan is three doubling steps along its eight rows, each with a rotation by 1, 2, 4 rows and a mask, then the carried row taken in. Down
  a column this is the recurrence itself, as long as a decay distributes over a sum: a finite nonnegative one does, over any two extended reals.
-/
module

public import proofs.«01_k».proof.Proof.Scan.Run
public import Idealize.ShloMosaic.Lib.Pointwise
public import Idealize.ShloMosaic.Lib.KernelVsHost
public import Idealize.ShloMosaic.PureOps.Ideal.Laws

@[expose] public section

set_option maxRecDepth 16384

noncomputable section

namespace Cert.KernelIdeal.Scan

open Cert.KernelIdeal Cert.KernelIdeal.Gen
open Idealize.ShloMosaic

/-- The decay `x` distributes over sums. -/
abbrev Dist (x : EReal) : Prop := ∀ y z : EReal, x * (y + z) = x * y + x * z

theorem dist_of {x : EReal} (h0 : 0 ≤ x) (h1 : x ≠ ⊤) : Dist x := fun y z => EReal.left_distrib_of_nonneg_of_ne_top h0 h1 y z

/-! ## One step down a tile -/

/-- The tile rotated by `n` rows, at row `k`: the row `n` above, around the end. -/
theorem rot_at (n : BitVec 32) (x : FVec Ideal S8x1024 .f32) (k : Fin 8) (j : Fin 1024) :
    dynamicRotate 0 n none x rotates_S8x1024_d0 (ix2 k j) = x (ix2 ⟨(k.val + 8 - n.toNat % 8) % 8, Nat.mod_lt _ (by decide)⟩ j) :=
  dynamicRotate_apply (s := S8x1024) 0 n x rotates_S8x1024_d0 (ix2 k j) _ fun b => by
    match b with
    | ⟨0, _⟩ => rfl
    | ⟨1, _⟩ => rfl

theorem iota_at (k : Fin 8) (j : Fin 1024) : iota .tc S8x1024 32 [0] iota_S8x1024_d0_w32 (ix2 k j) = BitVec.ofNat 32 k.val :=
  iota_single_apply .tc S8x1024 32 0 iota_S8x1024_d0_w32 (ix2 k j)

theorem bcast_at (x : FVec Ideal S1x1024 .f32) (k : Fin 8) (j : Fin 1024) :
    broadcastTo S8x1024 x broadcasts_S1x1024_S8x1024 (ix2 k j) = x (ix2 0 j) :=
  broadcastTo_apply (s := S1x1024) (t := S8x1024) x broadcasts_S1x1024_S8x1024 (ix2 k j) (ix2 0 j) fun a => by
    match a with
    | ⟨0, _⟩ => rfl
    | ⟨1, _⟩ => rfl

/-- A word equal to one decides a selection. -/
theorem select_of {s : Shape} (c : IVec s 1) (x y : FVec Ideal s .f32) (i : s.Idx) (b : Bool) (h : c i = BitVec.ofBool b) :
    select c x y i = if b then x i else y i := by
  show Scalar.select (c i) (x i) (y i) = _
  rw [h]; cases b <;> rfl

theorem ge_at (n : BitVec 32) (x y : FVec Ideal S8x1024 .f32) (k : Fin 8) (j : Fin 1024) :
    select (cmpi .sge (iota .tc S8x1024 32 [0] iota_S8x1024_d0_w32) (broadcast S8x1024 n)) x y (ix2 k j)
      = if n.sle (BitVec.ofNat 32 k.val) then x (ix2 k j) else y (ix2 k j) :=
  select_of _ x y _ _ (by
    show IntOp.cmpi .sge (iota .tc S8x1024 32 [0] iota_S8x1024_d0_w32 (ix2 k j)) n = _
    rw [iota_at]; rfl)

theorem lt_at (n : BitVec 32) (x y : FVec Ideal S8x1024 .f32) (k : Fin 8) (j : Fin 1024) :
    select (cmpi .slt (iota .tc S8x1024 32 [0] iota_S8x1024_d0_w32) (broadcast S8x1024 n)) x y (ix2 k j)
      = if (BitVec.ofNat 32 k.val).slt n then x (ix2 k j) else y (ix2 k j) :=
  select_of _ x y _ _ (by
    show IntOp.cmpi .slt (iota .tc S8x1024 32 [0] iota_S8x1024_d0_w32 (ix2 k j)) n = _
    rw [iota_at]; rfl)

theorem eq_at (n : BitVec 32) (x y : FVec Ideal S8x1024 .f32) (k : Fin 8) (j : Fin 1024) :
    select (cmpi .eq (iota .tc S8x1024 32 [0] iota_S8x1024_d0_w32) (broadcast S8x1024 n)) x y (ix2 k j)
      = if (BitVec.ofNat 32 k.val == n) then x (ix2 k j) else y (ix2 k j) :=
  select_of _ x y _ _ (by
    show IntOp.cmpi .eq (iota .tc S8x1024 32 [0] iota_S8x1024_d0_w32 (ix2 k j)) n = _
    rw [iota_at]; rfl)

/-- The sum down a column with all rows but row `k` put to zero is that row. -/
theorem colsum_at (n : BitVec 32) (k : Fin 8) (hk : ∀ r : Fin 8, (BitVec.ofNat 32 r.val == n) = decide (r = k)) (x : FVec Ideal S8x1024 .f32) (j : Fin 1024) :
    multiReduction (F := Ideal) .add [0] S1024 (select (cmpi .eq (iota .tc S8x1024 32 [0] iota_S8x1024_d0_w32) (broadcast S8x1024 n)) x
      (broadcast S8x1024 (Scalar.ofBits (F := Ideal) .f32 0x00000000#32))) 0x00000000#32 reduces_S8x1024_S1024 (.inl rfl) rfl (ix1 j) = x (ix2 k j) := by
  refine (Ideal.multiReduction_add_single _ _ reduces_S8x1024_S1024 (.inl rfl) rfl (ix1 j)).trans ?_
  have hl : ∀ r : Fin 8, Shape.Reduces.lift reduces_S8x1024_S1024 (ix1 j) r = ix2 r j := fun r => by
    funext a; match a with
    | ⟨0, _⟩ => rfl
    | ⟨1, _⟩ => rfl
  refine (Finset.sum_eq_single (M := EReal) k (fun r _ hr => ?_) (fun h => absurd (Finset.mem_univ _) h)).trans ?_
  · rw [hl, eq_at, hk, decide_eq_false hr]; exact Ideal.ofBits_zero_f32
  · rw [hl, eq_at, hk, decide_eq_true rfl]; rfl

/-- A row viewed as a one-row tile. -/
theorem addrow_at (x : FVec Ideal S1024 .f32) (j : Fin 1024) : shapeCast S1x1024 x shapeCasts_S1024_S1x1024 (ix2 0 j) = x (ix1 j) :=
  (shapeCast_addUnit_apply ![1024] x shapeCasts_S1024_S1x1024 (ix2 0 j)).trans (congrArg x (funext fun a => match a with | ⟨0, _⟩ => rfl))

/-! ## The doubling steps, down one column -/

/-- The row `n` above, around the end. -/
def sh (n : ℕ) (k : Fin 8) : Fin 8 := ⟨(k.val + 8 - n % 8) % 8, Nat.mod_lt _ (by decide)⟩

/-- A step on the offsets, and on the decays, where `p` holds. -/
def stB (p : Fin 8 → Bool) (n : ℕ) (A B : Fin 8 → EReal) (k : Fin 8) : EReal := if p k then B k + A k * B (sh n k) else B k
def stA (p : Fin 8 → Bool) (n : ℕ) (A : Fin 8 → EReal) (k : Fin 8) : EReal := if p k then A k * A (sh n k) else A k

/-- Column `j` of a tile. -/
abbrev col (x : FVec Ideal S8x1024 .f32) (j : Fin 1024) (k : Fin 8) : EReal := x (ix2 k j)

abbrev geM (n : BitVec 32) : IVec S8x1024 1 := cmpi .sge (iota .tc S8x1024 32 [0] iota_S8x1024_d0_w32) (broadcast S8x1024 n)
abbrev ltM (n : BitVec 32) : IVec S8x1024 1 := cmpi .slt (iota .tc S8x1024 32 [0] iota_S8x1024_d0_w32) (broadcast S8x1024 n)
abbrev rotV (n : BitVec 32) (x : FVec Ideal S8x1024 .f32) : FVec Ideal S8x1024 .f32 := dynamicRotate 0 n none x rotates_S8x1024_d0

theorem rotV_at (n : BitVec 32) (x : FVec Ideal S8x1024 .f32) (k : Fin 8) (j : Fin 1024) : rotV n x (ix2 k j) = col x j (sh n.toNat k) := rot_at n x k j

theorem geB (n : BitVec 32) (A B : FVec Ideal S8x1024 .f32) (j : Fin 1024) :
    col (select (geM n) (addf B (mulf A (rotV n B))) B) j = stB (fun k => n.sle (BitVec.ofNat 32 k.val)) n.toNat (col A j) (col B j) := by
  funext k
  show select _ _ _ (ix2 k j) = _
  rw [ge_at, addf_apply, mulf_apply, rotV_at]; rfl
theorem geA (n : BitVec 32) (A : FVec Ideal S8x1024 .f32) (j : Fin 1024) :
    col (select (geM n) (mulf A (rotV n A)) A) j = stA (fun k => n.sle (BitVec.ofNat 32 k.val)) n.toNat (col A j) := by
  funext k
  show select _ _ _ (ix2 k j) = _
  rw [ge_at, mulf_apply, rotV_at]; rfl
theorem ltB (n r : BitVec 32) (A B : FVec Ideal S8x1024 .f32) (j : Fin 1024) :
    col (select (ltM n) (addf B (mulf A (rotV r B))) B) j = stB (fun k => (BitVec.ofNat 32 k.val).slt n) r.toNat (col A j) (col B j) := by
  funext k
  show select _ _ _ (ix2 k j) = _
  rw [lt_at, addf_apply, mulf_apply, rotV_at]; rfl
theorem ltA (n r : BitVec 32) (A : FVec Ideal S8x1024 .f32) (j : Fin 1024) :
    col (select (ltM n) (mulf A (rotV r A)) A) j = stA (fun k => (BitVec.ofNat 32 k.val).slt n) r.toNat (col A j) := by
  funext k
  show select _ _ _ (ix2 k j) = _
  rw [lt_at, mulf_apply, rotV_at]; rfl

/-! ## The forward tile -/

/-- The recurrence down one column of a tile, from `c`. -/
def rec8 (A U : Fin 8 → EReal) (c : EReal) : ℕ → EReal
  | 0 => c
  | k + 1 => U (Fin.ofNat 8 k) + A (Fin.ofNat 8 k) * rec8 A U c k

/-- The three steps and the carried row are the recurrence. -/
theorem fwd8 (A U : Fin 8 → EReal) (c : EReal) (hA : ∀ r, Dist (A r)) (k : Fin 8) :
    stB (fun k => (4#32).sle (BitVec.ofNat 32 k.val)) 4 (stA (fun k => (2#32).sle (BitVec.ofNat 32 k.val)) 2 (stA (fun k => (1#32).sle (BitVec.ofNat 32 k.val)) 1 A))
        (stB (fun k => (2#32).sle (BitVec.ofNat 32 k.val)) 2 (stA (fun k => (1#32).sle (BitVec.ofNat 32 k.val)) 1 A)
          (stB (fun k => (1#32).sle (BitVec.ofNat 32 k.val)) 1 A U)) k
      + stA (fun k => (4#32).sle (BitVec.ofNat 32 k.val)) 4 (stA (fun k => (2#32).sle (BitVec.ofNat 32 k.val)) 2 (stA (fun k => (1#32).sle (BitVec.ofNat 32 k.val)) 1 A)) k * c
      = rec8 A U c (k.val + 1) := by
  have h : ∀ r, ∀ y z : EReal, A r * (y + z) = A r * y + A r * z := hA
  fin_cases k
  all_goals simp (decide := true) only [stA, stB, sh, if_true, if_false, Fin.ofNat, rec8, h, mul_assoc, add_assoc]
  all_goals rfl

theorem pay3_at (c : Vec Ideal S1x1024 .f32) (a u : Vec Ideal S8x1024 .f32) (k : Fin 8) (j : Fin 1024)
    (hA : ∀ r : Fin 8, Dist (a (ix2 r j))) :
    k0_pay3 (F := Ideal) c a u (ix2 k j) = rec8 (col a j) (col u j) (c (ix2 0 j)) (k.val + 1) := by
  rw [← fwd8 _ _ _ hA]
  have e1 := geA 1#32 a j
  have f1 := geB 1#32 a u j
  have e2 := geA 2#32 (select (geM 1#32) (mulf a (rotV 1#32 a)) a) j
  have f2 := geB 2#32 (select (geM 1#32) (mulf a (rotV 1#32 a)) a) (select (geM 1#32) (addf u (mulf a (rotV 1#32 u))) u) j
  rw [e1] at e2 f2; rw [f1] at f2
  have e3 := geA 4#32 (select (geM 2#32) (mulf (select (geM 1#32) (mulf a (rotV 1#32 a)) a) (rotV 2#32 (select (geM 1#32) (mulf a (rotV 1#32 a)) a))) (select (geM 1#32) (mulf a (rotV 1#32 a)) a)) j
  have f3 := geB 4#32 (select (geM 2#32) (mulf (select (geM 1#32) (mulf a (rotV 1#32 a)) a) (rotV 2#32 (select (geM 1#32) (mulf a (rotV 1#32 a)) a))) (select (geM 1#32) (mulf a (rotV 1#32 a)) a))
    (select (geM 2#32) (addf (select (geM 1#32) (addf u (mulf a (rotV 1#32 u))) u) (mulf (select (geM 1#32) (mulf a (rotV 1#32 a)) a) (rotV 2#32 (select (geM 1#32) (addf u (mulf a (rotV 1#32 u))) u)))) (select (geM 1#32) (addf u (mulf a (rotV 1#32 u))) u)) j
  rw [e2] at e3 f3; rw [f2] at f3
  have e := congrFun e3 k
  have f := congrFun f3 k
  unfold k0_pay3
  simp only [shapeCast_self]
  rw [addf_apply, mulf_apply, bcast_at]
  exact congrArg₂ (· + ·) f (congrArg (· * _) e)

/-- The row a tile hands on is its last. -/
theorem pay4_at (c : Vec Ideal S1x1024 .f32) (a u : Vec Ideal S8x1024 .f32) (j : Fin 1024) (hA : ∀ r : Fin 8, Dist (a (ix2 r j))) :
    k0_pay4 (F := Ideal) c a u (ix2 0 j) = rec8 (col a j) (col u j) (c (ix2 0 j)) 8 := by
  unfold k0_pay4
  refine (addrow_at _ j).trans ?_
  exact (colsum_at 7#32 7 (by decide) _ j).trans (pay3_at c a u 7 j hA)

/-! ## The backward tile -/

/-- The recurrence up one column of a tile, from `c` below it. -/
def recb8 (A D : Fin 8 → EReal) (c : EReal) : ℕ → EReal
  | 0 => c
  | n + 1 => A (Fin.ofNat 8 (7 - n)) * D (Fin.ofNat 8 (7 - n)) + A (Fin.ofNat 8 (7 - n)) * recb8 A D c n

theorem bwd8 (A D : Fin 8 → EReal) (c : EReal) (hA : ∀ r, Dist (A r)) (k : Fin 8) :
    stB (fun k => (BitVec.ofNat 32 k.val).slt 4#32) 4 (stA (fun k => (BitVec.ofNat 32 k.val).slt 6#32) 6 (stA (fun k => (BitVec.ofNat 32 k.val).slt 7#32) 7 A))
        (stB (fun k => (BitVec.ofNat 32 k.val).slt 6#32) 6 (stA (fun k => (BitVec.ofNat 32 k.val).slt 7#32) 7 A)
          (stB (fun k => (BitVec.ofNat 32 k.val).slt 7#32) 7 A (fun k => A k * D k))) k
      + stA (fun k => (BitVec.ofNat 32 k.val).slt 4#32) 4 (stA (fun k => (BitVec.ofNat 32 k.val).slt 6#32) 6 (stA (fun k => (BitVec.ofNat 32 k.val).slt 7#32) 7 A)) k * c
      = recb8 A D c (8 - k.val) := by
  have h : ∀ r, ∀ y z : EReal, A r * (y + z) = A r * y + A r * z := hA
  fin_cases k
  all_goals simp (decide := true) only [stA, stB, sh, if_true, if_false, Fin.ofNat, recb8, h, mul_assoc, add_assoc]
  all_goals rfl

theorem mu_at (c : Vec Ideal S1x1024 .f32) (a d : Vec Ideal S8x1024 .f32) (k : Fin 8) (j : Fin 1024) (hA : ∀ r : Fin 8, Dist (a (ix2 r j))) :
    k1_pay6 (F := Ideal) c a d (ix2 k j) = recb8 (col a j) (col d j) (c (ix2 0 j)) (8 - k.val) := by
  rw [← bwd8 _ _ _ hA]
  have e1 := ltA 7#32 7#32 a j
  have f1 := ltB 7#32 7#32 a (mulf a d) j
  have e2 := ltA 6#32 6#32 (select (ltM 7#32) (mulf a (rotV 7#32 a)) a) j
  have f2 := ltB 6#32 6#32 (select (ltM 7#32) (mulf a (rotV 7#32 a)) a) (select (ltM 7#32) (addf (mulf a d) (mulf a (rotV 7#32 (mulf a d)))) (mulf a d)) j
  rw [e1] at e2 f2; rw [f1] at f2
  have e3 := ltA 4#32 4#32 (select (ltM 6#32) (mulf (select (ltM 7#32) (mulf a (rotV 7#32 a)) a) (rotV 6#32 (select (ltM 7#32) (mulf a (rotV 7#32 a)) a))) (select (ltM 7#32) (mulf a (rotV 7#32 a)) a)) j
  have f3 := ltB 4#32 4#32 (select (ltM 6#32) (mulf (select (ltM 7#32) (mulf a (rotV 7#32 a)) a) (rotV 6#32 (select (ltM 7#32) (mulf a (rotV 7#32 a)) a))) (select (ltM 7#32) (mulf a (rotV 7#32 a)) a))
    (select (ltM 6#32) (addf (select (ltM 7#32) (addf (mulf a d) (mulf a (rotV 7#32 (mulf a d)))) (mulf a d)) (mulf (select (ltM 7#32) (mulf a (rotV 7#32 a)) a) (rotV 6#32 (select (ltM 7#32) (addf (mulf a d) (mulf a (rotV 7#32 (mulf a d)))) (mulf a d))))) (select (ltM 7#32) (addf (mulf a d) (mulf a (rotV 7#32 (mulf a d)))) (mulf a d))) j
  rw [e2] at e3 f3; rw [f2] at f3
  have e := congrFun e3 k
  have f := congrFun f3 k
  unfold k1_pay6
  simp only [shapeCast_self]
  rw [addf_apply, mulf_apply, bcast_at]
  exact congrArg₂ (· + ·) f (congrArg (· * _) e)

/-- The adjoint of the row: the cotangent there, and what comes up from the row below. -/
theorem lam_at (c : Vec Ideal S1x1024 .f32) (a d : Vec Ideal S8x1024 .f32) (k : Fin 8) (j : Fin 1024) (hA : ∀ r : Fin 8, Dist (a (ix2 r j))) :
    k1_pay3 (F := Ideal) c d (k1_pay6 (F := Ideal) c a d) (ix2 k j) = d (ix2 k j) + recb8 (col a j) (col d j) (c (ix2 0 j)) (7 - k.val) := by
  unfold k1_pay3
  simp only [shapeCast_self]
  rw [addf_apply, eq_at, bcast_at, rot_at, mu_at _ _ _ _ _ hA]
  refine congrArg (d (ix2 k j) + ·) ?_
  fin_cases k
  all_goals rfl

/-- The row handed up is the first. -/
theorem pay2_at (c : Vec Ideal S1x1024 .f32) (a d : Vec Ideal S8x1024 .f32) (j : Fin 1024) (hA : ∀ r : Fin 8, Dist (a (ix2 r j))) :
    k1_pay2 (F := Ideal) (k1_pay7 (F := Ideal) c a d) (ix2 0 j) = recb8 (col a j) (col d j) (c (ix2 0 j)) 8 := by
  unfold k1_pay2 k1_pay7
  refine (addrow_at _ j).trans ?_
  exact (colsum_at 0#32 0 (by decide) _ j).trans (mu_at c a d 0 j hA)

end Cert.KernelIdeal.Scan

end
-- ==== Proof.Scan.Column.lean ====
/-
  The two scans down one column of a chunk, at the extended reals.

  With a column's decays `α`, steps `υ` and cotangents `δ` as sequences over the whole sequence's rows, `hsq` is the forward recurrence and
  `msq` the backward one, counted from the last row. A chunk whose rows start at `p`, entered with the recurrence's value there, writes the
  recurrence's values at its rows and hands on its value at the next chunk.
-/
module

public import proofs.«01_k».proof.Proof.Scan.Tile

@[expose] public section

set_option maxRecDepth 16384

noncomputable section

namespace Cert.KernelIdeal.Scan

open Cert.KernelIdeal Cert.KernelIdeal.Gen
open Idealize.ShloMosaic

/-- The state after `k` rows. -/
def hsq (α υ : ℕ → EReal) : ℕ → EReal
  | 0 => 0
  | k + 1 => υ k + α k * hsq α υ k

/-- What comes up to the last `n` rows' top from below: the adjoint of the state, times the decay. -/
def msq (α δ : ℕ → EReal) : ℕ → EReal
  | 0 => 0
  | n + 1 => α (8447 - n) * δ (8447 - n) + α (8447 - n) * msq α δ n

variable (α υ δ : ℕ → EReal)

theorem rec8_hsq (p : ℕ) (A U : Fin 8 → EReal) (hA : ∀ r, A r = α (p + r.val)) (hU : ∀ r, U r = υ (p + r.val)) :
    ∀ n, n ≤ 8 → rec8 A U (hsq α υ p) n = hsq α υ (p + n)
  | 0, _ => rfl
  | n + 1, h => by
    have e : (Fin.ofNat 8 n).val = n := Nat.mod_eq_of_lt (by omega)
    rw [rec8, rec8_hsq p A U hA hU n (by omega), hA, hU, e]; rfl

theorem recb8_msq (b q : ℕ) (hbq : b + q = 8440) (A D : Fin 8 → EReal) (hA : ∀ r, A r = α (b + r.val)) (hD : ∀ r, D r = δ (b + r.val)) :
    ∀ n, n ≤ 8 → recb8 A D (msq α δ q) n = msq α δ (q + n)
  | 0, _ => rfl
  | n + 1, h => by
    have e : (Fin.ofNat 8 (7 - n)).val = 7 - n := Nat.mod_eq_of_lt (by omega)
    have e' : b + (7 - n) = 8447 - (q + n) := by omega
    rw [recb8, recb8_msq b q hbq A D hA hD n (by omega), hA, hD, e, e']; rfl

/-- Row `k` of tile `r` of a chunk. -/
theorem rows_at (x : Vec Ideal S256x1024 .f32) (r : Fin 32) (k : Fin 8) (j : Fin 1024) :
    rows x r (ix2 k j) = x (ix2 ⟨8 * r.val + k.val, by omega⟩ j) :=
  congrArg x (funext fun a => match a with
    | ⟨0, _⟩ => Fin.ext (by show 8 * r.val + 1 * k.val = 8 * r.val + k.val; omega)
    | ⟨1, _⟩ => Fin.ext (by show 0 + 1 * j.val = j.val; omega))

theorem glue_at (tl : Fin 32 → Vec Ideal S8x1024 .f32) (r : Fin 256) (j : Fin 1024) :
    glue tl (ix2 r j) = tl ⟨r.val / 8, by omega⟩ (ix2 ⟨r.val % 8, Nat.mod_lt _ (by decide)⟩ j) := by
  have h1 : tileOf (ix2 r j) = ⟨r.val / 8, by omega⟩ := rfl
  have h2 : inTile (ix2 r j) = ix2 ⟨r.val % 8, Nat.mod_lt _ (by decide)⟩ j := funext fun a => match a with
    | ⟨0, _⟩ => rfl
    | ⟨1, _⟩ => rfl
  unfold glue; rw [h1, h2]

variable (hα : ∀ k, Dist (α k)) (j : Fin 1024)

section Forward
variable (a u : Vec Ideal S256x1024 .f32) (c0 : Vec Ideal S1x1024 .f32) (p : ℕ)
variable (ha : ∀ r : Fin 256, a (ix2 r j) = α (p + r.val)) (hu : ∀ r : Fin 256, u (ix2 r j) = υ (p + r.val)) (hc : c0 (ix2 0 j) = hsq α υ p)
include hα ha hu hc

theorem carry0_at : ∀ n, n ≤ 32 → carry0 a u c0 n (ix2 0 j) = hsq α υ (p + 8 * n)
  | 0, _ => hc
  | n + 1, h => by
    have hA : ∀ r : Fin 8, rows a ⟨n, by omega⟩ (ix2 r j) = α (p + 8 * n + r.val) := fun r => by rw [rows_at, ha]; congr 1; show p + (8 * n + r.val) = _; omega
    have hU : ∀ r : Fin 8, rows u ⟨n, by omega⟩ (ix2 r j) = υ (p + 8 * n + r.val) := fun r => by rw [rows_at, hu]; congr 1; show p + (8 * n + r.val) = _; omega
    rw [carry0, dif_pos (by omega), pay4_at _ _ _ _ (fun r => by rw [hA]; exact hα _), carry0_at n (by omega), rec8_hsq α υ (p + 8 * n) _ _ hA hU 8 (Nat.le_refl _)]
    congr 1

theorem out0_at (r : Fin 256) : out0 a u c0 (ix2 r j) = hsq α υ (p + r.val + 1) := by
  have hA : ∀ k : Fin 8, rows a ⟨r.val / 8, by omega⟩ (ix2 k j) = α (p + 8 * (r.val / 8) + k.val) := fun k => by rw [rows_at, ha]; congr 1; show p + (8 * (r.val / 8) + k.val) = _; omega
  have hU : ∀ k : Fin 8, rows u ⟨r.val / 8, by omega⟩ (ix2 k j) = υ (p + 8 * (r.val / 8) + k.val) := fun k => by rw [rows_at, hu]; congr 1; show p + (8 * (r.val / 8) + k.val) = _; omega
  unfold out0
  rw [glue_at]
  unfold tile0
  rw [pay3_at _ _ _ _ _ (fun k => by rw [hA]; exact hα _), carry0_at α υ hα j a u c0 p ha hu hc _ (by show r.val / 8 ≤ 32; omega)]
  rw [rec8_hsq α υ (p + 8 * (r.val / 8)) _ _ hA hU _ (by show r.val % 8 + 1 ≤ 8; omega)]
  congr 1
  show p + 8 * (r.val / 8) + (r.val % 8 + 1) = p + r.val + 1
  omega

end Forward

section Backward
variable (a u h d : Vec Ideal S256x1024 .f32) (c0 : Vec Ideal S1x1024 .f32) (p q : ℕ) (hpq : p + q = 8192)
variable (ha : ∀ r : Fin 256, a (ix2 r j) = α (p + r.val)) (hd : ∀ r : Fin 256, d (ix2 r j) = δ (p + r.val)) (hc : c0 (ix2 0 j) = msq α δ q)
include hα hpq ha hd hc

theorem carry1_at : ∀ n, n ≤ 32 → carry1 a d c0 n (ix2 0 j) = msq α δ (q + 8 * n)
  | 0, _ => hc
  | n + 1, h => by
    have hA : ∀ r : Fin 8, rows a (rev ⟨n, by omega⟩) (ix2 r j) = α (p + 8 * (31 - n) + r.val) := fun r => by rw [rows_at, ha]; congr 1; show p + (8 * (31 - n) + r.val) = _; omega
    have hD : ∀ r : Fin 8, rows d (rev ⟨n, by omega⟩) (ix2 r j) = δ (p + 8 * (31 - n) + r.val) := fun r => by rw [rows_at, hd]; congr 1; show p + (8 * (31 - n) + r.val) = _; omega
    rw [carry1, dif_pos (by omega), pay2_at _ _ _ _ (fun r => by rw [hA]; exact hα _), carry1_at n (by omega),
      recb8_msq α δ (p + 8 * (31 - n)) (q + 8 * n) (by omega) _ _ hA hD 8 (Nat.le_refl _)]
    congr 1

theorem lamTile1_at (r : Fin 32) (k : Fin 8) : lamTile1 a d c0 r (ix2 k j) = δ (p + (8 * r.val + k.val)) + msq α δ (8447 - (p + (8 * r.val + k.val))) := by
  have hA : ∀ k : Fin 8, rows a r (ix2 k j) = α (p + 8 * r.val + k.val) := fun k => by rw [rows_at, ha]; congr 1; show p + (8 * r.val + k.val) = _; omega
  have hD : ∀ k : Fin 8, rows d r (ix2 k j) = δ (p + 8 * r.val + k.val) := fun k => by rw [rows_at, hd]; congr 1; show p + (8 * r.val + k.val) = _; omega
  have hr := r.isLt
  unfold lamTile1
  rw [lam_at _ _ _ _ _ (fun k => by rw [hA]; exact hα _)]
  unfold carryAt1
  rw [carry1_at α δ hα j a d c0 p q hpq ha hd hc _ (by show 31 - r.val ≤ 32; omega),
    recb8_msq α δ (p + 8 * r.val) (q + 8 * (rev r).val) (by show p + 8 * r.val + (q + 8 * (31 - r.val)) = 8440; omega) _ _ hA hD _ (by omega), hD]
  refine congrArg₂ (fun x y => δ x + msq α δ y) (by omega) ?_
  show q + 8 * (31 - r.val) + (7 - k.val) = 8447 - (p + (8 * r.val + k.val))
  omega

theorem lam1_at (r : Fin 256) : lam1 a d c0 (ix2 r j) = δ (p + r.val) + msq α δ (8447 - (p + r.val)) := by
  unfold lam1
  rw [glue_at, lamTile1_at α δ hα j a d c0 p q hpq ha hd hc]
  have e : 8 * (r.val / 8) + r.val % 8 = r.val := Nat.div_add_mod _ _
  show δ (p + (8 * (r.val / 8) + r.val % 8)) + msq α δ (8447 - (p + (8 * (r.val / 8) + r.val % 8))) = _
  rw [e]

theorem dla1_at (r : Fin 256) :
    dla1 a u h d c0 (ix2 r j) = (δ (p + r.val) + msq α δ (8447 - (p + r.val))) * (h (ix2 r j) - u (ix2 r j)) := by
  have e : 8 * (r.val / 8) + r.val % 8 = r.val := Nat.div_add_mod _ _
  have ei : (⟨8 * (r.val / 8) + r.val % 8, by omega⟩ : Fin 256) = r := Fin.ext e
  unfold dla1
  rw [glue_at]
  unfold dlaTile1 k1_pay4
  simp only [shapeCast_self]
  rw [mulf_apply, subf_apply, rows_at, rows_at]
  have e1 := lamTile1_at α δ hα j a d c0 p q hpq ha hd hc ⟨r.val / 8, by omega⟩ ⟨r.val % 8, Nat.mod_lt _ (by decide)⟩
  have e2 : δ (p + (8 * (r.val / 8) + r.val % 8)) + msq α δ (8447 - (p + (8 * (r.val / 8) + r.val % 8))) = δ (p + r.val) + msq α δ (8447 - (p + r.val)) := by rw [e]
  have e3 : ∀ x : Vec Ideal S256x1024 .f32, x (ix2 ⟨8 * (r.val / 8) + r.val % 8, by omega⟩ j) = x (ix2 r j) := fun x => by rw [ei]
  exact congrArg₂ (fun x y : EReal => x * y) (e1.trans e2) (congrArg₂ (fun x y : EReal => x - y) (e3 h) (e3 u))

end Backward

end Cert.KernelIdeal.Scan

end
-- ==== Proof.Scan.Arrays.lean ====
/-
  The kernel's two result arrays at the extended reals, entry by entry.

  The forward scan's chunks are read in order and its result array ends as the recurrence's states; the backward scan's chunks are read from the
  last to the first, and its two result arrays end as the adjoint of the steps, and that times the state less the step.
-/
module

public import proofs.«01_k».proof.Proof.Scan.Column

@[expose] public section

set_option maxRecDepth 16384

noncomputable section

namespace Cert.KernelIdeal.Scan

open Cert.KernelIdeal Cert.KernelIdeal.Gen
open Idealize.ShloMosaic Idealize.ShloMosaic.TcCoe
open Idealize.ShloMosaic.Pipeline (Dat Cfg Window)

/-- Column `j` of an array, as a sequence over its rows. -/
def seq (x : Vec Ideal S8448x1024 .f32) (j : Fin 1024) (k : ℕ) : EReal := x (ix2 (Fin.ofNat 8448 k) j)

theorem seq_of (x : Vec Ideal S8448x1024 .f32) (j : Fin 1024) (r : Fin 8448) : seq x j r.val = x (ix2 r j) := by
  have e : Fin.ofNat 8448 r.val = r := Fin.ext (Nat.mod_eq_of_lt r.isLt)
  unfold seq; rw [e]

theorem seq_at (x : Vec Ideal S8448x1024 .f32) (j : Fin 1024) (k : ℕ) (h : k < 8448) : seq x j k = x (ix2 ⟨k, h⟩ j) := seq_of x j ⟨k, h⟩

/-! ## The chunks' places -/

theorem N0 : cfg0.N = 33 := by decide
theorem N1 : cfg1.N = 33 := by decide

theorem idx0 : ∀ t : Fin cfg0.N, (win0_0.index t = ![t.val, 0] ∧ win0_1.index t = ![t.val, 0] ∧ win0_2.index t = ![t.val, 0]) ∧ win0_2.flush t = true :=
  (by decide +kernel : ∀ t : Fin grid0.N, _)
theorem idx1 : ∀ t : Fin cfg1.N, (win1_0.index t = ![32 - t.val, 0] ∧ win1_1.index t = ![32 - t.val, 0] ∧ win1_2.index t = ![32 - t.val, 0]
    ∧ win1_3.index t = ![32 - t.val, 0] ∧ win1_4.index t = ![32 - t.val, 0] ∧ win1_5.index t = ![32 - t.val, 0]) ∧ win1_4.flush t = true ∧ win1_5.flush t = true :=
  (by decide +kernel : ∀ t : Fin grid1.N, _)

variable (V : Dev nD → Valuation τ sig (Elt Ideal)) (c : Dev nD)

theorem iblk0_0_at (t : Fin cfg0.N) (r : Fin 256) (j : Fin 1024) :
    iblk0 V c 0 t (ix2 r j) = seq (V c main_v0) j (256 * t.val + r.val) := by
  have ht : t.val < 33 := lt_of_lt_of_eq t.isLt N0
  rw [seq_at _ _ _ (by omega)]
  have h0 := congrFun (idx0 t).1.1 0
  have h1 := congrFun (idx0 t).1.1 1
  refine congrArg (V c main_v0 : Vec Ideal S8448x1024 .f32) (funext fun a => ?_)
  match a with
  | ⟨0, _⟩ => exact Fin.ext (by show win0_0.index t 0 * 256 + 1 * r.val = 256 * t.val + r.val; rw [h0]; show (t.val) * 256 + 1 * r.val = _; omega)
  | ⟨1, _⟩ => exact Fin.ext (by show win0_0.index t 1 * 1024 + 1 * j.val = j.val; rw [h1]; show 0 * 1024 + 1 * j.val = _; omega)

theorem iblk0_1_at (t : Fin cfg0.N) (r : Fin 256) (j : Fin 1024) :
    iblk0 V c 1 t (ix2 r j) = seq (V c main_arg1) j (256 * t.val + r.val) := by
  have ht : t.val < 33 := lt_of_lt_of_eq t.isLt N0
  rw [seq_at _ _ _ (by omega)]
  have h0 := congrFun (idx0 t).1.2.1 0
  have h1 := congrFun (idx0 t).1.2.1 1
  refine congrArg (V c main_arg1 : Vec Ideal S8448x1024 .f32) (funext fun a => ?_)
  match a with
  | ⟨0, _⟩ => exact Fin.ext (by show win0_1.index t 0 * 256 + 1 * r.val = 256 * t.val + r.val; rw [h0]; show (t.val) * 256 + 1 * r.val = _; omega)
  | ⟨1, _⟩ => exact Fin.ext (by show win0_1.index t 1 * 1024 + 1 * j.val = j.val; rw [h1]; show 0 * 1024 + 1 * j.val = _; omega)

theorem iblk1_0_at (t : Fin cfg1.N) (r : Fin 256) (j : Fin 1024) :
    iblk1 V c 0 t (ix2 r j) = seq (V c main_v0) j (256 * (32 - t.val) + r.val) := by
  have ht : t.val < 33 := lt_of_lt_of_eq t.isLt N1
  rw [seq_at _ _ _ (by omega)]
  have h0 := congrFun (idx1 t).1.1 0
  have h1 := congrFun (idx1 t).1.1 1
  refine congrArg (V c main_v0 : Vec Ideal S8448x1024 .f32) (funext fun a => ?_)
  match a with
  | ⟨0, _⟩ => exact Fin.ext (by show win1_0.index t 0 * 256 + 1 * r.val = 256 * (32 - t.val) + r.val; rw [h0]; show (32 - t.val) * 256 + 1 * r.val = _; omega)
  | ⟨1, _⟩ => exact Fin.ext (by show win1_0.index t 1 * 1024 + 1 * j.val = j.val; rw [h1]; show 0 * 1024 + 1 * j.val = _; omega)

theorem iblk1_1_at (t : Fin cfg1.N) (r : Fin 256) (j : Fin 1024) :
    iblk1 V c 1 t (ix2 r j) = seq (V c main_arg1) j (256 * (32 - t.val) + r.val) := by
  have ht : t.val < 33 := lt_of_lt_of_eq t.isLt N1
  rw [seq_at _ _ _ (by omega)]
  have h0 := congrFun (idx1 t).1.2.1 0
  have h1 := congrFun (idx1 t).1.2.1 1
  refine congrArg (V c main_arg1 : Vec Ideal S8448x1024 .f32) (funext fun a => ?_)
  match a with
  | ⟨0, _⟩ => exact Fin.ext (by show win1_1.index t 0 * 256 + 1 * r.val = 256 * (32 - t.val) + r.val; rw [h0]; show (32 - t.val) * 256 + 1 * r.val = _; omega)
  | ⟨1, _⟩ => exact Fin.ext (by show win1_1.index t 1 * 1024 + 1 * j.val = j.val; rw [h1]; show 0 * 1024 + 1 * j.val = _; omega)

theorem iblk1_2_at (t : Fin cfg1.N) (r : Fin 256) (j : Fin 1024) :
    iblk1 V c 2 t (ix2 r j) = seq (V c main_v1) j (256 * (32 - t.val) + r.val) := by
  have ht : t.val < 33 := lt_of_lt_of_eq t.isLt N1
  rw [seq_at _ _ _ (by omega)]
  have h0 := congrFun (idx1 t).1.2.2.1 0
  have h1 := congrFun (idx1 t).1.2.2.1 1
  refine congrArg (V c main_v1 : Vec Ideal S8448x1024 .f32) (funext fun a => ?_)
  match a with
  | ⟨0, _⟩ => exact Fin.ext (by show win1_2.index t 0 * 256 + 1 * r.val = 256 * (32 - t.val) + r.val; rw [h0]; show (32 - t.val) * 256 + 1 * r.val = _; omega)
  | ⟨1, _⟩ => exact Fin.ext (by show win1_2.index t 1 * 1024 + 1 * j.val = j.val; rw [h1]; show 0 * 1024 + 1 * j.val = _; omega)

theorem iblk1_3_at (t : Fin cfg1.N) (r : Fin 256) (j : Fin 1024) :
    iblk1 V c 3 t (ix2 r j) = seq (V c main_arg2) j (256 * (32 - t.val) + r.val) := by
  have ht : t.val < 33 := lt_of_lt_of_eq t.isLt N1
  rw [seq_at _ _ _ (by omega)]
  have h0 := congrFun (idx1 t).1.2.2.2.1 0
  have h1 := congrFun (idx1 t).1.2.2.2.1 1
  refine congrArg (V c main_arg2 : Vec Ideal S8448x1024 .f32) (funext fun a => ?_)
  match a with
  | ⟨0, _⟩ => exact Fin.ext (by show win1_3.index t 0 * 256 + 1 * r.val = 256 * (32 - t.val) + r.val; rw [h0]; show (32 - t.val) * 256 + 1 * r.val = _; omega)
  | ⟨1, _⟩ => exact Fin.ext (by show win1_3.index t 1 * 1024 + 1 * j.val = j.val; rw [h1]; show 0 * 1024 + 1 * j.val = _; omega)

theorem blk0_2_at (G : Vec Ideal S8448x1024 .f32) (t : Fin cfg0.N) (r : Fin 256) (j : Fin 1024) (hr : 256 * t.val + r.val < 8448) :
    G (((cfg0.win 2).blk t).view.emb (ix2 r j)) = G (ix2 ⟨256 * t.val + r.val, hr⟩ j) := by
  have h0 := congrFun (idx0 t).1.2.2 0
  have h1 := congrFun (idx0 t).1.2.2 1
  refine congrArg G (funext fun a => ?_)
  match a with
  | ⟨0, _⟩ => exact Fin.ext (by show win0_2.index t 0 * 256 + 1 * r.val = 256 * t.val + r.val; rw [h0]; show (t.val) * 256 + 1 * r.val = _; omega)
  | ⟨1, _⟩ => exact Fin.ext (by show win0_2.index t 1 * 1024 + 1 * j.val = j.val; rw [h1]; show 0 * 1024 + 1 * j.val = _; omega)

theorem cover0_2 (i : S8448x1024.Idx) : ∃ t : Fin cfg0.N, (cfg0.win 2).flush t = true ∧ i ∈ ((cfg0.win 2).blk t).view.set := by
  have hi0 : (i 0).val < 8448 := (i 0).isLt
  have hi1 : (i 1).val < 1024 := (i 1).isLt
  obtain ⟨t, ht⟩ : ∃ t : Fin cfg0.N, t.val = (i 0).val / 256 := ⟨⟨(i 0).val / 256, lt_of_lt_of_eq (by omega) N0.symm⟩, rfl⟩
  refine ⟨t, (idx0 t).2, ?_⟩
  show i ∈ ((View.whole main_v1).slice (win0_2.rect t)).set
  rw [View.set_slice_whole, Rect.mem_set_unit]
  have h0 := congrFun (idx0 t).1.2.2 0
  have h1 := congrFun (idx0 t).1.2.2 1
  intro a
  match a with
  | ⟨0, _⟩ => show win0_2.index t 0 * 256 ≤ (i 0).val ∧ (i 0).val < win0_2.index t 0 * 256 + 256; rw [h0]; show t.val * 256 ≤ _ ∧ _ < t.val * 256 + 256; omega
  | ⟨1, _⟩ => show win0_2.index t 1 * 1024 ≤ (i 1).val ∧ (i 1).val < win0_2.index t 1 * 1024 + 1024; rw [h1]; show 0 * 1024 ≤ _ ∧ _ < 0 * 1024 + 1024; omega

theorem blk1_4_at (G : Vec Ideal S8448x1024 .f32) (t : Fin cfg1.N) (r : Fin 256) (j : Fin 1024) (hr : 256 * (32 - t.val) + r.val < 8448) :
    G (((cfg1.win 4).blk t).view.emb (ix2 r j)) = G (ix2 ⟨256 * (32 - t.val) + r.val, hr⟩ j) := by
  have h0 := congrFun (idx1 t).1.2.2.2.2.1 0
  have h1 := congrFun (idx1 t).1.2.2.2.2.1 1
  refine congrArg G (funext fun a => ?_)
  match a with
  | ⟨0, _⟩ => exact Fin.ext (by show win1_4.index t 0 * 256 + 1 * r.val = 256 * (32 - t.val) + r.val; rw [h0]; show (32 - t.val) * 256 + 1 * r.val = _; omega)
  | ⟨1, _⟩ => exact Fin.ext (by show win1_4.index t 1 * 1024 + 1 * j.val = j.val; rw [h1]; show 0 * 1024 + 1 * j.val = _; omega)

theorem cover1_4 (i : S8448x1024.Idx) : ∃ t : Fin cfg1.N, (cfg1.win 4).flush t = true ∧ i ∈ ((cfg1.win 4).blk t).view.set := by
  have hi0 : (i 0).val < 8448 := (i 0).isLt
  have hi1 : (i 1).val < 1024 := (i 1).isLt
  obtain ⟨t, ht⟩ : ∃ t : Fin cfg1.N, t.val = 32 - (i 0).val / 256 := ⟨⟨32 - (i 0).val / 256, lt_of_lt_of_eq (by omega) N1.symm⟩, rfl⟩
  refine ⟨t, (idx1 t).2.1, ?_⟩
  show i ∈ ((View.whole main_v2_0).slice (win1_4.rect t)).set
  rw [View.set_slice_whole, Rect.mem_set_unit]
  have h0 := congrFun (idx1 t).1.2.2.2.2.1 0
  have h1 := congrFun (idx1 t).1.2.2.2.2.1 1
  intro a
  match a with
  | ⟨0, _⟩ => show win1_4.index t 0 * 256 ≤ (i 0).val ∧ (i 0).val < win1_4.index t 0 * 256 + 256; rw [h0]; show (32 - t.val) * 256 ≤ _ ∧ _ < (32 - t.val) * 256 + 256; omega
  | ⟨1, _⟩ => show win1_4.index t 1 * 1024 ≤ (i 1).val ∧ (i 1).val < win1_4.index t 1 * 1024 + 1024; rw [h1]; show 0 * 1024 ≤ _ ∧ _ < 0 * 1024 + 1024; omega

theorem blk1_5_at (G : Vec Ideal S8448x1024 .f32) (t : Fin cfg1.N) (r : Fin 256) (j : Fin 1024) (hr : 256 * (32 - t.val) + r.val < 8448) :
    G (((cfg1.win 5).blk t).view.emb (ix2 r j)) = G (ix2 ⟨256 * (32 - t.val) + r.val, hr⟩ j) := by
  have h0 := congrFun (idx1 t).1.2.2.2.2.2 0
  have h1 := congrFun (idx1 t).1.2.2.2.2.2 1
  refine congrArg G (funext fun a => ?_)
  match a with
  | ⟨0, _⟩ => exact Fin.ext (by show win1_5.index t 0 * 256 + 1 * r.val = 256 * (32 - t.val) + r.val; rw [h0]; show (32 - t.val) * 256 + 1 * r.val = _; omega)
  | ⟨1, _⟩ => exact Fin.ext (by show win1_5.index t 1 * 1024 + 1 * j.val = j.val; rw [h1]; show 0 * 1024 + 1 * j.val = _; omega)

theorem cover1_5 (i : S8448x1024.Idx) : ∃ t : Fin cfg1.N, (cfg1.win 5).flush t = true ∧ i ∈ ((cfg1.win 5).blk t).view.set := by
  have hi0 : (i 0).val < 8448 := (i 0).isLt
  have hi1 : (i 1).val < 1024 := (i 1).isLt
  obtain ⟨t, ht⟩ : ∃ t : Fin cfg1.N, t.val = 32 - (i 0).val / 256 := ⟨⟨32 - (i 0).val / 256, lt_of_lt_of_eq (by omega) N1.symm⟩, rfl⟩
  refine ⟨t, (idx1 t).2.2, ?_⟩
  show i ∈ ((View.whole main_v2_1).slice (win1_5.rect t)).set
  rw [View.set_slice_whole, Rect.mem_set_unit]
  have h0 := congrFun (idx1 t).1.2.2.2.2.2 0
  have h1 := congrFun (idx1 t).1.2.2.2.2.2 1
  intro a
  match a with
  | ⟨0, _⟩ => show win1_5.index t 0 * 256 ≤ (i 0).val ∧ (i 0).val < win1_5.index t 0 * 256 + 256; rw [h0]; show (32 - t.val) * 256 ≤ _ ∧ _ < (32 - t.val) * 256 + 256; omega
  | ⟨1, _⟩ => show win1_5.index t 1 * 1024 ≤ (i 1).val ∧ (i 1).val < win1_5.index t 1 * 1024 + 1024; rw [h1]; show 0 * 1024 ≤ _ ∧ _ < 0 * 1024 + 1024; omega

/-! ## The carried rows -/

theorem zero0_at (j : Fin 1024) : k0_pay1 (F := Ideal) (ix2 0 j) = 0 := by
  unfold k0_pay1
  simp only [shapeCast_self]
  exact Ideal.ofBits_zero_f32

theorem zero1_at (j : Fin 1024) : k1_pay1 (F := Ideal) (ix2 0 j) = 0 := by
  unfold k1_pay1
  simp only [shapeCast_self]
  exact Ideal.ofBits_zero_f32

variable (hα : ∀ j k, Dist (seq (V c main_v0) j k))
include hα

theorem chunkCarry0_at (j : Fin 1024) : ∀ n, n ≤ 33 → chunkCarry0 V c n (ix2 0 j) = hsq (seq (V c main_v0) j) (seq (V c main_arg1) j) (256 * n)
  | 0, _ => zero0_at j
  | n + 1, h => by
    have hn : n < cfg0.N := lt_of_lt_of_eq (by omega) N0.symm
    rw [chunkCarry0, dif_pos hn]
    exact carry0_at _ _ (hα j) j _ _ _ (256 * n) (fun r => iblk0_0_at V c ⟨n, hn⟩ r j) (fun r => iblk0_1_at V c ⟨n, hn⟩ r j) (chunkCarry0_at j n (by omega)) 32 (Nat.le_refl _)

theorem chunkCarry1_at (j : Fin 1024) : ∀ n, n ≤ 33 → chunkCarry1 V c n (ix2 0 j) = msq (seq (V c main_v0) j) (seq (V c main_arg2) j) (256 * n)
  | 0, _ => zero1_at j
  | n + 1, h => by
    have hn : n < cfg1.N := lt_of_lt_of_eq (by omega) N1.symm
    rw [chunkCarry1, dif_pos hn]
    exact carry1_at _ _ (hα j) j _ _ _ (256 * (32 - n)) (256 * n) (by omega) (fun r => iblk1_0_at V c ⟨n, hn⟩ r j) (fun r => iblk1_3_at V c ⟨n, hn⟩ r j)
      (chunkCarry1_at j n (by omega)) 32 (Nat.le_refl _)

omit hα in
/-- An index of a chunk by its row and its column. -/
theorem chunk_eta (y : S256x1024.Idx) : y = ix2 (y 0) (y 1) := funext fun a => match a with
  | ⟨0, _⟩ => rfl
  | ⟨1, _⟩ => rfl

/-! ## The arrays -/

/-- The states. -/
def Hs (i : S8448x1024.Idx) : EReal := hsq (seq (V c main_v0) (i 1)) (seq (V c main_arg1) (i 1)) ((i 0).val + 1)

omit hα in
theorem Hs_at (r : Fin 8448) (j : Fin 1024) : Hs V c (ix2 r j) = hsq (seq (V c main_v0) j) (seq (V c main_arg1) j) (r.val + 1) := rfl

theorem final0 : (dat0 V c).arrAt 2 cfg0.N = (Hs V c : Vec Ideal S8448x1024 .f32) := by
  refine (dat0 V c).arrAt_eq_of_cover 2 _ (fun t _ => ?_) cover0_2
  show (cfg0.win 2).cut (grid0.coords t) ((dat0 V c).after 2 t) = _
  rw [after0_2]
  have ht : t.val < 33 := lt_of_lt_of_eq t.isLt N0
  funext y
  have hy0 : (y 0).val < 256 := (y 0).isLt
  have hy1 : (y 1).val < 1024 := (y 1).isLt
  have ey : y = ix2 (⟨(y 0).val, hy0⟩ : Fin 256) (⟨(y 1).val, hy1⟩ : Fin 1024) := chunk_eta y
  rw [ey]
  generalize (⟨(y 0).val, hy0⟩ : Fin 256) = r
  generalize (⟨(y 1).val, hy1⟩ : Fin 1024) = j
  refine Eq.trans ?_ (blk0_2_at (Hs V c) t r j (by omega)).symm
  exact out0_at _ _ (hα j) j _ _ _ (256 * t.val) (fun r => iblk0_0_at V c t r j) (fun r => iblk0_1_at V c t r j) (chunkCarry0_at V c hα j t.val (by omega)) r

/-- The adjoint of the steps. -/
def Ls (i : S8448x1024.Idx) : EReal := seq (V c main_arg2) (i 1) (i 0).val + msq (seq (V c main_v0) (i 1)) (seq (V c main_arg2) (i 1)) (8447 - (i 0).val)
/-- The adjoint of the decays' exponents. -/
def Es (i : S8448x1024.Idx) : EReal := Ls V c i * (seq (V c main_v1) (i 1) (i 0).val - seq (V c main_arg1) (i 1) (i 0).val)

theorem final1_4 : (dat1 V c).arrAt 4 cfg1.N = (Ls V c : Vec Ideal S8448x1024 .f32) := by
  refine (dat1 V c).arrAt_eq_of_cover 4 _ (fun t _ => ?_) cover1_4
  show (cfg1.win 4).cut (grid1.coords t) ((dat1 V c).after 4 t) = _
  rw [after1_4]
  have ht : t.val < 33 := lt_of_lt_of_eq t.isLt N1
  funext y
  have hy0 : (y 0).val < 256 := (y 0).isLt
  have hy1 : (y 1).val < 1024 := (y 1).isLt
  have ey : y = ix2 (⟨(y 0).val, hy0⟩ : Fin 256) (⟨(y 1).val, hy1⟩ : Fin 1024) := chunk_eta y
  rw [ey]
  generalize (⟨(y 0).val, hy0⟩ : Fin 256) = r
  generalize (⟨(y 1).val, hy1⟩ : Fin 1024) = j
  refine Eq.trans ?_ (blk1_4_at (Ls V c) t r j (by omega)).symm
  exact lam1_at _ _ (hα j) j _ _ _ (256 * (32 - t.val)) (256 * t.val) (by omega) (fun r => iblk1_0_at V c t r j) (fun r => iblk1_3_at V c t r j)
    (chunkCarry1_at V c hα j t.val (by omega)) r

theorem final1_5 : (dat1 V c).arrAt 5 cfg1.N = (Es V c : Vec Ideal S8448x1024 .f32) := by
  refine (dat1 V c).arrAt_eq_of_cover 5 _ (fun t _ => ?_) cover1_5
  show (cfg1.win 5).cut (grid1.coords t) ((dat1 V c).after 5 t) = _
  rw [after1_5]
  have ht : t.val < 33 := lt_of_lt_of_eq t.isLt N1
  funext y
  have hy0 : (y 0).val < 256 := (y 0).isLt
  have hy1 : (y 1).val < 1024 := (y 1).isLt
  have ey : y = ix2 (⟨(y 0).val, hy0⟩ : Fin 256) (⟨(y 1).val, hy1⟩ : Fin 1024) := chunk_eta y
  rw [ey]
  generalize (⟨(y 0).val, hy0⟩ : Fin 256) = r
  generalize (⟨(y 1).val, hy1⟩ : Fin 1024) = j
  refine Eq.trans ?_ (blk1_5_at (Es V c) t r j (by omega)).symm
  refine (dla1_at _ _ (hα j) j _ _ _ _ _ (256 * (32 - t.val)) (256 * t.val) (by omega) (fun r => iblk1_0_at V c t r j) (fun r => iblk1_3_at V c t r j)
    (chunkCarry1_at V c hα j t.val (by omega)) r).trans ?_
  rw [iblk1_1_at, iblk1_2_at]
  rfl

end Cert.KernelIdeal.Scan

end
-- ==== Proof.Scan.Equal.lean ====
/-
  The kernel's two results are the reference's, at the extended reals.

  With the decays' exponents below `+∞` and the steps finite, each decay is a finite nonnegative number, so it distributes over a sum, and a state
  less its step is the decay times the state before. The rest is the two recurrences' own shape.
-/
module

public import proofs.«01_k».proof.Proof.Scan.Arrays
public import proofs.«01_k».proof.Proof.Scan.RefVal

@[expose] public section

set_option maxRecDepth 16384

noncomputable section

namespace Cert.Scan

open Idealize.ShloMosaic Idealize.ShloMosaic.TcCoe Idealize.ShloMosaic.StableHlo
open Cert.KernelIdeal Cert.KernelIdeal.Gen Cert.KernelIdeal.Scan
open Cert.ReferenceIdeal.Loops (tk' hs mu dec duV)

abbrev A2 : Type := Vec Ideal S8448x1024 .f32

theorem exp_nonneg (x : EReal) : 0 ≤ Ideal.exp x := by
  induction x with
  | bot => exact le_refl _
  | top => exact le_top
  | coe r => exact EReal.coe_nonneg.mpr (Real.exp_pos r).le

theorem exp_ne_top (x : EReal) (h : x < ⊤) : Ideal.exp x ≠ ⊤ := by
  induction x with
  | bot => exact EReal.zero_ne_top
  | top => exact absurd h (lt_irrefl _)
  | coe r => exact EReal.coe_ne_top _

variable (a u d : A2) (j : Fin 1024)

theorem hs_eq : ∀ n, hs a u j n = hsq (seq a j) (seq u j) n
  | 0 => rfl
  | n + 1 => by
    show tk' a j n * hs a u j n + tk' u j n = seq u j n + seq a j n * hsq (seq a j) (seq u j) n
    rw [hs_eq n, add_comm]; rfl

theorem mu_eq (ha : ∀ k, Dist (seq a j k)) : ∀ n, mu a d j n = msq (seq a j) (seq d j) n
  | 0 => rfl
  | n + 1 => by
    show seq a j (8447 - n) * (mu a d j n + seq d j (8447 - n)) = seq a j (8447 - n) * seq d j (8447 - n) + seq a j (8447 - n) * msq (seq a j) (seq d j) n
    rw [ha, mu_eq ha n, add_comm]

/-- A step's finiteness lets it cancel. -/
theorem cancel (x y : EReal) (h1 : y < ⊤) (h2 : -y < ⊤) : (y + x) - y = x := by
  induction y with
  | bot => exact absurd h2 (by simp)
  | top => exact absurd h1 (lt_irrefl _)
  | coe r => exact EReal.add_sub_cancel_left

variable (m : (ℓ : Loc nD τ sig) → Buf (Elt Ideal) ℓ) (c : Dev nD)

abbrev La : A2 := m ((c.tc : Thread nD τ).loc main_arg0)
abbrev Uu : A2 := m ((c.tc : Thread nD τ).loc main_arg1)
abbrev Dd : A2 := m ((c.tc : Thread nD τ).loc main_arg2)

theorem VA_a : (VA m c main_v0 : A2) = dec (La m c) := by
  show (StableHlo.after hostOps0 (V0 m c) main_v0 : A2) = _
  unfold hostOps0
  after_results
  rfl
theorem VA_u : (VA m c main_arg1 : A2) = Uu m c := (V1_of m c main_arg1 (by decide)).trans rfl
theorem VA_d : (VA m c main_arg2 : A2) = Dd m c := (V1_of m c main_arg2 (by decide)).trans rfl

theorem VB_a : (VB m c main_v0 : A2) = dec (La m c) := (VB_of m c main_v0 (by decide)).trans (VA_a m c)
theorem VB_u : (VB m c main_arg1 : A2) = Uu m c := (VB_of m c main_arg1 (by decide)).trans (VA_u m c)
theorem VB_d : (VB m c main_arg2 : A2) = Dd m c := (VB_of m c main_arg2 (by decide)).trans (VA_d m c)

variable (h1 : ∀ i, La m c i < (⊤ : EReal)) (h2 : ∀ i, Uu m c i < (⊤ : EReal)) (h3 : ∀ i, -(Uu m c i : EReal) < (⊤ : EReal))
include h1

theorem dist_dec (k : ℕ) : Dist (seq (dec (La m c)) j k) := dist_of (exp_nonneg _) (exp_ne_top _ (h1 _))

theorem VB_h : (VB m c main_v1 : A2) = Hs (VA m) c :=
  (VB_arr m c 2).trans (final0 (VA m) c fun j k => by rw [VA_a]; exact dist_dec j m c h1 k)

theorem VC_du (r : Fin 8448) : (VC m c main_v2_0 : A2) (ix2 r j) = duV (dec (La m c)) (Dd m c) r j := by
  have e : (VC m c main_v2_0 : A2) = Ls (VB m) c :=
    (VC_arr m c 4).trans (final1_4 (VB m) c fun j k => by rw [VB_a]; exact dist_dec j m c h1 k)
  rw [e]
  show seq (VB m c main_arg2) j r.val + msq (seq (VB m c main_v0) j) (seq (VB m c main_arg2) j) (8447 - r.val) = mu (dec (La m c)) (Dd m c) j (8447 - r.val) + Dd m c (ix2 r j)
  rw [VB_d, VB_a, mu_eq _ _ _ (dist_dec j m c h1), seq_of, add_comm]

include h2 h3

theorem VC_dla (r : Fin 8448) : (VC m c main_v2_1 : A2) (ix2 r j)
    = (duV (dec (La m c)) (Dd m c) r j * hs (dec (La m c)) (Uu m c) j r.val * dec (La m c) (ix2 r j) : EReal) := by
  have e : (VC m c main_v2_1 : A2) = Es (VB m) c :=
    (VC_arr m c 5).trans (final1_5 (VB m) c fun j k => by rw [VB_a]; exact dist_dec j m c h1 k)
  have e0 := VC_du j m c h1 r
  have e' : (VC m c main_v2_0 : A2) = Ls (VB m) c :=
    (VC_arr m c 4).trans (final1_4 (VB m) c fun j k => by rw [VB_a]; exact dist_dec j m c h1 k)
  rw [e'] at e0
  rw [e]
  show (Ls (VB m) c (ix2 r j) : EReal) * (seq (VB m c main_v1) j r.val - seq (VB m c main_arg1) j r.val) = _
  rw [e0, VB_h m c h1, VB_u, seq_of, seq_of, Hs_at]
  have e2 : hsq (seq (VA m c main_v0) j) (seq (VA m c main_arg1) j) (r.val + 1)
      = Uu m c (ix2 r j) + dec (La m c) (ix2 r j) * hs (dec (La m c)) (Uu m c) j r.val := by
    rw [VA_a, VA_u, hs_eq, ← seq_of (Uu m c), ← seq_of (dec (La m c))]; rfl
  rw [e2, cancel _ _ (h2 _) (h3 _), mul_assoc, mul_comm (hs _ _ _ _)]

end Cert.Scan

end
-- ==== Proof.Prod.Base.lean ====
module

public import Idealize.ShloMosaic.Lib.Pipeline.Value
public import Idealize.ShloMosaic.Lib.ValueIdx
public import Idealize.ShloMosaic.PureOps.Ideal.Laws
public import Idealize.ShloMosaic.Lib.IdealHost

/-! What the products share: an array read at natural numbers, a contraction as a sum over a range of natural numbers, and
    the offsets of a whole block. -/

@[expose] public section

noncomputable section

namespace Cert.Prod

open Idealize.ShloMosaic

/-- A block's place in its array, from its index `b`. -/
theorem tile (b w : ℕ) {a y z : ℕ} (h : a = b) (e : b * w + 1 * y = z) : a * w + 1 * y = z := h ▸ e

/-- An array's place in a block of index `b`. -/
theorem within (w z : ℕ) {a b : ℕ} (h : a = b) (e : b * w ≤ z ∧ z < b * w + w) : a * w ≤ z ∧ z < a * w + w := h ▸ e

/-- A contraction reads its left operand's free axis at the result's axis. -/
theorem lhs_at {sl sr so : Shape} (d : DotDims sl sr so) (j : so.Idx) (k : d.contr.Idx) {a : Fin sl.rank} {b : Fin so.rank}
    (hb : ¬a ∈ d.lhsBatch) (hn : a ∈ d.lhsNonContracting) (e : d.lhsBatch.length + d.lhsNonContracting.idxOf a = b.val) :
    (d.lhsIdx j k a).val = (j b).val := by
  unfold DotDims.lhsIdx
  rw [dif_neg hb, dif_pos hn]
  exact congrArg (fun x => (j x).val) (Fin.ext e)

/-- And its right operand's. -/
theorem rhs_at {sl sr so : Shape} (d : DotDims sl sr so) (j : so.Idx) (k : d.contr.Idx) {a : Fin sr.rank} {b : Fin so.rank}
    (hb : ¬a ∈ d.rhsBatch) (hn : a ∈ d.rhsNonContracting)
    (e : d.lhsBatch.length + d.lhsNonContracting.length + d.rhsNonContracting.idxOf a = b.val) : (d.rhsIdx j k a).val = (j b).val := by
  unfold DotDims.rhsIdx
  rw [dif_neg hb, dif_pos hn]
  exact congrArg (fun x => (j x).val) (Fin.ext e)

/-- A matrix at two natural numbers; zero outside it. -/
def rd2 {a b : ℕ} (X : (⟨2, ![a, b]⟩ : Shape).Idx → EReal) (i j : ℕ) : EReal :=
  if h : i < a ∧ j < b then X (fun d => match d with | ⟨0, _⟩ => ⟨i, h.1⟩ | ⟨1, _⟩ => ⟨j, h.2⟩) else 0

/-- A stack of matrices at three natural numbers; zero outside it. -/
def rd3 {a b c : ℕ} (X : (⟨3, ![a, b, c]⟩ : Shape).Idx → EReal) (i j k : ℕ) : EReal :=
  if h : i < a ∧ j < b ∧ k < c then
    X (fun d => match d with | ⟨0, _⟩ => ⟨i, h.1⟩ | ⟨1, _⟩ => ⟨j, h.2.1⟩ | ⟨2, _⟩ => ⟨k, h.2.2⟩) else 0

theorem rd2_of {a b : ℕ} (X : (⟨2, ![a, b]⟩ : Shape).Idx → EReal) (x : (⟨2, ![a, b]⟩ : Shape).Idx) {i j : ℕ}
    (hi : (x 0).val = i) (hj : (x 1).val = j) : X x = rd2 X i j := by
  subst hi hj
  unfold rd2
  rw [dif_pos ⟨(x 0).isLt, (x 1).isLt⟩]
  exact congrArg X (funext fun d => match d with | ⟨0, _⟩ => rfl | ⟨1, _⟩ => rfl)

theorem rd3_of {a b c : ℕ} (X : (⟨3, ![a, b, c]⟩ : Shape).Idx → EReal) (x : (⟨3, ![a, b, c]⟩ : Shape).Idx) {i j k : ℕ}
    (hi : (x 0).val = i) (hj : (x 1).val = j) (hk : (x 2).val = k) : X x = rd3 X i j k := by
  subst hi hj hk
  unfold rd3
  rw [dif_pos ⟨(x 0).isLt, (x 1).isLt, (x 2).isLt⟩]
  exact congrArg X (funext fun d => match d with | ⟨0, _⟩ => rfl | ⟨1, _⟩ => rfl | ⟨2, _⟩ => rfl)

/-- A four-axis array at four natural numbers; zero outside it. -/
def rd4 {a b c e : ℕ} (X : (⟨4, ![a, b, c, e]⟩ : Shape).Idx → EReal) (i j k l : ℕ) : EReal :=
  if h : i < a ∧ j < b ∧ k < c ∧ l < e then
    X (fun d => match d with | ⟨0, _⟩ => ⟨i, h.1⟩ | ⟨1, _⟩ => ⟨j, h.2.1⟩ | ⟨2, _⟩ => ⟨k, h.2.2.1⟩ | ⟨3, _⟩ => ⟨l, h.2.2.2⟩) else 0

theorem rd4_of {a b c e : ℕ} (X : (⟨4, ![a, b, c, e]⟩ : Shape).Idx → EReal) (x : (⟨4, ![a, b, c, e]⟩ : Shape).Idx) {i j k l : ℕ}
    (hi : (x 0).val = i) (hj : (x 1).val = j) (hk : (x 2).val = k) (hl : (x 3).val = l) : X x = rd4 X i j k l := by
  subst hi hj hk hl
  unfold rd4
  rw [dif_pos ⟨(x 0).isLt, (x 1).isLt, (x 2).isLt, (x 3).isLt⟩]
  exact congrArg X (funext fun d => match d with | ⟨0, _⟩ => rfl | ⟨1, _⟩ => rfl | ⟨2, _⟩ => rfl | ⟨3, _⟩ => rfl)

/-- A matrix under two axes of size one, read as a matrix. -/
theorem dropTwo_at {a b : ℕ} (X : (⟨4, ![1, 1, a, b]⟩ : Shape).Idx → EReal) (h : (⟨4, ![1, 1, a, b]⟩ : Shape).ShapeCasts ⟨2, ![a, b]⟩)
    (y : (⟨2, ![a, b]⟩ : Shape).Idx) :
    shapeCast ⟨2, ![a, b]⟩ X h y
      = X (fun d => match d with | ⟨0, _⟩ => ⟨0, Nat.one_pos⟩ | ⟨1, _⟩ => ⟨0, Nat.one_pos⟩ | ⟨2, _⟩ => y 0 | ⟨3, _⟩ => y 1) := by
  refine shapeCast_apply X h y _ ?_
  rw [Shape.rowMajor_val_two, Shape.rowMajor_val_four]
  show ((0 * 1 + 0) * a + (y 0).val) * b + (y 1).val = (y 0).val * b + (y 1).val
  ring

/-- A product into zeros, its one contracted axis of `n` positions, as a sum over the natural numbers below `n`. -/
theorem dot_at {sl sr so : Shape} {φ₁ : FTy} (d : DotDims sl sr so) (n : ℕ) (hr : d.contr.rank = 1)
    (hs : d.contr.size ⟨0, by omega⟩ = n) (prec : Option ContractPrecision) (lhs : FVec Ideal sl φ₁) (rhs : FVec Ideal sr φ₁) (j : so.Idx)
    (L R : ℕ → EReal)
    (hl : ∀ q : d.contr.Idx, lhs (d.lhsIdx j q) = L (q ⟨0, by omega⟩).val)
    (hR : ∀ q : d.contr.Idx, rhs (d.rhsIdx j q) = R (q ⟨0, by omega⟩).val) :
    (matmul d prec lhs rhs (constant so .f32 0x00000000#32) : FVec Ideal so .f32) j = ∑ k ∈ Finset.range n, L k * R k := by
  show FloatOps.matmul d prec lhs rhs (constant so .f32 0x00000000#32) j = _
  rw [Ideal.matmul_constant_zero_apply, ← Equiv.sum_comp (ValueIdx.contrEquiv1 d n hr hs).symm, ← Fin.sum_univ_eq_sum_range (fun k => L k * R k)]
  refine Finset.sum_congr rfl fun k _ => ?_
  rw [hl, hR, ValueIdx.contrEquiv1_symm_val]

/-- A sum of a row of `w` terms begins where the sum before it ended. -/
theorem sum_next (f : ℕ → EReal) (w s : ℕ) :
    ∑ k ∈ Finset.range (w * s), f k + ∑ k ∈ Finset.range w, f (w * s + k) = ∑ k ∈ Finset.range (w * (s + 1)), f k := by
  rw [Nat.mul_succ, Finset.sum_range_add]

theorem off2 : (![0, 0] : Fin 2 → ℕ) = fun _ => 0 := funext fun a => match a with | ⟨0, _⟩ => rfl | ⟨1, _⟩ => rfl

theorem off3 : (![0, 0, 0] : Fin 3 → ℕ) = fun _ => 0 :=
  funext fun a => match a with | ⟨0, _⟩ => rfl | ⟨1, _⟩ => rfl | ⟨2, _⟩ => rfl

theorem off4 : (![0, 0, 0, 0] : Fin 4 → ℕ) = fun _ => 0 :=
  funext fun a => match a with | ⟨0, _⟩ => rfl | ⟨1, _⟩ => rfl | ⟨2, _⟩ => rfl | ⟨3, _⟩ => rfl

/-- Row `p`'s modulation `s` at column `q`: the first table's for the first 256 rows, the second's for the others. -/
def gateAt {b s' n : ℕ} (M : (⟨4, ![2, s', b, n]⟩ : Shape).Idx → EReal) (s p q : ℕ) : EReal :=
  Scalar.select (IntOp.cmpi .slt (BitVec.ofNat 32 p) 256#32) (rd4 M 0 s 0 q) (rd4 M 1 s 0 q)

/-- The row a block's element belongs to. -/
theorem row_at (a h y : ℕ) :
    IntOp.addi (Scalar.muli (BitVec.ofNat 32 a) (BitVec.ofNat 32 h)) (BitVec.ofNat 32 y) = BitVec.ofNat 32 (h * a + y) := by
  show BitVec.ofNat 32 a * BitVec.ofNat 32 h + BitVec.ofNat 32 y = _
  rw [Nat.mul_comm h a, BitVec.ofNat_add, BitVec.ofNat_mul]

/-- A matrix's `n` groups of columns, group first: what a stack of matrices cut in groups of columns reads. -/
theorem branches_at {T B n w C : ℕ} (X : (⟨3, ![B, T, C]⟩ : Shape).Idx → EReal) (hC : C = n * w)
    (h : (⟨3, ![B, T, C]⟩ : Shape).ShapeCasts ⟨4, ![B, T, n, w]⟩)
    (h' : (⟨4, ![B, T, n, w]⟩ : Shape).Transposes [2, 0, 1, 3] ⟨4, ![n, B, T, w]⟩)
    {j b k q : ℕ} (hj : j < n) (hb : b < B) (hk : k < T) (hq : q < w) :
    rd4 (transpose ⟨4, ![n, B, T, w]⟩ [2, 0, 1, 3] (shapeCast ⟨4, ![B, T, n, w]⟩ X h) h') j b k q = rd3 X b k (w * j + q) := by
  subst hC
  have hc : w * j + q < n * w := by
    have : w * (j + 1) ≤ w * n := Nat.mul_le_mul_left _ hj
    rw [Nat.mul_succ] at this; rw [Nat.mul_comm n w]; omega
  unfold rd4
  rw [dif_pos ⟨hj, hb, hk, hq⟩, transpose_apply _ _ _ _
    (fun d => match d with | ⟨0, _⟩ => ⟨b, hb⟩ | ⟨1, _⟩ => ⟨k, hk⟩ | ⟨2, _⟩ => ⟨j, hj⟩ | ⟨3, _⟩ => ⟨q, hq⟩ : (⟨4, ![B, T, n, w]⟩ : Shape).Idx)
    (fun b => match b with | ⟨0, _⟩ => rfl | ⟨1, _⟩ => rfl | ⟨2, _⟩ => rfl | ⟨3, _⟩ => rfl),
    shapeCast_apply X h _
      (fun d => match d with | ⟨0, _⟩ => ⟨b, hb⟩ | ⟨1, _⟩ => ⟨k, hk⟩ | ⟨2, _⟩ => ⟨w * j + q, hc⟩ : (⟨3, ![B, T, n * w]⟩ : Shape).Idx) ?_]
  · exact rd3_of X _ rfl rfl rfl
  · rw [Shape.rowMajor_val_three, Shape.rowMajor_val_four]
    show (b * T + k) * (n * w) + (w * j + q) = ((b * T + k) * n + j) * w + q
    ring

/-- A matrix cut into `n` equal groups of columns, stacked: group `j`'s column `q` is the matrix's column `w j + q`. -/
theorem groups_at {T C n w : ℕ} (X : (⟨2, ![T, C]⟩ : Shape).Idx → EReal) (hC : C = n * w)
    (h : (⟨2, ![T, C]⟩ : Shape).ShapeCasts ⟨3, ![T, n, w]⟩) (h' : (⟨3, ![T, n, w]⟩ : Shape).Transposes [1, 0, 2] ⟨3, ![n, T, w]⟩)
    {j k q : ℕ} (hj : j < n) (hk : k < T) (hq : q < w) :
    rd3 (transpose ⟨3, ![n, T, w]⟩ [1, 0, 2] (shapeCast ⟨3, ![T, n, w]⟩ X h) h') j k q = rd2 X k (w * j + q) := by
  subst hC
  have hc : w * j + q < n * w := by
    have : w * (j + 1) ≤ w * n := Nat.mul_le_mul_left _ hj
    rw [Nat.mul_succ] at this; rw [Nat.mul_comm n w]; omega
  unfold rd3
  rw [dif_pos ⟨hj, hk, hq⟩, transpose_apply _ _ _ _
    (fun d => match d with | ⟨0, _⟩ => ⟨k, hk⟩ | ⟨1, _⟩ => ⟨j, hj⟩ | ⟨2, _⟩ => ⟨q, hq⟩ : (⟨3, ![T, n, w]⟩ : Shape).Idx)
    (fun b => match b with | ⟨0, _⟩ => rfl | ⟨1, _⟩ => rfl | ⟨2, _⟩ => rfl),
    shapeCast_apply X h _
      (fun d => match d with | ⟨0, _⟩ => ⟨k, hk⟩ | ⟨1, _⟩ => ⟨w * j + q, hc⟩ : (⟨2, ![T, n * w]⟩ : Shape).Idx) ?_]
  · exact rd2_of X _ rfl rfl
  · rw [Shape.rowMajor_val_two, Shape.rowMajor_val_three]
    show k * (n * w) + (w * j + q) = (k * n + j) * w + q
    ring

/-- Rows grouped in `n` groups of `w`: row `k` of group `j` is row `w * j + k`. -/
theorem rows_at {R n w N : ℕ} (X : (⟨2, ![R, N]⟩ : Shape).Idx → EReal) (hR : R = n * w)
    (h : (⟨2, ![R, N]⟩ : Shape).ShapeCasts ⟨3, ![n, w, N]⟩) {j k q : ℕ} (hj : j < n) (hk : k < w) (hq : q < N) :
    rd3 (shapeCast ⟨3, ![n, w, N]⟩ X h) j k q = rd2 X (w * j + k) q := by
  subst hR
  have hc : w * j + k < n * w := by
    have : w * (j + 1) ≤ w * n := Nat.mul_le_mul_left _ hj
    rw [Nat.mul_succ] at this; rw [Nat.mul_comm n w]; omega
  unfold rd3
  rw [dif_pos ⟨hj, hk, hq⟩, shapeCast_apply X h _
      (fun d => match d with | ⟨0, _⟩ => ⟨w * j + k, hc⟩ | ⟨1, _⟩ => ⟨q, hq⟩ : (⟨2, ![n * w, N]⟩ : Shape).Idx) ?_]
  · exact rd2_of X _ rfl rfl
  · rw [Shape.rowMajor_val_two, Shape.rowMajor_val_three]
    show (w * j + k) * N + q = (j * w + k) * N + q
    ring

end Cert.Prod

end
-- ==== Proof.Prod.Dw13.lean ====
module

public import proofs.«01_k».proof.Proof.Gen.Kernel2Ideal.Value
public import proofs.«01_k».proof.Proof.Gen.Reference2Ideal.Read
public import proofs.«01_k».proof.Proof.Prod.Base

/-! The gradient of the feed-forward layer's first weight: the input, transposed, times the cotangent. -/

@[expose] public section

set_option maxRecDepth 16384

noncomputable section

namespace Cert.Dw13

open Cert.Kernel2Ideal Cert.Kernel2Ideal.Gen Cert.Kernel2Ideal.Value Cert.Prod
open Idealize.ShloMosaic Idealize.ShloMosaic.TcCoe Idealize.ShloMosaic.Tactic Idealize.SL.Sem

section Points

variable {F : FTy → Type} [FloatOps F]
variable (m : (ℓ : Loc nD τ sig) → Buf (Elt F) ℓ) (c : Dev nD)

/-- The first step of a block: the product is added to zeros. -/
theorem first (t : Fin cfg0.N) (h0 : t.val % 6 = 0) (h1 : ¬t.val % 6 = 5) :
    (outsAt0 m c t.val t.isLt).2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off3]

/-- A later step: the product is added to what the step before left. -/
theorem middle (t : Fin cfg0.N) (h0 : ¬t.val % 6 = 0) (h1 : ¬t.val % 6 = 5) (hp : t.val - 1 < cfg0.N) :
    (outsAt0 m c t.val t.isLt).2 = k0_pay2 (outsAt0 m c (t.val - 1) hp).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.ld_unit_zero off2, View.ld_unit_zero off2, View.ld_unit_zero off3]
  exact congrArg (fun x => k0_pay2 x (iblk m c 0 t) (iblk m c 1 t)) (Memref.IsWhole.read_unread (Memref.isWhole_whole _) _)

/-- The last step writes the block of the result. -/
theorem last (t : Fin cfg0.N) (h0 : ¬t.val % 6 = 0) (h1 : t.val % 6 = 5) (hp : t.val - 1 < cfg0.N) :
    (outsAt0 m c t.val t.isLt).1 = k0_pay3 (k0_pay2 (outsAt0 m c (t.val - 1) hp).2 (iblk m c 0 t) (iblk m c 1 t)) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread]
  refine (View.canon_cons_unit_zero off3 _ _ _).trans ?_
  rw [View.readCov_unit_zero _ off2, View.ld_unit_zero off2, View.ld_unit_zero off2, View.ld_unit_zero off3]
  exact congrArg (fun x => k0_pay3 (k0_pay2 x (iblk m c 0 t) (iblk m c 1 t))) (Memref.IsWhole.read_unread (Memref.isWhole_whole _) _)

end Points

theorem pay1_at (y : S512x2752.Idx) : (k0_pay1 (F := Ideal) y : EReal) = 0 := by
  unfold k0_pay1
  simp only [shapeCast_self]
  exact Ideal.ofBits_zero_f32

abbrev D := dot_S1408x512_S1408x2752_S512x2752_0_0_1_1_n_n

theorem lhs1 (i : S512x2752.Idx) (q : D.contr.Idx) : (D.lhsIdx i q 1).val = (i 0).val := lhs_at D i q (by decide) (by decide) rfl

theorem rhs1 (i : S512x2752.Idx) (q : D.contr.Idx) : (D.rhsIdx i q 1).val = (i 1).val := rhs_at D i q (by decide) (by decide) rfl

/-- One step adds the products over its 1408 positions. -/
theorem pay2_at (acc : FVec Ideal S512x2752 .f32) (x0 : FVec Ideal S1408x512 .bf16) (x1 : FVec Ideal S1x1408x2752 .bf16) (y : S512x2752.Idx)
    (L R : ℕ → EReal) (hl : ∀ x : S1408x512.Idx, (x 1).val = (y 0).val → x0 x = L (x 0).val)
    (hr : ∀ x : S1x1408x2752.Idx, (x 2).val = (y 1).val → x1 x = R (x 1).val) :
    (k0_pay2 (F := Ideal) acc x0 x1 y : EReal) = acc y + ∑ k ∈ Finset.range 1408, L k * R k := by
  unfold k0_pay2
  simp only [shapeCast_self]
  rw [ValueIdx.addf_apply]
  refine congrArg (acc y + ·) ?_
  refine dot_at D 1408 rfl rfl none _ _ y L R (fun q => ?_) (fun q => ?_)
  · exact (hl _ (lhs1 y q)).trans (congrArg L (D.lhsIdx_val_of_single rfl y q))
  · refine (shapeCast_dropUnit_apply ![1408, 2752] x1 _ _).trans ?_
    exact (hr _ (rhs1 y q)).trans (congrArg R (D.rhsIdx_val_of_single rfl y q))

theorem pay3_at (acc : FVec Ideal S512x2752 .f32) (y : S1x512x2752.Idx) :
    (k0_pay3 (F := Ideal) acc y : EReal) = acc (fun a => y a.succ) :=
  shapeCast_addUnit_apply ![512, 2752] _ _ y

theorem index0 : ∀ t : Fin grid0.N, win0_0.index t = ![t.val % 6, t.val / 6 % 4] := by decide +kernel

theorem index1 : ∀ t : Fin grid0.N, win0_1.index t = ![t.val / 24, t.val % 6, 0] := by decide +kernel

variable (m : (ℓ : Loc nD τ sig) → Buf (Elt Ideal) ℓ) (c : Dev nD)

theorem block0 (t : Fin cfg0.N) (x : S1408x512.Idx) : (iblk m c 0 t x : EReal) =
    rd2 (a := 8448) (b := 2048) (V m c main_v0) (1408 * (t.val % 6) + (x 0).val) (512 * (t.val / 6 % 4) + (x 1).val) := by
  have h := index0 t
  refine rd2_of (a := 8448) (b := 2048) (V m c main_v0) _ ?_ ?_
  · exact tile (t.val % 6) 1408 (congrFun h 0) (by omega)
  · exact tile (t.val / 6 % 4) 512 (congrFun h 1) (by omega)

theorem block1 (t : Fin cfg0.N) (x : S1x1408x2752.Idx) : (iblk m c 1 t x : EReal) =
    rd3 (a := 4) (b := 8448) (c := 2752) (V m c main_v3) (t.val / 24) (1408 * (t.val % 6) + (x 1).val) ((x 2).val) := by
  have h := index1 t
  have hx : (x 0).val = 0 := by have := (x 0).isLt; change _ < 1 at this; omega
  refine rd3_of (a := 4) (b := 8448) (c := 2752) (V m c main_v3) _ ?_ ?_ ?_
  · exact tile (t.val / 24) 1 (congrFun h 0) (by omega)
  · exact tile (t.val % 6) 1408 (congrFun h 1) (by omega)
  · exact tile 0 2752 (congrFun h 2) (by omega)

/-- The arguments. -/
abbrev A0 : (⟨2, ![8448, 2048]⟩ : Shape).Idx → EReal := m ((c.tc : Thread nD τ).loc main_arg0)
abbrev A1 : (⟨2, ![8448, 11008]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v3 : (⟨3, ![4, 8448, 2752]⟩ : Shape).Idx → EReal) =
    transpose S4x8448x2752 [1, 0, 2] (shapeCast S8448x4x2752 (A1 m c) (by decide)) (by decide) := by
  unfold V hostOps0
  after_results
  rfl

/-- The product of the two arguments' elements at row `p` and column `q` of the result and position `k` of the sum. -/
def term (p q k : ℕ) : EReal := rd2 (A0 m c) k p * rd2 (A1 m c) k q

/-- One step of the accumulation, in terms of the arguments. -/
theorem step (t : Fin cfg0.N) (acc : FVec Ideal S512x2752 .f32) (y : S512x2752.Idx) :
    (k0_pay2 (F := Ideal) acc (iblk m c 0 t) (iblk m c 1 t) y : EReal) =
      acc y + ∑ k ∈ Finset.range 1408, term m c (512 * (t.val / 6 % 4) + (y 0).val) (2752 * (t.val / 24) + (y 1).val) (1408 * (t.val % 6) + k) := by
  have hN : t.val < 96 := lt_of_lt_of_eq t.isLt N_0
  have hy0 : (y 0).val < 512 := (y 0).isLt
  have hy1 : (y 1).val < 2752 := (y 1).isLt
  rw [pay2_at acc _ _ y
    (fun k => rd2 (a := 8448) (b := 2048) (V m c main_v0) (1408 * (t.val % 6) + k) (512 * (t.val / 6 % 4) + (y 0).val))
    (fun k => rd3 (a := 4) (b := 8448) (c := 2752) (V m c main_v3) (t.val / 24) (1408 * (t.val % 6) + k) ((y 1).val))
    (fun x hx => by rw [block0, hx]) (fun x hx => by rw [block1, hx])]
  refine congrArg (acc y + ·) (Finset.sum_congr rfl fun k hk => ?_)
  have hk' := Finset.mem_range.mp hk
  rw [V_0, V_1]
  unfold term
  refine congrArg₂ (· * ·) (Eq.trans (rfl) ?_) (Eq.trans (groups_at (A1 m c) rfl _ _ (by omega) (by omega) (by omega)) ?_)
  · congr 1 <;> omega
  · congr 1 <;> omega

/-- What the accumulator holds after a step that is not the last: the sum so far. -/
theorem acc_at : ∀ (n : ℕ) (hn : n < cfg0.N) (_ : ¬n % 6 = 5) (y : S512x2752.Idx),
    ((outsAt0 m c n hn).2 y : EReal) =
      ∑ k ∈ Finset.range (1408 * (n % 6 + 1)), term m c (512 * (n / 6 % 4) + (y 0).val) (2752 * (n / 24) + (y 1).val) k
  | n, hn, h5, y => by
    by_cases h0 : n % 6 = 0
    · rw [first m c ⟨n, hn⟩ h0 h5, step, pay1_at, zero_add]
      show ∑ k ∈ Finset.range 1408, term m c _ _ (1408 * (n % 6) + k) = _
      rw [h0]
      exact Finset.sum_congr rfl fun k _ => by rw [Nat.mul_zero, Nat.zero_add]
    · have hp : n - 1 < cfg0.N := by omega
      rw [middle m c ⟨n, hn⟩ h0 h5 hp, step]
      have ih := acc_at (n - 1) hp (by omega) y
      rw [show (n - 1) % 6 + 1 = n % 6 by omega, show (n - 1) / 6 = n / 6 by omega, show (n - 1) / 24 = n / 24 by omega] at ih
      show ((outsAt0 m c (n - 1) hp).2 y : EReal) + _ = _
      rw [ih]
      exact sum_next _ 1408 (n % 6)
  termination_by n => n

/-- Each element of the result is the sum over all 8448 positions. -/
theorem value (i : S4x2048x2752.Idx) : (G2 m c i : EReal) = ∑ k ∈ Finset.range 8448, term m c ((i 1).val) (2752 * (i 0).val + (i 2).val) k := by
  have b0 : (i 0).val < 4 := (i 0).isLt
  have b1 : (i 1).val < 2048 := (i 1).isLt
  have b2 : (i 2).val < 2752 := (i 2).isLt
  have hpt : pt2Of i = 24 * (i 0).val + 6 * ((i 1).val / 512) + 5 := by
    show 6 * (4 * ((i 0).val / 1 - 0) + 1 * ((i 1).val / 512 - 0) + 1 * ((i 2).val / 2752 - 0)) + 5 = _
    omega
  have hn : pt2Of i < cfg0.N := by rw [show cfg0.N = 96 from N_0]; omega
  have hp : pt2Of i - 1 < cfg0.N := by omega
  unfold G2
  rw [dif_pos hn]
  have e := outsAt0_sweep m c (pt2Of i) hn
  rw [show (Pipeline.accAt (fun n h => stAt0 m c n h junk0) (stAt0 m c) 0 (pt2Of i) (by omega)).1 = (outsAt0 m c (pt2Of i) hn).1 from
    congrArg Prod.fst e.symm]
  refine (congrFun (last m c ⟨pt2Of i, hn⟩ (by show ¬pt2Of i % 6 = 0; omega) (by show pt2Of i % 6 = 5; omega) hp) (loc2Of i)).trans ?_
  refine (pay3_at _ (loc2Of i)).trans ?_
  refine (step m c ⟨pt2Of i, hn⟩ _ (fun a => (loc2Of i) a.succ)).trans ?_
  have ih := acc_at m c (pt2Of i - 1) hp (by omega) (fun a => (loc2Of i) a.succ)
  show ((outsAt0 m c (pt2Of i - 1) hp).2 (fun a => (loc2Of i) a.succ) : EReal) + _ = _
  rw [ih]
  show ∑ k ∈ Finset.range (1408 * ((pt2Of i - 1) % 6 + 1)), term m c (512 * ((pt2Of i - 1) / 6 % 4) + (i 1).val % 512) (2752 * ((pt2Of i - 1) / 24) + (i 2).val % 2752) k
    + ∑ k ∈ Finset.range 1408, term m c (512 * ((pt2Of i) / 6 % 4) + (i 1).val % 512) (2752 * ((pt2Of i) / 24) + (i 2).val % 2752) (1408 * (pt2Of i % 6) + k) = _
  rw [show (pt2Of i - 1) % 6 + 1 = 5 by omega, show pt2Of i % 6 = 5 by omega,
    show 512 * ((pt2Of i - 1) / 6 % 4) + (i 1).val % 512 = (i 1).val by omega, show 2752 * ((pt2Of i - 1) / 24) + (i 2).val % 2752 = 2752 * (i 0).val + (i 2).val by omega,
    show 512 * ((pt2Of i) / 6 % 4) + (i 1).val % 512 = (i 1).val by omega, show 2752 * ((pt2Of i) / 24) + (i 2).val % 2752 = 2752 * (i 0).val + (i 2).val by omega]
  exact sum_next _ 1408 5

open Cert.Reference2Ideal.Read in
/-- The reference's result is the same sum. -/
theorem ref_value (i : S4x2048x2752.Idx) :
    (val_main_v6 (F := Ideal) (A0 m c) (A1 m c) i : EReal) = ∑ k ∈ Finset.range 8448, term m c ((i 1).val) (2752 * (i 0).val + (i 2).val) k := by
  have b0 : (i 0).val < 4 := (i 0).isLt
  have b1 : (i 1).val < 2048 := (i 1).isLt
  have b2 : (i 2).val < 2752 := (i 2).isLt
  refine (val_main_v5_apply (F := Ideal) (A0 m c) (A1 m c) i).trans ?_
  rw [val_main_v4_apply, val_main_v3_apply, val_main_v2_apply]
  rw [← Fin.sum_univ_eq_sum_range (fun k => term m c ((i 1).val) (2752 * (i 0).val + (i 2).val) k)]
  refine Finset.sum_congr rfl fun k _ => ?_
  unfold term
  rw [mul_comm]
  refine congrArg₂ (· * ·) (rd2_of (A0 m c) _ ?_ ?_) (rd2_of (A1 m c) _ ?_ ?_)
  · rfl
  · show (((i 1).val * 4 + (i 0).val) * 2752 + (i 2).val) / 11008 = _
    omega
  · rfl
  · show (((i 1).val * 4 + (i 0).val) * 2752 + (i 2).val) % 11008 = _
    omega

open Cert.Reference2Ideal.Read in
theorem ref_eq : val_main_v6 (F := Ideal) (A0 m c) (A1 m c) = G2 m c := funext fun i => (ref_value m c i).trans (value m c i).symm

end Cert.Dw13

end
-- ==== Proof.Prod.Du.lean ====
module

public import proofs.«01_k».proof.Proof.Gen.Kernel3Ideal.Value
public import proofs.«01_k».proof.Proof.Gen.Reference3Ideal.Read
public import proofs.«01_k».proof.Proof.Prod.Base

/-! The gradient of the feed-forward layer's input: the cotangent times the first weight, transposed. -/

@[expose] public section

set_option maxRecDepth 16384

noncomputable section

namespace Cert.Du

open Cert.Kernel3Ideal Cert.Kernel3Ideal.Gen Cert.Kernel3Ideal.Value Cert.Prod
open Idealize.ShloMosaic Idealize.ShloMosaic.TcCoe Idealize.ShloMosaic.Tactic Idealize.SL.Sem

section Points

variable {F : FTy → Type} [FloatOps F]
variable (m : (ℓ : Loc nD τ sig) → Buf (Elt F) ℓ) (c : Dev nD)

/-- The first step of a block: the product is added to zeros. -/
theorem first (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off3, View.ld_unit_zero off3]

/-- A later step: the product is added to what the step before left. -/
theorem middle (t : Fin cfg0.N) (h0 : ¬t.val % 4 = 0) (h1 : ¬t.val % 4 = 3) (hp : t.val - 1 < cfg0.N) :
    (outsAt0 m c t.val t.isLt).2 = k0_pay2 (outsAt0 m c (t.val - 1) hp).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.ld_unit_zero off2, View.ld_unit_zero off3, View.ld_unit_zero off3]
  exact congrArg (fun x => k0_pay2 x (iblk m c 0 t) (iblk m c 1 t)) (Memref.IsWhole.read_unread (Memref.isWhole_whole _) _)

/-- The last step writes the block of the result. -/
theorem last (t : Fin cfg0.N) (h0 : ¬t.val % 4 = 0) (h1 : t.val % 4 = 3) (hp : t.val - 1 < cfg0.N) :
    (outsAt0 m c t.val t.isLt).1 = k0_pay2 (outsAt0 m c (t.val - 1) hp).2 (iblk m c 0 t) (iblk m c 1 t) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off3, View.ld_unit_zero off3]
  exact congrArg (fun x => k0_pay2 x (iblk m c 0 t) (iblk m c 1 t)) (Memref.IsWhole.read_unread (Memref.isWhole_whole _) _)

end Points

theorem pay1_at (y : S1408x512.Idx) : (k0_pay1 (F := Ideal) y : EReal) = 0 := by
  unfold k0_pay1
  simp only [shapeCast_self]
  exact Ideal.ofBits_zero_f32

abbrev D := dot_S1408x2752_S512x2752_S1408x512_1_1_0_0_n_n

theorem lhs1 (i : S1408x512.Idx) (q : D.contr.Idx) : (D.lhsIdx i q 0).val = (i 0).val := lhs_at D i q (by decide) (by decide) rfl

theorem rhs1 (i : S1408x512.Idx) (q : D.contr.Idx) : (D.rhsIdx i q 0).val = (i 1).val := rhs_at D i q (by decide) (by decide) rfl

/-- One step adds the products over its 2752 positions. -/
theorem pay2_at (acc : FVec Ideal S1408x512 .f32) (x0 : FVec Ideal S1x1408x2752 .bf16) (x1 : FVec Ideal S1x512x2752 .bf16) (y : S1408x512.Idx)
    (L R : ℕ → EReal) (hl : ∀ x : S1x1408x2752.Idx, (x 1).val = (y 0).val → x0 x = L (x 2).val)
    (hr : ∀ x : S1x512x2752.Idx, (x 1).val = (y 1).val → x1 x = R (x 2).val) :
    (k0_pay2 (F := Ideal) acc x0 x1 y : EReal) = acc y + ∑ k ∈ Finset.range 2752, L k * R k := by
  unfold k0_pay2
  simp only [shapeCast_self]
  rw [ValueIdx.addf_apply]
  refine congrArg (acc y + ·) ?_
  refine dot_at D 2752 rfl rfl none _ _ y L R (fun q => ?_) (fun q => ?_)
  · refine (shapeCast_dropUnit_apply ![1408, 2752] x0 _ _).trans ?_
    exact (hl _ (lhs1 y q)).trans (congrArg L (D.lhsIdx_val_of_single rfl y q))
  · refine (shapeCast_dropUnit_apply ![512, 2752] x1 _ _).trans ?_
    exact (hr _ (rhs1 y q)).trans (congrArg R (D.rhsIdx_val_of_single rfl y q))

theorem index0 : ∀ t : Fin grid0.N, win0_0.index t = ![t.val % 4, t.val / 16, 0] := by decide +kernel

theorem index1 : ∀ t : Fin grid0.N, win0_1.index t = ![t.val % 4, t.val / 4 % 4, 0] := by decide +kernel

variable (m : (ℓ : Loc nD τ sig) → Buf (Elt Ideal) ℓ) (c : Dev nD)

theorem block0 (t : Fin cfg0.N) (x : S1x1408x2752.Idx) : (iblk m c 0 t x : EReal) =
    rd3 (a := 4) (b := 8448) (c := 2752) (V m c main_v2) (t.val % 4) (1408 * (t.val / 16) + (x 1).val) ((x 2).val) := by
  have h := index0 t
  have hx : (x 0).val = 0 := by have := (x 0).isLt; change _ < 1 at this; omega
  refine rd3_of (a := 4) (b := 8448) (c := 2752) (V m c main_v2) _ ?_ ?_ ?_
  · exact tile (t.val % 4) 1 (congrFun h 0) (by omega)
  · exact tile (t.val / 16) 1408 (congrFun h 1) (by omega)
  · exact tile 0 2752 (congrFun h 2) (by omega)

theorem block1 (t : Fin cfg0.N) (x : S1x512x2752.Idx) : (iblk m c 1 t x : EReal) =
    rd3 (a := 4) (b := 2048) (c := 2752) (V m c main_v5) (t.val % 4) (512 * (t.val / 4 % 4) + (x 1).val) ((x 2).val) := by
  have h := index1 t
  have hx : (x 0).val = 0 := by have := (x 0).isLt; change _ < 1 at this; omega
  refine rd3_of (a := 4) (b := 2048) (c := 2752) (V m c main_v5) _ ?_ ?_ ?_
  · exact tile (t.val % 4) 1 (congrFun h 0) (by omega)
  · exact tile (t.val / 4 % 4) 512 (congrFun h 1) (by omega)
  · exact tile 0 2752 (congrFun h 2) (by omega)

/-- The arguments. -/
abbrev A0 : (⟨2, ![8448, 11008]⟩ : Shape).Idx → EReal := m ((c.tc : Thread nD τ).loc main_arg0)
abbrev A1 : (⟨2, ![2048, 11008]⟩ : Shape).Idx → EReal := m ((c.tc : Thread nD τ).loc main_arg1)

theorem V_0 : (V m c main_v2 : (⟨3, ![4, 8448, 2752]⟩ : Shape).Idx → EReal) =
    transpose S4x8448x2752 [1, 0, 2] (shapeCast S8448x4x2752 (A0 m c) (by decide)) (by decide) := by
  unfold V hostOps0
  after_results
  rfl

theorem V_1 : (V m c main_v5 : (⟨3, ![4, 2048, 2752]⟩ : Shape).Idx → EReal) =
    transpose S4x2048x2752 [1, 0, 2] (shapeCast S2048x4x2752 (A1 m c) (by decide)) (by decide) := by
  unfold V hostOps0
  after_results
  rfl

/-- The product of the two arguments' elements at row `p` and column `q` of the result and position `k` of the sum. -/
def term (p q k : ℕ) : EReal := rd2 (A0 m c) p k * rd2 (A1 m c) q k

/-- One step of the accumulation, in terms of the arguments. -/
theorem step (t : Fin cfg0.N) (acc : FVec Ideal S1408x512 .f32) (y : S1408x512.Idx) :
    (k0_pay2 (F := Ideal) acc (iblk m c 0 t) (iblk m c 1 t) y : EReal) =
      acc y + ∑ k ∈ Finset.range 2752, term m c (1408 * (t.val / 16) + (y 0).val) (512 * (t.val / 4 % 4) + (y 1).val) (2752 * (t.val % 4) + k) := by
  have hN : t.val < 96 := lt_of_lt_of_eq t.isLt N_0
  have hy0 : (y 0).val < 1408 := (y 0).isLt
  have hy1 : (y 1).val < 512 := (y 1).isLt
  rw [pay2_at acc _ _ y
    (fun k => rd3 (a := 4) (b := 8448) (c := 2752) (V m c main_v2) (t.val % 4) (1408 * (t.val / 16) + (y 0).val) (k))
    (fun k => rd3 (a := 4) (b := 2048) (c := 2752) (V m c main_v5) (t.val % 4) (512 * (t.val / 4 % 4) + (y 1).val) (k))
    (fun x hx => by rw [block0, hx]) (fun x hx => by rw [block1, hx])]
  refine congrArg (acc y + ·) (Finset.sum_congr rfl fun k hk => ?_)
  have hk' := Finset.mem_range.mp hk
  rw [V_0, V_1]
  unfold term
  refine congrArg₂ (· * ·) (Eq.trans (groups_at (A0 m c) rfl _ _ (by omega) (by omega) (by omega)) ?_) (Eq.trans (groups_at (A1 m c) rfl _ _ (by omega) (by omega) (by omega)) ?_)
  · congr 1 <;> omega
  · congr 1 <;> omega

/-- What the accumulator holds after a step that is not the last: the sum so far. -/
theorem acc_at : ∀ (n : ℕ) (hn : n < cfg0.N) (_ : ¬n % 4 = 3) (y : S1408x512.Idx),
    ((outsAt0 m c n hn).2 y : EReal) =
      ∑ k ∈ Finset.range (2752 * (n % 4 + 1)), term m c (1408 * (n / 16) + (y 0).val) (512 * (n / 4 % 4) + (y 1).val) k
  | n, hn, h5, y => by
    by_cases h0 : n % 4 = 0
    · rw [first m c ⟨n, hn⟩ h0 h5, step, pay1_at, zero_add]
      show ∑ k ∈ Finset.range 2752, term m c _ _ (2752 * (n % 4) + k) = _
      rw [h0]
      exact Finset.sum_congr rfl fun k _ => by rw [Nat.mul_zero, Nat.zero_add]
    · have hp : n - 1 < cfg0.N := by omega
      rw [middle m c ⟨n, hn⟩ h0 h5 hp, step]
      have ih := acc_at (n - 1) hp (by omega) y
      rw [show (n - 1) % 4 + 1 = n % 4 by omega, show (n - 1) / 4 = n / 4 by omega, show (n - 1) / 16 = n / 16 by omega] at ih
      show ((outsAt0 m c (n - 1) hp).2 y : EReal) + _ = _
      rw [ih]
      exact sum_next _ 2752 (n % 4)
  termination_by n => n

/-- Each element of the result is the sum over all 11008 positions. -/
theorem value (i : S8448x2048.Idx) : (G2 m c i : EReal) = ∑ k ∈ Finset.range 11008, term m c ((i 0).val) ((i 1).val) k := by
  have b0 : (i 0).val < 8448 := (i 0).isLt
  have b1 : (i 1).val < 2048 := (i 1).isLt
  have hpt : pt2Of i = 16 * ((i 0).val / 1408) + 4 * ((i 1).val / 512) + 3 := by
    show 4 * (4 * ((i 0).val / 1408 - 0) + 1 * ((i 1).val / 512 - 0)) + 3 = _
    omega
  have hn : pt2Of i < cfg0.N := by rw [show cfg0.N = 96 from N_0]; omega
  have hp : pt2Of i - 1 < cfg0.N := by omega
  unfold G2
  rw [dif_pos hn]
  have e := outsAt0_sweep m c (pt2Of i) hn
  rw [show (Pipeline.accAt (fun n h => stAt0 m c n h junk0) (stAt0 m c) 0 (pt2Of i) (by omega)).1 = (outsAt0 m c (pt2Of i) hn).1 from
    congrArg Prod.fst e.symm]
  refine (congrFun (last m c ⟨pt2Of i, hn⟩ (by show ¬pt2Of i % 4 = 0; omega) (by show pt2Of i % 4 = 3; omega) hp) (loc2Of i)).trans ?_
  refine (step m c ⟨pt2Of i, hn⟩ _ (loc2Of i)).trans ?_
  have ih := acc_at m c (pt2Of i - 1) hp (by omega) (loc2Of i)
  show ((outsAt0 m c (pt2Of i - 1) hp).2 (loc2Of i) : EReal) + _ = _
  rw [ih]
  show ∑ k ∈ Finset.range (2752 * ((pt2Of i - 1) % 4 + 1)), term m c (1408 * ((pt2Of i - 1) / 16) + (i 0).val % 1408) (512 * ((pt2Of i - 1) / 4 % 4) + (i 1).val % 512) k
    + ∑ k ∈ Finset.range 2752, term m c (1408 * ((pt2Of i) / 16) + (i 0).val % 1408) (512 * ((pt2Of i) / 4 % 4) + (i 1).val % 512) (2752 * (pt2Of i % 4) + k) = _
  rw [show (pt2Of i - 1) % 4 + 1 = 3 by omega, show pt2Of i % 4 = 3 by omega,
    show 1408 * ((pt2Of i - 1) / 16) + (i 0).val % 1408 = (i 0).val by omega, show 512 * ((pt2Of i - 1) / 4 % 4) + (i 1).val % 512 = (i 1).val by omega,
    show 1408 * ((pt2Of i) / 16) + (i 0).val % 1408 = (i 0).val by omega, show 512 * ((pt2Of i) / 4 % 4) + (i 1).val % 512 = (i 1).val by omega]
  exact sum_next _ 2752 3

open Cert.Reference3Ideal.Read in
/-- The reference's result is the same sum. -/
theorem ref_value (i : S8448x2048.Idx) :
    (val_main_v2 (F := Ideal) (A0 m c) (A1 m c) i : EReal) = ∑ k ∈ Finset.range 11008, term m c ((i 0).val) ((i 1).val) k := by
  have b0 : (i 0).val < 8448 := (i 0).isLt
  have b1 : (i 1).val < 2048 := (i 1).isLt
  rw [val_main_v2_apply]
  rw [← Fin.sum_univ_eq_sum_range (fun k => term m c ((i 0).val) ((i 1).val) k)]
  refine Finset.sum_congr rfl fun k _ => ?_
  unfold term
  refine congrArg₂ (· * ·) (rd2_of (A0 m c) _ ?_ ?_) (rd2_of (A1 m c) _ ?_ ?_)
  · rfl
  · rfl
  · rfl
  · rfl

open Cert.Reference3Ideal.Read in
theorem ref_eq : val_main_v2 (F := Ideal) (A0 m c) (A1 m c) = G2 m c := funext fun i => (ref_value m c i).trans (value m c i).symm

end Cert.Du

end
-- ==== Proof.Prod.Dw2.lean ====
module

public import proofs.«01_k».proof.Proof.Gen.Kernel4Ideal.Value
public import proofs.«01_k».proof.Proof.Gen.Reference4Ideal.Read
public import proofs.«01_k».proof.Proof.Prod.Base

/-! The gradient of the feed-forward layer's second weight: the activation, transposed, times the cotangent. -/

@[expose] public section

set_option maxRecDepth 16384

noncomputable section

namespace Cert.Dw2

open Cert.Kernel4Ideal Cert.Kernel4Ideal.Gen Cert.Kernel4Ideal.Value Cert.Prod
open Idealize.ShloMosaic Idealize.ShloMosaic.TcCoe Idealize.ShloMosaic.Tactic Idealize.SL.Sem

section Points

variable {F : FTy → Type} [FloatOps F]
variable (m : (ℓ : Loc nD τ sig) → Buf (Elt F) ℓ) (c : Dev nD)

/-- The first step of a block: the product is added to zeros. -/
theorem first (t : Fin cfg0.N) (h0 : t.val % 6 = 0) (h1 : ¬t.val % 6 = 5) :
    (outsAt0 m c t.val t.isLt).2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off3, View.ld_unit_zero off2]

/-- A later step: the product is added to what the step before left. -/
theorem middle (t : Fin cfg0.N) (h0 : ¬t.val % 6 = 0) (h1 : ¬t.val % 6 = 5) (hp : t.val - 1 < cfg0.N) :
    (outsAt0 m c t.val t.isLt).2 = k0_pay2 (outsAt0 m c (t.val - 1) hp).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.ld_unit_zero off2, View.ld_unit_zero off3, View.ld_unit_zero off2]
  exact congrArg (fun x => k0_pay2 x (iblk m c 0 t) (iblk m c 1 t)) (Memref.IsWhole.read_unread (Memref.isWhole_whole _) _)

/-- The last step writes the block of the result. -/
theorem last (t : Fin cfg0.N) (h0 : ¬t.val % 6 = 0) (h1 : t.val % 6 = 5) (hp : t.val - 1 < cfg0.N) :
    (outsAt0 m c t.val t.isLt).1 = k0_pay3 (k0_pay2 (outsAt0 m c (t.val - 1) hp).2 (iblk m c 0 t) (iblk m c 1 t)) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread]
  refine (View.canon_cons_unit_zero off3 _ _ _).trans ?_
  rw [View.readCov_unit_zero _ off2, View.ld_unit_zero off2, View.ld_unit_zero off3, View.ld_unit_zero off2]
  exact congrArg (fun x => k0_pay3 (k0_pay2 x (iblk m c 0 t) (iblk m c 1 t))) (Memref.IsWhole.read_unread (Memref.isWhole_whole _) _)

end Points

theorem pay1_at (y : S2752x512.Idx) : (k0_pay1 (F := Ideal) y : EReal) = 0 := by
  unfold k0_pay1
  simp only [shapeCast_self]
  exact Ideal.ofBits_zero_f32

abbrev D := dot_S1408x2752_S1408x512_S2752x512_0_0_1_1_n_n

theorem lhs1 (i : S2752x512.Idx) (q : D.contr.Idx) : (D.lhsIdx i q 1).val = (i 0).val := lhs_at D i q (by decide) (by decide) rfl

theorem rhs1 (i : S2752x512.Idx) (q : D.contr.Idx) : (D.rhsIdx i q 1).val = (i 1).val := rhs_at D i q (by decide) (by decide) rfl

/-- One step adds the products over its 1408 positions. -/
theorem pay2_at (acc : FVec Ideal S2752x512 .f32) (x0 : FVec Ideal S1x1408x2752 .bf16) (x1 : FVec Ideal S1408x512 .bf16) (y : S2752x512.Idx)
    (L R : ℕ → EReal) (hl : ∀ x : S1x1408x2752.Idx, (x 2).val = (y 0).val → x0 x = L (x 1).val)
    (hr : ∀ x : S1408x512.Idx, (x 1).val = (y 1).val → x1 x = R (x 0).val) :
    (k0_pay2 (F := Ideal) acc x0 x1 y : EReal) = acc y + ∑ k ∈ Finset.range 1408, L k * R k := by
  unfold k0_pay2
  simp only [shapeCast_self]
  rw [ValueIdx.addf_apply]
  refine congrArg (acc y + ·) ?_
  refine dot_at D 1408 rfl rfl none _ _ y L R (fun q => ?_) (fun q => ?_)
  · refine (shapeCast_dropUnit_apply ![1408, 2752] x0 _ _).trans ?_
    exact (hl _ (lhs1 y q)).trans (congrArg L (D.lhsIdx_val_of_single rfl y q))
  · exact (hr _ (rhs1 y q)).trans (congrArg R (D.rhsIdx_val_of_single rfl y q))

theorem pay3_at (acc : FVec Ideal S2752x512 .f32) (y : S1x2752x512.Idx) :
    (k0_pay3 (F := Ideal) acc y : EReal) = acc (fun a => y a.succ) :=
  shapeCast_addUnit_apply ![2752, 512] _ _ y

theorem index0 : ∀ t : Fin grid0.N, win0_0.index t = ![t.val / 24, t.val % 6, 0] := by decide +kernel

theorem index1 : ∀ t : Fin grid0.N, win0_1.index t = ![t.val % 6, t.val / 6 % 4] := by decide +kernel

variable (m : (ℓ : Loc nD τ sig) → Buf (Elt Ideal) ℓ) (c : Dev nD)

theorem block0 (t : Fin cfg0.N) (x : S1x1408x2752.Idx) : (iblk m c 0 t x : EReal) =
    rd3 (a := 2) (b := 8448) (c := 2752) (V m c main_v2) (t.val / 24) (1408 * (t.val % 6) + (x 1).val) ((x 2).val) := by
  have h := index0 t
  have hx : (x 0).val = 0 := by have := (x 0).isLt; change _ < 1 at this; omega
  refine rd3_of (a := 2) (b := 8448) (c := 2752) (V m c main_v2) _ ?_ ?_ ?_
  · exact tile (t.val / 24) 1 (congrFun h 0) (by omega)
  · exact tile (t.val % 6) 1408 (congrFun h 1) (by omega)
  · exact tile 0 2752 (congrFun h 2) (by omega)

theorem block1 (t : Fin cfg0.N) (x : S1408x512.Idx) : (iblk m c 1 t x : EReal) =
    rd2 (a := 8448) (b := 2048) (V m c main_v3) (1408 * (t.val % 6) + (x 0).val) (512 * (t.val / 6 % 4) + (x 1).val) := by
  have h := index1 t
  refine rd2_of (a := 8448) (b := 2048) (V m c main_v3) _ ?_ ?_
  · exact tile (t.val % 6) 1408 (congrFun h 0) (by omega)
  · exact tile (t.val / 6 % 4) 512 (congrFun h 1) (by omega)

/-- The arguments. -/
abbrev A0 : (⟨2, ![8448, 5504]⟩ : Shape).Idx → EReal := m ((c.tc : Thread nD τ).loc main_arg0)
abbrev A1 : (⟨2, ![8448, 2048]⟩ : Shape).Idx → EReal := m ((c.tc : Thread nD τ).loc main_arg1)

theorem V_0 : (V m c main_v2 : (⟨3, ![2, 8448, 2752]⟩ : Shape).Idx → EReal) =
    transpose S2x8448x2752 [1, 0, 2] (shapeCast S8448x2x2752 (A0 m c) (by decide)) (by decide) := by
  unfold V hostOps0
  after_results
  rfl

theorem V_1 : (V m c main_v3 : (⟨2, ![8448, 2048]⟩ : Shape).Idx → EReal) = A1 m c := by
  unfold V hostOps0
  after_results
  rfl

/-- The product of the two arguments' elements at row `p` and column `q` of the result and position `k` of the sum. -/
def term (p q k : ℕ) : EReal := rd2 (A0 m c) k p * rd2 (A1 m c) k q

/-- One step of the accumulation, in terms of the arguments. -/
theorem step (t : Fin cfg0.N) (acc : FVec Ideal S2752x512 .f32) (y : S2752x512.Idx) :
    (k0_pay2 (F := Ideal) acc (iblk m c 0 t) (iblk m c 1 t) y : EReal) =
      acc y + ∑ k ∈ Finset.range 1408, term m c (2752 * (t.val / 24) + (y 0).val) (512 * (t.val / 6 % 4) + (y 1).val) (1408 * (t.val % 6) + k) := by
  have hN : t.val < 48 := lt_of_lt_of_eq t.isLt N_0
  have hy0 : (y 0).val < 2752 := (y 0).isLt
  have hy1 : (y 1).val < 512 := (y 1).isLt
  rw [pay2_at acc _ _ y
    (fun k => rd3 (a := 2) (b := 8448) (c := 2752) (V m c main_v2) (t.val / 24) (1408 * (t.val % 6) + k) ((y 0).val))
    (fun k => rd2 (a := 8448) (b := 2048) (V m c main_v3) (1408 * (t.val % 6) + k) (512 * (t.val / 6 % 4) + (y 1).val))
    (fun x hx => by rw [block0, hx]) (fun x hx => by rw [block1, hx])]
  refine congrArg (acc y + ·) (Finset.sum_congr rfl fun k hk => ?_)
  have hk' := Finset.mem_range.mp hk
  rw [V_0, V_1]
  unfold term
  refine congrArg₂ (· * ·) (Eq.trans (groups_at (A0 m c) rfl _ _ (by omega) (by omega) (by omega)) ?_) (Eq.trans (rfl) ?_)
  · congr 1 <;> omega
  · congr 1 <;> omega

/-- What the accumulator holds after a step that is not the last: the sum so far. -/
theorem acc_at : ∀ (n : ℕ) (hn : n < cfg0.N) (_ : ¬n % 6 = 5) (y : S2752x512.Idx),
    ((outsAt0 m c n hn).2 y : EReal) =
      ∑ k ∈ Finset.range (1408 * (n % 6 + 1)), term m c (2752 * (n / 24) + (y 0).val) (512 * (n / 6 % 4) + (y 1).val) k
  | n, hn, h5, y => by
    by_cases h0 : n % 6 = 0
    · rw [first m c ⟨n, hn⟩ h0 h5, step, pay1_at, zero_add]
      show ∑ k ∈ Finset.range 1408, term m c _ _ (1408 * (n % 6) + k) = _
      rw [h0]
      exact Finset.sum_congr rfl fun k _ => by rw [Nat.mul_zero, Nat.zero_add]
    · have hp : n - 1 < cfg0.N := by omega
      rw [middle m c ⟨n, hn⟩ h0 h5 hp, step]
      have ih := acc_at (n - 1) hp (by omega) y
      rw [show (n - 1) % 6 + 1 = n % 6 by omega, show (n - 1) / 6 = n / 6 by omega, show (n - 1) / 24 = n / 24 by omega] at ih
      show ((outsAt0 m c (n - 1) hp).2 y : EReal) + _ = _
      rw [ih]
      exact sum_next _ 1408 (n % 6)
  termination_by n => n

/-- Each element of the result is the sum over all 8448 positions. -/
theorem value (i : S2x2752x2048.Idx) : (G2 m c i : EReal) = ∑ k ∈ Finset.range 8448, term m c (2752 * (i 0).val + (i 1).val) ((i 2).val) k := by
  have b0 : (i 0).val < 2 := (i 0).isLt
  have b1 : (i 1).val < 2752 := (i 1).isLt
  have b2 : (i 2).val < 2048 := (i 2).isLt
  have hpt : pt2Of i = 24 * (i 0).val + 6 * ((i 2).val / 512) + 5 := by
    show 6 * (4 * ((i 0).val / 1 - 0) + 4 * ((i 1).val / 2752 - 0) + 1 * ((i 2).val / 512 - 0)) + 5 = _
    omega
  have hn : pt2Of i < cfg0.N := by rw [show cfg0.N = 48 from N_0]; omega
  have hp : pt2Of i - 1 < cfg0.N := by omega
  unfold G2
  rw [dif_pos hn]
  have e := outsAt0_sweep m c (pt2Of i) hn
  rw [show (Pipeline.accAt (fun n h => stAt0 m c n h junk0) (stAt0 m c) 0 (pt2Of i) (by omega)).1 = (outsAt0 m c (pt2Of i) hn).1 from
    congrArg Prod.fst e.symm]
  refine (congrFun (last m c ⟨pt2Of i, hn⟩ (by show ¬pt2Of i % 6 = 0; omega) (by show pt2Of i % 6 = 5; omega) hp) (loc2Of i)).trans ?_
  refine (pay3_at _ (loc2Of i)).trans ?_
  refine (step m c ⟨pt2Of i, hn⟩ _ (fun a => (loc2Of i) a.succ)).trans ?_
  have ih := acc_at m c (pt2Of i - 1) hp (by omega) (fun a => (loc2Of i) a.succ)
  show ((outsAt0 m c (pt2Of i - 1) hp).2 (fun a => (loc2Of i) a.succ) : EReal) + _ = _
  rw [ih]
  show ∑ k ∈ Finset.range (1408 * ((pt2Of i - 1) % 6 + 1)), term m c (2752 * ((pt2Of i - 1) / 24) + (i 1).val % 2752) (512 * ((pt2Of i - 1) / 6 % 4) + (i 2).val % 512) k
    + ∑ k ∈ Finset.range 1408, term m c (2752 * ((pt2Of i) / 24) + (i 1).val % 2752) (512 * ((pt2Of i) / 6 % 4) + (i 2).val % 512) (1408 * (pt2Of i % 6) + k) = _
  rw [show (pt2Of i - 1) % 6 + 1 = 5 by omega, show pt2Of i % 6 = 5 by omega,
    show 2752 * ((pt2Of i - 1) / 24) + (i 1).val % 2752 = 2752 * (i 0).val + (i 1).val by omega, show 512 * ((pt2Of i - 1) / 6 % 4) + (i 2).val % 512 = (i 2).val by omega,
    show 2752 * ((pt2Of i) / 24) + (i 1).val % 2752 = 2752 * (i 0).val + (i 1).val by omega, show 512 * ((pt2Of i) / 6 % 4) + (i 2).val % 512 = (i 2).val by omega]
  exact sum_next _ 1408 5

open Cert.Reference4Ideal.Read in
/-- The reference's result is the same sum. -/
theorem ref_value (i : S2x2752x2048.Idx) :
    (val_main_v5 (F := Ideal) (A0 m c) (A1 m c) i : EReal) = ∑ k ∈ Finset.range 8448, term m c (2752 * (i 0).val + (i 1).val) ((i 2).val) k := by
  have b0 : (i 0).val < 2 := (i 0).isLt
  have b1 : (i 1).val < 2752 := (i 1).isLt
  have b2 : (i 2).val < 2048 := (i 2).isLt
  refine (val_main_v4_apply (F := Ideal) (A0 m c) (A1 m c) i).trans ?_
  rw [val_main_v3_apply, val_main_v2_apply]
  rw [← Fin.sum_univ_eq_sum_range (fun k => term m c (2752 * (i 0).val + (i 1).val) ((i 2).val) k)]
  refine Finset.sum_congr rfl fun k _ => ?_
  unfold term
  rw [mul_comm]
  refine congrArg₂ (· * ·) (rd2_of (A0 m c) _ ?_ ?_) (rd2_of (A1 m c) _ ?_ ?_)
  · rfl
  · show (((i 0).val * 2752 + (i 1).val) * 2048 + (i 2).val) / 2048 = _
    omega
  · rfl
  · show (((i 0).val * 2752 + (i 1).val) * 2048 + (i 2).val) % 2048 = _
    omega

open Cert.Reference4Ideal.Read in
theorem ref_eq : val_main_v5 (F := Ideal) (A0 m c) (A1 m c) = G2 m c := funext fun i => (ref_value m c i).trans (value m c i).symm

end Cert.Dw2

end
-- ==== Proof.Prod.Dact.lean ====
module

public import proofs.«01_k».proof.Proof.Gen.Kernel5Ideal.Value
public import proofs.«01_k».proof.Proof.Gen.Reference5Ideal.Read
public import proofs.«01_k».proof.Proof.Prod.Base

/-! The gradient of the feed-forward layer's second product's input: the cotangent times the weight, transposed. -/

@[expose] public section

set_option maxRecDepth 16384

noncomputable section

namespace Cert.Dact

open Cert.Kernel5Ideal Cert.Kernel5Ideal.Gen Cert.Kernel5Ideal.Value Cert.Prod
open Idealize.ShloMosaic Idealize.ShloMosaic.TcCoe Idealize.ShloMosaic.Tactic Idealize.SL.Sem

abbrev D := dot_S768x2048_S2752x2048_S768x2752_1_1_0_0_n_n

theorem lhs1 (i : S768x2752.Idx) (q : D.contr.Idx) : (D.lhsIdx i q 0).val = (i 0).val := lhs_at D i q (by decide) (by decide) rfl

theorem rhs1 (i : S768x2752.Idx) (q : D.contr.Idx) : (D.rhsIdx i q 0).val = (i 1).val := rhs_at D i q (by decide) (by decide) rfl

/-- One step computes the products over all 2048 positions. -/
theorem pay1_at (x0 : FVec Ideal S768x2048 .bf16) (x1 : FVec Ideal S1x2752x2048 .bf16) (y : S1x768x2752.Idx)
    (L R : ℕ → EReal) (hl : ∀ x : S768x2048.Idx, (x 0).val = (y 1).val → x0 x = L (x 1).val)
    (hr : ∀ x : S1x2752x2048.Idx, (x 1).val = (y 2).val → x1 x = R (x 2).val) :
    (k0_pay1 (F := Ideal) x0 x1 y : EReal) = ∑ k ∈ Finset.range 2048, L k * R k := by
  unfold k0_pay1
  simp only [shapeCast_self]
  refine (shapeCast_addUnit_apply ![768, 2752] _ _ y).trans ?_
  refine dot_at D 2048 rfl rfl none _ _ (fun a => y a.succ) L R (fun q => ?_) (fun q => ?_)
  · exact (hl _ (lhs1 (fun a => y a.succ) q)).trans (congrArg L (D.lhsIdx_val_of_single rfl (fun a => y a.succ) q))
  · refine (shapeCast_dropUnit_apply ![2752, 2048] x1 _ _).trans ?_
    exact (hr _ (rhs1 (fun a => y a.succ) q)).trans (congrArg R (D.rhsIdx_val_of_single rfl (fun a => y a.succ) q))

theorem index0 : ∀ t : Fin grid0.N, win0_0.index t = ![t.val % 11, 0] := by decide +kernel

theorem index1 : ∀ t : Fin grid0.N, win0_1.index t = ![t.val / 11, 0, 0] := by decide +kernel

theorem index2 : ∀ t : Fin grid0.N, win0_2.index t = ![t.val / 11, t.val % 11, 0] := by decide +kernel

variable (m : (ℓ : Loc nD τ sig) → Buf (Elt Ideal) ℓ) (c : Dev nD)

theorem block0 (t : Fin cfg0.N) (x : S768x2048.Idx) : (iblk m c 0 t x : EReal) =
    rd2 (a := 8448) (b := 2048) (V m c main_v0) (768 * (t.val % 11) + (x 0).val) ((x 1).val) := by
  have h := index0 t
  refine rd2_of (a := 8448) (b := 2048) (V m c main_v0) _ ?_ ?_
  · exact tile (t.val % 11) 768 (congrFun h 0) (by omega)
  · exact tile 0 2048 (congrFun h 1) (by omega)

theorem block1 (t : Fin cfg0.N) (x : S1x2752x2048.Idx) : (iblk m c 1 t x : EReal) =
    rd3 (a := 2) (b := 2752) (c := 2048) (V m c main_v2) (t.val / 11) ((x 1).val) ((x 2).val) := by
  have h := index1 t
  have hx : (x 0).val = 0 := by have := (x 0).isLt; change _ < 1 at this; omega
  refine rd3_of (a := 2) (b := 2752) (c := 2048) (V m c main_v2) _ ?_ ?_ ?_
  · exact tile (t.val / 11) 1 (congrFun h 0) (by omega)
  · exact tile 0 2752 (congrFun h 1) (by omega)
  · exact tile 0 2048 (congrFun h 2) (by omega)

/-- The arguments. -/
abbrev A0 : (⟨2, ![8448, 2048]⟩ : Shape).Idx → EReal := m ((c.tc : Thread nD τ).loc main_arg0)
abbrev A1 : (⟨2, ![5504, 2048]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v2 : (⟨3, ![2, 2752, 2048]⟩ : Shape).Idx → EReal) = shapeCast S2x2752x2048 (A1 m c) (by decide) := by
  unfold V hostOps0
  after_results
  rfl

/-- The product of the two arguments' elements at row `p` and column `q` of the result and position `k` of the sum. -/
def term (p q k : ℕ) : EReal := rd2 (A0 m c) p k * rd2 (A1 m c) q k

/-- Each element of the result: the sum over all 2048 positions. -/
def out : S2x8448x2752.Idx → EReal := fun i => ∑ k ∈ Finset.range 2048, term m c ((i 1).val) (2752 * (i 0).val + (i 2).val) k

/-- What one step computes, in terms of the arguments. -/
theorem step (t : Fin cfg0.N) (y : S1x768x2752.Idx) :
    (k0_pay1 (F := Ideal) (iblk m c 0 t) (iblk m c 1 t) y : EReal) = ∑ k ∈ Finset.range 2048, term m c (768 * (t.val % 11) + (y 1).val) (2752 * (t.val / 11) + (y 2).val) k := by
  have hN : t.val < 22 := t.isLt
  have hy0 : (y 1).val < 768 := (y 1).isLt
  have hy1 : (y 2).val < 2752 := (y 2).isLt
  rw [pay1_at _ _ y
    (fun k => rd2 (a := 8448) (b := 2048) (V m c main_v0) (768 * (t.val % 11) + (y 1).val) (k))
    (fun k => rd3 (a := 2) (b := 2752) (c := 2048) (V m c main_v2) (t.val / 11) ((y 2).val) (k))
    (fun x hx => by rw [block0, hx]) (fun x hx => by rw [block1, hx])]
  refine Finset.sum_congr rfl fun k hk => ?_
  have hk' := Finset.mem_range.mp hk
  rw [V_0, V_1]
  unfold term
  refine congrArg₂ (· * ·) (Eq.trans (rfl) ?_) (Eq.trans (rows_at (A1 m c) rfl _ (by omega) (by omega) (by omega)) ?_)
  · congr 1 <;> omega
  · congr 1 <;> omega

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = win0_2.index t 0 * 1 + 1 * (y 0).val := rfl
  have hb1 : (((cfg0.win 2).blk t).view.emb y 1).val = win0_2.index t 1 * 768 + 1 * (y 1).val := rfl
  have hb2 : (((cfg0.win 2).blk t).view.emb y 2).val = win0_2.index t 2 * 2752 + 1 * (y 2).val := rfl
  rw [h] at hb0 hb1 hb2
  have hy : (y 0).val < 1 := (y 0).isLt
  show out0_2 (iblk m c 0 t) (iblk m c 1 t) ((cfg0.win 2).xinj (grid0.coords t) y) = out m c (((cfg0.win 2).blk t).view.emb y)
  unfold out0_2
  rw [View.canon_cons_unit_zero off3, View.ld_unit_zero off2, View.ld_unit_zero off3]
  refine (step m c t _).trans ?_
  refine Finset.sum_congr rfl fun k _ => ?_
  refine congrArg₂ (fun p q => term m c p q k) ?_ ?_
  · show 768 * (t.val % 11) + (y 1).val = (((cfg0.win 2).blk t).view.emb y 1).val
    rw [hb1]
    show 768 * (t.val % 11) + (y 1).val = (t.val % 11 * 768 + 1 * (y 1).val)
    omega
  · show 2752 * (t.val / 11) + (y 2).val = 2752 * (((cfg0.win 2).blk t).view.emb y 0).val + (((cfg0.win 2).blk t).view.emb y 2).val
    rw [hb0, hb2]
    show 2752 * (t.val / 11) + (y 2).val = 2752 * (t.val / 11 * 1 + 1 * (y 0).val) + (0 * 2752 + 1 * (y 2).val)
    omega

/-- Every element is in some point's block. -/
theorem covered (i : S2x8448x2752.Idx) : ∃ t : Fin cfg0.N, (cfg0.win 2).flush t = true ∧ i ∈ ((cfg0.win 2).blk t).view.set := by
  have b0 : (i 0).val < 2 := (i 0).isLt
  have b1 : (i 1).val < 8448 := (i 1).isLt
  have b2 : (i 2).val < 2752 := (i 2).isLt
  obtain ⟨t, ht⟩ : ∃ t : Fin cfg0.N, t.val = 11 * (i 0).val + (i 1).val / 768 := ⟨⟨_, show 11 * (i 0).val + (i 1).val / 768 < 22 by omega⟩, rfl⟩
  have h0 : win0_2.index t 0 = t.val / 11 := congrFun (index2 t) 0
  have h1 : win0_2.index t 1 = t.val % 11 := congrFun (index2 t) 1
  have h2 : win0_2.index t 2 = 0 := congrFun (index2 t) 2
  refine ⟨t, flush0_2 t, ?_⟩
  show i ∈ ((View.whole main_v3).slice (win0_2.rect t)).set
  rw [View.set_slice_whole, Rect.mem_set_unit]
  intro a
  match a with
    | ⟨0, _⟩ => exact within 1 (i 0).val h0 (by omega)
    | ⟨1, _⟩ => exact within 768 (i 1).val h1 (by omega)
    | ⟨2, _⟩ => exact within 2752 (i 2).val h2 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference5Ideal.Read in
/-- The reference's result is the same sum. -/
theorem ref_value (i : S2x8448x2752.Idx) :
    (val_main_v5 (F := Ideal) (A0 m c) (A1 m c) i : EReal) = ∑ k ∈ Finset.range 2048, term m c ((i 1).val) (2752 * (i 0).val + (i 2).val) k := by
  have b0 : (i 0).val < 2 := (i 0).isLt
  have b1 : (i 1).val < 8448 := (i 1).isLt
  have b2 : (i 2).val < 2752 := (i 2).isLt
  refine (val_main_v4_apply (F := Ideal) (A0 m c) (A1 m c) i).trans ?_
  rw [val_main_v3_apply, val_main_v2_apply]
  rw [← Fin.sum_univ_eq_sum_range (fun k => term m c ((i 1).val) (2752 * (i 0).val + (i 2).val) k)]
  refine Finset.sum_congr rfl fun k _ => ?_
  unfold term
  refine congrArg₂ (· * ·) (rd2_of (A0 m c) _ ?_ ?_) (rd2_of (A1 m c) _ ?_ ?_)
  · show (((i 1).val * 2 + (i 0).val) * 2752 + (i 2).val) / 5504 = _
    omega
  · rfl
  · show (((i 1).val * 2 + (i 0).val) * 2752 + (i 2).val) % 5504 = _
    omega
  · rfl

open Cert.Reference5Ideal.Read in
theorem ref_eq : val_main_v5 (F := Ideal) (A0 m c) (A1 m c) = out m c := funext fun i => ref_value m c i

end Cert.Dact

end
-- ==== Proof.Prod.DwIn.lean ====
module

public import proofs.«01_k».proof.Proof.Gen.Kernel6Ideal.Value
public import proofs.«01_k».proof.Proof.Gen.Reference6Ideal.Read
public import proofs.«01_k».proof.Proof.Prod.Base

/-! The gradient of the input projection's weight: the input, transposed, times the cotangent. -/

@[expose] public section

set_option maxRecDepth 16384

noncomputable section

namespace Cert.DwIn

open Cert.Kernel6Ideal Cert.Kernel6Ideal.Gen Cert.Kernel6Ideal.Value Cert.Prod
open Idealize.ShloMosaic Idealize.ShloMosaic.TcCoe Idealize.ShloMosaic.Tactic Idealize.SL.Sem

section Points

variable {F : FTy → Type} [FloatOps F]
variable (m : (ℓ : Loc nD τ sig) → Buf (Elt F) ℓ) (c : Dev nD)

/-- The first step of a block: the product is added to zeros. -/
theorem first (t : Fin cfg0.N) (h0 : t.val % 6 = 0) (h1 : ¬t.val % 6 = 5) :
    (outsAt0 m c t.val t.isLt).2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off2]

/-- A later step: the product is added to what the step before left. -/
theorem middle (t : Fin cfg0.N) (h0 : ¬t.val % 6 = 0) (h1 : ¬t.val % 6 = 5) (hp : t.val - 1 < cfg0.N) :
    (outsAt0 m c t.val t.isLt).2 = k0_pay2 (outsAt0 m c (t.val - 1) hp).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.ld_unit_zero off2, View.ld_unit_zero off2, View.ld_unit_zero off2]
  exact congrArg (fun x => k0_pay2 x (iblk m c 0 t) (iblk m c 1 t)) (Memref.IsWhole.read_unread (Memref.isWhole_whole _) _)

/-- The last step writes the block of the result. -/
theorem last (t : Fin cfg0.N) (h0 : ¬t.val % 6 = 0) (h1 : t.val % 6 = 5) (hp : t.val - 1 < cfg0.N) :
    (outsAt0 m c t.val t.isLt).1 = k0_pay3 (k0_pay2 (outsAt0 m c (t.val - 1) hp).2 (iblk m c 0 t) (iblk m c 1 t)) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread]
  refine (View.canon_cons_unit_zero off3 _ _ _).trans ?_
  rw [View.readCov_unit_zero _ off2, View.ld_unit_zero off2, View.ld_unit_zero off2, View.ld_unit_zero off2]
  exact congrArg (fun x => k0_pay3 (k0_pay2 x (iblk m c 0 t) (iblk m c 1 t))) (Memref.IsWhole.read_unread (Memref.isWhole_whole _) _)

end Points

theorem pay1_at (y : S512x3200.Idx) : (k0_pay1 (F := Ideal) y : EReal) = 0 := by
  unfold k0_pay1
  simp only [shapeCast_self]
  exact Ideal.ofBits_zero_f32

abbrev D := dot_S1408x512_S1408x3200_S512x3200_0_0_1_1_n_n

theorem lhs1 (i : S512x3200.Idx) (q : D.contr.Idx) : (D.lhsIdx i q 1).val = (i 0).val := lhs_at D i q (by decide) (by decide) rfl

theorem rhs1 (i : S512x3200.Idx) (q : D.contr.Idx) : (D.rhsIdx i q 1).val = (i 1).val := rhs_at D i q (by decide) (by decide) rfl

/-- One step adds the products over its 1408 positions. -/
theorem pay2_at (acc : FVec Ideal S512x3200 .f32) (x0 : FVec Ideal S1408x512 .bf16) (x1 : FVec Ideal S1408x3200 .bf16) (y : S512x3200.Idx)
    (L R : ℕ → EReal) (hl : ∀ x : S1408x512.Idx, (x 1).val = (y 0).val → x0 x = L (x 0).val)
    (hr : ∀ x : S1408x3200.Idx, (x 1).val = (y 1).val → x1 x = R (x 0).val) :
    (k0_pay2 (F := Ideal) acc x0 x1 y : EReal) = acc y + ∑ k ∈ Finset.range 1408, L k * R k := by
  unfold k0_pay2
  simp only [shapeCast_self]
  rw [ValueIdx.addf_apply]
  refine congrArg (acc y + ·) ?_
  refine dot_at D 1408 rfl rfl none _ _ y L R (fun q => ?_) (fun q => ?_)
  · exact (hl _ (lhs1 y q)).trans (congrArg L (D.lhsIdx_val_of_single rfl y q))
  · exact (hr _ (rhs1 y q)).trans (congrArg R (D.rhsIdx_val_of_single rfl y q))

theorem pay3_at (acc : FVec Ideal S512x3200 .f32) (y : S1x512x3200.Idx) :
    (k0_pay3 (F := Ideal) acc y : EReal) = acc (fun a => y a.succ) :=
  shapeCast_addUnit_apply ![512, 3200] _ _ y

theorem index0 : ∀ t : Fin grid0.N, win0_0.index t = ![t.val % 6, t.val / 6 % 4] := by decide +kernel

theorem index1 : ∀ t : Fin grid0.N, win0_1.index t = ![t.val % 6, t.val / 24] := by decide +kernel

variable (m : (ℓ : Loc nD τ sig) → Buf (Elt Ideal) ℓ) (c : Dev nD)

theorem block0 (t : Fin cfg0.N) (x : S1408x512.Idx) : (iblk m c 0 t x : EReal) =
    rd2 (a := 8448) (b := 2048) (V m c main_v0) (1408 * (t.val % 6) + (x 0).val) (512 * (t.val / 6 % 4) + (x 1).val) := by
  have h := index0 t
  refine rd2_of (a := 8448) (b := 2048) (V m c main_v0) _ ?_ ?_
  · exact tile (t.val % 6) 1408 (congrFun h 0) (by omega)
  · exact tile (t.val / 6 % 4) 512 (congrFun h 1) (by omega)

theorem block1 (t : Fin cfg0.N) (x : S1408x3200.Idx) : (iblk m c 1 t x : EReal) =
    rd2 (a := 8448) (b := 12800) (V m c main_v1) (1408 * (t.val % 6) + (x 0).val) (3200 * (t.val / 24) + (x 1).val) := by
  have h := index1 t
  refine rd2_of (a := 8448) (b := 12800) (V m c main_v1) _ ?_ ?_
  · exact tile (t.val % 6) 1408 (congrFun h 0) (by omega)
  · exact tile (t.val / 24) 3200 (congrFun h 1) (by omega)

/-- The arguments. -/
abbrev A0 : (⟨2, ![8448, 2048]⟩ : Shape).Idx → EReal := m ((c.tc : Thread nD τ).loc main_arg0)
abbrev A1 : (⟨2, ![8448, 12800]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v1 : (⟨2, ![8448, 12800]⟩ : Shape).Idx → EReal) = A1 m c := by
  unfold V hostOps0
  after_results
  rfl

/-- The product of the two arguments' elements at row `p` and column `q` of the result and position `k` of the sum. -/
def term (p q k : ℕ) : EReal := rd2 (A0 m c) k p * rd2 (A1 m c) k q

/-- One step of the accumulation, in terms of the arguments. -/
theorem step (t : Fin cfg0.N) (acc : FVec Ideal S512x3200 .f32) (y : S512x3200.Idx) :
    (k0_pay2 (F := Ideal) acc (iblk m c 0 t) (iblk m c 1 t) y : EReal) =
      acc y + ∑ k ∈ Finset.range 1408, term m c (512 * (t.val / 6 % 4) + (y 0).val) (3200 * (t.val / 24) + (y 1).val) (1408 * (t.val % 6) + k) := by
  have hN : t.val < 96 := lt_of_lt_of_eq t.isLt N_0
  have hy0 : (y 0).val < 512 := (y 0).isLt
  have hy1 : (y 1).val < 3200 := (y 1).isLt
  rw [pay2_at acc _ _ y
    (fun k => rd2 (a := 8448) (b := 2048) (V m c main_v0) (1408 * (t.val % 6) + k) (512 * (t.val / 6 % 4) + (y 0).val))
    (fun k => rd2 (a := 8448) (b := 12800) (V m c main_v1) (1408 * (t.val % 6) + k) (3200 * (t.val / 24) + (y 1).val))
    (fun x hx => by rw [block0, hx]) (fun x hx => by rw [block1, hx])]
  refine congrArg (acc y + ·) (Finset.sum_congr rfl fun k hk => ?_)
  have hk' := Finset.mem_range.mp hk
  rw [V_0, V_1]
  unfold term
  refine congrArg₂ (· * ·) (Eq.trans (rfl) ?_) (Eq.trans (rfl) ?_)
  · congr 1 <;> omega
  · congr 1 <;> omega

/-- What the accumulator holds after a step that is not the last: the sum so far. -/
theorem acc_at : ∀ (n : ℕ) (hn : n < cfg0.N) (_ : ¬n % 6 = 5) (y : S512x3200.Idx),
    ((outsAt0 m c n hn).2 y : EReal) =
      ∑ k ∈ Finset.range (1408 * (n % 6 + 1)), term m c (512 * (n / 6 % 4) + (y 0).val) (3200 * (n / 24) + (y 1).val) k
  | n, hn, h5, y => by
    by_cases h0 : n % 6 = 0
    · rw [first m c ⟨n, hn⟩ h0 h5, step, pay1_at, zero_add]
      show ∑ k ∈ Finset.range 1408, term m c _ _ (1408 * (n % 6) + k) = _
      rw [h0]
      exact Finset.sum_congr rfl fun k _ => by rw [Nat.mul_zero, Nat.zero_add]
    · have hp : n - 1 < cfg0.N := by omega
      rw [middle m c ⟨n, hn⟩ h0 h5 hp, step]
      have ih := acc_at (n - 1) hp (by omega) y
      rw [show (n - 1) % 6 + 1 = n % 6 by omega, show (n - 1) / 6 = n / 6 by omega, show (n - 1) / 24 = n / 24 by omega] at ih
      show ((outsAt0 m c (n - 1) hp).2 y : EReal) + _ = _
      rw [ih]
      exact sum_next _ 1408 (n % 6)
  termination_by n => n

/-- Each element of the result is the sum over all 8448 positions. -/
theorem value (i : S4x2048x3200.Idx) : (G2 m c i : EReal) = ∑ k ∈ Finset.range 8448, term m c ((i 1).val) (3200 * (i 0).val + (i 2).val) k := by
  have b0 : (i 0).val < 4 := (i 0).isLt
  have b1 : (i 1).val < 2048 := (i 1).isLt
  have b2 : (i 2).val < 3200 := (i 2).isLt
  have hpt : pt2Of i = 24 * (i 0).val + 6 * ((i 1).val / 512) + 5 := by
    show 6 * (4 * ((i 0).val / 1 - 0) + 1 * ((i 1).val / 512 - 0) + 1 * ((i 2).val / 3200 - 0)) + 5 = _
    omega
  have hn : pt2Of i < cfg0.N := by rw [show cfg0.N = 96 from N_0]; omega
  have hp : pt2Of i - 1 < cfg0.N := by omega
  unfold G2
  rw [dif_pos hn]
  have e := outsAt0_sweep m c (pt2Of i) hn
  rw [show (Pipeline.accAt (fun n h => stAt0 m c n h junk0) (stAt0 m c) 0 (pt2Of i) (by omega)).1 = (outsAt0 m c (pt2Of i) hn).1 from
    congrArg Prod.fst e.symm]
  refine (congrFun (last m c ⟨pt2Of i, hn⟩ (by show ¬pt2Of i % 6 = 0; omega) (by show pt2Of i % 6 = 5; omega) hp) (loc2Of i)).trans ?_
  refine (pay3_at _ (loc2Of i)).trans ?_
  refine (step m c ⟨pt2Of i, hn⟩ _ (fun a => (loc2Of i) a.succ)).trans ?_
  have ih := acc_at m c (pt2Of i - 1) hp (by omega) (fun a => (loc2Of i) a.succ)
  show ((outsAt0 m c (pt2Of i - 1) hp).2 (fun a => (loc2Of i) a.succ) : EReal) + _ = _
  rw [ih]
  show ∑ k ∈ Finset.range (1408 * ((pt2Of i - 1) % 6 + 1)), term m c (512 * ((pt2Of i - 1) / 6 % 4) + (i 1).val % 512) (3200 * ((pt2Of i - 1) / 24) + (i 2).val % 3200) k
    + ∑ k ∈ Finset.range 1408, term m c (512 * ((pt2Of i) / 6 % 4) + (i 1).val % 512) (3200 * ((pt2Of i) / 24) + (i 2).val % 3200) (1408 * (pt2Of i % 6) + k) = _
  rw [show (pt2Of i - 1) % 6 + 1 = 5 by omega, show pt2Of i % 6 = 5 by omega,
    show 512 * ((pt2Of i - 1) / 6 % 4) + (i 1).val % 512 = (i 1).val by omega, show 3200 * ((pt2Of i - 1) / 24) + (i 2).val % 3200 = 3200 * (i 0).val + (i 2).val by omega,
    show 512 * ((pt2Of i) / 6 % 4) + (i 1).val % 512 = (i 1).val by omega, show 3200 * ((pt2Of i) / 24) + (i 2).val % 3200 = 3200 * (i 0).val + (i 2).val by omega]
  exact sum_next _ 1408 5

open Cert.Reference6Ideal.Read in
/-- The reference's result is the same sum. -/
theorem ref_value (i : S4x2048x3200.Idx) :
    (val_main_v6 (F := Ideal) (A0 m c) (A1 m c) i : EReal) = ∑ k ∈ Finset.range 8448, term m c ((i 1).val) (3200 * (i 0).val + (i 2).val) k := by
  have b0 : (i 0).val < 4 := (i 0).isLt
  have b1 : (i 1).val < 2048 := (i 1).isLt
  have b2 : (i 2).val < 3200 := (i 2).isLt
  refine (val_main_v5_apply (F := Ideal) (A0 m c) (A1 m c) i).trans ?_
  rw [val_main_v4_apply, val_main_v3_apply, val_main_v2_apply]
  rw [← Fin.sum_univ_eq_sum_range (fun k => term m c ((i 1).val) (3200 * (i 0).val + (i 2).val) k)]
  refine Finset.sum_congr rfl fun k _ => ?_
  unfold term
  rw [mul_comm]
  refine congrArg₂ (· * ·) (rd2_of (A0 m c) _ ?_ ?_) (rd2_of (A1 m c) _ ?_ ?_)
  · rfl
  · show (((i 1).val * 4 + (i 0).val) * 3200 + (i 2).val) / 12800 = _
    omega
  · rfl
  · show (((i 1).val * 4 + (i 0).val) * 3200 + (i 2).val) % 12800 = _
    omega

open Cert.Reference6Ideal.Read in
theorem ref_eq : val_main_v6 (F := Ideal) (A0 m c) (A1 m c) = G2 m c := funext fun i => (ref_value m c i).trans (value m c i).symm

end Cert.DwIn

end
-- ==== Proof.Prod.DuMix.lean ====
module

public import proofs.«01_k».proof.Proof.Gen.Kernel7Ideal.Value
public import proofs.«01_k».proof.Proof.Gen.Reference7Ideal.Read
public import proofs.«01_k».proof.Proof.Prod.Base

/-! The gradient of the input projection's input: the cotangent times the weight, transposed. -/

@[expose] public section

set_option maxRecDepth 16384

noncomputable section

namespace Cert.DuMix

open Cert.Kernel7Ideal Cert.Kernel7Ideal.Gen Cert.Kernel7Ideal.Value Cert.Prod
open Idealize.ShloMosaic Idealize.ShloMosaic.TcCoe Idealize.ShloMosaic.Tactic Idealize.SL.Sem

section Points

variable {F : FTy → Type} [FloatOps F]
variable (m : (ℓ : Loc nD τ sig) → Buf (Elt F) ℓ) (c : Dev nD)

/-- The first step of a block: the product is added to zeros. -/
theorem first (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off3]

/-- A later step: the product is added to what the step before left. -/
theorem middle (t : Fin cfg0.N) (h0 : ¬t.val % 4 = 0) (h1 : ¬t.val % 4 = 3) (hp : t.val - 1 < cfg0.N) :
    (outsAt0 m c t.val t.isLt).2 = k0_pay2 (outsAt0 m c (t.val - 1) hp).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.ld_unit_zero off2, View.ld_unit_zero off2, View.ld_unit_zero off3]
  exact congrArg (fun x => k0_pay2 x (iblk m c 0 t) (iblk m c 1 t)) (Memref.IsWhole.read_unread (Memref.isWhole_whole _) _)

/-- The last step writes the block of the result. -/
theorem last (t : Fin cfg0.N) (h0 : ¬t.val % 4 = 0) (h1 : t.val % 4 = 3) (hp : t.val - 1 < cfg0.N) :
    (outsAt0 m c t.val t.isLt).1 = k0_pay2 (outsAt0 m c (t.val - 1) hp).2 (iblk m c 0 t) (iblk m c 1 t) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off2, View.ld_unit_zero off3]
  exact congrArg (fun x => k0_pay2 x (iblk m c 0 t) (iblk m c 1 t)) (Memref.IsWhole.read_unread (Memref.isWhole_whole _) _)

end Points

theorem pay1_at (y : S1408x512.Idx) : (k0_pay1 (F := Ideal) y : EReal) = 0 := by
  unfold k0_pay1
  simp only [shapeCast_self]
  exact Ideal.ofBits_zero_f32

abbrev D := dot_S1408x3200_S512x3200_S1408x512_1_1_0_0_n_n

theorem lhs1 (i : S1408x512.Idx) (q : D.contr.Idx) : (D.lhsIdx i q 0).val = (i 0).val := lhs_at D i q (by decide) (by decide) rfl

theorem rhs1 (i : S1408x512.Idx) (q : D.contr.Idx) : (D.rhsIdx i q 0).val = (i 1).val := rhs_at D i q (by decide) (by decide) rfl

/-- One step adds the products over its 3200 positions. -/
theorem pay2_at (acc : FVec Ideal S1408x512 .f32) (x0 : FVec Ideal S1408x3200 .bf16) (x1 : FVec Ideal S1x512x3200 .bf16) (y : S1408x512.Idx)
    (L R : ℕ → EReal) (hl : ∀ x : S1408x3200.Idx, (x 0).val = (y 0).val → x0 x = L (x 1).val)
    (hr : ∀ x : S1x512x3200.Idx, (x 1).val = (y 1).val → x1 x = R (x 2).val) :
    (k0_pay2 (F := Ideal) acc x0 x1 y : EReal) = acc y + ∑ k ∈ Finset.range 3200, L k * R k := by
  unfold k0_pay2
  simp only [shapeCast_self]
  rw [ValueIdx.addf_apply]
  refine congrArg (acc y + ·) ?_
  refine dot_at D 3200 rfl rfl none _ _ y L R (fun q => ?_) (fun q => ?_)
  · exact (hl _ (lhs1 y q)).trans (congrArg L (D.lhsIdx_val_of_single rfl y q))
  · refine (shapeCast_dropUnit_apply ![512, 3200] x1 _ _).trans ?_
    exact (hr _ (rhs1 y q)).trans (congrArg R (D.rhsIdx_val_of_single rfl y q))

theorem index0 : ∀ t : Fin grid0.N, win0_0.index t = ![t.val / 16, t.val % 4] := by decide +kernel

theorem index1 : ∀ t : Fin grid0.N, win0_1.index t = ![t.val % 4, t.val / 4 % 4, 0] := by decide +kernel

variable (m : (ℓ : Loc nD τ sig) → Buf (Elt Ideal) ℓ) (c : Dev nD)

theorem block0 (t : Fin cfg0.N) (x : S1408x3200.Idx) : (iblk m c 0 t x : EReal) =
    rd2 (a := 8448) (b := 12800) (V m c main_v0) (1408 * (t.val / 16) + (x 0).val) (3200 * (t.val % 4) + (x 1).val) := by
  have h := index0 t
  refine rd2_of (a := 8448) (b := 12800) (V m c main_v0) _ ?_ ?_
  · exact tile (t.val / 16) 1408 (congrFun h 0) (by omega)
  · exact tile (t.val % 4) 3200 (congrFun h 1) (by omega)

theorem block1 (t : Fin cfg0.N) (x : S1x512x3200.Idx) : (iblk m c 1 t x : EReal) =
    rd3 (a := 4) (b := 2048) (c := 3200) (V m c main_v3) (t.val % 4) (512 * (t.val / 4 % 4) + (x 1).val) ((x 2).val) := by
  have h := index1 t
  have hx : (x 0).val = 0 := by have := (x 0).isLt; change _ < 1 at this; omega
  refine rd3_of (a := 4) (b := 2048) (c := 3200) (V m c main_v3) _ ?_ ?_ ?_
  · exact tile (t.val % 4) 1 (congrFun h 0) (by omega)
  · exact tile (t.val / 4 % 4) 512 (congrFun h 1) (by omega)
  · exact tile 0 3200 (congrFun h 2) (by omega)

/-- The arguments. -/
abbrev A0 : (⟨2, ![8448, 12800]⟩ : Shape).Idx → EReal := m ((c.tc : Thread nD τ).loc main_arg0)
abbrev A1 : (⟨2, ![2048, 12800]⟩ : Shape).Idx → EReal := m ((c.tc : Thread nD τ).loc main_arg1)

theorem V_0 : (V m c main_v0 : (⟨2, ![8448, 12800]⟩ : Shape).Idx → EReal) = A0 m c := by
  unfold V hostOps0
  after_results
  rfl

theorem V_1 : (V m c main_v3 : (⟨3, ![4, 2048, 3200]⟩ : Shape).Idx → EReal) =
    transpose S4x2048x3200 [1, 0, 2] (shapeCast S2048x4x3200 (A1 m c) (by decide)) (by decide) := by
  unfold V hostOps0
  after_results
  rfl

/-- The product of the two arguments' elements at row `p` and column `q` of the result and position `k` of the sum. -/
def term (p q k : ℕ) : EReal := rd2 (A0 m c) p k * rd2 (A1 m c) q k

/-- One step of the accumulation, in terms of the arguments. -/
theorem step (t : Fin cfg0.N) (acc : FVec Ideal S1408x512 .f32) (y : S1408x512.Idx) :
    (k0_pay2 (F := Ideal) acc (iblk m c 0 t) (iblk m c 1 t) y : EReal) =
      acc y + ∑ k ∈ Finset.range 3200, term m c (1408 * (t.val / 16) + (y 0).val) (512 * (t.val / 4 % 4) + (y 1).val) (3200 * (t.val % 4) + k) := by
  have hN : t.val < 96 := lt_of_lt_of_eq t.isLt N_0
  have hy0 : (y 0).val < 1408 := (y 0).isLt
  have hy1 : (y 1).val < 512 := (y 1).isLt
  rw [pay2_at acc _ _ y
    (fun k => rd2 (a := 8448) (b := 12800) (V m c main_v0) (1408 * (t.val / 16) + (y 0).val) (3200 * (t.val % 4) + k))
    (fun k => rd3 (a := 4) (b := 2048) (c := 3200) (V m c main_v3) (t.val % 4) (512 * (t.val / 4 % 4) + (y 1).val) (k))
    (fun x hx => by rw [block0, hx]) (fun x hx => by rw [block1, hx])]
  refine congrArg (acc y + ·) (Finset.sum_congr rfl fun k hk => ?_)
  have hk' := Finset.mem_range.mp hk
  rw [V_0, V_1]
  unfold term
  refine congrArg₂ (· * ·) (Eq.trans (rfl) ?_) (Eq.trans (groups_at (A1 m c) rfl _ _ (by omega) (by omega) (by omega)) ?_)
  · congr 1 <;> omega
  · congr 1 <;> omega

/-- What the accumulator holds after a step that is not the last: the sum so far. -/
theorem acc_at : ∀ (n : ℕ) (hn : n < cfg0.N) (_ : ¬n % 4 = 3) (y : S1408x512.Idx),
    ((outsAt0 m c n hn).2 y : EReal) =
      ∑ k ∈ Finset.range (3200 * (n % 4 + 1)), term m c (1408 * (n / 16) + (y 0).val) (512 * (n / 4 % 4) + (y 1).val) k
  | n, hn, h5, y => by
    by_cases h0 : n % 4 = 0
    · rw [first m c ⟨n, hn⟩ h0 h5, step, pay1_at, zero_add]
      show ∑ k ∈ Finset.range 3200, term m c _ _ (3200 * (n % 4) + k) = _
      rw [h0]
      exact Finset.sum_congr rfl fun k _ => by rw [Nat.mul_zero, Nat.zero_add]
    · have hp : n - 1 < cfg0.N := by omega
      rw [middle m c ⟨n, hn⟩ h0 h5 hp, step]
      have ih := acc_at (n - 1) hp (by omega) y
      rw [show (n - 1) % 4 + 1 = n % 4 by omega, show (n - 1) / 4 = n / 4 by omega, show (n - 1) / 16 = n / 16 by omega] at ih
      show ((outsAt0 m c (n - 1) hp).2 y : EReal) + _ = _
      rw [ih]
      exact sum_next _ 3200 (n % 4)
  termination_by n => n

/-- Each element of the result is the sum over all 12800 positions. -/
theorem value (i : S8448x2048.Idx) : (G2 m c i : EReal) = ∑ k ∈ Finset.range 12800, term m c ((i 0).val) ((i 1).val) k := by
  have b0 : (i 0).val < 8448 := (i 0).isLt
  have b1 : (i 1).val < 2048 := (i 1).isLt
  have hpt : pt2Of i = 16 * ((i 0).val / 1408) + 4 * ((i 1).val / 512) + 3 := by
    show 4 * (4 * ((i 0).val / 1408 - 0) + 1 * ((i 1).val / 512 - 0)) + 3 = _
    omega
  have hn : pt2Of i < cfg0.N := by rw [show cfg0.N = 96 from N_0]; omega
  have hp : pt2Of i - 1 < cfg0.N := by omega
  unfold G2
  rw [dif_pos hn]
  have e := outsAt0_sweep m c (pt2Of i) hn
  rw [show (Pipeline.accAt (fun n h => stAt0 m c n h junk0) (stAt0 m c) 0 (pt2Of i) (by omega)).1 = (outsAt0 m c (pt2Of i) hn).1 from
    congrArg Prod.fst e.symm]
  refine (congrFun (last m c ⟨pt2Of i, hn⟩ (by show ¬pt2Of i % 4 = 0; omega) (by show pt2Of i % 4 = 3; omega) hp) (loc2Of i)).trans ?_
  refine (step m c ⟨pt2Of i, hn⟩ _ (loc2Of i)).trans ?_
  have ih := acc_at m c (pt2Of i - 1) hp (by omega) (loc2Of i)
  show ((outsAt0 m c (pt2Of i - 1) hp).2 (loc2Of i) : EReal) + _ = _
  rw [ih]
  show ∑ k ∈ Finset.range (3200 * ((pt2Of i - 1) % 4 + 1)), term m c (1408 * ((pt2Of i - 1) / 16) + (i 0).val % 1408) (512 * ((pt2Of i - 1) / 4 % 4) + (i 1).val % 512) k
    + ∑ k ∈ Finset.range 3200, term m c (1408 * ((pt2Of i) / 16) + (i 0).val % 1408) (512 * ((pt2Of i) / 4 % 4) + (i 1).val % 512) (3200 * (pt2Of i % 4) + k) = _
  rw [show (pt2Of i - 1) % 4 + 1 = 3 by omega, show pt2Of i % 4 = 3 by omega,
    show 1408 * ((pt2Of i - 1) / 16) + (i 0).val % 1408 = (i 0).val by omega, show 512 * ((pt2Of i - 1) / 4 % 4) + (i 1).val % 512 = (i 1).val by omega,
    show 1408 * ((pt2Of i) / 16) + (i 0).val % 1408 = (i 0).val by omega, show 512 * ((pt2Of i) / 4 % 4) + (i 1).val % 512 = (i 1).val by omega]
  exact sum_next _ 3200 3

open Cert.Reference7Ideal.Read in
/-- The reference's result is the same sum. -/
theorem ref_value (i : S8448x2048.Idx) :
    (val_main_v2 (F := Ideal) (A0 m c) (A1 m c) i : EReal) = ∑ k ∈ Finset.range 12800, term m c ((i 0).val) ((i 1).val) k := by
  have b0 : (i 0).val < 8448 := (i 0).isLt
  have b1 : (i 1).val < 2048 := (i 1).isLt
  rw [val_main_v2_apply]
  rw [← Fin.sum_univ_eq_sum_range (fun k => term m c ((i 0).val) ((i 1).val) k)]
  refine Finset.sum_congr rfl fun k _ => ?_
  unfold term
  refine congrArg₂ (· * ·) (rd2_of (A0 m c) _ ?_ ?_) (rd2_of (A1 m c) _ ?_ ?_)
  · rfl
  · rfl
  · rfl
  · rfl

open Cert.Reference7Ideal.Read in
theorem ref_eq : val_main_v2 (F := Ideal) (A0 m c) (A1 m c) = G2 m c := funext fun i => (ref_value m c i).trans (value m c i).symm

end Cert.DuMix

end
-- ==== Proof.Prod.DwOut.lean ====
module

public import proofs.«01_k».proof.Proof.Gen.Kernel8Ideal.Value
public import proofs.«01_k».proof.Proof.Gen.Reference8Ideal.Read
public import proofs.«01_k».proof.Proof.Prod.Base

/-! The gradient of the output projection's weight: the merged branches, transposed, times the cotangent. -/

@[expose] public section

set_option maxRecDepth 16384

noncomputable section

namespace Cert.DwOut

open Cert.Kernel8Ideal Cert.Kernel8Ideal.Gen Cert.Kernel8Ideal.Value Cert.Prod
open Idealize.ShloMosaic Idealize.ShloMosaic.TcCoe Idealize.ShloMosaic.Tactic Idealize.SL.Sem

section Points

variable {F : FTy → Type} [FloatOps F]
variable (m : (ℓ : Loc nD τ sig) → Buf (Elt F) ℓ) (c : Dev nD)

/-- The first step of a block: the product is added to zeros. -/
theorem first (t : Fin cfg0.N) (h0 : t.val % 6 = 0) (h1 : ¬t.val % 6 = 5) :
    (outsAt0 m c t.val t.isLt).2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off2]

/-- A later step: the product is added to what the step before left. -/
theorem middle (t : Fin cfg0.N) (h0 : ¬t.val % 6 = 0) (h1 : ¬t.val % 6 = 5) (hp : t.val - 1 < cfg0.N) :
    (outsAt0 m c t.val t.isLt).2 = k0_pay2 (outsAt0 m c (t.val - 1) hp).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.ld_unit_zero off2, View.ld_unit_zero off2, View.ld_unit_zero off2]
  exact congrArg (fun x => k0_pay2 x (iblk m c 0 t) (iblk m c 1 t)) (Memref.IsWhole.read_unread (Memref.isWhole_whole _) _)

/-- The last step writes the block of the result. -/
theorem last (t : Fin cfg0.N) (h0 : ¬t.val % 6 = 0) (h1 : t.val % 6 = 5) (hp : t.val - 1 < cfg0.N) :
    (outsAt0 m c t.val t.isLt).1 = k0_pay3 (k0_pay2 (outsAt0 m c (t.val - 1) hp).2 (iblk m c 0 t) (iblk m c 1 t)) := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off2, View.ld_unit_zero off2]
  exact congrArg (fun x => k0_pay3 (k0_pay2 x (iblk m c 0 t) (iblk m c 1 t))) (Memref.IsWhole.read_unread (Memref.isWhole_whole _) _)

end Points

theorem pay1_at (y : S512x2048.Idx) : (k0_pay1 (F := Ideal) y : EReal) = 0 := by
  unfold k0_pay1
  simp only [shapeCast_self]
  exact Ideal.ofBits_zero_f32

abbrev D := dot_S1408x512_S1408x2048_S512x2048_0_0_1_1_n_n

theorem lhs1 (i : S512x2048.Idx) (q : D.contr.Idx) : (D.lhsIdx i q 1).val = (i 0).val := lhs_at D i q (by decide) (by decide) rfl

theorem rhs1 (i : S512x2048.Idx) (q : D.contr.Idx) : (D.rhsIdx i q 1).val = (i 1).val := rhs_at D i q (by decide) (by decide) rfl

/-- One step adds the products over its 1408 positions. -/
theorem pay2_at (acc : FVec Ideal S512x2048 .f32) (x0 : FVec Ideal S1408x512 .bf16) (x1 : FVec Ideal S1408x2048 .bf16) (y : S512x2048.Idx)
    (L R : ℕ → EReal) (hl : ∀ x : S1408x512.Idx, (x 1).val = (y 0).val → x0 x = L (x 0).val)
    (hr : ∀ x : S1408x2048.Idx, (x 1).val = (y 1).val → x1 x = R (x 0).val) :
    (k0_pay2 (F := Ideal) acc x0 x1 y : EReal) = acc y + ∑ k ∈ Finset.range 1408, L k * R k := by
  unfold k0_pay2
  simp only [shapeCast_self]
  rw [ValueIdx.addf_apply]
  refine congrArg (acc y + ·) ?_
  refine dot_at D 1408 rfl rfl none _ _ y L R (fun q => ?_) (fun q => ?_)
  · exact (hl _ (lhs1 y q)).trans (congrArg L (D.lhsIdx_val_of_single rfl y q))
  · exact (hr _ (rhs1 y q)).trans (congrArg R (D.rhsIdx_val_of_single rfl y q))

theorem pay3_at (acc : FVec Ideal S512x2048 .f32) (y : S512x2048.Idx) : (k0_pay3 (F := Ideal) acc y : EReal) = acc y := rfl

theorem index0 : ∀ t : Fin grid0.N, win0_0.index t = ![t.val % 6, t.val / 6] := by decide +kernel

theorem index1 : ∀ t : Fin grid0.N, win0_1.index t = ![t.val % 6, 0] := by decide +kernel

variable (m : (ℓ : Loc nD τ sig) → Buf (Elt Ideal) ℓ) (c : Dev nD)

theorem block0 (t : Fin cfg0.N) (x : S1408x512.Idx) : (iblk m c 0 t x : EReal) =
    rd2 (a := 8448) (b := 2048) (V m c main_v0) (1408 * (t.val % 6) + (x 0).val) (512 * (t.val / 6) + (x 1).val) := by
  have h := index0 t
  refine rd2_of (a := 8448) (b := 2048) (V m c main_v0) _ ?_ ?_
  · exact tile (t.val % 6) 1408 (congrFun h 0) (by omega)
  · exact tile (t.val / 6) 512 (congrFun h 1) (by omega)

theorem block1 (t : Fin cfg0.N) (x : S1408x2048.Idx) : (iblk m c 1 t x : EReal) =
    rd2 (a := 8448) (b := 2048) (V m c main_v1) (1408 * (t.val % 6) + (x 0).val) ((x 1).val) := by
  have h := index1 t
  refine rd2_of (a := 8448) (b := 2048) (V m c main_v1) _ ?_ ?_
  · exact tile (t.val % 6) 1408 (congrFun h 0) (by omega)
  · exact tile 0 2048 (congrFun h 1) (by omega)

/-- The arguments. -/
abbrev A0 : (⟨2, ![8448, 2048]⟩ : Shape).Idx → EReal := m ((c.tc : Thread nD τ).loc main_arg0)
abbrev A1 : (⟨2, ![8448, 2048]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v1 : (⟨2, ![8448, 2048]⟩ : Shape).Idx → EReal) = A1 m c := by
  unfold V hostOps0
  after_results
  rfl

/-- The product of the two arguments' elements at row `p` and column `q` of the result and position `k` of the sum. -/
def term (p q k : ℕ) : EReal := rd2 (A0 m c) k p * rd2 (A1 m c) k q

/-- One step of the accumulation, in terms of the arguments. -/
theorem step (t : Fin cfg0.N) (acc : FVec Ideal S512x2048 .f32) (y : S512x2048.Idx) :
    (k0_pay2 (F := Ideal) acc (iblk m c 0 t) (iblk m c 1 t) y : EReal) =
      acc y + ∑ k ∈ Finset.range 1408, term m c (512 * (t.val / 6) + (y 0).val) ((y 1).val) (1408 * (t.val % 6) + k) := by
  have hN : t.val < 24 := lt_of_lt_of_eq t.isLt N_0
  have hy0 : (y 0).val < 512 := (y 0).isLt
  have hy1 : (y 1).val < 2048 := (y 1).isLt
  rw [pay2_at acc _ _ y
    (fun k => rd2 (a := 8448) (b := 2048) (V m c main_v0) (1408 * (t.val % 6) + k) (512 * (t.val / 6) + (y 0).val))
    (fun k => rd2 (a := 8448) (b := 2048) (V m c main_v1) (1408 * (t.val % 6) + k) ((y 1).val))
    (fun x hx => by rw [block0, hx]) (fun x hx => by rw [block1, hx])]
  refine congrArg (acc y + ·) (Finset.sum_congr rfl fun k hk => ?_)
  have hk' := Finset.mem_range.mp hk
  rw [V_0, V_1]
  unfold term
  refine congrArg₂ (· * ·) (Eq.trans (rfl) ?_) (Eq.trans (rfl) ?_)
  · congr 1 <;> omega
  · congr 1 <;> omega

/-- What the accumulator holds after a step that is not the last: the sum so far. -/
theorem acc_at : ∀ (n : ℕ) (hn : n < cfg0.N) (_ : ¬n % 6 = 5) (y : S512x2048.Idx),
    ((outsAt0 m c n hn).2 y : EReal) =
      ∑ k ∈ Finset.range (1408 * (n % 6 + 1)), term m c (512 * (n / 6) + (y 0).val) ((y 1).val) k
  | n, hn, h5, y => by
    by_cases h0 : n % 6 = 0
    · rw [first m c ⟨n, hn⟩ h0 h5, step, pay1_at, zero_add]
      show ∑ k ∈ Finset.range 1408, term m c _ _ (1408 * (n % 6) + k) = _
      rw [h0]
      exact Finset.sum_congr rfl fun k _ => by rw [Nat.mul_zero, Nat.zero_add]
    · have hp : n - 1 < cfg0.N := by omega
      rw [middle m c ⟨n, hn⟩ h0 h5 hp, step]
      have ih := acc_at (n - 1) hp (by omega) y
      rw [show (n - 1) % 6 + 1 = n % 6 by omega, show (n - 1) / 6 = n / 6 by omega] at ih
      show ((outsAt0 m c (n - 1) hp).2 y : EReal) + _ = _
      rw [ih]
      exact sum_next _ 1408 (n % 6)
  termination_by n => n

/-- Each element of the result is the sum over all 8448 positions. -/
theorem value (i : S2048x2048.Idx) : (G2 m c i : EReal) = ∑ k ∈ Finset.range 8448, term m c ((i 0).val) ((i 1).val) k := by
  have b0 : (i 0).val < 2048 := (i 0).isLt
  have b1 : (i 1).val < 2048 := (i 1).isLt
  have hpt : pt2Of i = 6 * ((i 0).val / 512) + 5 := by
    show 6 * (1 * ((i 0).val / 512 - 0) + 1 * ((i 1).val / 2048 - 0)) + 5 = _
    omega
  have hn : pt2Of i < cfg0.N := by rw [show cfg0.N = 24 from N_0]; omega
  have hp : pt2Of i - 1 < cfg0.N := by omega
  unfold G2
  rw [dif_pos hn]
  have e := outsAt0_sweep m c (pt2Of i) hn
  rw [show (Pipeline.accAt (fun n h => stAt0 m c n h junk0) (stAt0 m c) 0 (pt2Of i) (by omega)).1 = (outsAt0 m c (pt2Of i) hn).1 from
    congrArg Prod.fst e.symm]
  refine (congrFun (last m c ⟨pt2Of i, hn⟩ (by show ¬pt2Of i % 6 = 0; omega) (by show pt2Of i % 6 = 5; omega) hp) (loc2Of i)).trans ?_
  refine (pay3_at _ (loc2Of i)).trans ?_
  refine (step m c ⟨pt2Of i, hn⟩ _ (loc2Of i)).trans ?_
  have ih := acc_at m c (pt2Of i - 1) hp (by omega) (loc2Of i)
  show ((outsAt0 m c (pt2Of i - 1) hp).2 (loc2Of i) : EReal) + _ = _
  rw [ih]
  show ∑ k ∈ Finset.range (1408 * ((pt2Of i - 1) % 6 + 1)), term m c (512 * ((pt2Of i - 1) / 6) + (i 0).val % 512) ((i 1).val % 2048) k
    + ∑ k ∈ Finset.range 1408, term m c (512 * ((pt2Of i) / 6) + (i 0).val % 512) ((i 1).val % 2048) (1408 * (pt2Of i % 6) + k) = _
  rw [show (pt2Of i - 1) % 6 + 1 = 5 by omega, show pt2Of i % 6 = 5 by omega,
    show 512 * ((pt2Of i - 1) / 6) + (i 0).val % 512 = (i 0).val by omega, show (i 1).val % 2048 = (i 1).val by omega, show 512 * ((pt2Of i) / 6) + (i 0).val % 512 = (i 0).val by omega]
  exact sum_next _ 1408 5

open Cert.Reference8Ideal.Read in
/-- The reference's result is the same sum. -/
theorem ref_value (i : S2048x2048.Idx) :
    (val_main_v4 (F := Ideal) (A0 m c) (A1 m c) i : EReal) = ∑ k ∈ Finset.range 8448, term m c ((i 0).val) ((i 1).val) k := by
  have b0 : (i 0).val < 2048 := (i 0).isLt
  have b1 : (i 1).val < 2048 := (i 1).isLt
  refine (val_main_v3_apply (F := Ideal) (A0 m c) (A1 m c) i).trans ?_
  rw [val_main_v2_apply]
  rw [← Fin.sum_univ_eq_sum_range (fun k => term m c ((i 0).val) ((i 1).val) k)]
  refine Finset.sum_congr rfl fun k _ => ?_
  unfold term
  rw [mul_comm]
  refine congrArg₂ (· * ·) (rd2_of (A0 m c) _ ?_ ?_) (rd2_of (A1 m c) _ ?_ ?_)
  · rfl
  · rfl
  · rfl
  · rfl

open Cert.Reference8Ideal.Read in
theorem ref_eq : val_main_v4 (F := Ideal) (A0 m c) (A1 m c) = G2 m c := funext fun i => (ref_value m c i).trans (value m c i).symm

end Cert.DwOut

end
-- ==== Proof.Prod.Dmerged.lean ====
module

public import proofs.«01_k».proof.Proof.Gen.Kernel9Ideal.Value
public import proofs.«01_k».proof.Proof.Gen.Reference9Ideal.Read
public import proofs.«01_k».proof.Proof.Prod.Base

/-! The gradient of the output projection's input: the cotangent times the weight, transposed. -/

@[expose] public section

set_option maxRecDepth 16384

noncomputable section

namespace Cert.Dmerged

open Cert.Kernel9Ideal Cert.Kernel9Ideal.Gen Cert.Kernel9Ideal.Value Cert.Prod
open Idealize.ShloMosaic Idealize.ShloMosaic.TcCoe Idealize.ShloMosaic.Tactic Idealize.SL.Sem

abbrev D := dot_S768x2048_S2048x2048_S768x2048_1_1_0_0_n_n

theorem lhs1 (i : S768x2048.Idx) (q : D.contr.Idx) : (D.lhsIdx i q 0).val = (i 0).val := lhs_at D i q (by decide) (by decide) rfl

theorem rhs1 (i : S768x2048.Idx) (q : D.contr.Idx) : (D.rhsIdx i q 0).val = (i 1).val := rhs_at D i q (by decide) (by decide) rfl

/-- One step computes the products over all 2048 positions. -/
theorem pay1_at (x0 : FVec Ideal S768x2048 .bf16) (x1 : FVec Ideal S2048x2048 .bf16) (y : S768x2048.Idx)
    (L R : ℕ → EReal) (hl : ∀ x : S768x2048.Idx, (x 0).val = (y 0).val → x0 x = L (x 1).val)
    (hr : ∀ x : S2048x2048.Idx, (x 0).val = (y 1).val → x1 x = R (x 1).val) :
    (k0_pay1 (F := Ideal) x0 x1 y : EReal) = ∑ k ∈ Finset.range 2048, L k * R k := by
  unfold k0_pay1
  simp only [shapeCast_self]
  refine dot_at D 2048 rfl rfl none _ _ y L R (fun q => ?_) (fun q => ?_)
  · exact (hl _ (lhs1 y q)).trans (congrArg L (D.lhsIdx_val_of_single rfl y q))
  · exact (hr _ (rhs1 y q)).trans (congrArg R (D.rhsIdx_val_of_single rfl y q))

theorem index0 : ∀ t : Fin grid0.N, win0_0.index t = ![t.val, 0] := by decide +kernel

theorem index1 : ∀ t : Fin grid0.N, win0_1.index t = ![0, 0] := by decide +kernel

theorem index2 : ∀ t : Fin grid0.N, win0_2.index t = ![t.val, 0] := by decide +kernel

variable (m : (ℓ : Loc nD τ sig) → Buf (Elt Ideal) ℓ) (c : Dev nD)

theorem block0 (t : Fin cfg0.N) (x : S768x2048.Idx) : (iblk m c 0 t x : EReal) =
    rd2 (a := 8448) (b := 2048) (V m c main_v0) (768 * (t.val) + (x 0).val) ((x 1).val) := by
  have h := index0 t
  refine rd2_of (a := 8448) (b := 2048) (V m c main_v0) _ ?_ ?_
  · exact tile (t.val) 768 (congrFun h 0) (by omega)
  · exact tile 0 2048 (congrFun h 1) (by omega)

theorem block1 (t : Fin cfg0.N) (x : S2048x2048.Idx) : (iblk m c 1 t x : EReal) =
    rd2 (a := 2048) (b := 2048) (V m c main_v1) ((x 0).val) ((x 1).val) := by
  have h := index1 t
  refine rd2_of (a := 2048) (b := 2048) (V m c main_v1) _ ?_ ?_
  · exact tile 0 2048 (congrFun h 0) (by omega)
  · exact tile 0 2048 (congrFun h 1) (by omega)

/-- The arguments. -/
abbrev A0 : (⟨2, ![8448, 2048]⟩ : Shape).Idx → EReal := m ((c.tc : Thread nD τ).loc main_arg0)
abbrev A1 : (⟨2, ![2048, 2048]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v1 : (⟨2, ![2048, 2048]⟩ : Shape).Idx → EReal) = A1 m c := by
  unfold V hostOps0
  after_results
  rfl

/-- The product of the two arguments' elements at row `p` and column `q` of the result and position `k` of the sum. -/
def term (p q k : ℕ) : EReal := rd2 (A0 m c) p k * rd2 (A1 m c) q k

/-- Each element of the result: the sum over all 2048 positions. -/
def out : S8448x2048.Idx → EReal := fun i => ∑ k ∈ Finset.range 2048, term m c ((i 0).val) ((i 1).val) k

/-- What one step computes, in terms of the arguments. -/
theorem step (t : Fin cfg0.N) (y : S768x2048.Idx) :
    (k0_pay1 (F := Ideal) (iblk m c 0 t) (iblk m c 1 t) y : EReal) = ∑ k ∈ Finset.range 2048, term m c (768 * (t.val) + (y 0).val) ((y 1).val) k := by
  have hN : t.val < 11 := t.isLt
  have hy0 : (y 0).val < 768 := (y 0).isLt
  have hy1 : (y 1).val < 2048 := (y 1).isLt
  rw [pay1_at _ _ y
    (fun k => rd2 (a := 8448) (b := 2048) (V m c main_v0) (768 * (t.val) + (y 0).val) (k))
    (fun k => rd2 (a := 2048) (b := 2048) (V m c main_v1) ((y 1).val) (k))
    (fun x hx => by rw [block0, hx]) (fun x hx => by rw [block1, hx])]
  refine Finset.sum_congr rfl fun k hk => ?_
  have hk' := Finset.mem_range.mp hk
  rw [V_0, V_1]
  unfold term
  refine congrArg₂ (· * ·) (Eq.trans (rfl) ?_) (Eq.trans (rfl) ?_)
  · congr 1 <;> omega
  · congr 1 <;> omega

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = win0_2.index t 0 * 768 + 1 * (y 0).val := rfl
  have hb1 : (((cfg0.win 2).blk t).view.emb y 1).val = win0_2.index t 1 * 2048 + 1 * (y 1).val := rfl
  rw [h] at hb0 hb1
  show out0_2 (iblk m c 0 t) (iblk m c 1 t) ((cfg0.win 2).xinj (grid0.coords t) y) = out m c (((cfg0.win 2).blk t).view.emb y)
  unfold out0_2
  rw [View.canon_cons_unit_zero off2, View.ld_unit_zero off2, View.ld_unit_zero off2]
  refine (step m c t _).trans ?_
  refine Finset.sum_congr rfl fun k _ => ?_
  refine congrArg₂ (fun p q => term m c p q k) ?_ ?_
  · show 768 * (t.val) + (y 0).val = (((cfg0.win 2).blk t).view.emb y 0).val
    rw [hb0]
    show 768 * (t.val) + (y 0).val = (t.val * 768 + 1 * (y 0).val)
    omega
  · show (y 1).val = (((cfg0.win 2).blk t).view.emb y 1).val
    rw [hb1]
    show (y 1).val = (0 * 2048 + 1 * (y 1).val)
    omega

/-- Every element is in some point's block. -/
theorem covered (i : S8448x2048.Idx) : ∃ t : Fin cfg0.N, (cfg0.win 2).flush t = true ∧ i ∈ ((cfg0.win 2).blk t).view.set := by
  have b0 : (i 0).val < 8448 := (i 0).isLt
  have b1 : (i 1).val < 2048 := (i 1).isLt
  obtain ⟨t, ht⟩ : ∃ t : Fin cfg0.N, t.val = (i 0).val / 768 := ⟨⟨_, show (i 0).val / 768 < 11 by omega⟩, rfl⟩
  have h0 : win0_2.index t 0 = t.val := congrFun (index2 t) 0
  have h1 : win0_2.index t 1 = 0 := congrFun (index2 t) 1
  refine ⟨t, flush0_2 t, ?_⟩
  show i ∈ ((View.whole main_v2).slice (win0_2.rect t)).set
  rw [View.set_slice_whole, Rect.mem_set_unit]
  intro a
  match a with
    | ⟨0, _⟩ => exact within 768 (i 0).val h0 (by omega)
    | ⟨1, _⟩ => exact within 2048 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference9Ideal.Read in
/-- The reference's result is the same sum. -/
theorem ref_value (i : S8448x2048.Idx) :
    (val_main_v2 (F := Ideal) (A0 m c) (A1 m c) i : EReal) = ∑ k ∈ Finset.range 2048, term m c ((i 0).val) ((i 1).val) k := by
  have b0 : (i 0).val < 8448 := (i 0).isLt
  have b1 : (i 1).val < 2048 := (i 1).isLt
  rw [val_main_v2_apply]
  rw [← Fin.sum_univ_eq_sum_range (fun k => term m c ((i 0).val) ((i 1).val) k)]
  refine Finset.sum_congr rfl fun k _ => ?_
  unfold term
  refine congrArg₂ (· * ·) (rd2_of (A0 m c) _ ?_ ?_) (rd2_of (A1 m c) _ ?_ ?_)
  · rfl
  · rfl
  · rfl
  · rfl

open Cert.Reference9Ideal.Read in
theorem ref_eq : val_main_v2 (F := Ideal) (A0 m c) (A1 m c) = out m c := funext fun i => ref_value m c i

end Cert.Dmerged

end
-- ==== Proof.Prod.Dy.lean ====
module

public import proofs.«01_k».proof.Proof.Gen.Kernel10Ideal.Value
public import proofs.«01_k».proof.Proof.Gen.Reference10Ideal.Read
public import proofs.«01_k».proof.Proof.Prod.Base
public import Idealize.ShloMosaic.Lib.Pipeline.ValueKit.Tiles

/-! The gradient of the second branch's output projection's input: the cotangent times the weight, transposed. -/

@[expose] public section

set_option maxRecDepth 16384

noncomputable section

namespace Cert.Dy

open Cert.Kernel10Ideal Cert.Kernel10Ideal.Gen Cert.Kernel10Ideal.Value Cert.Prod
open Idealize.ShloMosaic Idealize.ShloMosaic.TcCoe Idealize.ShloMosaic.Tactic Idealize.SL.Sem

variable {F : FTy → Type} [FloatOps F]

abbrev colsOf (x0 : Vec F S1408x2048 .bf16) (o : Fin 2 → ℕ) (h : ∀ a, o a + S1408x512.size a ≤ S1408x2048.size a) : Vec F S1408x512 .bf16 :=
  View.ld x0 (Rect.unit (s := S1408x2048) o S1408x512.size h)

abbrev partOf (x1 : Vec F S4x1x1024x512 .bf16) (o : Fin 4 → ℕ) (h : ∀ a, o a + S1x1x1024x512.size a ≤ S4x1x1024x512.size a) : Vec F S1x1x1024x512 .bf16 :=
  View.ld x1 (Rect.unit (s := S4x1x1024x512) o S1x1x1024x512.size h)

/-- A step's block: four products added, one for each quarter of the columns. -/
def total (x0 : Vec F S1408x2048 .bf16) (x1 : Vec F S4x1x1024x512 .bf16) : FVec F S1408x1024 .f32 :=
  k0_pay1 (colsOf x0 ![0, 1536] (by decide)) (partOf x1 ![3, 0, 0, 0] (by decide))
    (k0_pay4 (colsOf x0 ![0, 1024] (by decide)) (partOf x1 ![2, 0, 0, 0] (by decide))
      (k0_pay3 (colsOf x0 ![0, 512] (by decide)) (partOf x1 ![1, 0, 0, 0] (by decide))
        (k0_pay2 (colsOf x0 ![0, 0] (by decide)) (partOf x1 ![0, 0, 0, 0] (by decide)))))

abbrev D := dot_S1408x512_S1024x512_S1408x1024_1_1_0_0_n_n

theorem lhs1 (i : S1408x1024.Idx) (q : D.contr.Idx) : (D.lhsIdx i q 0).val = (i 0).val := lhs_at D i q (by decide) (by decide) rfl

theorem rhs1 (i : S1408x1024.Idx) (q : D.contr.Idx) : (D.rhsIdx i q 0).val = (i 1).val := rhs_at D i q (by decide) (by decide) rfl

/-- The products over one quarter's 512 columns. -/
theorem pay2_at (x0 : FVec Ideal S1408x512 .bf16) (x1 : FVec Ideal S1x1x1024x512 .bf16) (y : S1408x1024.Idx)
    (L R : ℕ → EReal) (hl : ∀ x : S1408x512.Idx, (x 0).val = (y 0).val → x0 x = L (x 1).val)
    (hr : ∀ x : S1x1x1024x512.Idx, (x 2).val = (y 1).val → x1 x = R (x 3).val) :
    (k0_pay2 (F := Ideal) x0 x1 y : EReal) = ∑ k ∈ Finset.range 512, L k * R k := by
  unfold k0_pay2
  simp only [shapeCast_self]
  refine dot_at D 512 rfl rfl none _ _ y L R (fun q => ?_) (fun q => ?_)
  · exact (hl _ (lhs1 y q)).trans (congrArg L (D.lhsIdx_val_of_single rfl y q))
  · refine (dropTwo_at x1 _ _).trans ?_
    exact (hr _ (rhs1 y q)).trans (congrArg R (D.rhsIdx_val_of_single rfl y q))

/-- A later quarter adds its products to what is there. -/
theorem pay3_at (x0 : FVec Ideal S1408x512 .bf16) (x1 : FVec Ideal S1x1x1024x512 .bf16) (acc : FVec Ideal S1408x1024 .f32) (y : S1408x1024.Idx) :
    (k0_pay3 (F := Ideal) x0 x1 acc y : EReal) = acc y + k0_pay2 (F := Ideal) x0 x1 y := by
  unfold k0_pay3 k0_pay2
  simp only [shapeCast_self]
  rfl

/-- The product at row `p` and column `q` of the result and position `k` of the sum. -/
def term (a0 : (⟨2, ![8448, 2048]⟩ : Shape).Idx → EReal) (a1 : (⟨3, ![3, 1024, 2048]⟩ : Shape).Idx → EReal) (b p q k : ℕ) : EReal :=
  rd2 a0 p k * rd3 a1 b q k

/-- Branch `b`: each element of the result, the sum over all 2048 positions. -/
def sums (a0 : (⟨2, ![8448, 2048]⟩ : Shape).Idx → EReal) (a1 : (⟨3, ![3, 1024, 2048]⟩ : Shape).Idx → EReal) (b : ℕ) : S8448x1024.Idx → EReal :=
  fun i => ∑ k ∈ Finset.range 2048, term a0 a1 b (i 0).val (i 1).val k

section Step

variable {a0 : (⟨2, ![8448, 2048]⟩ : Shape).Idx → EReal} {a1 : (⟨3, ![3, 1024, 2048]⟩ : Shape).Idx → EReal} {b r : ℕ}
variable (x0 : Vec Ideal S1408x2048 .bf16) (x1 : Vec Ideal S4x1x1024x512 .bf16)
variable (e0 : ∀ x, (x0 x : EReal) = rd2 a0 (r + (x 0).val) (x 1).val) (e1 : ∀ x, (x1 x : EReal) = rd3 a1 b (x 2).val (512 * (x 0).val + (x 3).val))

include e0 e1

/-- One quarter's products, in terms of the arguments. -/
theorem quarter (s : ℕ) (o0 : Fin 2 → ℕ) (o1 : Fin 4 → ℕ)
    (h0 : ∀ a, o0 a + S1408x512.size a ≤ S1408x2048.size a) (h1 : ∀ a, o1 a + S1x1x1024x512.size a ≤ S4x1x1024x512.size a)
    (f0 : o0 = ![0, 512 * s]) (f1 : o1 = ![s, 0, 0, 0]) (y : S1408x1024.Idx) :
    (k0_pay2 (F := Ideal) (colsOf x0 o0 h0) (partOf x1 o1 h1) y : EReal) = ∑ k ∈ Finset.range 512, term a0 a1 b (r + (y 0).val) (y 1).val (512 * s + k) := by
  subst f0 f1
  refine pay2_at _ _ y (fun k => rd2 a0 (r + (y 0).val) (512 * s + k)) (fun k => rd3 a1 b (y 1).val (512 * s + k)) (fun x hx => ?_) (fun x hx => ?_)
  · refine (e0 ((Rect.unit (s := S1408x2048) ![0, 512 * s] S1408x512.size h0).emb x)).trans ?_
    have f0 : ((Rect.unit (s := S1408x2048) ![0, 512 * s] S1408x512.size h0).emb x 0).val = 0 + 1 * (x 0).val := rfl
    have f1 : ((Rect.unit (s := S1408x2048) ![0, 512 * s] S1408x512.size h0).emb x 1).val = 512 * s + 1 * (x 1).val := rfl
    congr 1 <;> omega
  · refine (e1 ((Rect.unit (s := S4x1x1024x512) ![s, 0, 0, 0] S1x1x1024x512.size h1).emb x)).trans ?_
    have b0 : (x 0).val < 1 := (x 0).isLt
    have f0 : ((Rect.unit (s := S4x1x1024x512) ![s, 0, 0, 0] S1x1x1024x512.size h1).emb x 0).val = s + 1 * (x 0).val := rfl
    have f2 : ((Rect.unit (s := S4x1x1024x512) ![s, 0, 0, 0] S1x1x1024x512.size h1).emb x 2).val = 0 + 1 * (x 2).val := rfl
    have f3 : ((Rect.unit (s := S4x1x1024x512) ![s, 0, 0, 0] S1x1x1024x512.size h1).emb x 3).val = 0 + 1 * (x 3).val := rfl
    congr 1 <;> omega

/-- What one step computes: the sum over all four quarters. -/
theorem total_at (y : S1408x1024.Idx) : (total (F := Ideal) x0 x1 y : EReal) = ∑ k ∈ Finset.range 2048, term a0 a1 b (r + (y 0).val) (y 1).val k := by
  unfold total
  refine (pay3_at _ _ _ y).trans ?_
  rw [quarter x0 x1 e0 e1 3 _ _ _ _ rfl rfl y]
  refine (congrArg (· + _) (pay3_at _ _ _ y)).trans ?_
  rw [quarter x0 x1 e0 e1 2 _ _ _ _ rfl rfl y, pay3_at, quarter x0 x1 e0 e1 1 _ _ _ _ rfl rfl y, quarter x0 x1 e0 e1 0 _ _ _ _ rfl rfl y]
  have n1 := sum_next (fun k => term a0 a1 b (r + (y 0).val) (y 1).val k) 512 0
  have n2 := sum_next (fun k => term a0 a1 b (r + (y 0).val) (y 1).val k) 512 1
  have n3 := sum_next (fun k => term a0 a1 b (r + (y 0).val) (y 1).val k) 512 2
  have n4 := sum_next (fun k => term a0 a1 b (r + (y 0).val) (y 1).val k) 512 3
  rw [Nat.mul_zero, Finset.range_zero, Finset.sum_empty, zero_add] at n1
  rw [Nat.mul_zero, n1, n2, n3, n4]

end Step

theorem index0 : ∀ t : Fin grid0.N, win0_0.index t = ![t.val, 0] := by decide +kernel

theorem index1 : ∀ t : Fin grid0.N, win0_1.index t = ![0, 1, 0, 0] := by decide +kernel

theorem index2 : ∀ t : Fin grid0.N, win0_2.index t = ![t.val, 0] := by decide +kernel

variable (m : (ℓ : Loc nD τ sig) → Buf (Elt Ideal) ℓ) (c : Dev nD)

/-- The arguments. -/
abbrev A0 : (⟨2, ![8448, 2048]⟩ : Shape).Idx → EReal := m ((c.tc : Thread nD τ).loc main_arg0)
abbrev A1 : (⟨3, ![3, 1024, 2048]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v3 : (⟨4, ![4, 3, 1024, 512]⟩ : Shape).Idx → EReal) =
    transpose S4x3x1024x512 [2, 0, 1, 3] (shapeCast S3x1024x4x512 (A1 m c) (by decide)) (by decide) := by
  unfold V hostOps0
  after_results
  rfl

theorem block0 (t : Fin cfg0.N) (x : S1408x2048.Idx) : (iblk m c 0 t x : EReal) =
    rd2 (A0 m c) (1408 * t.val + (x 0).val) (x 1).val := by
  have h := index0 t
  rw [← V_0]
  refine rd2_of (a := 8448) (b := 2048) (V m c main_v0) _ ?_ ?_
  · exact tile (t.val) 1408 (congrFun h 0) (by omega)
  · exact tile 0 2048 (congrFun h 1) (by omega)

theorem block1 (t : Fin cfg0.N) (x : S4x1x1024x512.Idx) : (iblk m c 1 t x : EReal) =
    rd3 (A1 m c) 1 (x 2).val (512 * (x 0).val + (x 3).val) := by
  have h := index1 t
  have hx : (x 1).val = 0 := by have := (x 1).isLt; change _ < 1 at this; omega
  have b0 : (x 0).val < 4 := (x 0).isLt
  have b2 : (x 2).val < 1024 := (x 2).isLt
  have b3 : (x 3).val < 512 := (x 3).isLt
  rw [← branches_at (n := 4) (w := 512) (A1 m c) rfl (by decide) (by decide) b0 (by omega) b2 b3, ← V_1]
  refine rd4_of (a := 4) (b := 3) (c := 1024) (e := 512) (V m c main_v3) _ ?_ ?_ ?_ ?_
  · exact tile 0 4 (congrFun h 0) (by omega)
  · exact tile 1 1 (congrFun h 1) (by omega)
  · exact tile 0 1024 (congrFun h 2) (by omega)
  · exact tile 0 512 (congrFun h 3) (by omega)

/-- Each element of the result. -/
def out : S8448x1024.Idx → EReal := Cert.Dy.sums (A0 m c) (A1 m c) 1

theorem value {F : FTy → Type} [FloatOps F] (m : (ℓ : Loc nD τ sig) → Buf (Elt F) ℓ) (c : Dev nD) (t : Fin cfg0.N) :
    outsAt0 m c t = Cert.Dy.total (iblk m c 0 t) (iblk m c 1 t) := by
  unfold outsAt0 out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_cons_toLoadRect, View.readCov_cons_toLoadRect, View.readCov_cons_toLoadRect]
  rfl

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = t.val * 1408 + 1 * (y 0).val := tile _ 1408 (congrFun h 0) rfl
  have hb1 : (((cfg0.win 2).blk t).view.emb y 1).val = 0 * 1024 + 1 * (y 1).val := tile _ 1024 (congrFun h 1) rfl
  show outsAt0 m c t ((cfg0.win 2).xinj (grid0.coords t) y) = out m c (((cfg0.win 2).blk t).view.emb y)
  rw [value]
  refine (Cert.Dy.total_at (iblk m c 0 t) (iblk m c 1 t) (block0 m c t) (block1 m c t) _).trans ?_
  refine Finset.sum_congr rfl fun k _ => ?_
  refine congrArg₂ (fun p q => Cert.Dy.term (A0 m c) (A1 m c) 1 p q k) ?_ ?_
  · rw [hb0]; show 1408 * t.val + (y 0).val = _; omega
  · rw [hb1]; show (y 1).val = _; omega

/-- Every element is in some point's block. -/
theorem covered (i : S8448x1024.Idx) : ∃ t : Fin cfg0.N, (cfg0.win 2).flush t = true ∧ i ∈ ((cfg0.win 2).blk t).view.set := by
  have b0 : (i 0).val < 8448 := (i 0).isLt
  have b1 : (i 1).val < 1024 := (i 1).isLt
  obtain ⟨t, ht⟩ : ∃ t : Fin cfg0.N, t.val = (i 0).val / 1408 := ⟨⟨_, show (i 0).val / 1408 < 6 by omega⟩, rfl⟩
  have h0 : win0_2.index t 0 = t.val := congrFun (index2 t) 0
  have h1 : win0_2.index t 1 = 0 := congrFun (index2 t) 1
  refine ⟨t, flush0_2 t, ?_⟩
  show i ∈ ((View.whole main_v4).slice (win0_2.rect t)).set
  rw [View.set_slice_whole, Rect.mem_set_unit]
  intro a
  match a with
    | ⟨0, _⟩ => exact within 1408 (i 0).val h0 (by omega)
    | ⟨1, _⟩ => exact within 1024 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference10Ideal.Read in
/-- The reference's result is the same sum. -/
theorem ref_eq : val_main_v4 (F := Ideal) (A0 m c) (A1 m c) = out m c := funext fun i => by
  have b1 : (i 1).val < 1024 := (i 1).isLt
  refine (val_main_v4_apply (A0 m c) (A1 m c) i).trans ?_
  unfold out Cert.Dy.sums
  rw [← Fin.sum_univ_eq_sum_range (fun k => Cert.Dy.term (A0 m c) (A1 m c) 1 (i 0).val (i 1).val k)]
  refine Finset.sum_congr rfl fun k _ => ?_
  have hk := k.isLt
  rw [val_main_v1_apply, val_main_v0_apply]
  refine congrArg₂ (· * ·) (rd2_of (A0 m c) _ rfl rfl) (rd3_of (A1 m c) _ rfl ?_ ?_)
  · show ((i 1).val * 2048 + k.val) / 2048 % 1024 = _
    omega
  · show ((i 1).val * 2048 + k.val) % 2048 = _
    omega

end Cert.Dy

end
-- ==== Proof.Prod.Dwb.lean ====
module

public import proofs.«01_k».proof.Proof.Gen.Kernel11Ideal.Value
public import proofs.«01_k».proof.Proof.Gen.Reference11Ideal.Read
public import proofs.«01_k».proof.Proof.Prod.Base
public import Idealize.ShloMosaic.Lib.Pipeline.ValueKit.Tiles

/-! The gradient of the second branch's weight: the branch's values, transposed, times the cotangent. -/

@[expose] public section

set_option maxRecDepth 16384

noncomputable section

namespace Cert.Dwb

open Cert.Kernel11Ideal Cert.Kernel11Ideal.Gen Cert.Kernel11Ideal.Value Cert.Prod
open Idealize.ShloMosaic Idealize.ShloMosaic.TcCoe Idealize.ShloMosaic.Tactic Idealize.SL.Sem

section Points

variable {F : FTy → Type} [FloatOps F]
variable (m : (ℓ : Loc nD τ sig) → Buf (Elt F) ℓ) (c : Dev nD)

/-- The first step: the product is added to zeros. -/
theorem first (t : Fin cfg0.N) (h0 : t.val % 6 = 0) (h1 : ¬t.val % 6 = 5) :
    (outsAt0 m c t.val t.isLt).2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off2]

/-- A later step: the product is added to what the step before left. -/
theorem middle (t : Fin cfg0.N) (h0 : ¬t.val % 6 = 0) (h1 : ¬t.val % 6 = 5) (hp : t.val - 1 < cfg0.N) :
    (outsAt0 m c t.val t.isLt).2 = k0_pay2 (outsAt0 m c (t.val - 1) hp).2 (iblk m c 0 t) (iblk m c 1 t) := by
  rw [outsAt0_B m c t h0 h1]
  dsimp only
  unfold sout0_B_0
  rw [View.read_writes_eq_canon _ _ _ (scover0_B_0 c _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.ld_unit_zero off2, View.ld_unit_zero off2, View.ld_unit_zero off2]
  exact congrArg (fun x => k0_pay2 x (iblk m c 0 t) (iblk m c 1 t)) (Memref.IsWhole.read_unread (Memref.isWhole_whole _) _)

abbrev colsOf (x : Vec F S1024x2048 .f32) (o : Fin 2 → ℕ) (h : ∀ a, o a + S1024x512.size a ≤ S1024x2048.size a) : Vec F S1024x512 .f32 :=
  View.ld x (Rect.unit (s := S1024x2048) o S1024x512.size h)

/-- A quarter of the columns, read after the whole array was written. -/
theorem quarter_of {sg : RefSig} {κ : Kind} {sp : Space} (v : View sg κ sp S1024x2048 .f32) (h : ∀ a, (![0, 0] : Fin 2 → ℕ) a + S1024x2048.size a ≤ S1024x2048.size a)
    (w : Vec F S1024x2048 .f32) (o : Fin 2 → ℕ) (ho : ∀ a, o a + S1024x512.size a ≤ S1024x2048.size a) :
    v.readCov [(⟨Rect.unit (s := S1024x2048) ![0, 0] S1024x2048.size h, w⟩ : View.Piece (Elt F) S1024x2048 .f32)] (Rect.unit (s := S1024x2048) o S1024x512.size ho).toLoadRect
      = colsOf w o ho := by
  rw [View.readCov_eq_canon_ld _ _ _ (fun y => ⟨_, List.mem_singleton_self _, View.mem_set_unit_zero off2 h y⟩), View.canon_cons_unit_zero off2]

/-- The last step writes the block of the result, a quarter of the columns after another. -/
theorem last (t : Fin cfg0.N) (h0 : ¬t.val % 6 = 0) (h1 : t.val % 6 = 5) (hp : t.val - 1 < cfg0.N) :
    (outsAt0 m c t.val t.isLt).1 = View.canon
      [(⟨Rect.unit (s := S4x1024x512) ![3, 0, 0] S1x1024x512.size (by decide), k0_pay6 (colsOf (k0_pay2 (outsAt0 m c (t.val - 1) hp).2 (iblk m c 0 t) (iblk m c 1 t)) ![0, 1536] (by decide))⟩ : View.Piece (Elt F) S4x1024x512 .bf16),
        ⟨Rect.unit (s := S4x1024x512) ![2, 0, 0] S1x1024x512.size (by decide), k0_pay5 (colsOf (k0_pay2 (outsAt0 m c (t.val - 1) hp).2 (iblk m c 0 t) (iblk m c 1 t)) ![0, 1024] (by decide))⟩,
        ⟨Rect.unit (s := S4x1024x512) ![1, 0, 0] S1x1024x512.size (by decide), k0_pay4 (colsOf (k0_pay2 (outsAt0 m c (t.val - 1) hp).2 (iblk m c 0 t) (iblk m c 1 t)) ![0, 512] (by decide))⟩,
        ⟨Rect.unit (s := S4x1024x512) ![0, 0, 0] S1x1024x512.size (by decide), k0_pay3 (colsOf (k0_pay2 (outsAt0 m c (t.val - 1) hp).2 (iblk m c 0 t) (iblk m c 1 t)) ![0, 0] (by decide))⟩] := by
  rw [outsAt0_C m c t h0 h1]
  dsimp only
  unfold out0_C_2
  rw [View.read_writes_eq_canon _ _ _ (cover0_C_2 c _ _ _ _ _ _ _ _ _ _ _ _ _ _)]
  unfold kernelRun0_C
  dsimp only
  sl_unfold_words
  simp only [View.readAt_eq_ld, (hs0_0 t).read_unread, (hs0_1 t).read_unread]
  rw [quarter_of, quarter_of, quarter_of, quarter_of]
  rw [View.ld_unit_zero off2, View.ld_unit_zero off2, View.ld_unit_zero off2]
  rw [show View.read (Elt F) (Memref.view scM0_0) (Memref.IsWhole.unread (Memref.isWhole_whole _) (outsAt0 m c (t.val - 1) hp).2) = (outsAt0 m c (t.val - 1) hp).2 from
    Memref.IsWhole.read_unread (Memref.isWhole_whole _) _]

end Points

theorem pay1_at (y : S1024x2048.Idx) : (k0_pay1 (F := Ideal) y : EReal) = 0 := by
  unfold k0_pay1
  simp only [shapeCast_self]
  exact Ideal.ofBits_zero_f32

abbrev D := dot_S1408x1024_S1408x2048_S1024x2048_0_0_1_1_n_n

theorem lhs1 (i : S1024x2048.Idx) (q : D.contr.Idx) : (D.lhsIdx i q 1).val = (i 0).val := lhs_at D i q (by decide) (by decide) rfl

theorem rhs1 (i : S1024x2048.Idx) (q : D.contr.Idx) : (D.rhsIdx i q 1).val = (i 1).val := rhs_at D i q (by decide) (by decide) rfl

/-- One step adds the products over its 1408 positions. -/
theorem pay2_at (acc : FVec Ideal S1024x2048 .f32) (x0 : FVec Ideal S1408x1024 .bf16) (x1 : FVec Ideal S1408x2048 .bf16) (y : S1024x2048.Idx)
    (L R : ℕ → EReal) (hl : ∀ x : S1408x1024.Idx, (x 1).val = (y 0).val → x0 x = L (x 0).val)
    (hr : ∀ x : S1408x2048.Idx, (x 1).val = (y 1).val → x1 x = R (x 0).val) :
    (k0_pay2 (F := Ideal) acc x0 x1 y : EReal) = acc y + ∑ k ∈ Finset.range 1408, L k * R k := by
  unfold k0_pay2
  simp only [shapeCast_self]
  rw [ValueIdx.addf_apply]
  refine congrArg (acc y + ·) ?_
  refine dot_at D 1408 rfl rfl none _ _ y L R (fun q => ?_) (fun q => ?_)
  · exact (hl _ (lhs1 y q)).trans (congrArg L (D.lhsIdx_val_of_single rfl y q))
  · exact (hr _ (rhs1 y q)).trans (congrArg R (D.rhsIdx_val_of_single rfl y q))

theorem pay3_at (acc : FVec Ideal S1024x512 .f32) (y : S1x1024x512.Idx) :
    (k0_pay3 (F := Ideal) acc y : EReal) = acc (fun a => y a.succ) :=
  shapeCast_addUnit_apply ![1024, 512] _ _ y

theorem index0 : ∀ t : Fin grid0.N, win0_0.index t = ![t.val, 0] := by decide +kernel

theorem index1 : ∀ t : Fin grid0.N, win0_1.index t = ![t.val, 0] := by decide +kernel

variable (m : (ℓ : Loc nD τ sig) → Buf (Elt Ideal) ℓ) (c : Dev nD)

theorem block0 (t : Fin cfg0.N) (x : S1408x1024.Idx) : (iblk m c 0 t x : EReal) =
    rd2 (a := 8448) (b := 1024) (V m c main_v0) (1408 * t.val + (x 0).val) ((x 1).val) := by
  have h := index0 t
  refine rd2_of (a := 8448) (b := 1024) (V m c main_v0) _ ?_ ?_
  · exact tile (t.val) 1408 (congrFun h 0) (by omega)
  · exact tile 0 1024 (congrFun h 1) (by omega)

theorem block1 (t : Fin cfg0.N) (x : S1408x2048.Idx) : (iblk m c 1 t x : EReal) =
    rd2 (a := 8448) (b := 2048) (V m c main_v1) (1408 * t.val + (x 0).val) ((x 1).val) := by
  have h := index1 t
  refine rd2_of (a := 8448) (b := 2048) (V m c main_v1) _ ?_ ?_
  · exact tile (t.val) 1408 (congrFun h 0) (by omega)
  · exact tile 0 2048 (congrFun h 1) (by omega)

/-- The arguments. -/
abbrev A0 : (⟨2, ![8448, 1024]⟩ : Shape).Idx → EReal := m ((c.tc : Thread nD τ).loc main_arg0)
abbrev A1 : (⟨2, ![8448, 2048]⟩ : Shape).Idx → EReal := m ((c.tc : Thread nD τ).loc main_arg1)

theorem V_0 : (V m c main_v0 : (⟨2, ![8448, 1024]⟩ : Shape).Idx → EReal) = A0 m c := by
  unfold V hostOps0
  after_results
  rfl

theorem V_1 : (V m c main_v1 : (⟨2, ![8448, 2048]⟩ : Shape).Idx → EReal) = A1 m c := by
  unfold V hostOps0
  after_results
  rfl

/-- The product of the two arguments' elements at row `p` and column `q` of the weight and position `k` of the sum. -/
def term (p q k : ℕ) : EReal := rd2 (A0 m c) k p * rd2 (A1 m c) k q

/-- One step of the accumulation, in terms of the arguments. -/
theorem step (t : Fin cfg0.N) (acc : FVec Ideal S1024x2048 .f32) (y : S1024x2048.Idx) :
    (k0_pay2 (F := Ideal) acc (iblk m c 0 t) (iblk m c 1 t) y : EReal) =
      acc y + ∑ k ∈ Finset.range 1408, term m c (y 0).val (y 1).val (1408 * t.val + k) := by
  rw [pay2_at acc _ _ y
    (fun k => rd2 (a := 8448) (b := 1024) (V m c main_v0) (1408 * t.val + k) ((y 0).val))
    (fun k => rd2 (a := 8448) (b := 2048) (V m c main_v1) (1408 * t.val + k) ((y 1).val))
    (fun x hx => by rw [block0, hx]) (fun x hx => by rw [block1, hx])]
  rw [V_0, V_1]
  rfl

/-- What the accumulator holds after a step that is not the last: the sum so far. -/
theorem acc_at : ∀ (n : ℕ) (hn : n < cfg0.N) (_ : ¬n % 6 = 5) (y : S1024x2048.Idx),
    ((outsAt0 m c n hn).2 y : EReal) = ∑ k ∈ Finset.range (1408 * (n + 1)), term m c (y 0).val (y 1).val k
  | n, hn, h5, y => by
    have hN : n < 6 := lt_of_lt_of_eq hn N_0
    by_cases h0 : n % 6 = 0
    · have hz : n = 0 := by omega
      subst hz
      rw [first m c ⟨0, hn⟩ h0 h5, step, pay1_at, zero_add]
      exact Finset.sum_congr rfl fun k _ => by rw [Nat.mul_zero, Nat.zero_add]
    · have hp : n - 1 < cfg0.N := by omega
      rw [middle m c ⟨n, hn⟩ h0 h5 hp, step]
      have ih := acc_at (n - 1) hp (by omega) y
      rw [show n - 1 + 1 = n by omega] at ih
      show ((outsAt0 m c (n - 1) hp).2 y : EReal) + _ = _
      rw [ih]
      exact sum_next _ 1408 n
  termination_by n => n

/-- What the accumulator holds at the end: the sum over all 8448 positions. -/
theorem total (t : Fin cfg0.N) (h5 : t.val % 6 = 5) (hp : t.val - 1 < cfg0.N) (y : S1024x2048.Idx) :
    (k0_pay2 (F := Ideal) (outsAt0 m c (t.val - 1) hp).2 (iblk m c 0 t) (iblk m c 1 t) y : EReal)
      = ∑ k ∈ Finset.range 8448, term m c (y 0).val (y 1).val k := by
  have hN : t.val < 6 := lt_of_lt_of_eq t.isLt N_0
  rw [step, acc_at m c (t.val - 1) hp (by omega) y, show t.val - 1 + 1 = 5 by omega, show t.val = 5 by omega]
  exact sum_next _ 1408 5

/-- A quarter of the columns, as the last step writes it. -/
theorem tile (P : FVec Ideal S1024x2048 .f32) (f : ℕ → ℕ → EReal) (hP : ∀ y, (P y : EReal) = f (y 0).val (y 1).val) (s : ℕ)
    (o : Fin 2 → ℕ) (h : ∀ a, o a + S1024x512.size a ≤ S1024x2048.size a) (e : o = ![0, 512 * s])
    (z : S4x1024x512.Idx) (x : S1x1024x512.Idx) (h0 : (z 0).val = s + (x 0).val) (h1 : (z 1).val = 0 + (x 1).val) (h2 : (z 2).val = 0 + (x 2).val) :
    (k0_pay3 (F := Ideal) (colsOf P o h) x : EReal) = f (z 1).val (512 * (z 0).val + (z 2).val) := by
  subst e
  have hx : (x 0).val < 1 := (x 0).isLt
  rw [pay3_at]
  refine (hP ((Rect.unit (s := S1024x2048) ![0, 512 * s] S1024x512.size h).emb (fun a => x a.succ))).trans ?_
  have f0 : ((Rect.unit (s := S1024x2048) ![0, 512 * s] S1024x512.size h).emb (fun a => x a.succ) 0).val = 0 + 1 * (x 1).val := rfl
  have f1 : ((Rect.unit (s := S1024x2048) ![0, 512 * s] S1024x512.size h).emb (fun a => x a.succ) 1).val = 512 * s + 1 * (x 2).val := rfl
  rw [f0, f1]
  exact congrArg₂ f (by omega) (by omega)

/-- The four quarters cover the result. -/
theorem covered (p0 p1 p2 p3 : Vec Ideal S1x1024x512 .bf16) (z : S4x1024x512.Idx) :
    ∃ pc ∈ [(⟨Rect.unit (s := S4x1024x512) ![3, 0, 0] S1x1024x512.size (by decide), p0⟩ : View.Piece (Elt Ideal) S4x1024x512 .bf16),
      ⟨Rect.unit (s := S4x1024x512) ![2, 0, 0] S1x1024x512.size (by decide), p1⟩, ⟨Rect.unit (s := S4x1024x512) ![1, 0, 0] S1x1024x512.size (by decide), p2⟩,
      ⟨Rect.unit (s := S4x1024x512) ![0, 0, 0] S1x1024x512.size (by decide), p3⟩], z ∈ pc.1.set :=
  View.cover_of_tiled (s := S4x1024x512) _ S1x1024x512.size rfl z

/-- Each element of the result is the sum over all 8448 positions. -/
theorem value (i : S4x1024x512.Idx) : (G2 m c i : EReal) = ∑ k ∈ Finset.range 8448, term m c (i 1).val (512 * (i 0).val + (i 2).val) k := by
  have b0 : (i 0).val < 4 := (i 0).isLt
  have b1 : (i 1).val < 1024 := (i 1).isLt
  have b2 : (i 2).val < 512 := (i 2).isLt
  have hn : 5 < cfg0.N := lt_of_lt_of_eq (by decide) N_0.symm
  have hp : (⟨5, hn⟩ : Fin cfg0.N).val - 1 < cfg0.N := by show 5 - 1 < cfg0.N; omega
  rw [G2_last]
  have e := outsAt0_sweep m c 5 hn
  rw [show (Pipeline.accAt (fun n h => stAt0 m c n h junk0) (stAt0 m c) 0 5 (lt_of_lt_of_eq (by decide) N_0.symm)).1 = (outsAt0 m c 5 hn).1 from
    congrArg Prod.fst e.symm]
  refine (congrFun (last m c ⟨5, hn⟩ (show ¬5 % 6 = 0 by decide) (show 5 % 6 = 5 by decide) hp) i).trans ?_
  have hP := total m c ⟨5, hn⟩ (show 5 % 6 = 5 by decide) hp
  generalize k0_pay2 (F := Ideal) (outsAt0 m c ((⟨5, hn⟩ : Fin cfg0.N).val - 1) hp).2 (iblk m c 0 ⟨5, hn⟩) (iblk m c 1 ⟨5, hn⟩) = P at hP ⊢
  refine View.canon_eq_of_allAt _ i _ (covered _ _ _ _ i) ?_
  exact View.allAt_cons_unit _ _ _ _ _ (fun x hx => tile P (fun p q => ∑ k ∈ Finset.range 8448, term m c p q k) hP 3 _ _ rfl i x (hx 0) (hx 1) (hx 2)) <|
    View.allAt_cons_unit _ _ _ _ _ (fun x hx => tile P (fun p q => ∑ k ∈ Finset.range 8448, term m c p q k) hP 2 _ _ rfl i x (hx 0) (hx 1) (hx 2)) <|
    View.allAt_cons_unit _ _ _ _ _ (fun x hx => tile P (fun p q => ∑ k ∈ Finset.range 8448, term m c p q k) hP 1 _ _ rfl i x (hx 0) (hx 1) (hx 2)) <|
    View.allAt_cons_unit _ _ _ _ _ (fun x hx => tile P (fun p q => ∑ k ∈ Finset.range 8448, term m c p q k) hP 0 _ _ rfl i x (hx 0) (hx 1) (hx 2)) <| View.allAt_nil _ _

open Cert.Reference11Ideal.Read in
/-- The reference's result is the same sum. -/
theorem ref_value (i : S4x1024x512.Idx) :
    (val_main_v6 (F := Ideal) (A0 m c) (A1 m c) i : EReal) = ∑ k ∈ Finset.range 8448, term m c (i 1).val (512 * (i 0).val + (i 2).val) k := by
  have b0 : (i 0).val < 4 := (i 0).isLt
  have b1 : (i 1).val < 1024 := (i 1).isLt
  have b2 : (i 2).val < 512 := (i 2).isLt
  refine (val_main_v5_apply (F := Ideal) (A0 m c) (A1 m c) i).trans ?_
  rw [val_main_v4_apply, val_main_v3_apply, val_main_v2_apply]
  rw [← Fin.sum_univ_eq_sum_range (fun k => term m c (i 1).val (512 * (i 0).val + (i 2).val) k)]
  refine Finset.sum_congr rfl fun k _ => ?_
  unfold term
  rw [mul_comm]
  refine congrArg₂ (· * ·) (rd2_of (A0 m c) _ rfl ?_) (rd2_of (A1 m c) _ rfl ?_)
  · show (((i 1).val * 4 + (i 0).val) * 512 + (i 2).val) / 2048 = _
    omega
  · show (((i 1).val * 4 + (i 0).val) * 512 + (i 2).val) % 2048 = _
    omega

open Cert.Reference11Ideal.Read in
theorem ref_eq : val_main_v6 (F := Ideal) (A0 m c) (A1 m c) = G2 m c := funext fun i => (ref_value m c i).trans (value m c i).symm

end Cert.Dwb

end
-- ==== Proof.Prod.W13.lean ====
module

public import proofs.«01_k».proof.Proof.Gen.Kernel12Ideal.Value
public import proofs.«01_k».proof.Proof.Gen.Reference12Ideal.Read
public import proofs.«01_k».proof.Proof.Prod.Base

/-! The feed-forward layer's first product: the input times the weight. -/

@[expose] public section

set_option maxRecDepth 16384

noncomputable section

namespace Cert.W13

open Cert.Kernel12Ideal Cert.Kernel12Ideal.Gen Cert.Kernel12Ideal.Value Cert.Prod
open Idealize.ShloMosaic Idealize.ShloMosaic.TcCoe Idealize.ShloMosaic.Tactic Idealize.SL.Sem

abbrev D := dot_S768x2048_S2048x2752_S768x2752_1_0_0_1_n_n

theorem lhs1 (i : S768x2752.Idx) (q : D.contr.Idx) : (D.lhsIdx i q 0).val = (i 0).val := lhs_at D i q (by decide) (by decide) rfl

theorem rhs1 (i : S768x2752.Idx) (q : D.contr.Idx) : (D.rhsIdx i q 1).val = (i 1).val := rhs_at D i q (by decide) (by decide) rfl

/-- One step computes the products over all 2048 positions. -/
theorem pay1_at (x0 : FVec Ideal S768x2048 .bf16) (x1 : FVec Ideal S1x2048x2752 .bf16) (y : S1x768x2752.Idx)
    (L R : ℕ → EReal) (hl : ∀ x : S768x2048.Idx, (x 0).val = (y 1).val → x0 x = L (x 1).val)
    (hr : ∀ x : S1x2048x2752.Idx, (x 2).val = (y 2).val → x1 x = R (x 1).val) :
    (k0_pay1 (F := Ideal) x0 x1 y : EReal) = ∑ k ∈ Finset.range 2048, L k * R k := by
  unfold k0_pay1
  simp only [shapeCast_self]
  refine (shapeCast_addUnit_apply ![768, 2752] _ _ y).trans ?_
  refine dot_at D 2048 rfl rfl none _ _ (fun a => y a.succ) L R (fun q => ?_) (fun q => ?_)
  · exact (hl _ (lhs1 (fun a => y a.succ) q)).trans (congrArg L (D.lhsIdx_val_of_single rfl (fun a => y a.succ) q))
  · refine (shapeCast_dropUnit_apply ![2048, 2752] x1 _ _).trans ?_
    exact (hr _ (rhs1 (fun a => y a.succ) q)).trans (congrArg R (D.rhsIdx_val_of_single rfl (fun a => y a.succ) q))

theorem index0 : ∀ t : Fin grid0.N, win0_0.index t = ![t.val % 11, 0] := by decide +kernel

theorem index1 : ∀ t : Fin grid0.N, win0_1.index t = ![t.val / 11, 0, 0] := by decide +kernel

theorem index2 : ∀ t : Fin grid0.N, win0_2.index t = ![t.val / 11, t.val % 11, 0] := by decide +kernel

variable (m : (ℓ : Loc nD τ sig) → Buf (Elt Ideal) ℓ) (c : Dev nD)

theorem block0 (t : Fin cfg0.N) (x : S768x2048.Idx) : (iblk m c 0 t x : EReal) =
    rd2 (a := 8448) (b := 2048) (V m c main_v0) (768 * (t.val % 11) + (x 0).val) ((x 1).val) := by
  have h := index0 t
  refine rd2_of (a := 8448) (b := 2048) (V m c main_v0) _ ?_ ?_
  · exact tile (t.val % 11) 768 (congrFun h 0) (by omega)
  · exact tile 0 2048 (congrFun h 1) (by omega)

theorem block1 (t : Fin cfg0.N) (x : S1x2048x2752.Idx) : (iblk m c 1 t x : EReal) =
    rd3 (a := 4) (b := 2048) (c := 2752) (V m c main_v3) (t.val / 11) ((x 1).val) ((x 2).val) := by
  have h := index1 t
  have hx : (x 0).val = 0 := by have := (x 0).isLt; change _ < 1 at this; omega
  refine rd3_of (a := 4) (b := 2048) (c := 2752) (V m c main_v3) _ ?_ ?_ ?_
  · exact tile (t.val / 11) 1 (congrFun h 0) (by omega)
  · exact tile 0 2048 (congrFun h 1) (by omega)
  · exact tile 0 2752 (congrFun h 2) (by omega)

/-- The arguments. -/
abbrev A0 : (⟨2, ![8448, 2048]⟩ : Shape).Idx → EReal := m ((c.tc : Thread nD τ).loc main_arg0)
abbrev A1 : (⟨2, ![2048, 11008]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v3 : (⟨3, ![4, 2048, 2752]⟩ : Shape).Idx → EReal) =
    transpose S4x2048x2752 [1, 0, 2] (shapeCast S2048x4x2752 (A1 m c) (by decide)) (by decide) := by
  unfold V hostOps0
  after_results
  rfl

/-- The product of the two arguments' elements at row `p` and column `q` of the result and position `k` of the sum. -/
def term (p q k : ℕ) : EReal := rd2 (A0 m c) p k * rd2 (A1 m c) k q

/-- Each element of the result: the sum over all 2048 positions. -/
def out : S4x8448x2752.Idx → EReal := fun i => ∑ k ∈ Finset.range 2048, term m c ((i 1).val) (2752 * (i 0).val + (i 2).val) k

/-- What one step computes, in terms of the arguments. -/
theorem step (t : Fin cfg0.N) (y : S1x768x2752.Idx) :
    (k0_pay1 (F := Ideal) (iblk m c 0 t) (iblk m c 1 t) y : EReal) = ∑ k ∈ Finset.range 2048, term m c (768 * (t.val % 11) + (y 1).val) (2752 * (t.val / 11) + (y 2).val) k := by
  have hN : t.val < 44 := t.isLt
  have hy0 : (y 1).val < 768 := (y 1).isLt
  have hy1 : (y 2).val < 2752 := (y 2).isLt
  rw [pay1_at _ _ y
    (fun k => rd2 (a := 8448) (b := 2048) (V m c main_v0) (768 * (t.val % 11) + (y 1).val) (k))
    (fun k => rd3 (a := 4) (b := 2048) (c := 2752) (V m c main_v3) (t.val / 11) (k) ((y 2).val))
    (fun x hx => by rw [block0, hx]) (fun x hx => by rw [block1, hx])]
  refine Finset.sum_congr rfl fun k hk => ?_
  have hk' := Finset.mem_range.mp hk
  rw [V_0, V_1]
  unfold term
  refine congrArg₂ (· * ·) (Eq.trans (rfl) ?_) (Eq.trans (groups_at (A1 m c) rfl _ _ (by omega) (by omega) (by omega)) ?_)
  · congr 1 <;> omega
  · congr 1 <;> omega

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = win0_2.index t 0 * 1 + 1 * (y 0).val := rfl
  have hb1 : (((cfg0.win 2).blk t).view.emb y 1).val = win0_2.index t 1 * 768 + 1 * (y 1).val := rfl
  have hb2 : (((cfg0.win 2).blk t).view.emb y 2).val = win0_2.index t 2 * 2752 + 1 * (y 2).val := rfl
  rw [h] at hb0 hb1 hb2
  have hy : (y 0).val < 1 := (y 0).isLt
  show out0_2 (iblk m c 0 t) (iblk m c 1 t) ((cfg0.win 2).xinj (grid0.coords t) y) = out m c (((cfg0.win 2).blk t).view.emb y)
  unfold out0_2
  rw [View.canon_cons_unit_zero off3, View.ld_unit_zero off2, View.ld_unit_zero off3]
  refine (step m c t _).trans ?_
  refine Finset.sum_congr rfl fun k _ => ?_
  refine congrArg₂ (fun p q => term m c p q k) ?_ ?_
  · show 768 * (t.val % 11) + (y 1).val = (((cfg0.win 2).blk t).view.emb y 1).val
    rw [hb1]
    show 768 * (t.val % 11) + (y 1).val = (t.val % 11 * 768 + 1 * (y 1).val)
    omega
  · show 2752 * (t.val / 11) + (y 2).val = 2752 * (((cfg0.win 2).blk t).view.emb y 0).val + (((cfg0.win 2).blk t).view.emb y 2).val
    rw [hb0, hb2]
    show 2752 * (t.val / 11) + (y 2).val = 2752 * (t.val / 11 * 1 + 1 * (y 0).val) + (0 * 2752 + 1 * (y 2).val)
    omega

/-- Every element is in some point's block. -/
theorem covered (i : S4x8448x2752.Idx) : ∃ t : Fin cfg0.N, (cfg0.win 2).flush t = true ∧ i ∈ ((cfg0.win 2).blk t).view.set := by
  have b0 : (i 0).val < 4 := (i 0).isLt
  have b1 : (i 1).val < 8448 := (i 1).isLt
  have b2 : (i 2).val < 2752 := (i 2).isLt
  obtain ⟨t, ht⟩ : ∃ t : Fin cfg0.N, t.val = 11 * (i 0).val + (i 1).val / 768 := ⟨⟨_, show 11 * (i 0).val + (i 1).val / 768 < 44 by omega⟩, rfl⟩
  have h0 : win0_2.index t 0 = t.val / 11 := congrFun (index2 t) 0
  have h1 : win0_2.index t 1 = t.val % 11 := congrFun (index2 t) 1
  have h2 : win0_2.index t 2 = 0 := congrFun (index2 t) 2
  refine ⟨t, flush0_2 t, ?_⟩
  show i ∈ ((View.whole main_v4).slice (win0_2.rect t)).set
  rw [View.set_slice_whole, Rect.mem_set_unit]
  intro a
  match a with
    | ⟨0, _⟩ => exact within 1 (i 0).val h0 (by omega)
    | ⟨1, _⟩ => exact within 768 (i 1).val h1 (by omega)
    | ⟨2, _⟩ => exact within 2752 (i 2).val h2 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference12Ideal.Read in
/-- The reference's result is the same sum. -/
theorem ref_value (i : S4x8448x2752.Idx) :
    (val_main_v3 (F := Ideal) (A0 m c) (A1 m c) i : EReal) = ∑ k ∈ Finset.range 2048, term m c ((i 1).val) (2752 * (i 0).val + (i 2).val) k := by
  have b0 : (i 0).val < 4 := (i 0).isLt
  have b1 : (i 1).val < 8448 := (i 1).isLt
  have b2 : (i 2).val < 2752 := (i 2).isLt
  refine (val_main_v2_apply (F := Ideal) (A0 m c) (A1 m c) i).trans ?_
  rw [val_main_v1_apply, val_main_v0_apply]
  rw [← Fin.sum_univ_eq_sum_range (fun k => term m c ((i 1).val) (2752 * (i 0).val + (i 2).val) k)]
  refine Finset.sum_congr rfl fun k _ => ?_
  unfold term
  refine congrArg₂ (· * ·) (rd2_of (A0 m c) _ ?_ ?_) (rd2_of (A1 m c) _ ?_ ?_)
  · show (((i 1).val * 4 + (i 0).val) * 2752 + (i 2).val) / 11008 = _
    omega
  · rfl
  · rfl
  · show (((i 1).val * 4 + (i 0).val) * 2752 + (i 2).val) % 11008 = _
    omega

open Cert.Reference12Ideal.Read in
theorem ref_eq : val_main_v3 (F := Ideal) (A0 m c) (A1 m c) = out m c := funext fun i => ref_value m c i

end Cert.W13

end
-- ==== Proof.Prod.WIn.lean ====
module

public import proofs.«01_k».proof.Proof.Gen.Kernel13Ideal.Value
public import proofs.«01_k».proof.Proof.Gen.Reference13Ideal.Read
public import proofs.«01_k».proof.Proof.Prod.Base

/-! The input projection: the input times the weight. -/

@[expose] public section

set_option maxRecDepth 16384

noncomputable section

namespace Cert.WIn

open Cert.Kernel13Ideal Cert.Kernel13Ideal.Gen Cert.Kernel13Ideal.Value Cert.Prod
open Idealize.ShloMosaic Idealize.ShloMosaic.TcCoe Idealize.ShloMosaic.Tactic Idealize.SL.Sem

abbrev D := dot_S768x2048_S2048x3200_S768x3200_1_0_0_1_n_n

theorem lhs1 (i : S768x3200.Idx) (q : D.contr.Idx) : (D.lhsIdx i q 0).val = (i 0).val := lhs_at D i q (by decide) (by decide) rfl

theorem rhs1 (i : S768x3200.Idx) (q : D.contr.Idx) : (D.rhsIdx i q 1).val = (i 1).val := rhs_at D i q (by decide) (by decide) rfl

/-- One step computes the products over all 2048 positions. -/
theorem pay1_at (x0 : FVec Ideal S768x2048 .bf16) (x1 : FVec Ideal S1x2048x3200 .bf16) (y : S768x3200.Idx)
    (L R : ℕ → EReal) (hl : ∀ x : S768x2048.Idx, (x 0).val = (y 0).val → x0 x = L (x 1).val)
    (hr : ∀ x : S1x2048x3200.Idx, (x 2).val = (y 1).val → x1 x = R (x 1).val) :
    (k0_pay1 (F := Ideal) x0 x1 y : EReal) = ∑ k ∈ Finset.range 2048, L k * R k := by
  unfold k0_pay1
  simp only [shapeCast_self]
  refine dot_at D 2048 rfl rfl none _ _ y L R (fun q => ?_) (fun q => ?_)
  · exact (hl _ (lhs1 y q)).trans (congrArg L (D.lhsIdx_val_of_single rfl y q))
  · refine (shapeCast_dropUnit_apply ![2048, 3200] x1 _ _).trans ?_
    exact (hr _ (rhs1 y q)).trans (congrArg R (D.rhsIdx_val_of_single rfl y q))

theorem index0 : ∀ t : Fin grid0.N, win0_0.index t = ![t.val % 11, 0] := by decide +kernel

theorem index1 : ∀ t : Fin grid0.N, win0_1.index t = ![t.val / 11, 0, 0] := by decide +kernel

theorem index2 : ∀ t : Fin grid0.N, win0_2.index t = ![t.val % 11, t.val / 11] := by decide +kernel

variable (m : (ℓ : Loc nD τ sig) → Buf (Elt Ideal) ℓ) (c : Dev nD)

theorem block0 (t : Fin cfg0.N) (x : S768x2048.Idx) : (iblk m c 0 t x : EReal) =
    rd2 (a := 8448) (b := 2048) (V m c main_v0) (768 * (t.val % 11) + (x 0).val) ((x 1).val) := by
  have h := index0 t
  refine rd2_of (a := 8448) (b := 2048) (V m c main_v0) _ ?_ ?_
  · exact tile (t.val % 11) 768 (congrFun h 0) (by omega)
  · exact tile 0 2048 (congrFun h 1) (by omega)

theorem block1 (t : Fin cfg0.N) (x : S1x2048x3200.Idx) : (iblk m c 1 t x : EReal) =
    rd3 (a := 4) (b := 2048) (c := 3200) (V m c main_v3) (t.val / 11) ((x 1).val) ((x 2).val) := by
  have h := index1 t
  have hx : (x 0).val = 0 := by have := (x 0).isLt; change _ < 1 at this; omega
  refine rd3_of (a := 4) (b := 2048) (c := 3200) (V m c main_v3) _ ?_ ?_ ?_
  · exact tile (t.val / 11) 1 (congrFun h 0) (by omega)
  · exact tile 0 2048 (congrFun h 1) (by omega)
  · exact tile 0 3200 (congrFun h 2) (by omega)

/-- The arguments. -/
abbrev A0 : (⟨2, ![8448, 2048]⟩ : Shape).Idx → EReal := m ((c.tc : Thread nD τ).loc main_arg0)
abbrev A1 : (⟨2, ![2048, 12800]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v3 : (⟨3, ![4, 2048, 3200]⟩ : Shape).Idx → EReal) =
    transpose S4x2048x3200 [1, 0, 2] (shapeCast S2048x4x3200 (A1 m c) (by decide)) (by decide) := by
  unfold V hostOps0
  after_results
  rfl

/-- The product of the two arguments' elements at row `p` and column `q` of the result and position `k` of the sum. -/
def term (p q k : ℕ) : EReal := rd2 (A0 m c) p k * rd2 (A1 m c) k q

/-- Each element of the result: the sum over all 2048 positions. -/
def out : S8448x12800.Idx → EReal := fun i => ∑ k ∈ Finset.range 2048, term m c ((i 0).val) ((i 1).val) k

/-- What one step computes, in terms of the arguments. -/
theorem step (t : Fin cfg0.N) (y : S768x3200.Idx) :
    (k0_pay1 (F := Ideal) (iblk m c 0 t) (iblk m c 1 t) y : EReal) = ∑ k ∈ Finset.range 2048, term m c (768 * (t.val % 11) + (y 0).val) (3200 * (t.val / 11) + (y 1).val) k := by
  have hN : t.val < 44 := t.isLt
  have hy0 : (y 0).val < 768 := (y 0).isLt
  have hy1 : (y 1).val < 3200 := (y 1).isLt
  rw [pay1_at _ _ y
    (fun k => rd2 (a := 8448) (b := 2048) (V m c main_v0) (768 * (t.val % 11) + (y 0).val) (k))
    (fun k => rd3 (a := 4) (b := 2048) (c := 3200) (V m c main_v3) (t.val / 11) (k) ((y 1).val))
    (fun x hx => by rw [block0, hx]) (fun x hx => by rw [block1, hx])]
  refine Finset.sum_congr rfl fun k hk => ?_
  have hk' := Finset.mem_range.mp hk
  rw [V_0, V_1]
  unfold term
  refine congrArg₂ (· * ·) (Eq.trans (rfl) ?_) (Eq.trans (groups_at (A1 m c) rfl _ _ (by omega) (by omega) (by omega)) ?_)
  · congr 1 <;> omega
  · congr 1 <;> omega

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = win0_2.index t 0 * 768 + 1 * (y 0).val := rfl
  have hb1 : (((cfg0.win 2).blk t).view.emb y 1).val = win0_2.index t 1 * 3200 + 1 * (y 1).val := rfl
  rw [h] at hb0 hb1
  show out0_2 (iblk m c 0 t) (iblk m c 1 t) ((cfg0.win 2).xinj (grid0.coords t) y) = out m c (((cfg0.win 2).blk t).view.emb y)
  unfold out0_2
  rw [View.canon_cons_unit_zero off2, View.ld_unit_zero off2, View.ld_unit_zero off3]
  refine (step m c t _).trans ?_
  refine Finset.sum_congr rfl fun k _ => ?_
  refine congrArg₂ (fun p q => term m c p q k) ?_ ?_
  · show 768 * (t.val % 11) + (y 0).val = (((cfg0.win 2).blk t).view.emb y 0).val
    rw [hb0]
    show 768 * (t.val % 11) + (y 0).val = (t.val % 11 * 768 + 1 * (y 0).val)
    omega
  · show 3200 * (t.val / 11) + (y 1).val = (((cfg0.win 2).blk t).view.emb y 1).val
    rw [hb1]
    show 3200 * (t.val / 11) + (y 1).val = (t.val / 11 * 3200 + 1 * (y 1).val)
    omega

/-- Every element is in some point's block. -/
theorem covered (i : S8448x12800.Idx) : ∃ t : Fin cfg0.N, (cfg0.win 2).flush t = true ∧ i ∈ ((cfg0.win 2).blk t).view.set := by
  have b0 : (i 0).val < 8448 := (i 0).isLt
  have b1 : (i 1).val < 12800 := (i 1).isLt
  obtain ⟨t, ht⟩ : ∃ t : Fin cfg0.N, t.val = 11 * ((i 1).val / 3200) + (i 0).val / 768 := ⟨⟨_, show 11 * ((i 1).val / 3200) + (i 0).val / 768 < 44 by omega⟩, rfl⟩
  have h0 : win0_2.index t 0 = t.val % 11 := congrFun (index2 t) 0
  have h1 : win0_2.index t 1 = t.val / 11 := congrFun (index2 t) 1
  refine ⟨t, flush0_2 t, ?_⟩
  show i ∈ ((View.whole main_v4).slice (win0_2.rect t)).set
  rw [View.set_slice_whole, Rect.mem_set_unit]
  intro a
  match a with
    | ⟨0, _⟩ => exact within 768 (i 0).val h0 (by omega)
    | ⟨1, _⟩ => exact within 3200 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference13Ideal.Read in
/-- The reference's result is the same sum. -/
theorem ref_value (i : S8448x12800.Idx) :
    (val_main_v1 (F := Ideal) (A0 m c) (A1 m c) i : EReal) = ∑ k ∈ Finset.range 2048, term m c ((i 0).val) ((i 1).val) k := by
  have b0 : (i 0).val < 8448 := (i 0).isLt
  have b1 : (i 1).val < 12800 := (i 1).isLt
  refine (val_main_v0_apply (A0 m c) (A1 m c) i).trans ?_
  rw [← Fin.sum_univ_eq_sum_range (fun k => term m c ((i 0).val) ((i 1).val) k)]
  refine Finset.sum_congr rfl fun k _ => ?_
  unfold term
  refine congrArg₂ (· * ·) (rd2_of (A0 m c) _ ?_ ?_) (rd2_of (A1 m c) _ ?_ ?_)
  · rfl
  · rfl
  · rfl
  · rfl

open Cert.Reference13Ideal.Read in
theorem ref_eq : val_main_v1 (F := Ideal) (A0 m c) (A1 m c) = out m c := funext fun i => ref_value m c i

end Cert.WIn

end
-- ==== Proof.Prod.W2.lean ====
module

public import proofs.«01_k».proof.Proof.Gen.Kernel14Ideal.Value
public import proofs.«01_k».proof.Proof.Gen.Reference14Ideal.Read
public import proofs.«01_k».proof.Proof.Prod.Base

/-! The feed-forward layer's second product: the input times the weight, in two halves of its positions, and the residual, half a
    gate's multiple of the product added to it. -/

@[expose] public section

set_option maxRecDepth 16384

noncomputable section

namespace Cert.W2

open Cert.Kernel14Ideal Cert.Kernel14Ideal.Gen Cert.Kernel14Ideal.Value Cert.Prod
open Idealize.ShloMosaic Idealize.ShloMosaic.TcCoe Idealize.ShloMosaic.Tactic Idealize.SL.Sem

abbrev D := dot_S768x2752_S2752x1024_S768x1024_1_0_0_1_n_n

theorem lhs1 (i : S768x1024.Idx) (q : D.contr.Idx) : (D.lhsIdx i q 0).val = (i 0).val := lhs_at D i q (by decide) (by decide) rfl

theorem rhs1 (i : S768x1024.Idx) (q : D.contr.Idx) : (D.rhsIdx i q 1).val = (i 1).val := rhs_at D i q (by decide) (by decide) rfl

section Points

variable {F : FTy → Type} [FloatOps F]
variable (m : (ℓ : Loc nD τ sig) → Buf (Elt F) ℓ) (c : Dev nD)

abbrev g0 : Rect S2x9x1x1024 := Rect.unit (s := S2x9x1x1024) ![0, 2, 0, 0] S1x1x1x1024.size inb_S2x9x1x1024_S1x1x1x1024_0_2_0_0
abbrev g1 : Rect S2x9x1x1024 := Rect.unit (s := S2x9x1x1024) ![1, 2, 0, 0] S1x1x1x1024.size inb_S2x9x1x1024_S1x1x1x1024_1_2_0_0

/-- The first step of a block: the product is added to zeros. -/
theorem first (t : Fin cfg0.N) (h0 : t.val % 2 = 0) (h1 : ¬t.val % 2 = 1) :
    (outsAt0 m c t.val t.isLt).2.2 = k0_pay2 (k0_pay1 (F := F)) (iblk m c 0 t) (iblk m c 1 t) := by
  rw [outsAt0_A m c t h0 h1]
  dsimp only
  unfold sout0_A_0
  rw [View.read_writes_eq_canon _ _ _ (scover0_A_0 c _ _ _ _ _ _ _ _ _ _ _ _ _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off3, View.ld_unit_zero off3]

/-- The last step writes the block of the residual. -/
theorem last0 (t : Fin cfg0.N) (h0 : ¬t.val % 2 = 0) (h1 : t.val % 2 = 1) (hp : t.val - 1 < cfg0.N) :
    (outsAt0 m c t.val t.isLt).1 = k0_pay4 (grid0.coords t) (k0_pay2 (outsAt0 m c (t.val - 1) hp).2.2 (iblk m c 0 t) (iblk m c 1 t))
      (View.ld (iblk m c 3 t) g0) (View.ld (iblk m c 3 t) g1) (iblk m c 2 t) := by
  rw [outsAt0_B m c t h0 h1]
  dsimp only
  unfold out0_B_4
  rw [View.read_writes_eq_canon _ _ _ (cover0_B_4 c _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread]
  refine (View.canon_cons_unit_zero off2 _ _ _).trans ?_
  rw [View.readCov_unit_zero _ off2, View.ld_unit_zero off2, View.ld_unit_zero off3, View.ld_unit_zero off3, View.ld_unit_zero off2]
  exact congrArg (fun x => k0_pay4 (grid0.coords t) (k0_pay2 x (iblk m c 0 t) (iblk m c 1 t))
    (View.ld (iblk m c 3 t) g0) (View.ld (iblk m c 3 t) g1) (iblk m c 2 t)) (Memref.IsWhole.read_unread (Memref.isWhole_whole _) _)

/-- The last step writes the block of the product. -/
theorem last1 (t : Fin cfg0.N) (h0 : ¬t.val % 2 = 0) (h1 : t.val % 2 = 1) (hp : t.val - 1 < cfg0.N) :
    (outsAt0 m c t.val t.isLt).2.1 = k0_pay3 (k0_pay2 (outsAt0 m c (t.val - 1) hp).2.2 (iblk m c 0 t) (iblk m c 1 t)) := by
  rw [outsAt0_B m c t h0 h1]
  dsimp only
  unfold out0_B_5
  rw [View.read_writes_eq_canon _ _ _ (cover0_B_5 c _ _ _ _ _ _ _ _ _ _ _ _ _ _ _ _ _ _ _ _ _ _)]
  unfold kernelRun0_B
  dsimp only
  sl_unfold_words
  simp only [View.readAt_eq_ld, (hs0_0 t).read_unread, (hs0_1 t).read_unread]
  refine (View.canon_cons_unit_zero off2 _ _ _).trans ?_
  rw [View.readCov_unit_zero _ off2, View.ld_unit_zero off2, View.ld_unit_zero off3, View.ld_unit_zero off3]
  exact congrArg (fun x => k0_pay3 (k0_pay2 x (iblk m c 0 t) (iblk m c 1 t))) (Memref.IsWhole.read_unread (Memref.isWhole_whole _) _)

end Points

theorem pay1_at (y : S768x1024.Idx) : (k0_pay1 (F := Ideal) y : EReal) = 0 := by
  unfold k0_pay1
  simp only [shapeCast_self]
  exact Ideal.ofBits_zero_f32

/-- One step adds the products over its 2752 positions. -/
theorem pay2_at (acc : FVec Ideal S768x1024 .f32) (x0 : FVec Ideal S1x768x2752 .bf16) (x1 : FVec Ideal S1x2752x1024 .bf16) (y : S768x1024.Idx)
    (L R : ℕ → EReal) (hl : ∀ x : S1x768x2752.Idx, (x 1).val = (y 0).val → x0 x = L (x 2).val)
    (hr : ∀ x : S1x2752x1024.Idx, (x 2).val = (y 1).val → x1 x = R (x 1).val) :
    (k0_pay2 (F := Ideal) acc x0 x1 y : EReal) = acc y + ∑ k ∈ Finset.range 2752, L k * R k := by
  unfold k0_pay2
  simp only [shapeCast_self]
  rw [ValueIdx.addf_apply]
  refine congrArg (acc y + ·) ?_
  refine dot_at D 2752 rfl rfl none _ _ y L R (fun q => ?_) (fun q => ?_)
  · refine (shapeCast_dropUnit_apply ![768, 2752] x0 _ _).trans ?_
    exact (hl _ (lhs1 y q)).trans (congrArg L (D.lhsIdx_val_of_single rfl y q))
  · refine (shapeCast_dropUnit_apply ![2752, 1024] x1 _ _).trans ?_
    exact (hr _ (rhs1 y q)).trans (congrArg R (D.rhsIdx_val_of_single rfl y q))

/-- A row of a modulation table, repeated along the rows. -/
theorem gate_row (v : FVec Ideal S1x1x1x1024 .f32) (y : S768x1024.Idx) (G : ℕ → EReal)
    (hv : ∀ x : S1x1x1x1024.Idx, v x = G (x 3).val) :
    (broadcastTo S768x1024 (shapeCast S1x1024 v shapeCasts_S1x1x1x1024_S1x1024) broadcasts_S1x1024_S768x1024 y : EReal) = G (y 1).val := by
  have hy : (y 1).val < 1024 := (y 1).isLt
  refine (broadcastTo_apply _ broadcasts_S1x1024_S768x1024 y
    (fun d => match d with | ⟨0, _⟩ => ⟨0, Nat.one_pos⟩ | ⟨1, _⟩ => ⟨(y 1).val, hy⟩ : S1x1024.Idx)
    (fun a => match a with | ⟨0, _⟩ => rfl | ⟨1, _⟩ => rfl)).trans ?_
  refine (shapeCast_apply v shapeCasts_S1x1x1x1024_S1x1024 _
    (fun d => match d with | ⟨0, _⟩ => ⟨0, Nat.one_pos⟩ | ⟨1, _⟩ => ⟨0, Nat.one_pos⟩ | ⟨2, _⟩ => ⟨0, Nat.one_pos⟩ | ⟨3, _⟩ => ⟨(y 1).val, hy⟩ : S1x1x1x1024.Idx) ?_).trans ?_
  · rw [Shape.rowMajor_val_four, Shape.rowMajor_val_two]
    show ((0 * 1 + 0) * 1 + 0) * 1024 + (y 1).val = 0 * 1024 + (y 1).val
    omega
  · exact hv _

/-- The residual: what is added is half the gate's row times the product. -/
theorem pay4_at (i : grid0.Coords) (v16 : FVec Ideal S768x1024 .f32) (v23 v25 : FVec Ideal S1x1x1x1024 .f32)
    (v34 : FVec Ideal S768x1024 .f32) (y : S768x1024.Idx) (G H : ℕ → EReal)
    (hG : ∀ x : S1x1x1x1024.Idx, v23 x = G (x 3).val) (hH : ∀ x : S1x1x1x1024.Idx, v25 x = H (x 3).val) :
    (k0_pay4 (F := Ideal) i v16 v23 v25 v34 y : EReal) = v34 y
      + Ideal.ofBits .f32 0x3F000000#32 * Scalar.select (IntOp.cmpi .slt (BitVec.ofNat 32 (768 * (i 0).val + (y 0).val)) 256#32) (G (y 1).val) (H (y 1).val)
        * v16 y := by
  unfold k0_pay4
  simp only [shapeCast_self]
  show v34 y + Ideal.ofBits .f32 0x3F000000#32 * Scalar.select (IntOp.cmpi .slt (IntOp.addi (Scalar.muli (BitVec.ofNat 32 (i 0).val) (BitVec.ofNat 32 768)) (iota .tc S768x1024 32 [0] iota_S768x1024_d0_w32 y)) 256#32)
    (broadcastTo S768x1024 (shapeCast S1x1024 v23 shapeCasts_S1x1x1x1024_S1x1024) broadcasts_S1x1024_S768x1024 y)
    (broadcastTo S768x1024 (shapeCast S1x1024 v25 shapeCasts_S1x1x1x1024_S1x1024) broadcasts_S1x1024_S768x1024 y)
    * v16 y = _
  rw [gate_row v23 y G hG, gate_row v25 y H hH, iota_single_apply, row_at]

theorem coord0 : ∀ t : Fin grid0.N, (grid0.coords t 0).val = t.val / 4 := by decide +kernel

theorem index0 : ∀ t : Fin grid0.N, win0_0.index t = ![t.val % 2, t.val / 4, 0] := by decide +kernel

theorem index1 : ∀ t : Fin grid0.N, win0_1.index t = ![t.val % 2, 0, t.val / 2 % 2] := by decide +kernel

theorem index2 : ∀ t : Fin grid0.N, win0_2.index t = ![t.val / 4, t.val / 2 % 2] := by decide +kernel

theorem index3 : ∀ t : Fin grid0.N, win0_3.index t = ![0, 0, 0, t.val / 2 % 2] := by decide +kernel

variable (m : (ℓ : Loc nD τ sig) → Buf (Elt Ideal) ℓ) (c : Dev nD)

theorem block0 (t : Fin cfg0.N) (x : S1x768x2752.Idx) : (iblk m c 0 t x : EReal) =
    rd3 (a := 2) (b := 8448) (c := 2752) (V m c main_v2) (t.val % 2) (768 * (t.val / 4) + (x 1).val) ((x 2).val) := by
  have h := index0 t
  have hx : (x 0).val = 0 := by have := (x 0).isLt; change _ < 1 at this; omega
  refine rd3_of (a := 2) (b := 8448) (c := 2752) (V m c main_v2) _ ?_ ?_ ?_
  · exact tile (t.val % 2) 1 (congrFun h 0) (by omega)
  · exact tile (t.val / 4) 768 (congrFun h 1) (by omega)
  · exact tile 0 2752 (congrFun h 2) (by omega)

theorem block1 (t : Fin cfg0.N) (x : S1x2752x1024.Idx) : (iblk m c 1 t x : EReal) =
    rd3 (a := 2) (b := 2752) (c := 2048) (V m c main_v4) (t.val % 2) ((x 1).val) (1024 * (t.val / 2 % 2) + (x 2).val) := by
  have h := index1 t
  have hx : (x 0).val = 0 := by have := (x 0).isLt; change _ < 1 at this; omega
  refine rd3_of (a := 2) (b := 2752) (c := 2048) (V m c main_v4) _ ?_ ?_ ?_
  · exact tile (t.val % 2) 1 (congrFun h 0) (by omega)
  · exact tile 0 2752 (congrFun h 1) (by omega)
  · exact tile (t.val / 2 % 2) 1024 (congrFun h 2) (by omega)

theorem block2 (t : Fin cfg0.N) (x : S768x1024.Idx) : (iblk m c 2 t x : EReal) =
    rd2 (a := 8448) (b := 2048) (V m c main_arg2) (768 * (t.val / 4) + (x 0).val) (1024 * (t.val / 2 % 2) + (x 1).val) := by
  have h := index2 t
  refine rd2_of (a := 8448) (b := 2048) (V m c main_arg2) _ ?_ ?_
  · exact tile (t.val / 4) 768 (congrFun h 0) (by omega)
  · exact tile (t.val / 2 % 2) 1024 (congrFun h 1) (by omega)

theorem block3 (t : Fin cfg0.N) (x : S2x9x1x1024.Idx) : (iblk m c 3 t x : EReal) =
    rd4 (a := 2) (b := 9) (c := 1) (e := 2048) (V m c main_arg3) ((x 0).val) ((x 1).val) ((x 2).val) (1024 * (t.val / 2 % 2) + (x 3).val) := by
  have h := index3 t
  refine rd4_of (a := 2) (b := 9) (c := 1) (e := 2048) (V m c main_arg3) _ ?_ ?_ ?_ ?_
  · exact tile 0 2 (congrFun h 0) (by omega)
  · exact tile 0 9 (congrFun h 1) (by omega)
  · exact tile 0 1 (congrFun h 2) (by omega)
  · exact tile (t.val / 2 % 2) 1024 (congrFun h 3) (by omega)

/-- The arguments. -/
abbrev A0 : (⟨2, ![8448, 5504]⟩ : Shape).Idx → EReal := m ((c.tc : Thread nD τ).loc main_arg0)
abbrev A1 : (⟨2, ![5504, 2048]⟩ : Shape).Idx → EReal := m ((c.tc : Thread nD τ).loc main_arg1)
abbrev A2 : (⟨2, ![8448, 2048]⟩ : Shape).Idx → EReal := m ((c.tc : Thread nD τ).loc main_arg2)
abbrev A3 : (⟨4, ![2, 9, 1, 2048]⟩ : Shape).Idx → EReal := m ((c.tc : Thread nD τ).loc main_arg3)

theorem V_0 : (V m c main_v2 : (⟨3, ![2, 8448, 2752]⟩ : Shape).Idx → EReal) =
    transpose S2x8448x2752 [1, 0, 2] (shapeCast S8448x2x2752 (A0 m c) (by decide)) (by decide) := by
  unfold V hostOps0
  after_results
  rfl

theorem V_1 : (V m c main_v4 : (⟨3, ![2, 2752, 2048]⟩ : Shape).Idx → EReal) = shapeCast S2x2752x2048 (A1 m c) (by decide) := by
  unfold V hostOps0
  after_results
  rfl

theorem gate0 (t : Fin cfg0.N) (x : S1x1x1x1024.Idx) : (View.ld (iblk m c 3 t) g0 x : EReal) = rd4 (A3 m c) 0 2 0 (1024 * (t.val / 2 % 2) + (x 3).val) := by
  have h0 : (x 0).val < 1 := (x 0).isLt
  have h1 : (x 1).val < 1 := (x 1).isLt
  have h2 : (x 2).val < 1 := (x 2).isLt
  refine (block3 m c t (g0.emb x)).trans ?_
  rw [V_main_arg3]
  have e0 : (g0.emb x 0).val = 0 + 1 * (x 0).val := rfl
  have e1 : (g0.emb x 1).val = 2 + 1 * (x 1).val := rfl
  have e2 : (g0.emb x 2).val = 0 + 1 * (x 2).val := rfl
  have e3 : (g0.emb x 3).val = 0 + 1 * (x 3).val := rfl
  congr 1 <;> omega

theorem gate1 (t : Fin cfg0.N) (x : S1x1x1x1024.Idx) : (View.ld (iblk m c 3 t) g1 x : EReal) = rd4 (A3 m c) 1 2 0 (1024 * (t.val / 2 % 2) + (x 3).val) := by
  have h0 : (x 0).val < 1 := (x 0).isLt
  have h1 : (x 1).val < 1 := (x 1).isLt
  have h2 : (x 2).val < 1 := (x 2).isLt
  refine (block3 m c t (g1.emb x)).trans ?_
  rw [V_main_arg3]
  have e0 : (g1.emb x 0).val = 1 + 1 * (x 0).val := rfl
  have e1 : (g1.emb x 1).val = 2 + 1 * (x 1).val := rfl
  have e2 : (g1.emb x 2).val = 0 + 1 * (x 2).val := rfl
  have e3 : (g1.emb x 3).val = 0 + 1 * (x 3).val := rfl
  congr 1 <;> omega

/-- The product of the two arguments' elements at row `p` and column `q` of the result and position `k` of the sum. -/
def term (p q k : ℕ) : EReal := rd2 (A0 m c) p k * rd2 (A1 m c) k q

/-- Each element of the product: the sum over all 5504 positions. -/
def prod (p q : ℕ) : EReal := ∑ k ∈ Finset.range 5504, term m c p q k

/-- One step of the accumulation, in terms of the arguments. -/
theorem step (t : Fin cfg0.N) (acc : FVec Ideal S768x1024 .f32) (y : S768x1024.Idx) :
    (k0_pay2 (F := Ideal) acc (iblk m c 0 t) (iblk m c 1 t) y : EReal) =
      acc y + ∑ k ∈ Finset.range 2752, term m c (768 * (t.val / 4) + (y 0).val) (1024 * (t.val / 2 % 2) + (y 1).val) (2752 * (t.val % 2) + k) := by
  have hN : t.val < 44 := lt_of_lt_of_eq t.isLt N_0
  have hy0 : (y 0).val < 768 := (y 0).isLt
  have hy1 : (y 1).val < 1024 := (y 1).isLt
  rw [pay2_at acc _ _ y
    (fun k => rd3 (a := 2) (b := 8448) (c := 2752) (V m c main_v2) (t.val % 2) (768 * (t.val / 4) + (y 0).val) k)
    (fun k => rd3 (a := 2) (b := 2752) (c := 2048) (V m c main_v4) (t.val % 2) k (1024 * (t.val / 2 % 2) + (y 1).val))
    (fun x hx => by rw [block0, hx]) (fun x hx => by rw [block1, hx])]
  refine congrArg (acc y + ·) (Finset.sum_congr rfl fun k hk => ?_)
  have hk' := Finset.mem_range.mp hk
  rw [V_0, V_1]
  unfold term
  exact congrArg₂ (· * ·) (groups_at (A0 m c) rfl _ _ (by omega) (by omega) (by omega)) (rows_at (A1 m c) rfl _ (by omega) (by omega) (by omega))

/-- The two steps of a block make the product. -/
theorem both (t : Fin cfg0.N) (h1 : t.val % 2 = 1) (hp : t.val - 1 < cfg0.N) (y : S768x1024.Idx) :
    (k0_pay2 (F := Ideal) (outsAt0 m c (t.val - 1) hp).2.2 (iblk m c 0 t) (iblk m c 1 t) y : EReal) =
      prod m c (768 * (t.val / 4) + (y 0).val) (1024 * (t.val / 2 % 2) + (y 1).val) := by
  rw [step, first m c ⟨t.val - 1, hp⟩ (by show (t.val - 1) % 2 = 0; omega) (by show ¬(t.val - 1) % 2 = 1; omega), step, pay1_at, zero_add]
  show ∑ k ∈ Finset.range 2752, term m c (768 * ((t.val - 1) / 4) + (y 0).val) (1024 * ((t.val - 1) / 2 % 2) + (y 1).val) (2752 * ((t.val - 1) % 2) + k) + _ = _
  rw [h1, show (t.val - 1) / 4 = t.val / 4 by omega, show (t.val - 1) / 2 = t.val / 2 by omega, show (t.val - 1) % 2 = 0 by omega]
  unfold prod
  rw [show 5504 = 2752 * (1 + 1) from rfl, ← sum_next _ 2752 1]
  refine congrArg (· + _) ?_
  exact Finset.sum_congr rfl fun k _ => by rw [Nat.mul_zero, Nat.zero_add]

/-- Half. -/
abbrev half : EReal := Ideal.ofBits .f32 0x3F000000#32

/-- The first result: the residual and half the gate's multiple of the product. -/
theorem value0 (i : S8448x2048.Idx) : (G4 m c i : EReal) =
    rd2 (A2 m c) (i 0).val (i 1).val + half * gateAt (A3 m c) 2 (i 0).val (i 1).val * prod m c (i 0).val (i 1).val := by
  have b0 : (i 0).val < 8448 := (i 0).isLt
  have b1 : (i 1).val < 2048 := (i 1).isLt
  have hpt : pt4Of i = 4 * ((i 0).val / 768) + 2 * ((i 1).val / 1024) + 1 := by
    show 2 * (2 * ((i 0).val / 768 - 0) + 1 * ((i 1).val / 1024 - 0)) + 1 = _
    omega
  have hn : pt4Of i < cfg0.N := by rw [show cfg0.N = 44 from N_0]; omega
  have hp : pt4Of i - 1 < cfg0.N := by omega
  have hm : pt4Of i % 2 = 1 := by omega
  unfold G4
  rw [dif_pos hn]
  have e := outsAt0_sweep m c (pt4Of i) hn
  rw [show (Pipeline.accAt (fun n h => stAt0 m c n h junk0) (stAt0 m c) 0 (pt4Of i) (by omega)).1 = (outsAt0 m c (pt4Of i) hn).1 from
    congrArg Prod.fst e.symm]
  refine (congrFun (last0 m c ⟨pt4Of i, hn⟩ (by show ¬pt4Of i % 2 = 0; omega) hm hp) (loc4Of i)).trans ?_
  refine (pay4_at _ _ _ _ _ (loc4Of i) (fun q => rd4 (A3 m c) 0 2 0 (1024 * (pt4Of i / 2 % 2) + q)) (fun q => rd4 (A3 m c) 1 2 0 (1024 * (pt4Of i / 2 % 2) + q))
    (fun x => gate0 m c ⟨pt4Of i, hn⟩ x) (fun x => gate1 m c ⟨pt4Of i, hn⟩ x)).trans ?_
  rw [coord0, block2, V_main_arg2, both m c ⟨pt4Of i, hn⟩ hm hp]
  have e0 : 768 * (pt4Of i / 4) + ((loc4Of i) 0).val = (i 0).val := by
    show 768 * (pt4Of i / 4) + (i 0).val % 768 = _
    omega
  have e1 : 1024 * (pt4Of i / 2 % 2) + ((loc4Of i) 1).val = (i 1).val := by
    show 1024 * (pt4Of i / 2 % 2) + (i 1).val % 1024 = _
    omega
  dsimp only
  rw [e0, e1]
  rfl

/-- The second result: the product. -/
theorem value1 (i : S8448x2048.Idx) : (G5 m c i : EReal) = prod m c (i 0).val (i 1).val := by
  have b0 : (i 0).val < 8448 := (i 0).isLt
  have b1 : (i 1).val < 2048 := (i 1).isLt
  have hpt : pt5Of i = 4 * ((i 0).val / 768) + 2 * ((i 1).val / 1024) + 1 := by
    show 2 * (2 * ((i 0).val / 768 - 0) + 1 * ((i 1).val / 1024 - 0)) + 1 = _
    omega
  have hn : pt5Of i < cfg0.N := by rw [show cfg0.N = 44 from N_0]; omega
  have hp : pt5Of i - 1 < cfg0.N := by omega
  have hm : pt5Of i % 2 = 1 := by omega
  unfold G5
  rw [dif_pos hn]
  have e := outsAt0_sweep m c (pt5Of i) hn
  rw [show (Pipeline.accAt (fun n h => stAt0 m c n h junk0) (stAt0 m c) 0 (pt5Of i) (by omega)).2.1 = (outsAt0 m c (pt5Of i) hn).2.1 from
    congrArg (fun z => z.2.1) e.symm]
  refine (congrFun (last1 m c ⟨pt5Of i, hn⟩ (by show ¬pt5Of i % 2 = 0; omega) hm hp) (loc5Of i)).trans ?_
  refine (both m c ⟨pt5Of i, hn⟩ hm hp (loc5Of i)).trans ?_
  refine congrArg₂ (fun p q => prod m c p q) ?_ ?_
  · show 768 * (pt5Of i / 4) + (i 0).val % 768 = _
    omega
  · show 1024 * (pt5Of i / 2 % 2) + (i 1).val % 1024 = _
    omega

open Cert.Reference14Ideal.Read in
/-- The reference's product is the same sum. -/
theorem ref_prod (i : S8448x2048.Idx) :
    (val_main_v11 (F := Ideal) (A0 m c) (A1 m c) i : EReal) = prod m c (i 0).val (i 1).val := by
  rw [val_main_v11_apply]
  unfold prod
  rw [← Fin.sum_univ_eq_sum_range (fun k => term m c (i 0).val (i 1).val k)]
  refine Finset.sum_congr rfl fun k _ => ?_
  exact congrArg₂ (· * ·) (rd2_of (A0 m c) _ rfl rfl) (rd2_of (A1 m c) _ rfl rfl)

open Cert.Reference14Ideal.Read in
/-- The reference's gate is the same row of the table. -/
theorem ref_gate (i : S8448x2048.Idx) : (val_main_v8 (F := Ideal) (A3 m c) i : EReal) = gateAt (A3 m c) 2 (i 0).val (i 1).val := by
  have b1 : (i 1).val < 2048 := (i 1).isLt
  rw [val_main_v8_apply, val_main_call0_v0_apply, val_main_call0_v1_apply, val_main_call0_v2_apply, val_main_v1_apply, val_main_v3_apply,
    val_main_v0_apply, val_main_v2_apply]
  unfold gateAt
  refine congrArg₂ (fun a b => Scalar.select (IntOp.cmpi .slt (BitVec.ofNat 32 (i 0).val) 256#32) a b) ?_ ?_
  · refine rd4_of (A3 m c) _ rfl rfl rfl ?_
    show (0 * 2048 + (i 1).val) % 2048 = _
    omega
  · refine rd4_of (A3 m c) _ rfl rfl rfl ?_
    show (0 * 2048 + (i 1).val) % 2048 = _
    omega

open Cert.Reference14Ideal.Read in
theorem ref_eq0 : val_main_v13 (F := Ideal) (A0 m c) (A1 m c) (A2 m c) (A3 m c) = G4 m c := funext fun i => by
  refine Eq.trans ?_ (value0 m c i).symm
  rw [val_main_v13_apply, val_main_v12_apply, val_main_v10_apply, val_main_v9_apply, ref_prod, ref_gate, rd2_of (A2 m c) i rfl rfl]
  rfl

open Cert.Reference14Ideal.Read in
theorem ref_eq1 : val_main_v14 (F := Ideal) (A0 m c) (A1 m c) = G5 m c := funext fun i => (ref_prod m c i).trans (value1 m c i).symm

end Cert.W2

end
-- ==== Proof.Prod.WOut.lean ====
module

public import proofs.«01_k».proof.Proof.Gen.Kernel15Ideal.Value
public import proofs.«01_k».proof.Proof.Gen.Reference15Ideal.Read
public import proofs.«01_k».proof.Proof.Prod.Base

/-! The output projection: the input times the weight, and the residual, a gate's multiple of the product added to it. -/

@[expose] public section

set_option maxRecDepth 16384

noncomputable section

namespace Cert.WOut

open Cert.Kernel15Ideal Cert.Kernel15Ideal.Gen Cert.Kernel15Ideal.Value Cert.Prod
open Idealize.ShloMosaic Idealize.ShloMosaic.TcCoe Idealize.ShloMosaic.Tactic Idealize.SL.Sem

abbrev D := dot_S768x2048_S2048x1024_S768x1024_1_0_0_1_n_n

theorem lhs1 (i : S768x1024.Idx) (q : D.contr.Idx) : (D.lhsIdx i q 0).val = (i 0).val := lhs_at D i q (by decide) (by decide) rfl

theorem rhs1 (i : S768x1024.Idx) (q : D.contr.Idx) : (D.rhsIdx i q 1).val = (i 1).val := rhs_at D i q (by decide) (by decide) rfl

/-- One step computes the products over all 2048 positions. -/
theorem pay1_at (x0 : FVec Ideal S768x2048 .bf16) (x1 : FVec Ideal S2048x1024 .bf16) (y : S768x1024.Idx)
    (L R : ℕ → EReal) (hl : ∀ x : S768x2048.Idx, (x 0).val = (y 0).val → x0 x = L (x 1).val)
    (hr : ∀ x : S2048x1024.Idx, (x 1).val = (y 1).val → x1 x = R (x 0).val) :
    (k0_pay1 (F := Ideal) x0 x1 y : EReal) = ∑ k ∈ Finset.range 2048, L k * R k := by
  unfold k0_pay1
  simp only [shapeCast_self]
  refine dot_at D 2048 rfl rfl none _ _ y L R (fun q => ?_) (fun q => ?_)
  · exact (hl _ (lhs1 y q)).trans (congrArg L (D.lhsIdx_val_of_single rfl y q))
  · exact (hr _ (rhs1 y q)).trans (congrArg R (D.rhsIdx_val_of_single rfl y q))

/-- A row of a modulation table, repeated along the rows. -/
theorem gate_row (v : FVec Ideal S1x1x1x1024 .f32) (y : S768x1024.Idx) (G : ℕ → EReal)
    (hv : ∀ x : S1x1x1x1024.Idx, v x = G (x 3).val) :
    (broadcastTo S768x1024 (shapeCast S1x1024 v shapeCasts_S1x1x1x1024_S1x1024) broadcasts_S1x1024_S768x1024 y : EReal) = G (y 1).val := by
  have hy : (y 1).val < 1024 := (y 1).isLt
  refine (broadcastTo_apply _ broadcasts_S1x1024_S768x1024 y
    (fun d => match d with | ⟨0, _⟩ => ⟨0, Nat.one_pos⟩ | ⟨1, _⟩ => ⟨(y 1).val, hy⟩ : S1x1024.Idx)
    (fun a => match a with | ⟨0, _⟩ => rfl | ⟨1, _⟩ => rfl)).trans ?_
  refine (shapeCast_apply v shapeCasts_S1x1x1x1024_S1x1024 _
    (fun d => match d with | ⟨0, _⟩ => ⟨0, Nat.one_pos⟩ | ⟨1, _⟩ => ⟨0, Nat.one_pos⟩ | ⟨2, _⟩ => ⟨0, Nat.one_pos⟩ | ⟨3, _⟩ => ⟨(y 1).val, hy⟩ : S1x1x1x1024.Idx) ?_).trans ?_
  · rw [Shape.rowMajor_val_four, Shape.rowMajor_val_two]
    show ((0 * 1 + 0) * 1 + 0) * 1024 + (y 1).val = 0 * 1024 + (y 1).val
    omega
  · exact hv _

/-- The residual: what is added is the gate's row times the product. -/
theorem pay3_at (i : grid0.Coords) (x0 : FVec Ideal S768x2048 .bf16) (x1 : FVec Ideal S2048x1024 .bf16) (v11 v13 : FVec Ideal S1x1x1x1024 .f32)
    (v22 : FVec Ideal S768x1024 .f32) (y : S768x1024.Idx) (G H : ℕ → EReal)
    (hG : ∀ x : S1x1x1x1024.Idx, v11 x = G (x 3).val) (hH : ∀ x : S1x1x1x1024.Idx, v13 x = H (x 3).val) :
    (k0_pay3 (F := Ideal) i x0 x1 v11 v13 v22 y : EReal) = v22 y
      + Scalar.select (IntOp.cmpi .slt (BitVec.ofNat 32 (768 * (i 0).val + (y 0).val)) 256#32) (G (y 1).val) (H (y 1).val)
        * (k0_pay1 (F := Ideal) x0 x1 y : EReal) := by
  unfold k0_pay3
  simp only [shapeCast_self]
  show v22 y + Ideal.ofBits .f32 0x3F800000#32 * Scalar.select (IntOp.cmpi .slt (IntOp.addi (Scalar.muli (BitVec.ofNat 32 (i 0).val) (BitVec.ofNat 32 768)) (iota .tc S768x1024 32 [0] iota_S768x1024_d0_w32 y)) 256#32)
    (broadcastTo S768x1024 (shapeCast S1x1024 v11 shapeCasts_S1x1x1x1024_S1x1024) broadcasts_S1x1024_S768x1024 y)
    (broadcastTo S768x1024 (shapeCast S1x1024 v13 shapeCasts_S1x1x1x1024_S1x1024) broadcasts_S1x1024_S768x1024 y)
    * (k0_pay1 (F := Ideal) x0 x1 y : EReal) = _
  rw [gate_row v11 y G hG, gate_row v13 y H hH, iota_single_apply, row_at, Ideal.ofBits_one_f32, one_mul]

theorem coord0 : ∀ t : Fin grid0.N, (grid0.coords t 0).val = t.val / 2 := by decide +kernel

theorem index0 : ∀ t : Fin grid0.N, win0_0.index t = ![t.val / 2, 0] := by decide +kernel

theorem index1 : ∀ t : Fin grid0.N, win0_1.index t = ![0, t.val % 2] := by decide +kernel

theorem index2 : ∀ t : Fin grid0.N, win0_2.index t = ![t.val / 2, t.val % 2] := by decide +kernel

theorem index3 : ∀ t : Fin grid0.N, win0_3.index t = ![0, 0, 0, t.val % 2] := by decide +kernel

theorem index4 : ∀ t : Fin grid0.N, win0_4.index t = ![t.val / 2, t.val % 2] := by decide +kernel

theorem index5 : ∀ t : Fin grid0.N, win0_5.index t = ![t.val / 2, t.val % 2] := by decide +kernel

variable (m : (ℓ : Loc nD τ sig) → Buf (Elt Ideal) ℓ) (c : Dev nD)

theorem block0 (t : Fin cfg0.N) (x : S768x2048.Idx) : (iblk m c 0 t x : EReal) =
    rd2 (a := 8448) (b := 2048) (V m c main_v0) (768 * (t.val / 2) + (x 0).val) ((x 1).val) := by
  have h := index0 t
  refine rd2_of (a := 8448) (b := 2048) (V m c main_v0) _ ?_ ?_
  · exact tile (t.val / 2) 768 (congrFun h 0) (by omega)
  · exact tile 0 2048 (congrFun h 1) (by omega)

theorem block1 (t : Fin cfg0.N) (x : S2048x1024.Idx) : (iblk m c 1 t x : EReal) =
    rd2 (a := 2048) (b := 2048) (V m c main_v1) ((x 0).val) (1024 * (t.val % 2) + (x 1).val) := by
  have h := index1 t
  refine rd2_of (a := 2048) (b := 2048) (V m c main_v1) _ ?_ ?_
  · exact tile 0 2048 (congrFun h 0) (by omega)
  · exact tile (t.val % 2) 1024 (congrFun h 1) (by omega)

theorem block2 (t : Fin cfg0.N) (x : S768x1024.Idx) : (iblk m c 2 t x : EReal) =
    rd2 (a := 8448) (b := 2048) (V m c main_arg2) (768 * (t.val / 2) + (x 0).val) (1024 * (t.val % 2) + (x 1).val) := by
  have h := index2 t
  refine rd2_of (a := 8448) (b := 2048) (V m c main_arg2) _ ?_ ?_
  · exact tile (t.val / 2) 768 (congrFun h 0) (by omega)
  · exact tile (t.val % 2) 1024 (congrFun h 1) (by omega)

theorem block3 (t : Fin cfg0.N) (x : S2x9x1x1024.Idx) : (iblk m c 3 t x : EReal) =
    rd4 (a := 2) (b := 9) (c := 1) (e := 2048) (V m c main_arg3) ((x 0).val) ((x 1).val) ((x 2).val) (1024 * (t.val % 2) + (x 3).val) := by
  have h := index3 t
  refine rd4_of (a := 2) (b := 9) (c := 1) (e := 2048) (V m c main_arg3) _ ?_ ?_ ?_ ?_
  · exact tile 0 2 (congrFun h 0) (by omega)
  · exact tile 0 9 (congrFun h 1) (by omega)
  · exact tile 0 1 (congrFun h 2) (by omega)
  · exact tile (t.val % 2) 1024 (congrFun h 3) (by omega)

/-- The arguments. -/
abbrev A0 : (⟨2, ![8448, 2048]⟩ : Shape).Idx → EReal := m ((c.tc : Thread nD τ).loc main_arg0)
abbrev A1 : (⟨2, ![2048, 2048]⟩ : Shape).Idx → EReal := m ((c.tc : Thread nD τ).loc main_arg1)
abbrev A2 : (⟨2, ![8448, 2048]⟩ : Shape).Idx → EReal := m ((c.tc : Thread nD τ).loc main_arg2)
abbrev A3 : (⟨4, ![2, 9, 1, 2048]⟩ : Shape).Idx → EReal := m ((c.tc : Thread nD τ).loc main_arg3)

theorem V_0 : (V m c main_v0 : (⟨2, ![8448, 2048]⟩ : Shape).Idx → EReal) = A0 m c := by
  unfold V hostOps0
  after_results
  rfl

theorem V_1 : (V m c main_v1 : (⟨2, ![2048, 2048]⟩ : Shape).Idx → EReal) = A1 m c := by
  unfold V hostOps0
  after_results
  rfl

/-- The product of the two arguments' elements at row `p` and column `q` of the result and position `k` of the sum. -/
def term (p q k : ℕ) : EReal := rd2 (A0 m c) p k * rd2 (A1 m c) k q

/-- Each element of the product: the sum over all 2048 positions. -/
def prod (p q : ℕ) : EReal := ∑ k ∈ Finset.range 2048, term m c p q k

/-- The first result: the residual and the gate's multiple of the product. -/
def out0 : S8448x2048.Idx → EReal := fun i => rd2 (A2 m c) (i 0).val (i 1).val + gateAt (A3 m c) 5 (i 0).val (i 1).val * prod m c (i 0).val (i 1).val

/-- The second result: the product. -/
def out1 : S8448x2048.Idx → EReal := fun i => prod m c (i 0).val (i 1).val

/-- What one step multiplies, in terms of the arguments. -/
theorem step (t : Fin cfg0.N) (y : S768x1024.Idx) :
    (k0_pay1 (F := Ideal) (iblk m c 0 t) (iblk m c 1 t) y : EReal) = prod m c (768 * (t.val / 2) + (y 0).val) (1024 * (t.val % 2) + (y 1).val) := by
  have hN : t.val < 22 := t.isLt
  have hy0 : (y 0).val < 768 := (y 0).isLt
  have hy1 : (y 1).val < 1024 := (y 1).isLt
  rw [pay1_at _ _ y
    (fun k => rd2 (a := 8448) (b := 2048) (V m c main_v0) (768 * (t.val / 2) + (y 0).val) k)
    (fun k => rd2 (a := 2048) (b := 2048) (V m c main_v1) k (1024 * (t.val % 2) + (y 1).val))
    (fun x hx => by rw [block0, hx]) (fun x hx => by rw [block1, hx])]
  rw [V_0, V_1]
  rfl

/-- What one step writes of the residual. -/
theorem step_resid (t : Fin cfg0.N) (y : S768x1024.Idx) :
    (k0_pay3 (F := Ideal) (grid0.coords t) (iblk m c 0 t) (iblk m c 1 t) (View.ld (iblk m c 3 t) r0_2) (View.ld (iblk m c 3 t) r0_3) (iblk m c 2 t) y : EReal)
      = rd2 (A2 m c) (768 * (t.val / 2) + (y 0).val) (1024 * (t.val % 2) + (y 1).val)
        + gateAt (A3 m c) 5 (768 * (t.val / 2) + (y 0).val) (1024 * (t.val % 2) + (y 1).val)
          * prod m c (768 * (t.val / 2) + (y 0).val) (1024 * (t.val % 2) + (y 1).val) := by
  rw [pay3_at _ _ _ _ _ _ y (fun q => rd4 (A3 m c) 0 5 0 (1024 * (t.val % 2) + q)) (fun q => rd4 (A3 m c) 1 5 0 (1024 * (t.val % 2) + q))
    (fun x => ?_) (fun x => ?_), step, coord0, block2, V_main_arg2]
  · rfl
  · have h0 : (x 0).val < 1 := (x 0).isLt
    have h1 : (x 1).val < 1 := (x 1).isLt
    have h2 : (x 2).val < 1 := (x 2).isLt
    refine (block3 m c t (r0_2.emb x)).trans ?_
    rw [V_main_arg3]
    have e0 : (r0_2.emb x 0).val = 0 + 1 * (x 0).val := rfl
    have e1 : (r0_2.emb x 1).val = 5 + 1 * (x 1).val := rfl
    have e2 : (r0_2.emb x 2).val = 0 + 1 * (x 2).val := rfl
    have e3 : (r0_2.emb x 3).val = 0 + 1 * (x 3).val := rfl
    congr 1 <;> omega
  · have h0 : (x 0).val < 1 := (x 0).isLt
    have h1 : (x 1).val < 1 := (x 1).isLt
    have h2 : (x 2).val < 1 := (x 2).isLt
    refine (block3 m c t (r0_3.emb x)).trans ?_
    rw [V_main_arg3]
    have e0 : (r0_3.emb x 0).val = 1 + 1 * (x 0).val := rfl
    have e1 : (r0_3.emb x 1).val = 5 + 1 * (x 1).val := rfl
    have e2 : (r0_3.emb x 2).val = 0 + 1 * (x 2).val := rfl
    have e3 : (r0_3.emb x 3).val = 0 + 1 * (x 3).val := rfl
    congr 1 <;> omega

/-- Each point writes its block of the first result. -/
theorem flushed_4 (t : Fin cfg0.N) : (dats m 0 c).flushed 4 t = ((cfg0.win 4).blk t).view.read (Elt Ideal) (out0 m c) := by
  rw [flushed4]
  have h := index4 t
  funext y
  have hb0 : (((cfg0.win 4).blk t).view.emb y 0).val = win0_4.index t 0 * 768 + 1 * (y 0).val := rfl
  have hb1 : (((cfg0.win 4).blk t).view.emb y 1).val = win0_4.index t 1 * 1024 + 1 * (y 1).val := rfl
  rw [h] at hb0 hb1
  show out0_4 (grid0.coords t) (iblk m c 0 t) (iblk m c 1 t) (iblk m c 2 t) (iblk m c 3 t) ((cfg0.win 4).xinj (grid0.coords t) y) = out0 m c (((cfg0.win 4).blk t).view.emb y)
  unfold out0_4
  rw [View.canon_cons_unit_zero off2, View.ld_unit_zero off2, View.ld_unit_zero off2, View.ld_unit_zero off2]
  refine (step_resid m c t _).trans ?_
  refine congrArg₂ (fun p q => rd2 (A2 m c) p q + gateAt (A3 m c) 5 p q * prod m c p q) ?_ ?_
  · show 768 * (t.val / 2) + (y 0).val = (((cfg0.win 4).blk t).view.emb y 0).val
    rw [hb0]
    show 768 * (t.val / 2) + (y 0).val = t.val / 2 * 768 + 1 * (y 0).val
    omega
  · show 1024 * (t.val % 2) + (y 1).val = (((cfg0.win 4).blk t).view.emb y 1).val
    rw [hb1]
    show 1024 * (t.val % 2) + (y 1).val = t.val % 2 * 1024 + 1 * (y 1).val
    omega

/-- Every element is in some point's block. -/
theorem covered_4 (i : S8448x2048.Idx) : ∃ t : Fin cfg0.N, (cfg0.win 4).flush t = true ∧ i ∈ ((cfg0.win 4).blk t).view.set := by
  have b0 : (i 0).val < 8448 := (i 0).isLt
  have b1 : (i 1).val < 2048 := (i 1).isLt
  obtain ⟨t, ht⟩ : ∃ t : Fin cfg0.N, t.val = 2 * ((i 0).val / 768) + (i 1).val / 1024 :=
    ⟨⟨_, show 2 * ((i 0).val / 768) + (i 1).val / 1024 < 22 by omega⟩, rfl⟩
  have h0 : win0_4.index t 0 = t.val / 2 := congrFun (index4 t) 0
  have h1 : win0_4.index t 1 = t.val % 2 := congrFun (index4 t) 1
  refine ⟨t, flush0_4 t, ?_⟩
  show i ∈ ((View.whole main_v2_0).slice (win0_4.rect t)).set
  rw [View.set_slice_whole, Rect.mem_set_unit]
  intro a
  match a with
    | ⟨0, _⟩ => exact within 768 (i 0).val h0 (by omega)
    | ⟨1, _⟩ => exact within 1024 (i 1).val h1 (by omega)

/-- Each point writes its block of the second result. -/
theorem flushed_5 (t : Fin cfg0.N) : (dats m 0 c).flushed 5 t = ((cfg0.win 5).blk t).view.read (Elt Ideal) (out1 m c) := by
  rw [flushed5]
  have h := index5 t
  funext y
  have hb0 : (((cfg0.win 5).blk t).view.emb y 0).val = win0_5.index t 0 * 768 + 1 * (y 0).val := rfl
  have hb1 : (((cfg0.win 5).blk t).view.emb y 1).val = win0_5.index t 1 * 1024 + 1 * (y 1).val := rfl
  rw [h] at hb0 hb1
  show out0_5 (grid0.coords t) (iblk m c 0 t) (iblk m c 1 t) (iblk m c 2 t) (iblk m c 3 t) ((cfg0.win 5).xinj (grid0.coords t) y) = out1 m c (((cfg0.win 5).blk t).view.emb y)
  unfold out0_5
  rw [View.canon_cons_unit_zero off2, View.ld_unit_zero off2, View.ld_unit_zero off2]
  unfold k0_pay2
  refine (step m c t _).trans ?_
  refine congrArg₂ (fun p q => prod m c p q) ?_ ?_
  · show 768 * (t.val / 2) + (y 0).val = (((cfg0.win 5).blk t).view.emb y 0).val
    rw [hb0]
    show 768 * (t.val / 2) + (y 0).val = t.val / 2 * 768 + 1 * (y 0).val
    omega
  · show 1024 * (t.val % 2) + (y 1).val = (((cfg0.win 5).blk t).view.emb y 1).val
    rw [hb1]
    show 1024 * (t.val % 2) + (y 1).val = t.val % 2 * 1024 + 1 * (y 1).val
    omega

/-- Every element is in some point's block. -/
theorem covered_5 (i : S8448x2048.Idx) : ∃ t : Fin cfg0.N, (cfg0.win 5).flush t = true ∧ i ∈ ((cfg0.win 5).blk t).view.set := by
  have b0 : (i 0).val < 8448 := (i 0).isLt
  have b1 : (i 1).val < 2048 := (i 1).isLt
  obtain ⟨t, ht⟩ : ∃ t : Fin cfg0.N, t.val = 2 * ((i 0).val / 768) + (i 1).val / 1024 :=
    ⟨⟨_, show 2 * ((i 0).val / 768) + (i 1).val / 1024 < 22 by omega⟩, rfl⟩
  have h0 : win0_5.index t 0 = t.val / 2 := congrFun (index5 t) 0
  have h1 : win0_5.index t 1 = t.val % 2 := congrFun (index5 t) 1
  refine ⟨t, flush0_5 t, ?_⟩
  show i ∈ ((View.whole main_v2_1).slice (win0_5.rect t)).set
  rw [View.set_slice_whole, Rect.mem_set_unit]
  intro a
  match a with
    | ⟨0, _⟩ => exact within 768 (i 0).val h0 (by omega)
    | ⟨1, _⟩ => exact within 1024 (i 1).val h1 (by omega)

/-- The run: the two results are those of the definitions above, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = out0 m c
      ∧ r.2.mem ((c : Thread nD τ).loc main_v2_1) = out1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed_4 m c t) (covered_4)),
      (h c).2.1.trans ((dats m 0 c).arrAt_eq_of_cover 5 _ (fun t _ => flushed_5 m c t) (covered_5)), (h c).2.2⟩)
    (run_blocks m ρ)

open Cert.Reference15Ideal.Read in
/-- The reference's product is the same sum. -/
theorem ref_prod (i : S8448x2048.Idx) :
    (val_main_v9 (F := Ideal) (A0 m c) (A1 m c) i : EReal) = prod m c (i 0).val (i 1).val := by
  rw [val_main_v9_apply]
  unfold prod
  rw [← Fin.sum_univ_eq_sum_range (fun k => term m c (i 0).val (i 1).val k)]
  refine Finset.sum_congr rfl fun k _ => ?_
  exact congrArg₂ (· * ·) (rd2_of (A0 m c) _ rfl rfl) (rd2_of (A1 m c) _ rfl rfl)

open Cert.Reference15Ideal.Read in
/-- The reference's gate is the same row of the table. -/
theorem ref_gate (i : S8448x2048.Idx) : (val_main_v8 (F := Ideal) (A3 m c) i : EReal) = gateAt (A3 m c) 5 (i 0).val (i 1).val := by
  have b1 : (i 1).val < 2048 := (i 1).isLt
  rw [val_main_v8_apply, val_main_call0_v0_apply, val_main_call0_v1_apply, val_main_call0_v2_apply, val_main_v1_apply, val_main_v3_apply,
    val_main_v0_apply, val_main_v2_apply]
  unfold gateAt
  refine congrArg₂ (fun a b => Scalar.select (IntOp.cmpi .slt (BitVec.ofNat 32 (i 0).val) 256#32) a b) ?_ ?_
  · refine rd4_of (A3 m c) _ rfl rfl rfl ?_
    show (0 * 2048 + (i 1).val) % 2048 = _
    omega
  · refine rd4_of (A3 m c) _ rfl rfl rfl ?_
    show (0 * 2048 + (i 1).val) % 2048 = _
    omega

open Cert.Reference15Ideal.Read in
theorem ref_eq0 : val_main_v11 (F := Ideal) (A0 m c) (A1 m c) (A2 m c) (A3 m c) = out0 m c := funext fun i => by
  rw [val_main_v11_apply, val_main_v10_apply, ref_prod, ref_gate, rd2_of (A2 m c) i rfl rfl]
  rfl

open Cert.Reference15Ideal.Read in
theorem ref_eq1 : val_main_v12 (F := Ideal) (A0 m c) (A1 m c) = out1 m c := funext fun i => ref_prod m c i

end Cert.WOut

end
-- ==== Proof.Prod.Lift.lean ====
module

public import proofs.«01_k».proof.Proof.Gen.Kernel16Ideal.Value
public import proofs.«01_k».proof.Proof.Gen.Reference16Ideal.Read
public import proofs.«01_k».proof.Proof.Prod.Base
public import Idealize.ShloMosaic.Lib.Pipeline.ValueKit.Tiles

/-! The second branch's output projection: the branch's values times its weight. -/

@[expose] public section

set_option maxRecDepth 16384

noncomputable section

namespace Cert.Lift

open Cert.Kernel16Ideal Cert.Kernel16Ideal.Gen Cert.Kernel16Ideal.Value Cert.Prod
open Idealize.ShloMosaic Idealize.ShloMosaic.TcCoe Idealize.ShloMosaic.Tactic Idealize.SL.Sem

abbrev D := dot_S1408x1024_S1024x512_S1408x512_1_0_0_1_n_n

theorem lhs1 (i : S1408x512.Idx) (q : D.contr.Idx) : (D.lhsIdx i q 0).val = (i 0).val := lhs_at D i q (by decide) (by decide) rfl

theorem rhs1 (i : S1408x512.Idx) (q : D.contr.Idx) : (D.rhsIdx i q 1).val = (i 1).val := rhs_at D i q (by decide) (by decide) rfl

/-- One quarter of the columns: the products over all 1024 positions. -/
theorem pay_at (x0 : FVec Ideal S1408x1024 .bf16) (x1 : FVec Ideal S1x1x1024x512 .bf16) (y : S1408x512.Idx)
    (L R : ℕ → EReal) (hl : ∀ x : S1408x1024.Idx, (x 0).val = (y 0).val → x0 x = L (x 1).val)
    (hr : ∀ x : S1x1x1024x512.Idx, (x 3).val = (y 1).val → x1 x = R (x 2).val) :
    (k0_pay2 (F := Ideal) x0 x1 y : EReal) = ∑ k ∈ Finset.range 1024, L k * R k := by
  unfold k0_pay2 k0_pay1
  simp only [shapeCast_self]
  refine dot_at D 1024 rfl rfl none _ _ y L R (fun q => ?_) (fun q => ?_)
  · exact (hl _ (lhs1 y q)).trans (congrArg L (D.lhsIdx_val_of_single rfl y q))
  · refine (dropTwo_at x1 _ _).trans ?_
    exact (hr _ (rhs1 y q)).trans (congrArg R (D.rhsIdx_val_of_single rfl y q))

/-- The product at row `p` and column `q` of the result and position `k` of the sum. -/
def term (a0 : (⟨2, ![8448, 1024]⟩ : Shape).Idx → EReal) (a1 : (⟨3, ![3, 1024, 2048]⟩ : Shape).Idx → EReal) (b p q k : ℕ) : EReal :=
  rd2 a0 p k * rd3 a1 b k q

/-- Branch `b`: each element of the result, the sum over all 1024 positions. -/
def sums (a0 : (⟨2, ![8448, 1024]⟩ : Shape).Idx → EReal) (a1 : (⟨3, ![3, 1024, 2048]⟩ : Shape).Idx → EReal) (b : ℕ) : S8448x2048.Idx → EReal :=
  fun i => ∑ k ∈ Finset.range 1024, term a0 a1 b (i 0).val (i 1).val k

section Step

variable {a0 : (⟨2, ![8448, 1024]⟩ : Shape).Idx → EReal} {a1 : (⟨3, ![3, 1024, 2048]⟩ : Shape).Idx → EReal} {b r : ℕ}
variable (x0 : Vec Ideal S1408x1024 .bf16) (x1 : Vec Ideal S4x1x1024x512 .bf16)
variable (e0 : ∀ x, (x0 x : EReal) = rd2 a0 (r + (x 0).val) (x 1).val) (e1 : ∀ x, (x1 x : EReal) = rd3 a1 b (x 2).val (512 * (x 0).val + (x 3).val))

include e0 e1

/-- What one step writes in its column quarter `s`. -/
theorem quarter (s : ℕ) (o : Fin 4 → ℕ) (h : ∀ a, o a + S1x1x1024x512.size a ≤ S4x1x1024x512.size a) (f : o = ![s, 0, 0, 0])
    (z : S1408x2048.Idx) (y : S1408x512.Idx) (h0 : (z 0).val = 0 + (y 0).val) (h1 : (z 1).val = 512 * s + (y 1).val) :
    (k0_pay2 (F := Ideal) (View.ld x0 r0_0) (View.ld x1 (Rect.unit (s := S4x1x1024x512) o S1x1x1024x512.size h)) y : EReal)
      = ∑ k ∈ Finset.range 1024, term a0 a1 b (r + (z 0).val) (z 1).val k := by
  subst f
  rw [show View.ld x0 r0_0 = x0 from View.ld_unit_zero off2 _ _, h0, h1, zero_add]
  refine pay_at _ _ y (fun k => rd2 a0 (r + (y 0).val) k) (fun k => rd3 a1 b k (512 * s + (y 1).val)) (fun x hx => by rw [e0, hx]) (fun x hx => ?_)
  refine (e1 ((Rect.unit (s := S4x1x1024x512) ![s, 0, 0, 0] S1x1x1024x512.size h).emb x)).trans ?_
  have b0 : (x 0).val < 1 := (x 0).isLt
  have f0 : ((Rect.unit (s := S4x1x1024x512) ![s, 0, 0, 0] S1x1x1024x512.size h).emb x 0).val = s + 1 * (x 0).val := rfl
  have f2 : ((Rect.unit (s := S4x1x1024x512) ![s, 0, 0, 0] S1x1x1024x512.size h).emb x 2).val = 0 + 1 * (x 2).val := rfl
  have f3 : ((Rect.unit (s := S4x1x1024x512) ![s, 0, 0, 0] S1x1x1024x512.size h).emb x 3).val = 0 + 1 * (x 3).val := rfl
  congr 1 <;> omega

/-- A step's four column quarters make its block. -/
theorem tiles (z : S1408x2048.Idx) : (out0_2 (F := Ideal) x0 x1 z : EReal) = ∑ k ∈ Finset.range 1024, term a0 a1 b (r + (z 0).val) (z 1).val k := by
  unfold out0_2
  refine View.canon_eq_of_allAt _ z _ (cover0_2 _ _ _ _ z) ?_
  refine View.allAt_cons_unit _ _ _ _ _ (fun x hx => quarter x0 x1 e0 e1 3 _ _ rfl z x (hx 0) (hx 1)) <|
    View.allAt_cons_unit _ _ _ _ _ (fun x hx => quarter x0 x1 e0 e1 2 _ _ rfl z x (hx 0) (hx 1)) <|
    View.allAt_cons_unit _ _ _ _ _ (fun x hx => quarter x0 x1 e0 e1 1 _ _ rfl z x (hx 0) (hx 1)) <|
    View.allAt_cons_unit _ _ _ _ _ (fun x hx => quarter x0 x1 e0 e1 0 _ _ rfl z x (hx 0) (hx 1)) <| View.allAt_nil _ _

end Step

theorem index0 : ∀ t : Fin grid0.N, win0_0.index t = ![t.val, 0] := by decide +kernel

theorem index1 : ∀ t : Fin grid0.N, win0_1.index t = ![0, 1, 0, 0] := by decide +kernel

theorem index2 : ∀ t : Fin grid0.N, win0_2.index t = ![t.val, 0] := by decide +kernel

variable (m : (ℓ : Loc nD τ sig) → Buf (Elt Ideal) ℓ) (c : Dev nD)

/-- The arguments. -/
abbrev A0 : (⟨2, ![8448, 1024]⟩ : Shape).Idx → EReal := m ((c.tc : Thread nD τ).loc main_arg0)
abbrev A1 : (⟨3, ![3, 1024, 2048]⟩ : Shape).Idx → EReal := m ((c.tc : Thread nD τ).loc main_arg1)

theorem V_0 : (V m c main_v0 : (⟨2, ![8448, 1024]⟩ : Shape).Idx → EReal) = A0 m c := by
  unfold V hostOps0
  after_results
  rfl

theorem V_1 : (V m c main_v3 : (⟨4, ![4, 3, 1024, 512]⟩ : Shape).Idx → EReal) =
    transpose S4x3x1024x512 [2, 0, 1, 3] (shapeCast S3x1024x4x512 (A1 m c) (by decide)) (by decide) := by
  unfold V hostOps0
  after_results
  rfl

theorem block0 (t : Fin cfg0.N) (x : S1408x1024.Idx) : (iblk m c 0 t x : EReal) =
    rd2 (A0 m c) (1408 * t.val + (x 0).val) (x 1).val := by
  have h := index0 t
  rw [← V_0]
  refine rd2_of (a := 8448) (b := 1024) (V m c main_v0) _ ?_ ?_
  · exact tile (t.val) 1408 (congrFun h 0) (by omega)
  · exact tile 0 1024 (congrFun h 1) (by omega)

theorem block1 (t : Fin cfg0.N) (x : S4x1x1024x512.Idx) : (iblk m c 1 t x : EReal) =
    rd3 (A1 m c) 1 (x 2).val (512 * (x 0).val + (x 3).val) := by
  have h := index1 t
  have hx : (x 1).val = 0 := by have := (x 1).isLt; change _ < 1 at this; omega
  have b0 : (x 0).val < 4 := (x 0).isLt
  have b2 : (x 2).val < 1024 := (x 2).isLt
  have b3 : (x 3).val < 512 := (x 3).isLt
  rw [← branches_at (n := 4) (w := 512) (A1 m c) rfl (by decide) (by decide) b0 (by omega) b2 b3, ← V_1]
  refine rd4_of (a := 4) (b := 3) (c := 1024) (e := 512) (V m c main_v3) _ ?_ ?_ ?_ ?_
  · exact tile 0 4 (congrFun h 0) (by omega)
  · exact tile 1 1 (congrFun h 1) (by omega)
  · exact tile 0 1024 (congrFun h 2) (by omega)
  · exact tile 0 512 (congrFun h 3) (by omega)

/-- Each element of the result. -/
def out : S8448x2048.Idx → EReal := Cert.Lift.sums (A0 m c) (A1 m c) 1

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = t.val * 1408 + 1 * (y 0).val := tile _ 1408 (congrFun h 0) rfl
  have hb1 : (((cfg0.win 2).blk t).view.emb y 1).val = 0 * 2048 + 1 * (y 1).val := tile _ 2048 (congrFun h 1) rfl
  show out0_2 (iblk m c 0 t) (iblk m c 1 t) ((cfg0.win 2).xinj (grid0.coords t) y) = out m c (((cfg0.win 2).blk t).view.emb y)
  have ho : out m c (((cfg0.win 2).blk t).view.emb y) = ∑ k ∈ Finset.range 1024, Cert.Lift.term (A0 m c) (A1 m c) 1 (1408 * t.val + (y 0).val) (y 1).val k := by
    unfold out Cert.Lift.sums
    rw [hb0, hb1]
    exact Finset.sum_congr rfl fun k _ => congrArg₂ (fun p q => Cert.Lift.term (A0 m c) (A1 m c) 1 p q k) (by omega) (by omega)
  rw [ho]
  exact Cert.Lift.tiles (iblk m c 0 t) (iblk m c 1 t) (block0 m c t) (block1 m c t) y

/-- Every element is in some point's block. -/
theorem covered (i : S8448x2048.Idx) : ∃ t : Fin cfg0.N, (cfg0.win 2).flush t = true ∧ i ∈ ((cfg0.win 2).blk t).view.set := by
  have b0 : (i 0).val < 8448 := (i 0).isLt
  have b1 : (i 1).val < 2048 := (i 1).isLt
  obtain ⟨t, ht⟩ : ∃ t : Fin cfg0.N, t.val = (i 0).val / 1408 := ⟨⟨_, show (i 0).val / 1408 < 6 by omega⟩, rfl⟩
  have h0 : win0_2.index t 0 = t.val := congrFun (index2 t) 0
  have h1 : win0_2.index t 1 = 0 := congrFun (index2 t) 1
  refine ⟨t, flush0_2 t, ?_⟩
  show i ∈ ((View.whole main_v4).slice (win0_2.rect t)).set
  rw [View.set_slice_whole, Rect.mem_set_unit]
  intro a
  match a with
    | ⟨0, _⟩ => exact within 1408 (i 0).val h0 (by omega)
    | ⟨1, _⟩ => exact within 2048 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference16Ideal.Read in
/-- The reference's result is the same sum. -/
theorem ref_eq : val_main_v3 (F := Ideal) (A0 m c) (A1 m c) = out m c := funext fun i => by
  have b1 : (i 1).val < 2048 := (i 1).isLt
  refine (val_main_v2_apply (A0 m c) (A1 m c) i).trans ?_
  unfold out Cert.Lift.sums
  rw [← Fin.sum_univ_eq_sum_range (fun k => Cert.Lift.term (A0 m c) (A1 m c) 1 (i 0).val (i 1).val k)]
  refine Finset.sum_congr rfl fun k _ => ?_
  have hk := k.isLt
  rw [val_main_v1_apply, val_main_v0_apply]
  refine congrArg₂ (· * ·) (rd2_of (A0 m c) _ rfl rfl) (rd3_of (A1 m c) _ rfl ?_ ?_)
  · show (k.val * 2048 + (i 1).val) / 2048 % 1024 = _
    omega
  · show (k.val * 2048 + (i 1).val) % 2048 = _
    omega

end Cert.Lift

end
-- ==== Proof.Prod.Dy0.lean ====
module

public import proofs.«01_k».proof.Proof.Gen.Kernel17Ideal.Value
public import proofs.«01_k».proof.Proof.Gen.Reference17Ideal.Read
public import proofs.«01_k».proof.Proof.Prod.Dy
public import Idealize.ShloMosaic.Lib.Pipeline.ValueKit.Tiles

/-! The gradient of the first branch's output projection's input: the cotangent times the weight, transposed. -/

@[expose] public section

set_option maxRecDepth 16384

noncomputable section

namespace Cert.Dy0

open Cert.Kernel17Ideal Cert.Kernel17Ideal.Gen Cert.Kernel17Ideal.Value Cert.Prod
open Idealize.ShloMosaic Idealize.ShloMosaic.TcCoe Idealize.ShloMosaic.Tactic Idealize.SL.Sem

theorem index0 : ∀ t : Fin grid0.N, win0_0.index t = ![t.val, 0] := by decide +kernel

theorem index1 : ∀ t : Fin grid0.N, win0_1.index t = ![0, 0, 0, 0] := by decide +kernel

theorem index2 : ∀ t : Fin grid0.N, win0_2.index t = ![t.val, 0] := by decide +kernel

variable (m : (ℓ : Loc nD τ sig) → Buf (Elt Ideal) ℓ) (c : Dev nD)

/-- The arguments. -/
abbrev A0 : (⟨2, ![8448, 2048]⟩ : Shape).Idx → EReal := m ((c.tc : Thread nD τ).loc main_arg0)
abbrev A1 : (⟨3, ![3, 1024, 2048]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v3 : (⟨4, ![4, 3, 1024, 512]⟩ : Shape).Idx → EReal) =
    transpose S4x3x1024x512 [2, 0, 1, 3] (shapeCast S3x1024x4x512 (A1 m c) (by decide)) (by decide) := by
  unfold V hostOps0
  after_results
  rfl

theorem block0 (t : Fin cfg0.N) (x : S1408x2048.Idx) : (iblk m c 0 t x : EReal) =
    rd2 (A0 m c) (1408 * t.val + (x 0).val) (x 1).val := by
  have h := index0 t
  rw [← V_0]
  refine rd2_of (a := 8448) (b := 2048) (V m c main_v0) _ ?_ ?_
  · exact tile (t.val) 1408 (congrFun h 0) (by omega)
  · exact tile 0 2048 (congrFun h 1) (by omega)

theorem block1 (t : Fin cfg0.N) (x : S4x1x1024x512.Idx) : (iblk m c 1 t x : EReal) =
    rd3 (A1 m c) 0 (x 2).val (512 * (x 0).val + (x 3).val) := by
  have h := index1 t
  have hx : (x 1).val = 0 := by have := (x 1).isLt; change _ < 1 at this; omega
  have b0 : (x 0).val < 4 := (x 0).isLt
  have b2 : (x 2).val < 1024 := (x 2).isLt
  have b3 : (x 3).val < 512 := (x 3).isLt
  rw [← branches_at (n := 4) (w := 512) (A1 m c) rfl (by decide) (by decide) b0 (by omega) b2 b3, ← V_1]
  refine rd4_of (a := 4) (b := 3) (c := 1024) (e := 512) (V m c main_v3) _ ?_ ?_ ?_ ?_
  · exact tile 0 4 (congrFun h 0) (by omega)
  · exact tile 0 1 (congrFun h 1) (by omega)
  · exact tile 0 1024 (congrFun h 2) (by omega)
  · exact tile 0 512 (congrFun h 3) (by omega)

/-- Each element of the result. -/
def out : S8448x1024.Idx → EReal := Cert.Dy.sums (A0 m c) (A1 m c) 0

theorem value {F : FTy → Type} [FloatOps F] (m : (ℓ : Loc nD τ sig) → Buf (Elt F) ℓ) (c : Dev nD) (t : Fin cfg0.N) :
    outsAt0 m c t = Cert.Dy.total (iblk m c 0 t) (iblk m c 1 t) := by
  unfold outsAt0 out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_cons_toLoadRect, View.readCov_cons_toLoadRect, View.readCov_cons_toLoadRect]
  rfl

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = t.val * 1408 + 1 * (y 0).val := tile _ 1408 (congrFun h 0) rfl
  have hb1 : (((cfg0.win 2).blk t).view.emb y 1).val = 0 * 1024 + 1 * (y 1).val := tile _ 1024 (congrFun h 1) rfl
  show outsAt0 m c t ((cfg0.win 2).xinj (grid0.coords t) y) = out m c (((cfg0.win 2).blk t).view.emb y)
  rw [value]
  refine (Cert.Dy.total_at (iblk m c 0 t) (iblk m c 1 t) (block0 m c t) (block1 m c t) _).trans ?_
  refine Finset.sum_congr rfl fun k _ => ?_
  refine congrArg₂ (fun p q => Cert.Dy.term (A0 m c) (A1 m c) 0 p q k) ?_ ?_
  · rw [hb0]; show 1408 * t.val + (y 0).val = _; omega
  · rw [hb1]; show (y 1).val = _; omega

/-- Every element is in some point's block. -/
theorem covered (i : S8448x1024.Idx) : ∃ t : Fin cfg0.N, (cfg0.win 2).flush t = true ∧ i ∈ ((cfg0.win 2).blk t).view.set := by
  have b0 : (i 0).val < 8448 := (i 0).isLt
  have b1 : (i 1).val < 1024 := (i 1).isLt
  obtain ⟨t, ht⟩ : ∃ t : Fin cfg0.N, t.val = (i 0).val / 1408 := ⟨⟨_, show (i 0).val / 1408 < 6 by omega⟩, rfl⟩
  have h0 : win0_2.index t 0 = t.val := congrFun (index2 t) 0
  have h1 : win0_2.index t 1 = 0 := congrFun (index2 t) 1
  refine ⟨t, flush0_2 t, ?_⟩
  show i ∈ ((View.whole main_v4).slice (win0_2.rect t)).set
  rw [View.set_slice_whole, Rect.mem_set_unit]
  intro a
  match a with
    | ⟨0, _⟩ => exact within 1408 (i 0).val h0 (by omega)
    | ⟨1, _⟩ => exact within 1024 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference17Ideal.Read in
/-- The reference's result is the same sum. -/
theorem ref_eq : val_main_v4 (F := Ideal) (A0 m c) (A1 m c) = out m c := funext fun i => by
  have b1 : (i 1).val < 1024 := (i 1).isLt
  refine (val_main_v4_apply (A0 m c) (A1 m c) i).trans ?_
  unfold out Cert.Dy.sums
  rw [← Fin.sum_univ_eq_sum_range (fun k => Cert.Dy.term (A0 m c) (A1 m c) 0 (i 0).val (i 1).val k)]
  refine Finset.sum_congr rfl fun k _ => ?_
  have hk := k.isLt
  rw [val_main_v1_apply, val_main_v0_apply]
  refine congrArg₂ (· * ·) (rd2_of (A0 m c) _ rfl rfl) (rd3_of (A1 m c) _ rfl ?_ ?_)
  · show ((i 1).val * 2048 + k.val) / 2048 % 1024 = _
    omega
  · show ((i 1).val * 2048 + k.val) % 2048 = _
    omega

end Cert.Dy0

end
-- ==== Proof.Prod.Dy2.lean ====
module

public import proofs.«01_k».proof.Proof.Gen.Kernel18Ideal.Value
public import proofs.«01_k».proof.Proof.Gen.Reference18Ideal.Read
public import proofs.«01_k».proof.Proof.Prod.Dy
public import Idealize.ShloMosaic.Lib.Pipeline.ValueKit.Tiles

/-! The gradient of the third branch's output projection's input: the cotangent times the weight, transposed. -/

@[expose] public section

set_option maxRecDepth 16384

noncomputable section

namespace Cert.Dy2

open Cert.Kernel18Ideal Cert.Kernel18Ideal.Gen Cert.Kernel18Ideal.Value Cert.Prod
open Idealize.ShloMosaic Idealize.ShloMosaic.TcCoe Idealize.ShloMosaic.Tactic Idealize.SL.Sem

theorem index0 : ∀ t : Fin grid0.N, win0_0.index t = ![t.val, 0] := by decide +kernel

theorem index1 : ∀ t : Fin grid0.N, win0_1.index t = ![0, 2, 0, 0] := by decide +kernel

theorem index2 : ∀ t : Fin grid0.N, win0_2.index t = ![t.val, 0] := by decide +kernel

variable (m : (ℓ : Loc nD τ sig) → Buf (Elt Ideal) ℓ) (c : Dev nD)

/-- The arguments. -/
abbrev A0 : (⟨2, ![8448, 2048]⟩ : Shape).Idx → EReal := m ((c.tc : Thread nD τ).loc main_arg0)
abbrev A1 : (⟨3, ![3, 1024, 2048]⟩ : Shape).Idx → EReal := m ((c.tc : Thread nD τ).loc main_arg1)

theorem V_0 : (V m c main_v0 : (⟨2, ![8448, 2048]⟩ : Shape).Idx → EReal) = A0 m c := by
  unfold V hostOps0
  after_results
  rfl

theorem V_1 : (V m c main_v3 : (⟨4, ![4, 3, 1024, 512]⟩ : Shape).Idx → EReal) =
    transpose S4x3x1024x512 [2, 0, 1, 3] (shapeCast S3x1024x4x512 (A1 m c) (by decide)) (by decide) := by
  unfold V hostOps0
  after_results
  rfl

theorem block0 (t : Fin cfg0.N) (x : S1408x2048.Idx) : (iblk m c 0 t x : EReal) =
    rd2 (A0 m c) (1408 * t.val + (x 0).val) (x 1).val := by
  have h := index0 t
  rw [← V_0]
  refine rd2_of (a := 8448) (b := 2048) (V m c main_v0) _ ?_ ?_
  · exact tile (t.val) 1408 (congrFun h 0) (by omega)
  · exact tile 0 2048 (congrFun h 1) (by omega)

theorem block1 (t : Fin cfg0.N) (x : S4x1x1024x512.Idx) : (iblk m c 1 t x : EReal) =
    rd3 (A1 m c) 2 (x 2).val (512 * (x 0).val + (x 3).val) := by
  have h := index1 t
  have hx : (x 1).val = 0 := by have := (x 1).isLt; change _ < 1 at this; omega
  have b0 : (x 0).val < 4 := (x 0).isLt
  have b2 : (x 2).val < 1024 := (x 2).isLt
  have b3 : (x 3).val < 512 := (x 3).isLt
  rw [← branches_at (n := 4) (w := 512) (A1 m c) rfl (by decide) (by decide) b0 (by omega) b2 b3, ← V_1]
  refine rd4_of (a := 4) (b := 3) (c := 1024) (e := 512) (V m c main_v3) _ ?_ ?_ ?_ ?_
  · exact tile 0 4 (congrFun h 0) (by omega)
  · exact tile 2 1 (congrFun h 1) (by omega)
  · exact tile 0 1024 (congrFun h 2) (by omega)
  · exact tile 0 512 (congrFun h 3) (by omega)

/-- Each element of the result. -/
def out : S8448x1024.Idx → EReal := Cert.Dy.sums (A0 m c) (A1 m c) 2

theorem value {F : FTy → Type} [FloatOps F] (m : (ℓ : Loc nD τ sig) → Buf (Elt F) ℓ) (c : Dev nD) (t : Fin cfg0.N) :
    outsAt0 m c t = Cert.Dy.total (iblk m c 0 t) (iblk m c 1 t) := by
  unfold outsAt0 out0_A_2
  rw [View.read_writes_eq_canon _ _ _ (cover0_A_2 c _ _ _ _ _ _ _ _ _)]
  unfold kernelRun0_A
  dsimp only
  sl_unfold_words
  simp only [View.readAt_eq_ld, (hs0_0 t).read_unread, (hs0_1 t).read_unread]
  refine (View.canon_cons_unit_zero off2 _ _ _).trans ?_
  rw [View.readCov_cons_toLoadRect, View.readCov_cons_toLoadRect, View.readCov_cons_toLoadRect]
  rfl

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = t.val * 1408 + 1 * (y 0).val := tile _ 1408 (congrFun h 0) rfl
  have hb1 : (((cfg0.win 2).blk t).view.emb y 1).val = 0 * 1024 + 1 * (y 1).val := tile _ 1024 (congrFun h 1) rfl
  show outsAt0 m c t ((cfg0.win 2).xinj (grid0.coords t) y) = out m c (((cfg0.win 2).blk t).view.emb y)
  rw [value]
  refine (Cert.Dy.total_at (iblk m c 0 t) (iblk m c 1 t) (block0 m c t) (block1 m c t) _).trans ?_
  refine Finset.sum_congr rfl fun k _ => ?_
  refine congrArg₂ (fun p q => Cert.Dy.term (A0 m c) (A1 m c) 2 p q k) ?_ ?_
  · rw [hb0]; show 1408 * t.val + (y 0).val = _; omega
  · rw [hb1]; show (y 1).val = _; omega

/-- Every element is in some point's block. -/
theorem covered (i : S8448x1024.Idx) : ∃ t : Fin cfg0.N, (cfg0.win 2).flush t = true ∧ i ∈ ((cfg0.win 2).blk t).view.set := by
  have b0 : (i 0).val < 8448 := (i 0).isLt
  have b1 : (i 1).val < 1024 := (i 1).isLt
  obtain ⟨t, ht⟩ : ∃ t : Fin cfg0.N, t.val = (i 0).val / 1408 := ⟨⟨_, show (i 0).val / 1408 < 6 by omega⟩, rfl⟩
  have h0 : win0_2.index t 0 = t.val := congrFun (index2 t) 0
  have h1 : win0_2.index t 1 = 0 := congrFun (index2 t) 1
  refine ⟨t, flush0_2 t, ?_⟩
  show i ∈ ((View.whole main_v4).slice (win0_2.rect t)).set
  rw [View.set_slice_whole, Rect.mem_set_unit]
  intro a
  match a with
    | ⟨0, _⟩ => exact within 1408 (i 0).val h0 (by omega)
    | ⟨1, _⟩ => exact within 1024 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference18Ideal.Read in
/-- The reference's result is the same sum. -/
theorem ref_eq : val_main_v4 (F := Ideal) (A0 m c) (A1 m c) = out m c := funext fun i => by
  have b1 : (i 1).val < 1024 := (i 1).isLt
  refine (val_main_v4_apply (A0 m c) (A1 m c) i).trans ?_
  unfold out Cert.Dy.sums
  rw [← Fin.sum_univ_eq_sum_range (fun k => Cert.Dy.term (A0 m c) (A1 m c) 2 (i 0).val (i 1).val k)]
  refine Finset.sum_congr rfl fun k _ => ?_
  have hk := k.isLt
  rw [val_main_v1_apply, val_main_v0_apply]
  refine congrArg₂ (· * ·) (rd2_of (A0 m c) _ rfl rfl) (rd3_of (A1 m c) _ rfl ?_ ?_)
  · show ((i 1).val * 2048 + k.val) / 2048 % 1024 = _
    omega
  · show ((i 1).val * 2048 + k.val) % 2048 = _
    omega

end Cert.Dy2

end
-- ==== Proof.Prod.Lift0.lean ====
module

public import proofs.«01_k».proof.Proof.Gen.Kernel19Ideal.Value
public import proofs.«01_k».proof.Proof.Gen.Reference19Ideal.Read
public import proofs.«01_k».proof.Proof.Prod.Lift
public import Idealize.ShloMosaic.Lib.Pipeline.ValueKit.Tiles

/-! The first branch's output projection: the branch's values times its weight. -/

@[expose] public section

set_option maxRecDepth 16384

noncomputable section

namespace Cert.Lift0

open Cert.Kernel19Ideal Cert.Kernel19Ideal.Gen Cert.Kernel19Ideal.Value Cert.Prod
open Idealize.ShloMosaic Idealize.ShloMosaic.TcCoe Idealize.ShloMosaic.Tactic Idealize.SL.Sem

theorem index0 : ∀ t : Fin grid0.N, win0_0.index t = ![t.val, 0] := by decide +kernel

theorem index1 : ∀ t : Fin grid0.N, win0_1.index t = ![0, 0, 0, 0] := by decide +kernel

theorem index2 : ∀ t : Fin grid0.N, win0_2.index t = ![t.val, 0] := by decide +kernel

variable (m : (ℓ : Loc nD τ sig) → Buf (Elt Ideal) ℓ) (c : Dev nD)

/-- The arguments. -/
abbrev A0 : (⟨2, ![8448, 1024]⟩ : Shape).Idx → EReal := m ((c.tc : Thread nD τ).loc main_arg0)
abbrev A1 : (⟨3, ![3, 1024, 2048]⟩ : Shape).Idx → EReal := m ((c.tc : Thread nD τ).loc main_arg1)

theorem V_0 : (V m c main_v0 : (⟨2, ![8448, 1024]⟩ : Shape).Idx → EReal) = A0 m c := by
  unfold V hostOps0
  after_results
  rfl

theorem V_1 : (V m c main_v3 : (⟨4, ![4, 3, 1024, 512]⟩ : Shape).Idx → EReal) =
    transpose S4x3x1024x512 [2, 0, 1, 3] (shapeCast S3x1024x4x512 (A1 m c) (by decide)) (by decide) := by
  unfold V hostOps0
  after_results
  rfl

theorem block0 (t : Fin cfg0.N) (x : S1408x1024.Idx) : (iblk m c 0 t x : EReal) =
    rd2 (A0 m c) (1408 * t.val + (x 0).val) (x 1).val := by
  have h := index0 t
  rw [← V_0]
  refine rd2_of (a := 8448) (b := 1024) (V m c main_v0) _ ?_ ?_
  · exact tile (t.val) 1408 (congrFun h 0) (by omega)
  · exact tile 0 1024 (congrFun h 1) (by omega)

theorem block1 (t : Fin cfg0.N) (x : S4x1x1024x512.Idx) : (iblk m c 1 t x : EReal) =
    rd3 (A1 m c) 0 (x 2).val (512 * (x 0).val + (x 3).val) := by
  have h := index1 t
  have hx : (x 1).val = 0 := by have := (x 1).isLt; change _ < 1 at this; omega
  have b0 : (x 0).val < 4 := (x 0).isLt
  have b2 : (x 2).val < 1024 := (x 2).isLt
  have b3 : (x 3).val < 512 := (x 3).isLt
  rw [← branches_at (n := 4) (w := 512) (A1 m c) rfl (by decide) (by decide) b0 (by omega) b2 b3, ← V_1]
  refine rd4_of (a := 4) (b := 3) (c := 1024) (e := 512) (V m c main_v3) _ ?_ ?_ ?_ ?_
  · exact tile 0 4 (congrFun h 0) (by omega)
  · exact tile 0 1 (congrFun h 1) (by omega)
  · exact tile 0 1024 (congrFun h 2) (by omega)
  · exact tile 0 512 (congrFun h 3) (by omega)

/-- Each element of the result. -/
def out : S8448x2048.Idx → EReal := Cert.Lift.sums (A0 m c) (A1 m c) 0

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = t.val * 1408 + 1 * (y 0).val := tile _ 1408 (congrFun h 0) rfl
  have hb1 : (((cfg0.win 2).blk t).view.emb y 1).val = 0 * 2048 + 1 * (y 1).val := tile _ 2048 (congrFun h 1) rfl
  show out0_2 (iblk m c 0 t) (iblk m c 1 t) ((cfg0.win 2).xinj (grid0.coords t) y) = out m c (((cfg0.win 2).blk t).view.emb y)
  have ho : out m c (((cfg0.win 2).blk t).view.emb y) = ∑ k ∈ Finset.range 1024, Cert.Lift.term (A0 m c) (A1 m c) 0 (1408 * t.val + (y 0).val) (y 1).val k := by
    unfold out Cert.Lift.sums
    rw [hb0, hb1]
    exact Finset.sum_congr rfl fun k _ => congrArg₂ (fun p q => Cert.Lift.term (A0 m c) (A1 m c) 0 p q k) (by omega) (by omega)
  rw [ho]
  exact Cert.Lift.tiles (iblk m c 0 t) (iblk m c 1 t) (block0 m c t) (block1 m c t) y

/-- Every element is in some point's block. -/
theorem covered (i : S8448x2048.Idx) : ∃ t : Fin cfg0.N, (cfg0.win 2).flush t = true ∧ i ∈ ((cfg0.win 2).blk t).view.set := by
  have b0 : (i 0).val < 8448 := (i 0).isLt
  have b1 : (i 1).val < 2048 := (i 1).isLt
  obtain ⟨t, ht⟩ : ∃ t : Fin cfg0.N, t.val = (i 0).val / 1408 := ⟨⟨_, show (i 0).val / 1408 < 6 by omega⟩, rfl⟩
  have h0 : win0_2.index t 0 = t.val := congrFun (index2 t) 0
  have h1 : win0_2.index t 1 = 0 := congrFun (index2 t) 1
  refine ⟨t, flush0_2 t, ?_⟩
  show i ∈ ((View.whole main_v4).slice (win0_2.rect t)).set
  rw [View.set_slice_whole, Rect.mem_set_unit]
  intro a
  match a with
    | ⟨0, _⟩ => exact within 1408 (i 0).val h0 (by omega)
    | ⟨1, _⟩ => exact within 2048 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference19Ideal.Read in
/-- The reference's result is the same sum. -/
theorem ref_eq : val_main_v3 (F := Ideal) (A0 m c) (A1 m c) = out m c := funext fun i => by
  have b1 : (i 1).val < 2048 := (i 1).isLt
  refine (val_main_v2_apply (A0 m c) (A1 m c) i).trans ?_
  unfold out Cert.Lift.sums
  rw [← Fin.sum_univ_eq_sum_range (fun k => Cert.Lift.term (A0 m c) (A1 m c) 0 (i 0).val (i 1).val k)]
  refine Finset.sum_congr rfl fun k _ => ?_
  have hk := k.isLt
  rw [val_main_v1_apply, val_main_v0_apply]
  refine congrArg₂ (· * ·) (rd2_of (A0 m c) _ rfl rfl) (rd3_of (A1 m c) _ rfl ?_ ?_)
  · show (k.val * 2048 + (i 1).val) / 2048 % 1024 = _
    omega
  · show (k.val * 2048 + (i 1).val) % 2048 = _
    omega

end Cert.Lift0

end
-- ==== Proof.Prod.Lift2.lean ====
module

public import proofs.«01_k».proof.Proof.Gen.Kernel20Ideal.Value
public import proofs.«01_k».proof.Proof.Gen.Reference20Ideal.Read
public import proofs.«01_k».proof.Proof.Prod.Lift
public import Idealize.ShloMosaic.Lib.Pipeline.ValueKit.Tiles

/-! The third branch's output projection: the branch's values times its weight. -/

@[expose] public section

set_option maxRecDepth 16384

noncomputable section

namespace Cert.Lift2

open Cert.Kernel20Ideal Cert.Kernel20Ideal.Gen Cert.Kernel20Ideal.Value Cert.Prod
open Idealize.ShloMosaic Idealize.ShloMosaic.TcCoe Idealize.ShloMosaic.Tactic Idealize.SL.Sem

theorem index0 : ∀ t : Fin grid0.N, win0_0.index t = ![t.val, 0] := by decide +kernel

theorem index1 : ∀ t : Fin grid0.N, win0_1.index t = ![0, 2, 0, 0] := by decide +kernel

theorem index2 : ∀ t : Fin grid0.N, win0_2.index t = ![t.val, 0] := by decide +kernel

variable (m : (ℓ : Loc nD τ sig) → Buf (Elt Ideal) ℓ) (c : Dev nD)

/-- The arguments. -/
abbrev A0 : (⟨2, ![8448, 1024]⟩ : Shape).Idx → EReal := m ((c.tc : Thread nD τ).loc main_arg0)
abbrev A1 : (⟨3, ![3, 1024, 2048]⟩ : Shape).Idx → EReal := m ((c.tc : Thread nD τ).loc main_arg1)

theorem V_0 : (V m c main_v0 : (⟨2, ![8448, 1024]⟩ : Shape).Idx → EReal) = A0 m c := by
  unfold V hostOps0
  after_results
  rfl

theorem V_1 : (V m c main_v3 : (⟨4, ![4, 3, 1024, 512]⟩ : Shape).Idx → EReal) =
    transpose S4x3x1024x512 [2, 0, 1, 3] (shapeCast S3x1024x4x512 (A1 m c) (by decide)) (by decide) := by
  unfold V hostOps0
  after_results
  rfl

theorem block0 (t : Fin cfg0.N) (x : S1408x1024.Idx) : (iblk m c 0 t x : EReal) =
    rd2 (A0 m c) (1408 * t.val + (x 0).val) (x 1).val := by
  have h := index0 t
  rw [← V_0]
  refine rd2_of (a := 8448) (b := 1024) (V m c main_v0) _ ?_ ?_
  · exact tile (t.val) 1408 (congrFun h 0) (by omega)
  · exact tile 0 1024 (congrFun h 1) (by omega)

theorem block1 (t : Fin cfg0.N) (x : S4x1x1024x512.Idx) : (iblk m c 1 t x : EReal) =
    rd3 (A1 m c) 2 (x 2).val (512 * (x 0).val + (x 3).val) := by
  have h := index1 t
  have hx : (x 1).val = 0 := by have := (x 1).isLt; change _ < 1 at this; omega
  have b0 : (x 0).val < 4 := (x 0).isLt
  have b2 : (x 2).val < 1024 := (x 2).isLt
  have b3 : (x 3).val < 512 := (x 3).isLt
  rw [← branches_at (n := 4) (w := 512) (A1 m c) rfl (by decide) (by decide) b0 (by omega) b2 b3, ← V_1]
  refine rd4_of (a := 4) (b := 3) (c := 1024) (e := 512) (V m c main_v3) _ ?_ ?_ ?_ ?_
  · exact tile 0 4 (congrFun h 0) (by omega)
  · exact tile 2 1 (congrFun h 1) (by omega)
  · exact tile 0 1024 (congrFun h 2) (by omega)
  · exact tile 0 512 (congrFun h 3) (by omega)

/-- Each element of the result. -/
def out : S8448x2048.Idx → EReal := Cert.Lift.sums (A0 m c) (A1 m c) 2

/-- Each point writes its block of the sums. -/
theorem flushed (t : Fin cfg0.N) : (dats m 0 c).flushed 2 t = ((cfg0.win 2).blk t).view.read (Elt Ideal) (out m c) := by
  rw [flushed2]
  have h := index2 t
  funext y
  have hb0 : (((cfg0.win 2).blk t).view.emb y 0).val = t.val * 1408 + 1 * (y 0).val := tile _ 1408 (congrFun h 0) rfl
  have hb1 : (((cfg0.win 2).blk t).view.emb y 1).val = 0 * 2048 + 1 * (y 1).val := tile _ 2048 (congrFun h 1) rfl
  show out0_2 (iblk m c 0 t) (iblk m c 1 t) ((cfg0.win 2).xinj (grid0.coords t) y) = out m c (((cfg0.win 2).blk t).view.emb y)
  have ho : out m c (((cfg0.win 2).blk t).view.emb y) = ∑ k ∈ Finset.range 1024, Cert.Lift.term (A0 m c) (A1 m c) 2 (1408 * t.val + (y 0).val) (y 1).val k := by
    unfold out Cert.Lift.sums
    rw [hb0, hb1]
    exact Finset.sum_congr rfl fun k _ => congrArg₂ (fun p q => Cert.Lift.term (A0 m c) (A1 m c) 2 p q k) (by omega) (by omega)
  rw [ho]
  exact Cert.Lift.tiles (iblk m c 0 t) (iblk m c 1 t) (block0 m c t) (block1 m c t) y

/-- Every element is in some point's block. -/
theorem covered (i : S8448x2048.Idx) : ∃ t : Fin cfg0.N, (cfg0.win 2).flush t = true ∧ i ∈ ((cfg0.win 2).blk t).view.set := by
  have b0 : (i 0).val < 8448 := (i 0).isLt
  have b1 : (i 1).val < 2048 := (i 1).isLt
  obtain ⟨t, ht⟩ : ∃ t : Fin cfg0.N, t.val = (i 0).val / 1408 := ⟨⟨_, show (i 0).val / 1408 < 6 by omega⟩, rfl⟩
  have h0 : win0_2.index t 0 = t.val := congrFun (index2 t) 0
  have h1 : win0_2.index t 1 = 0 := congrFun (index2 t) 1
  refine ⟨t, flush0_2 t, ?_⟩
  show i ∈ ((View.whole main_v4).slice (win0_2.rect t)).set
  rw [View.set_slice_whole, Rect.mem_set_unit]
  intro a
  match a with
    | ⟨0, _⟩ => exact within 1408 (i 0).val h0 (by omega)
    | ⟨1, _⟩ => exact within 2048 (i 1).val h1 (by omega)

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) (covered)), (h c).2⟩)
    (run_blocks m ρ)

open Cert.Reference20Ideal.Read in
/-- The reference's result is the same sum. -/
theorem ref_eq : val_main_v3 (F := Ideal) (A0 m c) (A1 m c) = out m c := funext fun i => by
  have b1 : (i 1).val < 2048 := (i 1).isLt
  refine (val_main_v2_apply (A0 m c) (A1 m c) i).trans ?_
  unfold out Cert.Lift.sums
  rw [← Fin.sum_univ_eq_sum_range (fun k => Cert.Lift.term (A0 m c) (A1 m c) 2 (i 0).val (i 1).val k)]
  refine Finset.sum_congr rfl fun k _ => ?_
  have hk := k.isLt
  rw [val_main_v1_apply, val_main_v0_apply]
  refine congrArg₂ (· * ·) (rd2_of (A0 m c) _ rfl rfl) (rd3_of (A1 m c) _ rfl ?_ ?_)
  · show (k.val * 2048 + (i 1).val) / 2048 % 1024 = _
    omega
  · show (k.val * 2048 + (i 1).val) % 2048 = _
    omega

end Cert.Lift2

end
-- ==== Proof.Opt.AdamFfn2W13.lean ====
module

public import proofs.«01_k».proof.Proof.Gen.Kernel21Ideal.Value
public import proofs.«01_k».proof.Proof.Gen.Reference21Ideal.Read
public import Idealize.ShloMosaic.PureOps.Ideal

/-! The optimiser's step of the second feed-forward layer's input weight: gradient, change and both moments. -/

@[expose] public section

noncomputable section

namespace Cert.AdamFfn2W13

open Cert.Kernel21Ideal Cert.Kernel21Ideal.Gen Cert.Kernel21Ideal.Value
open Idealize.ShloMosaic Idealize.ShloMosaic.TcCoe Idealize.SL.Sem

variable (m : (ℓ : Loc nD τ sig) → Buf (Elt Ideal) ℓ)

/-- Result 0, the gradient, as an array of the arguments. -/
abbrev out0 (c : Dev nD) := G5 (F := Ideal) (m ((c : Thread nD τ).loc main_arg3)) (m ((c : Thread nD τ).loc main_arg4))

/-- Result 1, the change of the weight, as an array of the arguments. -/
abbrev out1 (c : Dev nD) := G6 (F := Ideal) (m ((c : Thread nD τ).loc main_arg3)) (m ((c : Thread nD τ).loc main_arg4)) (m ((c : Thread nD τ).loc main_arg1)) (m ((c : Thread nD τ).loc main_arg2)) (m ((c : Thread nD τ).loc main_arg0))

/-- Result 2, the first moment, as an array of the arguments. -/
abbrev out2 (c : Dev nD) := G7 (F := Ideal) (m ((c : Thread nD τ).loc main_arg3)) (m ((c : Thread nD τ).loc main_arg4)) (m ((c : Thread nD τ).loc main_arg1))

/-- Result 3, the second moment, as an array of the arguments. -/
abbrev out3 (c : Dev nD) := G8 (F := Ideal) (m ((c : Thread nD τ).loc main_arg3)) (m ((c : Thread nD τ).loc main_arg4)) (m ((c : Thread nD τ).loc main_arg2))

open Cert.Reference21Ideal.Read

/-- The reference's value of result 0 is the same: the operations agree element by element. -/
theorem ref_eq0 (c : Dev nD) : val_main_v0 (F := Ideal) (m ((c : Thread nD τ).loc main_arg3)) (m ((c : Thread nD τ).loc main_arg4)) = out0 m c := rfl

/-- The reference's value of result 1 is the same: the operations agree element by element. -/
theorem ref_eq1 (c : Dev nD) : val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = out1 m c := rfl

/-- The reference's value of result 2 is the same: the operations agree element by element. -/
theorem ref_eq2 (c : Dev nD) : val_main_v5 (F := Ideal) (m ((c : Thread nD τ).loc main_arg1)) (m ((c : Thread nD τ).loc main_arg3)) (m ((c : Thread nD τ).loc main_arg4)) = out2 m c := rfl

/-- The reference's value of result 3 is the same: the operations agree element by element. -/
theorem ref_eq3 (c : Dev nD) : val_main_v11 (F := Ideal) (m ((c : Thread nD τ).loc main_arg2)) (m ((c : Thread nD τ).loc main_arg3)) (m ((c : Thread nD τ).loc main_arg4)) = out3 m c := rfl

end Cert.AdamFfn2W13

end
-- ==== Proof.Opt.AdamFfn2W2.lean ====
module

public import proofs.«01_k».proof.Proof.Gen.Kernel22Ideal.Value
public import proofs.«01_k».proof.Proof.Gen.Reference22Ideal.Read
public import Idealize.ShloMosaic.PureOps.Ideal

/-! The optimiser's step of the second feed-forward layer's output weight: gradient, change and both moments. -/

@[expose] public section

noncomputable section

namespace Cert.AdamFfn2W2

open Cert.Kernel22Ideal Cert.Kernel22Ideal.Gen Cert.Kernel22Ideal.Value
open Idealize.ShloMosaic Idealize.ShloMosaic.TcCoe Idealize.SL.Sem

variable (m : (ℓ : Loc nD τ sig) → Buf (Elt Ideal) ℓ)

/-- Result 0, the gradient, as an array of the arguments. -/
abbrev out0 (c : Dev nD) := G5 (F := Ideal) (m ((c : Thread nD τ).loc main_arg3)) (m ((c : Thread nD τ).loc main_arg4))

/-- Result 1, the change of the weight, as an array of the arguments. -/
abbrev out1 (c : Dev nD) := G6 (F := Ideal) (m ((c : Thread nD τ).loc main_arg3)) (m ((c : Thread nD τ).loc main_arg4)) (m ((c : Thread nD τ).loc main_arg1)) (m ((c : Thread nD τ).loc main_arg2)) (m ((c : Thread nD τ).loc main_arg0))

/-- Result 2, the first moment, as an array of the arguments. -/
abbrev out2 (c : Dev nD) := G7 (F := Ideal) (m ((c : Thread nD τ).loc main_arg3)) (m ((c : Thread nD τ).loc main_arg4)) (m ((c : Thread nD τ).loc main_arg1))

/-- Result 3, the second moment, as an array of the arguments. -/
abbrev out3 (c : Dev nD) := G8 (F := Ideal) (m ((c : Thread nD τ).loc main_arg3)) (m ((c : Thread nD τ).loc main_arg4)) (m ((c : Thread nD τ).loc main_arg2))

open Cert.Reference22Ideal.Read

/-- The reference's value of result 0 is the same: the operations agree element by element. -/
theorem ref_eq0 (c : Dev nD) : val_main_v0 (F := Ideal) (m ((c : Thread nD τ).loc main_arg3)) (m ((c : Thread nD τ).loc main_arg4)) = out0 m c := rfl

/-- The reference's value of result 1 is the same: the operations agree element by element. -/
theorem ref_eq1 (c : Dev nD) : val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = out1 m c := rfl

/-- The reference's value of result 2 is the same: the operations agree element by element. -/
theorem ref_eq2 (c : Dev nD) : val_main_v5 (F := Ideal) (m ((c : Thread nD τ).loc main_arg1)) (m ((c : Thread nD τ).loc main_arg3)) (m ((c : Thread nD τ).loc main_arg4)) = out2 m c := rfl

/-- The reference's value of result 3 is the same: the operations agree element by element. -/
theorem ref_eq3 (c : Dev nD) : val_main_v11 (F := Ideal) (m ((c : Thread nD τ).loc main_arg2)) (m ((c : Thread nD τ).loc main_arg3)) (m ((c : Thread nD τ).loc main_arg4)) = out3 m c := rfl

end Cert.AdamFfn2W2

end
-- ==== Proof.Opt.AdamWOut.lean ====
module

public import proofs.«01_k».proof.Proof.Gen.Kernel23Ideal.Value
public import proofs.«01_k».proof.Proof.Gen.Reference23Ideal.Read
public import Idealize.ShloMosaic.PureOps.Ideal

/-! The optimiser's step of the mixer's output projection: gradient, change and both moments. -/

@[expose] public section

noncomputable section

namespace Cert.AdamWOut

open Cert.Kernel23Ideal Cert.Kernel23Ideal.Gen Cert.Kernel23Ideal.Value
open Idealize.ShloMosaic Idealize.ShloMosaic.TcCoe Idealize.SL.Sem

variable (m : (ℓ : Loc nD τ sig) → Buf (Elt Ideal) ℓ)

/-- Result 0, the gradient, as an array of the arguments. -/
abbrev out0 (c : Dev nD) := G5 (F := Ideal) (m ((c : Thread nD τ).loc main_arg3)) (m ((c : Thread nD τ).loc main_arg4))

/-- Result 1, the change of the weight, as an array of the arguments. -/
abbrev out1 (c : Dev nD) := G6 (F := Ideal) (m ((c : Thread nD τ).loc main_arg3)) (m ((c : Thread nD τ).loc main_arg4)) (m ((c : Thread nD τ).loc main_arg1)) (m ((c : Thread nD τ).loc main_arg2)) (m ((c : Thread nD τ).loc main_arg0))

/-- Result 2, the first moment, as an array of the arguments. -/
abbrev out2 (c : Dev nD) := G7 (F := Ideal) (m ((c : Thread nD τ).loc main_arg3)) (m ((c : Thread nD τ).loc main_arg4)) (m ((c : Thread nD τ).loc main_arg1))

/-- Result 3, the second moment, as an array of the arguments. -/
abbrev out3 (c : Dev nD) := G8 (F := Ideal) (m ((c : Thread nD τ).loc main_arg3)) (m ((c : Thread nD τ).loc main_arg4)) (m ((c : Thread nD τ).loc main_arg2))

open Cert.Reference23Ideal.Read

/-- The reference's value of result 0 is the same: the operations agree element by element. -/
theorem ref_eq0 (c : Dev nD) : val_main_v0 (F := Ideal) (m ((c : Thread nD τ).loc main_arg3)) (m ((c : Thread nD τ).loc main_arg4)) = out0 m c := rfl

/-- The reference's value of result 1 is the same: the operations agree element by element. -/
theorem ref_eq1 (c : Dev nD) : val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = out1 m c := rfl

/-- The reference's value of result 2 is the same: the operations agree element by element. -/
theorem ref_eq2 (c : Dev nD) : val_main_v5 (F := Ideal) (m ((c : Thread nD τ).loc main_arg1)) (m ((c : Thread nD τ).loc main_arg3)) (m ((c : Thread nD τ).loc main_arg4)) = out2 m c := rfl

/-- The reference's value of result 3 is the same: the operations agree element by element. -/
theorem ref_eq3 (c : Dev nD) : val_main_v11 (F := Ideal) (m ((c : Thread nD τ).loc main_arg2)) (m ((c : Thread nD τ).loc main_arg3)) (m ((c : Thread nD τ).loc main_arg4)) = out3 m c := rfl

end Cert.AdamWOut

end
-- ==== Proof.Opt.AdamWBranch.lean ====
module

public import proofs.«01_k».proof.Proof.Gen.Kernel24Ideal.Value
public import proofs.«01_k».proof.Proof.Gen.Reference24Ideal.Read
public import Idealize.ShloMosaic.PureOps.Ideal

/-! The optimiser's step of the branches' output projections: gradient, change and both moments. -/

@[expose] public section

noncomputable section

namespace Cert.AdamWBranch

open Cert.Kernel24Ideal Cert.Kernel24Ideal.Gen Cert.Kernel24Ideal.Value
open Idealize.ShloMosaic Idealize.ShloMosaic.TcCoe Idealize.SL.Sem

variable (m : (ℓ : Loc nD τ sig) → Buf (Elt Ideal) ℓ)

/-- Result 0, the gradient, as an array of the arguments. -/
abbrev out0 (c : Dev nD) := G5 (F := Ideal) (m ((c : Thread nD τ).loc main_arg3)) (m ((c : Thread nD τ).loc main_arg4))

/-- Result 1, the change of the weight, as an array of the arguments. -/
abbrev out1 (c : Dev nD) := G6 (F := Ideal) (m ((c : Thread nD τ).loc main_arg3)) (m ((c : Thread nD τ).loc main_arg4)) (m ((c : Thread nD τ).loc main_arg1)) (m ((c : Thread nD τ).loc main_arg2)) (m ((c : Thread nD τ).loc main_arg0))

/-- Result 2, the first moment, as an array of the arguments. -/
abbrev out2 (c : Dev nD) := G7 (F := Ideal) (m ((c : Thread nD τ).loc main_arg3)) (m ((c : Thread nD τ).loc main_arg4)) (m ((c : Thread nD τ).loc main_arg1))

/-- Result 3, the second moment, as an array of the arguments. -/
abbrev out3 (c : Dev nD) := G8 (F := Ideal) (m ((c : Thread nD τ).loc main_arg3)) (m ((c : Thread nD τ).loc main_arg4)) (m ((c : Thread nD τ).loc main_arg2))

open Cert.Reference24Ideal.Read

/-- The reference's value of result 0 is the same: the operations agree element by element. -/
theorem ref_eq0 (c : Dev nD) : val_main_v0 (F := Ideal) (m ((c : Thread nD τ).loc main_arg3)) (m ((c : Thread nD τ).loc main_arg4)) = out0 m c := rfl

/-- The reference's value of result 1 is the same: the operations agree element by element. -/
theorem ref_eq1 (c : Dev nD) : val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = out1 m c := rfl

/-- The reference's value of result 2 is the same: the operations agree element by element. -/
theorem ref_eq2 (c : Dev nD) : val_main_v5 (F := Ideal) (m ((c : Thread nD τ).loc main_arg1)) (m ((c : Thread nD τ).loc main_arg3)) (m ((c : Thread nD τ).loc main_arg4)) = out2 m c := rfl

/-- The reference's value of result 3 is the same: the operations agree element by element. -/
theorem ref_eq3 (c : Dev nD) : val_main_v11 (F := Ideal) (m ((c : Thread nD τ).loc main_arg2)) (m ((c : Thread nD τ).loc main_arg3)) (m ((c : Thread nD τ).loc main_arg4)) = out3 m c := rfl

end Cert.AdamWBranch

end
-- ==== Proof.Opt.AdamWIn.lean ====
module

public import proofs.«01_k».proof.Proof.Gen.Kernel25Ideal.Value
public import proofs.«01_k».proof.Proof.Gen.Reference25Ideal.Read
public import Idealize.ShloMosaic.PureOps.Ideal

/-! The optimiser's step of the mixer's input projection: gradient, change and both moments. -/

@[expose] public section

noncomputable section

namespace Cert.AdamWIn

open Cert.Kernel25Ideal Cert.Kernel25Ideal.Gen Cert.Kernel25Ideal.Value
open Idealize.ShloMosaic Idealize.ShloMosaic.TcCoe Idealize.SL.Sem

variable (m : (ℓ : Loc nD τ sig) → Buf (Elt Ideal) ℓ)

/-- Result 0, the gradient, as an array of the arguments. -/
abbrev out0 (c : Dev nD) := G5 (F := Ideal) (m ((c : Thread nD τ).loc main_arg3)) (m ((c : Thread nD τ).loc main_arg4))

/-- Result 1, the change of the weight, as an array of the arguments. -/
abbrev out1 (c : Dev nD) := G6 (F := Ideal) (m ((c : Thread nD τ).loc main_arg3)) (m ((c : Thread nD τ).loc main_arg4)) (m ((c : Thread nD τ).loc main_arg1)) (m ((c : Thread nD τ).loc main_arg2)) (m ((c : Thread nD τ).loc main_arg0))

/-- Result 2, the first moment, as an array of the arguments. -/
abbrev out2 (c : Dev nD) := G7 (F := Ideal) (m ((c : Thread nD τ).loc main_arg3)) (m ((c : Thread nD τ).loc main_arg4)) (m ((c : Thread nD τ).loc main_arg1))

/-- Result 3, the second moment, as an array of the arguments. -/
abbrev out3 (c : Dev nD) := G8 (F := Ideal) (m ((c : Thread nD τ).loc main_arg3)) (m ((c : Thread nD τ).loc main_arg4)) (m ((c : Thread nD τ).loc main_arg2))

open Cert.Reference25Ideal.Read

/-- The reference's value of result 0 is the same: the operations agree element by element. -/
theorem ref_eq0 (c : Dev nD) : val_main_v0 (F := Ideal) (m ((c : Thread nD τ).loc main_arg3)) (m ((c : Thread nD τ).loc main_arg4)) = out0 m c := rfl

/-- The reference's value of result 1 is the same: the operations agree element by element. -/
theorem ref_eq1 (c : Dev nD) : val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = out1 m c := rfl

/-- The reference's value of result 2 is the same: the operations agree element by element. -/
theorem ref_eq2 (c : Dev nD) : val_main_v5 (F := Ideal) (m ((c : Thread nD τ).loc main_arg1)) (m ((c : Thread nD τ).loc main_arg3)) (m ((c : Thread nD τ).loc main_arg4)) = out2 m c := rfl

/-- The reference's value of result 3 is the same: the operations agree element by element. -/
theorem ref_eq3 (c : Dev nD) : val_main_v11 (F := Ideal) (m ((c : Thread nD τ).loc main_arg2)) (m ((c : Thread nD τ).loc main_arg3)) (m ((c : Thread nD τ).loc main_arg4)) = out3 m c := rfl

end Cert.AdamWIn

end
-- ==== Proof.Opt.AdamFfn1W2.lean ====
module

public import proofs.«01_k».proof.Proof.Gen.Kernel26Ideal.Value
public import proofs.«01_k».proof.Proof.Gen.Reference26Ideal.Read
public import Idealize.ShloMosaic.PureOps.Ideal

/-! The optimiser's step of the first feed-forward layer's output weight: gradient, change and both moments. -/

@[expose] public section

noncomputable section

namespace Cert.AdamFfn1W2

open Cert.Kernel26Ideal Cert.Kernel26Ideal.Gen Cert.Kernel26Ideal.Value
open Idealize.ShloMosaic Idealize.ShloMosaic.TcCoe Idealize.SL.Sem

variable (m : (ℓ : Loc nD τ sig) → Buf (Elt Ideal) ℓ)

/-- Result 0, the gradient, as an array of the arguments. -/
abbrev out0 (c : Dev nD) := G5 (F := Ideal) (m ((c : Thread nD τ).loc main_arg3)) (m ((c : Thread nD τ).loc main_arg4))

/-- Result 1, the change of the weight, as an array of the arguments. -/
abbrev out1 (c : Dev nD) := G6 (F := Ideal) (m ((c : Thread nD τ).loc main_arg3)) (m ((c : Thread nD τ).loc main_arg4)) (m ((c : Thread nD τ).loc main_arg1)) (m ((c : Thread nD τ).loc main_arg2)) (m ((c : Thread nD τ).loc main_arg0))

/-- Result 2, the first moment, as an array of the arguments. -/
abbrev out2 (c : Dev nD) := G7 (F := Ideal) (m ((c : Thread nD τ).loc main_arg3)) (m ((c : Thread nD τ).loc main_arg4)) (m ((c : Thread nD τ).loc main_arg1))

/-- Result 3, the second moment, as an array of the arguments. -/
abbrev out3 (c : Dev nD) := G8 (F := Ideal) (m ((c : Thread nD τ).loc main_arg3)) (m ((c : Thread nD τ).loc main_arg4)) (m ((c : Thread nD τ).loc main_arg2))

open Cert.Reference26Ideal.Read

/-- The reference's value of result 0 is the same: the operations agree element by element. -/
theorem ref_eq0 (c : Dev nD) : val_main_v0 (F := Ideal) (m ((c : Thread nD τ).loc main_arg3)) (m ((c : Thread nD τ).loc main_arg4)) = out0 m c := rfl

/-- The reference's value of result 1 is the same: the operations agree element by element. -/
theorem ref_eq1 (c : Dev nD) : val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = out1 m c := rfl

/-- The reference's value of result 2 is the same: the operations agree element by element. -/
theorem ref_eq2 (c : Dev nD) : val_main_v5 (F := Ideal) (m ((c : Thread nD τ).loc main_arg1)) (m ((c : Thread nD τ).loc main_arg3)) (m ((c : Thread nD τ).loc main_arg4)) = out2 m c := rfl

/-- The reference's value of result 3 is the same: the operations agree element by element. -/
theorem ref_eq3 (c : Dev nD) : val_main_v11 (F := Ideal) (m ((c : Thread nD τ).loc main_arg2)) (m ((c : Thread nD τ).loc main_arg3)) (m ((c : Thread nD τ).loc main_arg4)) = out3 m c := rfl

end Cert.AdamFfn1W2

end
-- ==== Proof.Opt.AdamFfn1W13.lean ====
module

public import proofs.«01_k».proof.Proof.Gen.Kernel27Ideal.Value
public import proofs.«01_k».proof.Proof.Gen.Reference27Ideal.Read
public import Idealize.ShloMosaic.PureOps.Ideal

/-! The optimiser's step of the first feed-forward layer's input weight: gradient, change and both moments. -/

@[expose] public section

noncomputable section

namespace Cert.AdamFfn1W13

open Cert.Kernel27Ideal Cert.Kernel27Ideal.Gen Cert.Kernel27Ideal.Value
open Idealize.ShloMosaic Idealize.ShloMosaic.TcCoe Idealize.SL.Sem

variable (m : (ℓ : Loc nD τ sig) → Buf (Elt Ideal) ℓ)

/-- Result 0, the gradient, as an array of the arguments. -/
abbrev out0 (c : Dev nD) := G5 (F := Ideal) (m ((c : Thread nD τ).loc main_arg3)) (m ((c : Thread nD τ).loc main_arg4))

/-- Result 1, the change of the weight, as an array of the arguments. -/
abbrev out1 (c : Dev nD) := G6 (F := Ideal) (m ((c : Thread nD τ).loc main_arg3)) (m ((c : Thread nD τ).loc main_arg4)) (m ((c : Thread nD τ).loc main_arg1)) (m ((c : Thread nD τ).loc main_arg2)) (m ((c : Thread nD τ).loc main_arg0))

/-- Result 2, the first moment, as an array of the arguments. -/
abbrev out2 (c : Dev nD) := G7 (F := Ideal) (m ((c : Thread nD τ).loc main_arg3)) (m ((c : Thread nD τ).loc main_arg4)) (m ((c : Thread nD τ).loc main_arg1))

/-- Result 3, the second moment, as an array of the arguments. -/
abbrev out3 (c : Dev nD) := G8 (F := Ideal) (m ((c : Thread nD τ).loc main_arg3)) (m ((c : Thread nD τ).loc main_arg4)) (m ((c : Thread nD τ).loc main_arg2))

open Cert.Reference27Ideal.Read

/-- The reference's value of result 0 is the same: the operations agree element by element. -/
theorem ref_eq0 (c : Dev nD) : val_main_v0 (F := Ideal) (m ((c : Thread nD τ).loc main_arg3)) (m ((c : Thread nD τ).loc main_arg4)) = out0 m c := rfl

/-- The reference's value of result 1 is the same: the operations agree element by element. -/
theorem ref_eq1 (c : Dev nD) : val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = out1 m c := rfl

/-- The reference's value of result 2 is the same: the operations agree element by element. -/
theorem ref_eq2 (c : Dev nD) : val_main_v5 (F := Ideal) (m ((c : Thread nD τ).loc main_arg1)) (m ((c : Thread nD τ).loc main_arg3)) (m ((c : Thread nD τ).loc main_arg4)) = out2 m c := rfl

/-- The reference's value of result 3 is the same: the operations agree element by element. -/
theorem ref_eq3 (c : Dev nD) : val_main_v11 (F := Ideal) (m ((c : Thread nD τ).loc main_arg2)) (m ((c : Thread nD τ).loc main_arg3)) (m ((c : Thread nD τ).loc main_arg4)) = out3 m c := rfl

end Cert.AdamFfn1W13

end
-- ==== Proof.Opt.AdamSmall.lean ====
module

public import proofs.«01_k».proof.Proof.Gen.Kernel28Ideal.Value
public import proofs.«01_k».proof.Proof.Gen.Reference28Ideal.Read
public import proofs.«01_k».proof.Proof.Prod.Base

/-! The optimiser's step of the small weights, packed into one array: gradient, change and both moments. -/

@[expose] public section

noncomputable section

namespace Cert.AdamSmall

open Cert.Kernel28Ideal Cert.Kernel28Ideal.Gen Cert.Kernel28Ideal.Value Cert.Prod
open Idealize.ShloMosaic Idealize.ShloMosaic.TcCoe Idealize.SL.Sem

variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

open Cert.Reference28Ideal.Read

/-- The gradient, as it arrived. -/
abbrev out0 (c : Dev nD) : S9216x128.Idx → Elt Ideal .f32 := A3 m c
/-- The change of the weights. -/
abbrev out1 (c : Dev nD) : S9216x128.Idx → Elt Ideal .f32 := val_main_v23 (F := Ideal) (A0 m c) (A1 m c) (A2 m c) (A3 m c)
/-- The first moment. -/
abbrev out2 (c : Dev nD) : S9216x128.Idx → Elt Ideal .f32 := val_main_v4 (F := Ideal) (A1 m c) (A3 m c)
/-- The second moment. -/
abbrev out3 (c : Dev nD) : S9216x128.Idx → Elt Ideal .f32 := val_main_v10 (F := Ideal) (A2 m c) (A3 m c)

theorem index4 : ∀ t : Fin grid0.N, win0_4.index t = ![t.val, 0] := by decide +kernel

/-- What one step writes of result 0. -/
theorem block4 (c : Dev nD) (t : Fin cfg0.N) :
    (dats m 0 c).flushed 4 t = ((cfg0.win 4).blk t).view.read (Elt Ideal) (out0 m c) := by
  rw [flushed4]
  unfold out0_4
  rw [View.canon_unit_zero off2]
  simp only [View.ld_unit_zero (S := S1024x128) off2]
  rfl

/-- The blocks of result 0 tile the array. -/
theorem cover4 (i : S9216x128.Idx) : ∃ t : Fin cfg0.N, (cfg0.win 4).flush t = true ∧ i ∈ ((cfg0.win 4).blk t).view.set := by
  have b0 : (i 0).val < 9216 := (i 0).isLt
  have b1 : (i 1).val < 128 := (i 1).isLt
  obtain ⟨t, ht⟩ : ∃ t : Fin cfg0.N, t.val = (i 0).val / 1024 := ⟨⟨_, show (i 0).val / 1024 < 9 by omega⟩, rfl⟩
  have h0 : win0_4.index t 0 = t.val := congrFun (index4 t) 0
  have h1 : win0_4.index t 1 = 0 := congrFun (index4 t) 1
  refine ⟨t, flush0_4 t, ?_⟩
  show i ∈ ((View.whole main_v0_0).slice (win0_4.rect t)).set
  rw [View.set_slice_whole, Rect.mem_set_unit]
  intro a
  match a with
    | ⟨0, _⟩ => exact within 1024 (i 0).val h0 (by omega)
    | ⟨1, _⟩ => exact within 128 (i 1).val h1 (by omega)

/-- What one step writes of result 1. -/
theorem block5 (c : Dev nD) (t : Fin cfg0.N) :
    (dats m 0 c).flushed 5 t = ((cfg0.win 5).blk t).view.read (Elt Ideal) (out1 m c) := by
  rw [flushed5]
  unfold out0_5
  rw [View.canon_unit_zero off2]
  simp only [View.ld_unit_zero (S := S1024x128) off2]
  rfl

/-- The blocks of result 1 tile the array. -/
theorem cover5 (i : S9216x128.Idx) : ∃ t : Fin cfg0.N, (cfg0.win 5).flush t = true ∧ i ∈ ((cfg0.win 5).blk t).view.set := cover4 i

/-- What one step writes of result 2. -/
theorem block6 (c : Dev nD) (t : Fin cfg0.N) :
    (dats m 0 c).flushed 6 t = ((cfg0.win 6).blk t).view.read (Elt Ideal) (out2 m c) := by
  rw [flushed6]
  unfold out0_6
  rw [View.canon_unit_zero off2]
  simp only [View.ld_unit_zero (S := S1024x128) off2]
  rfl

/-- The blocks of result 2 tile the array. -/
theorem cover6 (i : S9216x128.Idx) : ∃ t : Fin cfg0.N, (cfg0.win 6).flush t = true ∧ i ∈ ((cfg0.win 6).blk t).view.set := cover4 i

/-- What one step writes of result 3. -/
theorem block7 (c : Dev nD) (t : Fin cfg0.N) :
    (dats m 0 c).flushed 7 t = ((cfg0.win 7).blk t).view.read (Elt Ideal) (out3 m c) := by
  rw [flushed7]
  unfold out0_7
  rw [View.canon_unit_zero off2]
  simp only [View.ld_unit_zero (S := S1024x128) off2]
  rfl

/-- The blocks of result 3 tile the array. -/
theorem cover7 (i : S9216x128.Idx) : ∃ t : Fin cfg0.N, (cfg0.win 7).flush t = true ∧ i ∈ ((cfg0.win 7).blk t).view.set := cover4 i

/-- The run: the four results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = out0 m c
      ∧ r.2.mem ((c : Thread nD τ).loc main_v0_1) = out1 m c
      ∧ r.2.mem ((c : Thread nD τ).loc main_v0_2) = out2 m c
      ∧ r.2.mem ((c : Thread nD τ).loc main_v0_3) = out3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => block4 m c t) cover4),
      (h c).2.1.trans ((dats m 0 c).arrAt_eq_of_cover 5 _ (fun t _ => block5 m c t) cover5),
      (h c).2.2.1.trans ((dats m 0 c).arrAt_eq_of_cover 6 _ (fun t _ => block6 m c t) cover6),
      (h c).2.2.2.1.trans ((dats m 0 c).arrAt_eq_of_cover 7 _ (fun t _ => block7 m c t) cover7), (h c).2.2.2.2⟩)
    (run_blocks m ρ)

/-- The reference's results are these. -/
theorem ref_eq0 (c : Dev nD) : A3 m c = out0 m c := rfl
theorem ref_eq1 (c : Dev nD) : val_main_v23 (F := Ideal) (A0 m c) (A1 m c) (A2 m c) (A3 m c) = out1 m c := rfl
theorem ref_eq2 (c : Dev nD) : val_main_v4 (F := Ideal) (A1 m c) (A3 m c) = out2 m c := rfl
theorem ref_eq3 (c : Dev nD) : val_main_v10 (F := Ideal) (A2 m c) (A3 m c) = out3 m c := rfl

end Cert.AdamSmall

end
-- ==== Proof.Opt.AdaUpdate.lean ====
module

public import proofs.«01_k».proof.Proof.Gen.Kernel29Ideal.Value
public import proofs.«01_k».proof.Proof.Gen.Reference29Ideal.Read
public import proofs.«01_k».proof.Proof.Prod.Base

/-! The modulation's weight: its gradient, the product of the activated condition and the modulation's gradient, and the
    optimiser's step with it. -/

@[expose] public section

set_option maxRecDepth 16384

noncomputable section

namespace Cert.AdaUpdate

open Cert.Kernel29Ideal Cert.Kernel29Ideal.Gen Cert.Kernel29Ideal.Value Cert.Prod
open Idealize.ShloMosaic Idealize.ShloMosaic.TcCoe Idealize.SL.Sem

variable (m : (ℓ : Loc nD τ sig) → Buf (Elt Ideal) ℓ)

abbrev A0 (c : Dev nD) : S16x2048.Idx → Elt Ideal .f32 := m ((c : Thread nD τ).loc main_arg0)
abbrev A1 (c : Dev nD) : S2x16x4608.Idx → Elt Ideal .f32 := m ((c : Thread nD τ).loc main_arg1)
abbrev A2 (c : Dev nD) : S2x2048x4608.Idx → Elt Ideal .f32 := m ((c : Thread nD τ).loc main_arg2)
abbrev A3 (c : Dev nD) : S2x2048x4608.Idx → Elt Ideal .f32 := m ((c : Thread nD τ).loc main_arg3)
abbrev A4 (c : Dev nD) : S2x2048x4608.Idx → Elt Ideal .f32 := m ((c : Thread nD τ).loc main_arg4)

open Cert.Reference29Ideal.Read

/-- The gradient. -/
abbrev out0 (c : Dev nD) : S2x2048x4608.Idx → Elt Ideal .f32 := val_main_v6 (F := Ideal) (A0 m c) (A1 m c)
/-- The change of the weight. -/
abbrev out1 (c : Dev nD) : S2x2048x4608.Idx → Elt Ideal .f32 := val_main_v30 (F := Ideal) (A0 m c) (A1 m c) (A2 m c) (A3 m c) (A4 m c)
/-- The first moment. -/
abbrev out2 (c : Dev nD) : S2x2048x4608.Idx → Elt Ideal .f32 := val_main_v11 (F := Ideal) (A0 m c) (A1 m c) (A3 m c)
/-- The second moment. -/
abbrev out3 (c : Dev nD) : S2x2048x4608.Idx → Elt Ideal .f32 := val_main_v17 (F := Ideal) (A0 m c) (A1 m c) (A4 m c)

abbrev D := dot_S16x128_S16x1536_S128x1536_0_0_1_1_n_n

theorem lhs1 (i : S128x1536.Idx) (q : D.contr.Idx) : (D.lhsIdx i q 1).val = (i 0).val := lhs_at D i q (by decide) (by decide) rfl

theorem rhs1 (i : S128x1536.Idx) (q : D.contr.Idx) : (D.rhsIdx i q 1).val = (i 1).val := rhs_at D i q (by decide) (by decide) rfl

/-- One step's gradients: sums over the sixteen rows. -/
theorem pay_at (x0 : FVec Ideal S16x128 .f32) (x1 : FVec Ideal S1x16x1536 .f32) (y : S128x1536.Idx)
    (L R : ℕ → EReal) (hl : ∀ x : S16x128.Idx, (x 1).val = (y 0).val → FloatOps.mulf (x0 x) (FloatOps.logistic (x0 x)) = L (x 0).val)
    (hr : ∀ x : S1x16x1536.Idx, (x 2).val = (y 1).val → x1 x = R (x 1).val) :
    (k0_pay4 (F := Ideal) x0 x1 y : EReal) = ∑ k ∈ Finset.range 16, L k * R k := by
  unfold k0_pay4
  refine dot_at D 16 rfl rfl _ _ _ y L R (fun q => ?_) (fun q => ?_)
  · exact (hl _ (lhs1 y q)).trans (congrArg L (D.lhsIdx_val_of_single rfl y q))
  · refine (shapeCast_dropUnit_apply ![16, 1536] x1 _ _).trans ?_
    exact (hr _ (rhs1 y q)).trans (congrArg R (D.rhsIdx_val_of_single rfl y q))

theorem index0 : ∀ t : Fin grid0.N, win0_0.index t = ![0, t.val / 3 % 16] := by decide +kernel

theorem index1 : ∀ t : Fin grid0.N, win0_1.index t = ![t.val / 48, 0, t.val % 3] := by decide +kernel

theorem index5 : ∀ t : Fin grid0.N, win0_5.index t = ![t.val / 48, t.val / 3 % 16, t.val % 3] := by decide +kernel

theorem block0 (c : Dev nD) (t : Fin cfg0.N) (x : S16x128.Idx) : (iblk m c 0 t x : EReal) =
    rd2 (a := 16) (b := 2048) (A0 m c) ((x 0).val) (128 * (t.val / 3 % 16) + (x 1).val) := by
  have h := index0 t
  refine rd2_of (a := 16) (b := 2048) (A0 m c) _ ?_ ?_
  · exact tile 0 16 (congrFun h 0) (by omega)
  · exact tile (t.val / 3 % 16) 128 (congrFun h 1) (by omega)

theorem block1 (c : Dev nD) (t : Fin cfg0.N) (x : S1x16x1536.Idx) : (iblk m c 1 t x : EReal) =
    rd3 (a := 2) (b := 16) (c := 4608) (A1 m c) (t.val / 48) ((x 1).val) (1536 * (t.val % 3) + (x 2).val) := by
  have h := index1 t
  have hx : (x 0).val = 0 := by have := (x 0).isLt; change _ < 1 at this; omega
  refine rd3_of (a := 2) (b := 16) (c := 4608) (A1 m c) _ ?_ ?_ ?_
  · exact tile (t.val / 48) 1 (congrFun h 0) (by omega)
  · exact tile 0 16 (congrFun h 1) (by omega)
  · exact tile (t.val % 3) 1536 (congrFun h 2) (by omega)

/-- The logistic function as the reference computes it. -/
theorem logistic_at (x : Ideal .f32) : FloatOps.hostDivf (Scalar.ofBits .f32 0x3F800000#32)
    (FloatOps.addf (Scalar.ofBits .f32 0x3F800000#32) (FloatOps.hostUnary .exp (FloatOps.hostNegf x))) = FloatOps.logistic x := by
  show Ideal.div (Ideal.ofBits .f32 0x3F800000#32) (Ideal.ofBits .f32 0x3F800000#32 + Ideal.exp (-x)) = Ideal.div 1 (1 + Ideal.exp (-x))
  rw [Ideal.ofBits_one_f32]

/-- The reference's activated condition. -/
theorem silu_at (X : S16x2048.Idx → Elt Ideal .f32) (i : S16x2048.Idx) :
    val_main_v1 (F := Ideal) X i = FloatOps.mulf (F := Ideal) (φ := .f32) (X i) (FloatOps.logistic (F := Ideal) (φ := .f32) (X i)) := by
  rw [val_main_v1_apply]
  exact congrArg (FloatOps.mulf (F := Ideal) (φ := .f32) (X i)) (logistic_at (X i))

/-- The activated condition at row `k`, column `p`. -/
def act (c : Dev nD) (k p : ℕ) : EReal := FloatOps.mulf (F := Ideal) (φ := .f32) (rd2 (a := 16) (b := 2048) (A0 m c) k p)
  (FloatOps.logistic (F := Ideal) (φ := .f32) (rd2 (a := 16) (b := 2048) (A0 m c) k p))

theorem grad_ref (c : Dev nD) (i : S2x2048x4608.Idx) : (out0 m c i : EReal) =
    ∑ k ∈ Finset.range 16, act m c k (i 1).val * rd3 (a := 2) (b := 16) (c := 4608) (A1 m c) (i 0).val k (i 2).val := by
  show val_main_v6 (F := Ideal) (A0 m c) (A1 m c) i = _
  rw [val_main_v6_apply, val_main_v5_apply,
    ← Fin.sum_univ_eq_sum_range (fun k => act m c k (i 1).val * rd3 (a := 2) (b := 16) (c := 4608) (A1 m c) (i 0).val k (i 2).val)]
  refine Finset.sum_congr rfl fun k _ => ?_
  rw [val_main_v4_apply, silu_at, mul_comm]
  refine congrArg₂ (· * ·) ?_ (rd3_of (a := 2) (b := 16) (c := 4608) (A1 m c) _ rfl rfl rfl)
  rw [rd2_of (a := 16) (b := 2048) (A0 m c) (ridx_main_v5 (idx_main_v6 i) k) rfl rfl]
  rfl

/-- One step's gradients are the reference's at the step's place. -/
theorem grad_at (c : Dev nD) (t : Fin cfg0.N) (y : S128x1536.Idx) (i : S2x2048x4608.Idx) (h0 : (i 0).val = t.val / 48)
    (h1 : (i 1).val = 128 * (t.val / 3 % 16) + (y 0).val) (h2 : (i 2).val = 1536 * (t.val % 3) + (y 1).val) :
    (k0_pay4 (F := Ideal) (iblk m c 0 t) (iblk m c 1 t) y : EReal) = out0 m c i := by
  rw [grad_ref, h0, h1, h2]
  refine pay_at _ _ y (fun k => act m c k (128 * (t.val / 3 % 16) + (y 0).val))
    (fun k => rd3 (a := 2) (b := 16) (c := 4608) (A1 m c) (t.val / 48) k (1536 * (t.val % 3) + (y 1).val)) (fun x hx => ?_) (fun x hx => ?_)
  · have e := block0 m c t x
    rw [hx] at e
    show FloatOps.mulf (F := Ideal) (φ := .f32) (iblk m c 0 t x) (FloatOps.logistic (F := Ideal) (φ := .f32) (iblk m c 0 t x)) = _
    rw [e]; rfl
  · have e := block1 m c t x
    rw [hx] at e
    exact e

/-- The place of a step's block in the arrays. -/
abbrev place (t : Fin cfg0.N) (y : S1x128x1536.Idx) : S2x2048x4608.Idx := ((cfg0.win 5).blk t).view.emb y

theorem place0 (t : Fin cfg0.N) (y : S1x128x1536.Idx) : (place t y 0).val = t.val / 48 := by
  have h := index5 t
  have hy : (y 0).val = 0 := by have := (y 0).isLt; change _ < 1 at this; omega
  show win0_5.index t 0 * 1 + 1 * (y 0).val = _
  rw [h]; show (t.val / 48) * 1 + 1 * (y 0).val = _; omega

theorem place1 (t : Fin cfg0.N) (y : S1x128x1536.Idx) : (place t y 1).val = 128 * (t.val / 3 % 16) + (y 1).val := by
  have h := index5 t
  show win0_5.index t 1 * 128 + 1 * (y 1).val = _
  rw [h]; show (t.val / 3 % 16) * 128 + 1 * (y 1).val = _; omega

theorem place2 (t : Fin cfg0.N) (y : S1x128x1536.Idx) : (place t y 2).val = 1536 * (t.val % 3) + (y 2).val := by
  have h := index5 t
  show win0_5.index t 2 * 1536 + 1 * (y 2).val = _
  rw [h]; show (t.val % 3) * 1536 + 1 * (y 2).val = _; omega

theorem grad_place (c : Dev nD) (t : Fin cfg0.N) (y : S1x128x1536.Idx) :
    k0_pay4 (F := Ideal) (iblk m c 0 t) (iblk m c 1 t) (ix5_0 y) = out0 m c (place t y) :=
  grad_at m c t (ix5_0 y) (place t y) (place0 t y) (place1 t y) (place2 t y)

/-- A block's index, its first coordinate written as zero. -/
theorem unit_at (y : S1x128x1536.Idx) : ix6_0 y = y := funext fun a => match a with
  | ⟨0, _⟩ => Fin.ext (by have h : (y 0).val < 1 := (y 0).isLt; show 0 = (y 0).val; omega)
  | ⟨1, _⟩ => rfl
  | ⟨2, _⟩ => rfl

theorem block2 (c : Dev nD) (t : Fin cfg0.N) (y : S1x128x1536.Idx) : iblk m c 2 t (ix6_0 y) = A2 m c (place t y) := by
  rw [unit_at]; rfl

theorem block3 (c : Dev nD) (t : Fin cfg0.N) (y : S1x128x1536.Idx) : iblk m c 3 t (ix6_0 y) = A3 m c (place t y) := by
  rw [unit_at]; rfl

theorem block4 (c : Dev nD) (t : Fin cfg0.N) (y : S1x128x1536.Idx) : iblk m c 4 t (ix6_0 y) = A4 m c (place t y) := by
  rw [unit_at]; rfl

/-- What one step computes of result 0. -/
theorem value5 (c : Dev nD) (t : Fin cfg0.N) (y : S1x128x1536.Idx) : E5 (F := Ideal) (iblk m c 0 t) (iblk m c 1 t) y = out0 m c (place t y) := by
  show k0_pay4 (F := Ideal) (iblk m c 0 t) (iblk m c 1 t) (ix5_0 y) = _
  rw [grad_place]

/-- What one step writes of result 0. -/
theorem written5 (c : Dev nD) (t : Fin cfg0.N) :
    (dats m 0 c).flushed 5 t = ((cfg0.win 5).blk t).view.read (Elt Ideal) (out0 m c) := by
  rw [flushed5]
  unfold out0_5
  simp only [View.ld_unit_zero (S := S16x128) off2, View.ld_unit_zero (S := S1x16x1536) off3]
  funext y
  exact (canon5_eq _ _ y).trans (value5 m c t y)

/-- The blocks of result 0 tile the array. -/
theorem cover5 (i : S2x2048x4608.Idx) : ∃ t : Fin cfg0.N, (cfg0.win 5).flush t = true ∧ i ∈ ((cfg0.win 5).blk t).view.set := by
  have b0 : (i 0).val < 2 := (i 0).isLt
  have b1 : (i 1).val < 2048 := (i 1).isLt
  have b2 : (i 2).val < 4608 := (i 2).isLt
  obtain ⟨t, ht⟩ : ∃ t : Fin cfg0.N, t.val = 48 * (i 0).val + 3 * ((i 1).val / 128) + (i 2).val / 1536 :=
    ⟨⟨_, show 48 * (i 0).val + 3 * ((i 1).val / 128) + (i 2).val / 1536 < 96 by omega⟩, rfl⟩
  have h0 : win0_5.index t 0 = t.val / 48 := congrFun (index5 t) 0
  have h1 : win0_5.index t 1 = t.val / 3 % 16 := congrFun (index5 t) 1
  have h2 : win0_5.index t 2 = t.val % 3 := congrFun (index5 t) 2
  refine ⟨t, flush0_5 t, ?_⟩
  show i ∈ ((View.whole main_v0_0).slice (win0_5.rect t)).set
  rw [View.set_slice_whole, Rect.mem_set_unit]
  intro a
  match a with
    | ⟨0, _⟩ => exact within 1 (i 0).val h0 (by omega)
    | ⟨1, _⟩ => exact within 128 (i 1).val h1 (by omega)
    | ⟨2, _⟩ => exact within 1536 (i 2).val h2 (by omega)

/-- What one step computes of result 1. -/
theorem value6 (c : Dev nD) (t : Fin cfg0.N) (y : S1x128x1536.Idx) : E6 (F := Ideal) (iblk m c 3 t) (iblk m c 0 t) (iblk m c 1 t) (iblk m c 4 t) (iblk m c 2 t) y = out1 m c (place t y) := by
  show FloatOps.mulf (F := Ideal) (φ := .f32) (Scalar.ofBits .f32 0xBA83126F#32) (FloatOps.addf (FloatOps.divf (FloatOps.divf (FloatOps.addf (FloatOps.mulf (Scalar.ofBits .f32 0x3F666666#32) (iblk m c 3 t (ix6_0 y) : Ideal .f32)) (FloatOps.mulf (Scalar.ofBits .f32 0x3DCCCCCD#32) (k0_pay4 (F := Ideal) (iblk m c 0 t) (iblk m c 1 t) (ix5_0 y)))) (Scalar.ofBits .f32 0x3F26BD02#32)) (FloatOps.addf (FloatOps.sqrt (FloatOps.divf (FloatOps.addf (FloatOps.mulf (Scalar.ofBits .f32 0x3F7FBE77#32) (iblk m c 4 t (ix6_0 y) : Ideal .f32)) (FloatOps.mulf (Scalar.ofBits .f32 0x3A83126F#32) (FloatOps.mulf (k0_pay4 (F := Ideal) (iblk m c 0 t) (iblk m c 1 t) (ix5_0 y)) (k0_pay4 (F := Ideal) (iblk m c 0 t) (iblk m c 1 t) (ix5_0 y))))) (Scalar.ofBits .f32 0x3C231ACC#32))) (Scalar.ofBits .f32 0x322BCC77#32))) (FloatOps.mulf (Scalar.ofBits .f32 0x3C23D70A#32) (iblk m c 2 t (ix6_0 y) : Ideal .f32))) = _
  rw [grad_place, block2, block3, block4]
  rfl

/-- What one step writes of result 1. -/
theorem written6 (c : Dev nD) (t : Fin cfg0.N) :
    (dats m 0 c).flushed 6 t = ((cfg0.win 6).blk t).view.read (Elt Ideal) (out1 m c) := by
  rw [flushed6]
  unfold out0_6
  simp only [View.ld_unit_zero (S := S16x128) off2, View.ld_unit_zero (S := S1x16x1536) off3, View.ld_unit_zero (S := S1x128x1536) off3]
  funext y
  exact (canon6_eq _ _ _ _ _ y).trans (value6 m c t y)

/-- The blocks of result 1 tile the array. -/
theorem cover6 (i : S2x2048x4608.Idx) : ∃ t : Fin cfg0.N, (cfg0.win 6).flush t = true ∧ i ∈ ((cfg0.win 6).blk t).view.set := cover5 i

/-- What one step computes of result 2. -/
theorem value7 (c : Dev nD) (t : Fin cfg0.N) (y : S1x128x1536.Idx) : E7 (F := Ideal) (iblk m c 3 t) (iblk m c 0 t) (iblk m c 1 t) y = out2 m c (place t y) := by
  show FloatOps.addf (F := Ideal) (φ := .f32) (FloatOps.mulf (Scalar.ofBits .f32 0x3F666666#32) (iblk m c 3 t (ix6_0 y) : Ideal .f32)) (FloatOps.mulf (Scalar.ofBits .f32 0x3DCCCCCD#32) (k0_pay4 (F := Ideal) (iblk m c 0 t) (iblk m c 1 t) (ix5_0 y))) = _
  rw [grad_place, block3]
  rfl

/-- What one step writes of result 2. -/
theorem written7 (c : Dev nD) (t : Fin cfg0.N) :
    (dats m 0 c).flushed 7 t = ((cfg0.win 7).blk t).view.read (Elt Ideal) (out2 m c) := by
  rw [flushed7]
  unfold out0_7
  simp only [View.ld_unit_zero (S := S16x128) off2, View.ld_unit_zero (S := S1x16x1536) off3, View.ld_unit_zero (S := S1x128x1536) off3]
  funext y
  exact (canon7_eq _ _ _ y).trans (value7 m c t y)

/-- The blocks of result 2 tile the array. -/
theorem cover7 (i : S2x2048x4608.Idx) : ∃ t : Fin cfg0.N, (cfg0.win 7).flush t = true ∧ i ∈ ((cfg0.win 7).blk t).view.set := cover5 i

/-- What one step computes of result 3. -/
theorem value8 (c : Dev nD) (t : Fin cfg0.N) (y : S1x128x1536.Idx) : E8 (F := Ideal) (iblk m c 4 t) (iblk m c 0 t) (iblk m c 1 t) y = out3 m c (place t y) := by
  show FloatOps.addf (F := Ideal) (φ := .f32) (FloatOps.mulf (Scalar.ofBits .f32 0x3F7FBE77#32) (iblk m c 4 t (ix6_0 y) : Ideal .f32)) (FloatOps.mulf (Scalar.ofBits .f32 0x3A83126F#32) (FloatOps.mulf (k0_pay4 (F := Ideal) (iblk m c 0 t) (iblk m c 1 t) (ix5_0 y)) (k0_pay4 (F := Ideal) (iblk m c 0 t) (iblk m c 1 t) (ix5_0 y)))) = _
  rw [grad_place, block4]
  rfl

/-- What one step writes of result 3. -/
theorem written8 (c : Dev nD) (t : Fin cfg0.N) :
    (dats m 0 c).flushed 8 t = ((cfg0.win 8).blk t).view.read (Elt Ideal) (out3 m c) := by
  rw [flushed8]
  unfold out0_8
  simp only [View.ld_unit_zero (S := S16x128) off2, View.ld_unit_zero (S := S1x16x1536) off3, View.ld_unit_zero (S := S1x128x1536) off3]
  funext y
  exact (canon8_eq _ _ _ y).trans (value8 m c t y)

/-- The blocks of result 3 tile the array. -/
theorem cover8 (i : S2x2048x4608.Idx) : ∃ t : Fin cfg0.N, (cfg0.win 8).flush t = true ∧ i ∈ ((cfg0.win 8).blk t).view.set := cover5 i

/-- The run: the four results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = out0 m c
      ∧ r.2.mem ((c : Thread nD τ).loc main_v0_1) = out1 m c
      ∧ r.2.mem ((c : Thread nD τ).loc main_v0_2) = out2 m c
      ∧ r.2.mem ((c : Thread nD τ).loc main_v0_3) = out3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => written5 m c t) cover5),
      (h c).2.1.trans ((dats m 0 c).arrAt_eq_of_cover 6 _ (fun t _ => written6 m c t) cover6),
      (h c).2.2.1.trans ((dats m 0 c).arrAt_eq_of_cover 7 _ (fun t _ => written7 m c t) cover7),
      (h c).2.2.2.1.trans ((dats m 0 c).arrAt_eq_of_cover 8 _ (fun t _ => written8 m c t) cover8), (h c).2.2.2.2⟩)
    (run_blocks m ρ)

/-- The reference's results are these. -/
theorem ref_eq0 (c : Dev nD) : val_main_v6 (F := Ideal) (A0 m c) (A1 m c) = out0 m c := rfl
theorem ref_eq1 (c : Dev nD) : val_main_v30 (F := Ideal) (A0 m c) (A1 m c) (A2 m c) (A3 m c) (A4 m c) = out1 m c := rfl
theorem ref_eq2 (c : Dev nD) : val_main_v11 (F := Ideal) (A0 m c) (A1 m c) (A3 m c) = out2 m c := rfl
theorem ref_eq3 (c : Dev nD) : val_main_v17 (F := Ideal) (A0 m c) (A1 m c) (A4 m c) = out3 m c := rfl

end Cert.AdaUpdate

end
-- ==== Proof.Elem.Real.lean ====
module

public import Idealize.ShloMosaic.PureOps.Ideal

/-! The derivative of `x · logistic x` over the extended reals. -/

@[expose] public section

noncomputable section

namespace Cert.Elem

open Idealize.ShloMosaic

/-- A number that is neither infinity is a real. -/
theorem real_of {x : EReal} (h : max x (-x) < ⊤) : ∃ r : ℝ, x = r := by
  obtain ⟨h1, h2⟩ := max_lt_iff.mp h
  refine ⟨x.toReal, (EReal.coe_toReal h1.ne fun e => ?_).symm⟩
  rw [e] at h2; exact absurd h2 (by simp)

/-- The two forms of the derivative of `g · logistic g`, times a finite factor. -/
theorem silu_grad {c : EReal} (hc : ∃ r : ℝ, c = r) (g : EReal) :
    c * (Ideal.logistic g * (1 + g * (1 - Ideal.logistic g)))
      = c * Ideal.logistic g + g * c * (Ideal.logistic g * (1 - Ideal.logistic g)) := by
  obtain ⟨r, rfl⟩ := hc
  induction g with
  | bot => simp
  | top => simp [Ideal.logistic_top, show (1 : EReal) - 1 = 0 from by rw [← EReal.coe_one, ← EReal.coe_sub, sub_self, EReal.coe_zero]]
  | coe x =>
    rw [Ideal.logistic_coe]
    generalize (1 + Real.exp (-x))⁻¹ = s
    norm_cast
    ring_nf

end Cert.Elem

end
-- ==== Proof.Elem.ActBwd.lean ====
module

public import proofs.«01_k».proof.Proof.Gen.Kernel30Ideal.Value
public import proofs.«01_k».proof.Proof.Gen.Reference30Ideal.Read
public import proofs.«01_k».proof.Proof.Prod.Base
public import proofs.«01_k».proof.Proof.Elem.Real
public import proofs.«01_k».proof.Pre_gates_finite
public import Idealize.ShloMosaic.Lib.KernelVsHost
public import Idealize.ShloMosaic.Lib.Pipeline.ValueKit.Tiles

/-! The gate's gradient: from the gradient of `silu(gate) · up`, the gradients of the gate and of `up`. -/

@[expose] public section

set_option maxRecDepth 16384

noncomputable section

namespace Cert.ActBwd

open Cert.Kernel30Ideal Cert.Kernel30Ideal.Gen Cert.Kernel30Ideal.Value Cert.Prod
open Idealize.ShloMosaic Idealize.ShloMosaic.TcCoe Idealize.ShloMosaic.Tactic Idealize.SL.Sem

/-- The gradient of the gate. -/
def gateGrad (g u d : EReal) : EReal := d * u * (Ideal.logistic g * (1 + g * (1 - Ideal.logistic g)))

/-- The gradient of `up`. -/
def upGrad (g d : EReal) : EReal := d * (g * Ideal.logistic g)

/-- A block's row and column as an index of the matrix. -/
abbrev mat (y : S1x1x256x2752.Idx) : S256x2752.Idx := fun d => match d with | ⟨0, _⟩ => y 2 | ⟨1, _⟩ => y 3

theorem addTwo_at (X : S256x2752.Idx → EReal) (h : S256x2752.ShapeCasts S1x1x256x2752) (y : S1x1x256x2752.Idx) :
    shapeCast S1x1x256x2752 X h y = X (mat y) := by
  refine shapeCast_apply X h y _ ?_
  have h0 : (y 0).val < 1 := (y 0).isLt
  have h1 : (y 1).val < 1 := (y 1).isLt
  rw [Shape.rowMajor_val_two, Shape.rowMajor_val_four]
  show (y 2).val * 2752 + (y 3).val = (((y 0).val * 1 + (y 1).val) * 256 + (y 2).val) * 2752 + (y 3).val
  omega

theorem one_bits : (Scalar.ofBits .f32 0x3F800000#32 : Ideal .f32) = (1 : EReal) := Ideal.ofBits_one_f32

theorem pay3_at (x0 x6 : FVec Ideal S1x1x256x2752 .bf16) (x3 : FVec Ideal S1x256x2752 .bf16) (y : S1x1x256x2752.Idx) (g u d : EReal)
    (hg : ∀ x : S1x1x256x2752.Idx, (x 2).val = (y 2).val → (x 3).val = (y 3).val → x0 x = g)
    (hu : ∀ x : S1x1x256x2752.Idx, (x 2).val = (y 2).val → (x 3).val = (y 3).val → x6 x = u)
    (hd : ∀ x : S1x256x2752.Idx, (x 1).val = (y 2).val → (x 2).val = (y 3).val → x3 x = d) :
    (k0_pay3 (F := Ideal) x0 x3 x6 y : EReal) = gateGrad g u d := by
  unfold k0_pay3 k0_pay1 k0_pay2
  refine (addTwo_at _ _ y).trans ?_
  show (shapeCast S256x2752 x3 _ (mat y) : EReal) * (shapeCast S256x2752 x6 _ (mat y) : EReal)
    * (Ideal.logistic (shapeCast S256x2752 x0 _ (mat y)) * ((Scalar.ofBits .f32 0x3F800000#32 : Ideal .f32)
      + (shapeCast S256x2752 x0 _ (mat y) : EReal) * ((Scalar.ofBits .f32 0x3F800000#32 : Ideal .f32) - Ideal.logistic (shapeCast S256x2752 x0 _ (mat y))))) = _
  rw [(dropTwo_at x0 _ (mat y)).trans (hg _ rfl rfl), (dropTwo_at x6 _ (mat y)).trans (hu _ rfl rfl),
    (shapeCast_dropUnit_apply ![256, 2752] x3 _ (mat y)).trans (hd _ rfl rfl), one_bits]
  rfl

theorem pay4_at (x0 : FVec Ideal S1x1x256x2752 .bf16) (x3 : FVec Ideal S1x256x2752 .bf16) (y : S1x1x256x2752.Idx) (g d : EReal)
    (hg : ∀ x : S1x1x256x2752.Idx, (x 2).val = (y 2).val → (x 3).val = (y 3).val → x0 x = g)
    (hd : ∀ x : S1x256x2752.Idx, (x 1).val = (y 2).val → (x 2).val = (y 3).val → x3 x = d) :
    (k0_pay4 (F := Ideal) x0 x3 y : EReal) = upGrad g d := by
  unfold k0_pay4 k0_pay1 k0_pay2
  refine (addTwo_at _ _ y).trans ?_
  show (shapeCast S256x2752 x3 _ (mat y) : EReal)
    * ((shapeCast S256x2752 x0 _ (mat y) : EReal) * Ideal.logistic (shapeCast S256x2752 x0 _ (mat y))) = _
  rw [(dropTwo_at x0 _ (mat y)).trans (hg _ rfl rfl),
    (shapeCast_dropUnit_apply ![256, 2752] x3 _ (mat y)).trans (hd _ rfl rfl)]
  rfl

theorem index0 : ∀ t : Fin grid0.N, win0_0.index t = ![t.val / 33, t.val % 33, 0] := by decide +kernel

theorem index1 : ∀ t : Fin grid0.N, win0_1.index t = ![0, t.val / 33, t.val % 33, 0] := by decide +kernel

theorem index2 : ∀ t : Fin grid0.N, win0_2.index t = ![0, t.val / 33, t.val % 33, 0] := by decide +kernel

variable (m : (ℓ : Loc nD τ sig) → Buf (Elt Ideal) ℓ)

/-- The arguments. -/
abbrev A0 (c : Dev nD) : (⟨3, ![2, 8448, 2752]⟩ : Shape).Idx → EReal := m ((c.tc : Thread nD τ).loc main_arg0)
abbrev A1 (c : Dev nD) : (⟨4, ![2, 2, 8448, 2752]⟩ : Shape).Idx → EReal := m ((c.tc : Thread nD τ).loc main_arg1)

theorem V_0 (c : Dev nD) : (V m c main_v0 : (⟨3, ![2, 8448, 2752]⟩ : Shape).Idx → EReal) = A0 m c := by
  unfold V hostOps0
  after_results
  rfl

theorem V_1 (c : Dev nD) : (V m c main_v3 : (⟨4, ![2, 2, 8448, 2752]⟩ : Shape).Idx → EReal) = A1 m c := by
  refine Eq.trans ?_ (shapeCast_shapeCast (A1 m c) shapeCasts_S2x2x8448x2752_S4x8448x2752 shapeCasts_S4x8448x2752_S2x2x8448x2752)
  unfold V hostOps0
  after_results
  rfl

theorem block0 (c : Dev nD) (t : Fin cfg0.N) (x : S1x256x2752.Idx) : (iblk m c 0 t x : EReal) =
    rd3 (A0 m c) (t.val / 33) (256 * (t.val % 33) + (x 1).val) (x 2).val := by
  have h := index0 t
  have hx : (x 0).val = 0 := by have := (x 0).isLt; change _ < 1 at this; omega
  rw [← V_0]
  refine rd3_of (a := 2) (b := 8448) (c := 2752) (V m c main_v0) _ ?_ ?_ ?_
  · exact tile (t.val / 33) 1 (congrFun h 0) (by omega)
  · exact tile (t.val % 33) 256 (congrFun h 1) (by omega)
  · exact tile 0 2752 (congrFun h 2) (by omega)

theorem block1 (c : Dev nD) (t : Fin cfg0.N) (x : S2x1x256x2752.Idx) : (iblk m c 1 t x : EReal) =
    rd4 (A1 m c) (x 0).val (t.val / 33) (256 * (t.val % 33) + (x 2).val) (x 3).val := by
  have h := index1 t
  have hx : (x 1).val = 0 := by have := (x 1).isLt; change _ < 1 at this; omega
  rw [← V_1]
  refine rd4_of (a := 2) (b := 2) (c := 8448) (e := 2752) (V m c main_v3) _ ?_ ?_ ?_ ?_
  · exact tile 0 2 (congrFun h 0) (by omega)
  · exact tile (t.val / 33) 1 (congrFun h 1) (by omega)
  · exact tile (t.val % 33) 256 (congrFun h 2) (by omega)
  · exact tile 0 2752 (congrFun h 3) (by omega)

/-- Half `a` of the result (the gate's gradient, then `up`'s) in part `b` at row `p` and column `q`. -/
def grad (c : Dev nD) (a b p q : ℕ) : EReal :=
  if a = 0 then gateGrad (rd4 (A1 m c) 0 b p q) (rd4 (A1 m c) 1 b p q) (rd3 (A0 m c) b p q)
  else upGrad (rd4 (A1 m c) 0 b p q) (rd3 (A0 m c) b p q)

/-- The result. -/
def out (c : Dev nD) : S2x2x8448x2752.Idx → EReal := fun i => grad m c (i 0).val (i 1).val (i 2).val (i 3).val

theorem load0 (c : Dev nD) (t : Fin cfg0.N) (y x : S1x1x256x2752.Idx) (h2 : (x 2).val = (y 2).val) (h3 : (x 3).val = (y 3).val) :
    (View.ld (iblk m c 1 t) r0_0 x : EReal) = rd4 (A1 m c) 0 (t.val / 33) (256 * (t.val % 33) + (y 2).val) (y 3).val := by
  refine (block1 m c t (r0_0.emb x)).trans ?_
  have h0 : (x 0).val < 1 := (x 0).isLt
  have f0 : (r0_0.emb x 0).val = 0 + 1 * (x 0).val := rfl
  have f2 : (r0_0.emb x 2).val = 0 + 1 * (x 2).val := rfl
  have f3 : (r0_0.emb x 3).val = 0 + 1 * (x 3).val := rfl
  rw [f0, f2, f3, h2, h3, show 0 + 1 * (x 0).val = 0 by omega, show 0 + 1 * (y 2).val = (y 2).val by omega, show 0 + 1 * (y 3).val = (y 3).val by omega]

theorem load2 (c : Dev nD) (t : Fin cfg0.N) (y x : S1x1x256x2752.Idx) (h2 : (x 2).val = (y 2).val) (h3 : (x 3).val = (y 3).val) :
    (View.ld (iblk m c 1 t) r0_2 x : EReal) = rd4 (A1 m c) 1 (t.val / 33) (256 * (t.val % 33) + (y 2).val) (y 3).val := by
  refine (block1 m c t (r0_2.emb x)).trans ?_
  have h0 : (x 0).val < 1 := (x 0).isLt
  have f0 : (r0_2.emb x 0).val = 1 + 1 * (x 0).val := rfl
  have f2 : (r0_2.emb x 2).val = 0 + 1 * (x 2).val := rfl
  have f3 : (r0_2.emb x 3).val = 0 + 1 * (x 3).val := rfl
  rw [f0, f2, f3, h2, h3, show 1 + 1 * (x 0).val = 1 by omega, show 0 + 1 * (y 2).val = (y 2).val by omega, show 0 + 1 * (y 3).val = (y 3).val by omega]

theorem load1 (c : Dev nD) (t : Fin cfg0.N) (y : S1x1x256x2752.Idx) (x : S1x256x2752.Idx) (h2 : (x 1).val = (y 2).val) (h3 : (x 2).val = (y 3).val) :
    (View.ld (iblk m c 0 t) r0_1 x : EReal) = rd3 (A0 m c) (t.val / 33) (256 * (t.val % 33) + (y 2).val) (y 3).val := by
  rw [show View.ld (iblk m c 0 t) r0_1 = iblk m c 0 t from View.ld_unit_zero off3 _ _, block0, h2, h3]

/-- What one step computes: its block of the result. -/
theorem tiles (c : Dev nD) (t : Fin cfg0.N) (z : S2x1x256x2752.Idx) : (out0_2 (F := Ideal) (iblk m c 0 t) (iblk m c 1 t) z : EReal)
    = grad m c (z 0).val (t.val / 33) (256 * (t.val % 33) + (z 2).val) (z 3).val := by
  unfold out0_2
  refine View.canon_eq_of_allAt _ z _ (cover0_2 _ _ z) ?_
  refine View.allAt_cons_unit _ _ _ _ _ (fun x hx => ?_) <| View.allAt_cons_unit _ _ _ _ _ (fun x hx => ?_) <| View.allAt_nil _ _
  · have e0 : (z 0).val = 1 + (x 0).val := hx 0
    have e2 : (z 2).val = (x 2).val := (hx 2).trans (Nat.zero_add _)
    have e3 : (z 3).val = (x 3).val := (hx 3).trans (Nat.zero_add _)
    refine (pay4_at _ _ x _ _ (load0 m c t x) (load1 m c t x)).trans ?_
    rw [e0, e2, e3]
    unfold grad
    rw [if_neg (by omega)]
  · have hx0 : (x 0).val < 1 := (x 0).isLt
    have e0 : (z 0).val = 0 + (x 0).val := hx 0
    have e2 : (z 2).val = (x 2).val := (hx 2).trans (Nat.zero_add _)
    have e3 : (z 3).val = (x 3).val := (hx 3).trans (Nat.zero_add _)
    refine (pay3_at _ _ _ x _ _ _ (load0 m c t x) (load2 m c t x) (load1 m c t x)).trans ?_
    rw [e0, e2, e3]
    unfold grad
    rw [if_pos (by omega)]

/-- What one step writes. -/
theorem flushed (c : Dev nD) (t : Fin cfg0.N) : (dats m 0 c).flushed 2 t = ((cfg0.win 2).blk t).view.read (Elt Ideal) (out m c) := by
  rw [flushed2]
  have h := index2 t
  funext y
  have hy1 : (y 1).val < 1 := (y 1).isLt
  have hb0 : (((cfg0.win 2).blk t).view.emb y 0).val = 0 * 2 + 1 * (y 0).val := tile _ 2 (congrFun h 0) rfl
  have hb1 : (((cfg0.win 2).blk t).view.emb y 1).val = (t.val / 33) * 1 + 1 * (y 1).val := tile _ 1 (congrFun h 1) rfl
  have hb2 : (((cfg0.win 2).blk t).view.emb y 2).val = (t.val % 33) * 256 + 1 * (y 2).val := tile _ 256 (congrFun h 2) rfl
  have hb3 : (((cfg0.win 2).blk t).view.emb y 3).val = 0 * 2752 + 1 * (y 3).val := tile _ 2752 (congrFun h 3) rfl
  show out0_2 (iblk m c 0 t) (iblk m c 1 t) ((cfg0.win 2).xinj (grid0.coords t) y) = grad m c _ _ _ _
  rw [hb0, hb1, hb2, hb3, show 0 * 2 + 1 * (y 0).val = (y 0).val by omega, show (t.val / 33) * 1 + 1 * (y 1).val = t.val / 33 by omega,
    show (t.val % 33) * 256 + 1 * (y 2).val = 256 * (t.val % 33) + (y 2).val by omega, show 0 * 2752 + 1 * (y 3).val = (y 3).val by omega]
  exact tiles m c t y

/-- The blocks tile the result. -/
theorem covered (i : S2x2x8448x2752.Idx) : ∃ t : Fin cfg0.N, (cfg0.win 2).flush t = true ∧ i ∈ ((cfg0.win 2).blk t).view.set := by
  have b0 : (i 0).val < 2 := (i 0).isLt
  have b1 : (i 1).val < 2 := (i 1).isLt
  have b2 : (i 2).val < 8448 := (i 2).isLt
  have b3 : (i 3).val < 2752 := (i 3).isLt
  obtain ⟨t, ht⟩ : ∃ t : Fin cfg0.N, t.val = 33 * (i 1).val + (i 2).val / 256 :=
    ⟨⟨_, show 33 * (i 1).val + (i 2).val / 256 < 66 by omega⟩, rfl⟩
  have h0 : win0_2.index t 0 = 0 := congrFun (index2 t) 0
  have h1 : win0_2.index t 1 = t.val / 33 := congrFun (index2 t) 1
  have h2 : win0_2.index t 2 = t.val % 33 := congrFun (index2 t) 2
  have h3 : win0_2.index t 3 = 0 := congrFun (index2 t) 3
  refine ⟨t, flush0_2 t, ?_⟩
  show i ∈ ((View.whole main_v4).slice (win0_2.rect t)).set
  rw [View.set_slice_whole, Rect.mem_set_unit]
  intro a
  match a with
    | ⟨0, _⟩ => exact within 2 (i 0).val h0 (by omega)
    | ⟨1, _⟩ => exact within 1 (i 1).val h1 (by omega)
    | ⟨2, _⟩ => exact within 256 (i 2).val h2 (by omega)
    | ⟨3, _⟩ => exact within 2752 (i 3).val h3 (by omega)

/-- The run: the result is the gradients, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed m c t) covered), (h c).2⟩)
    (run_blocks m ρ)

open Cert.Reference30Ideal.Read

/-- A half's part, row and column read back from its place in row-major order. -/
theorem part_at (i : S2x8448x2752.Idx) : (((i 0).val * 8448 + (i 1).val) * 2752 + (i 2).val) / 23248896 % 2 = (i 0).val
    ∧ (((i 0).val * 8448 + (i 1).val) * 2752 + (i 2).val) / 2752 % 8448 = (i 1).val
    ∧ (((i 0).val * 8448 + (i 1).val) * 2752 + (i 2).val) % 2752 = (i 2).val := by
  have h0 : (i 0).val < 2 := (i 0).isLt
  have h1 : (i 1).val < 8448 := (i 1).isLt
  have h2 : (i 2).val < 2752 := (i 2).isLt
  refine ⟨?_, ?_, ?_⟩ <;> omega

theorem gate_at (X : S2x2x8448x2752.Idx → EReal) (i : S2x8448x2752.Idx) :
    (val_main_v1 (F := Ideal) X i : EReal) = rd4 X 0 (i 0).val (i 1).val (i 2).val := by
  rw [val_main_v1_apply, val_main_v0_apply]
  exact rd4_of X _ rfl (part_at i).1 (part_at i).2.1 (part_at i).2.2

theorem up_at (X : S2x2x8448x2752.Idx → EReal) (i : S2x8448x2752.Idx) :
    (val_main_v4 (F := Ideal) X i : EReal) = rd4 X 1 (i 0).val (i 1).val (i 2).val := by
  rw [val_main_v4_apply, val_main_v3_apply]
  exact rd4_of X _ rfl (part_at i).1 (part_at i).2.1 (part_at i).2.2

theorem logistic_at (X : S2x2x8448x2752.Idx → EReal) (i : S2x8448x2752.Idx) :
    (val_main_v2_2 (F := Ideal) X i : EReal) = Ideal.logistic (rd4 X 0 (i 0).val (i 1).val (i 2).val) := by
  rw [val_main_v2_2_apply, ← gate_at]
  show Ideal.div (Ideal.ofBits .f32 0x3F800000#32) (Ideal.ofBits .f32 0x3F800000#32 + Ideal.exp (-(val_main_v1 (F := Ideal) X i : EReal)))
    = Ideal.div 1 (1 + Ideal.exp (-(val_main_v1 (F := Ideal) X i : EReal)))
  rw [Ideal.ofBits_one_f32]

/-- A number whose absolute value compares below infinity is a real. -/
theorem real_of_bit {x y : EReal} (e : Ideal.cmp .olt (max x (-x)) (Ideal.ofBits .f32 0x7F800000#32)
    &&& Ideal.cmp .olt (max y (-y)) (Ideal.ofBits .f32 0x7F800000#32) = 1#1) : (∃ a : ℝ, x = a) ∧ ∃ a : ℝ, y = a := by
  have ht : Ideal.ofBits .f32 0x7F800000#32 = (⊤ : EReal) := by simp [Ideal.ofBits, Ideal.ieee]
  rw [ht] at e
  unfold Ideal.cmp at e
  by_cases p : max x (-x) < ⊤ <;> by_cases q : max y (-y) < ⊤ <;> simp [p, q] at e
  exact ⟨Cert.Elem.real_of p, Cert.Elem.real_of q⟩

/-- The reference's result is the same. -/
theorem ref_eq [Cert.Pre_gates_finite.Facts] (hp : ∀ c : Dev nD, Cert.Pre_gates_finite.fn (F := Ideal) (A0 m c) (A1 m c) = fun _ => 1#1) (c : Dev nD) :
    val_main_v14 (F := Ideal) (A0 m c) (A1 m c) = out m c := funext fun i => by
  have b0 : (i 0).val < 2 := (i 0).isLt
  have hz : ∀ y : Cert.Reference30Ideal.S_.Idx, (val_main_cst (F := Ideal) y : EReal) = 0 := fun y => Ideal.ofBits_zero_f32
  have hz' : ∀ y : Cert.Reference30Ideal.S_.Idx, (val_main_cst_0 (F := Ideal) y : EReal) = 0 := fun y => Ideal.ofBits_zero_f32
  let j : S2x8448x2752.Idx := fun a => match a with | ⟨0, _⟩ => i 1 | ⟨1, _⟩ => i 2 | ⟨2, _⟩ => i 3
  let k : Cert.Reference30Ideal.S1x2x8448x2752.Idx := fun a => match a with | ⟨0, _⟩ => ⟨0, Nat.one_pos⟩ | ⟨1, _⟩ => i 1 | ⟨2, _⟩ => i 2 | ⟨3, _⟩ => i 3
  show (val_main_v9 (F := Ideal) (A0 m c) (A1 m c) i : EReal) + (val_main_v12 (F := Ideal) (A0 m c) (A1 m c) i : EReal) = grad m c _ _ _ _
  have e0 : rd3 (A0 m c) (i 1).val (i 2).val (i 3).val = A0 m c j := (rd3_of (A0 m c) j rfl rfl rfl).symm
  by_cases h : (i 0).val = 0
  · have p9 : (val_main_v9 (F := Ideal) (A0 m c) (A1 m c) i : EReal) = 0 := by
      unfold val_main_v9
      refine (pad_apply_of_not_inside _ _ _ _ _ _ _ i 0 (fun hh => ?_)).trans (hz _)
      have := hh.1; change 1 ≤ (i 0).val at this; omega
    have p12 : (val_main_v12 (F := Ideal) (A0 m c) (A1 m c) i : EReal) = val_main_v10 (F := Ideal) (A0 m c) (A1 m c) j := by
      unfold val_main_v12
      refine (pad_apply_of_inside _ _ _ _ _ _ _ i k (fun a => ?_)).trans (val_main_v11_apply _ _ k)
      match a with
      | ⟨0, _⟩ => show (i 0).val = 0 + 0 * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
    obtain ⟨⟨r, hr⟩, s, hs⟩ := real_of_bit (x := A0 m c j) (y := val_main_v4 (F := Ideal) (A1 m c) j) (congrFun (hp c) j)
    rw [up_at] at hs
    replace hs : rd4 (A1 m c) 1 (i 1).val (i 2).val (i 3).val = s := hs
    rw [p9, p12, zero_add]
    unfold grad
    rw [if_pos h]
    unfold gateGrad
    rw [e0, Cert.Elem.silu_grad ⟨r * s, by rw [hr, hs, EReal.coe_mul]⟩]
    show (A0 m c j * val_main_v4 (F := Ideal) (A1 m c) j) * (val_main_v2_2 (F := Ideal) (A1 m c) j : EReal)
      + (val_main_v1 (F := Ideal) (A1 m c) j : EReal) * (A0 m c j * val_main_v4 (F := Ideal) (A1 m c) j)
        * ((val_main_v2_2 (F := Ideal) (A1 m c) j : EReal) * ((Ideal.ofBits .f32 0x3F800000#32 : EReal) - val_main_v2_2 (F := Ideal) (A1 m c) j)) = _
    rw [logistic_at, gate_at, up_at, Ideal.ofBits_one_f32]
  · have p12 : (val_main_v12 (F := Ideal) (A0 m c) (A1 m c) i : EReal) = 0 := by
      unfold val_main_v12
      refine (pad_apply_of_not_inside _ _ _ _ _ _ _ i 0 (fun hh => ?_)).trans (hz' _)
      have := hh.2.2; change ((i 0).val - 0) / (0 + 1) < 1 at this; omega
    have p9 : (val_main_v9 (F := Ideal) (A0 m c) (A1 m c) i : EReal) = val_main_v6 (F := Ideal) (A0 m c) (A1 m c) j := by
      unfold val_main_v9
      refine (pad_apply_of_inside _ _ _ _ _ _ _ i k (fun a => ?_)).trans (val_main_v8_apply _ _ k)
      match a with
      | ⟨0, _⟩ => show (i 0).val = 1 + 0 * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
    rw [p9, p12, add_zero]
    unfold grad
    rw [if_neg h]
    unfold upGrad
    rw [e0]
    show (val_main_v1 (F := Ideal) (A1 m c) j : EReal) * (val_main_v2_2 (F := Ideal) (A1 m c) j : EReal) * A0 m c j = _
    rw [logistic_at, gate_at, mul_comm]

end Cert.ActBwd

end
-- ==== Proof.Elem.Act.lean ====
module

public import proofs.«01_k».proof.Proof.Gen.Kernel31Ideal.Value
public import proofs.«01_k».proof.Proof.Gen.Reference31Ideal.Read
public import proofs.«01_k».proof.Proof.Prod.Base

/-! The gated activation: `silu(gate) · up`, each of the two columns' parts in its own half. -/

@[expose] public section

set_option maxRecDepth 16384

noncomputable section

namespace Cert.Act

open Cert.Kernel31Ideal Cert.Kernel31Ideal.Gen Cert.Kernel31Ideal.Value Cert.Prod
open Idealize.ShloMosaic Idealize.ShloMosaic.TcCoe Idealize.ShloMosaic.Tactic Idealize.SL.Sem

theorem index0 : ∀ t : Fin grid0.N, win0_0.index t = ![0, t.val / 33, t.val % 33, 0] := by decide +kernel

theorem index1 : ∀ t : Fin grid0.N, win0_1.index t = ![t.val / 33, t.val % 33, 0] := by decide +kernel

variable (m : (ℓ : Loc nD τ sig) → Buf (Elt Ideal) ℓ)

/-- The argument. -/
abbrev A0 (c : Dev nD) : (⟨4, ![2, 2, 8448, 2752]⟩ : Shape).Idx → EReal := m ((c.tc : Thread nD τ).loc main_arg0)

theorem V_0 (c : Dev nD) : (V m c main_v2 : (⟨4, ![2, 2, 8448, 2752]⟩ : Shape).Idx → EReal) = A0 m c := by
  refine Eq.trans ?_ (shapeCast_shapeCast (A0 m c) shapeCasts_S2x2x8448x2752_S4x8448x2752 shapeCasts_S4x8448x2752_S2x2x8448x2752)
  unfold V hostOps0
  after_results
  rfl

theorem block0 (c : Dev nD) (t : Fin cfg0.N) (x : S2x1x256x2752.Idx) : (iblk m c 0 t x : EReal) =
    rd4 (A0 m c) (x 0).val (t.val / 33) (256 * (t.val % 33) + (x 2).val) (x 3).val := by
  have h := index0 t
  have hx : (x 1).val = 0 := by have := (x 1).isLt; change _ < 1 at this; omega
  rw [← V_0]
  refine rd4_of (a := 2) (b := 2) (c := 8448) (e := 2752) (V m c main_v2) _ ?_ ?_ ?_ ?_
  · exact tile 0 2 (congrFun h 0) (by omega)
  · exact tile (t.val / 33) 1 (congrFun h 1) (by omega)
  · exact tile (t.val % 33) 256 (congrFun h 2) (by omega)
  · exact tile 0 2752 (congrFun h 3) (by omega)

/-- The result in part `b` at row `p` and column `q`. -/
def act (c : Dev nD) (b p q : ℕ) : EReal :=
  rd4 (A0 m c) 0 b p q * Ideal.logistic (rd4 (A0 m c) 0 b p q) * rd4 (A0 m c) 1 b p q

/-- The result. -/
def out (c : Dev nD) : S2x8448x2752.Idx → EReal := fun i => act m c (i 0).val (i 1).val (i 2).val

theorem load0 (c : Dev nD) (t : Fin cfg0.N) (x : S1x1x256x2752.Idx) :
    (View.ld (iblk m c 0 t) r0_0 x : EReal) = rd4 (A0 m c) 0 (t.val / 33) (256 * (t.val % 33) + (x 2).val) (x 3).val := by
  refine (block0 m c t (r0_0.emb x)).trans ?_
  have h0 : (x 0).val < 1 := (x 0).isLt
  have f0 : (r0_0.emb x 0).val = 0 + 1 * (x 0).val := rfl
  have f2 : (r0_0.emb x 2).val = 0 + 1 * (x 2).val := rfl
  have f3 : (r0_0.emb x 3).val = 0 + 1 * (x 3).val := rfl
  rw [f0, f2, f3, show 0 + 1 * (x 0).val = 0 by omega, show 0 + 1 * (x 2).val = (x 2).val by omega, show 0 + 1 * (x 3).val = (x 3).val by omega]

theorem load1 (c : Dev nD) (t : Fin cfg0.N) (x : S1x1x256x2752.Idx) :
    (View.ld (iblk m c 0 t) r0_1 x : EReal) = rd4 (A0 m c) 1 (t.val / 33) (256 * (t.val % 33) + (x 2).val) (x 3).val := by
  refine (block0 m c t (r0_1.emb x)).trans ?_
  have h0 : (x 0).val < 1 := (x 0).isLt
  have f0 : (r0_1.emb x 0).val = 1 + 1 * (x 0).val := rfl
  have f2 : (r0_1.emb x 2).val = 0 + 1 * (x 2).val := rfl
  have f3 : (r0_1.emb x 3).val = 0 + 1 * (x 3).val := rfl
  rw [f0, f2, f3, show 1 + 1 * (x 0).val = 1 by omega, show 0 + 1 * (x 2).val = (x 2).val by omega, show 0 + 1 * (x 3).val = (x 3).val by omega]

/-- What one step computes: its block of the result. -/
theorem value (c : Dev nD) (t : Fin cfg0.N) (y : S1x256x2752.Idx) :
    (E1 (F := Ideal) (View.ld (iblk m c 0 t) r0_0) (View.ld (iblk m c 0 t) r0_1) y : EReal)
      = act m c (t.val / 33) (256 * (t.val % 33) + (y 1).val) (y 2).val := by
  show FloatOps.mulf (F := Ideal) (φ := .f32) (FloatOps.mulf (F := Ideal) (φ := .f32) (View.ld (iblk m c 0 t) r0_0 (ix1_0 y))
    (FloatOps.logistic (F := Ideal) (φ := .f32) (View.ld (iblk m c 0 t) r0_0 (ix1_1 y)))) (View.ld (iblk m c 0 t) r0_1 (ix1_2 y)) = _
  rw [load0, load1]
  rfl

/-- What one step writes. -/
theorem flushed (c : Dev nD) (t : Fin cfg0.N) : (dats m 0 c).flushed 1 t = ((cfg0.win 1).blk t).view.read (Elt Ideal) (out m c) := by
  rw [flushed1]
  have h := index1 t
  funext y
  have hy0 : (y 0).val < 1 := (y 0).isLt
  have hb0 : (((cfg0.win 1).blk t).view.emb y 0).val = (t.val / 33) * 1 + 1 * (y 0).val := tile _ 1 (congrFun h 0) rfl
  have hb1 : (((cfg0.win 1).blk t).view.emb y 1).val = (t.val % 33) * 256 + 1 * (y 1).val := tile _ 256 (congrFun h 1) rfl
  have hb2 : (((cfg0.win 1).blk t).view.emb y 2).val = 0 * 2752 + 1 * (y 2).val := tile _ 2752 (congrFun h 2) rfl
  show out0_1 (iblk m c 0 t) ((cfg0.win 1).xinj (grid0.coords t) y) = act m c _ _ _
  rw [hb0, hb1, hb2, show (t.val / 33) * 1 + 1 * (y 0).val = t.val / 33 by omega,
    show (t.val % 33) * 256 + 1 * (y 1).val = 256 * (t.val % 33) + (y 1).val by omega, show 0 * 2752 + 1 * (y 2).val = (y 2).val by omega]
  exact (canon1_eq _ _ _).trans (value m c t y)

/-- The blocks tile the result. -/
theorem covered (i : S2x8448x2752.Idx) : ∃ t : Fin cfg0.N, (cfg0.win 1).flush t = true ∧ i ∈ ((cfg0.win 1).blk t).view.set := by
  have b0 : (i 0).val < 2 := (i 0).isLt
  have b1 : (i 1).val < 8448 := (i 1).isLt
  have b2 : (i 2).val < 2752 := (i 2).isLt
  obtain ⟨t, ht⟩ : ∃ t : Fin cfg0.N, t.val = 33 * (i 0).val + (i 1).val / 256 :=
    ⟨⟨_, show 33 * (i 0).val + (i 1).val / 256 < 66 by omega⟩, rfl⟩
  have h0 : win0_1.index t 0 = t.val / 33 := congrFun (index1 t) 0
  have h1 : win0_1.index t 1 = t.val % 33 := congrFun (index1 t) 1
  have h2 : win0_1.index t 2 = 0 := congrFun (index1 t) 2
  refine ⟨t, flush0_1 t, ?_⟩
  show i ∈ ((View.whole main_v3).slice (win0_1.rect t)).set
  rw [View.set_slice_whole, Rect.mem_set_unit]
  intro a
  match a with
    | ⟨0, _⟩ => exact within 1 (i 0).val h0 (by omega)
    | ⟨1, _⟩ => exact within 256 (i 1).val h1 (by omega)
    | ⟨2, _⟩ => exact within 2752 (i 2).val h2 (by omega)

/-- The run: the result is the activation, the argument is unchanged. -/
theorem run (ρ : Dev nD → PrngReg) : θ_run defs (onTc (τ := τ) (main (F := Ideal))) ⟨m, fun _ => 0, ρ⟩ fun r => ∀ c : Dev nD,
      r.2.mem ((c : Thread nD τ).loc main_v3) = out m c
      ∧ r.2.mem ((c : Thread nD τ).loc main_arg0) = m ((c : Thread nD τ).loc main_arg0) :=
  (θ_run defs _ _).mono (fun _ h c => ⟨(h c).1.trans ((dats m 0 c).arrAt_eq_of_cover 1 _ (fun t _ => flushed m c t) covered), (h c).2⟩)
    (run_blocks m ρ)

open Cert.Reference31Ideal.Read

/-- A half's part, row and column read back from its place in row-major order. -/
theorem part_at (i : S2x8448x2752.Idx) : (((i 0).val * 8448 + (i 1).val) * 2752 + (i 2).val) / 23248896 % 2 = (i 0).val
    ∧ (((i 0).val * 8448 + (i 1).val) * 2752 + (i 2).val) / 2752 % 8448 = (i 1).val
    ∧ (((i 0).val * 8448 + (i 1).val) * 2752 + (i 2).val) % 2752 = (i 2).val := by
  have h0 : (i 0).val < 2 := (i 0).isLt
  have h1 : (i 1).val < 8448 := (i 1).isLt
  have h2 : (i 2).val < 2752 := (i 2).isLt
  refine ⟨?_, ?_, ?_⟩ <;> omega

theorem gate_at (X : S2x2x8448x2752.Idx → EReal) (i : S2x8448x2752.Idx) :
    (val_main_v1 (F := Ideal) X i : EReal) = rd4 X 0 (i 0).val (i 1).val (i 2).val := by
  rw [val_main_v1_apply, val_main_v0_apply]
  exact rd4_of X _ rfl (part_at i).1 (part_at i).2.1 (part_at i).2.2

theorem up_at (X : S2x2x8448x2752.Idx → EReal) (i : S2x8448x2752.Idx) :
    (val_main_v4 (F := Ideal) X i : EReal) = rd4 X 1 (i 0).val (i 1).val (i 2).val := by
  rw [val_main_v4_apply, val_main_v3_apply]
  exact rd4_of X _ rfl (part_at i).1 (part_at i).2.1 (part_at i).2.2

theorem logistic_at (X : S2x2x8448x2752.Idx → EReal) (i : S2x8448x2752.Idx) :
    (val_main_call0_v5 (F := Ideal) X i : EReal) = Ideal.logistic (rd4 X 0 (i 0).val (i 1).val (i 2).val) := by
  rw [val_main_call0_v5_apply, ← gate_at]
  show Ideal.div (Ideal.ofBits .f32 0x3F800000#32) (Ideal.ofBits .f32 0x3F800000#32 + Ideal.exp (-(val_main_v1 (F := Ideal) X i : EReal)))
    = Ideal.div 1 (1 + Ideal.exp (-(val_main_v1 (F := Ideal) X i : EReal)))
  rw [Ideal.ofBits_one_f32]

/-- The reference's result is the same. -/
theorem ref_eq (c : Dev nD) : val_main_v6 (F := Ideal) (A0 m c) = out m c := funext fun i => by
  show (val_main_v1 (F := Ideal) (A0 m c) i : EReal) * (val_main_call0_v5 (F := Ideal) (A0 m c) i : EReal)
    * (val_main_v4 (F := Ideal) (A0 m c) i : EReal) = _
  rw [logistic_at, gate_at, up_at]
  rfl

end Cert.Act

end
-- ==== Proof.Elem.ResBwd.lean ====
module

public import proofs.«01_k».proof.Proof.Gen.Kernel32Ideal.Value
public import proofs.«01_k».proof.Proof.Gen.Reference32Ideal.Read
public import proofs.«01_k».proof.Proof.Prod.Base
public import Idealize.ShloMosaic.Lib.VecWindow

/-! The residual step's gradient: the gradient of the branch it adds, and the gradient of each segment's gate, a sum over the
    segment's rows. The first segment is the first 256 rows, which is the first step. -/

@[expose] public section

set_option maxRecDepth 16384

noncomputable section

namespace Cert.ResBwd

open Cert.Kernel32Ideal Cert.Kernel32Ideal.Gen Cert.Kernel32Ideal.Value Cert.Prod
open Idealize.ShloMosaic Idealize.ShloMosaic.TcCoe Idealize.SL.Sem

/-- The factor one half. -/
abbrev half : EReal := Ideal.ofBits .f32 0x3F000000#32

/-- One step's sum over its 256 rows. -/
theorem pay4_at (x0 : FVec Ideal S256x2048 .f32) (acc : FVec Ideal S1x1x1x2048 .f32) (x1 : FVec Ideal S256x2048 .bf16) (y : S1x1x1x2048.Idx)
    (L : ℕ → EReal) (h : ∀ x : S256x2048.Idx, (x 1).val = (y 3).val → half * x0 x * x1 x = L (x 0).val) :
    (k0_pay4 (F := Ideal) x0 acc x1 y : EReal) = acc y + ∑ k ∈ Finset.range 256, L k := by
  have h0 : (y 0).val < 1 := (y 0).isLt
  have h1 : (y 1).val < 1 := (y 1).isLt
  have h2 : (y 2).val < 1 := (y 2).isLt
  let z : S1x2048.Idx := fun a => match a with | ⟨0, _⟩ => ⟨0, Nat.one_pos⟩ | ⟨1, _⟩ => y 3
  let w : S2048.Idx := fun a => match a with | ⟨0, _⟩ => y 3
  unfold k0_pay4 k0_pay2
  simp only [shapeCast_self]
  refine (shapeCast_apply _ _ y z (by
    rw [Shape.rowMajor_val_two, Shape.rowMajor_val_four]
    show 0 * 2048 + (y 3).val = (((y 0).val * 1 + (y 1).val) * 1 + (y 2).val) * 2048 + (y 3).val
    omega)).trans ?_
  rw [ValueIdx.addf_apply]
  refine congrArg₂ (· + ·) (shapeCast_apply _ _ z y (by
    rw [Shape.rowMajor_val_two, Shape.rowMajor_val_four]
    show (((y 0).val * 1 + (y 1).val) * 1 + (y 2).val) * 2048 + (y 3).val = 0 * 2048 + (y 3).val
    omega)) ?_
  refine (shapeCast_addUnit_apply ![2048] _ shapeCasts_S2048_S1x2048 z).trans ?_
  refine (Ideal.multiReduction_add_single _ _ reduces_S256x2048_S2048 (.inl rfl) rfl _).trans ?_
  rw [← Fin.sum_univ_eq_sum_range L]
  exact Finset.sum_congr rfl fun k _ => h _ rfl

/-- The segment of step `t`. -/
def seg (t : ℕ) : ℕ := if t = 0 then 0 else 1

theorem off1_at : ∀ t : Fin grid0.N, k0_off1 (grid0.coords t) = ![seg t.val, 2, 0, 0] := by decide +kernel

theorem off2_at : ∀ t : Fin grid0.N, k0_off2 (grid0.coords t) = ![seg t.val, 0, 0, 0] := by decide +kernel

theorem index0 : ∀ t : Fin grid0.N, win0_0.index t = ![t.val, 0] := by decide +kernel

theorem index1 : ∀ t : Fin grid0.N, win0_1.index t = ![t.val, 0] := by decide +kernel

theorem index2 : ∀ t : Fin grid0.N, win0_2.index t = ![0, 0, 0, 0] := by decide +kernel

theorem index3 : ∀ t : Fin grid0.N, win0_3.index t = ![t.val, 0] := by decide +kernel

theorem index4 : ∀ t : Fin grid0.N, win0_4.index t = ![0, 0, 0, 0] := by decide +kernel

/-- A row is in the first segment when it is one of the first 256. -/
theorem early : ∀ p : Fin 8448, IntOp.cmpi .slt (BitVec.ofNat 32 p.val) 256#32 = if p.val < 256 then 1#1 else 0#1 := by decide +kernel

variable (m : (ℓ : Loc nD τ sig) → Buf (Elt Ideal) ℓ)

/-- The arguments: the gradient, the branch's value, the modulation table. -/
abbrev A0 (c : Dev nD) : (⟨2, ![8448, 2048]⟩ : Shape).Idx → EReal := m ((c.tc : Thread nD τ).loc main_arg0)
abbrev A1 (c : Dev nD) : (⟨2, ![8448, 2048]⟩ : Shape).Idx → EReal := m ((c.tc : Thread nD τ).loc main_arg1)
abbrev A2 (c : Dev nD) : (⟨4, ![2, 9, 1, 2048]⟩ : Shape).Idx → EReal := m ((c.tc : Thread nD τ).loc main_arg2)

theorem V_1 (c : Dev nD) : (V m c main_v0 : (⟨2, ![8448, 2048]⟩ : Shape).Idx → EReal) = A1 m c := by
  unfold V hostOps0
  after_results
  rfl

theorem block0 (c : Dev nD) (t : Fin cfg0.N) (x : S256x2048.Idx) : (iblk m c 0 t x : EReal) = rd2 (A0 m c) (256 * t.val + (x 0).val) (x 1).val := by
  have h := index0 t
  refine rd2_of (A0 m c) _ ?_ ?_
  · exact tile (t.val) 256 (congrFun h 0) (by omega)
  · exact tile 0 2048 (congrFun h 1) (by omega)

theorem block1 (c : Dev nD) (t : Fin cfg0.N) (x : S256x2048.Idx) : (iblk m c 1 t x : EReal) = rd2 (A1 m c) (256 * t.val + (x 0).val) (x 1).val := by
  have h := index1 t
  rw [← V_1]
  refine rd2_of (a := 8448) (b := 2048) (V m c main_v0) _ ?_ ?_
  · exact tile (t.val) 256 (congrFun h 0) (by omega)
  · exact tile 0 2048 (congrFun h 1) (by omega)

theorem block2 (c : Dev nD) (t : Fin cfg0.N) (x : S2x9x1x2048.Idx) : (iblk m c 2 t x : EReal) = rd4 (A2 m c) (x 0).val (x 1).val (x 2).val (x 3).val := by
  have h := index2 t
  refine rd4_of (A2 m c) _ ?_ ?_ ?_ ?_
  · exact tile 0 2 (congrFun h 0) (by omega)
  · exact tile 0 9 (congrFun h 1) (by omega)
  · exact tile 0 1 (congrFun h 2) (by omega)
  · exact tile 0 2048 (congrFun h 3) (by omega)

/-- The branch's gradient at row `p`, column `q`. -/
def grad (c : Dev nD) (p q : ℕ) : EReal := half * rd2 (A0 m c) p q * gateAt (A2 m c) 2 p q

/-- What row `k` adds to segment `s`'s gate's gradient at column `q`. -/
def term (c : Dev nD) (s q k : ℕ) : EReal := if (s = 0 ↔ k < 256) then half * rd2 (A0 m c) k q * rd2 (A1 m c) k q else 0

/-- The results. -/
def out0 (c : Dev nD) : S8448x2048.Idx → EReal := fun i => grad m c (i 0).val (i 1).val
def out1 (c : Dev nD) : S2x1x1x2048.Idx → EReal := fun i => ∑ k ∈ Finset.range 8448, term m c (i 0).val (i 3).val k

section Body

variable (c : Dev nD) (i : grid0.Coords) (arg1 : Memref sig .tc .vmem S256x2048 .f32) (harg1 : arg1.IsWhole)
  (arg2 : Memref sig .tc .vmem S256x2048 .bf16) (harg2 : arg2.IsWhole) (arg3 : Memref sig .tc .vmem S2x9x1x2048 .f32) (harg3 : arg3.IsWhole)
  (arg4 : Memref sig .tc .vmem S256x2048 .bf16) (harg4 : arg4.IsWhole) (arg5 : Memref sig .tc .vmem S2x1x1x2048 .f32) (harg5 : arg5.IsWhole)
  (x0 : Vec Ideal S256x2048 .f32) (x1 : Vec Ideal S256x2048 .bf16) (x2 : Vec Ideal S2x9x1x2048 .f32) (s : ℕ)

/-- What a step leaves in the sums: its own added to the row of its segment, the other row kept. -/
theorem body_sum (v : View sig .tc .vmem S2x1x1x2048 .f32) (f : v.ty.Contents (Elt Ideal)) (l : List (View.Piece (Elt Ideal) S2x1x1x2048 .f32))
    (old : Vec Ideal S2x1x1x2048 .f32) (hold : v.read (Elt Ideal) (v.writes (Elt Ideal) f l) = old)
    (acc : FVec Ideal S1x1x1x2048 .f32) (hs : k0_off2 i = ![s, 0, 0, 0])
    (hacc : ∀ (x : S1x1x1x2048.Idx) (y : S2x1x1x2048.Idx), (y 0).val = s → (y 3).val = (x 3).val → acc x = old y)
    (y : S2x1x1x2048.Idx) (L : ℕ → EReal) (h : ∀ x : S256x2048.Idx, (x 1).val = (y 3).val → half * x0 x * x1 x = L (x 0).val) :
    (v.read (Elt Ideal) (v.writes (Elt Ideal) f (⟨Rect.unit (k0_off2 i) ![1, 1, 1, 2048] (k0_off2_inb i), k0_pay4 (F := Ideal) x0 acc x1⟩ :: l)) y : EReal)
      = if (y 0).val = s then old y + ∑ k ∈ Finset.range 256, L k else old y := by
  have h1 : (y 1).val < 1 := (y 1).isLt
  have h2 : (y 2).val < 1 := (y 2).isLt
  by_cases e : (y 0).val = s
  · rw [if_pos e]
    let x : S1x1x1x2048.Idx := fun a => match a with
      | ⟨0, _⟩ => ⟨0, Nat.one_pos⟩ | ⟨1, _⟩ => ⟨0, Nat.one_pos⟩ | ⟨2, _⟩ => ⟨0, Nat.one_pos⟩ | ⟨3, _⟩ => y 3
    refine (View.read_writes_cons_unit_of_mem v f (k0_off2_inb i) _ l y x hs (fun a => ?_)).trans ?_
    · match a with
      | ⟨0, _⟩ => show (y 0).val = s + 0; omega
      | ⟨1, _⟩ => show (y 1).val = 0 + 0; omega
      | ⟨2, _⟩ => show (y 2).val = 0 + 0; omega
      | ⟨3, _⟩ => show (y 3).val = 0 + (y 3).val; omega
    · rw [← hacc x y e rfl]
      exact pay4_at x0 acc x1 x L h
  · rw [if_neg e, ← hold]
    exact View.read_writes_cons_unit_of_not_mem v f (k0_off2_inb i) _ l y hs 0 (by show (y 0).val < s ∨ s + 1 ≤ (y 0).val; omega)

/-- A later step. -/
theorem later (hc0 : ¬cond0_0 i) (x4 : Vec Ideal S2x1x1x2048 .f32) (hs : k0_off2 i = ![s, 0, 0, 0]) (y : S2x1x1x2048.Idx) (L : ℕ → EReal)
    (h : ∀ x : S256x2048.Idx, (x 1).val = (y 3).val → half * x0 x * x1 x = L (x 0).val) :
    (out0_B_4 (F := Ideal) c i arg1 harg1 arg2 harg2 arg3 harg3 arg4 harg4 arg5 harg5 hc0 x0 x1 x2 x4 y : EReal)
      = if (y 0).val = s then x4 y + ∑ k ∈ Finset.range 256, L k else x4 y := by
  unfold out0_B_4
  dsimp only [kernelRun0_B]
  refine body_sum i _ _ s _ _ _ x4 (harg5.read_unread x4) _ hs (fun x z e0 e3 => ?_) y L (fun x hx => ?_)
  · refine (congrFun (harg5.read_unread x4) _).trans (congrArg x4 (funext fun a => Fin.ext ?_))
    have hx0 : (x 0).val < 1 := (x 0).isLt
    have hx1 : (x 1).val < 1 := (x 1).isLt
    have hx2 : (x 2).val < 1 := (x 2).isLt
    have hz1 : (z 1).val < 1 := (z 1).isLt
    have hz2 : (z 2).val < 1 := (z 2).isLt
    match a with
    | ⟨0, _⟩ => show k0_off2 i 0 + 1 * (x 0).val = (z 0).val; rw [hs]; show s + 1 * (x 0).val = _; omega
    | ⟨1, _⟩ => show k0_off2 i 1 + 1 * (x 1).val = (z 1).val; rw [hs]; show 0 + 1 * (x 1).val = _; omega
    | ⟨2, _⟩ => show k0_off2 i 2 + 1 * (x 2).val = (z 2).val; rw [hs]; show 0 + 1 * (x 2).val = _; omega
    | ⟨3, _⟩ => show k0_off2 i 3 + 1 * (x 3).val = (z 3).val; rw [hs]; show 0 + 1 * (x 3).val = _; omega
  · rw [View.readAt_full, View.readAt_full, harg1.read_unread, harg2.read_unread]
    exact h x hx

/-- The first step. -/
theorem first (hc0 : cond0_0 i) (hs : k0_off2 i = ![s, 0, 0, 0]) (y : S2x1x1x2048.Idx) (L : ℕ → EReal)
    (h : ∀ x : S256x2048.Idx, (x 1).val = (y 3).val → half * x0 x * x1 x = L (x 0).val) :
    (out0_A_4 (F := Ideal) c i arg1 harg1 arg2 harg2 arg3 harg3 arg4 harg4 arg5 harg5 hc0 x0 x1 x2 y : EReal)
      = if (y 0).val = s then 0 + ∑ k ∈ Finset.range 256, L k else 0 := by
  have hz : ∀ z, (k0_pay1 (F := Ideal) z : EReal) = 0 := fun _ => Ideal.ofBits_zero_f32
  unfold out0_A_4
  dsimp only [kernelRun0_A]
  refine (body_sum i _ _ s _ _ _ (k0_pay1 (F := Ideal)) (View.read_writes_full _ _ _ _ _) _ hs (fun x z e0 e3 => ?_) y L (fun x hx => ?_)).trans (by rw [hz])
  · have hw := congrFun (View.read_writes_full (Val := Elt Ideal) arg5.view arg5.view.junk inb_S2x1x1x2048_S2x1x1x2048_0_0_0_0 (k0_pay1 (F := Ideal)) [])
    exact (hw _).trans ((hz _).trans (hz z).symm)
  · rw [View.readAt_full, View.readAt_full, harg1.read_unread, harg2.read_unread]
    exact h x hx

end Body

/-- One step of the sums. -/
theorem added (c : Dev nD) (t : Fin cfg0.N) (old : EReal) (y : S2x1x1x2048.Idx) :
    (if (y 0).val = seg t.val then
      old + ∑ k ∈ Finset.range 256, half * rd2 (A0 m c) (256 * t.val + k) (y 3).val * rd2 (A1 m c) (256 * t.val + k) (y 3).val else old)
      = old + ∑ k ∈ Finset.range 256, term m c (y 0).val (y 3).val (256 * t.val + k) := by
  have h0 : (y 0).val < 2 := (y 0).isLt
  by_cases e : (y 0).val = seg t.val
  · rw [if_pos e]
    refine congrArg (old + ·) (Finset.sum_congr rfl fun k hk => ?_)
    have hk' := Finset.mem_range.mp hk
    unfold term
    rw [if_pos]
    unfold seg at e
    split at e <;> constructor <;> intro <;> omega
  · rw [if_neg e, Finset.sum_eq_zero, add_zero]
    intro k hk
    have hk' := Finset.mem_range.mp hk
    unfold term
    rw [if_neg]
    unfold seg at e
    intro hh
    split at e
    · exact e (hh.mpr (by omega))
    · exact absurd (hh.mp (by omega)) (by omega)

theorem blocks_mul (c : Dev nD) (t : Fin cfg0.N) (y : S2x1x1x2048.Idx) (x : S256x2048.Idx) (hx : (x 1).val = (y 3).val) :
    half * (iblk m c 0 t x : EReal) * (iblk m c 1 t x : EReal)
      = half * rd2 (A0 m c) (256 * t.val + (x 0).val) (y 3).val * rd2 (A1 m c) (256 * t.val + (x 0).val) (y 3).val := by
  rw [block0, block1, hx]

theorem sums_first (c : Dev nD) (t : Fin cfg0.N) (h0 : t.val % 33 = 0) (y : S2x1x1x2048.Idx) :
    ((outsAt0 m c t.val t.isLt).2 y : EReal) = 0 + ∑ k ∈ Finset.range 256, term m c (y 0).val (y 3).val (256 * t.val + k) := by
  simp only [outsAt0_A m c t h0]
  exact (first c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (seg t.val) ((hcond0_0 t).mpr h0) (off2_at t) y _ (blocks_mul m c t y)).trans (added m c t 0 y)

theorem sums_later (c : Dev nD) (t : Fin cfg0.N) (h0 : ¬t.val % 33 = 0) (y : S2x1x1x2048.Idx) :
    ((outsAt0 m c t.val t.isLt).2 y : EReal) = (outsAt0 m c (t.val - 1) (Nat.lt_of_le_of_lt (Nat.sub_le _ _) t.isLt)).2 y
      + ∑ k ∈ Finset.range 256, term m c (y 0).val (y 3).val (256 * t.val + k) := by
  simp only [outsAt0_B m c t h0]
  exact (later c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (seg t.val) (fun h => h0 ((hcond0_0 t).mp h)) _ (off2_at t) y _ (blocks_mul m c t y)).trans (added m c t _ y)

/-- The sums after step `n`: the rows so far. -/
theorem sums_at (c : Dev nD) (y : S2x1x1x2048.Idx) : ∀ (n : ℕ) (h : n < cfg0.N),
    ((outsAt0 m c n h).2 y : EReal) = ∑ k ∈ Finset.range (256 * (n + 1)), term m c (y 0).val (y 3).val k
  | 0, h => by
    refine (sums_first m c ⟨0, h⟩ rfl y).trans ?_
    rw [zero_add]
    exact Finset.sum_congr rfl fun k _ => by rw [Nat.mul_zero, Nat.zero_add]
  | n + 1, h => by
    have hN : cfg0.N = 33 := N_0
    refine (sums_later m c ⟨n + 1, h⟩ (by show ¬(n + 1) % 33 = 0; omega) y).trans ?_
    show ((outsAt0 m c n _).2 y : EReal) + _ = _
    rw [sums_at c y n]
    exact sum_next _ 256 (n + 1)

/-- The sums written back. -/
theorem flushed1 (c : Dev nD) (t : Fin cfg0.N) (ht : (cfg0.win 4).flush t = true) :
    (dats m 0 c).flushed 4 t = ((cfg0.win 4).blk t).view.read (Elt Ideal) (out1 m c) := by
  have hN : t.val < 33 := lt_of_lt_of_eq t.isLt N_0
  have h32 : t.val = 32 := by have := (flush0_4 t).mp ht; omega
  have h := index4 t
  rw [flushed4]
  funext y
  have hb0 : (((cfg0.win 4).blk t).view.emb y 0).val = 0 * 2 + 1 * (y 0).val := tile _ 2 (congrFun h 0) rfl
  have hb3 : (((cfg0.win 4).blk t).view.emb y 3).val = 0 * 2048 + 1 * (y 3).val := tile _ 2048 (congrFun h 3) rfl
  show ((outsAt0 m c t.val t.isLt).2 ((cfg0.win 4).xinj (grid0.coords t) y) : EReal) = ∑ k ∈ Finset.range 8448, term m c _ _ k
  rw [hb0, hb3, show 0 * 2 + 1 * (y 0).val = (y 0).val by omega, show 0 * 2048 + 1 * (y 3).val = (y 3).val by omega]
  refine (sums_at m c _ t.val t.isLt).trans ?_
  rw [h32]

theorem covered1 (i : S2x1x1x2048.Idx) : ∃ t : Fin cfg0.N, (cfg0.win 4).flush t = true ∧ i ∈ ((cfg0.win 4).blk t).view.set := by
  have b0 : (i 0).val < 2 := (i 0).isLt
  have b1 : (i 1).val < 1 := (i 1).isLt
  have b2 : (i 2).val < 1 := (i 2).isLt
  have b3 : (i 3).val < 2048 := (i 3).isLt
  obtain ⟨t, ht⟩ : ∃ t : Fin cfg0.N, t.val = 32 := ⟨⟨32, by rw [show cfg0.N = 33 from N_0]; omega⟩, rfl⟩
  have h0 : win0_4.index t 0 = 0 := congrFun (index4 t) 0
  have h1 : win0_4.index t 1 = 0 := congrFun (index4 t) 1
  have h2 : win0_4.index t 2 = 0 := congrFun (index4 t) 2
  have h3 : win0_4.index t 3 = 0 := congrFun (index4 t) 3
  refine ⟨t, (flush0_4 t).mpr (by omega), ?_⟩
  show i ∈ ((View.whole main_v1_1).slice (win0_4.rect t)).set
  rw [View.set_slice_whole, Rect.mem_set_unit]
  intro a
  match a with
    | ⟨0, _⟩ => exact within 2 (i 0).val h0 (by omega)
    | ⟨1, _⟩ => exact within 1 (i 1).val h1 (by omega)
    | ⟨2, _⟩ => exact within 1 (i 2).val h2 (by omega)
    | ⟨3, _⟩ => exact within 2048 (i 3).val h3 (by omega)

/-- The modulation a step reads is its rows' modulation. -/
theorem gate_row (M : (⟨4, ![2, 9, 1, 2048]⟩ : Shape).Idx → EReal) (j t r q : ℕ) (ht : t < 33) (hr : r < 256) :
    rd4 M (seg t) j 0 q = gateAt M j (256 * t + r) q := by
  unfold gateAt seg
  rw [early ⟨256 * t + r, by omega⟩]
  show _ = Scalar.select (if 256 * t + r < 256 then 1#1 else 0#1) _ _
  by_cases h : t = 0
  · rw [if_pos h, if_pos (by omega)]; rfl
  · rw [if_neg h, if_neg (by omega)]; rfl

/-- One step's block of the branch's gradient. -/
theorem pay3_at (c : Dev nD) (t : Fin cfg0.N) (row : FVec Ideal S1x1x1x2048 .f32) (hrow : ∀ x, row x = rd4 (A2 m c) (seg t.val) 2 0 (x 3).val)
    (y : S256x2048.Idx) : (k0_pay3 (F := Ideal) (iblk m c 0 t) row y : EReal) = grad m c (256 * t.val + (y 0).val) (y 1).val := by
  have ht : t.val < 33 := lt_of_lt_of_eq t.isLt N_0
  unfold k0_pay3 k0_pay2
  show half * (iblk m c 0 t y : EReal) * (broadcastTo S256x2048 (shapeCast S1x2048 row shapeCasts_S1x1x1x2048_S1x2048) broadcasts_S1x2048_S256x2048 y : EReal) = _
  unfold grad
  rw [block0, ← gate_row (A2 m c) 2 t.val (y 0).val (y 1).val ht (y 0).isLt]
  refine congrArg (half * rd2 (A0 m c) (256 * t.val + (y 0).val) (y 1).val * ·) ?_
  let z : S1x2048.Idx := fun a => match a with | ⟨0, _⟩ => ⟨0, Nat.one_pos⟩ | ⟨1, _⟩ => y 1
  refine (show _ = shapeCast S1x2048 row shapeCasts_S1x1x1x2048_S1x2048 z from congrArg _ (funext fun a => match a with | ⟨0, _⟩ => rfl | ⟨1, _⟩ => rfl)).trans ?_
  exact (dropTwo_at row _ z).trans (hrow _)

theorem row_of (c : Dev nD) (t : Fin cfg0.N) (v : View sig .tc .vmem S2x9x1x2048 .f32) (f : v.ty.Contents (Elt Ideal))
    (hf : v.read (Elt Ideal) f = iblk m c 2 t) (x : S1x1x1x2048.Idx) :
    ((View.readAt (Elt Ideal) v (Rect.unit (s := S2x9x1x2048) (k0_off1 (grid0.coords t)) S1x1x1x2048.size (k0_off1_inb (grid0.coords t))).toLoadRect f :
      FVec Ideal S1x1x1x2048 .f32) x : EReal)
      = rd4 (A2 m c) (seg t.val) 2 0 (x 3).val := by
  have hx0 : (x 0).val < 1 := (x 0).isLt
  have hx1 : (x 1).val < 1 := (x 1).isLt
  have hx2 : (x 2).val < 1 := (x 2).isLt
  have hs := off1_at t
  refine (congrFun hf _).trans ((block2 m c t _).trans ?_)
  show rd4 (A2 m c) (k0_off1 (grid0.coords t) 0 + 1 * (x 0).val) (k0_off1 (grid0.coords t) 1 + 1 * (x 1).val)
    (k0_off1 (grid0.coords t) 2 + 1 * (x 2).val) (k0_off1 (grid0.coords t) 3 + 1 * (x 3).val) = _
  rw [hs]
  show rd4 (A2 m c) (seg t.val + 1 * (x 0).val) (2 + 1 * (x 1).val) (0 + 1 * (x 2).val) (0 + 1 * (x 3).val) = _
  rw [show seg t.val + 1 * (x 0).val = seg t.val by omega, show 2 + 1 * (x 1).val = 2 by omega, show 0 + 1 * (x 2).val = 0 by omega,
    show 0 + 1 * (x 3).val = (x 3).val by omega]

theorem grads_first (c : Dev nD) (t : Fin cfg0.N) (hc : cond0_0 (grid0.coords t)) (arg1 : Memref sig .tc .vmem S256x2048 .f32) (harg1 : arg1.IsWhole)
    (arg2 : Memref sig .tc .vmem S256x2048 .bf16) (harg2 : arg2.IsWhole) (arg3 : Memref sig .tc .vmem S2x9x1x2048 .f32) (harg3 : arg3.IsWhole)
    (arg4 : Memref sig .tc .vmem S256x2048 .bf16) (harg4 : arg4.IsWhole) (arg5 : Memref sig .tc .vmem S2x1x1x2048 .f32) (harg5 : arg5.IsWhole)
    (y : S256x2048.Idx) : (out0_A_3 (F := Ideal) c (grid0.coords t) arg1 harg1 arg2 harg2 arg3 harg3 arg4 harg4 arg5 harg5 hc (iblk m c 0 t) (iblk m c 1 t) (iblk m c 2 t) y : EReal)
      = grad m c (256 * t.val + (y 0).val) (y 1).val := by
  unfold out0_A_3
  dsimp only [kernelRun0_A]
  refine (congrFun (View.read_writes_full (Val := Elt Ideal) VO0_3 VO0_3.junk inb_S256x2048_S256x2048_0_0 _ []) y).trans ?_
  rw [View.readAt_full, harg1.read_unread]
  exact pay3_at m c t _ (row_of m c t _ _ (harg3.read_unread _)) y

theorem grads_later (c : Dev nD) (t : Fin cfg0.N) (hc : ¬cond0_0 (grid0.coords t)) (arg1 : Memref sig .tc .vmem S256x2048 .f32) (harg1 : arg1.IsWhole)
    (arg2 : Memref sig .tc .vmem S256x2048 .bf16) (harg2 : arg2.IsWhole) (arg3 : Memref sig .tc .vmem S2x9x1x2048 .f32) (harg3 : arg3.IsWhole)
    (arg4 : Memref sig .tc .vmem S256x2048 .bf16) (harg4 : arg4.IsWhole) (arg5 : Memref sig .tc .vmem S2x1x1x2048 .f32) (harg5 : arg5.IsWhole)
    (x4 : Vec Ideal S2x1x1x2048 .f32)
    (y : S256x2048.Idx) : (out0_B_3 (F := Ideal) c (grid0.coords t) arg1 harg1 arg2 harg2 arg3 harg3 arg4 harg4 arg5 harg5 hc (iblk m c 0 t) (iblk m c 1 t) (iblk m c 2 t) x4 y : EReal)
      = grad m c (256 * t.val + (y 0).val) (y 1).val := by
  unfold out0_B_3
  dsimp only [kernelRun0_B]
  refine (congrFun (View.read_writes_full (Val := Elt Ideal) VO0_3 VO0_3.junk inb_S256x2048_S256x2048_0_0 _ []) y).trans ?_
  rw [View.readAt_full, harg1.read_unread]
  exact pay3_at m c t _ (row_of m c t _ _ (harg3.read_unread _)) y

/-- What a step leaves in its block of the branch's gradient. -/
theorem grads_at (c : Dev nD) (t : Fin cfg0.N) (y : S256x2048.Idx) :
    ((outsAt0 m c t.val t.isLt).1 y : EReal) = grad m c (256 * t.val + (y 0).val) (y 1).val := by
  by_cases h0 : t.val % 33 = 0
  · simp only [outsAt0_A m c t h0]
    exact grads_first m c t _ (ms0_0 t) (hs0_0 t) (ms0_1 t) (hs0_1 t) (ms0_2 t) (hs0_2 t) (ms0_3 t) (hs0_3 t) (ms0_4 t) (hs0_4 t) y
  · simp only [outsAt0_B m c t h0]
    exact grads_later m c t _ (ms0_0 t) (hs0_0 t) (ms0_1 t) (hs0_1 t) (ms0_2 t) (hs0_2 t) (ms0_3 t) (hs0_3 t) (ms0_4 t) (hs0_4 t) _ y

theorem flushed0 (c : Dev nD) (t : Fin cfg0.N) : (dats m 0 c).flushed 3 t = ((cfg0.win 3).blk t).view.read (Elt Ideal) (out0 m c) := by
  have h := index3 t
  rw [flushed3]
  funext y
  have hb0 : (((cfg0.win 3).blk t).view.emb y 0).val = t.val * 256 + 1 * (y 0).val := tile _ 256 (congrFun h 0) rfl
  have hb1 : (((cfg0.win 3).blk t).view.emb y 1).val = 0 * 2048 + 1 * (y 1).val := tile _ 2048 (congrFun h 1) rfl
  show ((outsAt0 m c t.val t.isLt).1 ((cfg0.win 3).xinj (grid0.coords t) y) : EReal) = grad m c _ _
  rw [hb0, hb1, show t.val * 256 + 1 * (y 0).val = 256 * t.val + (y 0).val by omega, show 0 * 2048 + 1 * (y 1).val = (y 1).val by omega]
  exact grads_at m c t _

theorem covered0 (i : S8448x2048.Idx) : ∃ t : Fin cfg0.N, (cfg0.win 3).flush t = true ∧ i ∈ ((cfg0.win 3).blk t).view.set := by
  have b0 : (i 0).val < 8448 := (i 0).isLt
  have b1 : (i 1).val < 2048 := (i 1).isLt
  obtain ⟨t, ht⟩ : ∃ t : Fin cfg0.N, t.val = (i 0).val / 256 := ⟨⟨_, show (i 0).val / 256 < cfg0.N by rw [show cfg0.N = 33 from N_0]; omega⟩, rfl⟩
  have h0 : win0_3.index t 0 = t.val := congrFun (index3 t) 0
  have h1 : win0_3.index t 1 = 0 := congrFun (index3 t) 1
  refine ⟨t, flush0_3 t, ?_⟩
  show i ∈ ((View.whole main_v1_0).slice (win0_3.rect t)).set
  rw [View.set_slice_whole, Rect.mem_set_unit]
  intro a
  match a with
    | ⟨0, _⟩ => exact within 256 (i 0).val h0 (by omega)
    | ⟨1, _⟩ => exact within 2048 (i 1).val h1 (by omega)

/-- The run: the results are the gradients, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = out0 m c
      ∧ r.2.mem ((c : Thread nD τ).loc main_v1_1) = out1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed0 m c t) covered0),
    (h c).2.1.trans ((dats m 0 c).arrAt_eq_of_cover 4 _ (flushed1 m c) covered1), (h c).2.2⟩)
    (run_blocks m ρ)

open Cert.Reference32Ideal.Read

theorem early_at (p : ℕ) (hp : p < 8448) (i : Cert.Reference32Ideal.S8448x2048.Idx) (hi : (i 0).val = p) :
    val_main_v8_1 (F := Ideal) i = if p < 256 then 1#1 else 0#1 := by
  subst hi
  rw [val_main_v8_1_apply, val_main_v7_apply, val_main_v6_apply, val_main_v5_apply]
  exact early ⟨(i 0).val, hp⟩

/-- The reference's gradient of the branch is the same. -/
theorem ref_eq0 (c : Dev nD) : val_main_v17 (F := Ideal) (A0 m c) (A2 m c) = out0 m c := funext fun i => by
  show ((Ideal.ofBits .f32 0x3F000000#32 : EReal) * (val_main_v8_0 (F := Ideal) (A2 m c) i : EReal)) * A0 m c i = half * _ * _
  rw [mul_right_comm]
  refine congrArg₂ (· * ·) (congrArg (half * ·) (rd2_of (A0 m c) i rfl rfl)) ?_
  rw [val_main_v8_0_apply, val_main_call0_v1_apply, val_main_call0_v2_apply, val_main_v1_apply, val_main_v3_apply, val_main_v0_apply, val_main_v2_apply]
  have h1 : (i 1).val < 2048 := (i 1).isLt
  unfold gateAt
  rw [early_at (i 0).val (i 0).isLt i rfl, early ⟨(i 0).val, (i 0).isLt⟩]
  refine congrArg₂ (Scalar.select _) (rd4_of (A2 m c) _ rfl rfl rfl ?_) (rd4_of (A2 m c) _ rfl rfl rfl ?_)
  · show (0 * 2048 + (i 1).val) % 2048 = (i 1).val; omega
  · show (0 * 2048 + (i 1).val) % 2048 = (i 1).val; omega

theorem v15_at (c : Dev nD) (i : Cert.Reference32Ideal.S8448x2048.Idx) :
    (val_main_v15 (F := Ideal) (A0 m c) (A1 m c) i : EReal) = half * rd2 (A0 m c) (i 0).val (i 1).val * rd2 (A1 m c) (i 0).val (i 1).val := by
  rw [← rd2_of (A0 m c) i rfl rfl, ← rd2_of (A1 m c) i rfl rfl, mul_assoc]
  rfl

/-- The reference's gradient of the gates is the same. -/
theorem ref_eq1 (c : Dev nD) : val_main_v21 (F := Ideal) (A0 m c) (A1 m c) = out1 m c := funext fun i => by
  have b0 : (i 0).val < 2 := (i 0).isLt
  have b1 : (i 1).val < 1 := (i 1).isLt
  have b2 : (i 2).val < 1 := (i 2).isLt
  rw [val_main_v21_apply]
  unfold val_main_v20
  let j : Cert.Reference32Ideal.S1x1x2048.Idx := fun a => match a with | ⟨0, _⟩ => ⟨0, Nat.one_pos⟩ | ⟨1, _⟩ => ⟨0, Nat.one_pos⟩ | ⟨2, _⟩ => i 3
  show _ = ∑ k ∈ Finset.range 8448, term m c (i 0).val (i 3).val k
  rw [← Fin.sum_univ_eq_sum_range (fun k => term m c (i 0).val (i 3).val k)]
  by_cases e : (i 0).val = 0
  · refine (concatenate_pair_apply_left (s₁ := Cert.Reference32Ideal.S1x1x2048) (s₂ := Cert.Reference32Ideal.S1x1x2048) 0 _ _ _ (idx_main_v21 i) rfl j (fun a => ?_)).trans ?_
    · match a with
      | ⟨0, _⟩ => show 0 = (i 0).val; omega
      | ⟨1, _⟩ => rfl
      | ⟨2, _⟩ => rfl
    · rw [val_main_v18_apply, val_main_v16_0_apply, val_main_call1_v5_apply,
        show (val_main_call1_cst_1 (F := Ideal) (Shape.Idx.first Cert.Reference32Ideal.Gen.h_S_) : EReal) = 0 from Ideal.ofBits_zero_f32, zero_add]
      refine Finset.sum_congr rfl fun k _ => ?_
      rw [val_main_call1_v2_apply, early_at k.val k.isLt _ rfl, v15_at]
      unfold term
      by_cases hk : k.val < 256
      · rw [if_pos hk, if_pos (by constructor <;> intro <;> omega)]; rfl
      · rw [if_neg hk, if_neg (fun hh => hk (hh.mp e))]; exact Ideal.ofBits_zero_f32
  · refine (concatenate_pair_apply_right (s₁ := Cert.Reference32Ideal.S1x1x2048) (s₂ := Cert.Reference32Ideal.S1x1x2048) 0 _ _ _ (idx_main_v21 i) rfl rfl j (fun a ha => ?_) ?_).trans ?_
    · match a with
      | ⟨0, _⟩ => exact absurd rfl ha
      | ⟨1, _⟩ => rfl
      | ⟨2, _⟩ => rfl
    · show 0 + 1 = (i 0).val; omega
    · rw [val_main_v19_apply, val_main_v16_1_apply, val_main_call1_v3_apply,
        show (val_main_call1_cst_0 (F := Ideal) (Shape.Idx.first Cert.Reference32Ideal.Gen.h_S_) : EReal) = 0 from Ideal.ofBits_zero_f32, zero_add]
      refine Finset.sum_congr rfl fun k _ => ?_
      rw [val_main_call1_v1_apply, early_at k.val k.isLt _ rfl, v15_at]
      unfold term
      by_cases hk : k.val < 256
      · rw [if_pos hk, if_neg (fun hh => e (hh.mpr hk))]; exact Ideal.ofBits_zero_f32
      · rw [if_neg hk, if_pos (by constructor <;> intro <;> omega)]; rfl

end Cert.ResBwd

end
-- ==== Proof.Elem.Norm.lean ====
module

public import proofs.«01_k».proof.Proof.Gen.Kernel34Ideal.Value
public import proofs.«01_k».proof.Proof.Gen.Reference34Ideal.Read
public import proofs.«01_k».proof.Proof.Elem.ResBwd

/-! The modulated normalisation: each row over the root of its mean square, times the weight, scaled and shifted by its segment's
    modulation. -/

@[expose] public section

set_option maxRecDepth 16384

noncomputable section

namespace Cert.Norm

open Cert.Kernel34Ideal Cert.Kernel34Ideal.Gen Cert.Kernel34Ideal.Value Cert.Prod
open Idealize.ShloMosaic Idealize.ShloMosaic.TcCoe Idealize.SL.Sem
open Cert.ResBwd (seg early gate_row)

/-- A number normalised by the sum `s` of its row's squares, weighted, scaled and shifted. -/
def modulated (x s g a b : EReal) : EReal :=
  x * Ideal.rsqrt (Ideal.div s (Ideal.ofBits .f32 0x45000000#32) + Ideal.ofBits .f32 0x358637BD#32) * g * (Ideal.ofBits .f32 0x3F800000#32 + a) + b

/-- One step's block. -/
theorem pay1_at (x0 : FVec Ideal S256x2048 .f32) (x1 : FVec Ideal S1x2048 .f32) (r1 r0 : FVec Ideal S1x1x1x2048 .f32) (y : S256x2048.Idx)
    (L : ℕ → EReal) (g a b : EReal) (hx : ∀ x : S256x2048.Idx, (x 0).val = (y 0).val → x0 x = L (x 1).val)
    (hg : ∀ x : S1x2048.Idx, (x 1).val = (y 1).val → x1 x = g) (ha : ∀ x : S1x1x1x2048.Idx, (x 3).val = (y 1).val → r1 x = a)
    (hb : ∀ x : S1x1x1x2048.Idx, (x 3).val = (y 1).val → r0 x = b) :
    (k0_pay1 (F := Ideal) x0 x1 r1 r0 y : EReal) = modulated (L (y 1).val) (∑ k ∈ Finset.range 2048, L k * L k) g a b := by
  let z : S1x2048.Idx := fun d => match d with | ⟨0, _⟩ => ⟨0, Nat.one_pos⟩ | ⟨1, _⟩ => y 1
  let w : S256x1.Idx := fun d => match d with | ⟨0, _⟩ => y 0 | ⟨1, _⟩ => ⟨0, Nat.one_pos⟩
  let u : S256.Idx := fun d => match d with | ⟨0, _⟩ => y 0
  have low : ∀ (v : FVec Ideal S1x2048 .f32), (broadcastTo S256x2048 v broadcasts_S1x2048_S256x2048 y : EReal) = v z := fun v =>
    congrArg v (funext fun d => match d with | ⟨0, _⟩ => rfl | ⟨1, _⟩ => rfl)
  have col : ∀ (v : FVec Ideal S256x1 .f32), (broadcastTo S256x2048 v broadcasts_S256x1_S256x2048 y : EReal) = v w := fun v =>
    congrArg v (funext fun d => match d with | ⟨0, _⟩ => rfl | ⟨1, _⟩ => rfl)
  have sum : (shapeCast S256x1 (multiReduction (F := Ideal) .add [1] S256 (mulf x0 x0) 0x00000000#32 reduces_S256x2048_S256 (.inl rfl) rfl) shapeCasts_S256_S256x1 w : EReal)
      = ∑ k ∈ Finset.range 2048, L k * L k := by
    refine (shapeCast_apply _ shapeCasts_S256_S256x1 w u (by
      rw [Shape.rowMajor_val_one, Shape.rowMajor_val_two]; show (y 0).val = (y 0).val * 1 + 0; omega)).trans ?_
    refine (Ideal.multiReduction_add_single _ _ reduces_S256x2048_S256 (.inl rfl) rfl _).trans ?_
    rw [← Fin.sum_univ_eq_sum_range (fun k => L k * L k)]
    exact Finset.sum_congr rfl fun k _ => congrArg₂ (· * ·) (hx _ rfl) (hx _ rfl)
  have e1 : (shapeCast S1x2048 r1 shapeCasts_S1x1x1x2048_S1x2048 z : EReal) = a := (dropTwo_at r1 _ z).trans (ha _ rfl)
  have e0 : (shapeCast S1x2048 r0 shapeCasts_S1x1x1x2048_S1x2048 z : EReal) = b := (dropTwo_at r0 _ z).trans (hb _ rfl)
  unfold k0_pay1 modulated
  show (x0 y : EReal) * (broadcastTo S256x2048 _ broadcasts_S256x1_S256x2048 y : EReal) * (broadcastTo S256x2048 x1 broadcasts_S1x2048_S256x2048 y : EReal)
    * (broadcastTo S256x2048 _ broadcasts_S1x2048_S256x2048 y : EReal) + (broadcastTo S256x2048 _ broadcasts_S1x2048_S256x2048 y : EReal) = _
  rw [low, low, low, col, e0, hg z rfl, hx y rfl]
  show L (y 1).val * Ideal.rsqrt (Ideal.div (shapeCast S256x1 _ shapeCasts_S256_S256x1 w : EReal) (Ideal.ofBits .f32 0x45000000#32) + Ideal.ofBits .f32 0x358637BD#32) * g
    * (Ideal.ofBits .f32 0x3F800000#32 + (shapeCast S1x2048 r1 shapeCasts_S1x1x1x2048_S1x2048 z : EReal)) + b = _
  rw [sum, e1]

theorem off1_at : ∀ t : Fin grid0.N, k0_off1 (grid0.coords t) = ![seg t.val, 1, 0, 0] := by decide +kernel

theorem off2_at : ∀ t : Fin grid0.N, k0_off2 (grid0.coords t) = ![seg t.val, 0, 0, 0] := by decide +kernel

theorem index0 : ∀ t : Fin grid0.N, win0_0.index t = ![t.val, 0] := by decide +kernel

theorem index1 : ∀ t : Fin grid0.N, win0_1.index t = ![0, 0] := by decide +kernel

theorem index2 : ∀ t : Fin grid0.N, win0_2.index t = ![0, 0, 0, 0] := by decide +kernel

theorem index3 : ∀ t : Fin grid0.N, win0_3.index t = ![t.val, 0] := by decide +kernel

variable (m : (ℓ : Loc nD τ sig) → Buf (Elt Ideal) ℓ)

/-- The arguments: the rows, the weight, the modulation table. -/
abbrev A0 (c : Dev nD) : (⟨2, ![8448, 2048]⟩ : Shape).Idx → EReal := m ((c.tc : Thread nD τ).loc main_arg0)
abbrev A1 (c : Dev nD) : (⟨2, ![1, 2048]⟩ : Shape).Idx → EReal := m ((c.tc : Thread nD τ).loc main_arg1)
abbrev A2 (c : Dev nD) : (⟨4, ![2, 9, 1, 2048]⟩ : Shape).Idx → EReal := m ((c.tc : Thread nD τ).loc main_arg2)

theorem block0 (c : Dev nD) (t : Fin cfg0.N) (x : S256x2048.Idx) : (iblk m c 0 t x : EReal) = rd2 (A0 m c) (256 * t.val + (x 0).val) (x 1).val := by
  have h := index0 t
  refine rd2_of (A0 m c) _ ?_ ?_
  · exact tile (t.val) 256 (congrFun h 0) (by omega)
  · exact tile 0 2048 (congrFun h 1) (by omega)

theorem block1 (c : Dev nD) (t : Fin cfg0.N) (x : S1x2048.Idx) : (iblk m c 1 t x : EReal) = rd2 (A1 m c) 0 (x 1).val := by
  have h := index1 t
  have hx : (x 0).val = 0 := by have := (x 0).isLt; change _ < 1 at this; omega
  refine rd2_of (A1 m c) _ ?_ ?_
  · exact tile 0 1 (congrFun h 0) (by omega)
  · exact tile 0 2048 (congrFun h 1) (by omega)

theorem block2 (c : Dev nD) (t : Fin cfg0.N) (x : S2x9x1x2048.Idx) : (iblk m c 2 t x : EReal) = rd4 (A2 m c) (x 0).val (x 1).val (x 2).val (x 3).val := by
  have h := index2 t
  refine rd4_of (A2 m c) _ ?_ ?_ ?_ ?_
  · exact tile 0 2 (congrFun h 0) (by omega)
  · exact tile 0 9 (congrFun h 1) (by omega)
  · exact tile 0 1 (congrFun h 2) (by omega)
  · exact tile 0 2048 (congrFun h 3) (by omega)

/-- The result at row `p`, column `q`. -/
def norm (c : Dev nD) (p q : ℕ) : EReal := modulated (rd2 (A0 m c) p q) (∑ k ∈ Finset.range 2048, rd2 (A0 m c) p k * rd2 (A0 m c) p k)
  (rd2 (A1 m c) 0 q) (gateAt (A2 m c) 1 p q) (gateAt (A2 m c) 0 p q)

/-- The result. -/
def out (c : Dev nD) : S8448x2048.Idx → EReal := fun i => norm m c (i 0).val (i 1).val

/-- The modulation a step reads at an offset: row `j` of its segment's table. -/
theorem row_of (c : Dev nD) (t : Fin cfg0.N) (v : View sig .tc .vmem S2x9x1x2048 .f32) (f : v.ty.Contents (Elt Ideal))
    (hf : v.read (Elt Ideal) f = iblk m c 2 t) (off : Fin 4 → ℕ) (inb : ∀ a, off a + S1x1x1x2048.size a ≤ S2x9x1x2048.size a) (j : ℕ)
    (hs : off = ![seg t.val, j, 0, 0]) (x : S1x1x1x2048.Idx) :
    ((View.readAt (Elt Ideal) v (Rect.unit (s := S2x9x1x2048) off S1x1x1x2048.size inb).toLoadRect f : FVec Ideal S1x1x1x2048 .f32) x : EReal)
      = rd4 (A2 m c) (seg t.val) j 0 (x 3).val := by
  have hx0 : (x 0).val < 1 := (x 0).isLt
  have hx1 : (x 1).val < 1 := (x 1).isLt
  have hx2 : (x 2).val < 1 := (x 2).isLt
  refine (congrFun hf _).trans ((block2 m c t _).trans ?_)
  show rd4 (A2 m c) (off 0 + 1 * (x 0).val) (off 1 + 1 * (x 1).val) (off 2 + 1 * (x 2).val) (off 3 + 1 * (x 3).val) = _
  rw [hs]
  show rd4 (A2 m c) (seg t.val + 1 * (x 0).val) (j + 1 * (x 1).val) (0 + 1 * (x 2).val) (0 + 1 * (x 3).val) = _
  rw [show seg t.val + 1 * (x 0).val = seg t.val by omega, show j + 1 * (x 1).val = j by omega, show 0 + 1 * (x 2).val = 0 by omega,
    show 0 + 1 * (x 3).val = (x 3).val by omega]

theorem norm_of (c : Dev nD) (t : Fin cfg0.N) (arg1 : Memref sig .tc .vmem S256x2048 .f32) (harg1 : arg1.IsWhole)
    (arg2 : Memref sig .tc .vmem S1x2048 .f32) (harg2 : arg2.IsWhole) (arg3 : Memref sig .tc .vmem S2x9x1x2048 .f32) (harg3 : arg3.IsWhole)
    (arg4 : Memref sig .tc .vmem S256x2048 .bf16) (harg4 : arg4.IsWhole) (y : S256x2048.Idx) :
    (out0_A_3 (F := Ideal) c (grid0.coords t) arg1 harg1 arg2 harg2 arg3 harg3 arg4 harg4 (iblk m c 0 t) (iblk m c 1 t) (iblk m c 2 t) y : EReal)
      = norm m c (256 * t.val + (y 0).val) (y 1).val := by
  have ht : t.val < 33 := lt_of_lt_of_eq t.isLt N_0
  unfold out0_A_3
  dsimp only [kernelRun0_A]
  refine (congrFun (View.read_writes_full (Val := Elt Ideal) VO0_3 VO0_3.junk inb_S256x2048_S256x2048_0_0 _ []) y).trans ?_
  rw [View.readAt_full, View.readAt_full, harg1.read_unread, harg2.read_unread]
  unfold norm
  rw [← gate_row (A2 m c) 1 t.val (y 0).val (y 1).val ht (y 0).isLt, ← gate_row (A2 m c) 0 t.val (y 0).val (y 1).val ht (y 0).isLt]
  exact pay1_at _ _ _ _ y (rd2 (A0 m c) (256 * t.val + (y 0).val)) _ _ _ (fun x hx => by rw [block0, hx]) (fun x hx => by rw [block1, hx])
    (fun x hx => (row_of m c t _ _ (harg3.read_unread _) _ (k0_off1_inb _) 1 (off1_at t) x).trans (by rw [hx]))
    (fun x hx => (row_of m c t _ _ (harg3.read_unread _) _ (k0_off2_inb _) 0 (off2_at t) x).trans (by rw [hx]))

/-- What one step writes. -/
theorem flushed (c : Dev nD) (t : Fin cfg0.N) : (dats m 0 c).flushed 3 t = ((cfg0.win 3).blk t).view.read (Elt Ideal) (out m c) := by
  have h := index3 t
  rw [flushed3]
  funext y
  have hb0 : (((cfg0.win 3).blk t).view.emb y 0).val = t.val * 256 + 1 * (y 0).val := tile _ 256 (congrFun h 0) rfl
  have hb1 : (((cfg0.win 3).blk t).view.emb y 1).val = 0 * 2048 + 1 * (y 1).val := tile _ 2048 (congrFun h 1) rfl
  show (outsAt0 m c t ((cfg0.win 3).xinj (grid0.coords t) y) : EReal) = norm m c _ _
  rw [hb0, hb1, show t.val * 256 + 1 * (y 0).val = 256 * t.val + (y 0).val by omega, show 0 * 2048 + 1 * (y 1).val = (y 1).val by omega]
  exact norm_of m c t (ms0_0 t) (hs0_0 t) (ms0_1 t) (hs0_1 t) (ms0_2 t) (hs0_2 t) (ms0_3 t) (hs0_3 t) _

/-- The blocks tile the result. -/
theorem covered (i : S8448x2048.Idx) : ∃ t : Fin cfg0.N, (cfg0.win 3).flush t = true ∧ i ∈ ((cfg0.win 3).blk t).view.set := by
  have b0 : (i 0).val < 8448 := (i 0).isLt
  have b1 : (i 1).val < 2048 := (i 1).isLt
  obtain ⟨t, ht⟩ : ∃ t : Fin cfg0.N, t.val = (i 0).val / 256 := ⟨⟨_, show (i 0).val / 256 < cfg0.N by rw [show cfg0.N = 33 from N_0]; omega⟩, rfl⟩
  have h0 : win0_3.index t 0 = t.val := congrFun (index3 t) 0
  have h1 : win0_3.index t 1 = 0 := congrFun (index3 t) 1
  refine ⟨t, flush0_3 t, ?_⟩
  show i ∈ ((View.whole main_v0).slice (win0_3.rect t)).set
  rw [View.set_slice_whole, Rect.mem_set_unit]
  intro a
  match a with
    | ⟨0, _⟩ => exact within 256 (i 0).val h0 (by omega)
    | ⟨1, _⟩ => exact within 2048 (i 1).val h1 (by omega)

/-- The run: the result is the modulated rows, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 3 _ (fun t _ => flushed m c t) covered), (h c).2⟩)
    (run_blocks m ρ)

open Cert.Reference34Ideal.Read

/-- The reference's scale. -/
theorem scale_at (c : Dev nD) (i : S8448x2048.Idx) : (val_main_v24 (F := Ideal) (A2 m c) i : EReal) = gateAt (A2 m c) 1 (i 0).val (i 1).val := by
  have h1 : (i 1).val < 2048 := (i 1).isLt
  rw [val_main_v24_apply, val_main_call0_v0_apply, val_main_call0_v1_apply, val_main_call0_v2_apply, val_main_v5_apply, val_main_v7_apply,
    val_main_v4_apply, val_main_v6_apply]
  unfold gateAt
  refine congrArg₂ (Scalar.select _) (rd4_of (A2 m c) _ rfl rfl rfl ?_) (rd4_of (A2 m c) _ rfl rfl rfl ?_)
  · show (0 * 2048 + (i 1).val) % 2048 = (i 1).val; omega
  · show (0 * 2048 + (i 1).val) % 2048 = (i 1).val; omega

/-- The reference's shift. -/
theorem shift_at (c : Dev nD) (i : S8448x2048.Idx) : (val_main_v32 (F := Ideal) (A2 m c) i : EReal) = gateAt (A2 m c) 0 (i 0).val (i 1).val := by
  have h1 : (i 1).val < 2048 := (i 1).isLt
  rw [val_main_v32_apply, val_main_call1_v0_apply, val_main_call1_v1_apply, val_main_call1_v2_apply, val_main_v1_apply, val_main_v3_apply,
    val_main_v0_apply, val_main_v2_apply]
  unfold gateAt
  refine congrArg₂ (Scalar.select _) (rd4_of (A2 m c) _ rfl rfl rfl ?_) (rd4_of (A2 m c) _ rfl rfl rfl ?_)
  · show (0 * 2048 + (i 1).val) % 2048 = (i 1).val; omega
  · show (0 * 2048 + (i 1).val) % 2048 = (i 1).val; omega

/-- The reference's sum of a row's squares. -/
theorem squares_at (c : Dev nD) (i : S8448x2048.Idx) : (val_main_v10 (F := Ideal) (A0 m c) (idx_main_v16 i) : EReal)
    = ∑ k ∈ Finset.range 2048, rd2 (A0 m c) (i 0).val k * rd2 (A0 m c) (i 0).val k := by
  rw [val_main_v10_apply, val_main_v9_apply,
    show (val_main_cst (F := Ideal) (Shape.Idx.first Cert.Reference34Ideal.Gen.h_S_) : EReal) = 0 from Ideal.ofBits_zero_f32, zero_add,
    ← Fin.sum_univ_eq_sum_range (fun k => rd2 (A0 m c) (i 0).val k * rd2 (A0 m c) (i 0).val k)]
  exact Finset.sum_congr rfl fun k _ => congrArg₂ (· * ·) (rd2_of (A0 m c) _ rfl rfl) (rd2_of (A0 m c) _ rfl rfl)

/-- The reference's result is the same. -/
theorem ref_eq (c : Dev nD) : val_main_v34 (F := Ideal) (A0 m c) (A1 m c) (A2 m c) = out m c := funext fun i => by
  show A0 m c i * (val_main_v16 (F := Ideal) (A0 m c) i : EReal) * (val_main_v18 (F := Ideal) (A1 m c) i : EReal)
    * (Ideal.ofBits .f32 0x3F800000#32 + (val_main_v24 (F := Ideal) (A2 m c) i : EReal)) + (val_main_v32 (F := Ideal) (A2 m c) i : EReal) = norm m c _ _
  rw [scale_at, shift_at, val_main_v16_apply, val_main_v18_apply]
  show A0 m c i * Ideal.rsqrt (Ideal.div (val_main_v10 (F := Ideal) (A0 m c) (idx_main_v16 i) : EReal) (Ideal.ofBits .f32 0x45000000#32) + Ideal.ofBits .f32 0x358637BD#32)
    * A1 m c (idx_main_v18 i) * (Ideal.ofBits .f32 0x3F800000#32 + _) + _ = _
  rw [squares_at, rd2_of (A0 m c) i rfl rfl, rd2_of (A1 m c) (idx_main_v18 i) rfl rfl]
  rfl

end Cert.Norm

end
-- ==== Proof.Elem.Merge.lean ====
module

public import proofs.«01_k».proof.Proof.Gen.Kernel35Ideal.Value
public import proofs.«01_k».proof.Proof.Gen.Reference35Ideal.Read
public import proofs.«01_k».proof.Proof.Prod.Base

/-! The merge of the three branches: each branch times its gate, added up. -/

@[expose] public section

set_option maxRecDepth 16384

noncomputable section

namespace Cert.Merge

open Cert.Kernel35Ideal Cert.Kernel35Ideal.Gen Cert.Kernel35Ideal.Value Cert.Prod
open Idealize.ShloMosaic Idealize.ShloMosaic.TcCoe Idealize.ShloMosaic.Tactic Idealize.SL.Sem

theorem index0 : ∀ t : Fin grid0.N, win0_0.index t = ![t.val / 4, 13 + t.val % 4] := by decide +kernel

theorem index1 : ∀ t : Fin grid0.N, win0_1.index t = ![t.val / 4, 17 + t.val % 4] := by decide +kernel

theorem index2 : ∀ t : Fin grid0.N, win0_2.index t = ![t.val / 4, 21 + t.val % 4] := by decide +kernel

theorem index3 : ∀ t : Fin grid0.N, win0_3.index t = ![t.val / 4, t.val % 4] := by decide +kernel

theorem index4 : ∀ t : Fin grid0.N, win0_4.index t = ![t.val / 4, t.val % 4] := by decide +kernel

theorem index5 : ∀ t : Fin grid0.N, win0_5.index t = ![t.val / 4, t.val % 4] := by decide +kernel

theorem index6 : ∀ t : Fin grid0.N, win0_6.index t = ![0, 0, t.val % 4] := by decide +kernel

theorem index7 : ∀ t : Fin grid0.N, win0_7.index t = ![t.val / 4, t.val % 4] := by decide +kernel

variable (m : (ℓ : Loc nD τ sig) → Buf (Elt Ideal) ℓ)

/-- The arguments. -/
abbrev A0 (c : Dev nD) : (⟨2, ![8448, 12800]⟩ : Shape).Idx → EReal := m ((c.tc : Thread nD τ).loc main_arg0)
abbrev A1 (c : Dev nD) : (⟨2, ![8448, 2048]⟩ : Shape).Idx → EReal := m ((c.tc : Thread nD τ).loc main_arg1)
abbrev A2 (c : Dev nD) : (⟨2, ![8448, 2048]⟩ : Shape).Idx → EReal := m ((c.tc : Thread nD τ).loc main_arg2)
abbrev A3 (c : Dev nD) : (⟨2, ![8448, 2048]⟩ : Shape).Idx → EReal := m ((c.tc : Thread nD τ).loc main_arg3)
abbrev A4 (c : Dev nD) : (⟨3, ![3, 1, 2048]⟩ : Shape).Idx → EReal := m ((c.tc : Thread nD τ).loc main_arg4)

theorem V_0 (c : Dev nD) : (V m c main_v0 : (⟨2, ![8448, 12800]⟩ : Shape).Idx → EReal) = A0 m c := by
  unfold V hostOps0
  after_results
  rfl

theorem V_arg4 (c : Dev nD) : (V m c main_arg4 : (⟨3, ![3, 1, 2048]⟩ : Shape).Idx → EReal) = A4 m c := by
  unfold V hostOps0
  after_results

theorem V_1 (c : Dev nD) : (V m c main_v1 : (⟨2, ![8448, 2048]⟩ : Shape).Idx → EReal) = A1 m c := by
  unfold V hostOps0
  after_results
  rfl

theorem V_2 (c : Dev nD) : (V m c main_v2 : (⟨2, ![8448, 2048]⟩ : Shape).Idx → EReal) = A2 m c := by
  unfold V hostOps0
  after_results
  rfl

theorem V_3 (c : Dev nD) : (V m c main_v3 : (⟨2, ![8448, 2048]⟩ : Shape).Idx → EReal) = A3 m c := by
  unfold V hostOps0
  after_results
  rfl

theorem block0 (c : Dev nD) (t : Fin cfg0.N) (x : S768x512.Idx) : (iblk m c 0 t x : EReal) =
    rd2 (A0 m c) (768 * (t.val / 4) + (x 0).val) (6656 + 2048 * 0 + (512 * (t.val % 4) + (x 1).val)) := by
  have h := index0 t
  rw [← V_0]
  refine rd2_of (a := 8448) (b := 12800) (V m c main_v0) _ ?_ ?_
  · exact tile (t.val / 4) 768 (congrFun h 0) (by omega)
  · exact tile (13 + t.val % 4) 512 (congrFun h 1) (by omega)

theorem block1 (c : Dev nD) (t : Fin cfg0.N) (x : S768x512.Idx) : (iblk m c 1 t x : EReal) =
    rd2 (A0 m c) (768 * (t.val / 4) + (x 0).val) (6656 + 2048 * 1 + (512 * (t.val % 4) + (x 1).val)) := by
  have h := index1 t
  rw [← V_0]
  refine rd2_of (a := 8448) (b := 12800) (V m c main_v0) _ ?_ ?_
  · exact tile (t.val / 4) 768 (congrFun h 0) (by omega)
  · exact tile (17 + t.val % 4) 512 (congrFun h 1) (by omega)

theorem block2 (c : Dev nD) (t : Fin cfg0.N) (x : S768x512.Idx) : (iblk m c 2 t x : EReal) =
    rd2 (A0 m c) (768 * (t.val / 4) + (x 0).val) (6656 + 2048 * 2 + (512 * (t.val % 4) + (x 1).val)) := by
  have h := index2 t
  rw [← V_0]
  refine rd2_of (a := 8448) (b := 12800) (V m c main_v0) _ ?_ ?_
  · exact tile (t.val / 4) 768 (congrFun h 0) (by omega)
  · exact tile (21 + t.val % 4) 512 (congrFun h 1) (by omega)

theorem block3 (c : Dev nD) (t : Fin cfg0.N) (x : S768x512.Idx) : (iblk m c 3 t x : EReal) =
    rd2 (A1 m c) (768 * (t.val / 4) + (x 0).val) (512 * (t.val % 4) + (x 1).val) := by
  have h := index3 t
  rw [← V_1]
  refine rd2_of (a := 8448) (b := 2048) (V m c main_v1) _ ?_ ?_
  · exact tile (t.val / 4) 768 (congrFun h 0) (by omega)
  · exact tile (t.val % 4) 512 (congrFun h 1) (by omega)

theorem block4 (c : Dev nD) (t : Fin cfg0.N) (x : S768x512.Idx) : (iblk m c 4 t x : EReal) =
    rd2 (A2 m c) (768 * (t.val / 4) + (x 0).val) (512 * (t.val % 4) + (x 1).val) := by
  have h := index4 t
  rw [← V_2]
  refine rd2_of (a := 8448) (b := 2048) (V m c main_v2) _ ?_ ?_
  · exact tile (t.val / 4) 768 (congrFun h 0) (by omega)
  · exact tile (t.val % 4) 512 (congrFun h 1) (by omega)

theorem block5 (c : Dev nD) (t : Fin cfg0.N) (x : S768x512.Idx) : (iblk m c 5 t x : EReal) =
    rd2 (A3 m c) (768 * (t.val / 4) + (x 0).val) (512 * (t.val % 4) + (x 1).val) := by
  have h := index5 t
  rw [← V_3]
  refine rd2_of (a := 8448) (b := 2048) (V m c main_v3) _ ?_ ?_
  · exact tile (t.val / 4) 768 (congrFun h 0) (by omega)
  · exact tile (t.val % 4) 512 (congrFun h 1) (by omega)

theorem block6 (c : Dev nD) (t : Fin cfg0.N) (x : S3x1x512.Idx) : (iblk m c 6 t x : EReal) =
    rd3 (A4 m c) (x 0).val 0 (512 * (t.val % 4) + (x 2).val) := by
  have h := index6 t
  have hx : (x 1).val = 0 := by have := (x 1).isLt; change _ < 1 at this; omega
  rw [← V_arg4]
  refine rd3_of (a := 3) (b := 1) (c := 2048) (V m c main_arg4) _ ?_ ?_ ?_
  · exact tile 0 3 (congrFun h 0) (by omega)
  · exact tile 0 1 (congrFun h 1) (by omega)
  · exact tile (t.val % 4) 512 (congrFun h 2) (by omega)

/-- The gate of branch `b` at row `p` and column `q`. -/
def gate (c : Dev nD) (b p q : ℕ) : EReal := Ideal.logistic (rd2 (A0 m c) p (6656 + 2048 * b + q) + rd3 (A4 m c) b 0 q)

/-- The merged branches at row `p` and column `q`. -/
def merged (c : Dev nD) (p q : ℕ) : EReal :=
  gate m c 0 p q * rd2 (A1 m c) p q + gate m c 1 p q * rd2 (A2 m c) p q + gate m c 2 p q * rd2 (A3 m c) p q

/-- The result. -/
def out (c : Dev nD) : S8448x2048.Idx → EReal := fun i => merged m c (i 0).val (i 1).val

theorem load_1 (c : Dev nD) (t : Fin cfg0.N) (x : S1x1x512.Idx) :
    (View.ld (iblk m c 6 t) r0_1 x : EReal) = rd3 (A4 m c) 0 0 (512 * (t.val % 4) + (x 2).val) := by
  refine (block6 m c t (r0_1.emb x)).trans ?_
  have h0 : (x 0).val < 1 := (x 0).isLt
  have f0 : (r0_1.emb x 0).val = 0 + 1 * (x 0).val := rfl
  have f2 : (r0_1.emb x 2).val = 0 + 1 * (x 2).val := rfl
  rw [f0, f2, show 0 + 1 * (x 0).val = 0 by omega, show 0 + 1 * (x 2).val = (x 2).val by omega]

theorem load_2 (c : Dev nD) (t : Fin cfg0.N) (x : S1x1x512.Idx) :
    (View.ld (iblk m c 6 t) r0_2 x : EReal) = rd3 (A4 m c) 1 0 (512 * (t.val % 4) + (x 2).val) := by
  refine (block6 m c t (r0_2.emb x)).trans ?_
  have h0 : (x 0).val < 1 := (x 0).isLt
  have f0 : (r0_2.emb x 0).val = 1 + 1 * (x 0).val := rfl
  have f2 : (r0_2.emb x 2).val = 0 + 1 * (x 2).val := rfl
  rw [f0, f2, show 1 + 1 * (x 0).val = 1 by omega, show 0 + 1 * (x 2).val = (x 2).val by omega]

theorem load_3 (c : Dev nD) (t : Fin cfg0.N) (x : S1x1x512.Idx) :
    (View.ld (iblk m c 6 t) r0_3 x : EReal) = rd3 (A4 m c) 2 0 (512 * (t.val % 4) + (x 2).val) := by
  refine (block6 m c t (r0_3.emb x)).trans ?_
  have h0 : (x 0).val < 1 := (x 0).isLt
  have f0 : (r0_3.emb x 0).val = 2 + 1 * (x 0).val := rfl
  have f2 : (r0_3.emb x 2).val = 0 + 1 * (x 2).val := rfl
  rw [f0, f2, show 2 + 1 * (x 0).val = 2 by omega, show 0 + 1 * (x 2).val = (x 2).val by omega]

/-- What one step computes: its block of the result. -/
theorem value (c : Dev nD) (t : Fin cfg0.N) (y : S768x512.Idx) :
    (E7 (F := Ideal) (iblk m c 0 t) (View.ld (iblk m c 6 t) r0_1) (iblk m c 3 t) (iblk m c 1 t) (View.ld (iblk m c 6 t) r0_2) (iblk m c 4 t)
      (iblk m c 2 t) (View.ld (iblk m c 6 t) r0_3) (iblk m c 5 t) y : EReal)
      = merged m c (768 * (t.val / 4) + (y 0).val) (512 * (t.val % 4) + (y 1).val) := by
  have e0 := block0 m c t (ix7_0 y)
  have e1 := load_1 m c t (ix7_1 y)
  have e2 := block3 m c t (ix7_2 y)
  have e3 := block1 m c t (ix7_3 y)
  have e4 := load_2 m c t (ix7_4 y)
  have e5 := block4 m c t (ix7_5 y)
  have e6 := block2 m c t (ix7_6 y)
  have e7 := load_3 m c t (ix7_7 y)
  have e8 := block5 m c t (ix7_8 y)
  show FloatOps.addf (F := Ideal) (φ := .f32) (FloatOps.addf (F := Ideal) (φ := .f32) (FloatOps.addf (F := Ideal) (φ := .f32) (Scalar.ofBits .f32 0x00000000#32)
      (FloatOps.mulf (F := Ideal) (φ := .f32) (FloatOps.logistic (F := Ideal) (φ := .f32) (FloatOps.addf (F := Ideal) (φ := .f32) (iblk m c 0 t (ix7_0 y))
        (View.ld (iblk m c 6 t) r0_1 (ix7_1 y)))) (iblk m c 3 t (ix7_2 y))))
      (FloatOps.mulf (F := Ideal) (φ := .f32) (FloatOps.logistic (F := Ideal) (φ := .f32) (FloatOps.addf (F := Ideal) (φ := .f32) (iblk m c 1 t (ix7_3 y))
        (View.ld (iblk m c 6 t) r0_2 (ix7_4 y)))) (iblk m c 4 t (ix7_5 y))))
      (FloatOps.mulf (F := Ideal) (φ := .f32) (FloatOps.logistic (F := Ideal) (φ := .f32) (FloatOps.addf (F := Ideal) (φ := .f32) (iblk m c 2 t (ix7_6 y))
        (View.ld (iblk m c 6 t) r0_3 (ix7_7 y)))) (iblk m c 5 t (ix7_8 y))) = _
  rw [e0, e1, e2, e3, e4, e5, e6, e7, e8]
  unfold merged
  refine congrArg₂ (· + ·) (congrArg₂ (· + ·) ?_ rfl) rfl
  exact (congrArg (· + _) (Ideal.ofBits_zero_f32)).trans (zero_add _)

/-- What one step writes. -/
theorem flushed (c : Dev nD) (t : Fin cfg0.N) : (dats m 0 c).flushed 7 t = ((cfg0.win 7).blk t).view.read (Elt Ideal) (out m c) := by
  rw [flushed7]
  have h := index7 t
  funext y
  have hb0 : (((cfg0.win 7).blk t).view.emb y 0).val = (t.val / 4) * 768 + 1 * (y 0).val := tile _ 768 (congrFun h 0) rfl
  have hb1 : (((cfg0.win 7).blk t).view.emb y 1).val = (t.val % 4) * 512 + 1 * (y 1).val := tile _ 512 (congrFun h 1) rfl
  show out0_7 (iblk m c 0 t) (iblk m c 1 t) (iblk m c 2 t) (iblk m c 3 t) (iblk m c 4 t) (iblk m c 5 t) (iblk m c 6 t)
    ((cfg0.win 7).xinj (grid0.coords t) y) = merged m c _ _
  rw [hb0, hb1, show (t.val / 4) * 768 + 1 * (y 0).val = 768 * (t.val / 4) + (y 0).val by omega,
    show (t.val % 4) * 512 + 1 * (y 1).val = 512 * (t.val % 4) + (y 1).val by omega]
  unfold out0_7
  simp only [View.ld_unit_zero (S := S768x512) off2]
  exact (canon7_eq _ _ _ _ _ _ _ _ _ _).trans (value m c t y)

/-- The blocks tile the result. -/
theorem covered (i : S8448x2048.Idx) : ∃ t : Fin cfg0.N, (cfg0.win 7).flush t = true ∧ i ∈ ((cfg0.win 7).blk t).view.set := by
  have b0 : (i 0).val < 8448 := (i 0).isLt
  have b1 : (i 1).val < 2048 := (i 1).isLt
  obtain ⟨t, ht⟩ : ∃ t : Fin cfg0.N, t.val = 4 * ((i 0).val / 768) + (i 1).val / 512 :=
    ⟨⟨_, show 4 * ((i 0).val / 768) + (i 1).val / 512 < 44 by omega⟩, rfl⟩
  have h0 : win0_7.index t 0 = t.val / 4 := congrFun (index7 t) 0
  have h1 : win0_7.index t 1 = t.val % 4 := congrFun (index7 t) 1
  refine ⟨t, flush0_7 t, ?_⟩
  show i ∈ ((View.whole main_v4).slice (win0_7.rect t)).set
  rw [View.set_slice_whole, Rect.mem_set_unit]
  intro a
  match a with
    | ⟨0, _⟩ => exact within 768 (i 0).val h0 (by omega)
    | ⟨1, _⟩ => exact within 512 (i 1).val h1 (by omega)

/-- The run: the result is the merged branches, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans ((dats m 0 c).arrAt_eq_of_cover 7 _ (fun t _ => flushed m c t) covered), (h c).2⟩)
    (run_blocks m ρ)

open Cert.Reference35Ideal.Read

theorem arg_at (c : Dev nD) (i : Cert.Reference35Ideal.S8448x3x2048.Idx) : (val_main_v5 (F := Ideal) (A0 m c) (A4 m c) i : EReal)
    = rd2 (A0 m c) (i 0).val (6656 + 2048 * (i 1).val + (i 2).val) + rd3 (A4 m c) (i 1).val 0 (i 2).val := by
  have h0 : (i 0).val < 8448 := (i 0).isLt
  have h1 : (i 1).val < 3 := (i 1).isLt
  have h2 : (i 2).val < 2048 := (i 2).isLt
  rw [val_main_v5_apply, val_main_v1_apply, val_main_v0_apply, val_main_v4_apply, val_main_v3_apply, val_main_v2_apply]
  refine congrArg₂ (· + ·) (rd2_of (A0 m c) _ ?_ ?_) (rd3_of (A4 m c) _ ?_ rfl ?_)
  · show (((i 0).val * 3 + (i 1).val) * 2048 + (i 2).val) / 6144 = _; omega
  · show 6656 + (((i 0).val * 3 + (i 1).val) * 2048 + (i 2).val) % 6144 = _; omega
  · show ((i 1).val * 2048 + (i 2).val) / 2048 = _; omega
  · show ((i 1).val * 2048 + (i 2).val) % 2048 = _; omega

theorem gate_at (c : Dev nD) (i : Cert.Reference35Ideal.S8448x3x2048.Idx) {b p q : ℕ} (hb : (i 1).val = b) (hp : (i 0).val = p) (hq : (i 2).val = q) :
    (val_main_v11 (F := Ideal) (A0 m c) (A4 m c) i : EReal) = gate m c b p q := by
  subst hb hp hq
  unfold gate
  rw [val_main_v11_apply, ← arg_at]
  show Ideal.div (Ideal.ofBits .f32 0x3F800000#32) (Ideal.ofBits .f32 0x3F800000#32 + Ideal.exp (-(val_main_v5 (F := Ideal) (A0 m c) (A4 m c) i : EReal)))
    = Ideal.div 1 (1 + Ideal.exp (-(val_main_v5 (F := Ideal) (A0 m c) (A4 m c) i : EReal)))
  rw [Ideal.ofBits_one_f32]

/-- A row and a column read back from their place in row-major order. -/
theorem row_col (i : S8448x2048.Idx) : ((i 0).val * 2048 + (i 1).val) / 2048 = (i 0).val ∧ ((i 0).val * 2048 + (i 1).val) % 2048 = (i 1).val := by
  have h1 : (i 1).val < 2048 := (i 1).isLt
  refine ⟨?_, ?_⟩ <;> omega

/-- The reference's result is the same. -/
theorem ref_eq (c : Dev nD) : val_main_v23 (F := Ideal) (A0 m c) (A1 m c) (A2 m c) (A3 m c) (A4 m c) = out m c := funext fun i => by
  have e0 : (val_main_v13 (F := Ideal) (A0 m c) (A4 m c) i : EReal) = gate m c 0 (i 0).val (i 1).val := by
    rw [val_main_v13_apply, val_main_v12_apply]
    exact gate_at m c _ rfl (row_col i).1 (row_col i).2
  have e1 : (val_main_v16 (F := Ideal) (A0 m c) (A4 m c) i : EReal) = gate m c 1 (i 0).val (i 1).val := by
    rw [val_main_v16_apply, val_main_v15_apply]
    exact gate_at m c _ rfl (row_col i).1 (row_col i).2
  have e2 : (val_main_v20 (F := Ideal) (A0 m c) (A4 m c) i : EReal) = gate m c 2 (i 0).val (i 1).val := by
    rw [val_main_v20_apply, val_main_v19_apply]
    exact gate_at m c _ rfl (row_col i).1 (row_col i).2
  show (val_main_v13 (F := Ideal) (A0 m c) (A4 m c) i : EReal) * A1 m c i + (val_main_v16 (F := Ideal) (A0 m c) (A4 m c) i : EReal) * A2 m c i
    + (val_main_v20 (F := Ideal) (A0 m c) (A4 m c) i : EReal) * A3 m c i = merged m c _ _
  rw [e0, e1, e2, rd2_of (A1 m c) i rfl rfl, rd2_of (A2 m c) i rfl rfl, rd2_of (A3 m c) i rfl rfl]
  rfl

end Cert.Merge

end
-- ==== Proof.Elem.AdaCondGrad.lean ====
module

public import proofs.«01_k».proof.Proof.Gen.Kernel37Ideal.Value
public import proofs.«01_k».proof.Proof.Gen.Reference37Ideal.Read
public import proofs.«01_k».proof.Proof.Prod.Base

/-! The gradient of the activated condition: the modulation's gradient times the modulation's weight transposed, summed over
    both halves. -/

@[expose] public section

set_option maxRecDepth 16384

noncomputable section

namespace Cert.AdaCondGrad

open Cert.Kernel37Ideal Cert.Kernel37Ideal.Gen Cert.Kernel37Ideal.Value Cert.Prod
open Idealize.ShloMosaic Idealize.ShloMosaic.TcCoe Idealize.SL.Sem

abbrev D := dot_S16x1536_S512x1536_S16x512_1_1_0_0_n_n

theorem lhs0 (i : S16x512.Idx) (q : D.contr.Idx) : (D.lhsIdx i q 0).val = (i 0).val := lhs_at D i q (by decide) (by decide) rfl

theorem rhs0 (i : S16x512.Idx) (q : D.contr.Idx) : (D.rhsIdx i q 0).val = (i 1).val := rhs_at D i q (by decide) (by decide) rfl

/-- One step adds the products over its 1536 columns. -/
theorem pay2_at (acc : FVec Ideal S16x512 .f32) (x0 : FVec Ideal S1x16x1536 .f32) (x1 : FVec Ideal S1x512x1536 .f32) (y : S16x512.Idx)
    (L R : ℕ → EReal) (hl : ∀ x : S1x16x1536.Idx, (x 1).val = (y 0).val → x0 x = L (x 2).val)
    (hr : ∀ x : S1x512x1536.Idx, (x 1).val = (y 1).val → x1 x = R (x 2).val) :
    (k0_pay2 (F := Ideal) acc x0 x1 y : EReal) = acc y + ∑ k ∈ Finset.range 1536, L k * R k := by
  unfold k0_pay2
  simp only [shapeCast_self]
  rw [ValueIdx.addf_apply]
  refine congrArg (acc y + ·) ?_
  refine dot_at D 1536 rfl rfl _ _ _ y L R (fun q => ?_) (fun q => ?_)
  · refine (shapeCast_dropUnit_apply ![16, 1536] x0 _ _).trans ?_
    exact (hl _ (lhs0 y q)).trans (congrArg L (D.lhsIdx_val_of_single rfl y q))
  · refine (shapeCast_dropUnit_apply ![512, 1536] x1 _ _).trans ?_
    exact (hr _ (rhs0 y q)).trans (congrArg R (D.rhsIdx_val_of_single rfl y q))

theorem index0 : ∀ t : Fin grid0.N, win0_0.index t = ![t.val / 3 % 2, 0, t.val % 3] := by decide +kernel

theorem index1 : ∀ t : Fin grid0.N, win0_1.index t = ![t.val / 3 % 2, t.val / 6, t.val % 3] := by decide +kernel

variable (m : (ℓ : Loc nD τ sig) → Buf (Elt Ideal) ℓ)

/-- The arguments. -/
abbrev A0 (c : Dev nD) : (⟨3, ![2, 16, 4608]⟩ : Shape).Idx → EReal := m ((c.tc : Thread nD τ).loc main_arg0)
abbrev A1 (c : Dev nD) : (⟨3, ![2, 2048, 4608]⟩ : Shape).Idx → EReal := m ((c.tc : Thread nD τ).loc main_arg1)

theorem block0 (c : Dev nD) (t : Fin cfg0.N) (x : S1x16x1536.Idx) : (iblk m c 0 t x : EReal) =
    rd3 (A0 m c) (t.val / 3 % 2) (x 1).val (1536 * (t.val % 3) + (x 2).val) := by
  have h := index0 t
  have hx : (x 0).val = 0 := by have := (x 0).isLt; change _ < 1 at this; omega
  refine rd3_of (A0 m c) _ ?_ ?_ ?_
  · exact tile (t.val / 3 % 2) 1 (congrFun h 0) (by omega)
  · exact tile 0 16 (congrFun h 1) (by omega)
  · exact tile (t.val % 3) 1536 (congrFun h 2) (by omega)

theorem block1 (c : Dev nD) (t : Fin cfg0.N) (x : S1x512x1536.Idx) : (iblk m c 1 t x : EReal) =
    rd3 (A1 m c) (t.val / 3 % 2) (512 * (t.val / 6) + (x 1).val) (1536 * (t.val % 3) + (x 2).val) := by
  have h := index1 t
  have hx : (x 0).val = 0 := by have := (x 0).isLt; change _ < 1 at this; omega
  refine rd3_of (A1 m c) _ ?_ ?_ ?_
  · exact tile (t.val / 3 % 2) 1 (congrFun h 0) (by omega)
  · exact tile (t.val / 6) 512 (congrFun h 1) (by omega)
  · exact tile (t.val % 3) 1536 (congrFun h 2) (by omega)

/-- The product at row `p`, column `q` of the result and position `k` of the sum: the halves' columns one after the other. -/
def term (c : Dev nD) (p q k : ℕ) : EReal := rd3 (A0 m c) (k / 4608) p (k % 4608) * rd3 (A1 m c) (k / 4608) q (k % 4608)

/-- One step of the accumulation. -/
theorem step (c : Dev nD) (t : Fin cfg0.N) (acc : FVec Ideal S16x512 .f32) (y : S16x512.Idx) :
    (k0_pay2 (F := Ideal) acc (iblk m c 0 t) (iblk m c 1 t) y : EReal) =
      acc y + ∑ k ∈ Finset.range 1536, term m c (y 0).val (512 * (t.val / 6) + (y 1).val) (1536 * (t.val % 6) + k) := by
  rw [pay2_at acc _ _ y (fun k => rd3 (A0 m c) (t.val / 3 % 2) (y 0).val (1536 * (t.val % 3) + k))
    (fun k => rd3 (A1 m c) (t.val / 3 % 2) (512 * (t.val / 6) + (y 1).val) (1536 * (t.val % 3) + k))
    (fun x hx => by rw [block0, hx]) (fun x hx => by rw [block1, hx])]
  refine congrArg (acc y + ·) (Finset.sum_congr rfl fun k hk => ?_)
  have hk' := Finset.mem_range.mp hk
  unfold term
  rw [show (1536 * (t.val % 6) + k) / 4608 = t.val / 3 % 2 by omega, show (1536 * (t.val % 6) + k) % 4608 = 1536 * (t.val % 3) + k by omega]

/-- The sum after `j` more steps of a block. -/
theorem acc_at (c : Dev nD) (r : ℕ) (y : S16x512.Idx) : ∀ (j : ℕ) (_ : j < 6) (h : 6 * r + j < cfg0.N),
    (Pipeline.accAt (reset2 m c) (step2 m c) (6 * r) j h y : EReal) =
      ∑ k ∈ Finset.range (1536 * (j + 1)), term m c (y 0).val (512 * r + (y 1).val) k
  | 0, hj, h => by
    rw [Pipeline.accAt_zero]
    unfold reset2
    rw [step m c ⟨6 * r, h⟩]
    show (k0_pay1 (F := Ideal) y : EReal) + ∑ k ∈ Finset.range 1536, term m c _ (512 * (6 * r / 6) + (y 1).val) (1536 * (6 * r % 6) + k) = _
    rw [show (k0_pay1 (F := Ideal) y : EReal) = 0 from Ideal.ofBits_zero_f32, zero_add, show 6 * r / 6 = r by omega, show 6 * r % 6 = 0 by omega]
    exact Finset.sum_congr rfl fun k _ => by rw [Nat.mul_zero, Nat.zero_add]
  | j + 1, hj, h => by
    rw [Pipeline.accAt_succ]
    refine (step m c ⟨6 * r + (j + 1), h⟩ _ y).trans ?_
    rw [acc_at c r y j (by omega)]
    show _ + ∑ k ∈ Finset.range 1536, term m c _ (512 * ((6 * r + (j + 1)) / 6) + (y 1).val) (1536 * ((6 * r + (j + 1)) % 6) + k) = _
    rw [show (6 * r + (j + 1)) / 6 = r by omega, show (6 * r + (j + 1)) % 6 = j + 1 by omega]
    exact sum_next _ 1536 (j + 1)

/-- The result. -/
abbrev out (c : Dev nD) : S16x2048.Idx → EReal := G2 m c

/-- Each element of the result is the sum over both halves' columns. -/
theorem value (c : Dev nD) (i : S16x2048.Idx) : (out m c i : EReal) = ∑ k ∈ Finset.range (4608 + 4608), term m c (i 0).val (i 1).val k := by
  have b0 : (i 0).val < 16 := (i 0).isLt
  have b1 : (i 1).val < 2048 := (i 1).isLt
  have hr : run2Of i = (i 1).val / 512 := by
    show 4 * ((i 0).val / 16 - 0) + 1 * ((i 1).val / 512 - 0) = _
    omega
  have hn : 6 * run2Of i + 5 < cfg0.N := by rw [show cfg0.N = 24 from N_0]; omega
  show G2 m c i = _
  unfold G2
  rw [dif_pos hn, acc_at m c (run2Of i) (loc2Of i) 5 (by omega) hn]
  show ∑ k ∈ Finset.range (1536 * (5 + 1)), term m c ((i 0).val % 16) (512 * run2Of i + (i 1).val % 512) k = _
  rw [show (i 0).val % 16 = (i 0).val by omega, show 512 * run2Of i + (i 1).val % 512 = (i 1).val by omega]

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) := Value.run m ρ

open Cert.Reference37Ideal.Read in
/-- The reference's result is the same sum. -/
theorem ref_eq (c : Dev nD) : val_main_v3 (F := Ideal) (A0 m c) (A1 m c) = out m c := funext fun i => by
  have hh : ∀ a : Fin 2, (val_main_v2 (F := Ideal) (A0 m c) (A1 m c) (idx_main_v3 i a) : EReal)
      = ∑ k ∈ Finset.range 4608, term m c (i 0).val (i 1).val (4608 * a.val + k) := fun a => by
    rw [val_main_v2_apply, ← Fin.sum_univ_eq_sum_range (fun k => term m c (i 0).val (i 1).val (4608 * a.val + k))]
    refine Finset.sum_congr rfl fun k _ => ?_
    have hk := k.isLt
    unfold term
    rw [show (4608 * a.val + k.val) / 4608 = a.val by omega, show (4608 * a.val + k.val) % 4608 = k.val by omega]
    exact congrArg₂ (· * ·) (rd3_of (A0 m c) _ rfl rfl rfl) (rd3_of (A1 m c) _ rfl rfl rfl)
  refine (val_main_v3_apply (A0 m c) (A1 m c) i).trans ?_
  rw [show (val_main_cst_0 (F := Ideal) (Shape.Idx.first Cert.Reference37Ideal.Gen.h_S_) : EReal) = 0 from Ideal.ofBits_zero_f32, zero_add, Fin.sum_univ_two, hh, hh, value,
    Finset.sum_range_add]
  refine congrArg₂ (· + ·) (Finset.sum_congr rfl fun k _ => ?_) rfl
  show term m c _ _ (4608 * 0 + k) = _
  rw [Nat.mul_zero, Nat.zero_add]

end Cert.AdaCondGrad

end
-- ==== Proof.Elem.AdaForward.lean ====
module

public import proofs.«01_k».proof.Proof.Gen.Kernel38Ideal.Value
public import proofs.«01_k».proof.Proof.Gen.Reference38Ideal.Read
public import proofs.«01_k».proof.Proof.Prod.Base

/-! The conditioning projection: the activated condition times each half's weight, plus the half's bias. -/

@[expose] public section

set_option maxRecDepth 16384

noncomputable section

namespace Cert.AdaForward

open Cert.Kernel38Ideal Cert.Kernel38Ideal.Gen Cert.Kernel38Ideal.Value Cert.Prod
open Idealize.ShloMosaic Idealize.ShloMosaic.TcCoe Idealize.SL.Sem

/-- The contraction of one step. -/
abbrev D : DotDims S16x512 S512x1536 S16x1536 := dot_S16x512_S512x1536_S16x1536_1_0_0_1_n_n

theorem lhs0 (i : S16x1536.Idx) (q : D.contr.Idx) : (D.lhsIdx i q 0).val = (i 0).val := lhs_at D i q (by decide) (by decide) rfl

theorem rhs1 (i : S16x1536.Idx) (q : D.contr.Idx) : (D.rhsIdx i q 1).val = (i 1).val := rhs_at D i q (by decide) (by decide) rfl

/-- The activation. -/
def silu (x : EReal) : EReal := x * Ideal.logistic x

/-- A block's row and column as an index of the matrix. -/
abbrev mat (y : S1x16x1536.Idx) : S16x1536.Idx := fun d => match d with | ⟨0, _⟩ => y 1 | ⟨1, _⟩ => y 2

theorem addOne_at (X : S16x1536.Idx → EReal) (h : S16x1536.ShapeCasts S1x16x1536) (y : S1x16x1536.Idx) :
    shapeCast S1x16x1536 X h y = X (mat y) := by
  refine shapeCast_apply X h y _ ?_
  have h0 : (y 0).val < 1 := (y 0).isLt
  rw [Shape.rowMajor_val_two, Shape.rowMajor_val_three]
  show (y 1).val * 1536 + (y 2).val = ((y 0).val * 16 + (y 1).val) * 1536 + (y 2).val
  omega

theorem dropOne_at (X : S1x16x1536.Idx → EReal) (h : S1x16x1536.ShapeCasts S16x1536) (y : S1x16x1536.Idx) :
    shapeCast S16x1536 X h (mat y) = X y := by
  refine shapeCast_apply X h (mat y) y ?_
  have h0 : (y 0).val < 1 := (y 0).isLt
  rw [Shape.rowMajor_val_two, Shape.rowMajor_val_three]
  show ((y 0).val * 16 + (y 1).val) * 1536 + (y 2).val = (y 1).val * 1536 + (y 2).val
  omega

/-- The first step starts from the bias. -/
theorem pay1_at (x2 : FVec Ideal S1x1x1536 .f32) (y : S1x16x1536.Idx) (b : EReal)
    (hb : ∀ x : S1x1x1536.Idx, (x 2).val = (y 2).val → x2 x = b) : (k0_pay1 (F := Ideal) x2 y : EReal) = b := by
  let z : S1x1536.Idx := fun a => match a with | ⟨0, _⟩ => ⟨0, Nat.one_pos⟩ | ⟨1, _⟩ => y 2
  unfold k0_pay1
  refine (addOne_at _ _ y).trans ?_
  rw [ValueIdx.addf_apply]
  refine Eq.trans (congrArg₂ (· + ·) Ideal.ofBits_zero_f32 ?_) (zero_add b)
  refine (broadcastTo_apply _ broadcasts_S1x1536_S16x1536 (mat y) z (fun a => ?_)).trans ?_
  · match a with
    | ⟨0, _⟩ => rfl
    | ⟨1, _⟩ => rfl
  · exact (shapeCast_dropUnit_apply ![1, 1536] x2 _ z).trans (hb _ rfl)

/-- One step adds the products over its 512 rows of the weight. -/
theorem pay2_at (acc : FVec Ideal S1x16x1536 .f32) (x0 : FVec Ideal S16x512 .f32) (x1 : FVec Ideal S1x512x1536 .f32) (y : S1x16x1536.Idx)
    (L R : ℕ → EReal) (hl : ∀ x : S16x512.Idx, (x 0).val = (y 1).val → x0 x = L (x 1).val)
    (hr : ∀ x : S1x512x1536.Idx, (x 2).val = (y 2).val → x1 x = R (x 1).val) :
    (k0_pay2 (F := Ideal) acc x0 x1 y : EReal) = acc y + ∑ k ∈ Finset.range 512, silu (L k) * R k := by
  unfold k0_pay2
  refine (addOne_at _ _ y).trans ?_
  rw [ValueIdx.addf_apply]
  refine congrArg₂ (· + ·) (dropOne_at acc _ y) ?_
  refine dot_at D 512 rfl rfl _ _ _ (mat y) (fun k => silu (L k)) R (fun q => ?_) (fun q => ?_)
  · show silu (x0 _) = silu _
    exact congrArg silu ((hl _ (lhs0 (mat y) q)).trans (congrArg L (D.lhsIdx_val_of_single rfl (mat y) q)))
  · refine (shapeCast_dropUnit_apply ![512, 1536] x1 _ _).trans ?_
    exact (hr _ (rhs1 (mat y) q)).trans (congrArg R (D.rhsIdx_val_of_single rfl (mat y) q))

theorem index0 : ∀ t : Fin grid0.N, win0_0.index t = ![0, t.val % 4] := by decide +kernel

theorem index1 : ∀ t : Fin grid0.N, win0_1.index t = ![t.val / 12, t.val % 4, t.val / 4 % 3] := by decide +kernel

theorem index2 : ∀ t : Fin grid0.N, win0_2.index t = ![t.val / 12, 0, t.val / 4 % 3] := by decide +kernel

variable (m : (ℓ : Loc nD τ sig) → Buf (Elt Ideal) ℓ)

/-- The arguments. -/
abbrev A0 (c : Dev nD) : (⟨2, ![16, 2048]⟩ : Shape).Idx → EReal := m ((c.tc : Thread nD τ).loc main_arg0)
abbrev A1 (c : Dev nD) : (⟨3, ![2, 2048, 4608]⟩ : Shape).Idx → EReal := m ((c.tc : Thread nD τ).loc main_arg1)
abbrev A2 (c : Dev nD) : (⟨3, ![2, 1, 4608]⟩ : Shape).Idx → EReal := m ((c.tc : Thread nD τ).loc main_arg2)

theorem block0 (c : Dev nD) (t : Fin cfg0.N) (x : S16x512.Idx) : (iblk m c 0 t x : EReal) =
    rd2 (A0 m c) (x 0).val (512 * (t.val % 4) + (x 1).val) := by
  have h := index0 t
  refine rd2_of (A0 m c) _ ?_ ?_
  · exact tile 0 16 (congrFun h 0) (by omega)
  · exact tile (t.val % 4) 512 (congrFun h 1) (by omega)

theorem block1 (c : Dev nD) (t : Fin cfg0.N) (x : S1x512x1536.Idx) : (iblk m c 1 t x : EReal) =
    rd3 (A1 m c) (t.val / 12) (512 * (t.val % 4) + (x 1).val) (1536 * (t.val / 4 % 3) + (x 2).val) := by
  have h := index1 t
  have hx : (x 0).val = 0 := by have := (x 0).isLt; change _ < 1 at this; omega
  refine rd3_of (A1 m c) _ ?_ ?_ ?_
  · exact tile (t.val / 12) 1 (congrFun h 0) (by omega)
  · exact tile (t.val % 4) 512 (congrFun h 1) (by omega)
  · exact tile (t.val / 4 % 3) 1536 (congrFun h 2) (by omega)

theorem block2 (c : Dev nD) (t : Fin cfg0.N) (x : S1x1x1536.Idx) : (iblk m c 2 t x : EReal) =
    rd3 (A2 m c) (t.val / 12) 0 (1536 * (t.val / 4 % 3) + (x 2).val) := by
  have h := index2 t
  have hx : (x 0).val = 0 := by have := (x 0).isLt; change _ < 1 at this; omega
  have hx1 : (x 1).val = 0 := by have := (x 1).isLt; change _ < 1 at this; omega
  refine rd3_of (A2 m c) _ ?_ ?_ ?_
  · exact tile (t.val / 12) 1 (congrFun h 0) (by omega)
  · exact tile 0 1 (congrFun h 1) (by omega)
  · exact tile (t.val / 4 % 3) 1536 (congrFun h 2) (by omega)

/-- The product in half `a`, row `p` and column `q` of the result at position `k` of the sum. -/
def term (c : Dev nD) (a p q k : ℕ) : EReal := silu (rd2 (A0 m c) p k) * rd3 (A1 m c) a k q

/-- One step of the accumulation. -/
theorem step (c : Dev nD) (t : Fin cfg0.N) (acc : FVec Ideal S1x16x1536 .f32) (y : S1x16x1536.Idx) :
    (k0_pay2 (F := Ideal) acc (iblk m c 0 t) (iblk m c 1 t) y : EReal) =
      acc y + ∑ k ∈ Finset.range 512, term m c (t.val / 12) (y 1).val (1536 * (t.val / 4 % 3) + (y 2).val) (512 * (t.val % 4) + k) :=
  pay2_at acc _ _ y (fun k => rd2 (A0 m c) (y 1).val (512 * (t.val % 4) + k))
    (fun k => rd3 (A1 m c) (t.val / 12) (512 * (t.val % 4) + k) (1536 * (t.val / 4 % 3) + (y 2).val))
    (fun x hx => by rw [block0, hx]) (fun x hx => by rw [block1, hx])

/-- The sum after `j` more steps of a block. -/
theorem acc_at (c : Dev nD) (r : ℕ) (y : S1x16x1536.Idx) : ∀ (j : ℕ) (_ : j < 4) (h : 4 * r + j < cfg0.N),
    (Pipeline.accAt (reset3 m c) (step3 m c) (4 * r) j h y : EReal) = rd3 (A2 m c) (r / 3) 0 (1536 * (r % 3) + (y 2).val) +
      ∑ k ∈ Finset.range (512 * (j + 1)), term m c (r / 3) (y 1).val (1536 * (r % 3) + (y 2).val) k
  | 0, hj, h => by
    rw [Pipeline.accAt_zero]
    unfold reset3
    rw [step m c ⟨4 * r, h⟩, pay1_at (iblk m c 2 ⟨4 * r, h⟩) y _ (fun x hx => (block2 m c ⟨4 * r, h⟩ x).trans (by rw [hx]))]
    show rd3 (A2 m c) (4 * r / 12) 0 (1536 * (4 * r / 4 % 3) + (y 2).val)
      + ∑ k ∈ Finset.range 512, term m c (4 * r / 12) _ (1536 * (4 * r / 4 % 3) + (y 2).val) (512 * (4 * r % 4) + k) = _
    rw [show 4 * r / 12 = r / 3 by omega, show 4 * r / 4 = r by omega, show 4 * r % 4 = 0 by omega]
    exact congrArg (_ + ·) (Finset.sum_congr rfl fun k _ => by rw [Nat.mul_zero, Nat.zero_add])
  | j + 1, hj, h => by
    rw [Pipeline.accAt_succ]
    refine (step m c ⟨4 * r + (j + 1), h⟩ _ y).trans ?_
    rw [acc_at c r y j (by omega)]
    show _ + ∑ k ∈ Finset.range 512, term m c ((4 * r + (j + 1)) / 12) _ (1536 * ((4 * r + (j + 1)) / 4 % 3) + (y 2).val) (512 * ((4 * r + (j + 1)) % 4) + k) = _
    rw [show (4 * r + (j + 1)) / 12 = r / 3 by omega, show (4 * r + (j + 1)) / 4 = r by omega, show (4 * r + (j + 1)) % 4 = j + 1 by omega, add_assoc]
    exact congrArg (_ + ·) (sum_next _ 512 (j + 1))

/-- The result. -/
abbrev out (c : Dev nD) : S2x16x4608.Idx → EReal := G3 m c

/-- Each element of the result is the bias plus the sum over the condition's columns. -/
theorem value (c : Dev nD) (i : S2x16x4608.Idx) : (out m c i : EReal) = rd3 (A2 m c) (i 0).val 0 (i 2).val +
    ∑ k ∈ Finset.range 2048, term m c (i 0).val (i 1).val (i 2).val k := by
  have b0 : (i 0).val < 2 := (i 0).isLt
  have b1 : (i 1).val < 16 := (i 1).isLt
  have b2 : (i 2).val < 4608 := (i 2).isLt
  have hr : run3Of i = 3 * (i 0).val + (i 2).val / 1536 := by
    show 3 * ((i 0).val / 1 - 0) + 3 * ((i 1).val / 16 - 0) + 1 * ((i 2).val / 1536 - 0) = _
    omega
  have hn : 4 * run3Of i + 3 < cfg0.N := by rw [show cfg0.N = 24 from N_0]; omega
  show G3 m c i = _
  unfold G3
  rw [dif_pos hn, acc_at m c (run3Of i) (loc3Of i) 3 (by omega) hn]
  show rd3 (A2 m c) (run3Of i / 3) 0 (1536 * (run3Of i % 3) + (i 2).val % 1536)
    + ∑ k ∈ Finset.range (512 * (3 + 1)), term m c (run3Of i / 3) ((i 1).val % 16) (1536 * (run3Of i % 3) + (i 2).val % 1536) k = _
  rw [show (i 1).val % 16 = (i 1).val by omega, show run3Of i / 3 = (i 0).val by omega,
    show 1536 * (run3Of i % 3) + (i 2).val % 1536 = (i 2).val by omega]

/-- The run: the result is the sums, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := Value.run m ρ

open Cert.Reference38Ideal.Read

theorem silu_at (X : S16x2048.Idx → EReal) (i : S16x2048.Idx) : (val_main_v0 (F := Ideal) X i : EReal) = silu (X i) := by
  rw [val_main_v0_apply]
  show X i * Ideal.div (Ideal.ofBits .f32 0x3F800000#32) (Ideal.ofBits .f32 0x3F800000#32 + Ideal.exp (-(X i)))
    = X i * Ideal.div 1 (1 + Ideal.exp (-(X i)))
  rw [Ideal.ofBits_one_f32]

/-- The reference's result is the same sum. -/
theorem ref_eq (c : Dev nD) : val_main_v4 (F := Ideal) (A0 m c) (A1 m c) (A2 m c) = out m c := funext fun i => by
  rw [value]
  show (val_main_v2 (F := Ideal) (A0 m c) (A1 m c) i : EReal) + (val_main_v3 (F := Ideal) (A2 m c) i : EReal) = _
  rw [val_main_v2_apply, val_main_v1_apply, val_main_v3_apply, add_comm, ← Fin.sum_univ_eq_sum_range (fun k => term m c (i 0).val (i 1).val (i 2).val k)]
  refine congrArg₂ (· + ·) (rd3_of (A2 m c) _ rfl rfl rfl) (Finset.sum_congr rfl fun k _ => ?_)
  unfold term
  rw [silu_at]
  exact congrArg₂ (· * ·) (congrArg silu (rd2_of (A0 m c) _ rfl rfl)) (rd3_of (A1 m c) _ rfl rfl rfl)

end Cert.AdaForward

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Pre_steps_finite
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel32.Frame
public import proofs.«01_k».proof.Proof.Gen.Kernel34.Frame
public import proofs.«01_k».proof.Proof.Gen.Kernel35.Frame
public import proofs.«01_k».proof.Proof.Gen.Kernel37.Frame
public import proofs.«01_k».proof.Proof.Gen.Kernel38.Frame
public import proofs.«01_k».proof.Proof.Scan.Run
public import proofs.«01_k».proof.Proof.Scan.RefVal
public import proofs.«01_k».proof.Proof.Scan.Equal
public import proofs.«01_k».proof.Proof.Prod.Dw13
public import proofs.«01_k».proof.Proof.Prod.Du
public import proofs.«01_k».proof.Proof.Prod.Dw2
public import proofs.«01_k».proof.Proof.Prod.Dact
public import proofs.«01_k».proof.Proof.Prod.DwIn
public import proofs.«01_k».proof.Proof.Prod.DuMix
public import proofs.«01_k».proof.Proof.Prod.DwOut
public import proofs.«01_k».proof.Proof.Prod.Dmerged
public import proofs.«01_k».proof.Proof.Prod.Dy
public import proofs.«01_k».proof.Proof.Prod.Dwb
public import proofs.«01_k».proof.Proof.Prod.W13
public import proofs.«01_k».proof.Proof.Prod.WIn
public import proofs.«01_k».proof.Proof.Prod.W2
public import proofs.«01_k».proof.Proof.Prod.WOut
public import proofs.«01_k».proof.Proof.Prod.Lift
public import proofs.«01_k».proof.Proof.Prod.Dy0
public import proofs.«01_k».proof.Proof.Prod.Dy2
public import proofs.«01_k».proof.Proof.Prod.Lift0
public import proofs.«01_k».proof.Proof.Prod.Lift2
public import proofs.«01_k».proof.Proof.Opt.AdamFfn2W13
public import proofs.«01_k».proof.Proof.Opt.AdamFfn2W2
public import proofs.«01_k».proof.Proof.Opt.AdamWOut
public import proofs.«01_k».proof.Proof.Opt.AdamWBranch
public import proofs.«01_k».proof.Proof.Opt.AdamWIn
public import proofs.«01_k».proof.Proof.Opt.AdamFfn1W2
public import proofs.«01_k».proof.Proof.Opt.AdamFfn1W13
public import proofs.«01_k».proof.Proof.Opt.AdamSmall
public import proofs.«01_k».proof.Proof.Opt.AdaUpdate
public import proofs.«01_k».proof.Proof.Elem.ActBwd
public import proofs.«01_k».proof.Proof.Elem.Act
public import proofs.«01_k».proof.Proof.Elem.ResBwd
public import proofs.«01_k».proof.Proof.Elem.Norm
public import proofs.«01_k».proof.Proof.Elem.Merge
public import proofs.«01_k».proof.Proof.Elem.AdaCondGrad
public import proofs.«01_k».proof.Proof.Elem.AdaForward
public import proofs.«01_k».proof.Proof.Gen.Pre_gates_finite
public import Idealize.ShloMosaic.Adequacy
public import Idealize.ShloMosaic.Init

@[expose] public section

noncomputable section

namespace Cert.Proof

open Idealize.ShloMosaic Idealize.SL.Sem

/-- At any floats the program runs, leaves its arguments and ends quiescent. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Scan.run_main (F := F) m g)

theorem frame_ideal : Cert.quiescent_KernelIdeal := fun m ρ _ => frame_any (F := Ideal) m ρ

/-- The kernel as it stands calls the same bodies. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => exact rfl
  | 1, (t, s) => exact rfl

theorem defs_eq : Cert.Kernel.defs (F := Bits) = Cert.KernelIdeal.defs (F := Bits) := congrArg (Pipeline.defs _) bodies_eq

/-- So it runs the same. -/
theorem frame_kernel : Cert.quiescent_Kernel := fun m ρ _ => by
  rw [defs_eq]; exact frame_any (F := Bits) m ρ

/-- The reference runs, leaves its arguments and ends quiescent. -/
theorem frame_reference : Cert.quiescent_ReferenceIdeal := fun m ρ _ =>
  (θ_run Cert.ReferenceIdeal.defs _ _).mono (fun r h => ⟨fun c =>
      ⟨(h.1 c Cert.ReferenceIdeal.main_arg0 rfl).trans (Cert.ReferenceIdeal.Loops.exit1_args m c _ (by decide)),
       (h.1 c Cert.ReferenceIdeal.main_arg1 rfl).trans (Cert.ReferenceIdeal.Loops.exit1_args m c _ (by decide)),
       (h.1 c Cert.ReferenceIdeal.main_arg2 rfl).trans (Cert.ReferenceIdeal.Loops.exit1_args m c _ (by decide))⟩, h.2⟩)
    (Cert.ReferenceIdeal.Loops.run_exit (F := Ideal) m ρ)

open Cert.KernelIdeal.Scan Cert.ReferenceIdeal.Loops Cert.Scan in
/-- What the precondition says of an entry. -/
theorem pre_at (m : (ℓ : Loc Cert.KernelIdeal.nD Cert.KernelIdeal.τ Cert.KernelIdeal.sig) → Buf (Elt Ideal) ℓ) (h : Cert.Pre_KernelIdeal_steps_finite m)
    (c : Dev Cert.KernelIdeal.nD) (i : Cert.KernelIdeal.S8448x1024.Idx) :
    La m c i < (⊤ : EReal) ∧ Uu m c i < (⊤ : EReal) ∧ -(Uu m c i : EReal) < (⊤ : EReal) := by
  have e := congrFun (h c) i
  have e' : (Ideal.cmp .olt (La m c i) (Ideal.ofBits .f32 0x7F800000#32)) &&& (Ideal.cmp .olt (max (Uu m c i : EReal) (-(Uu m c i : EReal))) (Ideal.ofBits .f32 0x7F800000#32)) = 1#1 := e
  have ht : Ideal.ofBits .f32 0x7F800000#32 = (⊤ : EReal) := by simp [Ideal.ofBits, Ideal.ieee]
  rw [ht] at e'
  unfold Ideal.cmp at e'
  by_cases p : (La m c i : EReal) < ⊤ <;> by_cases q : max (Uu m c i : EReal) (-(Uu m c i : EReal)) < ⊤ <;> simp [p, q] at e'
  exact ⟨p, max_lt_iff.mp q⟩

open Cert.KernelIdeal.Scan Cert.ReferenceIdeal.Loops Cert.Scan in
/-- Equal results: the adjoints of the steps, and of the decays' exponents. -/
theorem algebraic : Cert.algebraic_KernelIdeal_ReferenceIdeal_pre_steps_finite := by
  intro m g m' g' hp heq
  refine ⟨fun c => VC m c (Proc.devRef .tc Cert.KernelIdeal.main_v2_0), fun c => VC m c (Proc.devRef .tc Cert.KernelIdeal.main_v2_1), ?_, ?_⟩
  · exact (θ_run Cert.KernelIdeal.defs _ _).mono
      (fun r h c => ⟨(h.1 c).2.2.2.1, (h.1 c).2.2.2.2, (h.1 c).1, (h.1 c).2.1, (h.1 c).2.2.1⟩) (run_main (F := Ideal) m g)
  · refine (θ_run Cert.ReferenceIdeal.defs _ _).mono (fun r h c => ?_) (run_exit (F := Ideal) m' g')
    have ela : la m' c = La m c := (heq c).1
    have eu : uu m' c = Uu m c := (heq c).2.1
    have ed : dd m' c = Dd m c := (heq c).2.2
    refine ⟨(h.1 c Cert.ReferenceIdeal.main_v9_6 rfl).trans ?_, (h.1 c Cert.ReferenceIdeal.main_v9_5 rfl).trans ?_,
      (h.1 c Cert.ReferenceIdeal.main_arg0 rfl).trans (exit1_args m' c _ (by decide)),
      (h.1 c Cert.ReferenceIdeal.main_arg1 rfl).trans (exit1_args m' c _ (by decide)),
      (h.1 c Cert.ReferenceIdeal.main_arg2 rfl).trans (exit1_args m' c _ (by decide))⟩
    · funext i
      have ei : i = ix2 (i 0) (i 1) := funext fun a => match a with
        | ⟨0, _⟩ => rfl
        | ⟨1, _⟩ => rfl
      rw [ei]
      refine (exit1_du m' c (i 0) (i 1)).trans (Eq.trans ?_ (VC_du (i 1) m c (fun i => (pre_at m hp c i).1) (i 0)).symm)
      rw [aa, ela, ed]
    · funext i
      have ei : i = ix2 (i 0) (i 1) := funext fun a => match a with
        | ⟨0, _⟩ => rfl
        | ⟨1, _⟩ => rfl
      rw [ei]
      refine (exit1_dla m' c (i 0) (i 1)).trans (Eq.trans ?_ (VC_dla (i 1) m c (fun i => (pre_at m hp c i).1) (fun i => (pre_at m hp c i).2.1)
        (fun i => (pre_at m hp c i).2.2) (i 0)).symm)
      rw [aa, ela, eu, ed]

/-- From what holds at each device after a run, what follows from it. -/
theorem each {nD : ℕ} {τ : Topo} {sig : RefSig} {Val : EltTy → Type} {w : WPT (PUnit × MemSt nD τ sig Val)} {P Q : PUnit × MemSt nD τ sig Val → Dev nD → Prop}
    (h : w fun r => ∀ c, P r c) (hq : ∀ r c, P r c → Q r c) : w fun r => ∀ c, Q r c :=
  w.mono (fun r h c => hq r c (h c)) h

/-- The same of a program without counters, which ends quiescent. -/
theorem quiet {nD : ℕ} {τ : Topo} {sig : RefSig} {Val : EltTy → Type} {w : WPT (PUnit × MemSt nD τ sig Val)} {P Q : PUnit × MemSt nD τ sig Val → Dev nD → Prop}
    (h : w fun r => ∀ c, P r c) (hs : sig.nSem + sig.nDmaSem = 0) (hq : ∀ r c, P r c → Q r c) : w fun r => (∀ c, Q r c) ∧ r.2.sem = fun _ => 0 :=
  w.mono (fun r h => ⟨fun c => hq r c (h c), sem_eq_zero_of_no_sems hs _⟩) h

/-! Each product's reference runs, keeps its arguments and leaves every counter at zero. -/

theorem frame_reference2 : quiescent_Reference2Ideal := fun m ρ _ =>
  quiet (Reference2Ideal.Value.run (F := Ideal) m ρ) rfl fun _ _ h => h.2

theorem frame_reference3 : quiescent_Reference3Ideal := fun m ρ _ =>
  quiet (Reference3Ideal.Value.run (F := Ideal) m ρ) rfl fun _ _ h => h.2

theorem frame_reference4 : quiescent_Reference4Ideal := fun m ρ _ =>
  quiet (Reference4Ideal.Value.run (F := Ideal) m ρ) rfl fun _ _ h => h.2

theorem frame_reference5 : quiescent_Reference5Ideal := fun m ρ _ =>
  quiet (Reference5Ideal.Value.run (F := Ideal) m ρ) rfl fun _ _ h => h.2

theorem frame_reference6 : quiescent_Reference6Ideal := fun m ρ _ =>
  quiet (Reference6Ideal.Value.run (F := Ideal) m ρ) rfl fun _ _ h => h.2

theorem frame_reference7 : quiescent_Reference7Ideal := fun m ρ _ =>
  quiet (Reference7Ideal.Value.run (F := Ideal) m ρ) rfl fun _ _ h => h.2

theorem frame_reference8 : quiescent_Reference8Ideal := fun m ρ _ =>
  quiet (Reference8Ideal.Value.run (F := Ideal) m ρ) rfl fun _ _ h => h.2

theorem frame_reference9 : quiescent_Reference9Ideal := fun m ρ _ =>
  quiet (Reference9Ideal.Value.run (F := Ideal) m ρ) rfl fun _ _ h => h.2

theorem frame_reference10 : quiescent_Reference10Ideal := fun m ρ _ =>
  quiet (Reference10Ideal.Value.run (F := Ideal) m ρ) rfl fun _ _ h => h.2

theorem frame_reference11 : quiescent_Reference11Ideal := fun m ρ _ =>
  quiet (Reference11Ideal.Value.run (F := Ideal) m ρ) rfl fun _ _ h => h.2

theorem frame_reference12 : quiescent_Reference12Ideal := fun m ρ _ =>
  quiet (Reference12Ideal.Value.run (F := Ideal) m ρ) rfl fun _ _ h => h.2

theorem frame_reference13 : quiescent_Reference13Ideal := fun m ρ _ =>
  quiet (Reference13Ideal.Value.run (F := Ideal) m ρ) rfl fun _ _ h => h.2

theorem frame_reference14 : quiescent_Reference14Ideal := fun m ρ _ =>
  quiet (Reference14Ideal.Value.run (F := Ideal) m ρ) rfl fun _ _ h => h.2.2

theorem frame_reference15 : quiescent_Reference15Ideal := fun m ρ _ =>
  quiet (Reference15Ideal.Value.run (F := Ideal) m ρ) rfl fun _ _ h => h.2.2

theorem frame_reference16 : quiescent_Reference16Ideal := fun m ρ _ =>
  quiet (Reference16Ideal.Value.run (F := Ideal) m ρ) rfl fun _ _ h => h.2

theorem frame_reference17 : quiescent_Reference17Ideal := fun m ρ _ =>
  quiet (Reference17Ideal.Value.run (F := Ideal) m ρ) rfl fun _ _ h => h.2

theorem frame_reference18 : quiescent_Reference18Ideal := fun m ρ _ =>
  quiet (Reference18Ideal.Value.run (F := Ideal) m ρ) rfl fun _ _ h => h.2

theorem frame_reference19 : quiescent_Reference19Ideal := fun m ρ _ =>
  quiet (Reference19Ideal.Value.run (F := Ideal) m ρ) rfl fun _ _ h => h.2

theorem frame_reference20 : quiescent_Reference20Ideal := fun m ρ _ =>
  quiet (Reference20Ideal.Value.run (F := Ideal) m ρ) rfl fun _ _ h => h.2

theorem frame_reference21 : quiescent_Reference21Ideal := fun m ρ _ =>
  quiet (Reference21Ideal.Value.run (F := Ideal) m ρ) rfl fun _ _ h => h.2.2.2.2

theorem frame_reference22 : quiescent_Reference22Ideal := fun m ρ _ =>
  quiet (Reference22Ideal.Value.run (F := Ideal) m ρ) rfl fun _ _ h => h.2.2.2.2

theorem frame_reference23 : quiescent_Reference23Ideal := fun m ρ _ =>
  quiet (Reference23Ideal.Value.run (F := Ideal) m ρ) rfl fun _ _ h => h.2.2.2.2

theorem frame_reference24 : quiescent_Reference24Ideal := fun m ρ _ =>
  quiet (Reference24Ideal.Value.run (F := Ideal) m ρ) rfl fun _ _ h => h.2.2.2.2

theorem frame_reference25 : quiescent_Reference25Ideal := fun m ρ _ =>
  quiet (Reference25Ideal.Value.run (F := Ideal) m ρ) rfl fun _ _ h => h.2.2.2.2

theorem frame_reference26 : quiescent_Reference26Ideal := fun m ρ _ =>
  quiet (Reference26Ideal.Value.run (F := Ideal) m ρ) rfl fun _ _ h => h.2.2.2.2

theorem frame_reference27 : quiescent_Reference27Ideal := fun m ρ _ =>
  quiet (Reference27Ideal.Value.run (F := Ideal) m ρ) rfl fun _ _ h => h.2.2.2.2

theorem frame_reference28 : quiescent_Reference28Ideal := fun m ρ _ =>
  quiet (Reference28Ideal.Value.run (F := Ideal) m ρ) rfl fun _ _ h => h.2.2.2.2

theorem frame_reference29 : quiescent_Reference29Ideal := fun m ρ _ =>
  quiet (Reference29Ideal.Value.run (F := Ideal) m ρ) rfl fun _ _ h => h.2.2.2.2

theorem frame_reference30 : quiescent_Reference30Ideal := fun m ρ _ =>
  quiet (Reference30Ideal.Value.run (F := Ideal) m ρ) rfl fun _ _ h => h.2

theorem frame_reference31 : quiescent_Reference31Ideal := fun m ρ _ =>
  quiet (Reference31Ideal.Value.run (F := Ideal) m ρ) rfl fun _ _ h => h.2

theorem frame_reference32 : quiescent_Reference32Ideal := fun m ρ _ =>
  quiet (Reference32Ideal.Value.run (F := Ideal) m ρ) rfl fun _ _ h => h.2.2

theorem frame_reference34 : quiescent_Reference34Ideal := fun m ρ _ =>
  quiet (Reference34Ideal.Value.run (F := Ideal) m ρ) rfl fun _ _ h => h.2

theorem frame_reference35 : quiescent_Reference35Ideal := fun m ρ _ =>
  quiet (Reference35Ideal.Value.run (F := Ideal) m ρ) rfl fun _ _ h => h.2

theorem frame_reference37 : quiescent_Reference37Ideal := fun m ρ _ =>
  quiet (Reference37Ideal.Value.run (F := Ideal) m ρ) rfl fun _ _ h => h.2

theorem frame_reference38 : quiescent_Reference38Ideal := fun m ρ _ =>
  quiet (Reference38Ideal.Value.run (F := Ideal) m ρ) rfl fun _ _ h => h.2

/-- The gradient of the feed-forward layer's first weight is the reference's. -/
theorem algebraic2 : algebraic_Kernel2Ideal_Reference2Ideal := fun m g m' g' _ heq =>
  ⟨fun c => Kernel2Ideal.Value.G2 m c, Kernel2Ideal.Value.run m g, each (Reference2Ideal.Value.run (F := Ideal) m' g') fun _ c h => by
    have kept := h.2
    rw [(heq c).1, (heq c).2] at h
    exact ⟨h.1.trans (Cert.Dw13.ref_eq m c), kept⟩⟩

/-- The gradient of the feed-forward layer's input is the reference's. -/
theorem algebraic3 : algebraic_Kernel3Ideal_Reference3Ideal := fun m g m' g' _ heq =>
  ⟨fun c => Kernel3Ideal.Value.G2 m c, Kernel3Ideal.Value.run m g, each (Reference3Ideal.Value.run (F := Ideal) m' g') fun _ c h => by
    have kept := h.2
    rw [(heq c).1, (heq c).2] at h
    exact ⟨h.1.trans (Cert.Du.ref_eq m c), kept⟩⟩

/-- The gradient of the feed-forward layer's second weight is the reference's. -/
theorem algebraic4 : algebraic_Kernel4Ideal_Reference4Ideal := fun m g m' g' _ heq =>
  ⟨fun c => Kernel4Ideal.Value.G2 m c, Kernel4Ideal.Value.run m g, each (Reference4Ideal.Value.run (F := Ideal) m' g') fun _ c h => by
    have kept := h.2
    rw [(heq c).1, (heq c).2] at h
    exact ⟨h.1.trans (Cert.Dw2.ref_eq m c), kept⟩⟩

/-- The gradient of the second product's input is the reference's. -/
theorem algebraic5 : algebraic_Kernel5Ideal_Reference5Ideal := fun m g m' g' _ heq =>
  ⟨fun c => Cert.Dact.out m c, Cert.Dact.run m g, each (Reference5Ideal.Value.run (F := Ideal) m' g') fun _ c h => by
    have kept := h.2
    rw [(heq c).1, (heq c).2] at h
    exact ⟨h.1.trans (Cert.Dact.ref_eq m c), kept⟩⟩

/-- The gradient of the input projection's weight is the reference's. -/
theorem algebraic6 : algebraic_Kernel6Ideal_Reference6Ideal := fun m g m' g' _ heq =>
  ⟨fun c => Kernel6Ideal.Value.G2 m c, Kernel6Ideal.Value.run m g, each (Reference6Ideal.Value.run (F := Ideal) m' g') fun _ c h => by
    have kept := h.2
    rw [(heq c).1, (heq c).2] at h
    exact ⟨h.1.trans (Cert.DwIn.ref_eq m c), kept⟩⟩

/-- The gradient of the input projection's input is the reference's. -/
theorem algebraic7 : algebraic_Kernel7Ideal_Reference7Ideal := fun m g m' g' _ heq =>
  ⟨fun c => Kernel7Ideal.Value.G2 m c, Kernel7Ideal.Value.run m g, each (Reference7Ideal.Value.run (F := Ideal) m' g') fun _ c h => by
    have kept := h.2
    rw [(heq c).1, (heq c).2] at h
    exact ⟨h.1.trans (Cert.DuMix.ref_eq m c), kept⟩⟩

/-- The gradient of the output projection's weight is the reference's. -/
theorem algebraic8 : algebraic_Kernel8Ideal_Reference8Ideal := fun m g m' g' _ heq =>
  ⟨fun c => Kernel8Ideal.Value.G2 m c, Kernel8Ideal.Value.run m g, each (Reference8Ideal.Value.run (F := Ideal) m' g') fun _ c h => by
    have kept := h.2
    rw [(heq c).1, (heq c).2] at h
    exact ⟨h.1.trans (Cert.DwOut.ref_eq m c), kept⟩⟩

/-- The gradient of the output projection's input is the reference's. -/
theorem algebraic9 : algebraic_Kernel9Ideal_Reference9Ideal := fun m g m' g' _ heq =>
  ⟨fun c => Cert.Dmerged.out m c, Cert.Dmerged.run m g, each (Reference9Ideal.Value.run (F := Ideal) m' g') fun _ c h => by
    have kept := h.2
    rw [(heq c).1, (heq c).2] at h
    exact ⟨h.1.trans (Cert.Dmerged.ref_eq m c), kept⟩⟩

/-- The gradient of the second branch's output is the reference's. -/
theorem algebraic10 : algebraic_Kernel10Ideal_Reference10Ideal := fun m g m' g' _ heq =>
  ⟨fun c => Cert.Dy.out m c, Cert.Dy.run m g, each (Reference10Ideal.Value.run (F := Ideal) m' g') fun _ c h => by
    have kept := h.2
    rw [(heq c).1, (heq c).2] at h
    exact ⟨h.1.trans (Cert.Dy.ref_eq m c), kept⟩⟩

/-- The gradient of a branch's weight is the reference's. -/
theorem algebraic11 : algebraic_Kernel11Ideal_Reference11Ideal := fun m g m' g' _ heq =>
  ⟨fun c => Kernel11Ideal.Value.G2 m c, Kernel11Ideal.Value.run m g, each (Reference11Ideal.Value.run (F := Ideal) m' g') fun _ c h => by
    have kept := h.2
    rw [(heq c).1, (heq c).2] at h
    exact ⟨h.1.trans (Cert.Dwb.ref_eq m c), kept⟩⟩

/-- The feed-forward layer's first product is the reference's. -/
theorem algebraic12 : algebraic_Kernel12Ideal_Reference12Ideal := fun m g m' g' _ heq =>
  ⟨fun c => Cert.W13.out m c, Cert.W13.run m g, each (Reference12Ideal.Value.run (F := Ideal) m' g') fun _ c h => by
    have kept := h.2
    rw [(heq c).1, (heq c).2] at h
    exact ⟨h.1.trans (Cert.W13.ref_eq m c), kept⟩⟩

/-- The input projection is the reference's. -/
theorem algebraic13 : algebraic_Kernel13Ideal_Reference13Ideal := fun m g m' g' _ heq =>
  ⟨fun c => Cert.WIn.out m c, Cert.WIn.run m g, each (Reference13Ideal.Value.run (F := Ideal) m' g') fun _ c h => by
    have kept := h.2
    rw [(heq c).1, (heq c).2] at h
    exact ⟨h.1.trans (Cert.WIn.ref_eq m c), kept⟩⟩

/-- The feed-forward layer's second product, added to the residual, is the reference's. -/
theorem algebraic14 : algebraic_Kernel14Ideal_Reference14Ideal := fun m g m' g' _ heq =>
  ⟨fun c => Kernel14Ideal.Value.G4 m c, fun c => Kernel14Ideal.Value.G5 m c, Kernel14Ideal.Value.run m g, each (Reference14Ideal.Value.run (F := Ideal) m' g') fun _ c h => by
    have kept := h.2.2
    rw [(heq c).1, (heq c).2.1, (heq c).2.2.1, (heq c).2.2.2] at h
    exact ⟨h.1.trans (Cert.W2.ref_eq0 m c), h.2.1.trans (Cert.W2.ref_eq1 m c), kept⟩⟩

/-- The output projection, added to the residual, is the reference's. -/
theorem algebraic15 : algebraic_Kernel15Ideal_Reference15Ideal := fun m g m' g' _ heq =>
  ⟨fun c => Cert.WOut.out0 m c, fun c => Cert.WOut.out1 m c, Cert.WOut.run m g, each (Reference15Ideal.Value.run (F := Ideal) m' g') fun _ c h => by
    have kept := h.2.2
    rw [(heq c).1, (heq c).2.1, (heq c).2.2.1, (heq c).2.2.2] at h
    exact ⟨h.1.trans (Cert.WOut.ref_eq0 m c), h.2.1.trans (Cert.WOut.ref_eq1 m c), kept⟩⟩

/-- The second branch's product is the reference's. -/
theorem algebraic16 : algebraic_Kernel16Ideal_Reference16Ideal := fun m g m' g' _ heq =>
  ⟨fun c => Cert.Lift.out m c, Cert.Lift.run m g, each (Reference16Ideal.Value.run (F := Ideal) m' g') fun _ c h => by
    have kept := h.2
    rw [(heq c).1, (heq c).2] at h
    exact ⟨h.1.trans (Cert.Lift.ref_eq m c), kept⟩⟩

/-- The gradient of the first branch's output is the reference's. -/
theorem algebraic17 : algebraic_Kernel17Ideal_Reference17Ideal := fun m g m' g' _ heq =>
  ⟨fun c => Cert.Dy0.out m c, Cert.Dy0.run m g, each (Reference17Ideal.Value.run (F := Ideal) m' g') fun _ c h => by
    have kept := h.2
    rw [(heq c).1, (heq c).2] at h
    exact ⟨h.1.trans (Cert.Dy0.ref_eq m c), kept⟩⟩

/-- The gradient of the third branch's output is the reference's. -/
theorem algebraic18 : algebraic_Kernel18Ideal_Reference18Ideal := fun m g m' g' _ heq =>
  ⟨fun c => Cert.Dy2.out m c, Cert.Dy2.run m g, each (Reference18Ideal.Value.run (F := Ideal) m' g') fun _ c h => by
    have kept := h.2
    rw [(heq c).1, (heq c).2] at h
    exact ⟨h.1.trans (Cert.Dy2.ref_eq m c), kept⟩⟩

/-- The first branch's product is the reference's. -/
theorem algebraic19 : algebraic_Kernel19Ideal_Reference19Ideal := fun m g m' g' _ heq =>
  ⟨fun c => Cert.Lift0.out m c, Cert.Lift0.run m g, each (Reference19Ideal.Value.run (F := Ideal) m' g') fun _ c h => by
    have kept := h.2
    rw [(heq c).1, (heq c).2] at h
    exact ⟨h.1.trans (Cert.Lift0.ref_eq m c), kept⟩⟩

/-- The third branch's product is the reference's. -/
theorem algebraic20 : algebraic_Kernel20Ideal_Reference20Ideal := fun m g m' g' _ heq =>
  ⟨fun c => Cert.Lift2.out m c, Cert.Lift2.run m g, each (Reference20Ideal.Value.run (F := Ideal) m' g') fun _ c h => by
    have kept := h.2
    rw [(heq c).1, (heq c).2] at h
    exact ⟨h.1.trans (Cert.Lift2.ref_eq m c), kept⟩⟩

/-- The optimiser's step of the second feed-forward layer's first weight is the reference's. -/
theorem algebraic21 : algebraic_Kernel21Ideal_Reference21Ideal := fun m g m' g' _ heq =>
  ⟨fun c => Cert.AdamFfn2W13.out0 m c, fun c => Cert.AdamFfn2W13.out1 m c, fun c => Cert.AdamFfn2W13.out2 m c, fun c => Cert.AdamFfn2W13.out3 m c, Kernel21Ideal.Value.run m g, each (Reference21Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdamFfn2W13.ref_eq0 m c), h.2.1.trans (Cert.AdamFfn2W13.ref_eq1 m c), h.2.2.1.trans (Cert.AdamFfn2W13.ref_eq2 m c), h.2.2.2.1.trans (Cert.AdamFfn2W13.ref_eq3 m c), kept⟩⟩

/-- The optimiser's step of the second feed-forward layer's second weight is the reference's. -/
theorem algebraic22 : algebraic_Kernel22Ideal_Reference22Ideal := fun m g m' g' _ heq =>
  ⟨fun c => Cert.AdamFfn2W2.out0 m c, fun c => Cert.AdamFfn2W2.out1 m c, fun c => Cert.AdamFfn2W2.out2 m c, fun c => Cert.AdamFfn2W2.out3 m c, Kernel22Ideal.Value.run m g, each (Reference22Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdamFfn2W2.ref_eq0 m c), h.2.1.trans (Cert.AdamFfn2W2.ref_eq1 m c), h.2.2.1.trans (Cert.AdamFfn2W2.ref_eq2 m c), h.2.2.2.1.trans (Cert.AdamFfn2W2.ref_eq3 m c), kept⟩⟩

/-- The optimiser's step of the output projection is the reference's. -/
theorem algebraic23 : algebraic_Kernel23Ideal_Reference23Ideal := fun m g m' g' _ heq =>
  ⟨fun c => Cert.AdamWOut.out0 m c, fun c => Cert.AdamWOut.out1 m c, fun c => Cert.AdamWOut.out2 m c, fun c => Cert.AdamWOut.out3 m c, Kernel23Ideal.Value.run m g, each (Reference23Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdamWOut.ref_eq0 m c), h.2.1.trans (Cert.AdamWOut.ref_eq1 m c), h.2.2.1.trans (Cert.AdamWOut.ref_eq2 m c), h.2.2.2.1.trans (Cert.AdamWOut.ref_eq3 m c), kept⟩⟩

/-- The optimiser's step of the branches' weights is the reference's. -/
theorem algebraic24 : algebraic_Kernel24Ideal_Reference24Ideal := fun m g m' g' _ heq =>
  ⟨fun c => Cert.AdamWBranch.out0 m c, fun c => Cert.AdamWBranch.out1 m c, fun c => Cert.AdamWBranch.out2 m c, fun c => Cert.AdamWBranch.out3 m c, Kernel24Ideal.Value.run m g, each (Reference24Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdamWBranch.ref_eq0 m c), h.2.1.trans (Cert.AdamWBranch.ref_eq1 m c), h.2.2.1.trans (Cert.AdamWBranch.ref_eq2 m c), h.2.2.2.1.trans (Cert.AdamWBranch.ref_eq3 m c), kept⟩⟩

/-- The optimiser's step of the input projection is the reference's. -/
theorem algebraic25 : algebraic_Kernel25Ideal_Reference25Ideal := fun m g m' g' _ heq =>
  ⟨fun c => Cert.AdamWIn.out0 m c, fun c => Cert.AdamWIn.out1 m c, fun c => Cert.AdamWIn.out2 m c, fun c => Cert.AdamWIn.out3 m c, Kernel25Ideal.Value.run m g, each (Reference25Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdamWIn.ref_eq0 m c), h.2.1.trans (Cert.AdamWIn.ref_eq1 m c), h.2.2.1.trans (Cert.AdamWIn.ref_eq2 m c), h.2.2.2.1.trans (Cert.AdamWIn.ref_eq3 m c), kept⟩⟩

/-- The optimiser's step of the first feed-forward layer's second weight is the reference's. -/
theorem algebraic26 : algebraic_Kernel26Ideal_Reference26Ideal := fun m g m' g' _ heq =>
  ⟨fun c => Cert.AdamFfn1W2.out0 m c, fun c => Cert.AdamFfn1W2.out1 m c, fun c => Cert.AdamFfn1W2.out2 m c, fun c => Cert.AdamFfn1W2.out3 m c, Kernel26Ideal.Value.run m g, each (Reference26Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdamFfn1W2.ref_eq0 m c), h.2.1.trans (Cert.AdamFfn1W2.ref_eq1 m c), h.2.2.1.trans (Cert.AdamFfn1W2.ref_eq2 m c), h.2.2.2.1.trans (Cert.AdamFfn1W2.ref_eq3 m c), kept⟩⟩

/-- The optimiser's step of the first feed-forward layer's first weight is the reference's. -/
theorem algebraic27 : algebraic_Kernel27Ideal_Reference27Ideal := fun m g m' g' _ heq =>
  ⟨fun c => Cert.AdamFfn1W13.out0 m c, fun c => Cert.AdamFfn1W13.out1 m c, fun c => Cert.AdamFfn1W13.out2 m c, fun c => Cert.AdamFfn1W13.out3 m c, Kernel27Ideal.Value.run m g, each (Reference27Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdamFfn1W13.ref_eq0 m c), h.2.1.trans (Cert.AdamFfn1W13.ref_eq1 m c), h.2.2.1.trans (Cert.AdamFfn1W13.ref_eq2 m c), h.2.2.2.1.trans (Cert.AdamFfn1W13.ref_eq3 m c), kept⟩⟩

/-- The optimiser's step of the small weights is the reference's. -/
theorem algebraic28 : algebraic_Kernel28Ideal_Reference28Ideal := fun m g m' g' _ heq =>
  ⟨fun c => Cert.AdamSmall.out0 m c, fun c => Cert.AdamSmall.out1 m c, fun c => Cert.AdamSmall.out2 m c, fun c => Cert.AdamSmall.out3 m c, Cert.AdamSmall.run m g, each (Reference28Ideal.Value.run (F := Ideal) m' g') fun _ c h => by
    have kept := h.2.2.2.2
    rw [(heq c).1, (heq c).2.1, (heq c).2.2.1, (heq c).2.2.2] at h
    exact ⟨h.1.trans (Cert.AdamSmall.ref_eq0 m c), h.2.1.trans (Cert.AdamSmall.ref_eq1 m c), h.2.2.1.trans (Cert.AdamSmall.ref_eq2 m c), h.2.2.2.1.trans (Cert.AdamSmall.ref_eq3 m c), kept⟩⟩

/-- The gradient and the optimiser's step of the modulation's weight are the reference's. -/
theorem algebraic29 : algebraic_Kernel29Ideal_Reference29Ideal := fun m g m' g' _ heq =>
  ⟨fun c => Cert.AdaUpdate.out0 m c, fun c => Cert.AdaUpdate.out1 m c, fun c => Cert.AdaUpdate.out2 m c, fun c => Cert.AdaUpdate.out3 m c, Cert.AdaUpdate.run m g, each (Reference29Ideal.Value.run (F := Ideal) m' g') fun _ c h => by
    have kept := h.2.2.2.2
    rw [(heq c).1, (heq c).2.1, (heq c).2.2.1, (heq c).2.2.2.1, (heq c).2.2.2.2] at h
    exact ⟨h.1.trans (Cert.AdaUpdate.ref_eq0 m c), h.2.1.trans (Cert.AdaUpdate.ref_eq1 m c), h.2.2.1.trans (Cert.AdaUpdate.ref_eq2 m c), h.2.2.2.1.trans (Cert.AdaUpdate.ref_eq3 m c), kept⟩⟩

/-- The gate's gradient is the reference's, for a finite cotangent and finite second half of the gate's input. -/
theorem algebraic30 : algebraic_Kernel30Ideal_Reference30Ideal_pre_gates_finite := fun m g m' g' hp heq =>
  ⟨fun c => Cert.ActBwd.out m c, Cert.ActBwd.run m g, each (Reference30Ideal.Value.run (F := Ideal) m' g') fun _ c h => by
    have kept := h.2
    rw [(heq c).1, (heq c).2] at h
    exact ⟨h.1.trans (Cert.ActBwd.ref_eq m hp c), kept⟩⟩

/-- The feed-forward layer's gate is the reference's. -/
theorem algebraic31 : algebraic_Kernel31Ideal_Reference31Ideal := fun m g m' g' _ heq =>
  ⟨fun c => Cert.Act.out m c, Cert.Act.run m g, each (Reference31Ideal.Value.run (F := Ideal) m' g') fun _ c h => by
    have kept := h.2
    rw [(heq c)] at h
    exact ⟨h.1.trans (Cert.Act.ref_eq m c), kept⟩⟩

/-- The gated residual's gradient with respect to the product and to the gate is the reference's. -/
theorem algebraic32 : algebraic_Kernel32Ideal_Reference32Ideal := fun m g m' g' _ heq =>
  ⟨fun c => Cert.ResBwd.out0 m c, fun c => Cert.ResBwd.out1 m c, Cert.ResBwd.run m g, each (Reference32Ideal.Value.run (F := Ideal) m' g') fun _ c h => by
    have kept := h.2.2
    rw [(heq c).1, (heq c).2.1, (heq c).2.2] at h
    exact ⟨h.1.trans (Cert.ResBwd.ref_eq0 m c), h.2.1.trans (Cert.ResBwd.ref_eq1 m c), kept⟩⟩

/-- The modulated norm is the reference's. -/
theorem algebraic34 : algebraic_Kernel34Ideal_Reference34Ideal := fun m g m' g' _ heq =>
  ⟨fun c => Cert.Norm.out m c, Cert.Norm.run m g, each (Reference34Ideal.Value.run (F := Ideal) m' g') fun _ c h => by
    have kept := h.2
    rw [(heq c).1, (heq c).2.1, (heq c).2.2] at h
    exact ⟨h.1.trans (Cert.Norm.ref_eq m c), kept⟩⟩

/-- The merged branches are the reference's. -/
theorem algebraic35 : algebraic_Kernel35Ideal_Reference35Ideal := fun m g m' g' _ heq =>
  ⟨fun c => Cert.Merge.out m c, Cert.Merge.run m g, each (Reference35Ideal.Value.run (F := Ideal) m' g') fun _ c h => by
    have kept := h.2
    rw [(heq c).1, (heq c).2.1, (heq c).2.2.1, (heq c).2.2.2.1, (heq c).2.2.2.2] at h
    exact ⟨h.1.trans (Cert.Merge.ref_eq m c), kept⟩⟩

/-- The gradient of the condition, after its silu, is the reference's. -/
theorem algebraic37 : algebraic_Kernel37Ideal_Reference37Ideal := fun m g m' g' _ heq =>
  ⟨fun c => Cert.AdaCondGrad.out m c, Cert.AdaCondGrad.run m g, each (Reference37Ideal.Value.run (F := Ideal) m' g') fun _ c h => by
    have kept := h.2
    rw [(heq c).1, (heq c).2] at h
    exact ⟨h.1.trans (Cert.AdaCondGrad.ref_eq m c), kept⟩⟩

/-- The modulation's product is the reference's. -/
theorem algebraic38 : algebraic_Kernel38Ideal_Reference38Ideal := fun m g m' g' _ heq =>
  ⟨fun c => Cert.AdaForward.out m c, Cert.AdaForward.run m g, each (Reference38Ideal.Value.run (F := Ideal) m' g') fun _ c h => by
    have kept := h.2
    rw [(heq c).1, (heq c).2.1, (heq c).2.2] at h
    exact ⟨h.1.trans (Cert.AdaForward.ref_eq m c), kept⟩⟩

theorem claim : Cert.Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel19.Gen.facts, Kernel19Ideal.Gen.facts, Reference19Ideal.Gen.facts, Kernel20.Gen.facts, Kernel20Ideal.Gen.facts, Reference20Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Kernel25.Gen.facts, Kernel25Ideal.Gen.facts, Reference25Ideal.Gen.facts, Kernel26.Gen.facts, Kernel26Ideal.Gen.facts, Reference26Ideal.Gen.facts, Kernel27.Gen.facts, Kernel27Ideal.Gen.facts, Reference27Ideal.Gen.facts, Kernel28.Gen.facts, Kernel28Ideal.Gen.facts, Reference28Ideal.Gen.facts, Kernel29.Gen.facts, Kernel29Ideal.Gen.facts, Reference29Ideal.Gen.facts, Kernel30.Gen.facts, Kernel30Ideal.Gen.facts, Reference30Ideal.Gen.facts, Kernel31.Gen.facts, Kernel31Ideal.Gen.facts, Reference31Ideal.Gen.facts, Kernel32.Gen.facts, Kernel32Ideal.Gen.facts, Reference32Ideal.Gen.facts, Kernel34.Gen.facts, Kernel34Ideal.Gen.facts, Reference34Ideal.Gen.facts, Kernel35.Gen.facts, Kernel35Ideal.Gen.facts, Reference35Ideal.Gen.facts, Kernel37.Gen.facts, Kernel37Ideal.Gen.facts, Reference37Ideal.Gen.facts, Kernel38.Gen.facts, Kernel38Ideal.Gen.facts, Reference38Ideal.Gen.facts, Cert.Pre_steps_finite.Gen.facts, Cert.Pre_gates_finite.Gen.facts,
  frame_kernel, frame_ideal, fun m ρ _ => frame_ideal m ρ trivial, frame_reference, fun m ρ _ => frame_reference m ρ trivial,
  fun m ρ _ => Kernel2.Gen.frame m ρ, fun m ρ _ => Kernel2Ideal.Gen.frame m ρ, frame_reference2,
  fun m ρ _ => Kernel3.Gen.frame m ρ, fun m ρ _ => Kernel3Ideal.Gen.frame m ρ, frame_reference3,
  fun m ρ _ => Kernel4.Gen.frame m ρ, fun m ρ _ => Kernel4Ideal.Gen.frame m ρ, frame_reference4,
  fun m ρ _ => Kernel5.Gen.frame m ρ, fun m ρ _ => Kernel5Ideal.Gen.frame m ρ, frame_reference5,
  fun m ρ _ => Kernel6.Gen.frame m ρ, fun m ρ _ => Kernel6Ideal.Gen.frame m ρ, frame_reference6,
  fun m ρ _ => Kernel7.Gen.frame m ρ, fun m ρ _ => Kernel7Ideal.Gen.frame m ρ, frame_reference7,
  fun m ρ _ => Kernel8.Gen.frame m ρ, fun m ρ _ => Kernel8Ideal.Gen.frame m ρ, frame_reference8,
  fun m ρ _ => Kernel9.Gen.frame m ρ, fun m ρ _ => Kernel9Ideal.Gen.frame m ρ, frame_reference9,
  fun m ρ _ => Kernel10.Gen.frame m ρ, fun m ρ _ => Kernel10Ideal.Gen.frame m ρ, frame_reference10,
  fun m ρ _ => Kernel11.Gen.frame m ρ, fun m ρ _ => Kernel11Ideal.Gen.frame m ρ, frame_reference11,
  fun m ρ _ => Kernel12.Gen.frame m ρ, fun m ρ _ => Kernel12Ideal.Gen.frame m ρ, frame_reference12,
  fun m ρ _ => Kernel13.Gen.frame m ρ, fun m ρ _ => Kernel13Ideal.Gen.frame m ρ, frame_reference13,
  fun m ρ _ => Kernel14.Gen.frame m ρ, fun m ρ _ => Kernel14Ideal.Gen.frame m ρ, frame_reference14,
  fun m ρ _ => Kernel15.Gen.frame m ρ, fun m ρ _ => Kernel15Ideal.Gen.frame m ρ, frame_reference15,
  fun m ρ _ => Kernel16.Gen.frame m ρ, fun m ρ _ => Kernel16Ideal.Gen.frame m ρ, frame_reference16,
  fun m ρ _ => Kernel17.Gen.frame m ρ, fun m ρ _ => Kernel17Ideal.Gen.frame m ρ, frame_reference17,
  fun m ρ _ => Kernel18.Gen.frame m ρ, fun m ρ _ => Kernel18Ideal.Gen.frame m ρ, frame_reference18,
  fun m ρ _ => Kernel19.Gen.frame m ρ, fun m ρ _ => Kernel19Ideal.Gen.frame m ρ, frame_reference19,
  fun m ρ _ => Kernel20.Gen.frame m ρ, fun m ρ _ => Kernel20Ideal.Gen.frame m ρ, frame_reference20,
  fun m ρ _ => Kernel21.Gen.frame m ρ, fun m ρ _ => Kernel21Ideal.Gen.frame m ρ, frame_reference21,
  fun m ρ _ => Kernel22.Gen.frame m ρ, fun m ρ _ => Kernel22Ideal.Gen.frame m ρ, frame_reference22,
  fun m ρ _ => Kernel23.Gen.frame m ρ, fun m ρ _ => Kernel23Ideal.Gen.frame m ρ, frame_reference23,
  fun m ρ _ => Kernel24.Gen.frame m ρ, fun m ρ _ => Kernel24Ideal.Gen.frame m ρ, frame_reference24,
  fun m ρ _ => Kernel25.Gen.frame m ρ, fun m ρ _ => Kernel25Ideal.Gen.frame m ρ, frame_reference25,
  fun m ρ _ => Kernel26.Gen.frame m ρ, fun m ρ _ => Kernel26Ideal.Gen.frame m ρ, frame_reference26,
  fun m ρ _ => Kernel27.Gen.frame m ρ, fun m ρ _ => Kernel27Ideal.Gen.frame m ρ, frame_reference27,
  fun m ρ _ => Kernel28.Gen.frame m ρ, fun m ρ _ => Kernel28Ideal.Gen.frame m ρ, frame_reference28,
  fun m ρ _ => Kernel29.Gen.frame m ρ, fun m ρ _ => Kernel29Ideal.Gen.frame m ρ, frame_reference29,
  fun m ρ _ => Kernel30.Gen.frame m ρ, fun m ρ _ => Kernel30Ideal.Gen.frame m ρ, fun m ρ _ => Kernel30Ideal.Gen.frame m ρ, frame_reference30, fun m ρ _ => frame_reference30 m ρ trivial,
  fun m ρ _ => Kernel31.Gen.frame m ρ, fun m ρ _ => Kernel31Ideal.Gen.frame m ρ, frame_reference31,
  fun m ρ _ => Kernel32.Gen.frame m ρ, fun m ρ _ => Kernel32Ideal.Gen.frame m ρ, frame_reference32,
  fun m ρ _ => Kernel34.Gen.frame m ρ, fun m ρ _ => Kernel34Ideal.Gen.frame m ρ, frame_reference34,
  fun m ρ _ => Kernel35.Gen.frame m ρ, fun m ρ _ => Kernel35Ideal.Gen.frame m ρ, frame_reference35,
  fun m ρ _ => Kernel37.Gen.frame m ρ, fun m ρ _ => Kernel37Ideal.Gen.frame m ρ, frame_reference37,
  fun m ρ _ => Kernel38.Gen.frame m ρ, fun m ρ _ => Kernel38Ideal.Gen.frame m ρ, frame_reference38,
  trivial, algebraic,
  trivial, algebraic2,
  trivial, algebraic3,
  trivial, algebraic4,
  trivial, algebraic5,
  trivial, algebraic6,
  trivial, algebraic7,
  trivial, algebraic8,
  trivial, algebraic9,
  trivial, algebraic10,
  trivial, algebraic11,
  trivial, algebraic12,
  trivial, algebraic13,
  trivial, algebraic14,
  trivial, algebraic15,
  trivial, algebraic16,
  trivial, algebraic17,
  trivial, algebraic18,
  trivial, algebraic19,
  trivial, algebraic20,
  trivial, algebraic21,
  trivial, algebraic22,
  trivial, algebraic23,
  trivial, algebraic24,
  trivial, algebraic25,
  trivial, algebraic26,
  trivial, algebraic27,
  trivial, algebraic28,
  trivial, algebraic29,
  trivial, algebraic30,
  trivial, algebraic31,
  trivial, algebraic32,
  trivial, algebraic34,
  trivial, algebraic35,
  trivial, algebraic37,
  trivial, algebraic38⟩

end Cert.Proof

end
